-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Kernel24Ideal_finite_rows [hPre_finite_rows : Cert.Pre_finite_rows.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_finite_rows.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1))).1 = (fun _ => 1#1)
    ∧ (Cert.Pre_finite_rows.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1))).2 = (fun _ => 1#1)

def Pre_Reference24Ideal (m : (ℓ : Loc Cert.Reference24Ideal.nD Cert.Reference24Ideal.τ Cert.Reference24Ideal.sig) → Buf (Elt Ideal) ℓ) : Prop :=
  True

def Pre_Reference24Ideal_finite_rows [hPre_finite_rows : Cert.Pre_finite_rows.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_finite_rows.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1))).1 = (fun _ => 1#1)
    ∧ (Cert.Pre_finite_rows.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1))).2 = (fun _ => 1#1)

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Kernel24Ideal_pre_finite_rows [hKernel24Ideal : Cert.Kernel24Ideal.Facts] [hPre_finite_rows : Cert.Pre_finite_rows.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal_finite_rows m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Reference24Ideal_pre_finite_rows [hReference24Ideal : Cert.Reference24Ideal.Facts] [hPre_finite_rows : Cert.Pre_finite_rows.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal_finite_rows m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v32_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v32_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v11) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v10) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v7) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v7) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  IdealRules.named_const.Statement Cert.Kernel24Ideal.κ "mask" .f32 0xF149F2CA#32 ⊥

def algebraic_Kernel24Ideal_Reference24Ideal_pre_finite_rows [hKernel24Ideal : Cert.Kernel24Ideal.Facts] [hReference24Ideal : Cert.Reference24Ideal.Facts] [hPre_finite_rows : Cert.Pre_finite_rows.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal_finite_rows m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v32)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v32) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v58) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v19_1)) (v1 : (c : Dev Cert.Kernel25Ideal.nD) → Buf (Elt Ideal) ((c.tc : Thread Cert.Kernel25Ideal.nD Cert.Kernel25Ideal.τ).loc Cert.Kernel25Ideal.main_v19_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v19_1) = v0 c
          ∧ r.2.mem ((c.tc : Thread Cert.Kernel25Ideal.nD Cert.Kernel25Ideal.τ).loc Cert.Kernel25Ideal.main_v19_2) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v31) = v0 c
          ∧ r.2.mem ((c.tc : Thread Cert.Reference25Ideal.nD Cert.Reference25Ideal.τ).loc Cert.Reference25Ideal.main_v28) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v24) = v0 c
          ∧ r.2.mem ((c.tc : Thread Cert.Reference26Ideal.nD Cert.Reference26Ideal.τ).loc Cert.Reference26Ideal.main_v5) = v1 c
          ∧ r.2.mem ((c.tc : Thread Cert.Reference26Ideal.nD Cert.Reference26Ideal.τ).loc Cert.Reference26Ideal.main_v11) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v26) = v0 c
          ∧ r.2.mem ((c.tc : Thread Cert.Reference27Ideal.nD Cert.Reference27Ideal.τ).loc Cert.Reference27Ideal.main_v7) = v1 c
          ∧ r.2.mem ((c.tc : Thread Cert.Reference27Ideal.nD Cert.Reference27Ideal.τ).loc Cert.Reference27Ideal.main_v13) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v24) = v0 c
          ∧ r.2.mem ((c.tc : Thread Cert.Reference28Ideal.nD Cert.Reference28Ideal.τ).loc Cert.Reference28Ideal.main_v5) = v1 c
          ∧ r.2.mem ((c.tc : Thread Cert.Reference28Ideal.nD Cert.Reference28Ideal.τ).loc Cert.Reference28Ideal.main_v11) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v24) = v0 c
          ∧ r.2.mem ((c.tc : Thread Cert.Reference29Ideal.nD Cert.Reference29Ideal.τ).loc Cert.Reference29Ideal.main_v5) = v1 c
          ∧ r.2.mem ((c.tc : Thread Cert.Reference29Ideal.nD Cert.Reference29Ideal.τ).loc Cert.Reference29Ideal.main_v11) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v26) = v0 c
          ∧ r.2.mem ((c.tc : Thread Cert.Reference30Ideal.nD Cert.Reference30Ideal.τ).loc Cert.Reference30Ideal.main_v7) = v1 c
          ∧ r.2.mem ((c.tc : Thread Cert.Reference30Ideal.nD Cert.Reference30Ideal.τ).loc Cert.Reference30Ideal.main_v13) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v26) = v0 c
          ∧ r.2.mem ((c.tc : Thread Cert.Reference31Ideal.nD Cert.Reference31Ideal.τ).loc Cert.Reference31Ideal.main_v7) = v1 c
          ∧ r.2.mem ((c.tc : Thread Cert.Reference31Ideal.nD Cert.Reference31Ideal.τ).loc Cert.Reference31Ideal.main_v13) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v26) = v0 c
          ∧ r.2.mem ((c.tc : Thread Cert.Reference32Ideal.nD Cert.Reference32Ideal.τ).loc Cert.Reference32Ideal.main_v7) = v1 c
          ∧ r.2.mem ((c.tc : Thread Cert.Reference32Ideal.nD Cert.Reference32Ideal.τ).loc Cert.Reference32Ideal.main_v13) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_finite_scores : Cert.Pre_finite_scores.Facts) (hPre_finite_rows : Cert.Pre_finite_rows.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Kernel24Ideal_pre_finite_rows (hKernel24Ideal := hKernel24Ideal) (hPre_finite_rows := hPre_finite_rows)
    ∧ quiescent_Reference24Ideal (hReference24Ideal := hReference24Ideal)
    ∧ quiescent_Reference24Ideal_pre_finite_rows (hReference24Ideal := hReference24Ideal) (hPre_finite_rows := hPre_finite_rows)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal_pre_finite_rows (hKernel24Ideal := hKernel24Ideal) (hReference24Ideal := hReference24Ideal) (hPre_finite_rows := hPre_finite_rows)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
-- ==== Pre_finite_rows.lean ====
abbrev S4096x3072 : Shape := ⟨2, ![4096, 3072]⟩
abbrev S16x513 : Shape := ⟨2, ![16, 513]⟩
abbrev S4096x2048 : Shape := ⟨2, ![4096, 2048]⟩
abbrev S_ : Shape := ⟨0, ![]⟩

class Facts : Prop where
  slices_S4096x3072_S4096x2048_0_0 : S4096x3072.Slices ![0, 0] S4096x2048
  bitsLt_bf16_f32 : FTy.bits .bf16 < FTy.bits .f32
  bcast_S_S4096x2048 : S_.BroadcastsInDim S4096x2048 (![] : Fin 0 → Fin S4096x2048.rank)
  bcast_S_S16x513 : S_.BroadcastsInDim S16x513 (![] : Fin 0 → Fin S16x513.rank)

variable [Facts]

def fn {F : FTy → Type} [FloatOps F] (main_arg0 : FVec F S4096x3072 .bf16) (main_arg1 : FVec F S16x513 .f32) : IVec S4096x2048 1 × IVec S16x513 1 :=
  let main_v0 : FVec F S4096x2048 .bf16 := (extractStridedSlice S4096x2048 ![0, 0] · slices_S4096x3072_S4096x2048_0_0) main_arg0
  let main_v1 : FVec F S4096x2048 .f32 := (extf .f32 · bitsLt_bf16_f32) main_v0
  let main_v2 : FVec F S4096x2048 .f32 := Host.absf main_v1
  let main_cst : FVec F S_ .f32 := constant S_ .f32 0x7F800000#32
  let main_v3 : FVec F S4096x2048 .f32 := broadcastInDim S4096x2048 ![] bcast_S_S4096x2048 main_cst
  let main_v4 : IVec S4096x2048 1 := cmpf .olt main_v2 main_v3
  let main_v5 : FVec F S16x513 .f32 := Host.absf main_arg1
  let main_cst_0 : FVec F S_ .f32 := constant S_ .f32 0x7F800000#32
  let main_v6 : FVec F S16x513 .f32 := broadcastInDim S16x513 ![] bcast_S_S16x513 main_cst_0
  let main_v7 : IVec S16x513 1 := cmpf .olt main_v5 main_v6
  (main_v4, main_v7)
-- ==== Pre_finite_scores.lean ====
abbrev S4096x3072 : Shape := ⟨2, ![4096, 3072]⟩
abbrev S16x513 : Shape := ⟨2, ![16, 513]⟩
abbrev S4096x1024 : Shape := ⟨2, ![4096, 1024]⟩
abbrev S4096x2048 : Shape := ⟨2, ![4096, 2048]⟩
abbrev S_ : Shape := ⟨0, ![]⟩

class Facts : Prop where
  slices_S4096x3072_S4096x2048_0_0 : S4096x3072.Slices ![0, 0] S4096x2048
  bitsLt_bf16_f32 : FTy.bits .bf16 < FTy.bits .f32
  bcast_S_S4096x2048 : S_.BroadcastsInDim S4096x2048 (![] : Fin 0 → Fin S4096x2048.rank)
  bcast_S_S16x513 : S_.BroadcastsInDim S16x513 (![] : Fin 0 → Fin S16x513.rank)

variable [Facts]

def fn {F : FTy → Type} [FloatOps F] (main_arg0 : FVec F S4096x3072 .bf16) (main_arg1 : FVec F S16x513 .f32) (main_arg2 : FVec F S4096x1024 .bf16) : IVec S4096x2048 1 × IVec S16x513 1 :=
  let main_v0 : FVec F S4096x2048 .bf16 := (extractStridedSlice S4096x2048 ![0, 0] · slices_S4096x3072_S4096x2048_0_0) main_arg0
  let main_v1 : FVec F S4096x2048 .f32 := (extf .f32 · bitsLt_bf16_f32) main_v0
  let main_v2 : FVec F S4096x2048 .f32 := Host.absf main_v1
  let main_cst : FVec F S_ .f32 := constant S_ .f32 0x7F800000#32
  let main_v3 : FVec F S4096x2048 .f32 := broadcastInDim S4096x2048 ![] bcast_S_S4096x2048 main_cst
  let main_v4 : IVec S4096x2048 1 := cmpf .olt main_v2 main_v3
  let main_v5 : FVec F S16x513 .f32 := Host.absf main_arg1
  let main_cst_0 : FVec F S_ .f32 := constant S_ .f32 0x7F800000#32
  let main_v6 : FVec F S16x513 .f32 := broadcastInDim S16x513 ![] bcast_S_S16x513 main_cst_0
  let main_v7 : IVec S16x513 1 := cmpf .olt main_v5 main_v6
  (main_v4, main_v7)
-- ==== Kernel.lean ====
abbrev S4096x3072 : Shape := ⟨2, ![4096, 3072]⟩
abbrev S16x513 : Shape := ⟨2, ![16, 513]⟩
abbrev S4096x1024 : Shape := ⟨2, ![4096, 1024]⟩
abbrev S_ : Shape := ⟨0, ![]⟩
abbrev S4608x3072 : Shape := ⟨2, ![4608, 3072]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S256x768x1 : Shape := ⟨3, ![256, 768, 1]⟩
abbrev S16x256x768 : Shape := ⟨3, ![16, 256, 768]⟩
abbrev S256x256 : Shape := ⟨2, ![256, 256]⟩
abbrev S4x256x768 : Shape := ⟨3, ![4, 256, 768]⟩
abbrev S4096x256 : Shape := ⟨2, ![4096, 256]⟩
abbrev S4608x256 : Shape := ⟨2, ![4608, 256]⟩
abbrev S256x128 : Shape := ⟨2, ![256, 128]⟩
abbrev S512x128 : Shape := ⟨2, ![512, 128]⟩
abbrev S768x128 : Shape := ⟨2, ![768, 128]⟩
abbrev S2x256x768 : Shape := ⟨3, ![2, 256, 768]⟩
abbrev S512x768 : Shape := ⟨2, ![512, 768]⟩
abbrev S512 : Shape := ⟨1, ![512]⟩
abbrev S512x1 : Shape := ⟨2, ![512, 1]⟩

abbrev nBuf : Space → Nat
  | .hbm => 91
  | .vmem => 28
  | .smem => 0
  | _ => 0

abbrev bufTy : (tb : Table) → Fin (tcTables nBuf tb) → BufTy
  | .hbm, ⟨0, _⟩ => ⟨S4096x3072, .bf16⟩
  | .hbm, ⟨1, _⟩ => ⟨S16x513, .f32⟩
  | .hbm, ⟨2, _⟩ => ⟨S4096x1024, .bf16⟩
  | .hbm, ⟨3, _⟩ => ⟨S_, .i32⟩
  | .hbm, ⟨4, _⟩ => ⟨S_, .bf16⟩
  | .hbm, ⟨5, _⟩ => ⟨S4608x3072, .bf16⟩
  | .hbm, ⟨6, _⟩ => ⟨S256, .i32⟩
  | .hbm, ⟨7, _⟩ => ⟨S256x1, .i32⟩
  | .hbm, ⟨8, _⟩ => ⟨S768, .i32⟩
  | .hbm, ⟨9, _⟩ => ⟨S1x768, .i32⟩
  | .hbm, ⟨10, _⟩ => ⟨S_, .i32⟩
  | .hbm, ⟨11, _⟩ => ⟨S256x1, .i32⟩
  | .hbm, ⟨12, _⟩ => ⟨S256x1, .i32⟩
  | .hbm, ⟨13, _⟩ => ⟨S256x768, .i32⟩
  | .hbm, ⟨14, _⟩ => ⟨S256x768, .i32⟩
  | .hbm, ⟨15, _⟩ => ⟨S256x768, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S256x768, .i32⟩
  | .hbm, ⟨20, _⟩ => ⟨S256x768, .i32⟩
  | .hbm, ⟨21, _⟩ => ⟨S_, .i32⟩
  | .hbm, ⟨22, _⟩ => ⟨S256x768, .i32⟩
  | .hbm, ⟨23, _⟩ => ⟨S256x768, .i32⟩
  | .hbm, ⟨24, _⟩ => ⟨S_, .i32⟩
  | .hbm, ⟨25, _⟩ => ⟨S256x768, .i32⟩
  | .hbm, ⟨26, _⟩ => ⟨S256x768, .i32⟩
  | .hbm, ⟨27, _⟩ => ⟨S_, .i32⟩
  | .hbm, ⟨28, _⟩ => ⟨S_, .i32⟩
  | .hbm, ⟨29, _⟩ => ⟨S256x1, .i32⟩
  | .hbm, ⟨30, _⟩ => ⟨S256x1, .i32⟩
  | .hbm, ⟨31, _⟩ => ⟨S256x1, .i32⟩
  | .hbm, ⟨32, _⟩ => ⟨S_, .i32⟩
  | .hbm, ⟨33, _⟩ => ⟨S256x1, .i32⟩
  | .hbm, ⟨34, _⟩ => ⟨S256x1, .i1⟩
  | .hbm, ⟨35, _⟩ => ⟨S256x1, .i32⟩
  | .hbm, ⟨36, _⟩ => ⟨S256x1, .i32⟩
  | .hbm, ⟨37, _⟩ => ⟨S_, .i32⟩
  | .hbm, ⟨38, _⟩ => ⟨S256x1, .i32⟩
  | .hbm, ⟨39, _⟩ => ⟨S256x1, .i1⟩
  | .hbm, ⟨40, _⟩ => ⟨S256x1, .i1⟩
  | .hbm, ⟨41, _⟩ => ⟨S_, .i32⟩
  | .hbm, ⟨42, _⟩ => ⟨S256x1, .i32⟩
  | .hbm, ⟨43, _⟩ => ⟨S256x1, .i32⟩
  | .hbm, ⟨44, _⟩ => ⟨S256x1, .i32⟩
  | .hbm, ⟨45, _⟩ => ⟨S_, .i32⟩
  | .hbm, ⟨46, _⟩ => ⟨S_, .i32⟩
  | .hbm, ⟨47, _⟩ => ⟨S1x768, .i32⟩
  | .hbm, ⟨48, _⟩ => ⟨S1x768, .i32⟩
  | .hbm, ⟨49, _⟩ => ⟨S1x768, .i32⟩
  | .hbm, ⟨50, _⟩ => ⟨S_, .i32⟩
  | .hbm, ⟨51, _⟩ => ⟨S1x768, .i32⟩
  | .hbm, ⟨52, _⟩ => ⟨S1x768, .i1⟩
  | .hbm, ⟨53, _⟩ => ⟨S1x768, .i32⟩
  | .hbm, ⟨54, _⟩ => ⟨S1x768, .i32⟩
  | .hbm, ⟨55, _⟩ => ⟨S_, .i32⟩
  | .hbm, ⟨56, _⟩ => ⟨S1x768, .i32⟩
  | .hbm, ⟨57, _⟩ => ⟨S1x768, .i1⟩
  | .hbm, ⟨58, _⟩ => ⟨S1x768, .i1⟩
  | .hbm, ⟨59, _⟩ => ⟨S_, .i32⟩
  | .hbm, ⟨60, _⟩ => ⟨S1x768, .i32⟩
  | .hbm, ⟨61, _⟩ => ⟨S1x768, .i32⟩
  | .hbm, ⟨62, _⟩ => ⟨S1x768, .i32⟩
  | .hbm, ⟨63, _⟩ => ⟨S256x768, .i32⟩
  | .hbm, ⟨64, _⟩ => ⟨S256x768, .i32⟩
  | .hbm, ⟨65, _⟩ => ⟨S256x768, .i1⟩
  | .hbm, ⟨66, _⟩ => ⟨S_, .i32⟩
  | .hbm, ⟨67, _⟩ => ⟨S256x1, .i32⟩
  | .hbm, ⟨68, _⟩ => ⟨S256x1, .i32⟩
  | .hbm, ⟨69, _⟩ => ⟨S256x768, .i32⟩
  | .hbm, ⟨70, _⟩ => ⟨S256x768, .i32⟩
  | .hbm, ⟨71, _⟩ => ⟨S256x768, .i1⟩
  | .hbm, ⟨72, _⟩ => ⟨S256x768, .i1⟩
  | .hbm, ⟨73, _⟩ => ⟨S_, .i32⟩
  | .hbm, ⟨74, _⟩ => ⟨S256x768, .i32⟩
  | .hbm, ⟨75, _⟩ => ⟨S256x768, .i1⟩
  | .hbm, ⟨76, _⟩ => ⟨S_, .i32⟩
  | .hbm, ⟨77, _⟩ => ⟨S256x768, .i32⟩
  | .hbm, ⟨78, _⟩ => ⟨S256x768, .i32⟩
  | .hbm, ⟨79, _⟩ => ⟨S256x768, .i32⟩
  | .hbm, ⟨80, _⟩ => ⟨S256x768x1, .i32⟩
  | .hbm, ⟨81, _⟩ => ⟨S16x256x768, .f32⟩
  | .hbm, ⟨82, _⟩ => ⟨S_, .f32⟩
  | .hbm, ⟨83, _⟩ => ⟨S_, .f32⟩
  | .hbm, ⟨84, _⟩ => ⟨S16x256x768, .i1⟩
  | .hbm, ⟨85, _⟩ => ⟨S16x256x768, .f32⟩
  | .hbm, ⟨86, _⟩ => ⟨S16x256x768, .f32⟩
  | .hbm, ⟨87, _⟩ => ⟨S4096x1024, .bf16⟩
  | .hbm, ⟨88, _⟩ => ⟨S4096x1024, .bf16⟩
  | .hbm, ⟨89, _⟩ => ⟨S4096x1024, .bf16⟩
  | .hbm, ⟨90, _⟩ => ⟨S16x256x768, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S4x256x768, .f32⟩
  | .local _ .vmem, ⟨15, _⟩ => ⟨S4x256x768, .f32⟩
  | .local _ .vmem, ⟨16, _⟩ => ⟨S256x256, .bf16⟩
  | .local _ .vmem, ⟨17, _⟩ => ⟨S256x256, .bf16⟩
  | .local _ .vmem, ⟨18, _⟩ => ⟨S256x256, .bf16⟩
  | .local _ .vmem, ⟨19, _⟩ => ⟨S256x256, .bf16⟩
  | .local _ .vmem, ⟨20, _⟩ => ⟨S4096x256, .bf16⟩
  | .local _ .vmem, ⟨21, _⟩ => ⟨S4096x256, .bf16⟩
  | .local _ .vmem, ⟨22, _⟩ => ⟨S4096x256, .bf16⟩
  | .local _ .vmem, ⟨23, _⟩ => ⟨S4096x256, .bf16⟩
  | .local _ .vmem, ⟨24, _⟩ => ⟨S4x256x768, .f32⟩
  | .local _ .vmem, ⟨25, _⟩ => ⟨S4x256x768, .f32⟩
  | .local _ .vmem, ⟨26, _⟩ => ⟨S4608x256, .f32⟩
  | .local _ .vmem, ⟨27, _⟩ => ⟨S4608x256, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_c_2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v10 : Ref sig .tc := ⟨.hbm, 23, rfl⟩
abbrev main_c_3 : Ref sig .tc := ⟨.hbm, 24, rfl⟩
abbrev main_v11 : Ref sig .tc := ⟨.hbm, 25, rfl⟩
abbrev main_v12 : Ref sig .tc := ⟨.hbm, 26, rfl⟩
abbrev main_c_4 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_v5 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_c : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_c_0 : Ref sig .tc := ⟨.hbm, 41, rfl⟩
abbrev main_call2_v12 : Ref sig .tc := ⟨.hbm, 42, rfl⟩
abbrev main_call2_v13 : Ref sig .tc := ⟨.hbm, 43, rfl⟩
abbrev main_v13 : Ref sig .tc := ⟨.hbm, 44, rfl⟩
abbrev main_c_5 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_call3_v5 : Ref sig .tc := ⟨.hbm, 51, rfl⟩
abbrev main_call3_v6 : Ref sig .tc := ⟨.hbm, 52, rfl⟩
abbrev main_call3_v7 : Ref sig .tc := ⟨.hbm, 53, rfl⟩
abbrev main_call3_v8 : Ref sig .tc := ⟨.hbm, 54, rfl⟩
abbrev main_call3_c : Ref sig .tc := ⟨.hbm, 55, rfl⟩
abbrev main_call3_v9 : Ref sig .tc := ⟨.hbm, 56, rfl⟩
abbrev main_call3_v10 : Ref sig .tc := ⟨.hbm, 57, rfl⟩
abbrev main_call3_v11 : Ref sig .tc := ⟨.hbm, 58, rfl⟩
abbrev main_call3_c_0 : Ref sig .tc := ⟨.hbm, 59, rfl⟩
abbrev main_call3_v12 : Ref sig .tc := ⟨.hbm, 60, rfl⟩
abbrev main_call3_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_c_6 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_c_7 : Ref sig .tc := ⟨.hbm, 73, rfl⟩
abbrev main_v24 : Ref sig .tc := ⟨.hbm, 74, rfl⟩
abbrev main_v25 : Ref sig .tc := ⟨.hbm, 75, rfl⟩
abbrev main_c_8 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_cst : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_v31 : Ref sig .tc := ⟨.hbm, 86, rfl⟩
abbrev main_v32_0 : Ref sig .tc := ⟨.hbm, 87, rfl⟩
abbrev main_v32_1 : Ref sig .tc := ⟨.hbm, 88, rfl⟩
abbrev main_v32_2 : Ref sig .tc := ⟨.hbm, 89, rfl⟩
abbrev main_v32_3 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v89 : Index := Scalar.indexCast v4
  let c0_43 : Index := 0#32
  ![v89.toNat, 0]
def k0_off2 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v190 : Index := Scalar.indexCast v4
  let c128_93 : Index := 128#32
  ![v190.toNat, 128]
def k0_cond2 (i : grid0.Coords) : BitVec 1 :=
  let arg1 : BitVec 32 := BitVec.ofNat 32 (i 1).val
  let c15_i32 : BitVec 32 := 15#32
  let v207 : BitVec 1 := Scalar.cmpi .eq arg1 c15_i32
  let v208 : BitVec 32 := Scalar.extui v207
  let c0_i32_99 : BitVec 32 := 0#32
  let v209 : BitVec 1 := Scalar.cmpi .ne v208 c0_i32_99
  v209

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c4_i32 : BitVec 32 := 4#32
  let v1 : BitVec 32 := Scalar.addi c4_i32 arg0
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.addi c4_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c4_i32 : BitVec 32 := 4#32
  let v1 : BitVec 32 := Scalar.addi c4_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c8_i32 : BitVec 32 := 8#32
  let v1 : BitVec 32 := Scalar.addi c8_i32 arg0
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.addi c8_i32 arg0
  let c0_i32 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c8_i32 : BitVec 32 := 8#32
  let v1 : BitVec 32 := Scalar.addi c8_i32 arg0
  let c0_i32 : BitVec 32 := 0#32
  ![v0.toNat, v1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4096x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S4096x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S4x256x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4096x3072 : Shape := ⟨2, ![4096, 3072]⟩
abbrev S16x513 : Shape := ⟨2, ![16, 513]⟩
abbrev S4096x1024 : Shape := ⟨2, ![4096, 1024]⟩
abbrev S4096x16x64 : Shape := ⟨3, ![4096, 16, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x4096x1 : Shape := ⟨3, ![4096, 4096, 1]⟩
abbrev S16x4096x4096 : Shape := ⟨3, ![16, 4096, 4096]⟩
abbrev S16x4096 : Shape := ⟨2, ![16, 4096]⟩
abbrev S16x4096x1 : Shape := ⟨3, ![16, 4096, 1]⟩
abbrev S16x64x4096 : Shape := ⟨3, ![16, 64, 4096]⟩
abbrev S16x4096x64 : Shape := ⟨3, ![16, 4096, 64]⟩

abbrev nBuf : Space → Nat
  | .hbm => 210
  | .vmem => 0
  | .smem => 0
  | _ => 0

abbrev hbmTy0_0 (i : Nat) : BufTy := match i % 128 with
  | 0 => ⟨S4096x3072, .bf16⟩
  | 1 => ⟨S16x513, .f32⟩
  | 2 => ⟨S4096x1024, .bf16⟩
  | 3 => ⟨S4096x1024, .bf16⟩
  | 4 => ⟨S4096x1024, .bf16⟩
  | 5 => ⟨S4096x1024, .bf16⟩
  | 6 => ⟨S4096x1024, .f32⟩
  | 7 => ⟨S4096x16x64, .f32⟩
  | 8 => ⟨S4096x1024, .f32⟩
  | 9 => ⟨S4096x16x64, .f32⟩
  | 10 => ⟨S4096x1024, .f32⟩
  | 11 => ⟨S4096x16x64, .f32⟩
  | 12 => ⟨S4096, .i32⟩
  | 13 => ⟨S4096x1, .i32⟩
  | 14 => ⟨S4096, .i32⟩
  | 15 => ⟨S1x4096, .i32⟩
  | 16 => ⟨S4096x4096, .i32⟩
  | 17 => ⟨S4096x4096, .i32⟩
  | 18 => ⟨S4096x4096, .i32⟩
  | 19 => ⟨S_, .i32⟩
  | 20 => ⟨S_, .i32⟩
  | 21 => ⟨S_, .i32⟩
  | 22 => ⟨S4096x4096, .i32⟩
  | 23 => ⟨S4096x4096, .i32⟩
  | 24 => ⟨S_, .i32⟩
  | 25 => ⟨S4096x4096, .i32⟩
  | 26 => ⟨S4096x4096, .i32⟩
  | 27 => ⟨S_, .i32⟩
  | 28 => ⟨S4096x4096, .i32⟩
  | 29 => ⟨S4096x4096, .i32⟩
  | 30 => ⟨S_, .i32⟩
  | 31 => ⟨S4096x4096, .i32⟩
  | 32 => ⟨S4096x4096, .i1⟩
  | 33 => ⟨S_, .i32⟩
  | 34 => ⟨S4096x4096, .i32⟩
  | 35 => ⟨S4096x4096, .i32⟩
  | 36 => ⟨S4096x4096, .i32⟩
  | 37 => ⟨S4096x4096x1, .i32⟩
  | 38 => ⟨S16x4096x4096, .f32⟩
  | 39 => ⟨S_, .i32⟩
  | 40 => ⟨S_, .i32⟩
  | 41 => ⟨S1x4096, .i32⟩
  | 42 => ⟨S1x4096, .i32⟩
  | 43 => ⟨S1x4096, .i32⟩
  | 44 => ⟨S_, .i32⟩
  | 45 => ⟨S1x4096, .i32⟩
  | 46 => ⟨S1x4096, .i1⟩
  | 47 => ⟨S1x4096, .i32⟩
  | 48 => ⟨S1x4096, .i32⟩
  | 49 => ⟨S_, .i32⟩
  | 50 => ⟨S1x4096, .i32⟩
  | 51 => ⟨S1x4096, .i1⟩
  | 52 => ⟨S1x4096, .i1⟩
  | 53 => ⟨S_, .i32⟩
  | 54 => ⟨S1x4096, .i32⟩
  | 55 => ⟨S1x4096, .i32⟩
  | 56 => ⟨S1x4096, .i32⟩
  | 57 => ⟨S_, .i32⟩
  | 58 => ⟨S_, .i32⟩
  | 59 => ⟨S4096x1, .i32⟩
  | 60 => ⟨S4096x1, .i32⟩
  | 61 => ⟨S4096x1, .i32⟩
  | 62 => ⟨S_, .i32⟩
  | 63 => ⟨S4096x1, .i32⟩
  | 64 => ⟨S4096x1, .i1⟩
  | 65 => ⟨S4096x1, .i32⟩
  | 66 => ⟨S4096x1, .i32⟩
  | 67 => ⟨S_, .i32⟩
  | 68 => ⟨S4096x1, .i32⟩
  | 69 => ⟨S4096x1, .i1⟩
  | 70 => ⟨S4096x1, .i1⟩
  | 71 => ⟨S_, .i32⟩
  | 72 => ⟨S4096x1, .i32⟩
  | 73 => ⟨S4096x1, .i32⟩
  | 74 => ⟨S4096x1, .i32⟩
  | 75 => ⟨S4096x4096, .i32⟩
  | 76 => ⟨S4096x4096, .i32⟩
  | 77 => ⟨S4096x4096, .i1⟩
  | 78 => ⟨S_, .i32⟩
  | 79 => ⟨S_, .i32⟩
  | 80 => ⟨S4096x1, .i32⟩
  | 81 => ⟨S4096x1, .i32⟩
  | 82 => ⟨S4096x1, .i32⟩
  | 83 => ⟨S_, .i32⟩
  | 84 => ⟨S4096x1, .i32⟩
  | 85 => ⟨S4096x1, .i1⟩
  | 86 => ⟨S4096x1, .i32⟩
  | 87 => ⟨S4096x1, .i32⟩
  | 88 => ⟨S_, .i32⟩
  | 89 => ⟨S4096x1, .i32⟩
  | 90 => ⟨S4096x1, .i1⟩
  | 91 => ⟨S4096x1, .i1⟩
  | 92 => ⟨S_, .i32⟩
  | 93 => ⟨S4096x1, .i32⟩
  | 94 => ⟨S4096x1, .i32⟩
  | 95 => ⟨S4096x1, .i32⟩
  | 96 => ⟨S_, .i32⟩
  | 97 => ⟨S_, .i32⟩
  | 98 => ⟨S1x4096, .i32⟩
  | 99 => ⟨S1x4096, .i32⟩
  | 100 => ⟨S1x4096, .i32⟩
  | 101 => ⟨S_, .i32⟩
  | 102 => ⟨S1x4096, .i32⟩
  | 103 => ⟨S1x4096, .i1⟩
  | 104 => ⟨S1x4096, .i32⟩
  | 105 => ⟨S1x4096, .i32⟩
  | 106 => ⟨S_, .i32⟩
  | 107 => ⟨S1x4096, .i32⟩
  | 108 => ⟨S1x4096, .i1⟩
  | 109 => ⟨S1x4096, .i1⟩
  | 110 => ⟨S_, .i32⟩
  | 111 => ⟨S1x4096, .i32⟩
  | 112 => ⟨S1x4096, .i32⟩
  | 113 => ⟨S1x4096, .i32⟩
  | 114 => ⟨S_, .i32⟩
  | 115 => ⟨S1x4096, .i32⟩
  | 116 => ⟨S1x4096, .i32⟩
  | 117 => ⟨S4096x4096, .i32⟩
  | 118 => ⟨S4096x4096, .i32⟩
  | 119 => ⟨S4096x4096, .i1⟩
  | 120 => ⟨S4096x4096, .i1⟩
  | 121 => ⟨S16x4096x4096, .f32⟩
  | 122 => ⟨S_, .f32⟩
  | 123 => ⟨S16x4096x4096, .f32⟩
  | 124 => ⟨S16x4096x4096, .f32⟩
  | 125 => ⟨S16x4096x4096, .f32⟩
  | 126 => ⟨S_, .f32⟩
  | 127 => ⟨S_, .f32⟩
  | _ => ⟨S4096x3072, .bf16⟩

abbrev hbmTy0_1 (i : Nat) : BufTy := match i % 128 with
  | 0 => ⟨S16x4096x4096, .i1⟩
  | 1 => ⟨S16x4096x4096, .f32⟩
  | 2 => ⟨S16x4096x4096, .f32⟩
  | 3 => ⟨S_, .f32⟩
  | 4 => ⟨S16x4096x4096, .f32⟩
  | 5 => ⟨S_, .f32⟩
  | 6 => ⟨S16x4096, .f32⟩
  | 7 => ⟨S16x4096x1, .f32⟩
  | 8 => ⟨S16x4096x4096, .f32⟩
  | 9 => ⟨S16x4096x4096, .i1⟩
  | 10 => ⟨S16x4096x4096, .f32⟩
  | 11 => ⟨S_, .f32⟩
  | 12 => ⟨S16x4096, .f32⟩
  | 13 => ⟨S_, .f32⟩
  | 14 => ⟨S16x4096, .f32⟩
  | 15 => ⟨S16x4096, .f32⟩
  | 16 => ⟨S_, .f32⟩
  | 17 => ⟨S16x4096, .f32⟩
  | 18 => ⟨S16x4096, .i1⟩
  | 19 => ⟨S_, .f32⟩
  | 20 => ⟨S16x4096, .f32⟩
  | 21 => ⟨S16x4096, .i1⟩
  | 22 => ⟨S_, .f32⟩
  | 23 => ⟨S16x4096, .f32⟩
  | 24 => ⟨S_, .f32⟩
  | 25 => ⟨S16x4096, .f32⟩
  | 26 => ⟨S_, .f32⟩
  | 27 => ⟨S16x4096, .f32⟩
  | 28 => ⟨S16x4096, .f32⟩
  | 29 => ⟨S16x4096, .f32⟩
  | 30 => ⟨S16x4096x1, .f32⟩
  | 31 => ⟨S16x4096x4096, .f32⟩
  | 32 => ⟨S16x4096x4096, .f32⟩
  | 33 => ⟨S16x4096x4096, .f32⟩
  | 34 => ⟨S_, .f32⟩
  | 35 => ⟨S16x4096, .f32⟩
  | 36 => ⟨S16x4096x1, .f32⟩
  | 37 => ⟨S16x4096x4096, .f32⟩
  | 38 => ⟨S16x4096x4096, .f32⟩
  | 39 => ⟨S16x4096x1, .f32⟩
  | 40 => ⟨S_, .f32⟩
  | 41 => ⟨S16x4096x1, .f32⟩
  | 42 => ⟨S16x4096x1, .f32⟩
  | 43 => ⟨S16x64x4096, .f32⟩
  | 44 => ⟨S4096x16x64, .f32⟩
  | 45 => ⟨S4096x1024, .f32⟩
  | 46 => ⟨S4096x1024, .f32⟩
  | 47 => ⟨S4096x16x64, .f32⟩
  | 48 => ⟨S16x64x4096, .f32⟩
  | 49 => ⟨S16x4096x4096, .f32⟩
  | 50 => ⟨S16x64x4096, .f32⟩
  | 51 => ⟨S4096x16x64, .f32⟩
  | 52 => ⟨S16x4096x4096, .f32⟩
  | 53 => ⟨S16x4096x4096, .f32⟩
  | 54 => ⟨S16x4096x4096, .f32⟩
  | 55 => ⟨S_, .f32⟩
  | 56 => ⟨S16x4096, .f32⟩
  | 57 => ⟨S16x4096x1, .f32⟩
  | 58 => ⟨S16x4096x1, .f32⟩
  | 59 => ⟨S16x4096x4096, .f32⟩
  | 60 => ⟨S16x4096x4096, .f32⟩
  | 61 => ⟨S_, .f32⟩
  | 62 => ⟨S16x4096, .f32⟩
  | 63 => ⟨S16x4096x4096, .f32⟩
  | 64 => ⟨S16x4096x4096, .f32⟩
  | 65 => ⟨S16x4096x4096, .f32⟩
  | 66 => ⟨S_, .f32⟩
  | 67 => ⟨S16x4096x4096, .f32⟩
  | 68 => ⟨S16x4096x4096, .f32⟩
  | 69 => ⟨S_, .f32⟩
  | 70 => ⟨S16x4096x4096, .f32⟩
  | 71 => ⟨S16x4096x4096, .f32⟩
  | 72 => ⟨S16x4096x64, .f32⟩
  | 73 => ⟨S4096x16x64, .f32⟩
  | 74 => ⟨S16x4096x64, .f32⟩
  | 75 => ⟨S4096x16x64, .f32⟩
  | 76 => ⟨S4096x1024, .f32⟩
  | 77 => ⟨S4096x1024, .bf16⟩
  | 78 => ⟨S4096x1024, .f32⟩
  | 79 => ⟨S4096x1024, .bf16⟩
  | 80 => ⟨S4096x1024, .f32⟩
  | 81 => ⟨S4096x1024, .bf16⟩
  | _ => ⟨S4096x3072, .bf16⟩

abbrev hbmTy (i : Nat) : BufTy := match i / 128 with
  | 0 => hbmTy0_0 i
  | 1 => hbmTy0_1 i
  | _ => ⟨S4096x3072, .bf16⟩

abbrev bufTy : (tb : Table) → Fin (tcTables nBuf tb) → BufTy
  | .hbm, ⟨i, _⟩ => hbmTy i
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_c_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v26 : Ref sig .tc := ⟨.hbm, 56, rfl⟩
abbrev main_c_5 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_c : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_0 : Ref sig .tc := ⟨.hbm, 71, rfl⟩
abbrev main_call2_v12 : Ref sig .tc := ⟨.hbm, 72, rfl⟩
abbrev main_call2_v13 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_c_6 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_v6 : Ref sig .tc := ⟨.hbm, 85, rfl⟩
abbrev main_call3_v7 : Ref sig .tc := ⟨.hbm, 86, rfl⟩
abbrev main_call3_v8 : Ref sig .tc := ⟨.hbm, 87, rfl⟩
abbrev main_call3_c : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_c_0 : Ref sig .tc := ⟨.hbm, 92, rfl⟩
abbrev main_call3_v12 : Ref sig .tc := ⟨.hbm, 93, rfl⟩
abbrev main_call3_v13 : Ref sig .tc := ⟨.hbm, 94, rfl⟩
abbrev main_v31 : Ref sig .tc := ⟨.hbm, 95, rfl⟩
abbrev main_c_7 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_call4_v5 : Ref sig .tc := ⟨.hbm, 102, rfl⟩
abbrev main_call4_v6 : Ref sig .tc := ⟨.hbm, 103, rfl⟩
abbrev main_call4_v7 : Ref sig .tc := ⟨.hbm, 104, rfl⟩
abbrev main_call4_v8 : Ref sig .tc := ⟨.hbm, 105, rfl⟩
abbrev main_call4_c : Ref sig .tc := ⟨.hbm, 106, rfl⟩
abbrev main_call4_v9 : Ref sig .tc := ⟨.hbm, 107, rfl⟩
abbrev main_call4_v10 : Ref sig .tc := ⟨.hbm, 108, rfl⟩
abbrev main_call4_v11 : Ref sig .tc := ⟨.hbm, 109, rfl⟩
abbrev main_call4_c_0 : Ref sig .tc := ⟨.hbm, 110, rfl⟩
abbrev main_call4_v12 : Ref sig .tc := ⟨.hbm, 111, rfl⟩
abbrev main_call4_v13 : Ref sig .tc := ⟨.hbm, 112, rfl⟩
abbrev main_v32 : Ref sig .tc := ⟨.hbm, 113, rfl⟩
abbrev main_c_8 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩
abbrev main_v36 : Ref sig .tc := ⟨.hbm, 118, rfl⟩
abbrev main_v37 : Ref sig .tc := ⟨.hbm, 119, rfl⟩
abbrev main_v38 : Ref sig .tc := ⟨.hbm, 120, rfl⟩
abbrev main_v39 : Ref sig .tc := ⟨.hbm, 121, rfl⟩
abbrev main_cst : Ref sig .tc := ⟨.hbm, 122, rfl⟩
abbrev main_v40 : Ref sig .tc := ⟨.hbm, 123, rfl⟩
abbrev main_v41 : Ref sig .tc := ⟨.hbm, 124, rfl⟩
abbrev main_v42 : Ref sig .tc := ⟨.hbm, 125, rfl⟩
abbrev main_cst_9 : Ref sig .tc := ⟨.hbm, 126, rfl⟩
abbrev main_call5_v0 : Ref sig .tc := ⟨.hbm, 127, rfl⟩
abbrev main_v43_1 : Ref sig .tc := ⟨.hbm, 128, rfl⟩
abbrev main_call5_v2 : Ref sig .tc := ⟨.hbm, 129, rfl⟩
abbrev main_v43_0 : Ref sig .tc := ⟨.hbm, 130, rfl⟩
abbrev main_call5_cst : Ref sig .tc := ⟨.hbm, 131, rfl⟩
abbrev main_v43_2 : Ref sig .tc := ⟨.hbm, 132, rfl⟩
abbrev main_cst_10 : Ref sig .tc := ⟨.hbm, 133, rfl⟩
abbrev main_v44 : Ref sig .tc := ⟨.hbm, 134, rfl⟩
abbrev main_v45 : Ref sig .tc := ⟨.hbm, 135, rfl⟩
abbrev main_v46 : Ref sig .tc := ⟨.hbm, 136, rfl⟩
abbrev main_v47 : Ref sig .tc := ⟨.hbm, 137, rfl⟩
abbrev main_v48 : Ref sig .tc := ⟨.hbm, 138, rfl⟩
abbrev main_cst_11 : Ref sig .tc := ⟨.hbm, 139, rfl⟩
abbrev main_v49 : Ref sig .tc := ⟨.hbm, 140, rfl⟩
abbrev main_cst_12 : Ref sig .tc := ⟨.hbm, 141, rfl⟩
abbrev main_v50 : Ref sig .tc := ⟨.hbm, 142, rfl⟩
abbrev main_v51 : Ref sig .tc := ⟨.hbm, 143, rfl⟩
abbrev main_cst_13 : Ref sig .tc := ⟨.hbm, 144, rfl⟩
abbrev main_v52 : Ref sig .tc := ⟨.hbm, 145, rfl⟩
abbrev main_v53 : Ref sig .tc := ⟨.hbm, 146, rfl⟩
abbrev main_cst_14 : Ref sig .tc := ⟨.hbm, 147, rfl⟩
abbrev main_v54 : Ref sig .tc := ⟨.hbm, 148, rfl⟩
abbrev main_v55 : Ref sig .tc := ⟨.hbm, 149, rfl⟩
abbrev main_cst_15 : Ref sig .tc := ⟨.hbm, 150, rfl⟩
abbrev main_v56 : Ref sig .tc := ⟨.hbm, 151, rfl⟩
abbrev main_cst_16 : Ref sig .tc := ⟨.hbm, 152, rfl⟩
abbrev main_v57 : Ref sig .tc := ⟨.hbm, 153, rfl⟩
abbrev main_cst_17 : Ref sig .tc := ⟨.hbm, 154, rfl⟩
abbrev main_v58 : Ref sig .tc := ⟨.hbm, 155, rfl⟩
abbrev main_v59 : Ref sig .tc := ⟨.hbm, 156, rfl⟩
abbrev main_v60 : Ref sig .tc := ⟨.hbm, 157, rfl⟩
abbrev main_v61 : Ref sig .tc := ⟨.hbm, 158, rfl⟩
abbrev main_v62 : Ref sig .tc := ⟨.hbm, 159, rfl⟩
abbrev main_v63 : Ref sig .tc := ⟨.hbm, 160, rfl⟩
abbrev main_v64 : Ref sig .tc := ⟨.hbm, 161, rfl⟩
abbrev main_cst_18 : Ref sig .tc := ⟨.hbm, 162, rfl⟩
abbrev main_v65 : Ref sig .tc := ⟨.hbm, 163, rfl⟩
abbrev main_v66 : Ref sig .tc := ⟨.hbm, 164, rfl⟩
abbrev main_v67 : Ref sig .tc := ⟨.hbm, 165, rfl⟩
abbrev main_v68 : Ref sig .tc := ⟨.hbm, 166, rfl⟩
abbrev main_v69 : Ref sig .tc := ⟨.hbm, 167, rfl⟩
abbrev main_cst_19 : Ref sig .tc := ⟨.hbm, 168, rfl⟩
abbrev main_v70 : Ref sig .tc := ⟨.hbm, 169, rfl⟩
abbrev main_v71 : Ref sig .tc := ⟨.hbm, 170, rfl⟩
abbrev main_v72 : Ref sig .tc := ⟨.hbm, 171, rfl⟩
abbrev main_v73 : Ref sig .tc := ⟨.hbm, 172, rfl⟩
abbrev main_v74 : Ref sig .tc := ⟨.hbm, 173, rfl⟩
abbrev main_v75 : Ref sig .tc := ⟨.hbm, 174, rfl⟩
abbrev main_v76 : Ref sig .tc := ⟨.hbm, 175, rfl⟩
abbrev main_v77 : Ref sig .tc := ⟨.hbm, 176, rfl⟩
abbrev main_v78 : Ref sig .tc := ⟨.hbm, 177, rfl⟩
abbrev main_v79 : Ref sig .tc := ⟨.hbm, 178, rfl⟩
abbrev main_v80 : Ref sig .tc := ⟨.hbm, 179, rfl⟩
abbrev main_v81 : Ref sig .tc := ⟨.hbm, 180, rfl⟩
abbrev main_v82 : Ref sig .tc := ⟨.hbm, 181, rfl⟩
abbrev main_v83 : Ref sig .tc := ⟨.hbm, 182, rfl⟩
abbrev main_cst_20 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_v88 : Ref sig .tc := ⟨.hbm, 188, rfl⟩
abbrev main_cst_21 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_call6_cst : Ref sig .tc := ⟨.hbm, 194, rfl⟩
abbrev main_call6_v0 : Ref sig .tc := ⟨.hbm, 195, rfl⟩
abbrev main_v93 : Ref sig .tc := ⟨.hbm, 196, rfl⟩
abbrev main_cst_22 : Ref sig .tc := ⟨.hbm, 197, rfl⟩
abbrev main_v94 : Ref sig .tc := ⟨.hbm, 198, rfl⟩
abbrev main_v95 : Ref sig .tc := ⟨.hbm, 199, rfl⟩
abbrev main_v96 : Ref sig .tc := ⟨.hbm, 200, rfl⟩
abbrev main_v97 : Ref sig .tc := ⟨.hbm, 201, rfl⟩
abbrev main_v98 : Ref sig .tc := ⟨.hbm, 202, rfl⟩
abbrev main_v99 : Ref sig .tc := ⟨.hbm, 203, rfl⟩
abbrev main_v100 : Ref sig .tc := ⟨.hbm, 204, rfl⟩
abbrev main_v101 : Ref sig .tc := ⟨.hbm, 205, rfl⟩
abbrev main_v102 : Ref sig .tc := ⟨.hbm, 206, rfl⟩
abbrev main_v103 : Ref sig .tc := ⟨.hbm, 207, rfl⟩
abbrev main_v104 : Ref sig .tc := ⟨.hbm, 208, rfl⟩
abbrev main_v105 : Ref sig .tc := ⟨.hbm, 209, rfl⟩

abbrev nD : Nat := 1
abbrev τ : Topo := Topo.v7x

variable {F : FTy → Type} [FloatOps F]
-- ==== Kernel2.lean ====
abbrev S4096x5632 : Shape := ⟨2, ![4096, 5632]⟩
abbrev S4x1024x1408 : Shape := ⟨3, ![4, 1024, 1408]⟩
abbrev S4096x1024 : Shape := ⟨2, ![4096, 1024]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4x1024x1408, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference2Ideal.lean ====
abbrev S4096x5632 : Shape := ⟨2, ![4096, 5632]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S_ : Shape := ⟨0, ![]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x1024x1408, .bf16⟩
  | .hbm, ⟨2, _⟩ => ⟨S1024x4x1408, .bf16⟩
  | .hbm, ⟨3, _⟩ => ⟨S1024x5632, .bf16⟩
  | .hbm, ⟨4, _⟩ => ⟨S1024x5632, .f32⟩
  | .hbm, ⟨5, _⟩ => ⟨S_, .f32⟩
  | .hbm, ⟨6, _⟩ => ⟨S4096x1024, .f32⟩
  | .hbm, ⟨7, _⟩ => ⟨S4096x5632, .f32⟩
  | .hbm, ⟨8, _⟩ => ⟨S4096x5632, .f32⟩
  | .hbm, ⟨9, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x1024 : Shape := ⟨2, ![4096, 1024]⟩
abbrev S4096x5632 : Shape := ⟨2, ![4096, 5632]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .f32⟩
  | .local _ .vmem, ⟨5, _⟩ => ⟨S1x1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference3Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== Reference9Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== Reference10Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4096x1024 : Shape := ⟨2, ![4096, 1024]⟩
abbrev S4096x3072 : Shape := ⟨2, ![4096, 3072]⟩
abbrev S4x1024x768 : Shape := ⟨3, ![4, 1024, 768]⟩
abbrev S1024x1024 : Shape := ⟨2, ![1024, 1024]⟩
abbrev S1024x768 : Shape := ⟨2, ![1024, 768]⟩
abbrev S1x1024x768 : Shape := ⟨3, ![1, 1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4x1024x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1x1024x768, .f32⟩
  | .local _ .vmem, ⟨5, _⟩ => ⟨S1x1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference11Ideal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x4x768, .f32⟩
  | .hbm, ⟨10, _⟩ => ⟨S4x1024x768, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S4096x3072 : Shape := ⟨2, ![4096, 3072]⟩
abbrev S4x1024x768 : Shape := ⟨3, ![4, 1024, 768]⟩
abbrev S4096x1024 : Shape := ⟨2, ![4096, 1024]⟩
abbrev S1024x768 : Shape := ⟨2, ![1024, 768]⟩
abbrev S1x1024x768 : Shape := ⟨3, ![1, 1024, 768]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x3072, .bf16⟩
  | .hbm, ⟨1, _⟩ => ⟨S4x1024x768, .bf16⟩
  | .hbm, ⟨2, _⟩ => ⟨S4096x1024, .f32⟩
  | .hbm, ⟨3, _⟩ => ⟨S4096x1024, .f32⟩
  | .local _ .vmem, ⟨0, _⟩ => ⟨S1024x768, .bf16⟩
  | .local _ .vmem, ⟨1, _⟩ => ⟨S1024x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== Reference12Ideal.lean ====
abbrev S4096x3072 : Shape := ⟨2, ![4096, 3072]⟩
abbrev S4x1024x768 : Shape := ⟨3, ![4, 1024, 768]⟩
abbrev S4096x1024 : Shape := ⟨2, ![4096, 1024]⟩
abbrev S_ : Shape := ⟨0, ![]⟩
abbrev S1024x4x768 : Shape := ⟨3, ![1024, 4, 768]⟩
abbrev S1024x3072 : Shape := ⟨2, ![1024, 3072]⟩

abbrev nBuf : Space → Nat
  | .hbm => 18
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4x1024x768, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S1024x4x768, .bf16⟩
  | .hbm, ⟨9, _⟩ => ⟨S1024x3072, .bf16⟩
  | .hbm, ⟨10, _⟩ => ⟨S1024x3072, .f32⟩
  | .hbm, ⟨11, _⟩ => ⟨S4096x3072, .f32⟩
  | .hbm, ⟨12, _⟩ => ⟨S4096x3072, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel13.lean ====
abbrev S4096x1024 : Shape := ⟨2, ![4096, 1024]⟩
abbrev S4x1024x1408 : Shape := ⟨3, ![4, 1024, 1408]⟩
abbrev S4096x5632 : Shape := ⟨2, ![4096, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let v2 : BitVec 32 := Scalar.addi c0_i32_1 v1
  let c0_i32_2 : BitVec 32 := 0#32
  let c0_i32_3 : BitVec 32 := 0#32
  ![v2.toNat, c0_i32_2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x1024, .f32⟩
  | .hbm, ⟨3, _⟩ => ⟨S1024x4x1408, .bf16⟩
  | .hbm, ⟨4, _⟩ => ⟨S1024x5632, .bf16⟩
  | .hbm, ⟨5, _⟩ => ⟨S1024x5632, .f32⟩
  | .hbm, ⟨6, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel14.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference14Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference15Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S4096x1024 : Shape := ⟨2, ![4096, 1024]⟩
abbrev S4x1024x768 : Shape := ⟨3, ![4, 1024, 768]⟩
abbrev S4608x3072 : Shape := ⟨2, ![4608, 3072]⟩
abbrev S512x1024 : Shape := ⟨2, ![512, 1024]⟩
abbrev S1x1024x768 : Shape := ⟨3, ![1, 1024, 768]⟩
abbrev S512x768 : Shape := ⟨2, ![512, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x768, .bf16⟩
  | .hbm, ⟨2, _⟩ => ⟨S4608x3072, .bf16⟩
  | .local _ .vmem, ⟨0, _⟩ => ⟨S512x1024, .bf16⟩
  | .local _ .vmem, ⟨1, _⟩ => ⟨S512x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S512x768, .bf16⟩
  | .local _ .vmem, ⟨5, _⟩ => ⟨S512x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 9, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v2 : BitVec 32 := Scalar.addi c0_i32_0 v1
  let c0_i32_1 : BitVec 32 := 0#32
  let c0_i32_2 : BitVec 32 := 0#32
  ![v2.toNat, c0_i32_1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S4x1024x768 : Shape := ⟨3, ![4, 1024, 768]⟩
abbrev S1024x4x768 : Shape := ⟨3, ![1024, 4, 768]⟩
abbrev S1024x3072 : Shape := ⟨2, ![1024, 3072]⟩
abbrev S4096x3072 : Shape := ⟨2, ![4096, 3072]⟩
abbrev S_ : Shape := ⟨0, ![]⟩
abbrev S4608x3072 : Shape := ⟨2, ![4608, 3072]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x768, .bf16⟩
  | .hbm, ⟨2, _⟩ => ⟨S4096x1024, .f32⟩
  | .hbm, ⟨3, _⟩ => ⟨S1024x4x768, .bf16⟩
  | .hbm, ⟨4, _⟩ => ⟨S1024x3072, .bf16⟩
  | .hbm, ⟨5, _⟩ => ⟨S1024x3072, .f32⟩
  | .hbm, ⟨6, _⟩ => ⟨S4096x3072, .f32⟩
  | .hbm, ⟨7, _⟩ => ⟨S_, .i32⟩
  | .hbm, ⟨8, _⟩ => ⟨S_, .f32⟩
  | .hbm, ⟨9, _⟩ => ⟨S4608x3072, .f32⟩
  | .hbm, ⟨10, _⟩ => ⟨S4608x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel17.lean ====
abbrev S4096x1024 : Shape := ⟨2, ![4096, 1024]⟩
abbrev S4x1024x384 : Shape := ⟨3, ![4, 1024, 384]⟩
abbrev S4096x1536 : Shape := ⟨2, ![4096, 1536]⟩
abbrev S1024x1024 : Shape := ⟨2, ![1024, 1024]⟩
abbrev S1024x1536 : Shape := ⟨2, ![1024, 1536]⟩
abbrev S1x1024x384 : Shape := ⟨3, ![1, 1024, 384]⟩
abbrev S1024x384 : Shape := ⟨2, ![1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4x1024x384, .bf16⟩
  | .hbm, ⟨2, _⟩ => ⟨S4096x1536, .f32⟩
  | .local _ .vmem, ⟨0, _⟩ => ⟨S1024x1024, .f32⟩
  | .local _ .vmem, ⟨1, _⟩ => ⟨S1024x1024, .f32⟩
  | .local _ .vmem, ⟨2, _⟩ => ⟨S4x1024x384, .bf16⟩
  | .local _ .vmem, ⟨3, _⟩ => ⟨S1024x1536, .f32⟩
  | .local _ .vmem, ⟨4, _⟩ => ⟨S1024x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S4096x1024 : Shape := ⟨2, ![4096, 1024]⟩
abbrev S4x1024x384 : Shape := ⟨3, ![4, 1024, 384]⟩
abbrev S1024x4x384 : Shape := ⟨3, ![1024, 4, 384]⟩
abbrev S1024x1536 : Shape := ⟨2, ![1024, 1536]⟩
abbrev S4096x1536 : Shape := ⟨2, ![4096, 1536]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x1024x384, .bf16⟩
  | .hbm, ⟨2, _⟩ => ⟨S1024x4x384, .bf16⟩
  | .hbm, ⟨3, _⟩ => ⟨S1024x1536, .bf16⟩
  | .hbm, ⟨4, _⟩ => ⟨S1024x1536, .f32⟩
  | .hbm, ⟨5, _⟩ => ⟨S4096x1536, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S4096x1024 : Shape := ⟨2, ![4096, 1024]⟩
abbrev S4096x1536 : Shape := ⟨2, ![4096, 1536]⟩
abbrev S4x1024x384 : Shape := ⟨3, ![4, 1024, 384]⟩
abbrev S1024x1024 : Shape := ⟨2, ![1024, 1024]⟩
abbrev S1024x1536 : Shape := ⟨2, ![1024, 1536]⟩
abbrev S1024x384 : Shape := ⟨2, ![1024, 384]⟩
abbrev S1x1024x384 : Shape := ⟨3, ![1, 1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S4x1024x384, .f32⟩
  | .local _ .vmem, ⟨0, _⟩ => ⟨S1024x1024, .f32⟩
  | .local _ .vmem, ⟨1, _⟩ => ⟨S1024x1024, .f32⟩
  | .local _ .vmem, ⟨2, _⟩ => ⟨S1024x1536, .f32⟩
  | .local _ .vmem, ⟨3, _⟩ => ⟨S1024x1536, .f32⟩
  | .local _ .vmem, ⟨4, _⟩ => ⟨S4x1024x384, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v7 : BitVec 32 := Scalar.extui v5
  let c0_i32_4 : BitVec 32 := 0#32
  let v8 : BitVec 1 := Scalar.cmpi .ne v7 c0_i32_4
  v8

def k0_cond2 (i : grid0.Coords) : BitVec 1 :=
  let arg0 : BitVec 32 := BitVec.ofNat 32 (i 0).val
  let c0_i32 : BitVec 32 := 0#32
  let v5 : BitVec 1 := Scalar.cmpi .eq arg0 c0_i32
  let v_true : BitVec 1 := 1#1
  let v9 : BitVec 1 := Scalar.xori v5 v_true
  let v10 : BitVec 32 := Scalar.extui v9
  let c0_i32_6 : BitVec 32 := 0#32
  let v11 : BitVec 1 := Scalar.cmpi .ne v10 c0_i32_6
  v11

def k0_cond3 (i : grid0.Coords) : BitVec 1 :=
  let arg0 : BitVec 32 := BitVec.ofNat 32 (i 0).val
  let c0_i32 : BitVec 32 := 0#32
  let v5 : BitVec 1 := Scalar.cmpi .eq arg0 c0_i32
  let v13 : BitVec 32 := Scalar.extui v5
  let c0_i32_7 : BitVec 32 := 0#32
  let v14 : BitVec 1 := Scalar.cmpi .ne v13 c0_i32_7
  v14

def k0_cond4 (i : grid0.Coords) : BitVec 1 :=
  let arg0 : BitVec 32 := BitVec.ofNat 32 (i 0).val
  let c0_i32 : BitVec 32 := 0#32
  let v5 : BitVec 1 := Scalar.cmpi .eq arg0 c0_i32
  let true_8 : BitVec 1 := 1#1
  let v15 : BitVec 1 := Scalar.xori v5 true_8
  let v16 : BitVec 32 := Scalar.extui v15
  let c0_i32_10 : BitVec 32 := 0#32
  let v17 : BitVec 1 := Scalar.cmpi .ne v16 c0_i32_10
  v17

def k0_cond5 (i : grid0.Coords) : BitVec 1 :=
  let arg0 : BitVec 32 := BitVec.ofNat 32 (i 0).val
  let c0_i32 : BitVec 32 := 0#32
  let v5 : BitVec 1 := Scalar.cmpi .eq arg0 c0_i32
  let v19 : BitVec 32 := Scalar.extui v5
  let c0_i32_11 : BitVec 32 := 0#32
  let v20 : BitVec 1 := Scalar.cmpi .ne v19 c0_i32_11
  v20

def k0_cond6 (i : grid0.Coords) : BitVec 1 :=
  let arg0 : BitVec 32 := BitVec.ofNat 32 (i 0).val
  let c0_i32 : BitVec 32 := 0#32
  let v5 : BitVec 1 := Scalar.cmpi .eq arg0 c0_i32
  let true_12 : BitVec 1 := 1#1
  let v21 : BitVec 1 := Scalar.xori v5 true_12
  let v22 : BitVec 32 := Scalar.extui v21
  let c0_i32_14 : BitVec 32 := 0#32
  let v23 : BitVec 1 := Scalar.cmpi .ne v22 c0_i32_14
  v23

def k0_cond7 (i : grid0.Coords) : BitVec 1 :=
  let arg0 : BitVec 32 := BitVec.ofNat 32 (i 0).val
  let c0_i32 : BitVec 32 := 0#32
  let v5 : BitVec 1 := Scalar.cmpi .eq arg0 c0_i32
  let v25 : BitVec 32 := Scalar.extui v5
  let c0_i32_15 : BitVec 32 := 0#32
  let v26 : BitVec 1 := Scalar.cmpi .ne v25 c0_i32_15
  v26

def k0_cond8 (i : grid0.Coords) : BitVec 1 :=
  let arg0 : BitVec 32 := BitVec.ofNat 32 (i 0).val
  let c0_i32 : BitVec 32 := 0#32
  let v5 : BitVec 1 := Scalar.cmpi .eq arg0 c0_i32
  let true_16 : BitVec 1 := 1#1
  let v27 : BitVec 1 := Scalar.xori v5 true_16
  let v28 : BitVec 32 := Scalar.extui v27
  let c0_i32_18 : BitVec 32 := 0#32
  let v29 : BitVec 1 := Scalar.cmpi .ne v28 c0_i32_18
  v29

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference18Ideal.lean ====
abbrev S4096x1024 : Shape := ⟨2, ![4096, 1024]⟩
abbrev S4096x1536 : Shape := ⟨2, ![4096, 1536]⟩
abbrev S_ : Shape := ⟨0, ![]⟩
abbrev S1024x1536 : Shape := ⟨2, ![1024, 1536]⟩
abbrev S1536x1024 : Shape := ⟨2, ![1536, 1024]⟩
abbrev S1024x4x384 : Shape := ⟨3, ![1024, 4, 384]⟩
abbrev S4x1024x384 : Shape := ⟨3, ![4, 1024, 384]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S_, .f32⟩
  | .hbm, ⟨3, _⟩ => ⟨S1024x1536, .f32⟩
  | .hbm, ⟨4, _⟩ => ⟨S4096x1536, .f32⟩
  | .hbm, ⟨5, _⟩ => ⟨S1536x1024, .f32⟩
  | .hbm, ⟨6, _⟩ => ⟨S1024x1536, .f32⟩
  | .hbm, ⟨7, _⟩ => ⟨S1024x4x384, .f32⟩
  | .hbm, ⟨8, _⟩ => ⟨S4x1024x384, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S4096x1536 : Shape := ⟨2, ![4096, 1536]⟩
abbrev S4x1024x384 : Shape := ⟨3, ![4, 1024, 384]⟩
abbrev S4096x1024 : Shape := ⟨2, ![4096, 1024]⟩
abbrev S1024x1536 : Shape := ⟨2, ![1024, 1536]⟩
abbrev S1024x1024 : Shape := ⟨2, ![1024, 1024]⟩
abbrev S1x1024x384 : Shape := ⟨3, ![1, 1024, 384]⟩
abbrev S1024x384 : Shape := ⟨2, ![1024, 384]⟩

abbrev nBuf : Space → Nat
  | .hbm => 4
  | .vmem => 7
  | .smem => 0
  | _ => 0

abbrev bufTy : (tb : Table) → Fin (tcTables nBuf tb) → BufTy
  | .hbm, ⟨0, _⟩ => ⟨S4096x1536, .f32⟩
  | .hbm, ⟨1, _⟩ => ⟨S4x1024x384, .bf16⟩
  | .hbm, ⟨2, _⟩ => ⟨S4096x1024, .f32⟩
  | .hbm, ⟨3, _⟩ => ⟨S4096x1024, .f32⟩
  | .local _ .vmem, ⟨0, _⟩ => ⟨S1024x1536, .f32⟩
  | .local _ .vmem, ⟨1, _⟩ => ⟨S1024x1536, .f32⟩
  | .local _ .vmem, ⟨2, _⟩ => ⟨S4x1024x384, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference19Ideal.lean ====
abbrev S4096x1536 : Shape := ⟨2, ![4096, 1536]⟩
abbrev S4x1024x384 : Shape := ⟨3, ![4, 1024, 384]⟩
abbrev S4096x1024 : Shape := ⟨2, ![4096, 1024]⟩
abbrev S_ : Shape := ⟨0, ![]⟩
abbrev S1024x4x384 : Shape := ⟨3, ![1024, 4, 384]⟩
abbrev S1024x1536 : Shape := ⟨2, ![1024, 1536]⟩

abbrev nBuf : Space → Nat
  | .hbm => 17
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4x1024x384, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S1024x4x384, .bf16⟩
  | .hbm, ⟨9, _⟩ => ⟨S1024x1536, .bf16⟩
  | .hbm, ⟨10, _⟩ => ⟨S1024x1536, .f32⟩
  | .hbm, ⟨11, _⟩ => ⟨S4096x1536, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel20.lean ====
abbrev S8192x256 : Shape := ⟨2, ![8192, 256]⟩
abbrev S4x256x256 : Shape := ⟨3, ![4, 256, 256]⟩
abbrev S4096x1024 : Shape := ⟨2, ![4096, 1024]⟩
abbrev S1024x256 : Shape := ⟨2, ![1024, 256]⟩
abbrev S1024x1024 : Shape := ⟨2, ![1024, 1024]⟩
abbrev S1x256x256 : Shape := ⟨3, ![1, 256, 256]⟩
abbrev S256x256 : Shape := ⟨2, ![256, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S4x256x256, .bf16⟩
  | .hbm, ⟨2, _⟩ => ⟨S4096x1024, .f32⟩
  | .local _ .vmem, ⟨0, _⟩ => ⟨S1024x256, .f32⟩
  | .local _ .vmem, ⟨1, _⟩ => ⟨S1024x256, .f32⟩
  | .local _ .vmem, ⟨2, _⟩ => ⟨S4x256x256, .bf16⟩
  | .local _ .vmem, ⟨3, _⟩ => ⟨S1024x1024, .f32⟩
  | .local _ .vmem, ⟨4, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S8192x256 : Shape := ⟨2, ![8192, 256]⟩
abbrev S4x256x256 : Shape := ⟨3, ![4, 256, 256]⟩
abbrev S4096x256 : Shape := ⟨2, ![4096, 256]⟩
abbrev S256x4x256 : Shape := ⟨3, ![256, 4, 256]⟩
abbrev S256x1024 : Shape := ⟨2, ![256, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S4x256x256, .bf16⟩
  | .hbm, ⟨2, _⟩ => ⟨S4096x256, .f32⟩
  | .hbm, ⟨3, _⟩ => ⟨S256x4x256, .bf16⟩
  | .hbm, ⟨4, _⟩ => ⟨S256x1024, .bf16⟩
  | .hbm, ⟨5, _⟩ => ⟨S256x1024, .f32⟩
  | .hbm, ⟨6, _⟩ => ⟨S4096x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel21.lean ====
abbrev S8192x256 : Shape := ⟨2, ![8192, 256]⟩
abbrev S4x256x256 : Shape := ⟨3, ![4, 256, 256]⟩
abbrev S4096x1024 : Shape := ⟨2, ![4096, 1024]⟩
abbrev S1024x256 : Shape := ⟨2, ![1024, 256]⟩
abbrev S1024x1024 : Shape := ⟨2, ![1024, 1024]⟩
abbrev S1x256x256 : Shape := ⟨3, ![1, 256, 256]⟩
abbrev S256x256 : Shape := ⟨2, ![256, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S4x256x256, .bf16⟩
  | .hbm, ⟨2, _⟩ => ⟨S4096x1024, .f32⟩
  | .local _ .vmem, ⟨0, _⟩ => ⟨S1024x256, .f32⟩
  | .local _ .vmem, ⟨1, _⟩ => ⟨S1024x256, .f32⟩
  | .local _ .vmem, ⟨2, _⟩ => ⟨S4x256x256, .bf16⟩
  | .local _ .vmem, ⟨3, _⟩ => ⟨S1024x1024, .f32⟩
  | .local _ .vmem, ⟨4, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference21Ideal.lean ====
abbrev S8192x256 : Shape := ⟨2, ![8192, 256]⟩
abbrev S4x256x256 : Shape := ⟨3, ![4, 256, 256]⟩
abbrev S4096x256 : Shape := ⟨2, ![4096, 256]⟩
abbrev S256x4x256 : Shape := ⟨3, ![256, 4, 256]⟩
abbrev S256x1024 : Shape := ⟨2, ![256, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S4x256x256, .bf16⟩
  | .hbm, ⟨2, _⟩ => ⟨S4096x256, .f32⟩
  | .hbm, ⟨3, _⟩ => ⟨S256x4x256, .bf16⟩
  | .hbm, ⟨4, _⟩ => ⟨S256x1024, .bf16⟩
  | .hbm, ⟨5, _⟩ => ⟨S256x1024, .f32⟩
  | .hbm, ⟨6, _⟩ => ⟨S4096x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel22.lean ====
abbrev S8192x256 : Shape := ⟨2, ![8192, 256]⟩
abbrev S4096x1024 : Shape := ⟨2, ![4096, 1024]⟩
abbrev S4x256x256 : Shape := ⟨3, ![4, 256, 256]⟩
abbrev S1024x256 : Shape := ⟨2, ![1024, 256]⟩
abbrev S1024x1024 : Shape := ⟨2, ![1024, 1024]⟩
abbrev S256x1024 : Shape := ⟨2, ![256, 1024]⟩
abbrev S256x256 : Shape := ⟨2, ![256, 256]⟩
abbrev S1x256x256 : Shape := ⟨3, ![1, 256, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S4096x1024, .bf16⟩
  | .hbm, ⟨2, _⟩ => ⟨S4x256x256, .f32⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S4x256x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v6 : BitVec 32 := Scalar.extui v4
  let c0_i32_4 : BitVec 32 := 0#32
  let v7 : BitVec 1 := Scalar.cmpi .ne v6 c0_i32_4
  v7

def k0_cond2 (i : grid0.Coords) : BitVec 1 :=
  let arg0 : BitVec 32 := BitVec.ofNat 32 (i 0).val
  let c0_i32 : BitVec 32 := 0#32
  let v4 : BitVec 1 := Scalar.cmpi .eq arg0 c0_i32
  let v_true : BitVec 1 := 1#1
  let v8 : BitVec 1 := Scalar.xori v4 v_true
  let v9 : BitVec 32 := Scalar.extui v8
  let c0_i32_6 : BitVec 32 := 0#32
  let v10 : BitVec 1 := Scalar.cmpi .ne v9 c0_i32_6
  v10

def k0_cond3 (i : grid0.Coords) : BitVec 1 :=
  let arg0 : BitVec 32 := BitVec.ofNat 32 (i 0).val
  let c0_i32 : BitVec 32 := 0#32
  let v4 : BitVec 1 := Scalar.cmpi .eq arg0 c0_i32
  let v12 : BitVec 32 := Scalar.extui v4
  let c0_i32_7 : BitVec 32 := 0#32
  let v13 : BitVec 1 := Scalar.cmpi .ne v12 c0_i32_7
  v13

def k0_cond4 (i : grid0.Coords) : BitVec 1 :=
  let arg0 : BitVec 32 := BitVec.ofNat 32 (i 0).val
  let c0_i32 : BitVec 32 := 0#32
  let v4 : BitVec 1 := Scalar.cmpi .eq arg0 c0_i32
  let true_8 : BitVec 1 := 1#1
  let v14 : BitVec 1 := Scalar.xori v4 true_8
  let v15 : BitVec 32 := Scalar.extui v14
  let c0_i32_10 : BitVec 32 := 0#32
  let v16 : BitVec 1 := Scalar.cmpi .ne v15 c0_i32_10
  v16

def k0_cond5 (i : grid0.Coords) : BitVec 1 :=
  let arg0 : BitVec 32 := BitVec.ofNat 32 (i 0).val
  let c0_i32 : BitVec 32 := 0#32
  let v4 : BitVec 1 := Scalar.cmpi .eq arg0 c0_i32
  let v18 : BitVec 32 := Scalar.extui v4
  let c0_i32_11 : BitVec 32 := 0#32
  let v19 : BitVec 1 := Scalar.cmpi .ne v18 c0_i32_11
  v19

def k0_cond6 (i : grid0.Coords) : BitVec 1 :=
  let arg0 : BitVec 32 := BitVec.ofNat 32 (i 0).val
  let c0_i32 : BitVec 32 := 0#32
  let v4 : BitVec 1 := Scalar.cmpi .eq arg0 c0_i32
  let true_12 : BitVec 1 := 1#1
  let v20 : BitVec 1 := Scalar.xori v4 true_12
  let v21 : BitVec 32 := Scalar.extui v20
  let c0_i32_14 : BitVec 32 := 0#32
  let v22 : BitVec 1 := Scalar.cmpi .ne v21 c0_i32_14
  v22

def k0_cond7 (i : grid0.Coords) : BitVec 1 :=
  let arg0 : BitVec 32 := BitVec.ofNat 32 (i 0).val
  let c0_i32 : BitVec 32 := 0#32
  let v4 : BitVec 1 := Scalar.cmpi .eq arg0 c0_i32
  let v24 : BitVec 32 := Scalar.extui v4
  let c0_i32_15 : BitVec 32 := 0#32
  let v25 : BitVec 1 := Scalar.cmpi .ne v24 c0_i32_15
  v25

def k0_cond8 (i : grid0.Coords) : BitVec 1 :=
  let arg0 : BitVec 32 := BitVec.ofNat 32 (i 0).val
  let c0_i32 : BitVec 32 := 0#32
  let v4 : BitVec 1 := Scalar.cmpi .eq arg0 c0_i32
  let true_16 : BitVec 1 := 1#1
  let v26 : BitVec 1 := Scalar.xori v4 true_16
  let v27 : BitVec 32 := Scalar.extui v26
  let c0_i32_18 : BitVec 32 := 0#32
  let v28 : BitVec 1 := Scalar.cmpi .ne v27 c0_i32_18
  v28

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference22Ideal.lean ====
abbrev S8192x256 : Shape := ⟨2, ![8192, 256]⟩
abbrev S4096x1024 : Shape := ⟨2, ![4096, 1024]⟩
abbrev S_ : Shape := ⟨0, ![]⟩
abbrev S256x1024 : Shape := ⟨2, ![256, 1024]⟩
abbrev S4096x256 : Shape := ⟨2, ![4096, 256]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 11
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x256, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S256x4x256, .f32⟩
  | .hbm, ⟨10, _⟩ => ⟨S4x256x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel23.lean ====
abbrev S8192x256 : Shape := ⟨2, ![8192, 256]⟩
abbrev S4096x1024 : Shape := ⟨2, ![4096, 1024]⟩
abbrev S4x256x256 : Shape := ⟨3, ![4, 256, 256]⟩
abbrev S1024x256 : Shape := ⟨2, ![1024, 256]⟩
abbrev S1024x1024 : Shape := ⟨2, ![1024, 1024]⟩
abbrev S256x1024 : Shape := ⟨2, ![256, 1024]⟩
abbrev S256x256 : Shape := ⟨2, ![256, 256]⟩
abbrev S1x256x256 : Shape := ⟨3, ![1, 256, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S4096x1024, .bf16⟩
  | .hbm, ⟨2, _⟩ => ⟨S4x256x256, .f32⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S4x256x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v6 : BitVec 32 := Scalar.extui v4
  let c0_i32_4 : BitVec 32 := 0#32
  let v7 : BitVec 1 := Scalar.cmpi .ne v6 c0_i32_4
  v7

def k0_cond2 (i : grid0.Coords) : BitVec 1 :=
  let arg0 : BitVec 32 := BitVec.ofNat 32 (i 0).val
  let c0_i32 : BitVec 32 := 0#32
  let v4 : BitVec 1 := Scalar.cmpi .eq arg0 c0_i32
  let v_true : BitVec 1 := 1#1
  let v8 : BitVec 1 := Scalar.xori v4 v_true
  let v9 : BitVec 32 := Scalar.extui v8
  let c0_i32_6 : BitVec 32 := 0#32
  let v10 : BitVec 1 := Scalar.cmpi .ne v9 c0_i32_6
  v10

def k0_cond3 (i : grid0.Coords) : BitVec 1 :=
  let arg0 : BitVec 32 := BitVec.ofNat 32 (i 0).val
  let c0_i32 : BitVec 32 := 0#32
  let v4 : BitVec 1 := Scalar.cmpi .eq arg0 c0_i32
  let v12 : BitVec 32 := Scalar.extui v4
  let c0_i32_7 : BitVec 32 := 0#32
  let v13 : BitVec 1 := Scalar.cmpi .ne v12 c0_i32_7
  v13

def k0_cond4 (i : grid0.Coords) : BitVec 1 :=
  let arg0 : BitVec 32 := BitVec.ofNat 32 (i 0).val
  let c0_i32 : BitVec 32 := 0#32
  let v4 : BitVec 1 := Scalar.cmpi .eq arg0 c0_i32
  let true_8 : BitVec 1 := 1#1
  let v14 : BitVec 1 := Scalar.xori v4 true_8
  let v15 : BitVec 32 := Scalar.extui v14
  let c0_i32_10 : BitVec 32 := 0#32
  let v16 : BitVec 1 := Scalar.cmpi .ne v15 c0_i32_10
  v16

def k0_cond5 (i : grid0.Coords) : BitVec 1 :=
  let arg0 : BitVec 32 := BitVec.ofNat 32 (i 0).val
  let c0_i32 : BitVec 32 := 0#32
  let v4 : BitVec 1 := Scalar.cmpi .eq arg0 c0_i32
  let v18 : BitVec 32 := Scalar.extui v4
  let c0_i32_11 : BitVec 32 := 0#32
  let v19 : BitVec 1 := Scalar.cmpi .ne v18 c0_i32_11
  v19

def k0_cond6 (i : grid0.Coords) : BitVec 1 :=
  let arg0 : BitVec 32 := BitVec.ofNat 32 (i 0).val
  let c0_i32 : BitVec 32 := 0#32
  let v4 : BitVec 1 := Scalar.cmpi .eq arg0 c0_i32
  let true_12 : BitVec 1 := 1#1
  let v20 : BitVec 1 := Scalar.xori v4 true_12
  let v21 : BitVec 32 := Scalar.extui v20
  let c0_i32_14 : BitVec 32 := 0#32
  let v22 : BitVec 1 := Scalar.cmpi .ne v21 c0_i32_14
  v22

def k0_cond7 (i : grid0.Coords) : BitVec 1 :=
  let arg0 : BitVec 32 := BitVec.ofNat 32 (i 0).val
  let c0_i32 : BitVec 32 := 0#32
  let v4 : BitVec 1 := Scalar.cmpi .eq arg0 c0_i32
  let v24 : BitVec 32 := Scalar.extui v4
  let c0_i32_15 : BitVec 32 := 0#32
  let v25 : BitVec 1 := Scalar.cmpi .ne v24 c0_i32_15
  v25

def k0_cond8 (i : grid0.Coords) : BitVec 1 :=
  let arg0 : BitVec 32 := BitVec.ofNat 32 (i 0).val
  let c0_i32 : BitVec 32 := 0#32
  let v4 : BitVec 1 := Scalar.cmpi .eq arg0 c0_i32
  let true_16 : BitVec 1 := 1#1
  let v26 : BitVec 1 := Scalar.xori v4 true_16
  let v27 : BitVec 32 := Scalar.extui v26
  let c0_i32_18 : BitVec 32 := 0#32
  let v28 : BitVec 1 := Scalar.cmpi .ne v27 c0_i32_18
  v28

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference23Ideal.lean ====
abbrev S8192x256 : Shape := ⟨2, ![8192, 256]⟩
abbrev S4096x1024 : Shape := ⟨2, ![4096, 1024]⟩
abbrev S_ : Shape := ⟨0, ![]⟩
abbrev S256x1024 : Shape := ⟨2, ![256, 1024]⟩
abbrev S4096x256 : Shape := ⟨2, ![4096, 256]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 11
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x256, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S256x4x256, .f32⟩
  | .hbm, ⟨10, _⟩ => ⟨S4x256x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel24.lean ====
abbrev S4096x3072 : Shape := ⟨2, ![4096, 3072]⟩
abbrev S16x513 : Shape := ⟨2, ![16, 513]⟩
abbrev S_ : Shape := ⟨0, ![]⟩
abbrev S4608x3072 : Shape := ⟨2, ![4608, 3072]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S256x768x1 : Shape := ⟨3, ![256, 768, 1]⟩
abbrev S16x256x768 : Shape := ⟨3, ![16, 256, 768]⟩
abbrev S4096x1024 : Shape := ⟨2, ![4096, 1024]⟩
abbrev S256x1024 : Shape := ⟨2, ![256, 1024]⟩
abbrev S256x128 : Shape := ⟨2, ![256, 128]⟩
abbrev S768x128 : Shape := ⟨2, ![768, 128]⟩
abbrev S2x256x768 : Shape := ⟨3, ![2, 256, 768]⟩
abbrev S512x768 : Shape := ⟨2, ![512, 768]⟩
abbrev S512x128 : Shape := ⟨2, ![512, 128]⟩
abbrev S512 : Shape := ⟨1, ![512]⟩
abbrev S512x1 : Shape := ⟨2, ![512, 1]⟩

abbrev nBuf : Space → Nat
  | .hbm => 87
  | .vmem => 17
  | .smem => 0
  | _ => 0

abbrev bufTy : (tb : Table) → Fin (tcTables nBuf tb) → BufTy
  | .hbm, ⟨0, _⟩ => ⟨S4096x3072, .bf16⟩
  | .hbm, ⟨1, _⟩ => ⟨S16x513, .f32⟩
  | .hbm, ⟨2, _⟩ => ⟨S_, .i32⟩
  | .hbm, ⟨3, _⟩ => ⟨S_, .bf16⟩
  | .hbm, ⟨4, _⟩ => ⟨S4608x3072, .bf16⟩
  | .hbm, ⟨5, _⟩ => ⟨S256, .i32⟩
  | .hbm, ⟨6, _⟩ => ⟨S256x1, .i32⟩
  | .hbm, ⟨7, _⟩ => ⟨S768, .i32⟩
  | .hbm, ⟨8, _⟩ => ⟨S1x768, .i32⟩
  | .hbm, ⟨9, _⟩ => ⟨S_, .i32⟩
  | .hbm, ⟨10, _⟩ => ⟨S256x1, .i32⟩
  | .hbm, ⟨11, _⟩ => ⟨S256x1, .i32⟩
  | .hbm, ⟨12, _⟩ => ⟨S256x768, .i32⟩
  | .hbm, ⟨13, _⟩ => ⟨S256x768, .i32⟩
  | .hbm, ⟨14, _⟩ => ⟨S256x768, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S256x768, .i32⟩
  | .hbm, ⟨19, _⟩ => ⟨S256x768, .i32⟩
  | .hbm, ⟨20, _⟩ => ⟨S_, .i32⟩
  | .hbm, ⟨21, _⟩ => ⟨S256x768, .i32⟩
  | .hbm, ⟨22, _⟩ => ⟨S256x768, .i32⟩
  | .hbm, ⟨23, _⟩ => ⟨S_, .i32⟩
  | .hbm, ⟨24, _⟩ => ⟨S256x768, .i32⟩
  | .hbm, ⟨25, _⟩ => ⟨S256x768, .i32⟩
  | .hbm, ⟨26, _⟩ => ⟨S_, .i32⟩
  | .hbm, ⟨27, _⟩ => ⟨S_, .i32⟩
  | .hbm, ⟨28, _⟩ => ⟨S256x1, .i32⟩
  | .hbm, ⟨29, _⟩ => ⟨S256x1, .i32⟩
  | .hbm, ⟨30, _⟩ => ⟨S256x1, .i32⟩
  | .hbm, ⟨31, _⟩ => ⟨S_, .i32⟩
  | .hbm, ⟨32, _⟩ => ⟨S256x1, .i32⟩
  | .hbm, ⟨33, _⟩ => ⟨S256x1, .i1⟩
  | .hbm, ⟨34, _⟩ => ⟨S256x1, .i32⟩
  | .hbm, ⟨35, _⟩ => ⟨S256x1, .i32⟩
  | .hbm, ⟨36, _⟩ => ⟨S_, .i32⟩
  | .hbm, ⟨37, _⟩ => ⟨S256x1, .i32⟩
  | .hbm, ⟨38, _⟩ => ⟨S256x1, .i1⟩
  | .hbm, ⟨39, _⟩ => ⟨S256x1, .i1⟩
  | .hbm, ⟨40, _⟩ => ⟨S_, .i32⟩
  | .hbm, ⟨41, _⟩ => ⟨S256x1, .i32⟩
  | .hbm, ⟨42, _⟩ => ⟨S256x1, .i32⟩
  | .hbm, ⟨43, _⟩ => ⟨S256x1, .i32⟩
  | .hbm, ⟨44, _⟩ => ⟨S_, .i32⟩
  | .hbm, ⟨45, _⟩ => ⟨S_, .i32⟩
  | .hbm, ⟨46, _⟩ => ⟨S1x768, .i32⟩
  | .hbm, ⟨47, _⟩ => ⟨S1x768, .i32⟩
  | .hbm, ⟨48, _⟩ => ⟨S1x768, .i32⟩
  | .hbm, ⟨49, _⟩ => ⟨S_, .i32⟩
  | .hbm, ⟨50, _⟩ => ⟨S1x768, .i32⟩
  | .hbm, ⟨51, _⟩ => ⟨S1x768, .i1⟩
  | .hbm, ⟨52, _⟩ => ⟨S1x768, .i32⟩
  | .hbm, ⟨53, _⟩ => ⟨S1x768, .i32⟩
  | .hbm, ⟨54, _⟩ => ⟨S_, .i32⟩
  | .hbm, ⟨55, _⟩ => ⟨S1x768, .i32⟩
  | .hbm, ⟨56, _⟩ => ⟨S1x768, .i1⟩
  | .hbm, ⟨57, _⟩ => ⟨S1x768, .i1⟩
  | .hbm, ⟨58, _⟩ => ⟨S_, .i32⟩
  | .hbm, ⟨59, _⟩ => ⟨S1x768, .i32⟩
  | .hbm, ⟨60, _⟩ => ⟨S1x768, .i32⟩
  | .hbm, ⟨61, _⟩ => ⟨S1x768, .i32⟩
  | .hbm, ⟨62, _⟩ => ⟨S256x768, .i32⟩
  | .hbm, ⟨63, _⟩ => ⟨S256x768, .i32⟩
  | .hbm, ⟨64, _⟩ => ⟨S256x768, .i1⟩
  | .hbm, ⟨65, _⟩ => ⟨S_, .i32⟩
  | .hbm, ⟨66, _⟩ => ⟨S256x1, .i32⟩
  | .hbm, ⟨67, _⟩ => ⟨S256x1, .i32⟩
  | .hbm, ⟨68, _⟩ => ⟨S256x768, .i32⟩
  | .hbm, ⟨69, _⟩ => ⟨S256x768, .i32⟩
  | .hbm, ⟨70, _⟩ => ⟨S256x768, .i1⟩
  | .hbm, ⟨71, _⟩ => ⟨S256x768, .i1⟩
  | .hbm, ⟨72, _⟩ => ⟨S_, .i32⟩
  | .hbm, ⟨73, _⟩ => ⟨S256x768, .i32⟩
  | .hbm, ⟨74, _⟩ => ⟨S256x768, .i1⟩
  | .hbm, ⟨75, _⟩ => ⟨S_, .i32⟩
  | .hbm, ⟨76, _⟩ => ⟨S256x768, .i32⟩
  | .hbm, ⟨77, _⟩ => ⟨S256x768, .i32⟩
  | .hbm, ⟨78, _⟩ => ⟨S256x768, .i32⟩
  | .hbm, ⟨79, _⟩ => ⟨S256x768x1, .i32⟩
  | .hbm, ⟨80, _⟩ => ⟨S16x256x768, .f32⟩
  | .hbm, ⟨81, _⟩ => ⟨S_, .f32⟩
  | .hbm, ⟨82, _⟩ => ⟨S_, .f32⟩
  | .hbm, ⟨83, _⟩ => ⟨S16x256x768, .i1⟩
  | .hbm, ⟨84, _⟩ => ⟨S16x256x768, .f32⟩
  | .hbm, ⟨85, _⟩ => ⟨S16x256x768, .f32⟩
  | .hbm, ⟨86, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S16x256x768, .f32⟩
  | .local _ .vmem, ⟨15, _⟩ => ⟨S256x1024, .bf16⟩
  | .local _ .vmem, ⟨16, _⟩ => ⟨S256x1024, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_c_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_v5 : Ref sig .tc := ⟨.hbm, 32, rfl⟩
abbrev main_call2_v6 : Ref sig .tc := ⟨.hbm, 33, rfl⟩
abbrev main_call2_v7 : Ref sig .tc := ⟨.hbm, 34, rfl⟩
abbrev main_call2_v8 : Ref sig .tc := ⟨.hbm, 35, rfl⟩
abbrev main_call2_c : Ref sig .tc := ⟨.hbm, 36, rfl⟩
abbrev main_call2_v9 : Ref sig .tc := ⟨.hbm, 37, rfl⟩
abbrev main_call2_v10 : Ref sig .tc := ⟨.hbm, 38, rfl⟩
abbrev main_call2_v11 : Ref sig .tc := ⟨.hbm, 39, rfl⟩
abbrev main_call2_c_0 : Ref sig .tc := ⟨.hbm, 40, rfl⟩
abbrev main_call2_v12 : Ref sig .tc := ⟨.hbm, 41, rfl⟩
abbrev main_call2_v13 : Ref sig .tc := ⟨.hbm, 42, rfl⟩
abbrev main_v13 : Ref sig .tc := ⟨.hbm, 43, rfl⟩
abbrev main_c_5 : Ref sig .tc := ⟨.hbm, 44, rfl⟩
abbrev main_call3_v0 : Ref sig .tc := ⟨.hbm, 45, rfl⟩
abbrev main_call3_v1 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_call3_v5 : Ref sig .tc := ⟨.hbm, 50, rfl⟩
abbrev main_call3_v6 : Ref sig .tc := ⟨.hbm, 51, rfl⟩
abbrev main_call3_v7 : Ref sig .tc := ⟨.hbm, 52, rfl⟩
abbrev main_call3_v8 : Ref sig .tc := ⟨.hbm, 53, rfl⟩
abbrev main_call3_c : Ref sig .tc := ⟨.hbm, 54, rfl⟩
abbrev main_call3_v9 : Ref sig .tc := ⟨.hbm, 55, rfl⟩
abbrev main_call3_v10 : Ref sig .tc := ⟨.hbm, 56, rfl⟩
abbrev main_call3_v11 : Ref sig .tc := ⟨.hbm, 57, rfl⟩
abbrev main_call3_c_0 : Ref sig .tc := ⟨.hbm, 58, rfl⟩
abbrev main_call3_v12 : Ref sig .tc := ⟨.hbm, 59, rfl⟩
abbrev main_call3_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_c_6 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_c_7 : Ref sig .tc := ⟨.hbm, 72, rfl⟩
abbrev main_v24 : Ref sig .tc := ⟨.hbm, 73, rfl⟩
abbrev main_v25 : Ref sig .tc := ⟨.hbm, 74, rfl⟩
abbrev main_c_8 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_cst : Ref sig .tc := ⟨.hbm, 81, rfl⟩
abbrev main_call4_v0 : Ref sig .tc := ⟨.hbm, 82, rfl⟩
abbrev main_call4_v1 : Ref sig .tc := ⟨.hbm, 83, rfl⟩
abbrev main_call4_v2 : Ref sig .tc := ⟨.hbm, 84, rfl⟩
abbrev main_v31 : Ref sig .tc := ⟨.hbm, 85, rfl⟩
abbrev main_v32 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.addi c1_i32 arg0
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi c1_i32_0 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c1_i32 : BitVec 32 := 1#32
  let v1 : BitVec 32 := Scalar.addi c1_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c2_i32 : BitVec 32 := 2#32
  let v1 : BitVec 32 := Scalar.addi c2_i32 arg0
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.addi c2_i32 arg0
  let c0_i32 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c2_i32_0 : BitVec 32 := 2#32
  let v1 : BitVec 32 := Scalar.addi c2_i32_0 arg0
  let c0_i32 : BitVec 32 := 0#32
  ![v0.toNat, v1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S16x256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel24Ideal.lean ====
variable {F : FTy → Type} [FloatOps F] [Named F]
def κ : String → Option EReal := fun
  | "mask" => some ⊥
  | _ => none
-- ==== Reference24Ideal.lean ====
abbrev S4096x3072 : Shape := ⟨2, ![4096, 3072]⟩
abbrev S16x513 : Shape := ⟨2, ![16, 513]⟩
abbrev S4096x1024 : Shape := ⟨2, ![4096, 1024]⟩
abbrev S4096x16x64 : Shape := ⟨3, ![4096, 16, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x4096x1 : Shape := ⟨3, ![4096, 4096, 1]⟩
abbrev S16x4096x4096 : Shape := ⟨3, ![16, 4096, 4096]⟩
abbrev S16x4096 : Shape := ⟨2, ![16, 4096]⟩
abbrev S16x4096x1 : Shape := ⟨3, ![16, 4096, 1]⟩
abbrev S16x64x4096 : Shape := ⟨3, ![16, 64, 4096]⟩

abbrev nBuf : Space → Nat
  | .hbm => 148
  | .vmem => 0
  | .smem => 0
  | _ => 0

abbrev hbmTy0_0 (i : Nat) : BufTy := match i % 128 with
  | 0 => ⟨S4096x3072, .bf16⟩
  | 1 => ⟨S16x513, .f32⟩
  | 2 => ⟨S4096x1024, .bf16⟩
  | 3 => ⟨S4096x1024, .bf16⟩
  | 4 => ⟨S4096x1024, .bf16⟩
  | 5 => ⟨S4096x1024, .f32⟩
  | 6 => ⟨S4096x16x64, .f32⟩
  | 7 => ⟨S4096x1024, .f32⟩
  | 8 => ⟨S4096x16x64, .f32⟩
  | 9 => ⟨S4096x1024, .f32⟩
  | 10 => ⟨S4096x16x64, .f32⟩
  | 11 => ⟨S4096, .i32⟩
  | 12 => ⟨S4096x1, .i32⟩
  | 13 => ⟨S4096, .i32⟩
  | 14 => ⟨S1x4096, .i32⟩
  | 15 => ⟨S4096x4096, .i32⟩
  | 16 => ⟨S4096x4096, .i32⟩
  | 17 => ⟨S4096x4096, .i32⟩
  | 18 => ⟨S_, .i32⟩
  | 19 => ⟨S_, .i32⟩
  | 20 => ⟨S_, .i32⟩
  | 21 => ⟨S4096x4096, .i32⟩
  | 22 => ⟨S4096x4096, .i32⟩
  | 23 => ⟨S_, .i32⟩
  | 24 => ⟨S4096x4096, .i32⟩
  | 25 => ⟨S4096x4096, .i32⟩
  | 26 => ⟨S_, .i32⟩
  | 27 => ⟨S4096x4096, .i32⟩
  | 28 => ⟨S4096x4096, .i32⟩
  | 29 => ⟨S_, .i32⟩
  | 30 => ⟨S4096x4096, .i32⟩
  | 31 => ⟨S4096x4096, .i1⟩
  | 32 => ⟨S_, .i32⟩
  | 33 => ⟨S4096x4096, .i32⟩
  | 34 => ⟨S4096x4096, .i32⟩
  | 35 => ⟨S4096x4096, .i32⟩
  | 36 => ⟨S4096x4096x1, .i32⟩
  | 37 => ⟨S16x4096x4096, .f32⟩
  | 38 => ⟨S_, .i32⟩
  | 39 => ⟨S_, .i32⟩
  | 40 => ⟨S1x4096, .i32⟩
  | 41 => ⟨S1x4096, .i32⟩
  | 42 => ⟨S1x4096, .i32⟩
  | 43 => ⟨S_, .i32⟩
  | 44 => ⟨S1x4096, .i32⟩
  | 45 => ⟨S1x4096, .i1⟩
  | 46 => ⟨S1x4096, .i32⟩
  | 47 => ⟨S1x4096, .i32⟩
  | 48 => ⟨S_, .i32⟩
  | 49 => ⟨S1x4096, .i32⟩
  | 50 => ⟨S1x4096, .i1⟩
  | 51 => ⟨S1x4096, .i1⟩
  | 52 => ⟨S_, .i32⟩
  | 53 => ⟨S1x4096, .i32⟩
  | 54 => ⟨S1x4096, .i32⟩
  | 55 => ⟨S1x4096, .i32⟩
  | 56 => ⟨S_, .i32⟩
  | 57 => ⟨S_, .i32⟩
  | 58 => ⟨S4096x1, .i32⟩
  | 59 => ⟨S4096x1, .i32⟩
  | 60 => ⟨S4096x1, .i32⟩
  | 61 => ⟨S_, .i32⟩
  | 62 => ⟨S4096x1, .i32⟩
  | 63 => ⟨S4096x1, .i1⟩
  | 64 => ⟨S4096x1, .i32⟩
  | 65 => ⟨S4096x1, .i32⟩
  | 66 => ⟨S_, .i32⟩
  | 67 => ⟨S4096x1, .i32⟩
  | 68 => ⟨S4096x1, .i1⟩
  | 69 => ⟨S4096x1, .i1⟩
  | 70 => ⟨S_, .i32⟩
  | 71 => ⟨S4096x1, .i32⟩
  | 72 => ⟨S4096x1, .i32⟩
  | 73 => ⟨S4096x1, .i32⟩
  | 74 => ⟨S4096x4096, .i32⟩
  | 75 => ⟨S4096x4096, .i32⟩
  | 76 => ⟨S4096x4096, .i1⟩
  | 77 => ⟨S_, .i32⟩
  | 78 => ⟨S_, .i32⟩
  | 79 => ⟨S4096x1, .i32⟩
  | 80 => ⟨S4096x1, .i32⟩
  | 81 => ⟨S4096x1, .i32⟩
  | 82 => ⟨S_, .i32⟩
  | 83 => ⟨S4096x1, .i32⟩
  | 84 => ⟨S4096x1, .i1⟩
  | 85 => ⟨S4096x1, .i32⟩
  | 86 => ⟨S4096x1, .i32⟩
  | 87 => ⟨S_, .i32⟩
  | 88 => ⟨S4096x1, .i32⟩
  | 89 => ⟨S4096x1, .i1⟩
  | 90 => ⟨S4096x1, .i1⟩
  | 91 => ⟨S_, .i32⟩
  | 92 => ⟨S4096x1, .i32⟩
  | 93 => ⟨S4096x1, .i32⟩
  | 94 => ⟨S4096x1, .i32⟩
  | 95 => ⟨S_, .i32⟩
  | 96 => ⟨S_, .i32⟩
  | 97 => ⟨S1x4096, .i32⟩
  | 98 => ⟨S1x4096, .i32⟩
  | 99 => ⟨S1x4096, .i32⟩
  | 100 => ⟨S_, .i32⟩
  | 101 => ⟨S1x4096, .i32⟩
  | 102 => ⟨S1x4096, .i1⟩
  | 103 => ⟨S1x4096, .i32⟩
  | 104 => ⟨S1x4096, .i32⟩
  | 105 => ⟨S_, .i32⟩
  | 106 => ⟨S1x4096, .i32⟩
  | 107 => ⟨S1x4096, .i1⟩
  | 108 => ⟨S1x4096, .i1⟩
  | 109 => ⟨S_, .i32⟩
  | 110 => ⟨S1x4096, .i32⟩
  | 111 => ⟨S1x4096, .i32⟩
  | 112 => ⟨S1x4096, .i32⟩
  | 113 => ⟨S_, .i32⟩
  | 114 => ⟨S1x4096, .i32⟩
  | 115 => ⟨S1x4096, .i32⟩
  | 116 => ⟨S4096x4096, .i32⟩
  | 117 => ⟨S4096x4096, .i32⟩
  | 118 => ⟨S4096x4096, .i1⟩
  | 119 => ⟨S4096x4096, .i1⟩
  | 120 => ⟨S16x4096x4096, .f32⟩
  | 121 => ⟨S_, .f32⟩
  | 122 => ⟨S16x4096x4096, .f32⟩
  | 123 => ⟨S16x4096x4096, .f32⟩
  | 124 => ⟨S16x4096x4096, .f32⟩
  | 125 => ⟨S_, .f32⟩
  | 126 => ⟨S_, .f32⟩
  | 127 => ⟨S16x4096x4096, .i1⟩
  | _ => ⟨S4096x3072, .bf16⟩

abbrev hbmTy0_1 (i : Nat) : BufTy := match i % 128 with
  | 0 => ⟨S16x4096x4096, .f32⟩
  | 1 => ⟨S16x4096x4096, .f32⟩
  | 2 => ⟨S_, .f32⟩
  | 3 => ⟨S16x4096, .f32⟩
  | 4 => ⟨S_, .f32⟩
  | 5 => ⟨S16x4096, .f32⟩
  | 6 => ⟨S16x4096, .f32⟩
  | 7 => ⟨S16x4096x1, .f32⟩
  | 8 => ⟨S16x4096x4096, .f32⟩
  | 9 => ⟨S16x4096x4096, .f32⟩
  | 10 => ⟨S16x4096x4096, .f32⟩
  | 11 => ⟨S_, .f32⟩
  | 12 => ⟨S16x4096, .f32⟩
  | 13 => ⟨S16x4096x1, .f32⟩
  | 14 => ⟨S16x4096x4096, .f32⟩
  | 15 => ⟨S16x4096x4096, .f32⟩
  | 16 => ⟨S16x64x4096, .f32⟩
  | 17 => ⟨S4096x16x64, .f32⟩
  | 18 => ⟨S4096x1024, .f32⟩
  | 19 => ⟨S4096x1024, .bf16⟩
  | _ => ⟨S4096x3072, .bf16⟩

abbrev hbmTy (i : Nat) : BufTy := match i / 128 with
  | 0 => hbmTy0_0 i
  | 1 => hbmTy0_1 i
  | _ => ⟨S4096x3072, .bf16⟩

abbrev bufTy : (tb : Table) → Fin (tcTables nBuf tb) → BufTy
  | .hbm, ⟨i, _⟩ => hbmTy i
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_c : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_0 : Ref sig .tc := ⟨.hbm, 52, rfl⟩
abbrev main_call1_v12 : Ref sig .tc := ⟨.hbm, 53, rfl⟩
abbrev main_call1_v13 : Ref sig .tc := ⟨.hbm, 54, rfl⟩
abbrev main_v26 : Ref sig .tc := ⟨.hbm, 55, rfl⟩
abbrev main_c_5 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_c : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_0 : Ref sig .tc := ⟨.hbm, 70, rfl⟩
abbrev main_call2_v12 : Ref sig .tc := ⟨.hbm, 71, rfl⟩
abbrev main_call2_v13 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_c_6 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_c : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_0 : Ref sig .tc := ⟨.hbm, 91, rfl⟩
abbrev main_call3_v12 : Ref sig .tc := ⟨.hbm, 92, rfl⟩
abbrev main_call3_v13 : Ref sig .tc := ⟨.hbm, 93, rfl⟩
abbrev main_v31 : Ref sig .tc := ⟨.hbm, 94, rfl⟩
abbrev main_c_7 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_v5 : Ref sig .tc := ⟨.hbm, 101, rfl⟩
abbrev main_call4_v6 : Ref sig .tc := ⟨.hbm, 102, rfl⟩
abbrev main_call4_v7 : Ref sig .tc := ⟨.hbm, 103, rfl⟩
abbrev main_call4_v8 : Ref sig .tc := ⟨.hbm, 104, rfl⟩
abbrev main_call4_c : Ref sig .tc := ⟨.hbm, 105, rfl⟩
abbrev main_call4_v9 : Ref sig .tc := ⟨.hbm, 106, rfl⟩
abbrev main_call4_v10 : Ref sig .tc := ⟨.hbm, 107, rfl⟩
abbrev main_call4_v11 : Ref sig .tc := ⟨.hbm, 108, rfl⟩
abbrev main_call4_c_0 : Ref sig .tc := ⟨.hbm, 109, rfl⟩
abbrev main_call4_v12 : Ref sig .tc := ⟨.hbm, 110, rfl⟩
abbrev main_call4_v13 : Ref sig .tc := ⟨.hbm, 111, rfl⟩
abbrev main_v32 : Ref sig .tc := ⟨.hbm, 112, rfl⟩
abbrev main_c_8 : Ref sig .tc := ⟨.hbm, 113, rfl⟩
abbrev main_v33 : Ref sig .tc := ⟨.hbm, 114, rfl⟩
abbrev main_v34 : Ref sig .tc := ⟨.hbm, 115, rfl⟩
abbrev main_v35 : Ref sig .tc := ⟨.hbm, 116, rfl⟩
abbrev main_v36 : Ref sig .tc := ⟨.hbm, 117, rfl⟩
abbrev main_v37 : Ref sig .tc := ⟨.hbm, 118, rfl⟩
abbrev main_v38 : Ref sig .tc := ⟨.hbm, 119, rfl⟩
abbrev main_v39 : Ref sig .tc := ⟨.hbm, 120, rfl⟩
abbrev main_cst : Ref sig .tc := ⟨.hbm, 121, rfl⟩
abbrev main_v40 : Ref sig .tc := ⟨.hbm, 122, rfl⟩
abbrev main_v41 : Ref sig .tc := ⟨.hbm, 123, rfl⟩
abbrev main_v42 : Ref sig .tc := ⟨.hbm, 124, rfl⟩
abbrev main_cst_9 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v43 : Ref sig .tc := ⟨.hbm, 129, rfl⟩
abbrev main_cst_10 : Ref sig .tc := ⟨.hbm, 130, rfl⟩
abbrev main_v44 : Ref sig .tc := ⟨.hbm, 131, rfl⟩
abbrev main_cst_11 : Ref sig .tc := ⟨.hbm, 132, rfl⟩
abbrev main_v45 : Ref sig .tc := ⟨.hbm, 133, rfl⟩
abbrev main_v46 : Ref sig .tc := ⟨.hbm, 134, rfl⟩
abbrev main_v47 : Ref sig .tc := ⟨.hbm, 135, rfl⟩
abbrev main_v48 : Ref sig .tc := ⟨.hbm, 136, rfl⟩
abbrev main_v49 : Ref sig .tc := ⟨.hbm, 137, rfl⟩
abbrev main_v50 : Ref sig .tc := ⟨.hbm, 138, rfl⟩
abbrev main_cst_12 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩

abbrev nD : Nat := 1
abbrev τ : Topo := Topo.v7x

variable {F : FTy → Type} [FloatOps F]
-- ==== Kernel25.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x128 : Shape := ⟨2, ![4096, 128]⟩
abbrev S512x1024 : Shape := ⟨2, ![512, 1024]⟩
abbrev S512x128 : Shape := ⟨2, ![512, 128]⟩
abbrev S512x1 : Shape := ⟨2, ![512, 1]⟩
abbrev S512 : Shape := ⟨1, ![512]⟩
abbrev S1024 : Shape := ⟨1, ![1024]⟩

abbrev nBuf : Space → Nat
  | .hbm => 32
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x128, .f32⟩
  | .hbm, ⟨29, _⟩ => ⟨S4096x1024, .f32⟩
  | .hbm, ⟨30, _⟩ => ⟨S1x1024, .f32⟩
  | .hbm, ⟨31, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x128, .f32⟩
  | .local _ .vmem, ⟨9, _⟩ => ⟨S512x128, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v39 : BitVec 32 := Scalar.extui v0
  let c0_i32_20 : BitVec 32 := 0#32
  let v40 : BitVec 1 := Scalar.cmpi .ne v39 c0_i32_20
  v40

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v41 : BitVec 1 := Scalar.xori v0 v_true
  let v42 : BitVec 32 := Scalar.extui v41
  let c0_i32_21 : BitVec 32 := 0#32
  let v43 : BitVec 1 := Scalar.cmpi .ne v42 c0_i32_21
  v43

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v46 : BitVec 32 := Scalar.extui v0
  let c0_i32_23 : BitVec 32 := 0#32
  let v47 : BitVec 1 := Scalar.cmpi .ne v46 c0_i32_23
  v47

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_24 : BitVec 1 := 1#1
  let v48 : BitVec 1 := Scalar.xori v0 true_24
  let v49 : BitVec 32 := Scalar.extui v48
  let c0_i32_25 : BitVec 32 := 0#32
  let v50 : BitVec 1 := Scalar.cmpi .ne v49 c0_i32_25
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference25Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S1x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel26.lean ====
abbrev S1x1024x384 : Shape := ⟨3, ![1, 1024, 384]⟩
abbrev S1024x384 : Shape := ⟨2, ![1024, 384]⟩
abbrev S1x256x384 : Shape := ⟨3, ![1, 256, 384]⟩
abbrev S256x384 : Shape := ⟨2, ![256, 384]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x384, .f32⟩
  | .hbm, ⟨1, _⟩ => ⟨S1024x384, .f32⟩
  | .hbm, ⟨2, _⟩ => ⟨S1x1024x384, .f32⟩
  | .hbm, ⟨3, _⟩ => ⟨S1x1024x384, .f32⟩
  | .hbm, ⟨4, _⟩ => ⟨S1x1024x384, .f32⟩
  | .hbm, ⟨5, _⟩ => ⟨S1x1024x384, .f32⟩
  | .hbm, ⟨6, _⟩ => ⟨S1x1024x384, .f32⟩
  | .local _ .vmem, ⟨0, _⟩ => ⟨S1x256x384, .f32⟩
  | .local _ .vmem, ⟨1, _⟩ => ⟨S1x256x384, .f32⟩
  | .local _ .vmem, ⟨2, _⟩ => ⟨S1x256x384, .f32⟩
  | .local _ .vmem, ⟨3, _⟩ => ⟨S1x256x384, .f32⟩
  | .local _ .vmem, ⟨4, _⟩ => ⟨S1x256x384, .f32⟩
  | .local _ .vmem, ⟨5, _⟩ => ⟨S1x256x384, .f32⟩
  | .local _ .vmem, ⟨6, _⟩ => ⟨S256x384, .f32⟩
  | .local _ .vmem, ⟨7, _⟩ => ⟨S256x384, .f32⟩
  | .local _ .vmem, ⟨8, _⟩ => ⟨S1x256x384, .f32⟩
  | .local _ .vmem, ⟨9, _⟩ => ⟨S1x256x384, .f32⟩
  | .local _ .vmem, ⟨10, _⟩ => ⟨S1x256x384, .f32⟩
  | .local _ .vmem, ⟨11, _⟩ => ⟨S1x256x384, .f32⟩
  | .local _ .vmem, ⟨12, _⟩ => ⟨S1x256x384, .f32⟩
  | .local _ .vmem, ⟨13, _⟩ => ⟨S1x256x384, .f32⟩
  | _, _ => ⟨S1x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference26Ideal.lean ====
abbrev S1x1024x384 : Shape := ⟨3, ![1, 1024, 384]⟩
abbrev S1024x384 : Shape := ⟨2, ![1024, 384]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1024x384, .f32⟩
  | .hbm, ⟨1, _⟩ => ⟨S1024x384, .f32⟩
  | .hbm, ⟨2, _⟩ => ⟨S1x1024x384, .f32⟩
  | .hbm, ⟨3, _⟩ => ⟨S1x1024x384, .f32⟩
  | .hbm, ⟨4, _⟩ => ⟨S1x1024x384, .f32⟩
  | .hbm, ⟨5, _⟩ => ⟨S_, .f32⟩
  | .hbm, ⟨6, _⟩ => ⟨S1x1024x384, .f32⟩
  | .hbm, ⟨7, _⟩ => ⟨S1x1024x384, .f32⟩
  | .hbm, ⟨8, _⟩ => ⟨S_, .f32⟩
  | .hbm, ⟨9, _⟩ => ⟨S1x1024x384, .f32⟩
  | .hbm, ⟨10, _⟩ => ⟨S1x1024x384, .f32⟩
  | .hbm, ⟨11, _⟩ => ⟨S1x1024x384, .f32⟩
  | .hbm, ⟨12, _⟩ => ⟨S_, .f32⟩
  | .hbm, ⟨13, _⟩ => ⟨S1x1024x384, .f32⟩
  | .hbm, ⟨14, _⟩ => ⟨S1x1024x384, .f32⟩
  | .hbm, ⟨15, _⟩ => ⟨S1x1024x384, .f32⟩
  | .hbm, ⟨16, _⟩ => ⟨S_, .f32⟩
  | .hbm, ⟨17, _⟩ => ⟨S1x1024x384, .f32⟩
  | .hbm, ⟨18, _⟩ => ⟨S1x1024x384, .f32⟩
  | .hbm, ⟨19, _⟩ => ⟨S1x1024x384, .f32⟩
  | .hbm, ⟨20, _⟩ => ⟨S_, .f32⟩
  | .hbm, ⟨21, _⟩ => ⟨S1x1024x384, .f32⟩
  | .hbm, ⟨22, _⟩ => ⟨S1x1024x384, .f32⟩
  | .hbm, ⟨23, _⟩ => ⟨S_, .f32⟩
  | .hbm, ⟨24, _⟩ => ⟨S1x1024x384, .f32⟩
  | .hbm, ⟨25, _⟩ => ⟨S1x1024x384, .f32⟩
  | .hbm, ⟨26, _⟩ => ⟨S1x1024x384, .f32⟩
  | .hbm, ⟨27, _⟩ => ⟨S_, .f32⟩
  | .hbm, ⟨28, _⟩ => ⟨S1x1024x384, .f32⟩
  | .hbm, ⟨29, _⟩ => ⟨S1x1024x384, .f32⟩
  | .hbm, ⟨30, _⟩ => ⟨S1x1024x384, .f32⟩
  | .hbm, ⟨31, _⟩ => ⟨S_, .f32⟩
  | .hbm, ⟨32, _⟩ => ⟨S1x1024x384, .f32⟩
  | .hbm, ⟨33, _⟩ => ⟨S1x1024x384, .f32⟩
  | .hbm, ⟨34, _⟩ => ⟨S1x1024x384, .f32⟩
  | .hbm, ⟨35, _⟩ => ⟨S_, .f32⟩
  | .hbm, ⟨36, _⟩ => ⟨S1x1024x384, .f32⟩
  | .hbm, ⟨37, _⟩ => ⟨S1x1024x384, .f32⟩
  | _, _ => ⟨S1x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel27.lean ====
abbrev S2x1024x1408 : Shape := ⟨3, ![2, 1024, 1408]⟩
abbrev S1024x1408 : Shape := ⟨2, ![1024, 1408]⟩
abbrev S1x256x1408 : Shape := ⟨3, ![1, 256, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2x1024x1408, .f32⟩
  | .hbm, ⟨1, _⟩ => ⟨S1024x1408, .f32⟩
  | .hbm, ⟨2, _⟩ => ⟨S1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference27Ideal.lean ====
abbrev S2x1024x1408 : Shape := ⟨3, ![2, 1024, 1408]⟩
abbrev S1024x1408 : Shape := ⟨2, ![1024, 1408]⟩
abbrev S1x1024x1408 : Shape := ⟨3, ![1, 1024, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S1024x1408, .f32⟩
  | .hbm, ⟨2, _⟩ => ⟨S1024x1408, .f32⟩
  | .hbm, ⟨3, _⟩ => ⟨S2x1024x1408, .f32⟩
  | .hbm, ⟨4, _⟩ => ⟨S2x1024x1408, .f32⟩
  | .hbm, ⟨5, _⟩ => ⟨S1x1024x1408, .f32⟩
  | .hbm, ⟨6, _⟩ => ⟨S1x1024x1408, .f32⟩
  | .hbm, ⟨7, _⟩ => ⟨S2x1024x1408, .f32⟩
  | .hbm, ⟨8, _⟩ => ⟨S_, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S2x1024x1408, .f32⟩
  | .hbm, ⟨23, _⟩ => ⟨S_, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2x1024x1408, .f32⟩
  | .hbm, ⟨38, _⟩ => ⟨S_, .f32⟩
  | .hbm, ⟨39, _⟩ => ⟨S2x1024x1408, .f32⟩
  | .hbm, ⟨40, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel28.lean ====
abbrev S1x256x1024 : Shape := ⟨3, ![1, 256, 1024]⟩
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference28Ideal.lean ====
abbrev S1x256x1024 : Shape := ⟨3, ![1, 256, 1024]⟩
abbrev S256x1024 : Shape := ⟨2, ![256, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S_, .f32⟩
  | .hbm, ⟨6, _⟩ => ⟨S1x256x1024, .f32⟩
  | .hbm, ⟨7, _⟩ => ⟨S1x256x1024, .f32⟩
  | .hbm, ⟨8, _⟩ => ⟨S_, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S_, .f32⟩
  | .hbm, ⟨13, _⟩ => ⟨S1x256x1024, .f32⟩
  | .hbm, ⟨14, _⟩ => ⟨S1x256x1024, .f32⟩
  | .hbm, ⟨15, _⟩ => ⟨S1x256x1024, .f32⟩
  | .hbm, ⟨16, _⟩ => ⟨S_, .f32⟩
  | .hbm, ⟨17, _⟩ => ⟨S1x256x1024, .f32⟩
  | .hbm, ⟨18, _⟩ => ⟨S1x256x1024, .f32⟩
  | .hbm, ⟨19, _⟩ => ⟨S1x256x1024, .f32⟩
  | .hbm, ⟨20, _⟩ => ⟨S_, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S1x256x1024, .f32⟩
  | .hbm, ⟨27, _⟩ => ⟨S_, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S_, .f32⟩
  | .hbm, ⟨32, _⟩ => ⟨S1x256x1024, .f32⟩
  | .hbm, ⟨33, _⟩ => ⟨S1x256x1024, .f32⟩
  | .hbm, ⟨34, _⟩ => ⟨S1x256x1024, .f32⟩
  | .hbm, ⟨35, _⟩ => ⟨S_, .f32⟩
  | .hbm, ⟨36, _⟩ => ⟨S1x256x1024, .f32⟩
  | .hbm, ⟨37, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel29.lean ====
abbrev S1x1024x768 : Shape := ⟨3, ![1, 1024, 768]⟩
abbrev S1024x768 : Shape := ⟨2, ![1024, 768]⟩
abbrev S1x256x768 : Shape := ⟨3, ![1, 256, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x768, .f32⟩
  | .hbm, ⟨1, _⟩ => ⟨S1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S256x768, .f32⟩
  | .local _ .vmem, ⟨7, _⟩ => ⟨S256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference29Ideal.lean ====
abbrev S1x1024x768 : Shape := ⟨3, ![1, 1024, 768]⟩
abbrev S1024x768 : Shape := ⟨2, ![1024, 768]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S_, .f32⟩
  | .hbm, ⟨6, _⟩ => ⟨S1x1024x768, .f32⟩
  | .hbm, ⟨7, _⟩ => ⟨S1x1024x768, .f32⟩
  | .hbm, ⟨8, _⟩ => ⟨S_, .f32⟩
  | .hbm, ⟨9, _⟩ => ⟨S1x1024x768, .f32⟩
  | .hbm, ⟨10, _⟩ => ⟨S1x1024x768, .f32⟩
  | .hbm, ⟨11, _⟩ => ⟨S1x1024x768, .f32⟩
  | .hbm, ⟨12, _⟩ => ⟨S_, .f32⟩
  | .hbm, ⟨13, _⟩ => ⟨S1x1024x768, .f32⟩
  | .hbm, ⟨14, _⟩ => ⟨S1x1024x768, .f32⟩
  | .hbm, ⟨15, _⟩ => ⟨S1x1024x768, .f32⟩
  | .hbm, ⟨16, _⟩ => ⟨S_, .f32⟩
  | .hbm, ⟨17, _⟩ => ⟨S1x1024x768, .f32⟩
  | .hbm, ⟨18, _⟩ => ⟨S1x1024x768, .f32⟩
  | .hbm, ⟨19, _⟩ => ⟨S1x1024x768, .f32⟩
  | .hbm, ⟨20, _⟩ => ⟨S_, .f32⟩
  | .hbm, ⟨21, _⟩ => ⟨S1x1024x768, .f32⟩
  | .hbm, ⟨22, _⟩ => ⟨S1x1024x768, .f32⟩
  | .hbm, ⟨23, _⟩ => ⟨S_, .f32⟩
  | .hbm, ⟨24, _⟩ => ⟨S1x1024x768, .f32⟩
  | .hbm, ⟨25, _⟩ => ⟨S1x1024x768, .f32⟩
  | .hbm, ⟨26, _⟩ => ⟨S1x1024x768, .f32⟩
  | .hbm, ⟨27, _⟩ => ⟨S_, .f32⟩
  | .hbm, ⟨28, _⟩ => ⟨S1x1024x768, .f32⟩
  | .hbm, ⟨29, _⟩ => ⟨S1x1024x768, .f32⟩
  | .hbm, ⟨30, _⟩ => ⟨S1x1024x768, .f32⟩
  | .hbm, ⟨31, _⟩ => ⟨S_, .f32⟩
  | .hbm, ⟨32, _⟩ => ⟨S1x1024x768, .f32⟩
  | .hbm, ⟨33, _⟩ => ⟨S1x1024x768, .f32⟩
  | .hbm, ⟨34, _⟩ => ⟨S1x1024x768, .f32⟩
  | .hbm, ⟨35, _⟩ => ⟨S_, .f32⟩
  | .hbm, ⟨36, _⟩ => ⟨S1x1024x768, .f32⟩
  | .hbm, ⟨37, _⟩ => ⟨S1x1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel30.lean ====
abbrev S2x704x1024 : Shape := ⟨3, ![2, 704, 1024]⟩
abbrev S704x1024 : Shape := ⟨2, ![704, 1024]⟩
abbrev S1x176x1024 : Shape := ⟨3, ![1, 176, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x704x1024, .f32⟩
  | .hbm, ⟨1, _⟩ => ⟨S704x1024, .f32⟩
  | .hbm, ⟨2, _⟩ => ⟨S704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference30Ideal.lean ====
abbrev S2x704x1024 : Shape := ⟨3, ![2, 704, 1024]⟩
abbrev S704x1024 : Shape := ⟨2, ![704, 1024]⟩
abbrev S1x704x1024 : Shape := ⟨3, ![1, 704, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S704x1024, .f32⟩
  | .hbm, ⟨2, _⟩ => ⟨S704x1024, .f32⟩
  | .hbm, ⟨3, _⟩ => ⟨S2x704x1024, .f32⟩
  | .hbm, ⟨4, _⟩ => ⟨S2x704x1024, .f32⟩
  | .hbm, ⟨5, _⟩ => ⟨S1x704x1024, .f32⟩
  | .hbm, ⟨6, _⟩ => ⟨S1x704x1024, .f32⟩
  | .hbm, ⟨7, _⟩ => ⟨S2x704x1024, .f32⟩
  | .hbm, ⟨8, _⟩ => ⟨S_, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S2x704x1024, .f32⟩
  | .hbm, ⟨23, _⟩ => ⟨S_, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S2x704x1024, .f32⟩
  | .hbm, ⟨38, _⟩ => ⟨S_, .f32⟩
  | .hbm, ⟨39, _⟩ => ⟨S2x704x1024, .f32⟩
  | .hbm, ⟨40, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel31.lean ====
abbrev S2x256x256 : Shape := ⟨3, ![2, 256, 256]⟩
abbrev S256x256 : Shape := ⟨2, ![256, 256]⟩
abbrev S1x256x256 : Shape := ⟨3, ![1, 256, 256]⟩

abbrev nBuf : Space → Nat
  | .hbm => 8
  | .vmem => 14
  | .smem => 0
  | _ => 0

abbrev bufTy : (tb : Table) → Fin (tcTables nBuf tb) → BufTy
  | .hbm, ⟨0, _⟩ => ⟨S2x256x256, .f32⟩
  | .hbm, ⟨1, _⟩ => ⟨S256x256, .f32⟩
  | .hbm, ⟨2, _⟩ => ⟨S256x256, .f32⟩
  | .hbm, ⟨3, _⟩ => ⟨S2x256x256, .f32⟩
  | .hbm, ⟨4, _⟩ => ⟨S2x256x256, .f32⟩
  | .hbm, ⟨5, _⟩ => ⟨S2x256x256, .f32⟩
  | .hbm, ⟨6, _⟩ => ⟨S2x256x256, .f32⟩
  | .hbm, ⟨7, _⟩ => ⟨S2x256x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S256x256, .f32⟩
  | .local _ .vmem, ⟨7, _⟩ => ⟨S256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference31Ideal.lean ====
abbrev S2x256x256 : Shape := ⟨3, ![2, 256, 256]⟩
abbrev S256x256 : Shape := ⟨2, ![256, 256]⟩
abbrev S1x256x256 : Shape := ⟨3, ![1, 256, 256]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S256x256, .f32⟩
  | .hbm, ⟨2, _⟩ => ⟨S256x256, .f32⟩
  | .hbm, ⟨3, _⟩ => ⟨S2x256x256, .f32⟩
  | .hbm, ⟨4, _⟩ => ⟨S2x256x256, .f32⟩
  | .hbm, ⟨5, _⟩ => ⟨S1x256x256, .f32⟩
  | .hbm, ⟨6, _⟩ => ⟨S1x256x256, .f32⟩
  | .hbm, ⟨7, _⟩ => ⟨S2x256x256, .f32⟩
  | .hbm, ⟨8, _⟩ => ⟨S_, .f32⟩
  | .hbm, ⟨9, _⟩ => ⟨S2x256x256, .f32⟩
  | .hbm, ⟨10, _⟩ => ⟨S2x256x256, .f32⟩
  | .hbm, ⟨11, _⟩ => ⟨S_, .f32⟩
  | .hbm, ⟨12, _⟩ => ⟨S2x256x256, .f32⟩
  | .hbm, ⟨13, _⟩ => ⟨S2x256x256, .f32⟩
  | .hbm, ⟨14, _⟩ => ⟨S2x256x256, .f32⟩
  | .hbm, ⟨15, _⟩ => ⟨S_, .f32⟩
  | .hbm, ⟨16, _⟩ => ⟨S2x256x256, .f32⟩
  | .hbm, ⟨17, _⟩ => ⟨S2x256x256, .f32⟩
  | .hbm, ⟨18, _⟩ => ⟨S2x256x256, .f32⟩
  | .hbm, ⟨19, _⟩ => ⟨S_, .f32⟩
  | .hbm, ⟨20, _⟩ => ⟨S2x256x256, .f32⟩
  | .hbm, ⟨21, _⟩ => ⟨S2x256x256, .f32⟩
  | .hbm, ⟨22, _⟩ => ⟨S2x256x256, .f32⟩
  | .hbm, ⟨23, _⟩ => ⟨S_, .f32⟩
  | .hbm, ⟨24, _⟩ => ⟨S2x256x256, .f32⟩
  | .hbm, ⟨25, _⟩ => ⟨S2x256x256, .f32⟩
  | .hbm, ⟨26, _⟩ => ⟨S_, .f32⟩
  | .hbm, ⟨27, _⟩ => ⟨S2x256x256, .f32⟩
  | .hbm, ⟨28, _⟩ => ⟨S2x256x256, .f32⟩
  | .hbm, ⟨29, _⟩ => ⟨S2x256x256, .f32⟩
  | .hbm, ⟨30, _⟩ => ⟨S_, .f32⟩
  | .hbm, ⟨31, _⟩ => ⟨S2x256x256, .f32⟩
  | .hbm, ⟨32, _⟩ => ⟨S2x256x256, .f32⟩
  | .hbm, ⟨33, _⟩ => ⟨S2x256x256, .f32⟩
  | .hbm, ⟨34, _⟩ => ⟨S_, .f32⟩
  | .hbm, ⟨35, _⟩ => ⟨S2x256x256, .f32⟩
  | .hbm, ⟨36, _⟩ => ⟨S2x256x256, .f32⟩
  | .hbm, ⟨37, _⟩ => ⟨S2x256x256, .f32⟩
  | .hbm, ⟨38, _⟩ => ⟨S_, .f32⟩
  | .hbm, ⟨39, _⟩ => ⟨S2x256x256, .f32⟩
  | .hbm, ⟨40, _⟩ => ⟨S2x256x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel32.lean ====
abbrev S2x256x1024 : Shape := ⟨3, ![2, 256, 1024]⟩
abbrev S256x1024 : Shape := ⟨2, ![256, 1024]⟩
abbrev S1x256x1024 : Shape := ⟨3, ![1, 256, 1024]⟩

abbrev nBuf : Space → Nat
  | .hbm => 8
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference32Ideal.lean ====
abbrev S2x256x1024 : Shape := ⟨3, ![2, 256, 1024]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S2x256x1024, .f32⟩
  | .hbm, ⟨4, _⟩ => ⟨S2x256x1024, .f32⟩
  | .hbm, ⟨5, _⟩ => ⟨S1x256x1024, .f32⟩
  | .hbm, ⟨6, _⟩ => ⟨S1x256x1024, .f32⟩
  | .hbm, ⟨7, _⟩ => ⟨S2x256x1024, .f32⟩
  | .hbm, ⟨8, _⟩ => ⟨S_, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S_, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S_, .f32⟩
  | .hbm, ⟨39, _⟩ => ⟨S2x256x1024, .f32⟩
  | .hbm, ⟨40, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.Ideal.Step.lean ====
/- The body of the attention backward kernel as a function of blocks: what one grid point leaves in the query-gradient
   block, in the three carried buffers, and in the two blocks it stores at the last tile of a head group. -/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

/-- The blocks one grid point reads: queries, the three key blocks, the three value blocks, the bias and the cotangent. -/
structure Blocks (F : FTy → Type) [FloatOps F] where
  q : Vec F S256x256 .bf16
  k1 : Vec F S256x256 .bf16
  k2 : Vec F S256x256 .bf16
  k3 : Vec F S256x256 .bf16
  v1 : Vec F S256x256 .bf16
  v2 : Vec F S256x256 .bf16
  v3 : Vec F S256x256 .bf16
  b : Vec F S4x256x768 .f32
  g : Vec F S256x256 .bf16

/-- The lanes of the first pair of heads. -/
def lo (x : Vec F S256x256 .bf16) : Vec F S256x128 .bf16 :=
  View.ld x (Rect.unit ![0, 0] S256x128.size inb_S256x256_S256x128_0_0)

/-- The lanes of the second pair of heads. -/
def hi (x : Vec F S256x256 .bf16) : Vec F S256x128 .bf16 :=
  View.ld x (Rect.unit ![0, 128] S256x128.size inb_S256x256_S256x128_0_128)

/-- The score planes of the first pair of heads. -/
def planeLo (x : Vec F S4x256x768 .f32) : Vec F S2x256x768 .f32 :=
  View.ld x (Rect.unit ![0, 0, 0] S2x256x768.size inb_S4x256x768_S2x256x768_0_0_0)

/-- The score planes of the second pair of heads. -/
def planeHi (x : Vec F S4x256x768 .f32) : Vec F S2x256x768 .f32 :=
  View.ld x (Rect.unit ![2, 0, 0] S2x256x768.size inb_S4x256x768_S2x256x768_2_0_0)

/-- The rows of a window in an accumulator, on the first pair's lanes. -/
def rowsLo (i : grid0.Coords) (x : Vec F S4608x256 .f32) : Vec F S768x128 .f32 :=
  View.ld x (Rect.unit (s := S4608x256) (k0_off1 i) S768x128.size (k0_off1_inb i))

/-- The rows of a window in an accumulator, on the second pair's lanes. -/
def rowsHi (i : grid0.Coords) (x : Vec F S4608x256 .f32) : Vec F S768x128 .f32 :=
  View.ld x (Rect.unit (s := S4608x256) (k0_off2 i) S768x128.size (k0_off2_inb i))

/-- The tile's number as a word. -/
def tileW (i : grid0.Coords) : BitVec 32 := BitVec.ofNat 32 (i 1).val

namespace Blocks

variable (B : Blocks F) (i : grid0.Coords)

/-- First pair: queries, cotangents, keys, probabilities, score gradients. -/
def qA : FVec F S512x128 .bf16 := k0_pay8 (lo B.q)
def gA : FVec F S512x128 .bf16 := k0_pay9 (lo B.g)
def kA : FVec F S768x128 .bf16 := k0_pay10 (lo B.k1) (lo B.k2) (lo B.k3)
def pA : FVec F S512x768 .f32 := k0_pay11 (tileW i) B.qA B.kA (planeLo B.b)
def sA : FVec F S512x768 .f32 := k0_pay12 (tileW i) B.qA B.gA B.kA (lo B.v1) (lo B.v2) (lo B.v3) (planeLo B.b)

/-- Second pair: queries, cotangents, keys, values, scores, probabilities, score gradients. -/
def qB : FVec F S512x128 .bf16 :=
  k0_pay21 (k0_pay18 (hi B.q)) (iota .tc S256x128 32 [1] iota_S256x128_d1_w32) (k0_pay19 (F := F)) k0_pay20
def gB : FVec F S512x128 .bf16 := k0_pay22 (hi B.g)
def kB : FVec F S768x128 .bf16 := k0_pay23 (hi B.k1) (hi B.k2) (hi B.k3)
def vB : FVec F S768x128 .bf16 := k0_pay24 (hi B.v1) (hi B.v2) (hi B.v3)
def zB : FVec F S512x768 .f32 :=
  k0_pay25 (k0_pay18 (hi B.q)) (iota .tc S256x128 32 [1] iota_S256x128_d1_w32) (k0_pay19 (F := F)) k0_pay20
    (hi B.k1) (hi B.k2) (hi B.k3) (planeHi B.b)
def colW : IVec S512x768 32 := iota .tc S512x768 32 [1] iota_S512x768_d1_w32
def startW : BitVec 32 := Scalar.muli (tileW i) 256#32
def pB : FVec F S512x768 .f32 := k0_pay26 B.zB colW (startW i)
def sB : FVec F S512x768 .bf16 := k0_pay29 B.gB B.vB B.zB colW (startW i)

/-- The query gradient of the tile: the two pairs side by side (the block they are put over is hidden). -/
def dq : Vec F S256x256 .bf16 :=
  VecWindow.put (VecWindow.put B.q ![0, 0] S256x128.size (k0_pay15 B.kA (B.sA i)))
    ![0, 128] S256x128.size (k0_pay30 B.gB B.kB B.vB B.zB colW (startW i))

/-- The key-gradient accumulator after the tile. -/
def dk (a : Vec F S4608x256 .f32) : Vec F S4608x256 .f32 :=
  VecWindow.put (VecWindow.put a (k0_off1 i) S768x128.size (k0_pay16 B.qA (B.sA i) (rowsLo i a)))
    (k0_off2 i) S768x128.size (k0_pay1 B.qB (B.sB i) (rowsHi i a))

/-- The value-gradient accumulator after the tile. -/
def dv (a : Vec F S4608x256 .f32) : Vec F S4608x256 .f32 :=
  VecWindow.put (VecWindow.put a (k0_off1 i) S768x128.size (k0_pay17 B.gA (B.pA i) (rowsLo i a)))
    (k0_off2 i) S768x128.size (k0_pay2 B.gB (B.pB i) (rowsHi i a))

/-- The score-gradient planes after the tile. -/
def ds (a : Vec F S4x256x768 .f32) : Vec F S4x256x768 .f32 :=
  VecWindow.put (VecWindow.put a ![0, 0, 0] S2x256x768.size
      (k0_pay13 (tileW i) B.qA B.gA B.kA (lo B.v1) (lo B.v2) (lo B.v3) (planeLo B.b) (planeLo a)))
    ![2, 0, 0] S2x256x768.size (k0_pay28 B.gB B.vB B.zB colW (startW i) (planeHi a))

end Blocks

/-- The rows an accumulator hands out at the last tile. -/
def tail (a : Vec F S4608x256 .f32) : Vec F S4096x256 .f32 :=
  View.ld a (Rect.unit ![512, 0] S4096x256.size inb_S4608x256_S4096x256_512_0)

/-- Two blocks put side by side on the lanes of a query block hide what was there. -/
theorem put_two_lanes (x x' : Vec F S256x256 .bf16) (w w' : Vec F S256x128 .bf16) :
    VecWindow.put (VecWindow.put x ![0, 0] S256x128.size w) ![0, 128] S256x128.size w'
      = VecWindow.put (VecWindow.put x' ![0, 0] S256x128.size w) ![0, 128] S256x128.size w' := by
  funext y
  unfold VecWindow.put
  by_cases h : ∀ a, (![0, 128] : Fin 2 → ℕ) a ≤ (y a).val ∧ (y a).val < (![0, 128] : Fin 2 → ℕ) a + S256x128.size a
  · rw [dif_pos h, dif_pos h]
  · rw [dif_neg h, dif_neg h]
    have h0 : (y 0).val < 256 := (y 0).isLt
    have h1 : (y 1).val < 256 := (y 1).isLt
    have h' : ∀ a, (![0, 0] : Fin 2 → ℕ) a ≤ (y a).val ∧ (y a).val < (![0, 0] : Fin 2 → ℕ) a + S256x128.size a := by
      refine Fin.forall_fin_two.mpr ⟨⟨Nat.zero_le _, ?_⟩, ⟨Nat.zero_le _, ?_⟩⟩
      · show (y 0).val < 0 + 256
        omega
      · show (y 1).val < 0 + 128
        by_contra hc
        refine h (Fin.forall_fin_two.mpr ⟨⟨Nat.zero_le _, ?_⟩, ⟨?_, ?_⟩⟩)
        · show (y 0).val < 0 + 256
          omega
        · show 128 ≤ (y 1).val
          omega
        · show (y 1).val < 128 + 128
          omega
    rw [dif_pos h', dif_pos h']

/-- What the two stores of a query block leave. -/
theorem read_two_lanes {κ : Kind} {sp : Space} (v : View sig κ sp S256x256 .bf16) (f : v.ty.Contents (Elt F))
    (x : Vec F S256x256 .bf16) (w w' : Vec F S256x128 .bf16) :
    v.read (Elt F) (v.writes (Elt F) f
      [⟨Rect.unit ![0, 128] S256x128.size inb_S256x256_S256x128_0_128, w'⟩,
       ⟨Rect.unit ![0, 0] S256x128.size inb_S256x256_S256x128_0_0, w⟩])
      = VecWindow.put (VecWindow.put x ![0, 0] S256x128.size w) ![0, 128] S256x128.size w' := by
  refine (View.read_writes_cons_put v f inb_S256x256_S256x128_0_128 w' _ rfl).trans ?_
  rw [show v.read (Elt F) (v.writes (Elt F) f [⟨Rect.unit ![0, 0] S256x128.size inb_S256x256_S256x128_0_0, w⟩])
    = VecWindow.put (v.read (Elt F) f) ![0, 0] S256x128.size w from
      View.read_writes_cons_put v f inb_S256x256_S256x128_0_0 w [] rfl]
  exact put_two_lanes _ _ _ _

/-- What the two stores of a tile leave in an accumulator. -/
theorem read_two_rows {κ : Kind} {sp : Space} (v : View sig κ sp S4608x256 .f32) (f : v.ty.Contents (Elt F)) (i : grid0.Coords)
    (L : List (View.Piece (Elt F) S4608x256 .f32)) (w w' : Vec F S768x128 .f32) :
    v.read (Elt F) (v.writes (Elt F) f
      (⟨Rect.unit (s := S4608x256) (k0_off2 i) S768x128.size (k0_off2_inb i), w'⟩ ::
       ⟨Rect.unit (s := S4608x256) (k0_off1 i) S768x128.size (k0_off1_inb i), w⟩ :: L))
      = VecWindow.put (VecWindow.put (v.read (Elt F) (v.writes (Elt F) f L)) (k0_off1 i) S768x128.size w)
          (k0_off2 i) S768x128.size w' := by
  refine (View.read_writes_cons_put v f (k0_off2_inb i) w' _ rfl).trans ?_
  exact congrArg (fun z : Vec F S4608x256 .f32 => VecWindow.put z (k0_off2 i) S768x128.size w')
    (View.read_writes_cons_put v f (k0_off1_inb i) w L rfl)

/-- What the first of the two stores leaves on the second pair's lanes. -/
theorem rowsHi_read_one {κ : Kind} {sp : Space} (v : View sig κ sp S4608x256 .f32) (f : v.ty.Contents (Elt F)) (i : grid0.Coords)
    (L : List (View.Piece (Elt F) S4608x256 .f32)) (w : Vec F S768x128 .f32) :
    View.ld (v.read (Elt F) (v.writes (Elt F) f
        (⟨Rect.unit (s := S4608x256) (k0_off1 i) ![768, 128] (k0_off1_inb i), w⟩ :: L)))
      (Rect.unit (s := S4608x256) (k0_off2 i) ![768, 128] (k0_off2_inb i))
      = rowsHi i (v.read (Elt F) (v.writes (Elt F) f L)) :=
  (congrArg (rowsHi i) (View.read_writes_cons_put v f (k0_off1_inb i) w L rfl)).trans
    (VecWindow.window_put_of_disjoint (s := S4608x256) _ (k0_off1 i) S768x128.size (k0_off2 i) S768x128.size (k0_off2_inb i)
      w (1 : Fin 2) (Or.inr (by show 0 + 128 ≤ 128; omega)))

/-- What the two stores of a tile leave in the planes. -/
theorem read_two_planes {κ : Kind} {sp : Space} (v : View sig κ sp S4x256x768 .f32) (f : v.ty.Contents (Elt F))
    (L : List (View.Piece (Elt F) S4x256x768 .f32)) (w w' : Vec F S2x256x768 .f32) :
    v.read (Elt F) (v.writes (Elt F) f
      (⟨Rect.unit ![2, 0, 0] S2x256x768.size inb_S4x256x768_S2x256x768_2_0_0, w'⟩ ::
       ⟨Rect.unit ![0, 0, 0] S2x256x768.size inb_S4x256x768_S2x256x768_0_0_0, w⟩ :: L))
      = VecWindow.put (VecWindow.put (v.read (Elt F) (v.writes (Elt F) f L)) ![0, 0, 0] S2x256x768.size w)
          ![2, 0, 0] S2x256x768.size w' := by
  refine (View.read_writes_cons_put v f inb_S4x256x768_S2x256x768_2_0_0 w' _ rfl).trans ?_
  exact congrArg (fun z : Vec F S4x256x768 .f32 => VecWindow.put z ![2, 0, 0] S2x256x768.size w')
    (View.read_writes_cons_put v f inb_S4x256x768_S2x256x768_0_0_0 w L rfl)

/-- What the first of the two stores leaves in the second pair's planes. -/
theorem planeHi_read_one {κ : Kind} {sp : Space} (v : View sig κ sp S4x256x768 .f32) (f : v.ty.Contents (Elt F))
    (L : List (View.Piece (Elt F) S4x256x768 .f32)) (w : Vec F S2x256x768 .f32) :
    View.ld (v.read (Elt F) (v.writes (Elt F) f
        (⟨Rect.unit ![0, 0, 0] ![2, 256, 768] inb_S4x256x768_S2x256x768_0_0_0, w⟩ :: L)))
      (Rect.unit ![2, 0, 0] ![2, 256, 768] inb_S4x256x768_S2x256x768_2_0_0)
      = planeHi (v.read (Elt F) (v.writes (Elt F) f L)) :=
  (congrArg planeHi (View.read_writes_cons_put v f inb_S4x256x768_S2x256x768_0_0_0 w L rfl)).trans
    (VecWindow.window_put_of_disjoint (s := S4x256x768) _ ![0, 0, 0] S2x256x768.size ![2, 0, 0] S2x256x768.size
      inb_S4x256x768_S2x256x768_2_0_0 w (0 : Fin 3) (Or.inr (by show 0 + 2 ≤ 2; omega)))

/-- A store of a whole accumulator leaves the payload. -/
theorem read_whole_rows {κ : Kind} {sp : Space} (v : View sig κ sp S4608x256 .f32) (f : v.ty.Contents (Elt F))
    (L : List (View.Piece (Elt F) S4608x256 .f32)) (w : Vec F S4608x256 .f32) :
    v.read (Elt F) (v.writes (Elt F) f (⟨Rect.unit ![0, 0] ![4608, 256] inb_S4608x256_S4608x256_0_0, w⟩ :: L)) = w :=
  View.read_writes_full v f inb_S4608x256_S4608x256_0_0 w L

/-- A store of all planes leaves the payload. -/
theorem read_whole_planes {κ : Kind} {sp : Space} (v : View sig κ sp S4x256x768 .f32) (f : v.ty.Contents (Elt F))
    (L : List (View.Piece (Elt F) S4x256x768 .f32)) (w : Vec F S4x256x768 .f32) :
    v.read (Elt F) (v.writes (Elt F) f (⟨Rect.unit ![0, 0, 0] ![4, 256, 768] inb_S4x256x768_S4x256x768_0_0_0, w⟩ :: L)) = w :=
  View.read_writes_full v f inb_S4x256x768_S4x256x768_0_0_0 w L

end Cert.KernelIdeal.Attn
-- ==== Proof.Ideal.RunB.lean ====
/- One grid point of the attention backward kernel, at a tile neither first nor last of its head group: from the blocks it reads and what the carried
   buffers hold to what it leaves in them. -/
module

public import proofs.«01_k».proof.Proof.Ideal.Step

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 2000000 in
/-- The body's triple, at a tile neither first nor last of its head group. -/
theorem runB (c : Dev nD) (i : grid0.Coords)
    (arg2 : Memref sig .tc .vmem S256x256 .bf16) (harg2 : arg2.IsWhole)
    (arg3 : Memref sig .tc .vmem S256x256 .bf16) (harg3 : arg3.IsWhole)
    (arg4 : Memref sig .tc .vmem S256x256 .bf16) (harg4 : arg4.IsWhole)
    (arg5 : Memref sig .tc .vmem S256x256 .bf16) (harg5 : arg5.IsWhole)
    (arg6 : Memref sig .tc .vmem S256x256 .bf16) (harg6 : arg6.IsWhole)
    (arg7 : Memref sig .tc .vmem S256x256 .bf16) (harg7 : arg7.IsWhole)
    (arg8 : Memref sig .tc .vmem S256x256 .bf16) (harg8 : arg8.IsWhole)
    (arg9 : Memref sig .tc .vmem S4x256x768 .f32) (harg9 : arg9.IsWhole)
    (arg10 : Memref sig .tc .vmem S256x256 .bf16) (harg10 : arg10.IsWhole)
    (arg11 : Memref sig .tc .vmem S256x256 .bf16) (harg11 : arg11.IsWhole)
    (arg12 : Memref sig .tc .vmem S4096x256 .bf16) (harg12 : arg12.IsWhole)
    (arg13 : Memref sig .tc .vmem S4096x256 .bf16) (harg13 : arg13.IsWhole)
    (arg14 : Memref sig .tc .vmem S4x256x768 .f32) (harg14 : arg14.IsWhole)
    (arg15 : Memref sig .tc .vmem S4608x256 .f32) (harg15 : arg15.IsWhole)
    (arg16 : Memref sig .tc .vmem S4608x256 .f32) (harg16 : arg16.IsWhole)
    (hc0 : ¬((Scalar.cmpi .ne (Scalar.extui (Scalar.cmpi .eq (BitVec.ofNat 32 (i 1).val) 0#32)) 0#32) = 1#1)) (hc1 : ¬(k0_cond2 i = 1#1))
    (B : Blocks F) (x12 x13 : Vec F S4096x256 .bf16) (a14 : Vec F S4x256x768 .f32) (a15 a16 : Vec F S4608x256 .f32)
    (E : Set ℕ) (K : PUnit → sProp 𝕄) :
    iprop(owns (c : Thread nD τ) arg2 fullShare B.q ∗ owns (c : Thread nD τ) arg3 fullShare B.k1 ∗ owns (c : Thread nD τ) arg4 fullShare B.k2 ∗ owns (c : Thread nD τ) arg5 fullShare B.k3 ∗ owns (c : Thread nD τ) arg6 fullShare B.v1 ∗ owns (c : Thread nD τ) arg7 fullShare B.v2 ∗ owns (c : Thread nD τ) arg8 fullShare B.v3 ∗ owns (c : Thread nD τ) arg9 fullShare B.b ∗ owns (c : Thread nD τ) arg10 fullShare B.g ∗ (∃ d, owns (c : Thread nD τ) arg11 fullShare d) ∗ owns (c : Thread nD τ) arg12 fullShare x12 ∗ owns (c : Thread nD τ) arg13 fullShare x13 ∗ owns (c : Thread nD τ) arg14 fullShare a14 ∗ owns (c : Thread nD τ) arg15 fullShare a15 ∗ owns (c : Thread nD τ) arg16 fullShare a16
      ∗ (iprop(owns (c : Thread nD τ) arg2 fullShare B.q ∗ owns (c : Thread nD τ) arg3 fullShare B.k1 ∗ owns (c : Thread nD τ) arg4 fullShare B.k2 ∗ owns (c : Thread nD τ) arg5 fullShare B.k3 ∗ owns (c : Thread nD τ) arg6 fullShare B.v1 ∗ owns (c : Thread nD τ) arg7 fullShare B.v2 ∗ owns (c : Thread nD τ) arg8 fullShare B.v3 ∗ owns (c : Thread nD τ) arg9 fullShare B.b ∗ owns (c : Thread nD τ) arg10 fullShare B.g ∗ owns (c : Thread nD τ) arg11 fullShare (B.dq i) ∗ owns (c : Thread nD τ) arg12 fullShare x12 ∗ owns (c : Thread nD τ) arg13 fullShare x13 ∗ owns (c : Thread nD τ) arg14 fullShare (B.ds i a14) ∗ owns (c : Thread nD τ) arg15 fullShare (B.dk i a15) ∗ owns (c : Thread nD τ) arg16 fullShare (B.dv i a16)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨q, k1, k2, k3, v1, v2, v3, b, g⟩ := B
  simp only [cc0_attn_bwd_eq_skeleton]; unfold cc0_attn_bwd_skel
  simp only [k0_part1_eq_skeleton, k0_part2_eq_skeleton, k0_part3_eq_skeleton, k0_part4_eq_skeleton, k0_part5_eq_skeleton]
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%f10, %h10, H10⟩, ⟨%f11, %h11, H11⟩, ⟨%f12, %h12, H12⟩, ⟨%f13, %h13, HS0⟩, ⟨%f14, %h14, HS1⟩, Hk⟩
  obtain rfl := harg2.eq_unread h0
  obtain rfl := harg3.eq_unread h1
  obtain rfl := harg4.eq_unread h2
  obtain rfl := harg5.eq_unread h3
  obtain rfl := harg6.eq_unread h4
  obtain rfl := harg7.eq_unread h5
  obtain rfl := harg8.eq_unread h6
  obtain rfl := harg9.eq_unread h7
  obtain rfl := harg10.eq_unread h8
  obtain rfl := harg14.eq_unread h12
  obtain rfl := harg15.eq_unread h13
  obtain rfl := harg16.eq_unread h14
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    refine (read_two_lanes arg11.view f9 q _ _).trans ?_
    delta runB.sl.r runB.sl.r_1 runB.sl.r_2 runB.sl.r_3 runB.sl.r_4 runB.sl.r_5 runB.sl.r_6 runB.sl.r_7 runB.sl.r_8 runB.sl.r_9 runB.sl.r_10 runB.sl.r_11 runB.sl.r_12 runB.sl.r_13 runB.sl.v110 runB.sl.v148 runB.sl.v3 runB.sl.v173 runB.sl.v191 runB.sl.v199
    simp only [View.readAt_eq_ld, harg2.read_unread, harg3.read_unread, harg4.read_unread, harg5.read_unread, harg6.read_unread, harg7.read_unread, harg8.read_unread, harg9.read_unread, harg10.read_unread, harg14.read_unread, harg15.read_unread, harg16.read_unread]
    rfl
  isplitl [H10]
  · iexists _; isplitr; swap; · iexact H10
    ipureintro; assumption
  isplitl [H11]
  · iexists _; isplitr; swap; · iexact H11
    ipureintro; assumption
  isplitl [H12]
  · iexists _; isplitr; swap; · iexact H12
    ipureintro
    refine (read_two_planes arg14.view _ _ _ _).trans ?_
    delta runB.sl.r runB.sl.r_1 runB.sl.r_2 runB.sl.r_3 runB.sl.r_4 runB.sl.r_5 runB.sl.r_6 runB.sl.r_7 runB.sl.r_8 runB.sl.r_9 runB.sl.r_10 runB.sl.r_11 runB.sl.r_12 runB.sl.r_13 runB.sl.v110 runB.sl.v148 runB.sl.v3 runB.sl.v173 runB.sl.v191 runB.sl.v199
    simp only [View.writes_nil, View.readAt_eq_ld, harg2.read_unread, harg3.read_unread, harg4.read_unread, harg5.read_unread, harg6.read_unread, harg7.read_unread, harg8.read_unread, harg9.read_unread, harg10.read_unread, harg14.read_unread, harg15.read_unread, harg16.read_unread]
    rfl
  isplitl [HS0]
  · iexists _; isplitr; swap; · iexact HS0
    ipureintro
    refine (read_two_rows arg15.view _ i _ _ _).trans ?_
    delta runB.sl.r runB.sl.r_1 runB.sl.r_2 runB.sl.r_3 runB.sl.r_4 runB.sl.r_5 runB.sl.r_6 runB.sl.r_7 runB.sl.r_8 runB.sl.r_9 runB.sl.r_10 runB.sl.r_11 runB.sl.r_12 runB.sl.r_13 runB.sl.v110 runB.sl.v148 runB.sl.v3 runB.sl.v173 runB.sl.v191 runB.sl.v199
    simp only [View.writes_nil, View.readAt_eq_ld, harg2.read_unread, harg3.read_unread, harg4.read_unread, harg5.read_unread, harg6.read_unread, harg7.read_unread, harg8.read_unread, harg9.read_unread, harg10.read_unread, harg14.read_unread, harg15.read_unread, harg16.read_unread]
    rfl
  iexists _; isplitr; swap; · iexact HS1
  ipureintro
  refine (read_two_rows arg16.view _ i _ _ _).trans ?_
  delta runB.sl.r runB.sl.r_1 runB.sl.r_2 runB.sl.r_3 runB.sl.r_4 runB.sl.r_5 runB.sl.r_6 runB.sl.r_7 runB.sl.r_8 runB.sl.r_9 runB.sl.r_10 runB.sl.r_11 runB.sl.r_12 runB.sl.r_13 runB.sl.v110 runB.sl.v148 runB.sl.v3 runB.sl.v173 runB.sl.v191 runB.sl.v199
  simp only [View.writes_nil, View.readAt_eq_ld, harg2.read_unread, harg3.read_unread, harg4.read_unread, harg5.read_unread, harg6.read_unread, harg7.read_unread, harg8.read_unread, harg9.read_unread, harg10.read_unread, harg14.read_unread, harg15.read_unread, harg16.read_unread]
  rfl

end Cert.KernelIdeal.Attn
-- ==== Proof.Ideal.RunA.lean ====
/- One grid point of the attention backward kernel, at the first tile of a head group: from the blocks it reads and what the carried
   buffers hold to what it leaves in them. -/
module

public import proofs.«01_k».proof.Proof.Ideal.RunB

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 2000000 in
/-- The body's triple, at the first tile of a head group. -/
theorem runA (c : Dev nD) (i : grid0.Coords)
    (arg2 : Memref sig .tc .vmem S256x256 .bf16) (harg2 : arg2.IsWhole)
    (arg3 : Memref sig .tc .vmem S256x256 .bf16) (harg3 : arg3.IsWhole)
    (arg4 : Memref sig .tc .vmem S256x256 .bf16) (harg4 : arg4.IsWhole)
    (arg5 : Memref sig .tc .vmem S256x256 .bf16) (harg5 : arg5.IsWhole)
    (arg6 : Memref sig .tc .vmem S256x256 .bf16) (harg6 : arg6.IsWhole)
    (arg7 : Memref sig .tc .vmem S256x256 .bf16) (harg7 : arg7.IsWhole)
    (arg8 : Memref sig .tc .vmem S256x256 .bf16) (harg8 : arg8.IsWhole)
    (arg9 : Memref sig .tc .vmem S4x256x768 .f32) (harg9 : arg9.IsWhole)
    (arg10 : Memref sig .tc .vmem S256x256 .bf16) (harg10 : arg10.IsWhole)
    (arg11 : Memref sig .tc .vmem S256x256 .bf16) (harg11 : arg11.IsWhole)
    (arg12 : Memref sig .tc .vmem S4096x256 .bf16) (harg12 : arg12.IsWhole)
    (arg13 : Memref sig .tc .vmem S4096x256 .bf16) (harg13 : arg13.IsWhole)
    (arg14 : Memref sig .tc .vmem S4x256x768 .f32) (harg14 : arg14.IsWhole)
    (arg15 : Memref sig .tc .vmem S4608x256 .f32) (harg15 : arg15.IsWhole)
    (arg16 : Memref sig .tc .vmem S4608x256 .f32) (harg16 : arg16.IsWhole)
    (hc0 : ((Scalar.cmpi .ne (Scalar.extui (Scalar.cmpi .eq (BitVec.ofNat 32 (i 1).val) 0#32)) 0#32) = 1#1)) (hc1 : ¬(k0_cond2 i = 1#1))
    (B : Blocks F) (x12 x13 : Vec F S4096x256 .bf16)
    (E : Set ℕ) (K : PUnit → sProp 𝕄) :
    iprop(owns (c : Thread nD τ) arg2 fullShare B.q ∗ owns (c : Thread nD τ) arg3 fullShare B.k1 ∗ owns (c : Thread nD τ) arg4 fullShare B.k2 ∗ owns (c : Thread nD τ) arg5 fullShare B.k3 ∗ owns (c : Thread nD τ) arg6 fullShare B.v1 ∗ owns (c : Thread nD τ) arg7 fullShare B.v2 ∗ owns (c : Thread nD τ) arg8 fullShare B.v3 ∗ owns (c : Thread nD τ) arg9 fullShare B.b ∗ owns (c : Thread nD τ) arg10 fullShare B.g ∗ (∃ d, owns (c : Thread nD τ) arg11 fullShare d) ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d)
      ∗ (iprop(owns (c : Thread nD τ) arg2 fullShare B.q ∗ owns (c : Thread nD τ) arg3 fullShare B.k1 ∗ owns (c : Thread nD τ) arg4 fullShare B.k2 ∗ owns (c : Thread nD τ) arg5 fullShare B.k3 ∗ owns (c : Thread nD τ) arg6 fullShare B.v1 ∗ owns (c : Thread nD τ) arg7 fullShare B.v2 ∗ owns (c : Thread nD τ) arg8 fullShare B.v3 ∗ owns (c : Thread nD τ) arg9 fullShare B.b ∗ owns (c : Thread nD τ) arg10 fullShare B.g ∗ owns (c : Thread nD τ) arg11 fullShare (B.dq i) ∗ owns (c : Thread nD τ) arg12 fullShare x12 ∗ owns (c : Thread nD τ) arg13 fullShare x13 ∗ owns (c : Thread nD τ) arg14 fullShare (B.ds i (k0_pay7 (F := F))) ∗ owns (c : Thread nD τ) arg15 fullShare (B.dk i (k0_pay5 (F := F))) ∗ owns (c : Thread nD τ) arg16 fullShare (B.dv i (k0_pay6 (F := F)))) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨q, k1, k2, k3, v1, v2, v3, b, g⟩ := B
  simp only [cc0_attn_bwd_eq_skeleton]; unfold cc0_attn_bwd_skel
  simp only [k0_part1_eq_skeleton, k0_part2_eq_skeleton, k0_part3_eq_skeleton, k0_part4_eq_skeleton, k0_part5_eq_skeleton]
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%f10, %h10, H10⟩, ⟨%f11, %h11, H11⟩, ⟨%d12, %f12, -, H12⟩, ⟨%d13, %f13, -, HS0⟩, ⟨%d14, %f14, -, HS1⟩, Hk⟩
  obtain rfl := harg2.eq_unread h0
  obtain rfl := harg3.eq_unread h1
  obtain rfl := harg4.eq_unread h2
  obtain rfl := harg5.eq_unread h3
  obtain rfl := harg6.eq_unread h4
  obtain rfl := harg7.eq_unread h5
  obtain rfl := harg8.eq_unread h6
  obtain rfl := harg9.eq_unread h7
  obtain rfl := harg10.eq_unread h8
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    refine (read_two_lanes arg11.view f9 q _ _).trans ?_
    delta runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.v110 runA.sl.v148 runA.sl.v3 runA.sl.v173 runA.sl.v191 runA.sl.v199 runA.sl.v72 runA.sl.H12_1 runA.sl.H12_2 runA.sl.HS0_1 runA.sl.HS0_2 runA.sl.HS1_1 runA.sl.HS1_2
    simp only [View.readAt_eq_ld, harg2.read_unread, harg3.read_unread, harg4.read_unread, harg5.read_unread, harg6.read_unread, harg7.read_unread, harg8.read_unread, harg9.read_unread, harg10.read_unread]
    rfl
  isplitl [H10]
  · iexists _; isplitr; swap; · iexact H10
    ipureintro; assumption
  isplitl [H11]
  · iexists _; isplitr; swap; · iexact H11
    ipureintro; assumption
  isplitl [H12]
  · iexists _; isplitr; swap; · iexact H12
    ipureintro
    refine (read_two_planes arg14.view _ _ _ _).trans ?_
    delta runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.v110 runA.sl.v148 runA.sl.v3 runA.sl.v173 runA.sl.v191 runA.sl.v199 runA.sl.v72 runA.sl.H12_1 runA.sl.H12_2 runA.sl.HS0_1 runA.sl.HS0_2 runA.sl.HS1_1 runA.sl.HS1_2
    simp only [View.readCov, rowsHi_read_one, planeHi_read_one, read_whole_rows, read_whole_planes, View.readAt_eq_ld, harg2.read_unread, harg3.read_unread, harg4.read_unread, harg5.read_unread, harg6.read_unread, harg7.read_unread, harg8.read_unread, harg9.read_unread, harg10.read_unread]
    rfl
  isplitl [HS0]
  · iexists _; isplitr; swap; · iexact HS0
    ipureintro
    refine (read_two_rows arg15.view _ i _ _ _).trans ?_
    delta runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.v110 runA.sl.v148 runA.sl.v3 runA.sl.v173 runA.sl.v191 runA.sl.v199 runA.sl.v72 runA.sl.H12_1 runA.sl.H12_2 runA.sl.HS0_1 runA.sl.HS0_2 runA.sl.HS1_1 runA.sl.HS1_2
    simp only [View.readCov, rowsHi_read_one, planeHi_read_one, read_whole_rows, read_whole_planes, View.readAt_eq_ld, harg2.read_unread, harg3.read_unread, harg4.read_unread, harg5.read_unread, harg6.read_unread, harg7.read_unread, harg8.read_unread, harg9.read_unread, harg10.read_unread]
    rfl
  iexists _; isplitr; swap; · iexact HS1
  ipureintro
  refine (read_two_rows arg16.view _ i _ _ _).trans ?_
  delta runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.v110 runA.sl.v148 runA.sl.v3 runA.sl.v173 runA.sl.v191 runA.sl.v199 runA.sl.v72 runA.sl.H12_1 runA.sl.H12_2 runA.sl.HS0_1 runA.sl.HS0_2 runA.sl.HS1_1 runA.sl.HS1_2
  simp only [View.readCov, rowsHi_read_one, planeHi_read_one, read_whole_rows, read_whole_planes, View.readAt_eq_ld, harg2.read_unread, harg3.read_unread, harg4.read_unread, harg5.read_unread, harg6.read_unread, harg7.read_unread, harg8.read_unread, harg9.read_unread, harg10.read_unread]
  rfl

end Cert.KernelIdeal.Attn
-- ==== Proof.Ideal.RunC.lean ====
/- One grid point of the attention backward kernel, at the last tile of a head group: from the blocks it reads and what the carried
   buffers hold to what it leaves in them. -/
module

public import proofs.«01_k».proof.Proof.Ideal.RunA

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 2000000 in
/-- The body's triple, at the last tile of a head group. -/
theorem runC (c : Dev nD) (i : grid0.Coords)
    (arg2 : Memref sig .tc .vmem S256x256 .bf16) (harg2 : arg2.IsWhole)
    (arg3 : Memref sig .tc .vmem S256x256 .bf16) (harg3 : arg3.IsWhole)
    (arg4 : Memref sig .tc .vmem S256x256 .bf16) (harg4 : arg4.IsWhole)
    (arg5 : Memref sig .tc .vmem S256x256 .bf16) (harg5 : arg5.IsWhole)
    (arg6 : Memref sig .tc .vmem S256x256 .bf16) (harg6 : arg6.IsWhole)
    (arg7 : Memref sig .tc .vmem S256x256 .bf16) (harg7 : arg7.IsWhole)
    (arg8 : Memref sig .tc .vmem S256x256 .bf16) (harg8 : arg8.IsWhole)
    (arg9 : Memref sig .tc .vmem S4x256x768 .f32) (harg9 : arg9.IsWhole)
    (arg10 : Memref sig .tc .vmem S256x256 .bf16) (harg10 : arg10.IsWhole)
    (arg11 : Memref sig .tc .vmem S256x256 .bf16) (harg11 : arg11.IsWhole)
    (arg12 : Memref sig .tc .vmem S4096x256 .bf16) (harg12 : arg12.IsWhole)
    (arg13 : Memref sig .tc .vmem S4096x256 .bf16) (harg13 : arg13.IsWhole)
    (arg14 : Memref sig .tc .vmem S4x256x768 .f32) (harg14 : arg14.IsWhole)
    (arg15 : Memref sig .tc .vmem S4608x256 .f32) (harg15 : arg15.IsWhole)
    (arg16 : Memref sig .tc .vmem S4608x256 .f32) (harg16 : arg16.IsWhole)
    (hc0 : ¬((Scalar.cmpi .ne (Scalar.extui (Scalar.cmpi .eq (BitVec.ofNat 32 (i 1).val) 0#32)) 0#32) = 1#1)) (hc1 : (k0_cond2 i = 1#1))
    (B : Blocks F)  (a14 : Vec F S4x256x768 .f32) (a15 a16 : Vec F S4608x256 .f32)
    (E : Set ℕ) (K : PUnit → sProp 𝕄) :
    iprop(owns (c : Thread nD τ) arg2 fullShare B.q ∗ owns (c : Thread nD τ) arg3 fullShare B.k1 ∗ owns (c : Thread nD τ) arg4 fullShare B.k2 ∗ owns (c : Thread nD τ) arg5 fullShare B.k3 ∗ owns (c : Thread nD τ) arg6 fullShare B.v1 ∗ owns (c : Thread nD τ) arg7 fullShare B.v2 ∗ owns (c : Thread nD τ) arg8 fullShare B.v3 ∗ owns (c : Thread nD τ) arg9 fullShare B.b ∗ owns (c : Thread nD τ) arg10 fullShare B.g ∗ (∃ d, owns (c : Thread nD τ) arg11 fullShare d) ∗ (∃ d, owns (c : Thread nD τ) arg12 fullShare d) ∗ (∃ d, owns (c : Thread nD τ) arg13 fullShare d) ∗ owns (c : Thread nD τ) arg14 fullShare a14 ∗ owns (c : Thread nD τ) arg15 fullShare a15 ∗ owns (c : Thread nD τ) arg16 fullShare a16
      ∗ (iprop(owns (c : Thread nD τ) arg2 fullShare B.q ∗ owns (c : Thread nD τ) arg3 fullShare B.k1 ∗ owns (c : Thread nD τ) arg4 fullShare B.k2 ∗ owns (c : Thread nD τ) arg5 fullShare B.k3 ∗ owns (c : Thread nD τ) arg6 fullShare B.v1 ∗ owns (c : Thread nD τ) arg7 fullShare B.v2 ∗ owns (c : Thread nD τ) arg8 fullShare B.v3 ∗ owns (c : Thread nD τ) arg9 fullShare B.b ∗ owns (c : Thread nD τ) arg10 fullShare B.g ∗ owns (c : Thread nD τ) arg11 fullShare (B.dq i) ∗ owns (c : Thread nD τ) arg12 fullShare (k0_pay3 (tail (B.dk i a15))) ∗ owns (c : Thread nD τ) arg13 fullShare (k0_pay4 (tail (B.dv i a16))) ∗ owns (c : Thread nD τ) arg14 fullShare (B.ds i a14) ∗ owns (c : Thread nD τ) arg15 fullShare (B.dk i a15) ∗ owns (c : Thread nD τ) arg16 fullShare (B.dv i a16)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨q, k1, k2, k3, v1, v2, v3, b, g⟩ := B
  simp only [cc0_attn_bwd_eq_skeleton]; unfold cc0_attn_bwd_skel
  simp only [k0_part1_eq_skeleton, k0_part2_eq_skeleton, k0_part3_eq_skeleton, k0_part4_eq_skeleton, k0_part5_eq_skeleton]
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%d10, %f10, -, H10⟩, ⟨%d11, %f11, -, H11⟩, ⟨%f12, %h12, H12⟩, ⟨%f13, %h13, HS0⟩, ⟨%f14, %h14, HS1⟩, Hk⟩
  obtain rfl := harg2.eq_unread h0
  obtain rfl := harg3.eq_unread h1
  obtain rfl := harg4.eq_unread h2
  obtain rfl := harg5.eq_unread h3
  obtain rfl := harg6.eq_unread h4
  obtain rfl := harg7.eq_unread h5
  obtain rfl := harg8.eq_unread h6
  obtain rfl := harg9.eq_unread h7
  obtain rfl := harg10.eq_unread h8
  obtain rfl := harg14.eq_unread h12
  obtain rfl := harg15.eq_unread h13
  obtain rfl := harg16.eq_unread h14
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    refine (read_two_lanes arg11.view f9 q _ _).trans ?_
    delta runC.sl.r runC.sl.r_1 runC.sl.r_2 runC.sl.r_3 runC.sl.r_4 runC.sl.r_5 runC.sl.r_6 runC.sl.r_7 runC.sl.r_8 runC.sl.r_9 runC.sl.r_10 runC.sl.r_11 runC.sl.r_12 runC.sl.r_13 runC.sl.v110 runC.sl.v148 runC.sl.v3 runC.sl.v173 runC.sl.v191 runC.sl.v199 runC.sl.v210 runC.sl.v213 runC.sl.HS0_2 runC.sl.HS1_2
    simp only [View.readAt_eq_ld, harg2.read_unread, harg3.read_unread, harg4.read_unread, harg5.read_unread, harg6.read_unread, harg7.read_unread, harg8.read_unread, harg9.read_unread, harg10.read_unread, harg14.read_unread, harg15.read_unread, harg16.read_unread]
    rfl
  isplitl [H10]
  · iexists _; isplitr; swap; · iexact H10
    ipureintro
    refine (View.read_writes_full arg12.view f10 _ _ []).trans ?_
    delta runC.sl.r runC.sl.r_1 runC.sl.r_2 runC.sl.r_3 runC.sl.r_4 runC.sl.r_5 runC.sl.r_6 runC.sl.r_7 runC.sl.r_8 runC.sl.r_9 runC.sl.r_10 runC.sl.r_11 runC.sl.r_12 runC.sl.r_13 runC.sl.v110 runC.sl.v148 runC.sl.v3 runC.sl.v173 runC.sl.v191 runC.sl.v199 runC.sl.v210 runC.sl.v213 runC.sl.HS0_2 runC.sl.HS1_2
    simp only [View.readAt_eq_ld, harg2.read_unread, harg3.read_unread, harg4.read_unread, harg5.read_unread, harg6.read_unread, harg7.read_unread, harg8.read_unread, harg9.read_unread, harg10.read_unread, harg14.read_unread, harg15.read_unread, harg16.read_unread]
    rw [read_two_rows arg15.view _ i _ _ _]
    simp only [View.writes_nil, View.readAt_eq_ld, harg2.read_unread, harg3.read_unread, harg4.read_unread, harg5.read_unread, harg6.read_unread, harg7.read_unread, harg8.read_unread, harg9.read_unread, harg10.read_unread, harg14.read_unread, harg15.read_unread, harg16.read_unread]
    rfl
  isplitl [H11]
  · iexists _; isplitr; swap; · iexact H11
    ipureintro
    refine (View.read_writes_full arg13.view f11 _ _ []).trans ?_
    delta runC.sl.r runC.sl.r_1 runC.sl.r_2 runC.sl.r_3 runC.sl.r_4 runC.sl.r_5 runC.sl.r_6 runC.sl.r_7 runC.sl.r_8 runC.sl.r_9 runC.sl.r_10 runC.sl.r_11 runC.sl.r_12 runC.sl.r_13 runC.sl.v110 runC.sl.v148 runC.sl.v3 runC.sl.v173 runC.sl.v191 runC.sl.v199 runC.sl.v210 runC.sl.v213 runC.sl.HS0_2 runC.sl.HS1_2
    simp only [View.readAt_eq_ld, harg2.read_unread, harg3.read_unread, harg4.read_unread, harg5.read_unread, harg6.read_unread, harg7.read_unread, harg8.read_unread, harg9.read_unread, harg10.read_unread, harg14.read_unread, harg15.read_unread, harg16.read_unread]
    rw [read_two_rows arg16.view _ i _ _ _]
    simp only [View.writes_nil, View.readAt_eq_ld, harg2.read_unread, harg3.read_unread, harg4.read_unread, harg5.read_unread, harg6.read_unread, harg7.read_unread, harg8.read_unread, harg9.read_unread, harg10.read_unread, harg14.read_unread, harg15.read_unread, harg16.read_unread]
    rfl
  isplitl [H12]
  · iexists _; isplitr; swap; · iexact H12
    ipureintro
    refine (read_two_planes arg14.view _ _ _ _).trans ?_
    delta runC.sl.r runC.sl.r_1 runC.sl.r_2 runC.sl.r_3 runC.sl.r_4 runC.sl.r_5 runC.sl.r_6 runC.sl.r_7 runC.sl.r_8 runC.sl.r_9 runC.sl.r_10 runC.sl.r_11 runC.sl.r_12 runC.sl.r_13 runC.sl.v110 runC.sl.v148 runC.sl.v3 runC.sl.v173 runC.sl.v191 runC.sl.v199 runC.sl.v210 runC.sl.v213 runC.sl.HS0_2 runC.sl.HS1_2
    simp only [View.writes_nil, View.readAt_eq_ld, harg2.read_unread, harg3.read_unread, harg4.read_unread, harg5.read_unread, harg6.read_unread, harg7.read_unread, harg8.read_unread, harg9.read_unread, harg10.read_unread, harg14.read_unread, harg15.read_unread, harg16.read_unread]
    rfl
  isplitl [HS0]
  · iexists _; isplitr; swap; · iexact HS0
    ipureintro
    refine (read_two_rows arg15.view _ i _ _ _).trans ?_
    delta runC.sl.r runC.sl.r_1 runC.sl.r_2 runC.sl.r_3 runC.sl.r_4 runC.sl.r_5 runC.sl.r_6 runC.sl.r_7 runC.sl.r_8 runC.sl.r_9 runC.sl.r_10 runC.sl.r_11 runC.sl.r_12 runC.sl.r_13 runC.sl.v110 runC.sl.v148 runC.sl.v3 runC.sl.v173 runC.sl.v191 runC.sl.v199 runC.sl.v210 runC.sl.v213 runC.sl.HS0_2 runC.sl.HS1_2
    simp only [View.writes_nil, View.readAt_eq_ld, harg2.read_unread, harg3.read_unread, harg4.read_unread, harg5.read_unread, harg6.read_unread, harg7.read_unread, harg8.read_unread, harg9.read_unread, harg10.read_unread, harg14.read_unread, harg15.read_unread, harg16.read_unread]
    rfl
  iexists _; isplitr; swap; · iexact HS1
  ipureintro
  refine (read_two_rows arg16.view _ i _ _ _).trans ?_
  delta runC.sl.r runC.sl.r_1 runC.sl.r_2 runC.sl.r_3 runC.sl.r_4 runC.sl.r_5 runC.sl.r_6 runC.sl.r_7 runC.sl.r_8 runC.sl.r_9 runC.sl.r_10 runC.sl.r_11 runC.sl.r_12 runC.sl.r_13 runC.sl.v110 runC.sl.v148 runC.sl.v3 runC.sl.v173 runC.sl.v191 runC.sl.v199 runC.sl.v210 runC.sl.v213 runC.sl.HS0_2 runC.sl.HS1_2
  simp only [View.writes_nil, View.readAt_eq_ld, harg2.read_unread, harg3.read_unread, harg4.read_unread, harg5.read_unread, harg6.read_unread, harg7.read_unread, harg8.read_unread, harg9.read_unread, harg10.read_unread, harg14.read_unread, harg15.read_unread, harg16.read_unread]
  rfl

end Cert.KernelIdeal.Attn
-- ==== Proof.Ideal.Frame.lean ====
/- The attention backward kernel's whole run: the pipeline's proof data from the body's function of blocks, the body's
   obligation at every grid point, and the launch. -/
module

public import proofs.«01_k».proof.Proof.Ideal.RunC
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## Which tile a point is -/

theorem coord_tile (t : Fin cfg0.N) : (grid0.coords t 1).val = t.val % 16 := by
  rw [show (grid0.coords t 1).val = t.val / 1 % 16 from Pipeline.Grid.coords_val t 1 (by decide) rfl, Nat.div_one]

theorem coord_group (t : Fin cfg0.N) : (grid0.coords t 0).val = t.val / 16 := by
  have ht : t.val < 64 := Nat.lt_of_lt_of_eq t.isLt N_0
  rw [show (grid0.coords t 0).val = t.val / 16 % 4 from Pipeline.Grid.coords_val t 0 (by decide) rfl]
  omega

theorem first_iff (t : Fin cfg0.N) :
    ((Scalar.cmpi .ne (Scalar.extui (Scalar.cmpi .eq (BitVec.ofNat 32 (grid0.coords t 1).val) 0#32)) 0#32) = 1#1)
      ↔ t.val % 16 = 0 := by
  have ht : t.val < 64 := Nat.lt_of_lt_of_eq t.isLt N_0
  rw [coord_tile]
  word_cmp

theorem last_iff (t : Fin cfg0.N) : (k0_cond2 (grid0.coords t) = 1#1) ↔ t.val % 16 = 15 := by
  have ht : t.val < 64 := Nat.lt_of_lt_of_eq t.isLt N_0
  simp only [k0_cond2, coord_tile]
  word_cmp

/-- The key- and value-gradient blocks are idle at every tile but the last of a head group. -/
theorem idle_dk : ∀ t : Fin cfg0.N, ¬ k0_cond2 (grid0.coords t) = 1#1 → cfg0.idle 10 (grid0.coords t) = true := by decide +kernel
theorem idle_dv : ∀ t : Fin cfg0.N, ¬ k0_cond2 (grid0.coords t) = 1#1 → cfg0.idle 11 (grid0.coords t) = true := by decide +kernel
theorem live_dk : ∀ t : Fin cfg0.N, k0_cond2 (grid0.coords t) = 1#1 → cfg0.idle 10 (grid0.coords t) = false := by decide +kernel
theorem live_dv : ∀ t : Fin cfg0.N, k0_cond2 (grid0.coords t) = 1#1 → cfg0.idle 11 (grid0.coords t) = false := by decide +kernel

/-! ## The staging buffers at a point -/

abbrev stg0 (t : Fin cfg0.N) : Memref sig .tc .vmem S256x256 .bf16 := win0_0.stage (cfg0.slots t 0)
abbrev stg1 (t : Fin cfg0.N) : Memref sig .tc .vmem S256x256 .bf16 := win0_1.stage (cfg0.slots t 1)
abbrev stg2 (t : Fin cfg0.N) : Memref sig .tc .vmem S256x256 .bf16 := win0_2.stage (cfg0.slots t 2)
abbrev stg3 (t : Fin cfg0.N) : Memref sig .tc .vmem S256x256 .bf16 := win0_3.stage (cfg0.slots t 3)
abbrev stg4 (t : Fin cfg0.N) : Memref sig .tc .vmem S256x256 .bf16 := win0_4.stage (cfg0.slots t 4)
abbrev stg5 (t : Fin cfg0.N) : Memref sig .tc .vmem S256x256 .bf16 := win0_5.stage (cfg0.slots t 5)
abbrev stg6 (t : Fin cfg0.N) : Memref sig .tc .vmem S256x256 .bf16 := win0_6.stage (cfg0.slots t 6)
abbrev stg7 (t : Fin cfg0.N) : Memref sig .tc .vmem S4x256x768 .f32 := win0_7.stage (cfg0.slots t 7)
abbrev stg8 (t : Fin cfg0.N) : Memref sig .tc .vmem S256x256 .bf16 := win0_8.stage (cfg0.slots t 8)
abbrev stg9 (t : Fin cfg0.N) : Memref sig .tc .vmem S256x256 .bf16 := win0_9.stage (cfg0.slots t 9)
abbrev stg10 (t : Fin cfg0.N) : Memref sig .tc .vmem S4096x256 .bf16 := win0_10.stage (cfg0.slots t 10)
abbrev stg11 (t : Fin cfg0.N) : Memref sig .tc .vmem S4096x256 .bf16 := win0_11.stage (cfg0.slots t 11)
abbrev stg12 (t : Fin cfg0.N) : Memref sig .tc .vmem S4x256x768 .f32 := win0_12.stage (cfg0.slots t 12)

/-- The two accumulators. -/
abbrev accK : Memref sig .tc .vmem S4608x256 .f32 := Memref.whole cc0_scratch0
abbrev accV : Memref sig .tc .vmem S4608x256 .f32 := Memref.whole cc0_scratch1

/-- What the launch hands the region beside the windows: the two accumulators at anything, and the generator register. -/
theorem rest_eq (c : Dev nD) :
    (Pipeline.ΦA spec0 c : sProp 𝕄)
      = iprop(iprop((∃ d, owns (c : Thread nD τ) accK fullShare d) ∗ (∃ d, owns (c : Thread nD τ) accV fullShare d)) ∗ (∃ r, prngReg c r)) := by
  unfold Pipeline.ΦA; rw [scopedRest0_eq]; simp only [accK, accV, owns_whole]; rfl

variable (m : (ℓ : Loc nD τ sig) → Buf (Elt F) ℓ) (ρ : Dev nD → PrngReg)

/-! ## What the carried buffers hold -/

/-- The blocks point `t` reads. -/
def blocks (c : Dev nD) (t : Fin cfg0.N) : Blocks F where
  q := iblk m c 0 t
  k1 := iblk m c 1 t
  k2 := iblk m c 2 t
  k3 := iblk m c 3 t
  v1 := iblk m c 4 t
  v2 := iblk m c 5 t
  v3 := iblk m c 6 t
  b := iblk m c 7 t
  g := iblk m c 8 t

/-- The key-gradient accumulator after point `n`: a head group's first tile starts from zero. -/
def dkAt (c : Dev nD) : (n : ℕ) → n < cfg0.N → Vec F S4608x256 .f32
  | 0, h => (blocks m c ⟨0, h⟩).dk (grid0.coords ⟨0, h⟩) (k0_pay5 (F := F))
  | n + 1, h => (blocks m c ⟨n + 1, h⟩).dk (grid0.coords ⟨n + 1, h⟩)
      (if (n + 1) % 16 = 0 then (k0_pay5 (F := F)) else dkAt c n (Nat.lt_of_succ_lt h))

/-- The value-gradient accumulator after point `n`. -/
def dvAt (c : Dev nD) : (n : ℕ) → n < cfg0.N → Vec F S4608x256 .f32
  | 0, h => (blocks m c ⟨0, h⟩).dv (grid0.coords ⟨0, h⟩) (k0_pay6 (F := F))
  | n + 1, h => (blocks m c ⟨n + 1, h⟩).dv (grid0.coords ⟨n + 1, h⟩)
      (if (n + 1) % 16 = 0 then (k0_pay6 (F := F)) else dvAt c n (Nat.lt_of_succ_lt h))

/-- The score-gradient planes after point `n`. -/
def dsAt (c : Dev nD) : (n : ℕ) → n < cfg0.N → Vec F S4x256x768 .f32
  | 0, h => (blocks m c ⟨0, h⟩).ds (grid0.coords ⟨0, h⟩) (k0_pay7 (F := F))
  | n + 1, h => (blocks m c ⟨n + 1, h⟩).ds (grid0.coords ⟨n + 1, h⟩)
      (if (n + 1) % 16 = 0 then (k0_pay7 (F := F)) else dsAt c n (Nat.lt_of_succ_lt h))

theorem dkAt_first (c : Dev nD) (t : Fin cfg0.N) (h : t.val % 16 = 0) :
    dkAt m c t.val t.isLt = (blocks m c t).dk (grid0.coords t) (k0_pay5 (F := F)) := by
  obtain ⟨n, hn⟩ := t
  cases n with
  | zero => rfl
  | succ n =>
    show (blocks m c ⟨n + 1, hn⟩).dk (grid0.coords ⟨n + 1, hn⟩) (if (n + 1) % 16 = 0 then _ else _) = _
    rw [if_pos h]

theorem dkAt_next (c : Dev nD) (t : Fin cfg0.N) (h : ¬ t.val % 16 = 0) :
    dkAt m c t.val t.isLt = (blocks m c t).dk (grid0.coords t)
      (dkAt m c (t.val - 1) (Nat.lt_of_le_of_lt (Nat.sub_le _ _) t.isLt)) := by
  obtain ⟨n, hn⟩ := t
  cases n with
  | zero => exact absurd rfl h
  | succ n =>
    show (blocks m c ⟨n + 1, hn⟩).dk (grid0.coords ⟨n + 1, hn⟩) (if (n + 1) % 16 = 0 then _ else _) = _
    rw [if_neg h]
    rfl

theorem dvAt_first (c : Dev nD) (t : Fin cfg0.N) (h : t.val % 16 = 0) :
    dvAt m c t.val t.isLt = (blocks m c t).dv (grid0.coords t) (k0_pay6 (F := F)) := by
  obtain ⟨n, hn⟩ := t
  cases n with
  | zero => rfl
  | succ n =>
    show (blocks m c ⟨n + 1, hn⟩).dv (grid0.coords ⟨n + 1, hn⟩) (if (n + 1) % 16 = 0 then _ else _) = _
    rw [if_pos h]

theorem dvAt_next (c : Dev nD) (t : Fin cfg0.N) (h : ¬ t.val % 16 = 0) :
    dvAt m c t.val t.isLt = (blocks m c t).dv (grid0.coords t)
      (dvAt m c (t.val - 1) (Nat.lt_of_le_of_lt (Nat.sub_le _ _) t.isLt)) := by
  obtain ⟨n, hn⟩ := t
  cases n with
  | zero => exact absurd rfl h
  | succ n =>
    show (blocks m c ⟨n + 1, hn⟩).dv (grid0.coords ⟨n + 1, hn⟩) (if (n + 1) % 16 = 0 then _ else _) = _
    rw [if_neg h]
    rfl

theorem dsAt_first (c : Dev nD) (t : Fin cfg0.N) (h : t.val % 16 = 0) :
    dsAt m c t.val t.isLt = (blocks m c t).ds (grid0.coords t) (k0_pay7 (F := F)) := by
  obtain ⟨n, hn⟩ := t
  cases n with
  | zero => rfl
  | succ n =>
    show (blocks m c ⟨n + 1, hn⟩).ds (grid0.coords ⟨n + 1, hn⟩) (if (n + 1) % 16 = 0 then _ else _) = _
    rw [if_pos h]

theorem dsAt_next (c : Dev nD) (t : Fin cfg0.N) (h : ¬ t.val % 16 = 0) :
    dsAt m c t.val t.isLt = (blocks m c t).ds (grid0.coords t)
      (dsAt m c (t.val - 1) (Nat.lt_of_le_of_lt (Nat.sub_le _ _) t.isLt)) := by
  obtain ⟨n, hn⟩ := t
  cases n with
  | zero => exact absurd rfl h
  | succ n =>
    show (blocks m c ⟨n + 1, hn⟩).ds (grid0.coords ⟨n + 1, hn⟩) (if (n + 1) % 16 = 0 then _ else _) = _
    rw [if_neg h]
    rfl

/-! ## The pipeline's proof data -/

/-- Before point `n`: nothing is known of the accumulators at the first, afterwards they hold what the point before left. -/
def carried (c : Dev nD) : (n : ℕ) → n ≤ cfg0.N → sProp 𝕄
  | 0, _ => Pipeline.ΦA spec0 c
  | n + 1, hn => iprop(iprop(owns (c : Thread nD τ) accK fullShare (dkAt m c n hn)
      ∗ owns (c : Thread nD τ) accV fullShare (dvAt m c n hn)) ∗ (∃ r, prngReg c r))

theorem carried_zero (c : Dev nD) (n : ℕ) (h : n ≤ cfg0.N) (hz : n = 0) : carried m c n h = Pipeline.ΦA spec0 c := by
  subst hz; rfl

theorem carried_pos (c : Dev nD) (n : ℕ) (h : n ≤ cfg0.N) (hz : n ≠ 0) :
    carried m c n h = iprop(iprop(owns (c : Thread nD τ) accK fullShare (dkAt m c (n - 1) (by omega))
      ∗ owns (c : Thread nD τ) accV fullShare (dvAt m c (n - 1) (by omega))) ∗ (∃ r, prngReg c r)) := by
  cases n with
  | zero => exact absurd rfl hz
  | succ n => rfl

/-- Whatever the point, the accumulators hold something. -/
theorem carried_forget (c : Dev nD) (n : ℕ) (h : n ≤ cfg0.N) : carried m c n h ⊢ Pipeline.ΦA spec0 c := by
  cases n with
  | zero => exact Idealize.SL.BI.Entails.refl _
  | succ n =>
    rw [rest_eq]
    show iprop(iprop(owns (c : Thread nD τ) accK fullShare (dkAt m c n h)
      ∗ owns (c : Thread nD τ) accV fullShare (dvAt m c n h)) ∗ (∃ r, prngReg c r)) ⊢ _
    iintro ⟨⟨HS0, HS1⟩, Hg⟩
    isplitl [HS0 HS1]
    · isplitl [HS0]
      · iexists _; iexact HS0
      iexists _; iexact HS1
    iexact Hg

/-- After the body at point `t` each input's buffer is at its block, the query gradient at the body's, the two blocks
    of the last tile at the accumulators' rows, the planes at the running planes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (blocks m c t).dq (grid0.coords t)
    | ⟨10, _⟩ => k0_pay3 (tail (dkAt m c t.val t.isLt))
    | ⟨11, _⟩ => k0_pay4 (tail (dvAt m c t.val t.isLt))
    | ⟨12, _⟩ => dsAt m c t.val t.isLt
  Φ t := carried m c t.val (Nat.le_of_lt_succ t.isLt)
  q w := Pipeline.shareOf spec0 w
  owed _ := 0

theorem dats_A (c : Dev nD) (w : Fin cfg0.W) : (dats m 0 c).A w = V m c (Pipeline.arrRef spec0 w) := by
  dsimp only [dats]

theorem dats_Φ (c : Dev nD) (t : Fin cfg0.N) :
    (dats m 0 c).Φ t.castSucc = carried m c t.val (Nat.le_of_lt t.isLt) := by
  dsimp only [dats]; exact Pipeline.Dat.Φ_castSucc (carried m c) t

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (dats_A m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (dats_A m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (dats_A m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (dats_A m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (dats_A m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (dats_A m c 5) (after5 m c) t d
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (dats_A m c 6) (after6 m c) t d
theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before0_7_of m (dats m 0 c) (dats_A m c 7) (after7 m c) t d
theorem after8 (c : Dev nD) (t : Fin cfg0.N) : (dats m 0 c).after 8 t = iblk m c 8 t := by dsimp only [dats]
theorem before8 (c : Dev nD) (t : Fin cfg0.N) (d) : (dats m 0 c).before 8 t d = iblk m c 8 t :=
  before0_8_of m (dats m 0 c) (dats_A m c 8) (after8 m c) t d
theorem after9 (c : Dev nD) (t : Fin cfg0.N) : (dats m 0 c).after 9 t = (blocks m c t).dq (grid0.coords t) := by dsimp only [dats]
theorem after10 (c : Dev nD) (t : Fin cfg0.N) : (dats m 0 c).after 10 t = k0_pay3 (tail (dkAt m c t.val t.isLt)) := by dsimp only [dats]
theorem after11 (c : Dev nD) (t : Fin cfg0.N) : (dats m 0 c).after 11 t = k0_pay4 (tail (dvAt m c t.val t.isLt)) := by dsimp only [dats]
theorem after12 (c : Dev nD) (t : Fin cfg0.N) : (dats m 0 c).after 12 t = dsAt m c t.val t.isLt := by dsimp only [dats]

/-- Past a head group's first tile the planes' buffer holds what the tile before left. -/
theorem before12 (c : Dev nD) (t : Fin cfg0.N) (h0 : ¬ t.val % 16 = 0) (d) :
    (dats m 0 c).before 12 t d = dsAt m c (t.val - 1) (Nat.lt_of_le_of_lt (Nat.sub_le _ _) t.isLt) := by
  have hN : t.val < 64 := lt_of_lt_of_eq t.isLt (show cfg0.N = 64 from N_0)
  rw [Dat.before_out_kept _ 12 rfl t (by omega)
    (Bool.eq_false_iff.mpr fun h => by have := (flush0_12 _).mp h; dsimp only at this; omega) (fun _ => rfl) (fun _ _ => rfl)]
  dsimp only [dats]

/-! ## The body's obligation -/

/-- What the body is handed at point `t`. -/
def given (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare ((dats m 0 c).before 12 t d)))

/-- What it hands back. -/
def returned (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- A window that is live at a point is left at the proof data's contents. -/
theorem leaves0 (c : Dev nD) (t : Fin cfg0.N) :
    (dats m 0 c).leavesExact 0 t = owns (c : Thread nD τ) (stg0 t) fullShare ((dats m 0 c).after 0 t) := by
  unfold Dat.leavesExact; rw [show cfg0.idle 0 (grid0.coords t) = false from rfl]
theorem leaves1 (c : Dev nD) (t : Fin cfg0.N) :
    (dats m 0 c).leavesExact 1 t = owns (c : Thread nD τ) (stg1 t) fullShare ((dats m 0 c).after 1 t) := by
  unfold Dat.leavesExact; rw [show cfg0.idle 1 (grid0.coords t) = false from rfl]
theorem leaves2 (c : Dev nD) (t : Fin cfg0.N) :
    (dats m 0 c).leavesExact 2 t = owns (c : Thread nD τ) (stg2 t) fullShare ((dats m 0 c).after 2 t) := by
  unfold Dat.leavesExact; rw [show cfg0.idle 2 (grid0.coords t) = false from rfl]
theorem leaves3 (c : Dev nD) (t : Fin cfg0.N) :
    (dats m 0 c).leavesExact 3 t = owns (c : Thread nD τ) (stg3 t) fullShare ((dats m 0 c).after 3 t) := by
  unfold Dat.leavesExact; rw [show cfg0.idle 3 (grid0.coords t) = false from rfl]
theorem leaves4 (c : Dev nD) (t : Fin cfg0.N) :
    (dats m 0 c).leavesExact 4 t = owns (c : Thread nD τ) (stg4 t) fullShare ((dats m 0 c).after 4 t) := by
  unfold Dat.leavesExact; rw [show cfg0.idle 4 (grid0.coords t) = false from rfl]
theorem leaves5 (c : Dev nD) (t : Fin cfg0.N) :
    (dats m 0 c).leavesExact 5 t = owns (c : Thread nD τ) (stg5 t) fullShare ((dats m 0 c).after 5 t) := by
  unfold Dat.leavesExact; rw [show cfg0.idle 5 (grid0.coords t) = false from rfl]
theorem leaves6 (c : Dev nD) (t : Fin cfg0.N) :
    (dats m 0 c).leavesExact 6 t = owns (c : Thread nD τ) (stg6 t) fullShare ((dats m 0 c).after 6 t) := by
  unfold Dat.leavesExact; rw [show cfg0.idle 6 (grid0.coords t) = false from rfl]
theorem leaves7 (c : Dev nD) (t : Fin cfg0.N) :
    (dats m 0 c).leavesExact 7 t = owns (c : Thread nD τ) (stg7 t) fullShare ((dats m 0 c).after 7 t) := by
  unfold Dat.leavesExact; rw [show cfg0.idle 7 (grid0.coords t) = false from rfl]
theorem leaves8 (c : Dev nD) (t : Fin cfg0.N) :
    (dats m 0 c).leavesExact 8 t = owns (c : Thread nD τ) (stg8 t) fullShare ((dats m 0 c).after 8 t) := by
  unfold Dat.leavesExact; rw [show cfg0.idle 8 (grid0.coords t) = false from rfl]
theorem leaves9 (c : Dev nD) (t : Fin cfg0.N) :
    (dats m 0 c).leavesExact 9 t = owns (c : Thread nD τ) (stg9 t) fullShare ((dats m 0 c).after 9 t) := by
  unfold Dat.leavesExact; rw [show cfg0.idle 9 (grid0.coords t) = false from rfl]
theorem leaves10 (c : Dev nD) (t : Fin cfg0.N) (hl : k0_cond2 (grid0.coords t) = 1#1) :
    (dats m 0 c).leavesExact 10 t = owns (c : Thread nD τ) (stg10 t) fullShare ((dats m 0 c).after 10 t) := by
  unfold Dat.leavesExact; rw [live_dk t hl]
theorem leaves11 (c : Dev nD) (t : Fin cfg0.N) (hl : k0_cond2 (grid0.coords t) = 1#1) :
    (dats m 0 c).leavesExact 11 t = owns (c : Thread nD τ) (stg11 t) fullShare ((dats m 0 c).after 11 t) := by
  unfold Dat.leavesExact; rw [live_dv t hl]
theorem leaves12 (c : Dev nD) (t : Fin cfg0.N) :
    (dats m 0 c).leavesExact 12 t = owns (c : Thread nD τ) (stg12 t) fullShare ((dats m 0 c).after 12 t) := by
  unfold Dat.leavesExact; rw [show cfg0.idle 12 (grid0.coords t) = false from rfl]

set_option maxHeartbeats 4000000 in
set_option maxHeartbeats 1600000 in
theorem sound_zero (c : Dev nD) (t : Fin cfg0.N) (h0 : t.val % 16 = 0) (hz : t.val = 0) :
    given m c t ⊢ wp frame (wpE (defs₀ (F := F)) Variants.none c none) Set.univ (bodyAt0 t) (fun _ => returned m c t) := by
  unfold given returned bodyAt0
  simp only [before0, before1, before2, before3, before4, before5, before6, before7, before8]
  rw [show (dats m 0 c).owesAt () t.succ = (dats m 0 c).owesAt () t.castSucc from rfl]
  rw [show (dats m 0 c).Φ t.succ = iprop(iprop(owns (c : Thread nD τ) accK fullShare (dkAt m c t.val t.isLt)
      ∗ owns (c : Thread nD τ) accV fullShare (dvAt m c t.val t.isLt)) ∗ (∃ r, prngReg c r)) from rfl]
  rw [leaves0, after0, leaves1, after1, leaves2, after2, leaves3, after3, leaves4, after4, leaves5, after5, leaves6, after6, leaves7, after7, leaves8, after8, leaves9, after9, leaves12, after12, dats_Φ]
  have hN : t.val < 64 := lt_of_lt_of_eq t.isLt (show cfg0.N = 64 from N_0)
  have h1 : ¬ t.val % 16 = 15 := by omega
  rw [Dat.leavesExact_idle (dats m 0 c) 10 t (idle_dk t (fun h => h1 ((last_iff t).mp h)))
      (Bool.eq_false_iff.mpr fun h => h1 ((flush0_10 t).mp h)),
    Dat.leavesExact_idle (dats m 0 c) 11 t (idle_dv t (fun h => h1 ((last_iff t).mp h)))
      (Bool.eq_false_iff.mpr fun h => h1 ((flush0_11 t).mp h))]
  rw [dkAt_first m c t h0, dvAt_first m c t h0, dsAt_first m c t h0]
  rw [carried_zero m c t.val _ hz, rest_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runA c (grid0.coords t) _ _ _ _ _ _ _ _ _ _ _ _ _ _ _ _ _ _ _ _ _ _ _ _ _ _ _ _ _ _ ((first_iff t).mpr h0) (fun h => h1 ((last_iff t).mp h)) (blocks m c t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [H12]; · iexists _; iexact H12
  isplitl [HS0]; · iexact HS0
  isplitl [HS1]; · iexact HS1
  iintro ⟨H0, H1, H2, H3, H4, H5, H6, H7, H8, H9, H10, H11, H12, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iexact H12

set_option maxHeartbeats 1600000 in
theorem sound_first (c : Dev nD) (t : Fin cfg0.N) (h0 : t.val % 16 = 0) (hz : t.val ≠ 0) :
    given m c t ⊢ wp frame (wpE (defs₀ (F := F)) Variants.none c none) Set.univ (bodyAt0 t) (fun _ => returned m c t) := by
  unfold given returned bodyAt0
  simp only [before0, before1, before2, before3, before4, before5, before6, before7, before8]
  rw [show (dats m 0 c).owesAt () t.succ = (dats m 0 c).owesAt () t.castSucc from rfl]
  rw [show (dats m 0 c).Φ t.succ = iprop(iprop(owns (c : Thread nD τ) accK fullShare (dkAt m c t.val t.isLt)
      ∗ owns (c : Thread nD τ) accV fullShare (dvAt m c t.val t.isLt)) ∗ (∃ r, prngReg c r)) from rfl]
  rw [leaves0, after0, leaves1, after1, leaves2, after2, leaves3, after3, leaves4, after4, leaves5, after5, leaves6, after6, leaves7, after7, leaves8, after8, leaves9, after9, leaves12, after12, dats_Φ]
  have hN : t.val < 64 := lt_of_lt_of_eq t.isLt (show cfg0.N = 64 from N_0)
  have h1 : ¬ t.val % 16 = 15 := by omega
  rw [Dat.leavesExact_idle (dats m 0 c) 10 t (idle_dk t (fun h => h1 ((last_iff t).mp h)))
      (Bool.eq_false_iff.mpr fun h => h1 ((flush0_10 t).mp h)),
    Dat.leavesExact_idle (dats m 0 c) 11 t (idle_dv t (fun h => h1 ((last_iff t).mp h)))
      (Bool.eq_false_iff.mpr fun h => h1 ((flush0_11 t).mp h))]
  rw [dkAt_first m c t h0, dvAt_first m c t h0, dsAt_first m c t h0]
  rw [carried_pos m c t.val _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runA c (grid0.coords t) _ _ _ _ _ _ _ _ _ _ _ _ _ _ _ _ _ _ _ _ _ _ _ _ _ _ _ _ _ _ ((first_iff t).mpr h0) (fun h => h1 ((last_iff t).mp h)) (blocks m c t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [H12]; · iexists _; iexact H12
  isplitl [HS0]; · iexists _; iexact HS0
  isplitl [HS1]; · iexists _; iexact HS1
  iintro ⟨H0, H1, H2, H3, H4, H5, H6, H7, H8, H9, H10, H11, H12, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iexact H12

set_option maxHeartbeats 1600000 in
theorem sound_last (c : Dev nD) (t : Fin cfg0.N) (h0 : ¬ t.val % 16 = 0) (h1 : t.val % 16 = 15) :
    given m c t ⊢ wp frame (wpE (defs₀ (F := F)) Variants.none c none) Set.univ (bodyAt0 t) (fun _ => returned m c t) := by
  unfold given returned bodyAt0
  simp only [before0, before1, before2, before3, before4, before5, before6, before7, before8]
  rw [show (dats m 0 c).owesAt () t.succ = (dats m 0 c).owesAt () t.castSucc from rfl]
  rw [show (dats m 0 c).Φ t.succ = iprop(iprop(owns (c : Thread nD τ) accK fullShare (dkAt m c t.val t.isLt)
      ∗ owns (c : Thread nD τ) accV fullShare (dvAt m c t.val t.isLt)) ∗ (∃ r, prngReg c r)) from rfl]
  rw [leaves0, after0, leaves1, after1, leaves2, after2, leaves3, after3, leaves4, after4, leaves5, after5, leaves6, after6, leaves7, after7, leaves8, after8, leaves9, after9, leaves12, after12, dats_Φ]
  have hN : t.val < 64 := lt_of_lt_of_eq t.isLt (show cfg0.N = 64 from N_0)
  have hz : t.val ≠ 0 := fun h => h0 (by rw [h])
  rw [carried_pos m c t.val _ hz, dkAt_next m c t h0, dvAt_next m c t h0, dsAt_next m c t h0]
  simp only [before12 m c t h0]
  rw [leaves10 m c t ((last_iff t).mpr h1), after10, leaves11 m c t ((last_iff t).mpr h1), after11]
  rw [dkAt_next m c t h0, dvAt_next m c t h0]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runC c (grid0.coords t) _ _ _ _ _ _ _ _ _ _ _ _ _ _ _ _ _ _ _ _ _ _ _ _ _ _ _ _ _ _ (fun h => h0 ((first_iff t).mp h)) ((last_iff t).mpr h1) (blocks m c t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexact H12
  isplitl [HS0]; · iexact HS0
  isplitl [HS1]; · iexact HS1
  iintro ⟨H0, H1, H2, H3, H4, H5, H6, H7, H8, H9, H10, H11, H12, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

set_option maxHeartbeats 1600000 in
theorem sound_mid (c : Dev nD) (t : Fin cfg0.N) (h0 : ¬ t.val % 16 = 0) (h1 : ¬ t.val % 16 = 15) :
    given m c t ⊢ wp frame (wpE (defs₀ (F := F)) Variants.none c none) Set.univ (bodyAt0 t) (fun _ => returned m c t) := by
  unfold given returned bodyAt0
  simp only [before0, before1, before2, before3, before4, before5, before6, before7, before8]
  rw [show (dats m 0 c).owesAt () t.succ = (dats m 0 c).owesAt () t.castSucc from rfl]
  rw [show (dats m 0 c).Φ t.succ = iprop(iprop(owns (c : Thread nD τ) accK fullShare (dkAt m c t.val t.isLt)
      ∗ owns (c : Thread nD τ) accV fullShare (dvAt m c t.val t.isLt)) ∗ (∃ r, prngReg c r)) from rfl]
  rw [leaves0, after0, leaves1, after1, leaves2, after2, leaves3, after3, leaves4, after4, leaves5, after5, leaves6, after6, leaves7, after7, leaves8, after8, leaves9, after9, leaves12, after12, dats_Φ]
  have hN : t.val < 64 := lt_of_lt_of_eq t.isLt (show cfg0.N = 64 from N_0)
  have hz : t.val ≠ 0 := fun h => h0 (by rw [h])
  rw [carried_pos m c t.val _ hz, dkAt_next m c t h0, dvAt_next m c t h0, dsAt_next m c t h0]
  simp only [before12 m c t h0]
  rw [Dat.leavesExact_idle (dats m 0 c) 10 t (idle_dk t (fun h => h1 ((last_iff t).mp h)))
      (Bool.eq_false_iff.mpr fun h => h1 ((flush0_10 t).mp h)),
    Dat.leavesExact_idle (dats m 0 c) 11 t (idle_dv t (fun h => h1 ((last_iff t).mp h)))
      (Bool.eq_false_iff.mpr fun h => h1 ((flush0_11 t).mp h))]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runB c (grid0.coords t) _ _ _ _ _ _ _ _ _ _ _ _ _ _ _ _ _ _ _ _ _ _ _ _ _ _ _ _ _ _ (fun h => h0 ((first_iff t).mp h)) (fun h => h1 ((last_iff t).mp h)) (blocks m c t) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [H12]; · iexact H12
  isplitl [HS0]; · iexact HS0
  isplitl [HS1]; · iexact HS1
  iintro ⟨H0, H1, H2, H3, H4, H5, H6, H7, H8, H9, H10, H11, H12, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iexact H12

/-- The body at any point. -/
theorem sound (c : Dev nD) (t : Fin cfg0.N) :
    given m c t ⊢ wp frame (wpE (defs₀ (F := F)) Variants.none c none) Set.univ (bodyAt0 t) (fun _ => returned m c t) := by
  by_cases h0 : t.val % 16 = 0
  · by_cases hz : t.val = 0
    · exact sound_zero m c t h0 hz
    · exact sound_first m c t h0 hz
  · by_cases h1 : t.val % 16 = 15
    · exact sound_last m c t h0 h1
    · exact sound_mid m c t h0 h1

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

/-! ## The launch -/

theorem enter (c : Dev nD) : Pipeline.ΦA spec0 c ⊢ (dats m 0 c).Φ 0 := by
  rw [show (dats m 0 c).Φ 0 = Pipeline.ΦA spec0 c from rfl]

theorem leave (c : Dev nD) : (dats m 0 c).Φ (Fin.last cfg0.N) ⊢ Pipeline.ΦA spec0 c := by
  rw [show (dats m 0 c).Φ (Fin.last cfg0.N) = carried m c (Fin.last cfg0.N).val (Nat.le_of_lt_succ (Fin.last cfg0.N).isLt) from rfl]
  exact carried_forget m c _ _

set_option backward.isDefEq.respectTransparency.types false in
/-- Every execution of the program ends with every array of the pipeline at what the proof data computes, every other
    buffer as the region found it, and every counter at zero. -/
theorem run_all : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := dats_A m) (hin := enter m) (hout := leave m)

theorem run_main : θ_run defs (onTc (τ := τ) (main (F := F))) (s₀ m ρ) (Pipeline.FramePost cfgs (dats m) 0 (V m)) :=
  (θ_run defs _ _).mono (fun _ h => h.1) (run_all m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) (run_main m ρ)) ((θ_run defs _ _).mono (fun _ h => h.2) (run_all m ρ))

end Cert.KernelIdeal.Attn
-- ==== Proof.Math.Real.lean ====
/- Extended-real arithmetic used by the attention's gradient: a positive real factor distributes over every sum, the
   exponential of a masked score is zero, and a sum or a maximum over a window is that over the whole row. -/
module

public import Idealize.ShloMosaic.PureOps.Ideal.Laws
public import Mathlib.Data.EReal.Inv
public import Mathlib.Algebra.BigOperators.Intervals

@[expose] public section

noncomputable section

namespace Cert.Attn

open Idealize.ShloMosaic Finset

/-- A positive real factor distributes over any sum of two extended reals. -/
theorem pos_mul_add {c : ℝ} (hc : 0 < c) (x y : EReal) : (c : EReal) * (x + y) = c * x + c * y :=
  EReal.left_distrib_of_nonneg_of_ne_top (by exact_mod_cast hc.le) (EReal.coe_ne_top c) x y

/-- It distributes over a finite sum. -/
theorem pos_mul_sum {c : ℝ} (hc : 0 < c) {ι : Type} (s : Finset ι) (f : ι → EReal) :
    (c : EReal) * ∑ i ∈ s, f i = ∑ i ∈ s, (c : EReal) * f i := by
  classical
  induction s using Finset.induction_on with
  | empty => simp
  | insert a s ha ih => rw [sum_insert ha, sum_insert ha, pos_mul_add hc, ih]

theorem sum_mul_pos {c : ℝ} (hc : 0 < c) {ι : Type} (s : Finset ι) (f : ι → EReal) :
    (∑ i ∈ s, f i) * (c : EReal) = ∑ i ∈ s, f i * (c : EReal) := by
  rw [mul_comm, pos_mul_sum hc]; exact sum_congr rfl fun i _ => mul_comm _ _

/-- It distributes over a difference. -/
theorem pos_mul_sub {c : ℝ} (hc : 0 < c) (x y : EReal) : (c : EReal) * (x - y) = c * x - c * y := by
  rw [sub_eq_add_neg, pos_mul_add hc, mul_neg, ← sub_eq_add_neg]

@[simp] theorem exp_bot : Ideal.exp ⊥ = 0 := rfl
@[simp] theorem exp_coe (r : ℝ) : Ideal.exp (r : EReal) = ((Real.exp r : ℝ) : EReal) := rfl

theorem div_of_ne {x y : EReal} (h : y ≠ 0) : Ideal.div x y = x * y⁻¹ := by unfold Ideal.div; rw [if_neg h]

/-- A finite sum of reals is the real sum. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

/-- A sum of products of reals is real. -/
theorem sum_real {ι : Type} (s : Finset ι) (f : ι → EReal) (h : ∀ i ∈ s, ∃ r : ℝ, f i = r) : ∃ r : ℝ, ∑ i ∈ s, f i = r := by
  classical
  choose! g hg using h
  exact ⟨∑ i ∈ s, g i, by rw [← sum_coe]; exact sum_congr rfl hg⟩

/-- A window of 768 padded rows from `a` on, when nothing outside it and nothing before row 512 contributes, sums to the
    whole of the 4096 rows that follow the padding. -/
theorem sum_window (a : ℕ) (ha : a + 768 ≤ 4608) (f : ℕ → EReal) (h0 : ∀ p, p < 512 → f p = 0)
    (hout : ∀ p, ¬ (a ≤ p ∧ p < a + 768) → f p = 0) :
    ∑ w ∈ range 768, f (a + w) = ∑ j ∈ range 4096, f (512 + j) := by
  have e1 : ∑ w ∈ range 768, f (a + w) = ∑ p ∈ range 4608, f p := by
    rw [show ∑ w ∈ range 768, f (a + w) = ∑ p ∈ Ico a (a + 768), f p by
      rw [sum_Ico_eq_sum_range]; simp]
    refine sum_subset (fun p hp => ?_) fun p _ hp => ?_
    · rw [mem_Ico] at hp; rw [mem_range]; omega
    · rw [mem_Ico] at hp; exact hout p hp
  rw [e1, show ∑ j ∈ range 4096, f (512 + j) = ∑ p ∈ Ico 512 4608, f p by rw [sum_Ico_eq_sum_range]]
  refine (sum_subset (fun p hp => ?_) fun p hp hq => ?_).symm
  · rw [mem_Ico] at hp; rw [mem_range]; omega
  · rw [mem_range] at hp; rw [mem_Ico] at hq; exact h0 p (by omega)

/-- The maximum over such a window likewise, `⊥` in the place of zero. -/
theorem sup_window (a : ℕ) (ha : a + 768 ≤ 4608) (f : ℕ → EReal) (h0 : ∀ p, p < 512 → f p = ⊥)
    (hout : ∀ p, ¬ (a ≤ p ∧ p < a + 768) → f p = ⊥) :
    (range 768).sup (fun w => f (a + w)) = (range 4096).sup (fun j => f (512 + j)) := by
  apply le_antisymm
  · refine Finset.sup_le fun w hw => ?_
    rw [mem_range] at hw
    by_cases h : a + w < 512
    · rw [h0 _ h]; exact bot_le
    · have : f (a + w) = (fun j => f (512 + j)) (a + w - 512) := by show _ = f _; congr 1; omega
      rw [this]
      exact Finset.le_sup (f := fun j => f (512 + j)) (by rw [mem_range]; omega)
  · refine Finset.sup_le fun j hj => ?_
    rw [mem_range] at hj
    by_cases h : a ≤ 512 + j ∧ 512 + j < a + 768
    · have : f (512 + j) = (fun w => f (a + w)) (512 + j - a) := by show _ = f _; congr 1; omega
      rw [this]
      exact Finset.le_sup (f := fun w => f (a + w)) (by rw [mem_range]; omega)
    · rw [hout _ h]; exact bot_le

/-- The fold of `max` from `⊥` is the supremum. -/
theorem fold_max_eq_sup {ι : Type} [Fintype ι] (f : ι → EReal) : (univ : Finset ι).fold max ⊥ f = univ.sup f := rfl

/-- A supremum over `Fin n` is that over the naturals below `n`. -/
theorem sup_fin (n : ℕ) (f : ℕ → EReal) : (univ : Finset (Fin n)).sup (fun k => f k.val) = (range n).sup f := by
  apply le_antisymm
  · exact Finset.sup_le fun k _ => Finset.le_sup (f := f) (mem_range.mpr k.isLt)
  · exact Finset.sup_le fun k hk => Finset.le_sup (f := fun k : Fin n => f k.val) (mem_univ (⟨k, mem_range.mp hk⟩ : Fin n))

/-- A supremum of extended reals below `⊤` with one of them real is real. -/
theorem sup_real {ι : Type} (s : Finset ι) (f : ι → EReal) (h : ∀ i ∈ s, f i = ⊥ ∨ ∃ r : ℝ, f i = r)
    (i : ι) (hi : i ∈ s) (hr : ∃ r : ℝ, f i = r) : ∃ r : ℝ, s.sup f = r := by
  have htop : s.sup f ≠ ⊤ := by
    apply ne_of_lt
    rw [Finset.sup_lt_iff (by exact bot_lt_top)]
    intro j hj
    rcases h j hj with e | ⟨r, e⟩
    · rw [e]; exact bot_lt_top
    · rw [e]; exact EReal.coe_lt_top r
  have hbot : s.sup f ≠ ⊥ := by
    obtain ⟨r, e⟩ := hr
    have : (r : EReal) ≤ s.sup f := e ▸ Finset.le_sup (f := f) hi
    intro hb; rw [hb] at this; exact absurd (le_bot_iff.mp this) (EReal.coe_ne_bot r)
  exact ⟨(s.sup f).toReal, (EReal.coe_toReal htop hbot).symm⟩

end Cert.Attn

end
-- ==== Proof.Math.Head.lean ====
/- One head of the chunked attention and its gradient, over extended reals: rows and keys are natural numbers below 4096,
   features below 64. A query attends to its own chunk of 64 keys and to the eight chunks before it. -/
module

public import proofs.«01_k».proof.Proof.Math.Real

@[expose] public section

noncomputable section

namespace Cert.Attn

open Idealize.ShloMosaic Finset

/-- One eighth, the scale of the scores. -/
def c8 : EReal := ((1 / 8 : ℝ) : EReal)

theorem c8_pos : (0 : ℝ) < 1 / 8 := by norm_num

/-- A head: queries, keys, values and cotangents by row and feature, and the bias by query and key. -/
structure Head where
  q : ℕ → ℕ → EReal
  k : ℕ → ℕ → EReal
  v : ℕ → ℕ → EReal
  g : ℕ → ℕ → EReal
  b : ℕ → ℕ → EReal

/-- Query `i` attends to key `j`. -/
def ok (i j : ℕ) : Prop := j / 64 ≤ i / 64 ∧ i / 64 ≤ j / 64 + 8
instance (i j : ℕ) : Decidable (ok i j) := by unfold ok; infer_instance

theorem ok_self (i : ℕ) : ok i i := ⟨le_rfl, by omega⟩

namespace Head

variable (H : Head)

/-- The masked score. -/
def score (i j : ℕ) : EReal := if ok i j then (∑ d ∈ range 64, H.q i d * H.k j d) * c8 + H.b i j else ⊥
/-- The greatest score of a row. -/
def top (i : ℕ) : EReal := (range 4096).sup (H.score i)
/-- The exponential of a score less the row's greatest. -/
def e (i j : ℕ) : EReal := Ideal.exp (H.score i j - H.top i)
/-- The row's sum of exponentials. -/
def L (i : ℕ) : EReal := ∑ j ∈ range 4096, H.e i j
/-- The probability. -/
def p (i j : ℕ) : EReal := H.e i j * (H.L i)⁻¹
/-- The gradient of the probability. -/
def dp (i j : ℕ) : EReal := ∑ d ∈ range 64, H.g i d * H.v j d
/-- The gradient of the score. -/
def ds (i j : ℕ) : EReal := H.p i j * (H.dp i j - ∑ j' ∈ range 4096, H.p i j' * H.dp i j')
/-- The gradients of the queries, keys and values. -/
def dq (i d : ℕ) : EReal := (∑ j ∈ range 4096, H.ds i j * H.k j d) * c8
def dk (j d : ℕ) : EReal := ∑ i ∈ range 4096, H.ds i j * (H.q i d * c8)
def dv (j d : ℕ) : EReal := ∑ i ∈ range 4096, H.p i j * H.g i d

/-- Queries, keys and biases are real. -/
structure Real : Prop where
  q : ∀ i d, ∃ r : ℝ, H.q i d = r
  k : ∀ j d, ∃ r : ℝ, H.k j d = r
  b : ∀ i j, ∃ r : ℝ, H.b i j = r

variable {H}

theorem Real.score (h : H.Real) (i j : ℕ) (hij : ok i j) : ∃ r : ℝ, H.score i j = r := by
  obtain ⟨s, hs⟩ := sum_real (range 64) (fun d => H.q i d * H.k j d) fun d _ => by
    obtain ⟨x, hx⟩ := h.q i d
    obtain ⟨y, hy⟩ := h.k j d
    exact ⟨x * y, by rw [hx, hy, EReal.coe_mul]⟩
  obtain ⟨y, hy⟩ := h.b i j
  exact ⟨s * (1 / 8) + y, by rw [Head.score, if_pos hij, hs, hy, c8, EReal.coe_add, EReal.coe_mul]⟩

theorem score_of_not (i j : ℕ) (hij : ¬ ok i j) : H.score i j = ⊥ := if_neg hij

theorem e_of_not (i j : ℕ) (hij : ¬ ok i j) : H.e i j = 0 := by
  rw [e, score_of_not i j hij, sub_eq_add_neg, EReal.bot_add]; rfl

theorem p_of_not (i j : ℕ) (hij : ¬ ok i j) : H.p i j = 0 := by rw [p, e_of_not i j hij, zero_mul]

theorem ds_of_not (i j : ℕ) (hij : ¬ ok i j) : H.ds i j = 0 := by rw [ds, p_of_not i j hij, zero_mul]

theorem Real.top (h : H.Real) (i : ℕ) (hi : i < 4096) : ∃ r : ℝ, H.top i = r :=
  sup_real _ _ (fun j _ => by
    by_cases hij : ok i j
    · exact .inr (h.score i j hij)
    · exact .inl (score_of_not i j hij)) i (mem_range.mpr hi) (h.score i i (ok_self i))

/-- An exponential is a nonnegative real. -/
theorem Real.e (h : H.Real) (i j : ℕ) (hi : i < 4096) : ∃ r : ℝ, 0 ≤ r ∧ H.e i j = r := by
  by_cases hij : ok i j
  · obtain ⟨s, hs⟩ := h.score i j hij
    obtain ⟨t, ht⟩ := h.top i hi
    exact ⟨Real.exp (s - t), (Real.exp_pos _).le, by rw [Head.e, hs, ht, ← EReal.coe_sub, exp_coe]⟩
  · exact ⟨0, le_rfl, by rw [e_of_not i j hij]; rfl⟩

/-- The row's sum is a positive real. -/
theorem Real.L (h : H.Real) (i : ℕ) (hi : i < 4096) : ∃ r : ℝ, 0 < r ∧ H.L i = r := by
  choose f hf hf' using fun j => h.e i j hi
  refine ⟨∑ j ∈ range 4096, f j, ?_, by rw [Head.L, ← sum_coe]; exact sum_congr rfl fun j _ => hf' j⟩
  refine sum_pos' (fun j _ => hf j) ⟨i, mem_range.mpr hi, ?_⟩
  obtain ⟨s, hs⟩ := h.score i i (ok_self i)
  obtain ⟨t, ht⟩ := h.top i hi
  have : ((f i : ℝ) : EReal) = ((Real.exp (s - t) : ℝ) : EReal) := by
    rw [← hf' i, Head.e, hs, ht, ← EReal.coe_sub, exp_coe]
  rw [EReal.coe_eq_coe_iff.mp this]
  exact Real.exp_pos _

/-- The gradient of a score as the derivative of a quotient computes it: from the exponentials, their sum and its square. -/
theorem Real.ds_quotient (h : H.Real) (i j : ℕ) (hi : i < 4096) :
    (Ideal.div (H.dp i j) (H.L i)
        + -(∑ j' ∈ range 4096, H.dp i j' * Ideal.div 1 (H.L i * H.L i) * H.e i j')) * H.e i j = H.ds i j := by
  obtain ⟨l, hl, eL⟩ := h.L i hi
  have hl0 : H.L i ≠ 0 := by rw [eL]; exact_mod_cast hl.ne'
  have hll : H.L i * H.L i ≠ 0 := by rw [eL, ← EReal.coe_mul]; exact_mod_cast (mul_pos hl hl).ne'
  have einv : (H.L i)⁻¹ = ((l⁻¹ : ℝ) : EReal) := by rw [eL, EReal.coe_inv]
  have einv2 : (H.L i * H.L i)⁻¹ = ((l⁻¹ : ℝ) : EReal) * ((l⁻¹ : ℝ) : EReal) := by
    rw [eL, ← EReal.coe_mul, ← EReal.coe_inv, mul_inv, EReal.coe_mul]
  have hp : (0 : ℝ) < l⁻¹ := inv_pos.mpr hl
  rw [div_of_ne hl0, div_of_ne hll, one_mul, einv, einv2, Head.ds, Head.p, einv]
  have e2 : ∑ j' ∈ range 4096, H.dp i j' * (((l⁻¹ : ℝ) : EReal) * ((l⁻¹ : ℝ) : EReal)) * H.e i j'
      = ((l⁻¹ : ℝ) : EReal) * ∑ j' ∈ range 4096, H.p i j' * H.dp i j' := by
    rw [pos_mul_sum hp]
    refine sum_congr rfl fun j' _ => ?_
    rw [Head.p, einv]; ac_rfl
  rw [e2, mul_comm (H.dp i j), ← sub_eq_add_neg, ← pos_mul_sub hp]
  ac_rfl

/-- A probability as one over the sum times the exponential, and as the quotient. -/
theorem Real.p_recip (h : H.Real) (i j : ℕ) (hi : i < 4096) : H.e i j * Ideal.div 1 (H.L i) = H.p i j := by
  obtain ⟨l, hl, eL⟩ := h.L i hi
  have hl0 : H.L i ≠ 0 := by rw [eL]; exact_mod_cast hl.ne'
  rw [div_of_ne hl0, one_mul, Head.p]

theorem Real.p_quotient (h : H.Real) (i j : ℕ) (hi : i < 4096) : Ideal.div (H.e i j) (H.L i) = H.p i j := by
  obtain ⟨l, hl, eL⟩ := h.L i hi
  have hl0 : H.L i ≠ 0 := by rw [eL]; exact_mod_cast hl.ne'
  rw [div_of_ne hl0, Head.p]

/-- The scale may be taken inside the sums. -/
theorem dq_eq (i d : ℕ) : H.dq i d = ∑ j ∈ range 4096, H.ds i j * c8 * H.k j d := by
  rw [dq, c8, sum_mul_pos c8_pos]
  exact sum_congr rfl fun j _ => by ac_rfl

theorem dk_eq (j d : ℕ) : H.dk j d = ∑ i ∈ range 4096, H.ds i j * c8 * H.q i d :=
  sum_congr rfl fun i _ => by ac_rfl

theorem score_eq (i j : ℕ) (hij : ok i j) : H.score i j = (∑ d ∈ range 64, (H.q i d * c8) * H.k j d) + H.b i j := by
  rw [score, if_pos hij, c8, sum_mul_pos c8_pos]
  exact congrArg (· + _) (sum_congr rfl fun d _ => by ac_rfl)

/-! ## By padded rows: row `p` of the padded keys is key `p - 512`, the first 512 rows are padding -/

variable (H)

def scoreP (i r : ℕ) : EReal := if 512 ≤ r then H.score i (r - 512) else ⊥
def eP (i r : ℕ) : EReal := if 512 ≤ r then H.e i (r - 512) else 0
def pP (i r : ℕ) : EReal := if 512 ≤ r then H.p i (r - 512) else 0
def dpP (i r : ℕ) : EReal := if 512 ≤ r then H.dp i (r - 512) else 0
def dsP (i r : ℕ) : EReal := if 512 ≤ r then H.ds i (r - 512) else 0
def kP (r d : ℕ) : EReal := if 512 ≤ r then H.k (r - 512) d else 0
def vP (r d : ℕ) : EReal := if 512 ≤ r then H.v (r - 512) d else 0

variable {H}

/-- Outside its tile's window of padded rows a query attends to nothing. -/
theorem not_ok_of_out (t i r : ℕ) (hi : i / 256 = t) (h : 512 ≤ r) (hout : ¬ (256 * t ≤ r ∧ r < 256 * t + 768)) : ¬ ok i (r - 512) := by
  unfold ok; omega

theorem pP_out (t i r : ℕ) (hi : i / 256 = t) (hout : ¬ (256 * t ≤ r ∧ r < 256 * t + 768)) : H.pP i r = 0 := by
  unfold pP; split
  · rename_i h; exact p_of_not _ _ (not_ok_of_out t i r hi h hout)
  · rfl

theorem dsP_out (t i r : ℕ) (hi : i / 256 = t) (hout : ¬ (256 * t ≤ r ∧ r < 256 * t + 768)) : H.dsP i r = 0 := by
  unfold dsP; split
  · rename_i h; exact ds_of_not _ _ (not_ok_of_out t i r hi h hout)
  · rfl

theorem eP_out (t i r : ℕ) (hi : i / 256 = t) (hout : ¬ (256 * t ≤ r ∧ r < 256 * t + 768)) : H.eP i r = 0 := by
  unfold eP; split
  · rename_i h; exact e_of_not _ _ (not_ok_of_out t i r hi h hout)
  · rfl

theorem scoreP_out (t i r : ℕ) (hi : i / 256 = t) (hout : ¬ (256 * t ≤ r ∧ r < 256 * t + 768)) : H.scoreP i r = ⊥ := by
  unfold scoreP; split
  · rename_i h; exact score_of_not _ _ (not_ok_of_out t i r hi h hout)
  · rfl

theorem top_window (t i : ℕ) (ht : t < 16) (hi : i / 256 = t) :
    (range 768).sup (fun w => H.scoreP i (256 * t + w)) = H.top i := by
  rw [sup_window (256 * t) (by omega) (H.scoreP i) (fun r hr => if_neg (by omega)) (fun r hr => scoreP_out t i r hi hr)]
  exact congrArg (Finset.sup (range 4096)) (funext fun j => by unfold scoreP; rw [if_pos (by omega), Nat.add_sub_cancel_left])

theorem exp_window (i r : ℕ) : Ideal.exp (H.scoreP i r - H.top i) = H.eP i r := by
  unfold scoreP eP; split
  · rfl
  · rw [sub_eq_add_neg, EReal.bot_add]; rfl

theorem L_window (t i : ℕ) (ht : t < 16) (hi : i / 256 = t) : ∑ w ∈ range 768, H.eP i (256 * t + w) = H.L i := by
  rw [sum_window (256 * t) (by omega) (H.eP i) (fun r hr => if_neg (by omega)) (fun r hr => eP_out t i r hi hr)]
  exact sum_congr rfl fun j _ => by unfold eP; rw [if_pos (by omega), Nat.add_sub_cancel_left]

theorem D_window (t i : ℕ) (ht : t < 16) (hi : i / 256 = t) :
    ∑ w ∈ range 768, H.pP i (256 * t + w) * H.dpP i (256 * t + w) = ∑ j ∈ range 4096, H.p i j * H.dp i j := by
  rw [sum_window (256 * t) (by omega) (fun r => H.pP i r * H.dpP i r) (fun r hr => by rw [pP, if_neg (by omega), zero_mul])
    (fun r hr => by rw [pP_out t i r hi hr, zero_mul])]
  exact sum_congr rfl fun j _ => by unfold pP dpP; rw [if_pos (by omega), if_pos (by omega), Nat.add_sub_cancel_left]

theorem dq_window (t i d : ℕ) (ht : t < 16) (hi : i / 256 = t) :
    (∑ w ∈ range 768, H.dsP i (256 * t + w) * H.kP (256 * t + w) d) * c8 = H.dq i d := by
  rw [sum_window (256 * t) (by omega) (fun r => H.dsP i r * H.kP r d) (fun r hr => by rw [dsP, if_neg (by omega), zero_mul])
    (fun r hr => by rw [dsP_out t i r hi hr, zero_mul]), dq]
  exact congrArg (· * c8) (sum_congr rfl fun j _ => by unfold dsP kP; rw [if_pos (by omega), if_pos (by omega), Nat.add_sub_cancel_left])

theorem Real.pP_recip (h : H.Real) (i r : ℕ) (hi : i < 4096) : H.eP i r * Ideal.div 1 (H.L i) = H.pP i r := by
  unfold eP pP; split
  · exact h.p_recip i _ hi
  · exact zero_mul _

theorem dsP_eq (i r : ℕ) : H.pP i r * (H.dpP i r - ∑ j ∈ range 4096, H.p i j * H.dp i j) = H.dsP i r := by
  unfold pP dpP dsP; split
  · rfl
  · exact zero_mul _

end Head

end Cert.Attn

end
-- ==== Proof.Math.Words.lean ====
/- The integer side of the attention's mask and bias: a clipped distance, a row's chunk, a gather of the bias table down its
   columns, and the float constants met along the way. -/
module

public import proofs.«01_k».proof.Proof.Math.Head
public import Idealize.ShloMosaic.Lib.Pipeline.Value
public import Idealize.ShloMosaic.Lib.ValueIdxCore
public import Idealize.ShloMosaic.Lib.ValueIdxCoords

@[expose] public section

noncomputable section

namespace Cert.Attn

open Idealize.ShloMosaic Idealize.ShloMosaic.ValueIdx Finset

/-! ## Arrays by natural coordinates -/

/-- An array's element at natural coordinates, zero outside. -/
def at2 {n m : ℕ} (x : (⟨2, ![n, m]⟩ : Shape).Idx → EReal) (i j : ℕ) : EReal :=
  if h : i < n ∧ j < m then x (ix2 ⟨i, h.1⟩ ⟨j, h.2⟩) else 0

theorem at2_of {n m : ℕ} (x : (⟨2, ![n, m]⟩ : Shape).Idx → EReal) (i : (⟨2, ![n, m]⟩ : Shape).Idx) (a b : ℕ)
    (h0 : (i 0).val = a) (h1 : (i 1).val = b) : x i = at2 x a b := by
  subst h0 h1
  unfold at2
  rw [dif_pos ⟨(i 0).isLt, (i 1).isLt⟩]
  exact congrArg x (eq_ix2 i)

theorem at2_real {n m : ℕ} (x : (⟨2, ![n, m]⟩ : Shape).Idx → EReal) (i j : ℕ)
    (h : ∀ y : (⟨2, ![n, m]⟩ : Shape).Idx, (y 0).val = i → (y 1).val = j → ∃ r : ℝ, x y = r) : ∃ r : ℝ, at2 x i j = r := by
  unfold at2
  split
  · exact h _ rfl rfl
  · exact ⟨0, rfl⟩

/-- The heads of the arguments: head `h` has the lanes `64 * h + d` of the queries, of the keys 1024 lanes on and of the
    values 2048 lanes on, queries and keys past the 1024th lane zero; its bias is the table's row at the clipped distance. -/
def headOf (x0 : (⟨2, ![4096, 3072]⟩ : Shape).Idx → EReal) (x1 : (⟨2, ![16, 513]⟩ : Shape).Idx → EReal)
    (x2 : (⟨2, ![4096, 1024]⟩ : Shape).Idx → EReal) (h : ℕ) : Head where
  q i d := if 64 * h + d < 1024 then at2 x0 i (64 * h + d) else 0
  k j d := if 64 * h + d < 1024 then at2 x0 j (1024 + (64 * h + d)) else 0
  v j d := at2 x0 j (2048 + (64 * h + d))
  g i d := at2 x2 i (64 * h + d)
  b i j := at2 x1 h (min 512 (256 + i - j))

section
variable (x0 : (⟨2, ![4096, 3072]⟩ : Shape).Idx → EReal) (x1 : (⟨2, ![16, 513]⟩ : Shape).Idx → EReal)
  (x2 : (⟨2, ![4096, 1024]⟩ : Shape).Idx → EReal)

theorem headOf_q (h i d : ℕ) (hd : 64 * h + d < 1024) : (headOf x0 x1 x2 h).q i d = at2 x0 i (64 * h + d) := if_pos hd
theorem headOf_k (h j d : ℕ) (hd : 64 * h + d < 1024) : (headOf x0 x1 x2 h).k j d = at2 x0 j (1024 + (64 * h + d)) := if_pos hd

/-- Queries, keys and biases are real where the first 2048 lanes and the table are. -/
theorem headOf_real (hx : ∀ y : (⟨2, ![4096, 3072]⟩ : Shape).Idx, (y 1).val < 2048 → ∃ r : ℝ, x0 y = r) (hb : ∀ y, ∃ r : ℝ, x1 y = r)
    (h : ℕ) : (headOf x0 x1 x2 h).Real where
  q i d := by
    by_cases hd : 64 * h + d < 1024
    · rw [headOf_q x0 x1 x2 h i d hd]; exact at2_real x0 _ _ fun y _ h1 => hx y (by omega)
    · exact ⟨0, if_neg hd⟩
  k j d := by
    by_cases hd : 64 * h + d < 1024
    · rw [headOf_k x0 x1 x2 h j d hd]; exact at2_real x0 _ _ fun y _ h1 => hx y (by omega)
    · exact ⟨0, if_neg hd⟩
  b i j := at2_real x1 _ _ fun y _ _ => hb y

end

/-! ## Words -/

/-- The column of the bias table at a distance: clipped to ±256, shifted, a negative index wrapped. -/
def relWord (d : BitVec 32) : BitVec 32 :=
  Scalar.select (IntOp.cmpi .slt (IntOp.addi (IntOp.minsi 256#32 (IntOp.maxsi 4294967040#32 d)) 256#32) 0#32)
    (IntOp.addi (IntOp.addi (IntOp.minsi 256#32 (IntOp.maxsi 4294967040#32 d)) 256#32) 513#32)
    (IntOp.addi (IntOp.minsi 256#32 (IntOp.maxsi 4294967040#32 d)) 256#32)

set_option maxRecDepth 100000 in
theorem relWord_table : ∀ a : Fin 128, ∀ b : Fin 64,
    (relWord (BitVec.ofNat 32 (64 * a.val + b.val) - 4096#32)).toNat = min 512 (64 * a.val + b.val - 3840) := by
  decide +kernel

theorem relWord_sub (a b : ℕ) (ha : a < 4096) (hb : b < 4096) :
    relWord (IntOp.subi (BitVec.ofNat 32 a) (BitVec.ofNat 32 b)) = BitVec.ofNat 32 (min 512 (256 + a - b)) := by
  have e : IntOp.subi (BitVec.ofNat 32 a) (BitVec.ofNat 32 b) = BitVec.ofNat 32 (a + 4096 - b) - 4096#32 := by
    show BitVec.ofNat 32 a - BitVec.ofNat 32 b = _
    apply BitVec.eq_of_toNat_eq
    simp only [BitVec.toNat_sub, BitVec.toNat_ofNat]
    omega
  have h := relWord_table ⟨(a + 4096 - b) / 64, by omega⟩ ⟨(a + 4096 - b) % 64, by omega⟩
  simp only [Nat.div_add_mod] at h
  rw [e]
  apply BitVec.eq_of_toNat_eq
  rw [h, BitVec.toNat_ofNat]
  omega

/-- A word's sign. -/
def sgn (a : BitVec 32) : BitVec 32 := if a = 0 then 0 else if a.msb then -1 else 1

/-- The floor of a quotient by 64. -/
def chunkWord (a : BitVec 32) : BitVec 32 :=
  Scalar.select (IntOp.andi (IntOp.cmpi .ne (sgn a) (sgn 64#32)) (IntOp.cmpi .ne (IntOp.remsi .host a 64#32) 0#32))
    (IntOp.subi (IntOp.divsi .host a 64#32) 1#32) (IntOp.divsi .host a 64#32)

set_option maxRecDepth 100000 in
theorem chunkWord_table : ∀ a b : Fin 64, chunkWord (BitVec.ofNat 32 (64 * a.val + b.val)) = BitVec.ofNat 32 a.val := by decide +kernel

theorem chunkWord_eq (a : ℕ) (ha : a < 4096) : chunkWord (BitVec.ofNat 32 a) = BitVec.ofNat 32 (a / 64) := by
  have h := chunkWord_table ⟨a / 64, by omega⟩ ⟨a % 64, by omega⟩
  simpa only [Nat.div_add_mod] using h

theorem toInt_small (a : ℕ) (ha : a < 2147483648) : (BitVec.ofNat 32 a).toInt = a := by
  rw [BitVec.toInt_eq_toNat_of_lt (by rw [BitVec.toNat_ofNat]; omega), BitVec.toNat_ofNat]
  omega

/-- A comparison of two small words. -/
theorem sle_small (a b : ℕ) (ha : a < 2147483648) (hb : b < 2147483648) :
    IntOp.cmpi .sle (BitVec.ofNat 32 a) (BitVec.ofNat 32 b) = BitVec.ofBool (decide (a ≤ b)) := by
  show BitVec.ofBool ((BitVec.ofNat 32 a).sle (BitVec.ofNat 32 b)) = _
  congr 1
  rw [BitVec.sle_eq_decide, toInt_small a ha, toInt_small b hb]
  simp only [decide_eq_decide]
  omega

/-- A clipped column read back as a natural. -/
theorem rel_toNat (c : ℕ) (hc : c ≤ 512) : min (BitVec.ofNat 32 c).toInt.toNat (513 - 1) = c := by
  rw [toInt_small c (by omega)]; omega

/-! ## A gather of whole columns -/

/-- `table[:, idx]` for a table `[16, 513]` and an index array `[R, C]`. -/
abbrev colsDims (R C : Nat) (wf : GatherDims.WF ⟨2, ![16, 513]⟩ ⟨3, ![R, C, 1]⟩ ⟨3, ![16, R, C]⟩ [0] [1] [] [1] [] 2 ![16, 1]) :
    GatherDims ⟨2, ![16, 513]⟩ ⟨3, ![R, C, 1]⟩ ⟨3, ![16, R, C]⟩ where
  offsetDims := [0]
  collapsedSliceDims := [1]
  operandBatchingDims := []
  startIndicesBatchingDims := []
  startIndexMap := [1]
  indexVectorDim := 2
  sliceSizes := ![16, 1]
  wf := wf

abbrev colsIdx {R C : Nat} (y : (⟨3, ![16, R, C]⟩ : Shape).Idx) : (⟨3, ![R, C, 1]⟩ : Shape).Idx :=
  fun a => match a with | ⟨0, _⟩ => ⟨(y 1).val, (y 1).isLt⟩ | ⟨1, _⟩ => ⟨(y 2).val, (y 2).isLt⟩ | ⟨2, _⟩ => ⟨0, Nat.one_pos⟩

theorem gather_cols {R C : Nat}
    (wf : GatherDims.WF ⟨2, ![16, 513]⟩ ⟨3, ![R, C, 1]⟩ ⟨3, ![16, R, C]⟩ [0] [1] [] [1] [] 2 ![16, 1])
    (x : (⟨2, ![16, 513]⟩ : Shape).Idx → EReal) (idx : IVec ⟨3, ![R, C, 1]⟩ 32) (y : (⟨3, ![16, R, C]⟩ : Shape).Idx) (c : ℕ)
    (hc : c ≤ 512) (hi : idx (colsIdx y) = BitVec.ofNat 32 c) :
    Host.gather (colsDims R C wf) x idx y = at2 x (y 0).val c := by
  unfold Host.gather
  refine at2_of x _ _ _ ?_ ?_
  · show (colsDims R C wf).start y idx 0 + (colsDims R C wf).batchCoord y 0 + (colsDims R C wf).offCoord y 0 = _
    rw [GatherDims.batchCoord_eq_zero _ _ _ List.not_mem_nil]
    unfold GatherDims.start
    rw [dif_neg (show ¬ (0 : Fin 2) ∈ (colsDims R C wf).startIndexMap from fun h => absurd (List.mem_singleton.mp h) (by decide))]
    simp only [Nat.zero_add]
    unfold GatherDims.offCoord
    rw [dif_pos ((GatherDims.mem_sKept _ _).mpr ⟨fun h => absurd (List.mem_singleton.mp h) (by decide), List.not_mem_nil⟩)]
    rfl
  · show (colsDims R C wf).start y idx 1 + (colsDims R C wf).batchCoord y 1 + (colsDims R C wf).offCoord y 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims R C wf).startIndexMap from List.mem_singleton.mpr rfl)]
    have hsi : (colsDims R C wf).siIdx y ⟨List.idxOf (1 : Fin 2) (colsDims R C wf).startIndexMap,
        List.idxOf_lt_length_iff.2 (List.mem_singleton.mpr rfl)⟩ = colsIdx y := by
      funext b; refine Fin.ext ?_
      match b with
      | ⟨0, _⟩ => rfl
      | ⟨1, _⟩ => rfl
      | ⟨2, _⟩ => rfl
    rw [hsi, hi]
    exact rel_toNat c hc

/-! ## Float constants -/

theorem bits_zero : FloatOps.ofBits (F := Ideal) .f32 0x00000000#32 = 0 := Ideal.ofBits_zero_f32

theorem bits_ninf : FloatOps.ofBits (F := Ideal) .f32 0xFF800000#32 = (⊥ : EReal) := by
  show Ideal.ofBits .f32 0xFF800000#32 = ⊥
  simp [Ideal.ofBits, Ideal.ieee]

theorem bits_eighth : FloatOps.ofBits (F := Ideal) .f32 0x3E000000#32 = c8 := by
  show Ideal.ofBits .f32 0x3E000000#32 = c8
  simp [Ideal.ofBits, Ideal.ieee, c8]
  rw [← EReal.coe_mul]
  norm_num

theorem bits_eighth_bf16 : FloatOps.ofBits (F := Ideal) .bf16 0x3E00#16 = c8 := by
  show Ideal.ofBits .bf16 0x3E00#16 = c8
  simp [Ideal.ofBits, Ideal.ieee, c8]
  rw [← EReal.coe_mul]
  norm_num

theorem bits_one : FloatOps.ofBits (F := Ideal) .f32 0x3F800000#32 = 1 := by
  show Ideal.ofBits .f32 0x3F800000#32 = 1
  simp [Ideal.ofBits, Ideal.ieee]
  rw [← EReal.coe_mul]
  norm_num

/-! ## A sum over `Fin n` of naturals -/

theorem sum_fin (n : ℕ) (f : ℕ → EReal) : ∑ k : Fin n, f k.val = ∑ k ∈ range n, f k := Fin.sum_univ_eq_sum_range f n

end Cert.Attn

end
-- ==== Proof.Value.Dots.lean ====
/- The kernel's three kinds of matrix product, each read at an element as a sum over its contracted coordinate, and the sum
   over the lanes of a stack of two heads. -/
module

public import proofs.«01_k».proof.Proof.Math.Words
public import proofs.«01_k».proof.Proof.Gen.KernelIdeal

@[expose] public section

noncomputable section

namespace Cert.KernelIdeal.Attn

open Cert.KernelIdeal Cert.KernelIdeal.Gen Cert.Attn
open Idealize.ShloMosaic Idealize.ShloMosaic.ValueIdx Finset

/-! ## Rows by rows: contraction of the last coordinates -/

theorem nt_lhs (j : S512x768.Idx) (k : Fin 128) : dot_S512x128_S768x128_S512x768_1_1_0_0_n_n.lhsIdx j ((contrEquiv1 dot_S512x128_S768x128_S512x768_1_1_0_0_n_n 128 rfl rfl).symm k) = ix2 (j 0) k := by
  refine Shape.idx_ext₂ ?_ ?_
  · unfold DotDims.lhsIdx
    rw [dif_neg (show ¬(0 : Fin S512x128.rank) ∈ dot_S512x128_S768x128_S512x768_1_1_0_0_n_n.lhsBatch by decide), dif_pos (show (0 : Fin S512x128.rank) ∈ dot_S512x128_S768x128_S512x768_1_1_0_0_n_n.lhsNonContracting by decide)]
    rfl
  · exact (DotDims.lhsIdx_val_of_single dot_S512x128_S768x128_S512x768_1_1_0_0_n_n rfl j _).trans (contrEquiv1_symm_val dot_S512x128_S768x128_S512x768_1_1_0_0_n_n 128 rfl rfl k)

theorem nt_rhs (j : S512x768.Idx) (k : Fin 128) : dot_S512x128_S768x128_S512x768_1_1_0_0_n_n.rhsIdx j ((contrEquiv1 dot_S512x128_S768x128_S512x768_1_1_0_0_n_n 128 rfl rfl).symm k) = ix2 (j 1) k := by
  refine Shape.idx_ext₂ ?_ ?_
  · unfold DotDims.rhsIdx
    rw [dif_neg (show ¬(0 : Fin S768x128.rank) ∈ dot_S512x128_S768x128_S512x768_1_1_0_0_n_n.rhsBatch by decide), dif_pos (show (0 : Fin S768x128.rank) ∈ dot_S512x128_S768x128_S512x768_1_1_0_0_n_n.rhsNonContracting by decide)]
    rfl
  · exact (DotDims.rhsIdx_val_of_single dot_S512x128_S768x128_S512x768_1_1_0_0_n_n rfl j _).trans (contrEquiv1_symm_val dot_S512x128_S768x128_S512x768_1_1_0_0_n_n 128 rfl rfl k)

theorem nt_apply (x : FVec Ideal S512x128 .bf16) (y : FVec Ideal S768x128 .bf16) (j : S512x768.Idx) :
    matmul dot_S512x128_S768x128_S512x768_1_1_0_0_n_n none x y (constant S512x768 .f32 0x00000000#32) j = ∑ k : Fin 128, x (ix2 (j 0) k) * y (ix2 (j 1) k) := by
  refine (Ideal.matmul_constant_zero_apply dot_S512x128_S768x128_S512x768_1_1_0_0_n_n none x y j).trans ?_
  rw [← Equiv.sum_comp (contrEquiv1 dot_S512x128_S768x128_S512x768_1_1_0_0_n_n 128 rfl rfl).symm]
  exact sum_congr rfl fun k _ => by rw [nt_lhs, nt_rhs]; rfl

/-! ## Rows by columns -/

theorem nn_lhs (j : S512x128.Idx) (k : Fin 768) : dot_S512x768_S768x128_S512x128_1_0_0_1_n_n.lhsIdx j ((contrEquiv1 dot_S512x768_S768x128_S512x128_1_0_0_1_n_n 768 rfl rfl).symm k) = ix2 (j 0) k := by
  refine Shape.idx_ext₂ ?_ ?_
  · unfold DotDims.lhsIdx
    rw [dif_neg (show ¬(0 : Fin S512x768.rank) ∈ dot_S512x768_S768x128_S512x128_1_0_0_1_n_n.lhsBatch by decide), dif_pos (show (0 : Fin S512x768.rank) ∈ dot_S512x768_S768x128_S512x128_1_0_0_1_n_n.lhsNonContracting by decide)]
    rfl
  · exact (DotDims.lhsIdx_val_of_single dot_S512x768_S768x128_S512x128_1_0_0_1_n_n rfl j _).trans (contrEquiv1_symm_val dot_S512x768_S768x128_S512x128_1_0_0_1_n_n 768 rfl rfl k)

theorem nn_rhs (j : S512x128.Idx) (k : Fin 768) : dot_S512x768_S768x128_S512x128_1_0_0_1_n_n.rhsIdx j ((contrEquiv1 dot_S512x768_S768x128_S512x128_1_0_0_1_n_n 768 rfl rfl).symm k) = ix2 k (j 1) := by
  refine Shape.idx_ext₂ ?_ ?_
  · exact (DotDims.rhsIdx_val_of_single dot_S512x768_S768x128_S512x128_1_0_0_1_n_n rfl j _).trans (contrEquiv1_symm_val dot_S512x768_S768x128_S512x128_1_0_0_1_n_n 768 rfl rfl k)
  · unfold DotDims.rhsIdx
    rw [dif_neg (show ¬(1 : Fin S768x128.rank) ∈ dot_S512x768_S768x128_S512x128_1_0_0_1_n_n.rhsBatch by decide), dif_pos (show (1 : Fin S768x128.rank) ∈ dot_S512x768_S768x128_S512x128_1_0_0_1_n_n.rhsNonContracting by decide)]
    rfl

theorem nn_apply (x : FVec Ideal S512x768 .bf16) (y : FVec Ideal S768x128 .bf16) (j : S512x128.Idx) :
    matmul dot_S512x768_S768x128_S512x128_1_0_0_1_n_n none x y (constant S512x128 .f32 0x00000000#32) j = ∑ k : Fin 768, x (ix2 (j 0) k) * y (ix2 k (j 1)) := by
  refine (Ideal.matmul_constant_zero_apply dot_S512x768_S768x128_S512x128_1_0_0_1_n_n none x y j).trans ?_
  rw [← Equiv.sum_comp (contrEquiv1 dot_S512x768_S768x128_S512x128_1_0_0_1_n_n 768 rfl rfl).symm]
  exact sum_congr rfl fun k _ => by rw [nn_lhs, nn_rhs]; rfl

/-! ## Columns by columns: contraction of the first coordinates -/

theorem tn_lhs (j : S768x128.Idx) (k : Fin 512) : dot_S512x768_S512x128_S768x128_0_0_1_1_n_n.lhsIdx j ((contrEquiv1 dot_S512x768_S512x128_S768x128_0_0_1_1_n_n 512 rfl rfl).symm k) = ix2 k (j 0) := by
  refine Shape.idx_ext₂ ?_ ?_
  · exact (DotDims.lhsIdx_val_of_single dot_S512x768_S512x128_S768x128_0_0_1_1_n_n rfl j _).trans (contrEquiv1_symm_val dot_S512x768_S512x128_S768x128_0_0_1_1_n_n 512 rfl rfl k)
  · unfold DotDims.lhsIdx
    rw [dif_neg (show ¬(1 : Fin S512x768.rank) ∈ dot_S512x768_S512x128_S768x128_0_0_1_1_n_n.lhsBatch by decide), dif_pos (show (1 : Fin S512x768.rank) ∈ dot_S512x768_S512x128_S768x128_0_0_1_1_n_n.lhsNonContracting by decide)]
    rfl

theorem tn_rhs (j : S768x128.Idx) (k : Fin 512) : dot_S512x768_S512x128_S768x128_0_0_1_1_n_n.rhsIdx j ((contrEquiv1 dot_S512x768_S512x128_S768x128_0_0_1_1_n_n 512 rfl rfl).symm k) = ix2 k (j 1) := by
  refine Shape.idx_ext₂ ?_ ?_
  · exact (DotDims.rhsIdx_val_of_single dot_S512x768_S512x128_S768x128_0_0_1_1_n_n rfl j _).trans (contrEquiv1_symm_val dot_S512x768_S512x128_S768x128_0_0_1_1_n_n 512 rfl rfl k)
  · unfold DotDims.rhsIdx
    rw [dif_neg (show ¬(1 : Fin S512x128.rank) ∈ dot_S512x768_S512x128_S768x128_0_0_1_1_n_n.rhsBatch by decide), dif_pos (show (1 : Fin S512x128.rank) ∈ dot_S512x768_S512x128_S768x128_0_0_1_1_n_n.rhsNonContracting by decide)]
    rfl

theorem tn_apply (x : FVec Ideal S512x768 .bf16) (y : FVec Ideal S512x128 .bf16) (j : S768x128.Idx) :
    matmul dot_S512x768_S512x128_S768x128_0_0_1_1_n_n none x y (constant S768x128 .f32 0x00000000#32) j = ∑ k : Fin 512, x (ix2 k (j 0)) * y (ix2 k (j 1)) := by
  refine (Ideal.matmul_constant_zero_apply dot_S512x768_S512x128_S768x128_0_0_1_1_n_n none x y j).trans ?_
  rw [← Equiv.sum_comp (contrEquiv1 dot_S512x768_S512x128_S768x128_0_0_1_1_n_n 512 rfl rfl).symm]
  exact sum_congr rfl fun k _ => by rw [tn_lhs, tn_rhs]; rfl

/-! ## Sums over a stack -/

/-- A sum over the 128 lanes of which only head `s`'s 64 contribute. -/
theorem sum_lanes (s : ℕ) (hs : s < 2) (f : ℕ → EReal) (h : ∀ l, l < 128 → l / 64 ≠ s → f l = 0) :
    ∑ l ∈ range 128, f l = ∑ d ∈ range 64, f (64 * s + d) := by
  rw [show ∑ d ∈ range 64, f (64 * s + d) = ∑ l ∈ Ico (64 * s) (64 * s + 64), f l by rw [sum_Ico_eq_sum_range]; simp]
  refine (sum_subset (fun l hl => ?_) fun l hl hn => ?_).symm
  · rw [mem_Ico] at hl; rw [mem_range]; omega
  · rw [mem_range] at hl; rw [mem_Ico] at hn; exact h l hl (by omega)

/-- A sum over the 512 stacked rows of which only head `s`'s 256 contribute. -/
theorem sum_rows (s : ℕ) (hs : s < 2) (f : ℕ → EReal) (h : ∀ r, r < 512 → r / 256 ≠ s → f r = 0) :
    ∑ r ∈ range 512, f r = ∑ d ∈ range 256, f (256 * s + d) := by
  rw [show ∑ d ∈ range 256, f (256 * s + d) = ∑ l ∈ Ico (256 * s) (256 * s + 256), f l by rw [sum_Ico_eq_sum_range]; simp]
  refine (sum_subset (fun l hl => ?_) fun l hl hn => ?_).symm
  · rw [mem_Ico] at hl; rw [mem_range]; omega
  · rw [mem_range] at hl; rw [mem_Ico] at hn; exact h l hl (by omega)

/-! ## Words -/

theorem slt_small (a b : ℕ) (ha : a < 2147483648) (hb : b < 2147483648) :
    IntOp.cmpi .slt (BitVec.ofNat 32 a) (BitVec.ofNat 32 b) = BitVec.ofBool (decide (a < b)) := by
  show BitVec.ofBool ((BitVec.ofNat 32 a).slt (BitVec.ofNat 32 b)) = _
  congr 1
  rw [BitVec.slt_eq_decide, toInt_small a ha, toInt_small b hb]
  simp only [decide_eq_decide]
  omega

theorem select_ofBool {α : Type} (p : Prop) [Decidable p] (a b : α) :
    Scalar.select (BitVec.ofBool (decide p)) a b = if p then a else b := by
  by_cases h : p
  · rw [if_pos h, decide_eq_true h]; rfl
  · rw [if_neg h, decide_eq_false h]; rfl

/-- Whether padded row `256 * t + w` is past the padding, as the kernel asks it of column `w`. -/
theorem past_padding (t w : ℕ) (ht : t < 16) (hw : w < 768) :
    IntOp.cmpi .sge (BitVec.ofNat 32 w) (Scalar.subi 512#32 (Scalar.muli (BitVec.ofNat 32 t) 256#32))
      = BitVec.ofBool (decide (512 ≤ 256 * t + w)) := by
  have e : (Scalar.subi 512#32 (Scalar.muli (BitVec.ofNat 32 t) 256#32) : BitVec 32).toInt = 512 - 256 * (t : ℤ) := by
    have h := (by decide +kernel : ∀ u : Fin 16,
      (Scalar.subi 512#32 (Scalar.muli (BitVec.ofNat 32 u.val) 256#32) : BitVec 32).toInt = 512 - 256 * (u.val : ℤ)) ⟨t, ht⟩
    exact h
  show BitVec.ofBool ((Scalar.subi 512#32 (Scalar.muli (BitVec.ofNat 32 t) 256#32) : BitVec 32).sle (BitVec.ofNat 32 w)) = _
  congr 1
  rw [BitVec.sle_eq_decide, e, toInt_small w (by omega)]
  simp only [decide_eq_decide]
  omega

end Cert.KernelIdeal.Attn

end
-- ==== Proof.Value.Pair.lean ====
/- What the kernel computes of one pair of heads at one tile of 256 queries, as the mathematics of the two heads: scores,
   probabilities, score gradients, the tile's query gradients, and what it adds to the key and value gradients. -/
module

public import proofs.«01_k».proof.Proof.Value.Dots
public import proofs.«01_k».proof.Proof.Gen.KernelIdeal.Skeleton

@[expose] public section

set_option maxRecDepth 16384

noncomputable section

namespace Cert.KernelIdeal.Attn

open Cert.KernelIdeal Cert.KernelIdeal.Gen Cert.Attn
open Idealize.ShloMosaic Idealize.ShloMosaic.ValueIdx Finset

/-! ## Stacks and windows -/

/-- The mask of the first head's lanes. -/
theorem firstHead_apply {α : Type} (a b : S256x128.Idx → α) (i : S256x128.Idx) :
    select (cmpi .slt (iota .tc S256x128 32 [1] iota_S256x128_d1_w32) (broadcast S256x128 64#32)) a b i
      = if (i 1).val < 64 then a i else b i := by
  have h1 : (i 1).val < 128 := (i 1).isLt
  show Scalar.select (IntOp.cmpi .slt (iota .tc S256x128 32 [1] iota_S256x128_d1_w32 i) (BitVec.ofNat 32 64)) (a i) (b i) = _
  rw [iota_single_apply, slt_small _ _ (by omega) (by omega), select_ofBool]

/-- The row of its head that a row of a stack is. -/
def ownRow (j : S512x128.Idx) : S256x128.Idx := ix2 (⟨(j 0).val % 256, Nat.mod_lt _ (by omega)⟩ : Fin 256) (j 1)

theorem ownRow_zero (j : S512x128.Idx) : (ownRow j 0).val = (j 0).val % 256 := rfl
theorem ownRow_one (j : S512x128.Idx) : (ownRow j 1).val = (j 1).val := rfl

/-- Two heads stacked by rows, each on its own lanes. -/
theorem stack_apply (w : FVec Ideal S256x128 .bf16) (j : S512x128.Idx) :
    concatenate S512x128 0
        [⟨S256x128, select (cmpi .slt (iota .tc S256x128 32 [1] iota_S256x128_d1_w32) (broadcast S256x128 64#32)) w
            (broadcast S256x128 (Scalar.ofBits .bf16 0x0000#16 : Ideal .bf16))⟩,
         ⟨S256x128, select (cmpi .slt (iota .tc S256x128 32 [1] iota_S256x128_d1_w32) (broadcast S256x128 64#32))
            (broadcast S256x128 (Scalar.ofBits .bf16 0x0000#16 : Ideal .bf16)) w⟩]
        concatenates_S256x128_S256x128_S512x128_d0 j
      = if (j 1).val / 64 = (j 0).val / 256 then w (ownRow j) else 0 := by
  have h0 : (j 0).val < 512 := (j 0).isLt
  have h1 : (j 1).val < 128 := (j 1).isLt
  have hz : (Scalar.ofBits .bf16 0x0000#16 : Ideal .bf16) = (0 : EReal) := by
    show Ideal.ofBits .bf16 0x0000#16 = 0
    simp [Ideal.ofBits, Ideal.ieee]
  by_cases h : (j 0).val < 256
  · refine (concatenate_pair_apply_left (t := S512x128) (s₁ := S256x128) (s₂ := S256x128) 0 _ _ _ j rfl (ownRow j)
        (Fin.forall_fin_two.mpr ⟨Nat.mod_eq_of_lt h, rfl⟩)).trans ((firstHead_apply _ _ _).trans ?_)
    rw [ownRow_one]
    by_cases hl : (j 1).val < 64
    · rw [if_pos hl, if_pos (by omega)]
    · rw [if_neg hl, if_neg (by omega)]; exact hz
  · refine (concatenate_pair_apply_right (t := S512x128) (s₁ := S256x128) (s₂ := S256x128) 0 _ _ _ j rfl rfl (ownRow j)
        (Fin.forall_fin_two.mpr ⟨fun hc => absurd rfl hc, fun _ => rfl⟩)
        (by show (j 0).val % 256 + 256 = (j 0).val; omega)).trans ((firstHead_apply _ _ _).trans ?_)
    rw [ownRow_one]
    by_cases hl : (j 1).val < 64
    · rw [if_pos hl, if_neg (by omega)]; exact hz
    · rw [if_neg hl, if_pos (by omega)]

theorem pay8_apply (x : FVec Ideal S256x128 .bf16) (j : S512x128.Idx) :
    k0_pay8 (F := Ideal) x j
      = if (j 1).val / 64 = (j 0).val / 256 then x (ownRow j) * c8 else 0 := by
  refine (stack_apply (mulf (shapeCast S256x128 x shapeCasts_S256x128_S256x128)
    (broadcast S256x128 (Scalar.ofBits .bf16 0x3E00#16))) j).trans ?_
  rw [shapeCast_self]
  exact congrArg (fun c : EReal => if (j 1).val / 64 = (j 0).val / 256 then
    x (ownRow j) * c else 0) bits_eighth_bf16

theorem pay9_apply (x : FVec Ideal S256x128 .bf16) (j : S512x128.Idx) :
    k0_pay9 (F := Ideal) x j
      = if (j 1).val / 64 = (j 0).val / 256 then x (ownRow j) else 0 :=
  stack_apply x j

/-- The pieces of a window: three blocks. -/
def blocks3 (a b c : FVec Ideal S256x128 .bf16) : List ((s : Shape) × (s.Idx → EReal)) := [⟨S256x128, a⟩, ⟨S256x128, b⟩, ⟨S256x128, c⟩]

/-- Three blocks one below another. -/
theorem pay10_apply (a b c : FVec Ideal S256x128 .bf16) (f : ℕ → ℕ → EReal)
    (ha : ∀ i, a i = f (i 0).val (i 1).val) (hb : ∀ i, b i = f (256 + (i 0).val) (i 1).val)
    (hc : ∀ i, c i = f (512 + (i 0).val) (i 1).val) (j : S768x128.Idx) :
    k0_pay10 (F := Ideal) a b c j = f (j 0).val (j 1).val := by
  have h0 : (j 0).val < 768 := (j 0).isLt
  show concatenate S768x128 0 [⟨S256x128, shapeCast S256x128 a shapeCasts_S256x128_S256x128⟩,
    ⟨S256x128, shapeCast S256x128 b shapeCasts_S256x128_S256x128⟩,
    ⟨S256x128, shapeCast S256x128 c shapeCasts_S256x128_S256x128⟩] concatenates_S256x128_S256x128_S256x128_S768x128_d0 j = _
  simp only [shapeCast_self]
  have hlane : ∀ (r : ℕ) (hr : r < 256), ∀ b : Fin 2, b ≠ 0 → ((ix2 (⟨r, hr⟩ : Fin 256) (j 1) : S256x128.Idx) b).val = (j b).val :=
    fun r hr => Fin.forall_fin_two.mpr ⟨fun hc => absurd rfl hc, fun _ => rfl⟩
  by_cases hA : (j 0).val < 256
  · refine (concatenate_apply_piece 0 (blocks3 a b c) _ j 0 (show 0 < 3 by decide) S256x128 a rfl rfl 0 rfl
      (ix2 ⟨(j 0).val, hA⟩ (j 1)) (hlane _ hA) (Nat.zero_add _)).trans ?_
    exact ha _
  by_cases hB : (j 0).val < 512
  · have hB' : (j 0).val - 256 < 256 := by omega
    refine (concatenate_apply_piece 0 (blocks3 a b c) _ j 1 (show 1 < 3 by decide) S256x128 b rfl rfl 256 rfl
      (ix2 ⟨(j 0).val - 256, hB'⟩ (j 1)) (hlane _ hB') (by show 256 + ((j 0).val - 256) = _; omega)).trans ?_
    rw [hb]
    exact congrArg (fun r => f r (j 1).val) (by show 256 + ((j 0).val - 256) = _; omega)
  · have hC' : (j 0).val - 512 < 256 := by omega
    refine (concatenate_apply_piece 0 (blocks3 a b c) _ j 2 (show 2 < 3 by decide) S256x128 c rfl rfl 512 rfl
      (ix2 ⟨(j 0).val - 512, hC'⟩ (j 1)) (hlane _ hC') (by show 512 + ((j 0).val - 512) = _; omega)).trans ?_
    rw [hc]
    exact congrArg (fun r => f r (j 1).val) (by show 512 + ((j 0).val - 512) = _; omega)

/-! ## Rows -/

/-- A value per row, spread over the row. -/
theorem spread_apply (v : FVec Ideal S512 .f32) (j : S512x768.Idx) :
    broadcastTo S512x768 (shapeCast S512x1 v shapeCasts_S512_S512x1) broadcasts_S512x1_S512x768 j = v (ix1 (j 0)) := by
  refine (broadcastTo_apply _ _ j (ix2 (j 0) (0 : Fin 1)) (Fin.forall_fin_two.mpr ⟨rfl, rfl⟩)).trans ?_
  refine shapeCast_apply v _ _ (ix1 (j 0)) ((Shape.rowMajor_val_one (d := ![512]) (ix1 (j 0))).trans
    (Eq.trans ?_ (Shape.rowMajor_val_two (d := ![512, 1]) (ix2 (j 0) (0 : Fin 1))).symm))
  show (j 0).val = (j 0).val * 1 + 0
  omega

theorem lift_eq (r : Fin 512) (k : Fin 768) : reduces_S512x768_S512.lift (ix1 r) k = ix2 r k :=
  Shape.idx_ext₂ rfl rfl

/-- One over a value per row, spread over the row. -/
theorem spread_recip (v : FVec Ideal S512 .f32) (j : S512x768.Idx) :
    broadcastTo S512x768 (divf (broadcast S512x1 (Scalar.ofBits .f32 0x3F800000#32 : Ideal .f32))
      (shapeCast S512x1 v shapeCasts_S512_S512x1)) broadcasts_S512x1_S512x768 j = Ideal.div 1 (v (ix1 (j 0))) := by
  refine (broadcastTo_apply _ _ j (ix2 (j 0) (0 : Fin 1)) (Fin.forall_fin_two.mpr ⟨rfl, rfl⟩)).trans ?_
  refine congrArg₂ Ideal.div bits_one (shapeCast_apply v _ _ (ix1 (j 0)) ((Shape.rowMajor_val_one (d := ![512]) (ix1 (j 0))).trans
    (Eq.trans ?_ (Shape.rowMajor_val_two (d := ![512, 1]) (ix2 (j 0) (0 : Fin 1))).symm)))
  show (j 0).val = (j 0).val * 1 + 0
  omega

/-- A row's greatest entry. -/
theorem rowMax_apply (z : FVec Ideal S512x768 .f32) (r : Fin 512) (f : ℕ → EReal) (h : ∀ k : Fin 768, z (ix2 r k) = f k.val) :
    multiReduction .maximumf [1] S512 z 0xFF800000#32 reduces_S512x768_S512 (.inl rfl) rfl (ix1 r) = (range 768).sup f := by
  refine (Ideal.multiReduction_maximumf_single z _ reduces_S512x768_S512 _ _ (ix1 r)).trans ?_
  rw [bits_ninf, ← sup_fin]
  refine congrArg (fun u => (univ : Finset (Fin 768)).fold max (⊥ : EReal) u) (funext fun k => ?_)
  exact (congrArg z (lift_eq r k)).trans (h k)

/-- A row's sum. -/
theorem rowSum_apply (z : FVec Ideal S512x768 .f32) (r : Fin 512) (f : ℕ → EReal) (h : ∀ k : Fin 768, z (ix2 r k) = f k.val) :
    multiReduction .add [1] S512 z 0x00000000#32 reduces_S512x768_S512 (.inl rfl) rfl (ix1 r) = ∑ k ∈ range 768, f k := by
  refine (Ideal.multiReduction_add_single z _ reduces_S512x768_S512 _ _ (ix1 r)).trans ?_
  rw [← sum_fin]
  exact sum_congr rfl fun k _ => (congrArg z (lift_eq r k)).trans (h k)

/-! ## One pair at one tile -/

/-- The blocks of one pair of heads `hd 0`, `hd 1` at tile `t`. -/
structure PairOf (hd : ℕ → Head) (t : ℕ) (q k1 k2 k3 v1 v2 v3 g : FVec Ideal S256x128 .bf16) (b : FVec Ideal S2x256x768 .f32) : Prop where
  tile : t < 16
  real : ∀ s, (hd s).Real
  q : ∀ i, q i = (hd ((i 1).val / 64)).q (256 * t + (i 0).val) ((i 1).val % 64)
  g : ∀ i, g i = (hd ((i 1).val / 64)).g (256 * t + (i 0).val) ((i 1).val % 64)
  k1 : ∀ i, k1 i = (hd ((i 1).val / 64)).kP (256 * t + (i 0).val) ((i 1).val % 64)
  k2 : ∀ i, k2 i = (hd ((i 1).val / 64)).kP (256 * t + (256 + (i 0).val)) ((i 1).val % 64)
  k3 : ∀ i, k3 i = (hd ((i 1).val / 64)).kP (256 * t + (512 + (i 0).val)) ((i 1).val % 64)
  v1 : ∀ i, v1 i = (hd ((i 1).val / 64)).vP (256 * t + (i 0).val) ((i 1).val % 64)
  v2 : ∀ i, v2 i = (hd ((i 1).val / 64)).vP (256 * t + (256 + (i 0).val)) ((i 1).val % 64)
  v3 : ∀ i, v3 i = (hd ((i 1).val / 64)).vP (256 * t + (512 + (i 0).val)) ((i 1).val % 64)
  b : ∀ i, 512 ≤ 256 * t + (i 2).val → b i
    = if ok (256 * t + (i 1).val) (256 * t + (i 2).val - 512)
      then (hd (i 0).val).b (256 * t + (i 1).val) (256 * t + (i 2).val - 512) else ⊥

/-- The masked scores as the kernel spells them. -/
def scores (w : BitVec 32) (q : FVec Ideal S512x128 .bf16) (k : FVec Ideal S768x128 .bf16) (b : FVec Ideal S2x256x768 .f32) :
    FVec Ideal S512x768 .f32 :=
  select (cmpi .sge (iota .tc S512x768 32 [1] iota_S512x768_d1_w32)
      (broadcast S512x768 (Scalar.subi 512#32 (Scalar.muli w 256#32))))
    (addf (matmul dot_S512x128_S768x128_S512x768_1_1_0_0_n_n none q k (constant S512x768 .f32 0x00000000#32))
      (shapeCast S512x768 (shapeCast S2x256x768 b shapeCasts_S2x256x768_S2x256x768) shapeCasts_S2x256x768_S512x768))
    (broadcast S512x768 (Named.named κ "mask" 0xF149F2CA#32 : Ideal .f32))

/-- The exponentials of scores. -/
def exps (z : FVec Ideal S512x768 .f32) : FVec Ideal S512x768 .f32 :=
  exp (subf z (broadcastTo S512x768 (shapeCast S512x1
    (multiReduction .maximumf [1] S512 z 0xFF800000#32 reduces_S512x768_S512 (.inl rfl) rfl) shapeCasts_S512_S512x1)
    broadcasts_S512x1_S512x768))

/-- The softmax of scores. -/
def probs (z : FVec Ideal S512x768 .f32) : FVec Ideal S512x768 .f32 :=
  mulf (exps z) (broadcastTo S512x768 (divf (broadcast S512x1 (Scalar.ofBits .f32 0x3F800000#32))
    (shapeCast S512x1 (multiReduction .add [1] S512 (exps z) 0x00000000#32 reduces_S512x768_S512 (.inl rfl) rfl)
      shapeCasts_S512_S512x1)) broadcasts_S512x1_S512x768)

theorem pay11_eq (w : BitVec 32) (q : FVec Ideal S512x128 .bf16) (k : FVec Ideal S768x128 .bf16) (b : FVec Ideal S2x256x768 .f32) :
    k0_pay11 (F := Ideal) w q k b = probs (scores w q k b) := rfl

/-- The score gradients from probabilities and their gradients. -/
def grads (p dp : FVec Ideal S512x768 .f32) : FVec Ideal S512x768 .f32 :=
  mulf p (subf dp (broadcastTo S512x768 (shapeCast S512x1
    (multiReduction .add [1] S512 (mulf p dp) 0x00000000#32 reduces_S512x768_S512 (.inl rfl) rfl) shapeCasts_S512_S512x1)
    broadcasts_S512x1_S512x768))

theorem pay12_eq (w : BitVec 32) (q g : FVec Ideal S512x128 .bf16) (k : FVec Ideal S768x128 .bf16)
    (v1 v2 v3 : FVec Ideal S256x128 .bf16) (b : FVec Ideal S2x256x768 .f32) :
    k0_pay12 (F := Ideal) w q g k v1 v2 v3 b = grads (k0_pay11 (F := Ideal) w q k b)
      (matmul dot_S512x128_S768x128_S512x768_1_1_0_0_n_n none g (k0_pay10 (F := Ideal) v1 v2 v3) (constant S512x768 .f32 0x00000000#32)) := rfl

namespace PairOf

variable {hd : ℕ → Head} {t : ℕ} {q k1 k2 k3 v1 v2 v3 g : FVec Ideal S256x128 .bf16} {b : FVec Ideal S2x256x768 .f32}
  (P : PairOf hd t q k1 k2 k3 v1 v2 v3 g b)
include P

theorem keys (j : S768x128.Idx) :
    k0_pay10 (F := Ideal) k1 k2 k3 j = (hd ((j 1).val / 64)).kP (256 * t + (j 0).val) ((j 1).val % 64) :=
  pay10_apply k1 k2 k3 (fun r l => (hd (l / 64)).kP (256 * t + r) (l % 64)) P.k1 P.k2 P.k3 j

theorem values (j : S768x128.Idx) :
    k0_pay10 (F := Ideal) v1 v2 v3 j = (hd ((j 1).val / 64)).vP (256 * t + (j 0).val) ((j 1).val % 64) :=
  pay10_apply v1 v2 v3 (fun r l => (hd (l / 64)).vP (256 * t + r) (l % 64)) P.v1 P.v2 P.v3 j

theorem query (j : S512x128.Idx) :
    k0_pay8 (F := Ideal) q j = if (j 1).val / 64 = (j 0).val / 256
      then (hd ((j 1).val / 64)).q (256 * t + (j 0).val % 256) ((j 1).val % 64) * c8 else 0 := by
  rw [pay8_apply, P.q]
  rfl

theorem cotangent (j : S512x128.Idx) :
    k0_pay9 (F := Ideal) g j = if (j 1).val / 64 = (j 0).val / 256
      then (hd ((j 1).val / 64)).g (256 * t + (j 0).val % 256) ((j 1).val % 64) else 0 := by
  rw [pay9_apply, P.g]
  rfl

theorem row_lt (j : S512x768.Idx) : 256 * t + (j 0).val % 256 < 4096 := by
  have := P.tile
  omega

/-- Row sums over the lanes of the stack are sums over the features of the row's head. -/
theorem lanes (s : ℕ) (hs : s < 2) (F : Head → ℕ → EReal) (G : Head → ℕ → EReal) :
    ∑ l ∈ range 128, (if l / 64 = s then F (hd (l / 64)) (l % 64) else 0) * G (hd (l / 64)) (l % 64)
      = ∑ d ∈ range 64, F (hd s) d * G (hd s) d := by
  rw [sum_lanes s hs _ fun l _ h => by rw [if_neg h, zero_mul]]
  refine sum_congr rfl fun d hd' => ?_
  have := mem_range.mp hd'
  rw [show (64 * s + d) / 64 = s by omega, show (64 * s + d) % 64 = d by omega, if_pos rfl]

/-- Column sums over the stacked rows are sums over the rows of the lane's head. -/
theorem rows (s : ℕ) (hs : s < 2) (F : ℕ → EReal) :
    ∑ r ∈ range 512, (if r / 256 = s then F (r % 256) else 0) = ∑ r ∈ range 256, F r := by
  rw [sum_rows s hs _ fun r _ h => if_neg h]
  refine sum_congr rfl fun r hr => ?_
  have := mem_range.mp hr
  rw [show (256 * s + r) / 256 = s by omega, show (256 * s + r) % 256 = r by omega, if_pos rfl]

theorem scores_apply (j : S512x768.Idx) :
    scores (BitVec.ofNat 32 t) (k0_pay8 (F := Ideal) q) (k0_pay10 (F := Ideal) k1 k2 k3) b j
      = (hd ((j 0).val / 256)).scoreP (256 * t + (j 0).val % 256) (256 * t + (j 1).val) := by
  have ht := P.tile
  have h0 : (j 0).val < 512 := (j 0).isLt
  have h1 : (j 1).val < 768 := (j 1).isLt
  have hb : shapeCast S512x768 (shapeCast S2x256x768 b shapeCasts_S2x256x768_S2x256x768) shapeCasts_S2x256x768_S512x768 j
      = b (ix3 (⟨(j 0).val / 256, by omega⟩ : Fin 2) (⟨(j 0).val % 256, by omega⟩ : Fin 256) (j 1)) := by
    rw [shapeCast_self]
    refine shapeCast_apply b _ j _ ((Shape.rowMajor_val_three (d := ![2, 256, 768]) _).trans
      (Eq.trans ?_ (Shape.rowMajor_val_two (d := ![512, 768]) j).symm))
    show ((j 0).val / 256 * 256 + (j 0).val % 256) * 768 + (j 1).val = (j 0).val * 768 + (j 1).val
    rw [Nat.div_add_mod']
  have hm : matmul dot_S512x128_S768x128_S512x768_1_1_0_0_n_n none (k0_pay8 (F := Ideal) q) (k0_pay10 (F := Ideal) k1 k2 k3)
      (constant S512x768 .f32 0x00000000#32) j
      = ∑ d ∈ range 64, (hd ((j 0).val / 256)).q (256 * t + (j 0).val % 256) d * c8
          * (hd ((j 0).val / 256)).kP (256 * t + (j 1).val) d := by
    rw [nt_apply]
    refine Eq.trans ?_ (P.lanes ((j 0).val / 256) (by omega)
      (fun H d => H.q (256 * t + (j 0).val % 256) d * c8) (fun H d => H.kP (256 * t + (j 1).val) d))
    rw [← sum_fin]
    refine sum_congr rfl fun l _ => ?_
    rw [P.query, P.keys]
  have hw : IntOp.cmpi .sge (iota .tc S512x768 32 [1] iota_S512x768_d1_w32 j)
      (Scalar.subi 512#32 (Scalar.muli (BitVec.ofNat 32 t) 256#32)) = BitVec.ofBool (decide (512 ≤ 256 * t + (j 1).val)) := by
    rw [iota_single_apply]
    exact past_padding t _ ht h1
  have hs := (congrArg (fun c => Scalar.select c (matmul dot_S512x128_S768x128_S512x768_1_1_0_0_n_n none (k0_pay8 (F := Ideal) q)
    (k0_pay10 (F := Ideal) k1 k2 k3) (constant S512x768 .f32 0x00000000#32) j
      + b (ix3 (⟨(j 0).val / 256, by omega⟩ : Fin 2) (⟨(j 0).val % 256, by omega⟩ : Fin 256) (j 1)) : EReal) (⊥ : EReal)) hw).trans
    (select_ofBool _ _ _)
  refine Eq.trans ?_ (hs.trans ?_)
  · rw [← hb]; rfl
  · unfold Head.scoreP
    by_cases hp : 512 ≤ 256 * t + (j 1).val
    · rw [if_pos hp, if_pos hp, hm, P.b _ hp]
      show _ + (if ok (256 * t + (j 0).val % 256) (256 * t + (j 1).val - 512) then
        (hd ((j 0).val / 256)).b (256 * t + (j 0).val % 256) (256 * t + (j 1).val - 512) else ⊥) = _
      by_cases ho : ok (256 * t + (j 0).val % 256) (256 * t + (j 1).val - 512)
      · rw [if_pos ho, Head.score_eq _ _ ho]
        exact congrArg (· + _) (sum_congr rfl fun d _ => by unfold Head.kP; rw [if_pos hp])
      · rw [if_neg ho, Head.score_of_not _ _ ho, EReal.add_bot]
    · rw [if_neg hp, if_neg hp]

theorem head_row (j : S512x768.Idx) : (256 * t + (j 0).val % 256) / 256 = t := by omega

/-- The exponentials of a row. -/
theorem exps_apply (z : FVec Ideal S512x768 .f32)
    (hz : ∀ j, z j = (hd ((j 0).val / 256)).scoreP (256 * t + (j 0).val % 256) (256 * t + (j 1).val)) (j : S512x768.Idx) :
    exps z j = (hd ((j 0).val / 256)).eP (256 * t + (j 0).val % 256) (256 * t + (j 1).val) := by
  have hmax := (spread_apply (multiReduction .maximumf [1] S512 z 0xFF800000#32 reduces_S512x768_S512 (.inl rfl) rfl) j).trans
    (rowMax_apply z (j 0) (fun w => (hd ((j 0).val / 256)).scoreP (256 * t + (j 0).val % 256) (256 * t + w)) fun k => hz _)
  rw [Head.top_window t _ P.tile (P.head_row j)] at hmax
  rw [← Head.exp_window, ← hz j, ← hmax]
  rfl

/-- The probabilities. -/
theorem probs_apply (z : FVec Ideal S512x768 .f32)
    (hz : ∀ j, z j = (hd ((j 0).val / 256)).scoreP (256 * t + (j 0).val % 256) (256 * t + (j 1).val)) (j : S512x768.Idx) :
    probs z j = (hd ((j 0).val / 256)).pP (256 * t + (j 0).val % 256) (256 * t + (j 1).val) := by
  have he := P.exps_apply z hz
  have hsum := rowSum_apply (exps z) (j 0)
    (fun w => (hd ((j 0).val / 256)).eP (256 * t + (j 0).val % 256) (256 * t + w)) fun k => he _
  rw [Head.L_window t _ P.tile (P.head_row j)] at hsum
  rw [← (P.real ((j 0).val / 256)).pP_recip _ _ (P.row_lt j), ← he j, ← hsum]
  show exps z j * _ = _
  refine congrArg (exps z j * ·) ?_
  refine (spread_recip _ j).trans ?_
  rfl

theorem pay11_apply (j : S512x768.Idx) :
    k0_pay11 (F := Ideal) (BitVec.ofNat 32 t) (k0_pay8 (F := Ideal) q) (k0_pay10 (F := Ideal) k1 k2 k3) b j
      = (hd ((j 0).val / 256)).pP (256 * t + (j 0).val % 256) (256 * t + (j 1).val) := by
  rw [pay11_eq]
  exact P.probs_apply _ P.scores_apply j

/-- The gradients of the probabilities. -/
theorem dps_apply (j : S512x768.Idx) :
    matmul dot_S512x128_S768x128_S512x768_1_1_0_0_n_n none (k0_pay9 (F := Ideal) g) (k0_pay10 (F := Ideal) v1 v2 v3)
      (constant S512x768 .f32 0x00000000#32) j
      = (hd ((j 0).val / 256)).dpP (256 * t + (j 0).val % 256) (256 * t + (j 1).val) := by
  have h0 : (j 0).val < 512 := (j 0).isLt
  have hm : matmul dot_S512x128_S768x128_S512x768_1_1_0_0_n_n none (k0_pay9 (F := Ideal) g) (k0_pay10 (F := Ideal) v1 v2 v3)
      (constant S512x768 .f32 0x00000000#32) j
      = ∑ d ∈ range 64, (hd ((j 0).val / 256)).g (256 * t + (j 0).val % 256) d
          * (hd ((j 0).val / 256)).vP (256 * t + (j 1).val) d := by
    rw [nt_apply]
    refine Eq.trans ?_ (P.lanes ((j 0).val / 256) (by omega)
      (fun H d => H.g (256 * t + (j 0).val % 256) d) (fun H d => H.vP (256 * t + (j 1).val) d))
    rw [← sum_fin]
    refine sum_congr rfl fun l _ => ?_
    rw [P.cotangent, P.values]
  rw [hm]
  unfold Head.dpP Head.vP
  by_cases hp : 512 ≤ 256 * t + (j 1).val
  · simp only [if_pos hp]; rfl
  · simp only [if_neg hp, mul_zero, sum_const_zero]

theorem pay12_apply (j : S512x768.Idx) :
    k0_pay12 (F := Ideal) (BitVec.ofNat 32 t) (k0_pay8 (F := Ideal) q) (k0_pay9 (F := Ideal) g) (k0_pay10 (F := Ideal) k1 k2 k3)
        v1 v2 v3 b j
      = (hd ((j 0).val / 256)).dsP (256 * t + (j 0).val % 256) (256 * t + (j 1).val) := by
  rw [pay12_eq]
  have hp := P.pay11_apply
  have hd' := P.dps_apply
  generalize k0_pay11 (F := Ideal) (BitVec.ofNat 32 t) (k0_pay8 (F := Ideal) q) (k0_pay10 (F := Ideal) k1 k2 k3) b = p at hp
  generalize matmul dot_S512x128_S768x128_S512x768_1_1_0_0_n_n none (k0_pay9 (F := Ideal) g) (k0_pay10 (F := Ideal) v1 v2 v3)
    (constant S512x768 .f32 0x00000000#32) = dp at hd'
  have hsum := (spread_apply (multiReduction .add [1] S512 (mulf p dp) 0x00000000#32 reduces_S512x768_S512 (.inl rfl) rfl) j).trans
    (rowSum_apply (mulf p dp) (j 0)
      (fun w => (hd ((j 0).val / 256)).pP (256 * t + (j 0).val % 256) (256 * t + w)
        * (hd ((j 0).val / 256)).dpP (256 * t + (j 0).val % 256) (256 * t + w))
      fun k => congrArg₂ (· * · : EReal → EReal → EReal) (hp _) (hd' _))
  rw [Head.D_window t _ P.tile (P.head_row j)] at hsum
  rw [← Head.dsP_eq, ← hp j, ← hd' j, ← hsum]
  rfl

/-- The tile's query gradients. -/
theorem pay15_apply (s : FVec Ideal S512x768 .f32)
    (hs : ∀ j, s j = (hd ((j 0).val / 256)).dsP (256 * t + (j 0).val % 256) (256 * t + (j 1).val)) (i : S256x128.Idx) :
    k0_pay15 (F := Ideal) (k0_pay10 (F := Ideal) k1 k2 k3) s i
      = (hd ((i 1).val / 64)).dq (256 * t + (i 0).val) ((i 1).val % 64) := by
  have h0 : (i 0).val < 256 := (i 0).isLt
  have h1 : (i 1).val < 128 := (i 1).isLt
  have hm : ∀ r : Fin 512, r.val / 256 = (i 1).val / 64 → r.val % 256 = (i 0).val →
      matmul dot_S512x768_S768x128_S512x128_1_0_0_1_n_n none (k0_pay14 (F := Ideal) s) (k0_pay10 (F := Ideal) k1 k2 k3)
        (constant S512x128 .f32 0x00000000#32) (ix2 r (i 1)) * c8
      = (hd ((i 1).val / 64)).dq (256 * t + (i 0).val) ((i 1).val % 64) := by
    intro r hr hr'
    rw [nn_apply, ← Head.dq_window t (256 * t + (i 0).val) _ P.tile (by omega), ← sum_fin]
    refine congrArg (· * c8) (sum_congr rfl fun w _ => ?_)
    refine congrArg₂ (· * · : EReal → EReal → EReal) ?_ (P.keys _)
    refine (hs _).trans ?_
    show (hd (r.val / 256)).dsP (256 * t + r.val % 256) (256 * t + w.val) = _
    rw [hr, hr']
  have hsel := firstHead_apply
    (extractStridedSlice S256x128 ![0, 0] (matmul dot_S512x768_S768x128_S512x128_1_0_0_1_n_n none (k0_pay14 (F := Ideal) s)
      (k0_pay10 (F := Ideal) k1 k2 k3) (constant S512x128 .f32 0x00000000#32)) slices_S512x128_o0_0_S256x128)
    (extractStridedSlice S256x128 ![256, 0] (matmul dot_S512x768_S768x128_S512x128_1_0_0_1_n_n none (k0_pay14 (F := Ideal) s)
      (k0_pay10 (F := Ideal) k1 k2 k3) (constant S512x128 .f32 0x00000000#32)) slices_S512x128_o256_0_S256x128) i
  refine (congrArg₂ (· * · : EReal → EReal → EReal) hsel bits_eighth).trans ?_
  by_cases hl : (i 1).val < 64
  · rw [if_pos hl]
    refine Eq.trans (congrArg (· * c8) ?_) (hm ⟨(i 0).val, by omega⟩ (by show (i 0).val / 256 = _; omega) (Nat.mod_eq_of_lt h0))
    exact extractStridedSlice_apply _ _ _ _ _ (Fin.forall_fin_two.mpr ⟨(Nat.zero_add _).symm, (Nat.zero_add _).symm⟩)
  · rw [if_neg hl]
    refine Eq.trans (congrArg (· * c8) ?_) (hm ⟨256 + (i 0).val, by omega⟩ (by show (256 + (i 0).val) / 256 = _; omega)
      (by show (256 + (i 0).val) % 256 = _; omega))
    exact extractStridedSlice_apply _ _ _ _ _ (Fin.forall_fin_two.mpr ⟨rfl, (Nat.zero_add _).symm⟩)

/-- What the tile adds to the key gradients. -/
theorem pay16_apply (s : FVec Ideal S512x768 .f32)
    (hs : ∀ j, s j = (hd ((j 0).val / 256)).dsP (256 * t + (j 0).val % 256) (256 * t + (j 1).val))
    (a : FVec Ideal S768x128 .f32) (j : S768x128.Idx) :
    k0_pay16 (F := Ideal) (k0_pay8 (F := Ideal) q) s a j
      = a j + ∑ r ∈ range 256, (hd ((j 1).val / 64)).dsP (256 * t + r) (256 * t + (j 0).val)
          * ((hd ((j 1).val / 64)).q (256 * t + r) ((j 1).val % 64) * c8) := by
  have h1 : (j 1).val < 128 := (j 1).isLt
  unfold k0_pay16
  dsimp only
  rw [shapeCast_self]
  refine congrArg (a j + ·) ((tn_apply _ _ j).trans ?_)
  refine Eq.trans ?_ (P.rows ((j 1).val / 64) (by omega) _)
  rw [← sum_fin]
  refine sum_congr rfl fun r _ => ?_
  rw [P.query]
  refine Eq.trans (congrArg (· * _) (hs _)) ?_
  show (hd (r.val / 256)).dsP (256 * t + r.val % 256) (256 * t + (j 0).val) *
    (if (j 1).val / 64 = r.val / 256 then (hd ((j 1).val / 64)).q (256 * t + r.val % 256) ((j 1).val % 64) * c8 else 0) = _
  by_cases h : (j 1).val / 64 = r.val / 256
  · rw [if_pos h, if_pos h.symm, h]
  · rw [if_neg h, if_neg (Ne.symm h), mul_zero]

/-- What the tile adds to the value gradients. -/
theorem pay17_apply (p : FVec Ideal S512x768 .f32)
    (hp : ∀ j, p j = (hd ((j 0).val / 256)).pP (256 * t + (j 0).val % 256) (256 * t + (j 1).val))
    (a : FVec Ideal S768x128 .f32) (j : S768x128.Idx) :
    k0_pay17 (F := Ideal) (k0_pay9 (F := Ideal) g) p a j
      = a j + ∑ r ∈ range 256, (hd ((j 1).val / 64)).pP (256 * t + r) (256 * t + (j 0).val)
          * (hd ((j 1).val / 64)).g (256 * t + r) ((j 1).val % 64) := by
  have h1 : (j 1).val < 128 := (j 1).isLt
  unfold k0_pay17
  dsimp only
  rw [shapeCast_self]
  refine congrArg (a j + ·) ((tn_apply _ _ j).trans ?_)
  refine Eq.trans ?_ (P.rows ((j 1).val / 64) (by omega) _)
  rw [← sum_fin]
  refine sum_congr rfl fun r _ => ?_
  rw [P.cotangent]
  refine Eq.trans (congrArg (· * _) (hp _)) ?_
  show (hd (r.val / 256)).pP (256 * t + r.val % 256) (256 * t + (j 0).val) *
    (if (j 1).val / 64 = r.val / 256 then (hd ((j 1).val / 64)).g (256 * t + r.val % 256) ((j 1).val % 64) else 0) = _
  by_cases h : (j 1).val / 64 = r.val / 256
  · rw [if_pos h, if_pos h.symm, h]
  · rw [if_neg h, if_neg (Ne.symm h), mul_zero]

end PairOf

end Cert.KernelIdeal.Attn

end
-- ==== Proof.Value.Tile.lean ====
/-
  One tile of 256 queries of a group of four heads: what the body leaves in the query-gradient block and adds to the two
  accumulators, as the mathematics of the group's heads.
-/
module

public import proofs.«01_k».proof.Proof.Value.Pair
public import proofs.«01_k».proof.Proof.Ideal.Step

@[expose] public section

set_option maxRecDepth 16384

noncomputable section

namespace Cert.KernelIdeal.Attn

open Cert.KernelIdeal Cert.KernelIdeal.Gen Cert.Attn
open Idealize.ShloMosaic Idealize.ShloMosaic.ValueIdx Finset

/-! ## Windows -/

theorem lo_apply (x : Vec Ideal S256x256 .bf16) (f : ℕ → ℕ → EReal) (h : ∀ y : S256x256.Idx, x y = f (y 0).val (y 1).val)
    (y : S256x128.Idx) : lo x y = f (y 0).val (y 1).val := by
  refine (h ((Rect.unit (s := S256x256) ![0, 0] S256x128.size inb_S256x256_S256x128_0_0).emb y)).trans ?_
  show f (0 + 1 * (y 0).val) (0 + 1 * (y 1).val) = _
  rw [Nat.zero_add, Nat.zero_add, Nat.one_mul, Nat.one_mul]

theorem hi_apply (x : Vec Ideal S256x256 .bf16) (f : ℕ → ℕ → EReal) (h : ∀ y : S256x256.Idx, x y = f (y 0).val (y 1).val)
    (y : S256x128.Idx) : hi x y = f (y 0).val (128 + (y 1).val) := by
  refine (h ((Rect.unit (s := S256x256) ![0, 128] S256x128.size inb_S256x256_S256x128_0_128).emb y)).trans ?_
  show f (0 + 1 * (y 0).val) (128 + 1 * (y 1).val) = _
  rw [Nat.zero_add, Nat.one_mul, Nat.one_mul]

theorem planeLo_apply (x : Vec Ideal S4x256x768 .f32) (f : ℕ → ℕ → ℕ → EReal) (P : ℕ → Prop)
    (h : ∀ y : S4x256x768.Idx, P (y 2).val → x y = f (y 0).val (y 1).val (y 2).val)
    (y : S2x256x768.Idx) (hP : P (y 2).val) : planeLo x y = f (y 0).val (y 1).val (y 2).val := by
  have e := h ((Rect.unit (s := S4x256x768) ![0, 0, 0] S2x256x768.size inb_S4x256x768_S2x256x768_0_0_0).emb y)
  have e' : P (0 + 1 * (y 2).val) → planeLo x y = f (0 + 1 * (y 0).val) (0 + 1 * (y 1).val) (0 + 1 * (y 2).val) := e
  simp only [Nat.zero_add, Nat.one_mul] at e'
  exact e' hP

theorem planeHi_apply (x : Vec Ideal S4x256x768 .f32) (f : ℕ → ℕ → ℕ → EReal) (P : ℕ → Prop)
    (h : ∀ y : S4x256x768.Idx, P (y 2).val → x y = f (y 0).val (y 1).val (y 2).val)
    (y : S2x256x768.Idx) (hP : P (y 2).val) : planeHi x y = f (2 + (y 0).val) (y 1).val (y 2).val := by
  have e := h ((Rect.unit (s := S4x256x768) ![2, 0, 0] S2x256x768.size inb_S4x256x768_S2x256x768_2_0_0).emb y)
  have e' : P (0 + 1 * (y 2).val) → planeHi x y = f (2 + 1 * (y 0).val) (0 + 1 * (y 1).val) (0 + 1 * (y 2).val) := e
  simp only [Nat.zero_add, Nat.one_mul] at e'
  exact e' hP

theorem off_word : ∀ n : Fin 16, (Scalar.indexCast (Scalar.muli (BitVec.ofNat 32 n.val) 256#32)).toNat = 256 * n.val := by
  decide +kernel

theorem off1_eq (i : grid0.Coords) : k0_off1 i = ![256 * (i 1).val, 0] := by
  have h := off_word ⟨(i 1).val, (i 1).isLt⟩
  show ![(Scalar.indexCast (Scalar.muli (BitVec.ofNat 32 (i 1).val) 256#32)).toNat, 0] = _
  exact congrArg (fun n : ℕ => ![n, 0]) h

theorem off2_eq (i : grid0.Coords) : k0_off2 i = ![256 * (i 1).val, 128] := by
  have h := off_word ⟨(i 1).val, (i 1).isLt⟩
  show ![(Scalar.indexCast (Scalar.muli (BitVec.ofNat 32 (i 1).val) 256#32)).toNat, 128] = _
  exact congrArg (fun n : ℕ => ![n, 128]) h

/-- A window of an accumulator put back with something added to it. -/
theorem put_add (x a : S4608x256.Idx → EReal) (o : Fin 2 → ℕ) (r c : ℕ) (ho : o = ![r, c])
    (inb : ∀ b, o b + S768x128.size b ≤ S4608x256.size b) (f : ℕ → ℕ → EReal) (w : S768x128.Idx → EReal)
    (hw : ∀ j, w j = View.ld (Val := fun _ => EReal) (e' := EltTy.f32) a (Rect.unit (s := S4608x256) o S768x128.size inb) j
      + f (r + (j 0).val) (c + (j 1).val)) (y : S4608x256.Idx) :
    VecWindow.put (s := S4608x256) x o S768x128.size w y
      = if (r ≤ (y 0).val ∧ (y 0).val < r + 768) ∧ (c ≤ (y 1).val ∧ (y 1).val < c + 128) then a y + f (y 0).val (y 1).val else x y := by
  subst ho
  unfold VecWindow.put
  by_cases h : ∀ b, (![r, c] : Fin 2 → ℕ) b ≤ (y b).val ∧ (y b).val < (![r, c] : Fin 2 → ℕ) b + S768x128.size b
  · have h0 : r ≤ (y 0).val ∧ (y 0).val < r + 768 := h 0
    have h1 : c ≤ (y 1).val ∧ (y 1).val < c + 128 := h 1
    rw [dif_pos h, if_pos ⟨h0, h1⟩]
    refine (hw _).trans ?_
    have e0 : r + ((y 0).val - r) = (y 0).val := by omega
    have e1 : c + ((y 1).val - c) = (y 1).val := by omega
    show a ((Rect.unit (s := S4608x256) ![r, c] S768x128.size inb).emb _) + f (r + ((y 0).val - r)) (c + ((y 1).val - c)) = _
    rw [e0, e1]
    congr 2
    refine Shape.idx_ext₂ ?_ ?_
    · show r + 1 * ((y 0).val - r) = (y 0).val; omega
    · show c + 1 * ((y 1).val - c) = (y 1).val; omega
  · rw [dif_neg h, if_neg]
    intro hc
    refine h fun b => ?_
    fin_cases b
    · exact hc.1
    · exact hc.2

/-! ## The tile -/

/-- The blocks of tile `t` of four heads side by side. -/
structure TileOf (hd : ℕ → Head) (t : ℕ) (B : Blocks Ideal) : Prop where
  tile : t < 16
  real : ∀ s, (hd s).Real
  q : ∀ y, B.q y = (hd ((y 1).val / 64)).q (256 * t + (y 0).val) ((y 1).val % 64)
  g : ∀ y, B.g y = (hd ((y 1).val / 64)).g (256 * t + (y 0).val) ((y 1).val % 64)
  k1 : ∀ y, B.k1 y = (hd ((y 1).val / 64)).kP (256 * t + (y 0).val) ((y 1).val % 64)
  k2 : ∀ y, B.k2 y = (hd ((y 1).val / 64)).kP (256 * t + (256 + (y 0).val)) ((y 1).val % 64)
  k3 : ∀ y, B.k3 y = (hd ((y 1).val / 64)).kP (256 * t + (512 + (y 0).val)) ((y 1).val % 64)
  v1 : ∀ y, B.v1 y = (hd ((y 1).val / 64)).vP (256 * t + (y 0).val) ((y 1).val % 64)
  v2 : ∀ y, B.v2 y = (hd ((y 1).val / 64)).vP (256 * t + (256 + (y 0).val)) ((y 1).val % 64)
  v3 : ∀ y, B.v3 y = (hd ((y 1).val / 64)).vP (256 * t + (512 + (y 0).val)) ((y 1).val % 64)
  b : ∀ y, 512 ≤ 256 * t + (y 2).val → B.b y
    = if ok (256 * t + (y 1).val) (256 * t + (y 2).val - 512)
      then (hd (y 0).val).b (256 * t + (y 1).val) (256 * t + (y 2).val - 512) else ⊥

/-- The second pair's head and lane. -/
theorem hi_head (l : ℕ) : (128 + l) / 64 = l / 64 + 2 := by omega
theorem hi_lane (l : ℕ) : (128 + l) % 64 = l % 64 := by omega

namespace TileOf

variable {hd : ℕ → Head} {t : ℕ} {B : Blocks Ideal} (T : TileOf hd t B)
include T

theorem pairLo : PairOf hd t (lo B.q) (lo B.k1) (lo B.k2) (lo B.k3) (lo B.v1) (lo B.v2) (lo B.v3) (lo B.g) (planeLo B.b) where
  tile := T.tile
  real := T.real
  q := lo_apply B.q (fun r l => (hd (l / 64)).q (256 * t + r) (l % 64)) T.q
  g := lo_apply B.g (fun r l => (hd (l / 64)).g (256 * t + r) (l % 64)) T.g
  k1 := lo_apply B.k1 (fun r l => (hd (l / 64)).kP (256 * t + r) (l % 64)) T.k1
  k2 := lo_apply B.k2 (fun r l => (hd (l / 64)).kP (256 * t + (256 + r)) (l % 64)) T.k2
  k3 := lo_apply B.k3 (fun r l => (hd (l / 64)).kP (256 * t + (512 + r)) (l % 64)) T.k3
  v1 := lo_apply B.v1 (fun r l => (hd (l / 64)).vP (256 * t + r) (l % 64)) T.v1
  v2 := lo_apply B.v2 (fun r l => (hd (l / 64)).vP (256 * t + (256 + r)) (l % 64)) T.v2
  v3 := lo_apply B.v3 (fun r l => (hd (l / 64)).vP (256 * t + (512 + r)) (l % 64)) T.v3
  b := planeLo_apply B.b (fun s r w => if ok (256 * t + r) (256 * t + w - 512)
      then (hd s).b (256 * t + r) (256 * t + w - 512) else ⊥) (fun w => 512 ≤ 256 * t + w) T.b

theorem pairHi : PairOf (fun s => hd (s + 2)) t (hi B.q) (hi B.k1) (hi B.k2) (hi B.k3) (hi B.v1) (hi B.v2) (hi B.v3) (hi B.g)
    (planeHi B.b) := by
  have e : ∀ (x : Vec Ideal S256x256 .bf16) (F : Head → ℕ → ℕ → EReal) (r : ℕ),
      (∀ y, x y = F (hd ((y 1).val / 64)) (r + (y 0).val) ((y 1).val % 64)) →
      ∀ y, hi x y = F (hd ((y 1).val / 64 + 2)) (r + (y 0).val) ((y 1).val % 64) := fun x F r h y => by
    have e := hi_apply x (fun a l => F (hd (l / 64)) (r + a) (l % 64)) h y
    simp only [hi_head, hi_lane] at e
    exact e
  exact {
    tile := T.tile
    real := fun s => T.real (s + 2)
    q := e B.q Head.q _ T.q
    g := e B.g Head.g _ T.g
    k1 := e B.k1 Head.kP _ T.k1
    k2 := fun y => by
      have := e B.k2 Head.kP (256 * t + 256) (fun y => by rw [T.k2 y, Nat.add_assoc]) y
      rw [Nat.add_assoc] at this
      exact this
    k3 := fun y => by
      have := e B.k3 Head.kP (256 * t + 512) (fun y => by rw [T.k3 y, Nat.add_assoc]) y
      rw [Nat.add_assoc] at this
      exact this
    v1 := e B.v1 Head.vP _ T.v1
    v2 := fun y => by
      have := e B.v2 Head.vP (256 * t + 256) (fun y => by rw [T.v2 y, Nat.add_assoc]) y
      rw [Nat.add_assoc] at this
      exact this
    v3 := fun y => by
      have := e B.v3 Head.vP (256 * t + 512) (fun y => by rw [T.v3 y, Nat.add_assoc]) y
      rw [Nat.add_assoc] at this
      exact this
    b := fun y h => by
      have := planeHi_apply B.b (fun s r w => if ok (256 * t + r) (256 * t + w - 512)
        then (hd s).b (256 * t + r) (256 * t + w - 512) else ⊥) (fun w => 512 ≤ 256 * t + w) T.b y h
      rw [Nat.add_comm 2] at this
      exact this }

variable {i : grid0.Coords} (hi' : (i 1).val = t)
include hi'

theorem tileW_eq : tileW i = BitVec.ofNat 32 t := by
  subst hi'; rfl

theorem sA_apply (j : S512x768.Idx) :
    B.sA i j = (hd ((j 0).val / 256)).dsP (256 * t + (j 0).val % 256) (256 * t + (j 1).val) := by
  unfold Blocks.sA
  rw [T.tileW_eq hi']
  exact T.pairLo.pay12_apply j

theorem pA_apply (j : S512x768.Idx) :
    B.pA i j = (hd ((j 0).val / 256)).pP (256 * t + (j 0).val % 256) (256 * t + (j 1).val) := by
  unfold Blocks.pA
  rw [T.tileW_eq hi']
  exact T.pairLo.pay11_apply j

omit T hi' in
theorem sB_eq (B : Blocks Ideal) (i : grid0.Coords) : B.sB i = k0_pay12 (F := Ideal) (tileW i) (k0_pay8 (F := Ideal) (hi B.q)) (k0_pay9 (F := Ideal) (hi B.g))
    (k0_pay10 (F := Ideal) (hi B.k1) (hi B.k2) (hi B.k3)) (hi B.v1) (hi B.v2) (hi B.v3) (planeHi B.b) := rfl

omit T hi' in
theorem pB_eq (B : Blocks Ideal) (i : grid0.Coords) : B.pB i = k0_pay11 (F := Ideal) (tileW i) (k0_pay8 (F := Ideal) (hi B.q))
    (k0_pay10 (F := Ideal) (hi B.k1) (hi B.k2) (hi B.k3)) (planeHi B.b) := rfl

omit T hi' in
theorem dqB_eq (B : Blocks Ideal) (i : grid0.Coords) : k0_pay30 (F := Ideal) B.gB B.kB B.vB B.zB Blocks.colW (Blocks.startW i)
    = k0_pay15 (F := Ideal) (k0_pay10 (F := Ideal) (hi B.k1) (hi B.k2) (hi B.k3)) (B.sB i) := rfl

theorem sB_apply (j : S512x768.Idx) :
    B.sB i j = (hd ((j 0).val / 256 + 2)).dsP (256 * t + (j 0).val % 256) (256 * t + (j 1).val) := by
  rw [sB_eq, T.tileW_eq hi']
  exact T.pairHi.pay12_apply j

theorem pB_apply (j : S512x768.Idx) :
    B.pB i j = (hd ((j 0).val / 256 + 2)).pP (256 * t + (j 0).val % 256) (256 * t + (j 1).val) := by
  rw [pB_eq, T.tileW_eq hi']
  exact T.pairHi.pay11_apply j

/-- The tile's query gradients. -/
theorem dq_apply (y : S256x256.Idx) : B.dq i y = (hd ((y 1).val / 64)).dq (256 * t + (y 0).val) ((y 1).val % 64) := by
  have h0 : (y 0).val < 256 := (y 0).isLt
  have h1 : (y 1).val < 256 := (y 1).isLt
  unfold Blocks.dq
  by_cases h : 128 ≤ (y 1).val
  · have hin : ∀ a, (![0, 128] : Fin 2 → ℕ) a ≤ (y a).val ∧ (y a).val < (![0, 128] : Fin 2 → ℕ) a + S256x128.size a := by
      intro a
      fin_cases a
      · exact ⟨Nat.zero_le _, by show (y 0).val < 0 + 256; omega⟩
      · exact ⟨h, by show (y 1).val < 128 + 128; omega⟩
    unfold VecWindow.put
    rw [dif_pos hin, dqB_eq]
    refine (T.pairHi.pay15_apply (B.sB i) (T.sB_apply hi') _).trans ?_
    show (hd (((y 1).val - 128) / 64 + 2)).dq (256 * t + ((y 0).val - 0)) (((y 1).val - 128) % 64) = _
    rw [show ((y 1).val - 128) / 64 + 2 = (y 1).val / 64 by omega, show ((y 1).val - 128) % 64 = (y 1).val % 64 by omega, Nat.sub_zero]
  · have hout : ¬ ∀ a, (![0, 128] : Fin 2 → ℕ) a ≤ (y a).val ∧ (y a).val < (![0, 128] : Fin 2 → ℕ) a + S256x128.size a :=
      fun hc => h (hc 1).1
    have hin : ∀ a, (![0, 0] : Fin 2 → ℕ) a ≤ (y a).val ∧ (y a).val < (![0, 0] : Fin 2 → ℕ) a + S256x128.size a := by
      intro a
      fin_cases a
      · exact ⟨Nat.zero_le _, by show (y 0).val < 0 + 256; omega⟩
      · exact ⟨Nat.zero_le _, by show (y 1).val < 0 + 128; omega⟩
    unfold VecWindow.put
    rw [dif_neg hout, dif_pos hin]
    refine (T.pairLo.pay15_apply (B.sA i) (T.sA_apply hi') _).trans ?_
    show (hd (((y 1).val - 0) / 64)).dq (256 * t + ((y 0).val - 0)) (((y 1).val - 0) % 64) = _
    rw [Nat.sub_zero, Nat.sub_zero]

omit T hi' in
/-- Outside its window the tile adds nothing to the key gradients. -/
theorem addK_out (hd : ℕ → Head) (t r l : ℕ) (h : ¬ (256 * t ≤ r ∧ r < 256 * t + 768)) :
    ∑ n ∈ range 256, (hd (l / 64)).dsP (256 * t + n) r * ((hd (l / 64)).q (256 * t + n) (l % 64) * c8) = 0 :=
  sum_eq_zero fun n hn => by
    have := mem_range.mp hn
    rw [Head.dsP_out t _ _ (by omega) h, zero_mul]

omit T hi' in
/-- Outside its window the tile adds nothing to the value gradients. -/
theorem addV_out (hd : ℕ → Head) (t r l : ℕ) (h : ¬ (256 * t ≤ r ∧ r < 256 * t + 768)) :
    ∑ n ∈ range 256, (hd (l / 64)).pP (256 * t + n) r * (hd (l / 64)).g (256 * t + n) (l % 64) = 0 :=
  sum_eq_zero fun n hn => by
    have := mem_range.mp hn
    rw [Head.pP_out t _ _ (by omega) h, zero_mul]

theorem dk_apply (a : Vec Ideal S4608x256 .f32) (y : S4608x256.Idx) :
    B.dk i a y = a y + ∑ n ∈ range 256, (hd ((y 1).val / 64)).dsP (256 * t + n) (y 0).val
      * ((hd ((y 1).val / 64)).q (256 * t + n) ((y 1).val % 64) * c8) := by
  have h1 : (y 1).val < 256 := (y 1).isLt
  have e2 := put_add (VecWindow.put a (k0_off1 i) S768x128.size (k0_pay16 B.qA (B.sA i) (rowsLo i a))) a (k0_off2 i)
    (256 * t) 128 (by rw [off2_eq, hi']) (k0_off2_inb i)
    (fun r l => ∑ n ∈ range 256, (hd (l / 64)).dsP (256 * t + n) r * ((hd (l / 64)).q (256 * t + n) (l % 64) * c8))
    (k0_pay1 B.qB (B.sB i) (rowsHi i a)) (fun j => by
      have := T.pairHi.pay16_apply (B.sB i) (T.sB_apply hi') (rowsHi i a) j
      simp only [hi_head, hi_lane]
      exact this) y
  have e1 := put_add a a (k0_off1 i)
    (256 * t) 0 (by rw [off1_eq, hi']) (k0_off1_inb i)
    (fun r l => ∑ n ∈ range 256, (hd (l / 64)).dsP (256 * t + n) r * ((hd (l / 64)).q (256 * t + n) (l % 64) * c8))
    (k0_pay16 B.qA (B.sA i) (rowsLo i a)) (fun j => by
      have := T.pairLo.pay16_apply (B.sA i) (T.sA_apply hi') (rowsLo i a) j
      simp only [Nat.zero_add]
      exact this) y
  refine e2.trans ?_
  rw [e1]
  by_cases h : 256 * t ≤ (y 0).val ∧ (y 0).val < 256 * t + 768
  · by_cases hl : 128 ≤ (y 1).val
    · rw [if_pos ⟨h, hl, by omega⟩]
    · rw [if_neg (fun hc => hl hc.2.1), if_pos ⟨h, Nat.zero_le _, by omega⟩]
  · rw [if_neg (fun hc => h hc.1), if_neg (fun hc => h hc.1), addK_out hd t _ _ h, add_zero]

theorem dv_apply (a : Vec Ideal S4608x256 .f32) (y : S4608x256.Idx) :
    B.dv i a y = a y + ∑ n ∈ range 256, (hd ((y 1).val / 64)).pP (256 * t + n) (y 0).val
      * (hd ((y 1).val / 64)).g (256 * t + n) ((y 1).val % 64) := by
  have h1 : (y 1).val < 256 := (y 1).isLt
  have e2 := put_add (VecWindow.put a (k0_off1 i) S768x128.size (k0_pay17 B.gA (B.pA i) (rowsLo i a))) a (k0_off2 i)
    (256 * t) 128 (by rw [off2_eq, hi']) (k0_off2_inb i)
    (fun r l => ∑ n ∈ range 256, (hd (l / 64)).pP (256 * t + n) r * (hd (l / 64)).g (256 * t + n) (l % 64))
    (k0_pay2 B.gB (B.pB i) (rowsHi i a)) (fun j => by
      have := T.pairHi.pay17_apply (B.pB i) (T.pB_apply hi') (rowsHi i a) j
      simp only [hi_head, hi_lane]
      exact this) y
  have e1 := put_add a a (k0_off1 i)
    (256 * t) 0 (by rw [off1_eq, hi']) (k0_off1_inb i)
    (fun r l => ∑ n ∈ range 256, (hd (l / 64)).pP (256 * t + n) r * (hd (l / 64)).g (256 * t + n) (l % 64))
    (k0_pay17 B.gA (B.pA i) (rowsLo i a)) (fun j => by
      have := T.pairLo.pay17_apply (B.pA i) (T.pA_apply hi') (rowsLo i a) j
      simp only [Nat.zero_add]
      exact this) y
  refine e2.trans ?_
  rw [e1]
  by_cases h : 256 * t ≤ (y 0).val ∧ (y 0).val < 256 * t + 768
  · by_cases hl : 128 ≤ (y 1).val
    · rw [if_pos ⟨h, hl, by omega⟩]
    · rw [if_neg (fun hc => hl hc.2.1), if_pos ⟨h, Nat.zero_le _, by omega⟩]
  · rw [if_neg (fun hc => h hc.1), if_neg (fun hc => h hc.1), addV_out hd t _ _ h, add_zero]

end TileOf

end Cert.KernelIdeal.Attn
-- ==== Proof.Value.Host.lean ====
/-
  The arrays the launch hands the grid: the attention's rows under 512 rows of zeros, and the bias tile.
-/
module

public import proofs.«01_k».proof.Proof.Math.Words
public import proofs.«01_k».proof.Proof.Ideal.Frame
public import Idealize.ShloMosaic.Lib.KernelVsHost
public import Idealize.ShloMosaic.Lib.StableHlo.RunRead

@[expose] public section

noncomputable section

namespace Cert.KernelIdeal.Attn

open Cert.KernelIdeal Cert.KernelIdeal.Gen Cert.Attn
open Idealize.ShloMosaic Idealize.ShloMosaic.TcCoe Idealize.ShloMosaic.StableHlo Idealize.ShloMosaic.ValueIdx

/-! ## The arrays as functions of the arguments -/

/-- The rows `0 … 255` of a tile and the columns `0 … 767` of its window. -/
def rowsW : IVec S256x1 32 := broadcastInDim S256x1 ![0] bcast_S256_S256x1_0 (iotaInDim S256 32 0)
def colsW : IVec S1x768 32 := broadcastInDim S1x768 ![1] bcast_S768_S1x768_1 (iotaInDim S768 32 0)

/-- Their distances, clipped and shifted. -/
def diffW : IVec S256x768 32 :=
  subi (broadcastInDim S256x768 ![0, 1] bcast_S256x1_S256x768_0_1 (addi (broadcastInDim S256x1 ![] bcast_S_S256x1 (constantI S_ 32 512#32)) rowsW))
    (broadcastInDim S256x768 ![0, 1] bcast_S1x768_S256x768_0_1 colsW)
def clipW : IVec S256x768 32 :=
  addi (minsi (broadcastInDim S256x768 ![] bcast_S_S256x768 (constantI S_ 32 256#32))
      (maxsi (broadcastInDim S256x768 ![] bcast_S_S256x768 (constantI S_ 32 4294967040#32)) diffW))
    (broadcastInDim S256x768 ![] bcast_S_S256x768 (constantI S_ 32 256#32))
def relW : IVec S256x768 32 :=
  select (cmpi .slt clipW (broadcastInDim S256x768 ![] bcast_S_S256x768 (constantI S_ 32 0#32)))
    (addi clipW (broadcastInDim S256x768 ![] bcast_S_S256x768 (constantI S_ 32 513#32))) clipW

/-- The chunks of 64 they lie in. -/
def rowChunk : IVec S256x1 32 :=
  select (andi (cmpi .ne (signi rowsW) (broadcastInDim S256x1 ![] bcast_S_S256x1 (signi (constantI S_ 32 64#32))))
      (cmpi .ne (Host.remsi rowsW (broadcastInDim S256x1 ![] bcast_S_S256x1 (constantI S_ 32 64#32)))
        (broadcastInDim S256x1 ![] bcast_S_S256x1 (constantI S_ 32 0#32))))
    (subi (Host.divsi rowsW (broadcastInDim S256x1 ![] bcast_S_S256x1 (constantI S_ 32 64#32)))
      (broadcastInDim S256x1 ![] bcast_S_S256x1 (constantI S_ 32 1#32)))
    (Host.divsi rowsW (broadcastInDim S256x1 ![] bcast_S_S256x1 (constantI S_ 32 64#32)))
def colChunk : IVec S1x768 32 :=
  select (andi (cmpi .ne (signi colsW) (broadcastInDim S1x768 ![] bcast_S_S1x768 (signi (constantI S_ 32 64#32))))
      (cmpi .ne (Host.remsi colsW (broadcastInDim S1x768 ![] bcast_S_S1x768 (constantI S_ 32 64#32)))
        (broadcastInDim S1x768 ![] bcast_S_S1x768 (constantI S_ 32 0#32))))
    (subi (Host.divsi colsW (broadcastInDim S1x768 ![] bcast_S_S1x768 (constantI S_ 32 64#32)))
      (broadcastInDim S1x768 ![] bcast_S_S1x768 (constantI S_ 32 1#32)))
    (Host.divsi colsW (broadcastInDim S1x768 ![] bcast_S_S1x768 (constantI S_ 32 64#32)))

/-- Which of the window's columns each row attends to. -/
def maskW : IVec S256x768 1 :=
  andi (cmpi .sge (broadcastInDim S256x768 ![0, 1] bcast_S1x768_S256x768_0_1 colChunk)
      (broadcastInDim S256x768 ![0, 1] bcast_S256x1_S256x768_0_1 rowChunk))
    (cmpi .sle (broadcastInDim S256x768 ![0, 1] bcast_S1x768_S256x768_0_1 colChunk)
      (broadcastInDim S256x768 ![0, 1] bcast_S256x1_S256x768_0_1
        (addi rowChunk (broadcastInDim S256x1 ![] bcast_S_S256x1 (constantI S_ 32 8#32)))))

/-- The bias tile of a table. -/
def biasTile (x1 : FVec Ideal S16x513 .f32) : FVec Ideal S16x256x768 .f32 :=
  select (broadcastInDim S16x256x768 ![1, 2] bcast_S256x768_S16x256x768_1_2 maskW)
    (Host.gather gather_S16x513_S256x768x1_S16x256x768_0_1_n_n_1_2_161 x1 (broadcastInDim S256x768x1 ![0, 1] bcast_S256x768_S256x768x1_0_1 relW))
    (broadcastInDim S16x256x768 ![] bcast_S_S16x256x768 (constant (F := Ideal) S_ .f32 0xFF800000#32))

/-- The padded rows. -/
def padRows (x0 : FVec Ideal S4096x3072 .bf16) : FVec Ideal S4608x3072 .bf16 :=
  pad S4608x3072 ![512, 0] ![0, 0] ![0, 0] x0 (sitofp .bf16 (constantI S_ 32 0#32)) pads_S4096x3072_S4608x3072_51200_000 h_S_

variable (m : (ℓ : Loc nD τ sig) → Buf (Elt Ideal) ℓ) (c : Dev nD)

theorem V_main_v31 : V m c main_v31 = biasTile (m ((c : Thread nD τ).loc main_arg1)) := by
  unfold V
  after_reads_simp
  rfl

theorem V_main_v0 : V m c main_v0 = padRows (m ((c : Thread nD τ).loc main_arg0)) := by
  unfold V
  after_reads_simp
  rfl

/-! ## Their elements -/

theorem relW_apply (i : S256x768.Idx) : relW i = BitVec.ofNat 32 (min 512 (256 + (512 + (i 0).val) - (i 1).val)) := by
  have h0 : (i 0).val < 256 := (i 0).isLt
  have h1 : (i 1).val < 768 := (i 1).isLt
  refine Eq.trans ?_ (relWord_sub (512 + (i 0).val) (i 1).val (by omega) (by omega))
  rw [BitVec.ofNat_add]
  rfl

theorem rowChunk_apply (i : S256x1.Idx) : rowChunk i = BitVec.ofNat 32 ((i 0).val / 64) := by
  have h0 : (i 0).val < 256 := (i 0).isLt
  exact Eq.trans rfl (chunkWord_eq (i 0).val (by omega))

theorem colChunk_apply (i : S1x768.Idx) : colChunk i = BitVec.ofNat 32 ((i 1).val / 64) := by
  have h1 : (i 1).val < 768 := (i 1).isLt
  exact Eq.trans rfl (chunkWord_eq (i 1).val (by omega))

theorem maskW_apply (i : S256x768.Idx) :
    maskW i = BitVec.ofBool (decide ((i 0).val / 64 ≤ (i 1).val / 64 ∧ (i 1).val / 64 ≤ (i 0).val / 64 + 8)) := by
  have h0 : (i 0).val < 256 := (i 0).isLt
  have h1 : (i 1).val < 768 := (i 1).isLt
  have e1 : broadcastInDim S256x768 ![0, 1] bcast_S1x768_S256x768_0_1 colChunk i = BitVec.ofNat 32 ((i 1).val / 64) :=
    colChunk_apply _
  have e0 : broadcastInDim S256x768 ![0, 1] bcast_S256x1_S256x768_0_1 rowChunk i = BitVec.ofNat 32 ((i 0).val / 64) :=
    rowChunk_apply _
  have e8 : broadcastInDim S256x768 ![0, 1] bcast_S256x1_S256x768_0_1
      (addi rowChunk (broadcastInDim S256x1 ![] bcast_S_S256x1 (constantI S_ 32 8#32))) i = BitVec.ofNat 32 ((i 0).val / 64 + 8) := by
    rw [BitVec.ofNat_add]
    exact congrArg (fun w => IntOp.addi w 8#32) (rowChunk_apply _)
  show IntOp.andi (IntOp.cmpi .sge (broadcastInDim S256x768 ![0, 1] bcast_S1x768_S256x768_0_1 colChunk i)
      (broadcastInDim S256x768 ![0, 1] bcast_S256x1_S256x768_0_1 rowChunk i))
    (IntOp.cmpi .sle (broadcastInDim S256x768 ![0, 1] bcast_S1x768_S256x768_0_1 colChunk i)
      (broadcastInDim S256x768 ![0, 1] bcast_S256x1_S256x768_0_1
        (addi rowChunk (broadcastInDim S256x1 ![] bcast_S_S256x1 (constantI S_ 32 8#32))) i)) = _
  rw [e0, e1, e8]
  show IntOp.andi (IntOp.cmpi .sle (BitVec.ofNat 32 ((i 0).val / 64)) (BitVec.ofNat 32 ((i 1).val / 64))) _ = _
  rw [sle_small _ _ (by omega) (by omega), sle_small _ _ (by omega) (by omega)]
  show BitVec.ofBool _ &&& BitVec.ofBool _ = _
  rw [BitVec.ofBool_and_ofBool]
  congr 1
  rw [Bool.eq_iff_iff, Bool.and_eq_true, decide_eq_true_iff, decide_eq_true_iff, decide_eq_true_iff]

/-- The bias tile at a row and a column of any tile's window that is no padding. -/
theorem biasTile_apply (x0 : FVec Ideal S4096x3072 .bf16) (x1 : FVec Ideal S16x513 .f32) (x2 : FVec Ideal S4096x1024 .bf16) (t : ℕ)
    (i : S16x256x768.Idx) (h : 512 ≤ 256 * t + (i 2).val) :
    biasTile x1 i = if ok (256 * t + (i 1).val) (256 * t + (i 2).val - 512)
      then (headOf x0 x1 x2 (i 0).val).b (256 * t + (i 1).val) (256 * t + (i 2).val - 512) else ⊥ := by
  have h1 : (i 1).val < 256 := (i 1).isLt
  have h2 : (i 2).val < 768 := (i 2).isLt
  have e : broadcastInDim S16x256x768 ![1, 2] bcast_S256x768_S16x256x768_1_2 maskW i
      = BitVec.ofBool (decide (ok (256 * t + (i 1).val) (256 * t + (i 2).val - 512))) := by
    refine (maskW_apply (ix2 ⟨(i 1).val, h1⟩ ⟨(i 2).val, h2⟩)).trans ?_
    congr 1
    rw [Bool.eq_iff_iff, decide_eq_true_iff, decide_eq_true_iff]
    show (i 1).val / 64 ≤ (i 2).val / 64 ∧ (i 2).val / 64 ≤ (i 1).val / 64 + 8 ↔ ok _ _
    unfold ok
    omega
  have w : broadcastInDim S256x768x1 ![0, 1] bcast_S256x768_S256x768x1_0_1 relW (colsIdx i)
      = BitVec.ofNat 32 (min 512 (256 + (512 + (i 1).val) - (i 2).val)) := by
    refine (broadcastInDim_apply _ _ relW (colsIdx i) (ix2 ⟨(i 1).val, h1⟩ ⟨(i 2).val, h2⟩) ?_).trans (relW_apply _)
    intro a
    fin_cases a <;> rfl
  have g : Host.gather gather_S16x513_S256x768x1_S16x256x768_0_1_n_n_1_2_161 x1
      (broadcastInDim S256x768x1 ![0, 1] bcast_S256x768_S256x768x1_0_1 relW) i
      = (headOf x0 x1 x2 (i 0).val).b (256 * t + (i 1).val) (256 * t + (i 2).val - 512) := by
    refine (gather_cols gather_S16x513_S256x768x1_S16x256x768_0_1_n_n_1_2_161_wf x1 _ i
      (min 512 (256 + (512 + (i 1).val) - (i 2).val)) (by omega) w).trans ?_
    have e3 : min 512 (256 + (512 + (i 1).val) - (i 2).val)
        = min 512 (256 + (256 * t + (i 1).val) - (256 * t + (i 2).val - 512)) := by omega
    rw [e3]
    rfl
  have n : broadcastInDim S16x256x768 ![] bcast_S_S16x256x768 (constant (F := Ideal) S_ .f32 0xFF800000#32) i = (⊥ : EReal) :=
    bits_ninf
  show Scalar.select (broadcastInDim S16x256x768 ![1, 2] bcast_S256x768_S16x256x768_1_2 maskW i)
    (Host.gather gather_S16x513_S256x768x1_S16x256x768_0_1_n_n_1_2_161 x1
      (broadcastInDim S256x768x1 ![0, 1] bcast_S256x768_S256x768x1_0_1 relW) i)
    (broadcastInDim S16x256x768 ![] bcast_S_S16x256x768 (constant (F := Ideal) S_ .f32 0xFF800000#32) i) = _
  rw [e, g, n]
  by_cases hk : ok (256 * t + (i 1).val) (256 * t + (i 2).val - 512)
  · rw [if_pos hk, decide_eq_true hk]; rfl
  · rw [if_neg hk, decide_eq_false hk]; rfl

theorem padRows_apply (x0 : FVec Ideal S4096x3072 .bf16) (i : S4608x3072.Idx) (a b : ℕ) (ha : (i 0).val = a) (hb : (i 1).val = b) :
    padRows x0 i = if 512 ≤ a then at2 x0 (a - 512) b else 0 := by
  subst ha hb
  have h0 : (i 0).val < 4608 := (i 0).isLt
  have h1 : (i 1).val < 3072 := (i 1).isLt
  unfold padRows
  split
  next h =>
    refine (pad_apply_of_inside _ _ _ _ _ _ _ i (ix2 ⟨(i 0).val - 512, by omega⟩ ⟨(i 1).val, h1⟩) ?_).trans (at2_of x0 _ _ _ rfl rfl)
    intro a
    fin_cases a
    · show (i 0).val = 512 + ((i 0).val - 512) * 1; omega
    · show (i 1).val = 0 + (i 1).val * 1; omega
  next h =>
    refine (pad_apply_of_not_inside _ _ _ _ _ _ _ i 0 ?_).trans ?_
    · intro hc
      have : 512 ≤ (i 0).val := hc.1
      omega
    · show (((0#32 : BitVec 32).toInt : ℝ) : EReal) = 0
      simp

end Cert.KernelIdeal.Attn
-- ==== Proof.Value.Grid.lean ====
/-
  The whole grid: every point's blocks are a tile of a group of four heads, the accumulators hold running sums over the
  rows, and the three results end holding the gradients of the queries, keys and values.
-/
module

public import proofs.«01_k».proof.Proof.Value.Tile
public import proofs.«01_k».proof.Proof.Value.Host
public import Idealize.ShloMosaic.Lib.Pipeline.ValueKit

@[expose] public section

set_option maxRecDepth 16384

noncomputable section

namespace Cert.KernelIdeal.Attn

open Cert.KernelIdeal Cert.KernelIdeal.Gen Cert.Attn
open Idealize.ShloMosaic Idealize.ShloMosaic.TcCoe Idealize.ShloMosaic.ValueIdx Finset
open Idealize.ShloMosaic.Pipeline (Dat Cfg Window)

/-! ## Where the blocks lie -/

theorem index0 : ∀ t : Fin grid0.N, win0_0.index t 0 = t.val % 16 + 2 ∧ win0_0.index t 1 = t.val / 16 := by decide +kernel
theorem index1 : ∀ t : Fin grid0.N, win0_1.index t 0 = t.val % 16 ∧ win0_1.index t 1 = 4 + t.val / 16 := by decide +kernel
theorem index2 : ∀ t : Fin grid0.N, win0_2.index t 0 = t.val % 16 + 1 ∧ win0_2.index t 1 = 4 + t.val / 16 := by decide +kernel
theorem index3 : ∀ t : Fin grid0.N, win0_3.index t 0 = t.val % 16 + 2 ∧ win0_3.index t 1 = 4 + t.val / 16 := by decide +kernel
theorem index4 : ∀ t : Fin grid0.N, win0_4.index t 0 = t.val % 16 ∧ win0_4.index t 1 = 8 + t.val / 16 := by decide +kernel
theorem index5 : ∀ t : Fin grid0.N, win0_5.index t 0 = t.val % 16 + 1 ∧ win0_5.index t 1 = 8 + t.val / 16 := by decide +kernel
theorem index6 : ∀ t : Fin grid0.N, win0_6.index t 0 = t.val % 16 + 2 ∧ win0_6.index t 1 = 8 + t.val / 16 := by decide +kernel
theorem index7 : ∀ t : Fin grid0.N, win0_7.index t 0 = t.val / 16 ∧ win0_7.index t 1 = 0 ∧ win0_7.index t 2 = 0 := by decide +kernel
theorem index8 : ∀ t : Fin grid0.N, win0_8.index t 0 = t.val % 16 ∧ win0_8.index t 1 = t.val / 16 := by decide +kernel
theorem index9 : ∀ t : Fin grid0.N, win0_9.index t 0 = t.val % 16 ∧ win0_9.index t 1 = t.val / 16 := by decide +kernel
theorem index10 : ∀ t : Fin grid0.N, win0_10.index t 0 = 0 ∧ win0_10.index t 1 = t.val / 16 := by decide +kernel
theorem index11 : ∀ t : Fin grid0.N, win0_11.index t 0 = 0 ∧ win0_11.index t 1 = t.val / 16 := by decide +kernel

variable (m : (ℓ : Loc nD τ sig) → Buf (Elt Ideal) ℓ) (c : Dev nD)

/-- The arguments and the heads they hold. -/
abbrev arg0 : FVec Ideal S4096x3072 .bf16 := m ((c : Thread nD τ).loc main_arg0)
abbrev arg1 : FVec Ideal S16x513 .f32 := m ((c : Thread nD τ).loc main_arg1)
abbrev arg2 : FVec Ideal S4096x1024 .bf16 := m ((c : Thread nD τ).loc main_arg2)
def heads (h : ℕ) : Head := headOf (arg0 m c) (arg1 m c) (arg2 m c) h

/-- A block of the padded rows. -/
theorem padBlock (i : S4608x3072.Idx) (a b : ℕ) (ha : (i 0).val = a) (hb : (i 1).val = b) :
    (V m c main_v0 : FVec Ideal S4608x3072 .bf16) i = if 512 ≤ a then at2 (arg0 m c) (a - 512) b else 0 :=
  (congrFun (V_main_v0 m c) i).trans (padRows_apply _ i a b ha hb)

theorem block0 (t : Fin grid0.N) (y : S256x256.Idx) : iblk m c 0 t y
    = if 512 ≤ (t.val % 16 + 2) * 256 + (y 0).val then at2 (arg0 m c) ((t.val % 16 + 2) * 256 + (y 0).val - 512) (t.val / 16 * 256 + (y 1).val) else 0 :=
  padBlock m c ((win0_0.rect t).emb y) _ _ ((win0_0.rect_emb_val t y 0).trans (by rw [(index0 t).1]; rfl))
    ((win0_0.rect_emb_val t y 1).trans (by rw [(index0 t).2]; rfl))
theorem block1 (t : Fin grid0.N) (y : S256x256.Idx) : iblk m c 1 t y
    = if 512 ≤ t.val % 16 * 256 + (y 0).val then at2 (arg0 m c) (t.val % 16 * 256 + (y 0).val - 512) ((4 + t.val / 16) * 256 + (y 1).val) else 0 :=
  padBlock m c ((win0_1.rect t).emb y) _ _ ((win0_1.rect_emb_val t y 0).trans (by rw [(index1 t).1]; rfl))
    ((win0_1.rect_emb_val t y 1).trans (by rw [(index1 t).2]; rfl))
theorem block2 (t : Fin grid0.N) (y : S256x256.Idx) : iblk m c 2 t y
    = if 512 ≤ (t.val % 16 + 1) * 256 + (y 0).val then at2 (arg0 m c) ((t.val % 16 + 1) * 256 + (y 0).val - 512) ((4 + t.val / 16) * 256 + (y 1).val) else 0 :=
  padBlock m c ((win0_2.rect t).emb y) _ _ ((win0_2.rect_emb_val t y 0).trans (by rw [(index2 t).1]; rfl))
    ((win0_2.rect_emb_val t y 1).trans (by rw [(index2 t).2]; rfl))
theorem block3 (t : Fin grid0.N) (y : S256x256.Idx) : iblk m c 3 t y
    = if 512 ≤ (t.val % 16 + 2) * 256 + (y 0).val then at2 (arg0 m c) ((t.val % 16 + 2) * 256 + (y 0).val - 512) ((4 + t.val / 16) * 256 + (y 1).val) else 0 :=
  padBlock m c ((win0_3.rect t).emb y) _ _ ((win0_3.rect_emb_val t y 0).trans (by rw [(index3 t).1]; rfl))
    ((win0_3.rect_emb_val t y 1).trans (by rw [(index3 t).2]; rfl))
theorem block4 (t : Fin grid0.N) (y : S256x256.Idx) : iblk m c 4 t y
    = if 512 ≤ t.val % 16 * 256 + (y 0).val then at2 (arg0 m c) (t.val % 16 * 256 + (y 0).val - 512) ((8 + t.val / 16) * 256 + (y 1).val) else 0 :=
  padBlock m c ((win0_4.rect t).emb y) _ _ ((win0_4.rect_emb_val t y 0).trans (by rw [(index4 t).1]; rfl))
    ((win0_4.rect_emb_val t y 1).trans (by rw [(index4 t).2]; rfl))
theorem block5 (t : Fin grid0.N) (y : S256x256.Idx) : iblk m c 5 t y
    = if 512 ≤ (t.val % 16 + 1) * 256 + (y 0).val then at2 (arg0 m c) ((t.val % 16 + 1) * 256 + (y 0).val - 512) ((8 + t.val / 16) * 256 + (y 1).val) else 0 :=
  padBlock m c ((win0_5.rect t).emb y) _ _ ((win0_5.rect_emb_val t y 0).trans (by rw [(index5 t).1]; rfl))
    ((win0_5.rect_emb_val t y 1).trans (by rw [(index5 t).2]; rfl))
theorem block6 (t : Fin grid0.N) (y : S256x256.Idx) : iblk m c 6 t y
    = if 512 ≤ (t.val % 16 + 2) * 256 + (y 0).val then at2 (arg0 m c) ((t.val % 16 + 2) * 256 + (y 0).val - 512) ((8 + t.val / 16) * 256 + (y 1).val) else 0 :=
  padBlock m c ((win0_6.rect t).emb y) _ _ ((win0_6.rect_emb_val t y 0).trans (by rw [(index6 t).1]; rfl))
    ((win0_6.rect_emb_val t y 1).trans (by rw [(index6 t).2]; rfl))
theorem block8 (t : Fin grid0.N) (y : S256x256.Idx) : iblk m c 8 t y
    = at2 (arg2 m c) (t.val % 16 * 256 + (y 0).val) (t.val / 16 * 256 + (y 1).val) :=
  (congrFun (V_main_arg2 m c) ((win0_8.rect t).emb y)).trans (at2_of (arg2 m c) ((win0_8.rect t).emb y) _ _
    ((win0_8.rect_emb_val t y 0).trans (by rw [(index8 t).1]; rfl)) ((win0_8.rect_emb_val t y 1).trans (by rw [(index8 t).2]; rfl)))

/-- The bias block of a group of heads, off the padding. -/
theorem block7 (t : Fin grid0.N) (y : S4x256x768.Idx) (h : 512 ≤ 256 * (t.val % 16) + (y 2).val) : iblk m c 7 t y
    = if ok (256 * (t.val % 16) + (y 1).val) (256 * (t.val % 16) + (y 2).val - 512)
      then (heads m c (4 * (t.val / 16) + (y 0).val)).b (256 * (t.val % 16) + (y 1).val) (256 * (t.val % 16) + (y 2).val - 512) else ⊥ := by
  have e0 : ((win0_7.rect t).emb y 0).val = 4 * (t.val / 16) + (y 0).val :=
    (win0_7.rect_emb_val t y 0).trans (by rw [(index7 t).1]; exact congrArg (· + _) (Nat.mul_comm _ _))
  have e1 : ((win0_7.rect t).emb y 1).val = (y 1).val :=
    (win0_7.rect_emb_val t y 1).trans (by rw [(index7 t).2.1, Nat.zero_mul, Nat.zero_add])
  have e2 : ((win0_7.rect t).emb y 2).val = (y 2).val :=
    (win0_7.rect_emb_val t y 2).trans (by rw [(index7 t).2.2, Nat.zero_mul, Nat.zero_add])
  have := biasTile_apply (arg0 m c) (arg1 m c) (arg2 m c) (t.val % 16) ((win0_7.rect t).emb y) (by rw [e2]; exact h)
  rw [e0, e1, e2] at this
  exact (congrFun (V_main_v31 m c) ((win0_7.rect t).emb y)).trans this

/-! ## The tiles -/

variable (hR : ∀ h, (heads m c h).Real)
include hR

omit hR in
/-- Elements of the padded rows as the heads' queries, padded keys and padded values. -/
theorem asQ (h a b i d : ℕ) (ha : a = 512 + i) (hb : b = 64 * h + d) (hd : b < 1024) :
    (if 512 ≤ a then at2 (arg0 m c) (a - 512) b else 0) = (heads m c h).q i d := by
  subst ha hb
  rw [if_pos (by omega), Nat.add_sub_cancel_left]
  exact (headOf_q _ _ _ h i d hd).symm
omit hR in
theorem asK (h a b r d : ℕ) (ha : a = r) (hb : b = 1024 + (64 * h + d)) (hd : b < 2048) :
    (if 512 ≤ a then at2 (arg0 m c) (a - 512) b else 0) = (heads m c h).kP r d := by
  subst ha hb
  unfold Head.kP
  rw [show (heads m c h).k (a - 512) d = at2 (arg0 m c) (a - 512) (1024 + (64 * h + d)) from headOf_k _ _ _ h _ d (by omega)]
omit hR in
theorem asV (h a b r d : ℕ) (ha : a = r) (hb : b = 2048 + (64 * h + d)) :
    (if 512 ≤ a then at2 (arg0 m c) (a - 512) b else 0) = (heads m c h).vP r d := by
  subst ha hb; rfl
omit hR in
theorem asG (h a b i d : ℕ) (ha : a = i) (hb : b = 64 * h + d) : at2 (arg2 m c) a b = (heads m c h).g i d := by
  subst ha hb; rfl

omit hR in
theorem tile_q (t : Fin grid0.N) (y : S256x256.Idx) :
    iblk m c 0 t y = (heads m c (4 * (t.val / 16) + (y 1).val / 64)).q (256 * (t.val % 16) + (y 0).val) ((y 1).val % 64) := by
  have ht : t.val < 64 := lt_of_lt_of_eq t.isLt (show cfg0.N = 64 from N_0)
  have hy : (y 1).val < 256 := (y 1).isLt
  rw [block0]
  exact asQ m c (4 * (t.val / 16) + (y 1).val / 64) _ _ (256 * (t.val % 16) + (y 0).val) ((y 1).val % 64) (by omega) (by omega) (by omega)
omit hR in
theorem tile_g (t : Fin grid0.N) (y : S256x256.Idx) :
    iblk m c 8 t y = (heads m c (4 * (t.val / 16) + (y 1).val / 64)).g (256 * (t.val % 16) + (y 0).val) ((y 1).val % 64) := by
  rw [block8]
  exact asG m c (4 * (t.val / 16) + (y 1).val / 64) _ _ (256 * (t.val % 16) + (y 0).val) ((y 1).val % 64) (by omega) (by omega)
omit hR in
theorem tile_k1 (t : Fin grid0.N) (y : S256x256.Idx) :
    iblk m c 1 t y = (heads m c (4 * (t.val / 16) + (y 1).val / 64)).kP (256 * (t.val % 16) + (y 0).val) ((y 1).val % 64) := by
  have ht : t.val < 64 := lt_of_lt_of_eq t.isLt (show cfg0.N = 64 from N_0)
  have hy : (y 1).val < 256 := (y 1).isLt
  rw [block1]
  exact asK m c (4 * (t.val / 16) + (y 1).val / 64) _ _ (256 * (t.val % 16) + (y 0).val) ((y 1).val % 64) (by omega) (by omega) (by omega)
omit hR in
theorem tile_k2 (t : Fin grid0.N) (y : S256x256.Idx) :
    iblk m c 2 t y = (heads m c (4 * (t.val / 16) + (y 1).val / 64)).kP (256 * (t.val % 16) + (256 + (y 0).val)) ((y 1).val % 64) := by
  have ht : t.val < 64 := lt_of_lt_of_eq t.isLt (show cfg0.N = 64 from N_0)
  have hy : (y 1).val < 256 := (y 1).isLt
  rw [block2]
  exact asK m c (4 * (t.val / 16) + (y 1).val / 64) _ _ (256 * (t.val % 16) + (256 + (y 0).val)) ((y 1).val % 64) (by omega) (by omega) (by omega)
omit hR in
theorem tile_k3 (t : Fin grid0.N) (y : S256x256.Idx) :
    iblk m c 3 t y = (heads m c (4 * (t.val / 16) + (y 1).val / 64)).kP (256 * (t.val % 16) + (512 + (y 0).val)) ((y 1).val % 64) := by
  have ht : t.val < 64 := lt_of_lt_of_eq t.isLt (show cfg0.N = 64 from N_0)
  have hy : (y 1).val < 256 := (y 1).isLt
  rw [block3]
  exact asK m c (4 * (t.val / 16) + (y 1).val / 64) _ _ (256 * (t.val % 16) + (512 + (y 0).val)) ((y 1).val % 64) (by omega) (by omega) (by omega)
omit hR in
theorem tile_v1 (t : Fin grid0.N) (y : S256x256.Idx) :
    iblk m c 4 t y = (heads m c (4 * (t.val / 16) + (y 1).val / 64)).vP (256 * (t.val % 16) + (y 0).val) ((y 1).val % 64) := by
  rw [block4]
  exact asV m c (4 * (t.val / 16) + (y 1).val / 64) _ _ (256 * (t.val % 16) + (y 0).val) ((y 1).val % 64) (by omega) (by omega)
omit hR in
theorem tile_v2 (t : Fin grid0.N) (y : S256x256.Idx) :
    iblk m c 5 t y = (heads m c (4 * (t.val / 16) + (y 1).val / 64)).vP (256 * (t.val % 16) + (256 + (y 0).val)) ((y 1).val % 64) := by
  rw [block5]
  exact asV m c (4 * (t.val / 16) + (y 1).val / 64) _ _ (256 * (t.val % 16) + (256 + (y 0).val)) ((y 1).val % 64) (by omega) (by omega)
omit hR in
theorem tile_v3 (t : Fin grid0.N) (y : S256x256.Idx) :
    iblk m c 6 t y = (heads m c (4 * (t.val / 16) + (y 1).val / 64)).vP (256 * (t.val % 16) + (512 + (y 0).val)) ((y 1).val % 64) := by
  rw [block6]
  exact asV m c (4 * (t.val / 16) + (y 1).val / 64) _ _ (256 * (t.val % 16) + (512 + (y 0).val)) ((y 1).val % 64) (by omega) (by omega)

set_option maxHeartbeats 1000000 in
theorem tileOf (t : Fin grid0.N) : TileOf (fun s => heads m c (4 * (t.val / 16) + s)) (t.val % 16) (blocks m c t) :=
  TileOf.mk (Nat.mod_lt _ (Nat.succ_pos _)) (fun _ => hR _) (tile_q m c t) (tile_g m c t) (tile_k1 m c t) (tile_k2 m c t) (tile_k3 m c t)
    (tile_v1 m c t) (tile_v2 m c t) (tile_v3 m c t) (block7 m c t)

/-! ## The accumulators -/

/-- The key gradients of a padded row over the first rows of queries. -/
def sumK (g r l n : ℕ) : EReal :=
  ∑ i ∈ range n, (heads m c (4 * g + l / 64)).dsP i r * ((heads m c (4 * g + l / 64)).q i (l % 64) * c8)
/-- The value gradients of a padded row over the first rows of queries. -/
def sumV (g r l n : ℕ) : EReal :=
  ∑ i ∈ range n, (heads m c (4 * g + l / 64)).pP i r * (heads m c (4 * g + l / 64)).g i (l % 64)

omit hR in
theorem sumK_next (g r l t : ℕ) : sumK m c g r l (256 * (t + 1)) = sumK m c g r l (256 * t)
    + ∑ n ∈ range 256, (heads m c (4 * g + l / 64)).dsP (256 * t + n) r * ((heads m c (4 * g + l / 64)).q (256 * t + n) (l % 64) * c8) :=
  sum_range_add _ (256 * t) 256
omit hR in
theorem sumV_next (g r l t : ℕ) : sumV m c g r l (256 * (t + 1)) = sumV m c g r l (256 * t)
    + ∑ n ∈ range 256, (heads m c (4 * g + l / 64)).pP (256 * t + n) r * (heads m c (4 * g + l / 64)).g (256 * t + n) (l % 64) :=
  sum_range_add _ (256 * t) 256

theorem dkAt_apply (n : ℕ) (hn : n < cfg0.N) (y : S4608x256.Idx) :
    dkAt m c n hn y = sumK m c (n / 16) (y 0).val (y 1).val (256 * (n % 16 + 1)) := by
  induction n generalizing y with
  | zero =>
    refine (congrFun (dkAt_first m c ⟨0, hn⟩ rfl) y).trans (((tileOf m c hR ⟨0, hn⟩).dk_apply (coord_tile ⟨0, hn⟩) _ y).trans ?_)
    rw [sumK_next]
    refine congrArg (· + _) ?_
    exact bits_zero
  | succ n ih =>
    by_cases h : (n + 1) % 16 = 0
    · refine (congrFun (dkAt_first m c ⟨n + 1, hn⟩ h) y).trans (((tileOf m c hR ⟨n + 1, hn⟩).dk_apply (coord_tile ⟨n + 1, hn⟩) _ y).trans ?_)
      rw [sumK_next, h]
      refine congrArg (· + _) ?_
      exact bits_zero
    · refine (congrFun (dkAt_next m c ⟨n + 1, hn⟩ h) y).trans (((tileOf m c hR ⟨n + 1, hn⟩).dk_apply (coord_tile ⟨n + 1, hn⟩) _ y).trans ?_)
      rw [sumK_next]
      refine congrArg (· + _) ((ih _ y).trans ?_)
      rw [show n / 16 = (n + 1) / 16 by omega, show n % 16 + 1 = (n + 1) % 16 by omega]

theorem dvAt_apply (n : ℕ) (hn : n < cfg0.N) (y : S4608x256.Idx) :
    dvAt m c n hn y = sumV m c (n / 16) (y 0).val (y 1).val (256 * (n % 16 + 1)) := by
  induction n generalizing y with
  | zero =>
    refine (congrFun (dvAt_first m c ⟨0, hn⟩ rfl) y).trans (((tileOf m c hR ⟨0, hn⟩).dv_apply (coord_tile ⟨0, hn⟩) _ y).trans ?_)
    rw [sumV_next]
    refine congrArg (· + _) ?_
    exact bits_zero
  | succ n ih =>
    by_cases h : (n + 1) % 16 = 0
    · refine (congrFun (dvAt_first m c ⟨n + 1, hn⟩ h) y).trans (((tileOf m c hR ⟨n + 1, hn⟩).dv_apply (coord_tile ⟨n + 1, hn⟩) _ y).trans ?_)
      rw [sumV_next, h]
      refine congrArg (· + _) ?_
      exact bits_zero
    · refine (congrFun (dvAt_next m c ⟨n + 1, hn⟩ h) y).trans (((tileOf m c hR ⟨n + 1, hn⟩).dv_apply (coord_tile ⟨n + 1, hn⟩) _ y).trans ?_)
      rw [sumV_next]
      refine congrArg (· + _) ((ih _ y).trans ?_)
      rw [show n / 16 = (n + 1) / 16 by omega, show n % 16 + 1 = (n + 1) % 16 by omega]

/-! ## The results -/

/-- The gradients of the queries, keys and values. -/
def gradQ : S4096x1024.Idx → EReal := fun i => (heads m c ((i 1).val / 64)).dq (i 0).val ((i 1).val % 64)
def gradK : S4096x1024.Idx → EReal := fun i => (heads m c ((i 1).val / 64)).dk (i 0).val ((i 1).val % 64)
def gradV : S4096x1024.Idx → EReal := fun i => (heads m c ((i 1).val / 64)).dv (i 0).val ((i 1).val % 64)

theorem final9 : (dats m 0 c).arrAt 9 cfg0.N = gradQ m c := by
  refine (dats m 0 c).arrAt_eq_of_covers 9 (gradQ m c) (by decide +kernel) fun t hf y => ?_
  have e0 : ((win0_9.rect t).emb y 0).val = 256 * (t.val % 16) + (y 0).val :=
    (win0_9.rect_emb_val t y 0).trans (by rw [(index9 t).1]; exact congrArg (· + _) (Nat.mul_comm _ _))
  have e1 : ((win0_9.rect t).emb y 1).val = 256 * (t.val / 16) + (y 1).val :=
    (win0_9.rect_emb_val t y 1).trans (by rw [(index9 t).2]; exact congrArg (· + _) (Nat.mul_comm _ _))
  show (dats m 0 c).after 9 t y = gradQ m c ((win0_9.rect t).emb y)
  rw [after9]
  refine ((tileOf m c hR t).dq_apply (coord_tile t) y).trans ?_
  unfold gradQ
  rw [e0, e1]
  congr 1
  · congr 1; omega
  · omega

theorem final10 : (dats m 0 c).arrAt 10 cfg0.N = gradK m c := by
  refine (dats m 0 c).arrAt_eq_of_covers 10 (gradK m c) (by decide +kernel) fun t hf y => ?_
  have ht : t.val % 16 = 15 := (flush0_10 t).mp hf
  have e0 : ((win0_10.rect t).emb y 0).val = (y 0).val :=
    (win0_10.rect_emb_val t y 0).trans (by rw [(index10 t).1, Nat.zero_mul, Nat.zero_add])
  have e1 : ((win0_10.rect t).emb y 1).val = 256 * (t.val / 16) + (y 1).val :=
    (win0_10.rect_emb_val t y 1).trans (by rw [(index10 t).2]; exact congrArg (· + _) (Nat.mul_comm _ _))
  show (dats m 0 c).after 10 t y = gradK m c ((win0_10.rect t).emb y)
  rw [after10]
  refine (dkAt_apply m c hR t.val t.isLt ((Rect.unit (s := S4608x256) ![512, 0] S4096x256.size inb_S4608x256_S4096x256_512_0).emb y)).trans ?_
  rw [ht]
  show sumK m c (t.val / 16) (512 + 1 * (y 0).val) (0 + 1 * (y 1).val) 4096 = _
  unfold gradK
  rw [e0, e1, Nat.one_mul, Nat.one_mul, Nat.zero_add,
    show (256 * (t.val / 16) + (y 1).val) / 64 = 4 * (t.val / 16) + (y 1).val / 64 by omega,
    show (256 * (t.val / 16) + (y 1).val) % 64 = (y 1).val % 64 by omega]
  refine sum_congr rfl fun i _ => ?_
  unfold Head.dsP
  rw [if_pos (by omega), Nat.add_sub_cancel_left]

theorem final11 : (dats m 0 c).arrAt 11 cfg0.N = gradV m c := by
  refine (dats m 0 c).arrAt_eq_of_covers 11 (gradV m c) (by decide +kernel) fun t hf y => ?_
  have ht : t.val % 16 = 15 := (flush0_11 t).mp hf
  have e0 : ((win0_11.rect t).emb y 0).val = (y 0).val :=
    (win0_11.rect_emb_val t y 0).trans (by rw [(index11 t).1, Nat.zero_mul, Nat.zero_add])
  have e1 : ((win0_11.rect t).emb y 1).val = 256 * (t.val / 16) + (y 1).val :=
    (win0_11.rect_emb_val t y 1).trans (by rw [(index11 t).2]; exact congrArg (· + _) (Nat.mul_comm _ _))
  show (dats m 0 c).after 11 t y = gradV m c ((win0_11.rect t).emb y)
  rw [after11]
  refine (dvAt_apply m c hR t.val t.isLt ((Rect.unit (s := S4608x256) ![512, 0] S4096x256.size inb_S4608x256_S4096x256_512_0).emb y)).trans ?_
  rw [ht]
  show sumV m c (t.val / 16) (512 + 1 * (y 0).val) (0 + 1 * (y 1).val) 4096 = _
  unfold gradV
  rw [e0, e1, Nat.one_mul, Nat.one_mul, Nat.zero_add,
    show (256 * (t.val / 16) + (y 1).val) / 64 = 4 * (t.val / 16) + (y 1).val / 64 by omega,
    show (256 * (t.val / 16) + (y 1).val) % 64 = (y 1).val % 64 by omega]
  refine sum_congr rfl fun i _ => ?_
  unfold Head.pP
  rw [if_pos (by omega), Nat.add_sub_cancel_left]

end Cert.KernelIdeal.Attn
-- ==== Proof.Value.Run.lean ====
/- The kernel's run: its three results are the gradients of the heads, where the heads' queries, keys and biases are real; and the
   precondition's lanes are real. -/
module

public import proofs.«01_k».proof.Proof.Value.Grid
public import proofs.«01_k».proof.Pre_finite_scores

@[expose] public section

noncomputable section

namespace Cert.KernelIdeal.Attn

open Cert.KernelIdeal Cert.KernelIdeal.Gen Cert.Attn Idealize.ShloMosaic Idealize.ShloMosaic.TcCoe Idealize.SL.Sem

variable (m : (ℓ : Loc nD τ sig) → Buf (Elt Ideal) ℓ) (ρ : Dev nD → PrngReg)

theorem run (hR : ∀ c h, (heads m c h).Real) :
    θ_run defs (onTc (τ := τ) (main (F := Ideal))) ⟨m, fun _ => 0, ρ⟩ fun r => ∀ c : Dev nD,
      r.2.mem ((c.tc : Thread nD τ).loc main_v32_0) = gradQ m c
      ∧ r.2.mem ((c.tc : Thread nD τ).loc main_v32_1) = gradK m c
      ∧ r.2.mem ((c.tc : Thread nD τ).loc main_v32_2) = gradV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 9).trans (final9 m c (hR c)), ((h.1 c).1 10).trans (final10 m c (hR c)),
      ((h.1 c).1 11).trans (final11 m c (hR c)), h.2.1 c⟩)
    (θ_run_and (run_main m ρ) (frame m ρ))

/-! ## The precondition -/

theorem bits_inf : FloatOps.ofBits (F := Ideal) .f32 0x7F800000#32 = (⊤ : EReal) := by
  show Ideal.ofBits .f32 0x7F800000#32 = ⊤
  simp [Ideal.ofBits, Ideal.ieee]

/-- A value whose magnitude is below infinity is real. -/
theorem real_of_lt (x : EReal) (h : Ideal.cmp .olt (max x (-x)) (FloatOps.ofBits (F := Ideal) .f32 0x7F800000#32) = 1#1) :
    ∃ r : ℝ, x = r := by
  rw [bits_inf] at h
  have h' : max x (-x) < ⊤ := by
    by_contra hn
    rw [show Ideal.cmp .olt (max x (-x)) ⊤ = BitVec.ofBool (decide (max x (-x) < ⊤)) from rfl, decide_eq_false hn] at h
    exact absurd h (by decide)
  have ht : x ≠ ⊤ := fun e => by rw [e] at h'; exact absurd h' (not_lt.mpr (le_max_left _ _))
  have hb : x ≠ ⊥ := fun e => by rw [e] at h'; exact absurd h' (not_lt.mpr (le_max_right _ _))
  exact ⟨x.toReal, (EReal.coe_toReal ht hb).symm⟩

variable [Cert.Pre_finite_scores.Facts]

theorem pre_real (x0 : S4096x3072.Idx → EReal) (x1 : S16x513.Idx → EReal) (x2 : S4096x1024.Idx → EReal)
    (h0 : (Cert.Pre_finite_scores.fn (F := Ideal) x0 x1 x2).1 = fun _ => 1#1)
    (h1 : (Cert.Pre_finite_scores.fn (F := Ideal) x0 x1 x2).2 = fun _ => 1#1) (h : ℕ) : (headOf x0 x1 x2 h).Real :=
  headOf_real x0 x1 x2
    (fun y hy => real_of_lt (x0 y) (by
      have e := congrFun h0 (ValueIdx.ix2 ⟨(y 0).val, (y 0).isLt⟩ ⟨(y 1).val, hy⟩)
      refine Eq.trans ?_ e
      refine congrArg (fun v => Ideal.cmp .olt (max v (-v)) (FloatOps.ofBits (F := Ideal) .f32 0x7F800000#32)) ?_
      refine congrArg x0 (Shape.idx_ext₂ ?_ ?_)
      · exact (Nat.zero_add _).symm
      · exact (Nat.zero_add _).symm))
    (fun y => real_of_lt (x1 y) (congrFun h1 y)) h

end Cert.KernelIdeal.Attn
-- ==== Proof.Ref.Value.lean ====
/- The reference's three results, element by element: the gradients of each head at its queries, keys and values. -/
module

public import proofs.«01_k».proof.Proof.Math.Words
public import proofs.«01_k».proof.Proof.Gen.ReferenceIdeal.Read

@[expose] public section

set_option maxRecDepth 16384

noncomputable section

namespace Cert.ReferenceIdeal.Attn

open Cert.ReferenceIdeal Cert.ReferenceIdeal.Gen Cert.ReferenceIdeal.Read Cert.Attn
open Idealize.ShloMosaic Idealize.ShloMosaic.TcCoe Idealize.ShloMosaic.ValueIdx Finset

variable (x0 : (⟨2, ![4096, 3072]⟩ : Shape).Idx → EReal) (x1 : (⟨2, ![16, 513]⟩ : Shape).Idx → EReal)
  (x2 : (⟨2, ![4096, 1024]⟩ : Shape).Idx → EReal)

/-! ## The mask and the bias -/

theorem word24 (i : S4096x4096x1.Idx) :
    val_main_v24 (F := Ideal) i = BitVec.ofNat 32 (min 512 (256 + (i 0).val - (i 1).val)) := by
  rw [val_main_v24_apply]
  refine Eq.trans ?_ (relWord_sub (i 0).val (i 1).val (i 0).isLt (i 1).isLt)
  simp only [val_main_v23_apply, val_main_v22_apply, val_main_v21_apply, val_main_c_3_apply, val_main_v20_apply, val_main_v19_apply,
    val_main_c_2_apply, val_main_v18_apply, val_main_v17_apply, val_main_c_1_apply, val_main_v16_apply, val_main_call0_v4_apply,
    val_main_call0_v3_apply, val_main_call0_v2_apply, val_main_call0_v1_apply, val_main_call0_v0_apply, val_main_c_apply,
    val_main_c_0_apply, val_main_v15_apply, val_main_v14_apply, val_main_v13_apply, val_main_v12_apply, val_main_v11_apply,
    val_main_v10_apply, val_main_v9_apply]
  rfl

theorem v25 (i : S16x4096x4096.Idx) :
    val_main_v25 (F := Ideal) x1 i = (headOf x0 x1 x2 (i 0).val).b (i 1).val (i 2).val :=
  gather_cols gather_S16x513_S4096x4096x1_S16x4096x4096_0_1_n_n_1_2_161_wf x1 (val_main_v24 (F := Ideal)) i
    (min 512 (256 + (i 1).val - (i 2).val)) (by omega) (word24 _)

theorem word26 (i : S1x4096.Idx) : val_main_v26 (F := Ideal) i = BitVec.ofNat 32 ((i 1).val / 64) := by
  refine Eq.trans ?_ (chunkWord_eq (i 1).val (i 1).isLt)
  simp only [val_main_v26_apply, val_main_call1_v13_apply, val_main_call1_v12_apply, val_main_call1_c_0_apply, val_main_call1_v11_apply,
    val_main_call1_v10_apply, val_main_call1_v9_apply, val_main_call1_c_apply, val_main_call1_v8_apply, val_main_call1_v7_apply,
    val_main_call1_v6_apply, val_main_call1_v5_apply, val_main_call1_v2_apply, val_main_call1_v1_apply, val_main_call1_v0_apply,
    val_main_c_4_apply, val_main_call1_v3, val_main_call1_v4, signi, val_main_v12_apply, val_main_v11_apply]
  rfl

theorem word32 (i : S1x4096.Idx) : val_main_v32 (F := Ideal) i = BitVec.ofNat 32 ((i 1).val / 64) := by
  refine Eq.trans ?_ (chunkWord_eq (i 1).val (i 1).isLt)
  simp only [val_main_v32_apply, val_main_call4_v13_apply, val_main_call4_v12_apply, val_main_call4_c_0_apply, val_main_call4_v11_apply,
    val_main_call4_v10_apply, val_main_call4_v9_apply, val_main_call4_c_apply, val_main_call4_v8_apply, val_main_call4_v7_apply,
    val_main_call4_v6_apply, val_main_call4_v5_apply, val_main_call4_v2_apply, val_main_call4_v1_apply, val_main_call4_v0_apply,
    val_main_c_7_apply, val_main_call4_v3, val_main_call4_v4, signi, val_main_v12_apply, val_main_v11_apply]
  rfl

theorem word27 (i : S4096x1.Idx) : val_main_v27 (F := Ideal) i = BitVec.ofNat 32 ((i 0).val / 64) := by
  refine Eq.trans ?_ (chunkWord_eq (i 0).val (i 0).isLt)
  simp only [val_main_v27_apply, val_main_call2_v13_apply, val_main_call2_v12_apply, val_main_call2_c_0_apply, val_main_call2_v11_apply,
    val_main_call2_v10_apply, val_main_call2_v9_apply, val_main_call2_c_apply, val_main_call2_v8_apply, val_main_call2_v7_apply,
    val_main_call2_v6_apply, val_main_call2_v5_apply, val_main_call2_v2_apply, val_main_call2_v1_apply, val_main_call2_v0_apply,
    val_main_c_5_apply, val_main_call2_v3, val_main_call2_v4, signi, val_main_v10_apply, val_main_v9_apply]
  rfl

theorem word31 (i : S4096x1.Idx) : val_main_v31 (F := Ideal) i = BitVec.ofNat 32 ((i 0).val / 64) := by
  refine Eq.trans ?_ (chunkWord_eq (i 0).val (i 0).isLt)
  simp only [val_main_v31_apply, val_main_call3_v13_apply, val_main_call3_v12_apply, val_main_call3_c_0_apply, val_main_call3_v11_apply,
    val_main_call3_v10_apply, val_main_call3_v9_apply, val_main_call3_c_apply, val_main_call3_v8_apply, val_main_call3_v7_apply,
    val_main_call3_v6_apply, val_main_call3_v5_apply, val_main_call3_v2_apply, val_main_call3_v1_apply, val_main_call3_v0_apply,
    val_main_c_6_apply, val_main_call3_v3, val_main_call3_v4, signi, val_main_v10_apply, val_main_v9_apply]
  rfl

/-- The mask's bit says whether the query attends to the key. -/
theorem mask (i : S16x4096x4096.Idx) :
    val_main_v43_1 (F := Ideal) i = BitVec.ofBool (decide (ok (i 1).val (i 2).val)) := by
  have h1 : (i 1).val < 4096 := (i 1).isLt
  have h2 : (i 2).val < 4096 := (i 2).isLt
  rw [val_main_v43_1_apply, val_main_v38_apply, val_main_v30_apply, val_main_v37_apply, val_main_v28_apply, val_main_v29_apply,
    val_main_v35_apply, val_main_v36_apply, val_main_v34_apply, val_main_v33_apply, val_main_c_8_apply, word26, word27, word31, word32]
  have e8 : IntOp.addi (BitVec.ofNat 32 ((i 2).val / 64)) 8#32 = BitVec.ofNat 32 ((i 2).val / 64 + 8) := by
    show BitVec.ofNat 32 _ + BitVec.ofNat 32 8 = _
    rw [← BitVec.ofNat_add]
  show IntOp.andi (IntOp.cmpi .sle (BitVec.ofNat 32 ((i 2).val / 64)) (BitVec.ofNat 32 ((i 1).val / 64)))
    (IntOp.cmpi .sle (BitVec.ofNat 32 ((i 1).val / 64)) (IntOp.addi (BitVec.ofNat 32 ((i 2).val / 64)) 8#32)) = _
  rw [e8, sle_small _ _ (by omega) (by omega), sle_small _ _ (by omega) (by omega)]
  show BitVec.ofBool _ &&& BitVec.ofBool _ = _
  rw [BitVec.ofBool_and_ofBool]
  congr 1
  rw [Bool.eq_iff_iff, Bool.and_eq_true, decide_eq_true_iff, decide_eq_true_iff, decide_eq_true_iff]
  rfl

theorem select_mask {α : Type} (i : S16x4096x4096.Idx) (a b : α) :
    Scalar.select (val_main_v43_1 (F := Ideal) i) a b = if ok (i 1).val (i 2).val then a else b := by
  rw [mask]
  by_cases h : ok (i 1).val (i 2).val
  · rw [if_pos h, decide_eq_true h]; rfl
  · rw [if_neg h, decide_eq_false h]; rfl

/-! ## The heads' lanes -/

theorem q_apply (i : S4096x16x64.Idx) :
    val_main_v4 (F := Ideal) x0 i = (headOf x0 x1 x2 (i 1).val).q (i 0).val (i 2).val := by
  have h1 : (i 1).val < 16 := (i 1).isLt
  have h2 : (i 2).val < 64 := (i 2).isLt
  rw [val_main_v4_apply, val_main_v3_apply, val_main_v0_apply, headOf_q x0 x1 x2 _ _ _ (by omega)]
  refine at2_of x0 _ _ _ ?_ ?_
  · show (((i 0).val * 16 + (i 1).val) * 64 + (i 2).val) / 1024 = (i 0).val; omega
  · show (((i 0).val * 16 + (i 1).val) * 64 + (i 2).val) % 1024 = 64 * (i 1).val + (i 2).val; omega

theorem k_apply (i : S4096x16x64.Idx) :
    val_main_v6 (F := Ideal) x0 i = (headOf x0 x1 x2 (i 1).val).k (i 0).val (i 2).val := by
  have h1 : (i 1).val < 16 := (i 1).isLt
  have h2 : (i 2).val < 64 := (i 2).isLt
  rw [val_main_v6_apply, val_main_v5_apply, val_main_v1_apply, headOf_k x0 x1 x2 _ _ _ (by omega)]
  refine at2_of x0 _ _ _ ?_ ?_
  · show (((i 0).val * 16 + (i 1).val) * 64 + (i 2).val) / 1024 = (i 0).val; omega
  · show 1024 + (((i 0).val * 16 + (i 1).val) * 64 + (i 2).val) % 1024 = 1024 + (64 * (i 1).val + (i 2).val); omega

theorem v_apply (i : S4096x16x64.Idx) :
    val_main_v8 (F := Ideal) x0 i = (headOf x0 x1 x2 (i 1).val).v (i 0).val (i 2).val := by
  have h1 : (i 1).val < 16 := (i 1).isLt
  have h2 : (i 2).val < 64 := (i 2).isLt
  rw [val_main_v8_apply, val_main_v7_apply, val_main_v2_apply]
  refine at2_of x0 _ _ _ ?_ ?_
  · show (((i 0).val * 16 + (i 1).val) * 64 + (i 2).val) / 1024 = (i 0).val; omega
  · show 2048 + (((i 0).val * 16 + (i 1).val) * 64 + (i 2).val) % 1024 = 2048 + (64 * (i 1).val + (i 2).val); omega

theorem g_apply (i : S16x64x4096.Idx) :
    val_main_v77 (F := Ideal) x2 i = (headOf x0 x1 x2 (i 0).val).g (i 2).val (i 1).val := by
  have h1 : (i 0).val < 16 := (i 0).isLt
  have h2 : (i 1).val < 64 := (i 1).isLt
  rw [val_main_v77_apply, val_main_v76_apply, val_main_v75_apply]
  refine at2_of x2 _ _ _ ?_ ?_
  · show (((i 2).val * 16 + (i 0).val) * 64 + (i 1).val) / 1024 = (i 2).val; omega
  · show (((i 2).val * 16 + (i 0).val) * 64 + (i 1).val) % 1024 = 64 * (i 0).val + (i 1).val; omega

/-! ## Scores and probabilities -/

theorem score_apply (i : S16x4096x4096.Idx) :
    val_main_v43_0 (F := Ideal) x0 x1 i = (headOf x0 x1 x2 (i 0).val).score (i 1).val (i 2).val := by
  rw [val_main_v43_0_apply, select_mask]
  unfold Head.score
  refine if_congr Iff.rfl ?_ ?_
  · rw [val_main_v42_apply, v25 x0 x1 x2, val_main_v41_apply, val_main_v40_apply, val_main_cst_apply, bits_eighth, val_main_v39_apply]
    show (∑ k : Fin 64, _) * c8 + _ = _
    rw [← sum_fin]
    refine congrArg (· * c8 + _) (sum_congr rfl fun k _ => ?_)
    rw [q_apply x0 x1 x2, k_apply x0 x1 x2]
  · rw [val_main_call5_v2_apply, val_main_call5_v0_apply, val_main_cst_9_apply, bits_ninf]

theorem red2 : S16x4096x4096.Reduces [2] S16x4096 := by decide

theorem top_apply (i : S16x4096.Idx) :
    val_main_v44 (F := Ideal) x0 x1 i = (headOf x0 x1 x2 (i 0).val).top (i 1).val := by
  unfold val_main_v44
  rw [Host.reduce_eq_fold, reducesTo_S16x4096x4096_S16x4096_d2.drop_eq_drop red2, red2.fold_filter_drop_single]
  rw [val_main_cst_10_apply, bits_ninf]
  refine (fold_max_eq_sup _).trans ?_
  rw [Head.top, ← sup_fin]
  refine congrArg (Finset.sup univ) (funext fun k => ?_)
  exact score_apply x0 x1 x2 _

theorem e_apply (i : S16x4096x4096.Idx) :
    val_main_v64 (F := Ideal) x0 x1 i = (headOf x0 x1 x2 (i 0).val).e (i 1).val (i 2).val := by
  have h0 : (i 0).val < 16 := (i 0).isLt
  have h1 : (i 1).val < 4096 := (i 1).isLt
  rw [val_main_v64_apply, val_main_v63_apply, val_main_v62_apply, val_main_v61_apply, val_main_v51_apply, val_main_v50_apply,
    val_main_cst_12_apply, bits_ninf, score_apply x0 x1 x2, top_apply x0 x1 x2]
  show Ideal.exp (_ - max ⊥ _) = _
  rw [max_eq_right bot_le]
  rfl

theorem L_apply (i : S16x4096.Idx) :
    val_main_v65 (F := Ideal) x0 x1 i = (headOf x0 x1 x2 (i 0).val).L (i 1).val := by
  rw [val_main_v65_apply, val_main_cst_18_apply, bits_zero, zero_add, Head.L, ← sum_fin]
  exact sum_congr rfl fun k _ => e_apply x0 x1 x2 _

theorem p_apply (hR : ∀ h, (headOf x0 x1 x2 h).Real) (i : S16x4096x4096.Idx) :
    val_main_v68 (F := Ideal) x0 x1 i = (headOf x0 x1 x2 (i 0).val).p (i 1).val (i 2).val := by
  rw [val_main_v68_apply, val_main_v67_apply, val_main_v66_apply, e_apply x0 x1 x2, L_apply x0 x1 x2]
  exact (hR _).p_quotient _ _ (i 1).isLt

theorem dp_apply (i : S16x4096x4096.Idx) :
    val_main_v78 (F := Ideal) x0 x2 i = (headOf x0 x1 x2 (i 0).val).dp (i 1).val (i 2).val := by
  rw [val_main_v78_apply, Head.dp, ← sum_fin]
  refine sum_congr rfl fun k _ => ?_
  rw [g_apply x0 x1 x2, v_apply x0 x1 x2]

theorem ds_apply (hR : ∀ h, (headOf x0 x1 x2 h).Real) (i : S16x4096x4096.Idx) :
    val_main_v93 (F := Ideal) x0 x1 x2 i = (headOf x0 x1 x2 (i 0).val).ds (i 1).val (i 2).val := by
  have h0 : (i 0).val < 16 := (i 0).isLt
  have h1 : (i 1).val < 4096 := (i 1).isLt
  rw [val_main_v93_apply, select_mask]
  by_cases hok : ok (i 1).val (i 2).val
  · rw [if_pos hok, ← (hR _).ds_quotient _ _ h1]
    rw [val_main_v92_apply, val_main_v91_apply, val_main_v90_apply, val_main_v89_apply, val_main_cst_21_apply, bits_zero, zero_add,
      Fin.sum_univ_one, val_main_v88_apply, val_main_v87_apply, val_main_v86_apply, val_main_v85_apply, val_main_v84_apply,
      val_main_cst_20_apply, bits_zero, zero_add, val_main_v66_apply, e_apply x0 x1 x2, L_apply x0 x1 x2, dp_apply x0 x1 x2]
    show (Ideal.div _ _ + -(∑ k : Fin 4096, _)) * _ = _
    rw [← sum_fin]
    have ei : ∀ k : Fin 4096, val_main_v83 (F := Ideal) x0 x1 x2 (idx_main_v84 (idx_main_v85 (idx_main_v89 (idx_main_v90 i) 0)) k)
        = (headOf x0 x1 x2 (i 0).val).dp (i 1).val k.val
            * Ideal.div 1 ((headOf x0 x1 x2 (i 0).val).L (i 1).val * (headOf x0 x1 x2 (i 0).val).L (i 1).val)
            * (headOf x0 x1 x2 (i 0).val).e (i 1).val k.val := fun k => by
      have c0 : (((i 0).val * 4096 + (i 1).val) * 1 + 0) / 4096 = (i 0).val := by omega
      have c1 : (((i 0).val * 4096 + (i 1).val) * 1 + 0) % 4096 = (i 1).val := by omega
      rw [val_main_v83_apply, val_main_v82_apply, val_main_v81_apply, val_main_v71_apply, val_main_v70_apply, val_main_cst_19_apply,
        bits_one, val_main_v69_apply, val_main_v66_apply, e_apply x0 x1 x2, L_apply x0 x1 x2, dp_apply x0 x1 x2]
      show (headOf x0 x1 x2 ((((i 0).val * 4096 + (i 1).val) * 1 + 0) / 4096)).dp ((((i 0).val * 4096 + (i 1).val) * 1 + 0) % 4096) k.val
        * Ideal.div 1 ((headOf x0 x1 x2 ((((i 0).val * 4096 + (i 1).val) * 1 + 0) / 4096)).L ((((i 0).val * 4096 + (i 1).val) * 1 + 0) % 4096)
          * (headOf x0 x1 x2 ((((i 0).val * 4096 + (i 1).val) * 1 + 0) / 4096)).L ((((i 0).val * 4096 + (i 1).val) * 1 + 0) % 4096))
        * (headOf x0 x1 x2 ((((i 0).val * 4096 + (i 1).val) * 1 + 0) / 4096)).e ((((i 0).val * 4096 + (i 1).val) * 1 + 0) % 4096) k.val = _
      rw [c0, c1]
    rw [sum_congr rfl fun k _ => ei k]
  · rw [if_neg hok, Head.ds_of_not _ _ hok, val_main_call6_v0_apply, val_main_call6_cst_apply, bits_zero]

theorem dsc_apply (hR : ∀ h, (headOf x0 x1 x2 h).Real) (i : S16x4096x4096.Idx) :
    val_main_v95 (F := Ideal) x0 x1 x2 i = (headOf x0 x1 x2 (i 0).val).ds (i 1).val (i 2).val * c8 := by
  rw [val_main_v95_apply, ds_apply x0 x1 x2 hR, val_main_v94_apply, val_main_cst_22_apply, bits_eighth]
  rfl

/-! ## The results -/

theorem dq_apply (hR : ∀ h, (headOf x0 x1 x2 h).Real) (i : S4096x1024.Idx) :
    val_main_v105 (F := Ideal) x0 x1 x2 i = (headOf x0 x1 x2 ((i 1).val / 64)).dq (i 0).val ((i 1).val % 64) := by
  have h1 : (i 1).val < 1024 := (i 1).isLt
  have c0 : ((i 0).val * 1024 + (i 1).val) / 1024 = (i 0).val := by omega
  have c1 : ((i 0).val * 1024 + (i 1).val) / 64 % 16 = (i 1).val / 64 := by omega
  have c2 : ((i 0).val * 1024 + (i 1).val) % 64 = (i 1).val % 64 := by omega
  rw [val_main_v105_apply, val_main_v104_apply, val_main_v99_apply, val_main_v98_apply, Head.dq_eq, ← sum_fin]
  refine sum_congr rfl fun k _ => ?_
  rw [dsc_apply x0 x1 x2 hR, k_apply x0 x1 x2]
  show (headOf x0 x1 x2 (((i 0).val * 1024 + (i 1).val) / 64 % 16)).ds (((i 0).val * 1024 + (i 1).val) / 1024) k.val * c8
    * (headOf x0 x1 x2 (((i 0).val * 1024 + (i 1).val) / 64 % 16)).k k.val (((i 0).val * 1024 + (i 1).val) % 64) = _
  rw [c0, c1, c2]

theorem dk_apply (hR : ∀ h, (headOf x0 x1 x2 h).Real) (i : S4096x1024.Idx) :
    val_main_v103 (F := Ideal) x0 x1 x2 i = (headOf x0 x1 x2 ((i 1).val / 64)).dk (i 0).val ((i 1).val % 64) := by
  have h1 : (i 1).val < 1024 := (i 1).isLt
  have c0 : ((i 0).val * 1024 + (i 1).val) / 1024 = (i 0).val := by omega
  have c1 : ((i 0).val * 1024 + (i 1).val) / 64 % 16 = (i 1).val / 64 := by omega
  have c2 : ((i 0).val * 1024 + (i 1).val) % 64 = (i 1).val % 64 := by omega
  rw [val_main_v103_apply, val_main_v102_apply, val_main_v97_apply, val_main_v96_apply, Head.dk_eq, ← sum_fin]
  refine sum_congr rfl fun k _ => ?_
  rw [dsc_apply x0 x1 x2 hR, q_apply x0 x1 x2]
  show (headOf x0 x1 x2 (((i 0).val * 1024 + (i 1).val) / 64 % 16)).ds k.val (((i 0).val * 1024 + (i 1).val) / 1024) * c8
    * (headOf x0 x1 x2 (((i 0).val * 1024 + (i 1).val) / 64 % 16)).q k.val (((i 0).val * 1024 + (i 1).val) % 64) = _
  rw [c0, c1, c2]

theorem dv_apply (hR : ∀ h, (headOf x0 x1 x2 h).Real) (i : S4096x1024.Idx) :
    val_main_v101 (F := Ideal) x0 x1 x2 i = (headOf x0 x1 x2 ((i 1).val / 64)).dv (i 0).val ((i 1).val % 64) := by
  have h1 : (i 1).val < 1024 := (i 1).isLt
  have c0 : ((i 0).val * 1024 + (i 1).val) / 1024 = (i 0).val := by omega
  have c1 : ((i 0).val * 1024 + (i 1).val) / 64 % 16 = (i 1).val / 64 := by omega
  have c2 : ((i 0).val * 1024 + (i 1).val) % 64 = (i 1).val % 64 := by omega
  rw [val_main_v101_apply, val_main_v100_apply, val_main_v80_apply, val_main_v79_apply, Head.dv, ← sum_fin]
  refine sum_congr rfl fun k _ => ?_
  rw [p_apply x0 x1 x2 hR, g_apply x0 x1 x2]
  show (headOf x0 x1 x2 (((i 0).val * 1024 + (i 1).val) / 64 % 16)).g k.val (((i 0).val * 1024 + (i 1).val) % 64)
    * (headOf x0 x1 x2 (((i 0).val * 1024 + (i 1).val) / 64 % 16)).p k.val (((i 0).val * 1024 + (i 1).val) / 1024) = _
  rw [c0, c1, c2, mul_comm]

end Cert.ReferenceIdeal.Attn

end
-- ==== Proof.Ref.Run.lean ====
/- The reference's run: its three results are the gradients of the heads, where the heads' queries, keys and biases are real. -/
module

public import proofs.«01_k».proof.Proof.Ref.Value

@[expose] public section

noncomputable section

namespace Cert.ReferenceIdeal.Attn

open Cert.ReferenceIdeal Cert.ReferenceIdeal.Gen Cert.ReferenceIdeal.Read Cert.Attn
open Idealize.ShloMosaic Idealize.ShloMosaic.TcCoe Idealize.SL.Sem Idealize.ShloMosaic.StableHlo

variable (m : (ℓ : Loc nD τ sig) → Buf (Elt Ideal) ℓ) (ρ : Dev nD → PrngReg)

/-- The heads of the arguments. -/
def heads (c : Dev nD) (h : ℕ) : Head :=
  headOf (m ((c.tc : Thread nD τ).loc main_arg0)) (m ((c.tc : Thread nD τ).loc main_arg1)) (m ((c.tc : Thread nD τ).loc main_arg2)) h

def gradQ (c : Dev nD) : S4096x1024.Idx → EReal := fun i => (heads m c ((i 1).val / 64)).dq (i 0).val ((i 1).val % 64)
def gradK (c : Dev nD) : S4096x1024.Idx → EReal := fun i => (heads m c ((i 1).val / 64)).dk (i 0).val ((i 1).val % 64)
def gradV (c : Dev nD) : S4096x1024.Idx → EReal := fun i => (heads m c ((i 1).val / 64)).dv (i 0).val ((i 1).val % 64)

theorem run (hR : ∀ c h, (heads m c h).Real) :
    θ_run defs (onTc (τ := τ) (main (F := Ideal))) ⟨m, fun _ => 0, ρ⟩ fun r => ∀ c : Dev nD,
      r.2.mem ((c.tc : Thread nD τ).loc main_v105) = gradQ m c
      ∧ r.2.mem ((c.tc : Thread nD τ).loc main_v103) = gradK m c
      ∧ r.2.mem ((c.tc : Thread nD τ).loc main_v101) = gradV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c).1.trans ((val_main_v105_eq (F := Ideal) (launchContents m c)).trans (funext (dq_apply _ _ _ (hR c)))),
      (h c).2.1.trans ((val_main_v103_eq (F := Ideal) (launchContents m c)).trans (funext (dk_apply _ _ _ (hR c)))),
      (h c).2.2.1.trans ((val_main_v101_eq (F := Ideal) (launchContents m c)).trans (funext (dv_apply _ _ _ (hR c)))), (h c).2.2.2⟩)
    (Cert.ReferenceIdeal.Value.run m ρ)

end Cert.ReferenceIdeal.Attn
-- ==== Proof.Math.Product.lean ====
/- Matrix products read at an element, the operands by natural coordinates: rows by rows, columns by columns and rows by
   columns; arrays of three axes by natural coordinates; and the casts that drop or add a leading axis of one. -/
module

public import proofs.«01_k».proof.Proof.Math.Words
public import Idealize.ShloMosaic.Lib.MatmulPlain

@[expose] public section

noncomputable section

namespace Cert.Product

open Idealize.ShloMosaic Idealize.ShloMosaic.ValueIdx Finset
open Cert.Attn (at2 at2_of sum_fin)

/-! ## Arrays by natural coordinates -/

theorem at2_ix {n m : ℕ} (x : (⟨2, ![n, m]⟩ : Shape).Idx → EReal) (a : Fin n) (b : Fin m) : x (ix2 a b) = at2 x a.val b.val :=
  at2_of x (ix2 a b) a.val b.val rfl rfl

/-- An array's element at three natural coordinates, zero outside. -/
def at3 {l n m : ℕ} (x : (⟨3, ![l, n, m]⟩ : Shape).Idx → EReal) (h i j : ℕ) : EReal :=
  if e : h < l ∧ i < n ∧ j < m then x (ix3 ⟨h, e.1⟩ ⟨i, e.2.1⟩ ⟨j, e.2.2⟩) else 0

theorem at3_of {l n m : ℕ} (x : (⟨3, ![l, n, m]⟩ : Shape).Idx → EReal) (i : (⟨3, ![l, n, m]⟩ : Shape).Idx) (a b d : ℕ)
    (h0 : (i 0).val = a) (h1 : (i 1).val = b) (h2 : (i 2).val = d) : x i = at3 x a b d := by
  subst h0 h1 h2
  unfold at3
  rw [dif_pos ⟨(i 0).isLt, (i 1).isLt, (i 2).isLt⟩]
  exact congrArg x (eq_ix3 i)

theorem at2_congr {n m : ℕ} (x y : (⟨2, ![n, m]⟩ : Shape).Idx → EReal) (h : ∀ i, x i = y i) (a b : ℕ) : at2 x a b = at2 y a b := by
  rw [show x = y from funext h]

/-! ## Products -/

/-- `K×M` by `K×N`, both contracted on the first axis. -/
def tn (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

def tnContr (M K N : ℕ) : (tn M K N).contr.Idx ≃ Fin K := contrEquiv1 _ K rfl rfl

/-- Rows by rows. -/
theorem nt_apply {M K N : ℕ} {φ₁ φ₂ : FTy} (x : FVec Ideal ⟨2, ![M, K]⟩ φ₁) (y : FVec Ideal ⟨2, ![N, K]⟩ φ₂) (j : (⟨2, ![M, N]⟩ : Shape).Idx) :
    FloatOps.matmul (DotDims.transposedRhs M K N) none x y (constant ⟨2, ![M, N]⟩ .f32 0x00000000#32) j
      = ∑ k ∈ range K, at2 x (j 0).val k * at2 y (j 1).val k := by
  obtain ⟨r, c, rfl⟩ : ∃ (r : Fin M) (c : Fin N), j = ix2 r c := ⟨j 0, j 1, eq_ix2 j⟩
  refine (Ideal.matmul_transposedRhs_apply none x y _ r c).trans ?_
  show Ideal.ofBits .f32 0x00000000#32 + _ = _
  rw [Ideal.ofBits_zero_f32, zero_add, ← sum_fin]
  exact sum_congr rfl fun k _ => congrArg₂ (· * ·) (at2_ix x _ _) (at2_ix y _ _)

/-- Rows by columns. -/
theorem nn_apply {M K N : ℕ} {φ₁ φ₂ : FTy} (x : FVec Ideal ⟨2, ![M, K]⟩ φ₁) (y : FVec Ideal ⟨2, ![K, N]⟩ φ₂) (j : (⟨2, ![M, N]⟩ : Shape).Idx) :
    FloatOps.matmul (DotDims.plain M K N) none x y (constant ⟨2, ![M, N]⟩ .f32 0x00000000#32) j
      = ∑ k ∈ range K, at2 x (j 0).val k * at2 y k (j 1).val := by
  obtain ⟨r, c, rfl⟩ : ∃ (r : Fin M) (c : Fin N), j = ix2 r c := ⟨j 0, j 1, eq_ix2 j⟩
  refine (Ideal.matmul_plain_apply none x y _ r c).trans ?_
  show Ideal.ofBits .f32 0x00000000#32 + _ = _
  rw [Ideal.ofBits_zero_f32, zero_add, ← sum_fin]
  exact sum_congr rfl fun k _ => congrArg₂ (· * ·) (at2_ix x _ _) (at2_ix y _ _)

/-- Columns by columns. -/
theorem tn_apply {M K N : ℕ} {φ₁ φ₂ : FTy} (x : FVec Ideal ⟨2, ![K, M]⟩ φ₁) (y : FVec Ideal ⟨2, ![K, N]⟩ φ₂) (j : (⟨2, ![M, N]⟩ : Shape).Idx) :
    FloatOps.matmul (tn M K N) none x y (constant ⟨2, ![M, N]⟩ .f32 0x00000000#32) j
      = ∑ k ∈ range K, at2 x k (j 0).val * at2 y k (j 1).val := by
  rw [Ideal.matmul_constant_zero_apply, ← Equiv.sum_comp (tnContr M K N).symm, ← sum_fin]
  refine sum_congr rfl fun k _ => ?_
  have hk := contrEquiv1_symm_val (tn M K N) K rfl rfl k
  rw [at2_of x _ k.val (j 0).val hk rfl, at2_of y _ k.val (j 1).val hk rfl]

/-! ## A leading axis of one -/

theorem drop1_apply {α : Type} {M N : ℕ} (x : (⟨3, ![1, M, N]⟩ : Shape).Idx → α) (h : (⟨3, ![1, M, N]⟩ : Shape).ShapeCasts ⟨2, ![M, N]⟩)
    (j : (⟨2, ![M, N]⟩ : Shape).Idx) : shapeCast ⟨2, ![M, N]⟩ x h j = x (ix3 0 (j 0) (j 1)) :=
  shapeCast_apply x h j (ix3 0 (j 0) (j 1)) (by
    rewrite [Shape.rowMajor_val_three, Shape.rowMajor_val_two]
    show (0 * M + (j 0).val) * N + (j 1).val = (j 0).val * N + (j 1).val
    rw [Nat.zero_mul, Nat.zero_add])

theorem add1_apply {α : Type} {M N : ℕ} (x : (⟨2, ![M, N]⟩ : Shape).Idx → α) (h : (⟨2, ![M, N]⟩ : Shape).ShapeCasts ⟨3, ![1, M, N]⟩)
    (j : (⟨3, ![1, M, N]⟩ : Shape).Idx) : shapeCast ⟨3, ![1, M, N]⟩ x h j = x (ix2 (j 1) (j 2)) :=
  shapeCast_apply x h j (ix2 (j 1) (j 2)) (by
    rewrite [Shape.rowMajor_val_three, Shape.rowMajor_val_two]
    have h0 : (j 0).val = 0 := Nat.lt_one_iff.mp (j 0).isLt
    show (j 1).val * N + (j 2).val = ((j 0).val * M + (j 1).val) * N + (j 2).val
    rw [h0, Nat.zero_mul, Nat.zero_add])

theorem hz2 : (![0, 0] : Fin 2 → Nat) = fun _ => 0 := funext fun a => by fin_cases a <;> rfl
theorem hz3 : (![0, 0, 0] : Fin 3 → Nat) = fun _ => 0 := funext fun a => by fin_cases a <;> rfl

end Cert.Product

end
-- ==== Proof.Ffn.UpDx.lean ====
/- The gradient of the up projection at its input: on the grid of row tiles by weight blocks each row tile's block of the
   result gathers four products, one per weight block, so it ends holding the product over all 5632 columns. -/
module

public import proofs.«01_k».proof.Proof.Math.Product
public import proofs.«01_k».proof.Proof.Gen.Kernel2Ideal.Value
public import Idealize.ShloMosaic.Lib.Pipeline.ValueKit
public import proofs.«01_k».proof.Proof.Gen.Reference2Ideal.Run
public import proofs.«01_k».proof.Proof.Gen.Reference2Ideal.Read

@[expose] public section

set_option maxRecDepth 16384

noncomputable section

namespace Cert.Ffn

open Cert.Attn Cert.Product Idealize.ShloMosaic Finset

/-- A term of the product of two rows over all the columns, the weight's columns in four blocks. -/
def upDxTerm (x0 : (⟨2, ![4096, 5632]⟩ : Shape).Idx → EReal) (x1 : (⟨3, ![4, 1024, 1408]⟩ : Shape).Idx → EReal) (i j k : ℕ) : EReal :=
  at2 x0 i k * at3 x1 (k / 1408) j (k % 1408)

/-- The gradient at the up projection's input. -/
def upDx (x0 : (⟨2, ![4096, 5632]⟩ : Shape).Idx → EReal) (x1 : (⟨3, ![4, 1024, 1408]⟩ : Shape).Idx → EReal) : (⟨2, ![4096, 1024]⟩ : Shape).Idx → EReal :=
  fun i => ∑ k ∈ range 5632, upDxTerm x0 x1 (i 0).val (i 1).val k

end Cert.Ffn

namespace Cert.Kernel2Ideal.Ffn

open Cert.Kernel2Ideal Cert.Kernel2Ideal.Gen Cert.Attn Cert.Product
open Idealize.ShloMosaic hiding ix2 ix3
open Idealize.ShloMosaic.TcCoe Idealize.ShloMosaic.ValueIdx Idealize.SL.Sem Finset
open Idealize.ShloMosaic.Pipeline (Dat Cfg Window)

variable (m : (ℓ : Loc nD τ sig) → Buf (Elt Ideal) ℓ) (ρ : Dev nD → PrngReg) (c : Dev nD)

abbrev arg0 : FVec Ideal S4096x5632 .bf16 := m ((c : Thread nD τ).loc main_arg0)
abbrev arg1 : FVec Ideal S4x1024x1408 .bf16 := m ((c : Thread nD τ).loc main_arg1)

/-! ## The blocks -/

theorem index0 : ∀ t : Fin grid0.N, win0_0.index t 0 = t.val / 4 ∧ win0_0.index t 1 = t.val % 4 := by decide +kernel
theorem index1 : ∀ t : Fin grid0.N, win0_1.index t 0 = t.val % 4 ∧ win0_1.index t 1 = 0 ∧ win0_1.index t 2 = 0 := by decide +kernel
theorem index2 : ∀ t : Fin grid0.N, win0_2.index t 0 = t.val / 4 ∧ win0_2.index t 1 = 0 := by decide +kernel

theorem block0 (t : Fin grid0.N) (y : S1024x1408.Idx) :
    iblk m c 0 t y = at2 (arg0 m c) (t.val / 4 * 1024 + (y 0).val) (t.val % 4 * 1408 + (y 1).val) :=
  (congrFun (V_main_arg0 m c) ((win0_0.rect t).emb y)).trans (at2_of (arg0 m c) ((win0_0.rect t).emb y) _ _
    ((win0_0.rect_emb_val t y 0).trans (by rw [(index0 t).1]; rfl)) ((win0_0.rect_emb_val t y 1).trans (by rw [(index0 t).2]; rfl)))
theorem block1 (t : Fin grid0.N) (y : S1x1024x1408.Idx) :
    iblk m c 1 t y = at3 (arg1 m c) (t.val % 4 * 1 + (y 0).val) (0 * 1024 + (y 1).val) (0 * 1408 + (y 2).val) :=
  (congrFun (V_main_arg1 m c) ((win0_1.rect t).emb y)).trans (at3_of (arg1 m c) ((win0_1.rect t).emb y) _ _ _
    ((win0_1.rect_emb_val t y 0).trans (by rw [(index1 t).1]; rfl)) ((win0_1.rect_emb_val t y 1).trans (by rw [(index1 t).2.1]; rfl))
    ((win0_1.rect_emb_val t y 2).trans (by rw [(index1 t).2.2]; rfl)))

/-! ## A point's product and what it leaves -/

theorem pay_apply (t : Fin grid0.N) (y : S1024x1024.Idx) :
    k0_pay1 (iblk m c 0 t) (iblk m c 1 t) y = ∑ k ∈ range 1408, Cert.Ffn.upDxTerm (arg0 m c) (arg1 m c) (t.val / 4 * 1024 + (y 0).val) (y 1).val (1408 * (t.val % 4) + k) := by
  unfold k0_pay1
  refine (nt_apply (M := 1024) (K := 1408) (N := 1024) (iblk m c 0 t) (shapeCast S1024x1408 (iblk m c 1 t) shapeCasts_S1x1024x1408_S1024x1408) y).trans ?_
  refine sum_congr rfl fun k hk => ?_
  have hk := mem_range.mp hk
  unfold Cert.Ffn.upDxTerm
  rw [← at2_of _ (ix2 (y 0) ⟨k, hk⟩ : S1024x1408.Idx) _ _ rfl rfl, ← at2_of _ (ix2 (y 1) ⟨k, hk⟩ : S1024x1408.Idx) _ _ rfl rfl, block0]
  refine congrArg₂ (· * ·) ?_ ?_
  · show at2 _ _ (t.val % 4 * 1408 + k) = _
    rw [Nat.mul_comm (t.val % 4)]
  · refine (drop1_apply (iblk m c 1 t) shapeCasts_S1x1024x1408_S1024x1408 _).trans ((block1 m c t _).trans ?_)
    show at3 _ (t.val % 4 * 1 + 0) (0 * 1024 + (y 1).val) (0 * 1408 + k) = _
    congr 1 <;> omega

theorem out_A (i : grid0.Coords) (a3 : Memref sig .tc .vmem S1024x1408 .bf16) (h3 : a3.IsWhole) (a4 : Memref sig .tc .vmem S1x1024x1408 .bf16)
    (h4 : a4.IsWhole) (a5 : Memref sig .tc .vmem S1024x1024 .f32) (h5 : a5.IsWhole) (hc0 : cond0_0 i) (hc1 : ¬cond0_1 i)
    (x0 : Vec Ideal S1024x1408 .bf16) (x1 : Vec Ideal S1x1024x1408 .bf16) : out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero hz2]
  simp only [View.readAt_eq_ld, h3.read_unread, h4.read_unread, View.ld_unit_zero (S := S1024x1408) hz2, View.ld_unit_zero (S := S1x1024x1408) hz3]

theorem out_B (i : grid0.Coords) (a3 : Memref sig .tc .vmem S1024x1408 .bf16) (h3 : a3.IsWhole) (a4 : Memref sig .tc .vmem S1x1024x1408 .bf16)
    (h4 : a4.IsWhole) (a5 : Memref sig .tc .vmem S1024x1024 .f32) (h5 : a5.IsWhole) (hc0 : ¬cond0_0 i) (hc1 : cond0_1 i)
    (x0 : Vec Ideal S1024x1408 .bf16) (x1 : Vec Ideal S1x1024x1408 .bf16) (xo : Vec Ideal S1024x1024 .f32) :
    out0_B_2 c i a3 h3 a4 h4 a5 h5 hc0 hc1 x0 x1 xo = k0_pay2 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero hz2]
  simp only [View.readAt_eq_ld, h3.read_unread, h4.read_unread, h5.read_unread, View.ld_unit_zero (S := S1024x1408) hz2,
    View.ld_unit_zero (S := S1x1024x1408) hz3, View.ld_unit_zero (S := S1024x1024) hz2]

/-- After each point its row tile's block holds the product over the weight blocks met so far. -/
theorem outs_apply (n : ℕ) (hn : n < cfg0.N) (y : S1024x1024.Idx) :
    outsAt0 m c n hn y = ∑ k ∈ range (1408 * (n % 4 + 1)), Cert.Ffn.upDxTerm (arg0 m c) (arg1 m c) (n / 4 * 1024 + (y 0).val) (y 1).val k := by
  induction n generalizing y with
  | zero =>
    refine (congrFun ((outsAt0_A m c ⟨0, hn⟩ rfl (by show ¬1 ≤ 0 % 4; decide)).trans (out_A ..)) y).trans ((pay_apply m c ⟨0, hn⟩ y).trans ?_)
    exact sum_congr rfl fun k _ => congrArg _ (Nat.zero_add k)
  | succ n ih =>
    by_cases h : (n + 1) % 4 = 0
    · refine (congrFun ((outsAt0_A m c ⟨n + 1, hn⟩ h (by show ¬1 ≤ (n + 1) % 4; omega)).trans (out_A ..)) y).trans ((pay_apply m c ⟨n + 1, hn⟩ y).trans ?_)
      show ∑ k ∈ range 1408, Cert.Ffn.upDxTerm (arg0 m c) (arg1 m c) ((n + 1) / 4 * 1024 + _) _ (1408 * ((n + 1) % 4) + k) = _
      rw [h]
      exact sum_congr rfl fun k _ => congrArg _ (Nat.zero_add k)
    · refine (congrFun ((outsAt0_B m c ⟨n + 1, hn⟩ h (by show 1 ≤ (n + 1) % 4; omega)).trans (out_B ..)) y).trans ?_
      unfold k0_pay2
      rw [shapeCast_self]
      show outsAt0 m c n _ y + k0_pay1 (iblk m c 0 ⟨n + 1, hn⟩) (iblk m c 1 ⟨n + 1, hn⟩) y = _
      rw [ih, pay_apply, Nat.mul_add 1408 ((n + 1) % 4) 1, sum_range_add]
      rw [show n / 4 = (n + 1) / 4 by omega, show n % 4 + 1 = (n + 1) % 4 by omega]

/-! ## The result -/

theorem final : (dats m 0 c).arrAt 2 cfg0.N = Cert.Ffn.upDx (arg0 m c) (arg1 m c) := by
  refine (dats m 0 c).arrAt_eq_of_covers 2 (Cert.Ffn.upDx (arg0 m c) (arg1 m c)) (by decide +kernel) fun t hf y => ?_
  have ht : t.val % 4 = 3 := (flush0_2 t).mp hf
  have e0 : ((win0_2.rect t).emb y 0).val = t.val / 4 * 1024 + (y 0).val := (win0_2.rect_emb_val t y 0).trans (by rw [(index2 t).1]; rfl)
  have e1 : ((win0_2.rect t).emb y 1).val = (y 1).val := (win0_2.rect_emb_val t y 1).trans (by rw [(index2 t).2, Nat.zero_mul, Nat.zero_add])
  show (dats m 0 c).after 2 t y = Cert.Ffn.upDx (arg0 m c) (arg1 m c) ((win0_2.rect t).emb y)
  rw [after0_2]
  refine (outs_apply m c t.val t.isLt y).trans ?_
  unfold Cert.Ffn.upDx
  rw [e0, e1, ht]

theorem run : θ_run defs (onTc (τ := τ) (main (F := Ideal))) ⟨m, fun _ => 0, ρ⟩ fun r => ∀ c : Dev nD,
    r.2.mem ((c : Thread nD τ).loc main_v0) = Cert.Ffn.upDx (arg0 m c) (arg1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel2Ideal.Ffn

namespace Cert.Reference2Ideal.Ffn

open Cert.Reference2Ideal Cert.Reference2Ideal.Gen Cert.Reference2Ideal.Read Cert.Attn Cert.Product
open Idealize.ShloMosaic hiding ix2 ix3
open Idealize.ShloMosaic.TcCoe Idealize.ShloMosaic.ValueIdx Idealize.SL.Sem Finset

variable (x0 : FVec Ideal S4096x5632 .bf16) (x1 : FVec Ideal S4x1024x1408 .bf16)

/-- The four blocks of columns side by side. -/
theorem cols_apply (i : S1024x5632.Idx) : val_main_v1 (F := Ideal) x1 i = at3 x1 ((i 1).val / 1408) (i 0).val ((i 1).val % 1408) := by
  have h0 : (i 0).val < 1024 := (i 0).isLt
  have h1 : (i 1).val < 5632 := (i 1).isLt
  rw [val_main_v1_apply, val_main_v0_apply]
  refine at3_of x1 _ _ _ _ ?_ ?_ ?_
  · show ((i 0).val * 5632 + (i 1).val) / 1408 % 4 = _
    omega
  · show ((i 0).val * 5632 + (i 1).val) / 5632 = _
    omega
  · show ((i 0).val * 5632 + (i 1).val) % 1408 = _
    omega

theorem grad_apply (i : S4096x1024.Idx) : val_main_v6 (F := Ideal) x0 x1 i
    = ∑ k ∈ range 5632, at2 x0 (i 0).val k * at3 x1 (k / 1408) (i 1).val (k % 1408) := by
  rw [val_main_v6_apply, ← sum_fin]
  exact sum_congr rfl fun k _ => congrArg₂ (· * ·) (at2_of x0 _ _ _ rfl rfl) (cols_apply x1 _)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = Cert.Ffn.upDx (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext (grad_apply _ _)), (h c).2⟩) (Value.run (F := Ideal) m ρ)

end Cert.Reference2Ideal.Ffn

end
-- ==== Proof.Ffn.UpDw.lean ====
/- The gradient of the up projection at its weight: each weight block gathers four products of columns by columns, one per tile
   of 1024 rows, so it ends holding the product over all 4096 rows. -/
module

public import proofs.«01_k».proof.Proof.Math.Product
public import proofs.«01_k».proof.Proof.Gen.Kernel3Ideal.Value
public import Idealize.ShloMosaic.Lib.Pipeline.ValueKit
public import proofs.«01_k».proof.Proof.Gen.Reference3Ideal.Run
public import proofs.«01_k».proof.Proof.Gen.Reference3Ideal.Read

@[expose] public section

set_option maxRecDepth 16384

noncomputable section

namespace Cert.Ffn

open Cert.Attn Cert.Product Idealize.ShloMosaic Finset

/-- A term of the product of an input's column by a column of a block of the gradient. -/
def upDwTerm (x0 : (⟨2, ![4096, 1024]⟩ : Shape).Idx → EReal) (x1 : (⟨2, ![4096, 5632]⟩ : Shape).Idx → EReal) (b i j k : ℕ) : EReal :=
  at2 x0 k i * at2 x1 k (b * 1408 + j)

/-- The gradient at the up projection's weight, in four blocks of columns. -/
def upDw (x0 : (⟨2, ![4096, 1024]⟩ : Shape).Idx → EReal) (x1 : (⟨2, ![4096, 5632]⟩ : Shape).Idx → EReal) : (⟨3, ![4, 1024, 1408]⟩ : Shape).Idx → EReal :=
  fun i => ∑ k ∈ range 4096, upDwTerm x0 x1 (i 0).val (i 1).val (i 2).val k

end Cert.Ffn

namespace Cert.Kernel3Ideal.Ffn

open Cert.Kernel3Ideal Cert.Kernel3Ideal.Gen Cert.Attn Cert.Product
open Idealize.ShloMosaic hiding ix2 ix3 eq_ix2 eq_ix3
open Idealize.ShloMosaic.TcCoe Idealize.ShloMosaic.ValueIdx Idealize.SL.Sem Finset
open Idealize.ShloMosaic.Pipeline (Dat Cfg Window)

variable (m : (ℓ : Loc nD τ sig) → Buf (Elt Ideal) ℓ) (ρ : Dev nD → PrngReg) (c : Dev nD)

abbrev arg0 : FVec Ideal S4096x1024 .bf16 := m ((c : Thread nD τ).loc main_arg0)
abbrev arg1 : FVec Ideal S4096x5632 .bf16 := m ((c : Thread nD τ).loc main_arg1)

/-! ## The blocks -/

theorem index0 : ∀ t : Fin grid0.N, win0_0.index t 0 = t.val % 4 ∧ win0_0.index t 1 = 0 := by decide +kernel
theorem index1 : ∀ t : Fin grid0.N, win0_1.index t 0 = t.val % 4 ∧ win0_1.index t 1 = t.val / 4 := by decide +kernel
theorem index2 : ∀ t : Fin grid0.N, win0_2.index t 0 = t.val / 4 ∧ win0_2.index t 1 = 0 ∧ win0_2.index t 2 = 0 := by decide +kernel

theorem block0 (t : Fin grid0.N) (y : S1024x1024.Idx) :
    iblk m c 0 t y = at2 (arg0 m c) (t.val % 4 * 1024 + (y 0).val) (0 * 1024 + (y 1).val) :=
  (congrFun (V_main_arg0 m c) ((win0_0.rect t).emb y)).trans (at2_of (arg0 m c) ((win0_0.rect t).emb y) _ _
    ((win0_0.rect_emb_val t y 0).trans (by rw [(index0 t).1]; rfl)) ((win0_0.rect_emb_val t y 1).trans (by rw [(index0 t).2]; rfl)))
theorem block1 (t : Fin grid0.N) (y : S1024x1408.Idx) :
    iblk m c 1 t y = at2 (arg1 m c) (t.val % 4 * 1024 + (y 0).val) (t.val / 4 * 1408 + (y 1).val) :=
  (congrFun (V_main_arg1 m c) ((win0_1.rect t).emb y)).trans (at2_of (arg1 m c) ((win0_1.rect t).emb y) _ _
    ((win0_1.rect_emb_val t y 0).trans (by rw [(index1 t).1]; rfl)) ((win0_1.rect_emb_val t y 1).trans (by rw [(index1 t).2]; rfl)))

/-! ## A point's product and what it leaves -/

theorem pay_apply (t : Fin grid0.N) (y : S1024x1408.Idx) :
    k0_pay1 (iblk m c 0 t) (iblk m c 1 t) y
      = ∑ k ∈ range 1024, Cert.Ffn.upDwTerm (arg0 m c) (arg1 m c) (t.val / 4) (y 0).val (y 1).val (1024 * (t.val % 4) + k) := by
  unfold k0_pay1
  refine (tn_apply (M := 1024) (K := 1024) (N := 1408) (iblk m c 0 t) (iblk m c 1 t) y).trans ?_
  refine sum_congr rfl fun k hk => ?_
  have hk := mem_range.mp hk
  unfold Cert.Ffn.upDwTerm
  rw [← at2_of _ (ix2 ⟨k, hk⟩ (y 0) : S1024x1024.Idx) _ _ rfl rfl, ← at2_of _ (ix2 ⟨k, hk⟩ (y 1) : S1024x1408.Idx) _ _ rfl rfl, block0, block1]
  show at2 _ (t.val % 4 * 1024 + k) (0 * 1024 + (y 0).val) * at2 _ (t.val % 4 * 1024 + k) _ = _
  rw [Nat.mul_comm (t.val % 4), Nat.zero_mul, Nat.zero_add]

theorem out_A (i : grid0.Coords) (a3 : Memref sig .tc .vmem S1024x1024 .bf16) (h3 : a3.IsWhole) (a4 : Memref sig .tc .vmem S1024x1408 .bf16)
    (h4 : a4.IsWhole) (a5 : Memref sig .tc .vmem S1x1024x1408 .f32) (h5 : a5.IsWhole) (hc0 : cond0_0 i) (hc1 : ¬cond0_1 i)
    (x0 : Vec Ideal S1024x1024 .bf16) (x1 : Vec Ideal S1024x1408 .bf16) : out0_A_2 c i a3 h3 a4 h4 a5 h5 hc0 hc1 x0 x1 = k0_pay2 x0 x1 := by
  unfold out0_A_2
  rw [View.read_writes_eq_canon _ _ _ (cover0_A_2 c i a3 h3 a4 h4 a5 h5 hc0 hc1 x0 x1)]
  unfold kernelRun0_A
  dsimp only
  rw [View.canon_unit_zero hz3]
  simp only [View.readAt_eq_ld, h3.read_unread, h4.read_unread, View.ld_unit_zero (S := S1024x1024) hz2, View.ld_unit_zero (S := S1024x1408) hz2]

theorem out_B (i : grid0.Coords) (a3 : Memref sig .tc .vmem S1024x1024 .bf16) (h3 : a3.IsWhole) (a4 : Memref sig .tc .vmem S1024x1408 .bf16)
    (h4 : a4.IsWhole) (a5 : Memref sig .tc .vmem S1x1024x1408 .f32) (h5 : a5.IsWhole) (hc0 : ¬cond0_0 i) (hc1 : cond0_1 i)
    (x0 : Vec Ideal S1024x1024 .bf16) (x1 : Vec Ideal S1024x1408 .bf16) (xo : Vec Ideal S1x1024x1408 .f32) :
    out0_B_2 c i a3 h3 a4 h4 a5 h5 hc0 hc1 x0 x1 xo = k0_pay3 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero hz3]
  simp only [View.readAt_eq_ld, h3.read_unread, h4.read_unread, h5.read_unread, View.ld_unit_zero (S := S1024x1024) hz2,
    View.ld_unit_zero (S := S1024x1408) hz2, View.ld_unit_zero (S := S1x1024x1408) hz3]

theorem first_apply (t : Fin grid0.N) (y : S1x1024x1408.Idx) : k0_pay2 (iblk m c 0 t) (iblk m c 1 t) y
    = ∑ k ∈ range 1024, Cert.Ffn.upDwTerm (arg0 m c) (arg1 m c) (t.val / 4) (y 1).val (y 2).val (1024 * (t.val % 4) + k) := by
  unfold k0_pay2
  exact (add1_apply (k0_pay1 (iblk m c 0 t) (iblk m c 1 t)) shapeCasts_S1024x1408_S1x1024x1408 y).trans (pay_apply m c t _)

theorem next_apply (t : Fin grid0.N) (xo : Vec Ideal S1x1024x1408 .f32) (y : S1x1024x1408.Idx) : k0_pay3 (iblk m c 0 t) (iblk m c 1 t) xo y
    = xo y + ∑ k ∈ range 1024, Cert.Ffn.upDwTerm (arg0 m c) (arg1 m c) (t.val / 4) (y 1).val (y 2).val (1024 * (t.val % 4) + k) := by
  unfold k0_pay3
  refine (add1_apply (addf (shapeCast S1024x1408 xo shapeCasts_S1x1024x1408_S1024x1408) (k0_pay1 (iblk m c 0 t) (iblk m c 1 t)))
    shapeCasts_S1024x1408_S1x1024x1408 y).trans ?_
  show shapeCast S1024x1408 xo shapeCasts_S1x1024x1408_S1024x1408 (ix2 (y 1) (y 2)) + _ = _
  refine congrArg₂ (· + ·) ((drop1_apply xo shapeCasts_S1x1024x1408_S1024x1408 _).trans (congrArg xo ?_)) (pay_apply m c t _)
  exact (congrArg (fun a : Fin 1 => (ix3 a (y 1) (y 2) : S1x1024x1408.Idx)) (Subsingleton.elim _ _)).trans (eq_ix3 y).symm

/-- After each point its weight block holds the product over the row tiles met so far. -/
theorem outs_apply (n : ℕ) (hn : n < cfg0.N) (y : S1x1024x1408.Idx) :
    outsAt0 m c n hn y = ∑ k ∈ range (1024 * (n % 4 + 1)), Cert.Ffn.upDwTerm (arg0 m c) (arg1 m c) (n / 4) (y 1).val (y 2).val k := by
  induction n generalizing y with
  | zero =>
    refine (congrFun ((outsAt0_A m c ⟨0, hn⟩ rfl (by show ¬1 ≤ 0 % 4; decide)).trans (out_A ..)) y).trans ((first_apply m c ⟨0, hn⟩ y).trans ?_)
    exact sum_congr rfl fun k _ => congrArg _ (Nat.zero_add k)
  | succ n ih =>
    by_cases h : (n + 1) % 4 = 0
    · refine (congrFun ((outsAt0_A m c ⟨n + 1, hn⟩ h (by show ¬1 ≤ (n + 1) % 4; omega)).trans (out_A ..)) y).trans ((first_apply m c ⟨n + 1, hn⟩ y).trans ?_)
      show ∑ k ∈ range 1024, Cert.Ffn.upDwTerm _ _ ((n + 1) / 4) _ _ (1024 * ((n + 1) % 4) + k) = _
      rw [h]
      exact sum_congr rfl fun k _ => congrArg _ (Nat.zero_add k)
    · refine (congrFun ((outsAt0_B m c ⟨n + 1, hn⟩ h (by show 1 ≤ (n + 1) % 4; omega)).trans (out_B ..)) y).trans ((next_apply m c ⟨n + 1, hn⟩ _ y).trans ?_)
      show outsAt0 m c n _ y + _ = _
      rw [ih, Nat.mul_add 1024 ((n + 1) % 4) 1, sum_range_add]
      rw [show n / 4 = (n + 1) / 4 by omega, show n % 4 + 1 = (n + 1) % 4 by omega]

/-! ## The result -/

theorem final : (dats m 0 c).arrAt 2 cfg0.N = Cert.Ffn.upDw (arg0 m c) (arg1 m c) := by
  refine (dats m 0 c).arrAt_eq_of_covers 2 (Cert.Ffn.upDw (arg0 m c) (arg1 m c)) (by decide +kernel) fun t hf y => ?_
  have ht : t.val % 4 = 3 := (flush0_2 t).mp hf
  have hy : (y 0).val = 0 := Nat.lt_one_iff.mp (y 0).isLt
  have e0 : ((win0_2.rect t).emb y 0).val = t.val / 4 :=
    (win0_2.rect_emb_val t y 0).trans (by rw [(index2 t).1, hy]; exact (Nat.add_zero _).trans (Nat.mul_one _))
  have e1 : ((win0_2.rect t).emb y 1).val = (y 1).val := (win0_2.rect_emb_val t y 1).trans (by rw [(index2 t).2.1, Nat.zero_mul, Nat.zero_add])
  have e2 : ((win0_2.rect t).emb y 2).val = (y 2).val := (win0_2.rect_emb_val t y 2).trans (by rw [(index2 t).2.2, Nat.zero_mul, Nat.zero_add])
  show (dats m 0 c).after 2 t y = Cert.Ffn.upDw (arg0 m c) (arg1 m c) ((win0_2.rect t).emb y)
  rw [after0_2]
  refine (outs_apply m c t.val t.isLt y).trans ?_
  unfold Cert.Ffn.upDw
  rw [e0, e1, e2, ht]

theorem run : θ_run defs (onTc (τ := τ) (main (F := Ideal))) ⟨m, fun _ => 0, ρ⟩ fun r => ∀ c : Dev nD,
    r.2.mem ((c : Thread nD τ).loc main_v0) = Cert.Ffn.upDw (arg0 m c) (arg1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel3Ideal.Ffn

namespace Cert.Reference3Ideal.Ffn

open Cert.Reference3Ideal Cert.Reference3Ideal.Gen Cert.Reference3Ideal.Read Cert.Attn Cert.Product
open Idealize.ShloMosaic hiding ix2 ix3 eq_ix2 eq_ix3
open Idealize.ShloMosaic.TcCoe Idealize.ShloMosaic.ValueIdx Idealize.SL.Sem Finset

variable (x0 : FVec Ideal S4096x1024 .bf16) (x1 : FVec Ideal S4096x5632 .bf16)

theorem grad_apply (i : S4x1024x1408.Idx) : val_main_v7 (F := Ideal) x0 x1 i = Cert.Ffn.upDw x0 x1 i := by
  have h0 : (i 0).val < 4 := (i 0).isLt
  have h1 : (i 1).val < 1024 := (i 1).isLt
  have h2 : (i 2).val < 1408 := (i 2).isLt
  rw [val_main_v7_apply, val_main_v6_apply, val_main_v5_apply, val_main_v4_apply]
  unfold Cert.Ffn.upDw
  rw [← sum_fin]
  refine sum_congr rfl fun k _ => ?_
  unfold Cert.Ffn.upDwTerm
  rw [mul_comm]
  refine congrArg₂ (· * ·) (at2_of x0 _ _ _ rfl ?_) (at2_of x1 _ _ _ rfl ?_)
  · show (((i 1).val * 4 + (i 0).val) * 1408 + (i 2).val) / 5632 = _
    omega
  · show (((i 1).val * 4 + (i 0).val) * 1408 + (i 2).val) % 5632 = _
    omega

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = Cert.Ffn.upDw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext (grad_apply _ _)), (h c).2⟩) (Value.run (F := Ideal) m ρ)

end Cert.Reference3Ideal.Ffn

end
-- ==== Proof.Ffn.DownDx.lean ====
/- The gradient of the down projection at the hidden values: every block is one product of rows by rows, over the 1024 columns of
   the gradient. -/
module

public import proofs.«01_k».proof.Proof.Math.Product
public import proofs.«01_k».proof.Proof.Gen.Kernel4Ideal.Value
public import Idealize.ShloMosaic.Lib.Pipeline.ValueKit
public import proofs.«01_k».proof.Proof.Gen.Reference4Ideal.Run
public import proofs.«01_k».proof.Proof.Gen.Reference4Ideal.Read

@[expose] public section

set_option maxRecDepth 16384

noncomputable section

namespace Cert.Ffn

open Cert.Attn Cert.Product Idealize.ShloMosaic Finset

/-- The gradient at the hidden values: a row of the gradient by a row of the weight. -/
def downDx (x0 : (⟨2, ![4096, 1024]⟩ : Shape).Idx → EReal) (x1 : (⟨2, ![2816, 1024]⟩ : Shape).Idx → EReal) : (⟨2, ![4096, 2816]⟩ : Shape).Idx → EReal :=
  fun i => ∑ k ∈ range 1024, at2 x0 (i 0).val k * at2 x1 (i 1).val k

end Cert.Ffn

namespace Cert.Kernel4Ideal.Ffn

open Cert.Kernel4Ideal Cert.Kernel4Ideal.Gen Cert.Attn Cert.Product
open Idealize.ShloMosaic hiding ix2 ix3 eq_ix2 eq_ix3
open Idealize.ShloMosaic.TcCoe Idealize.ShloMosaic.ValueIdx Idealize.SL.Sem Finset
open Idealize.ShloMosaic.Pipeline (Dat Cfg Window)

variable (m : (ℓ : Loc nD τ sig) → Buf (Elt Ideal) ℓ) (ρ : Dev nD → PrngReg) (c : Dev nD)

abbrev arg0 : FVec Ideal S4096x1024 .f32 := m ((c : Thread nD τ).loc main_arg0)
abbrev arg1 : FVec Ideal S2816x1024 .bf16 := m ((c : Thread nD τ).loc main_arg1)

/-! ## The blocks -/

theorem index0 : ∀ t : Fin grid0.N, win0_0.index t 0 = t.val % 4 ∧ win0_0.index t 1 = 0 := by decide +kernel
theorem index1 : ∀ t : Fin grid0.N, win0_1.index t 0 = t.val / 4 ∧ win0_1.index t 1 = 0 := by decide +kernel
theorem index2 : ∀ t : Fin grid0.N, win0_2.index t 0 = t.val % 4 ∧ win0_2.index t 1 = t.val / 4 := by decide +kernel

theorem block0 (t : Fin grid0.N) (y : S1024x1024.Idx) :
    iblk m c 0 t y = at2 (arg0 m c) (t.val % 4 * 1024 + (y 0).val) (0 * 1024 + (y 1).val) :=
  (congrFun (V_main_arg0 m c) ((win0_0.rect t).emb y)).trans (at2_of (arg0 m c) ((win0_0.rect t).emb y) _ _
    ((win0_0.rect_emb_val t y 0).trans (by rw [(index0 t).1]; rfl)) ((win0_0.rect_emb_val t y 1).trans (by rw [(index0 t).2]; rfl)))
theorem block1 (t : Fin grid0.N) (y : S1408x1024.Idx) :
    iblk m c 1 t y = at2 (arg1 m c) (t.val / 4 * 1408 + (y 0).val) (0 * 1024 + (y 1).val) :=
  (congrFun (V_main_arg1 m c) ((win0_1.rect t).emb y)).trans (at2_of (arg1 m c) ((win0_1.rect t).emb y) _ _
    ((win0_1.rect_emb_val t y 0).trans (by rw [(index1 t).1]; rfl)) ((win0_1.rect_emb_val t y 1).trans (by rw [(index1 t).2]; rfl)))

/-- The block a point leaves. -/
theorem out_apply (t : Fin grid0.N) (y : S1024x1408.Idx) :
    out0_2 (iblk m c 0 t) (iblk m c 1 t) y
      = ∑ k ∈ range 1024, at2 (arg0 m c) (t.val % 4 * 1024 + (y 0).val) k * at2 (arg1 m c) (t.val / 4 * 1408 + (y 1).val) k := by
  unfold out0_2
  rw [View.canon_unit_zero hz2]
  simp only [View.ld_unit_zero (S := S1024x1024) hz2, View.ld_unit_zero (S := S1408x1024) hz2]
  unfold k0_pay1
  refine (nt_apply (M := 1024) (K := 1024) (N := 1408) (iblk m c 0 t) (iblk m c 1 t) y).trans ?_
  refine sum_congr rfl fun k hk => ?_
  have hk := mem_range.mp hk
  rw [← at2_of _ (ix2 (y 0) ⟨k, hk⟩ : S1024x1024.Idx) _ _ rfl rfl, ← at2_of _ (ix2 (y 1) ⟨k, hk⟩ : S1408x1024.Idx) _ _ rfl rfl, block0, block1]
  show at2 _ (t.val % 4 * 1024 + (y 0).val) (0 * 1024 + k) * at2 _ (t.val / 4 * 1408 + (y 1).val) (0 * 1024 + k) = _
  rw [Nat.zero_mul, Nat.zero_add]

/-! ## The result -/

theorem final : (dats m 0 c).arrAt 2 cfg0.N = Cert.Ffn.downDx (arg0 m c) (arg1 m c) := by
  refine (dats m 0 c).arrAt_eq_of_covers 2 (Cert.Ffn.downDx (arg0 m c) (arg1 m c)) (by decide +kernel) fun t _ y => ?_
  have e0 : ((win0_2.rect t).emb y 0).val = t.val % 4 * 1024 + (y 0).val := (win0_2.rect_emb_val t y 0).trans (by rw [(index2 t).1]; rfl)
  have e1 : ((win0_2.rect t).emb y 1).val = t.val / 4 * 1408 + (y 1).val := (win0_2.rect_emb_val t y 1).trans (by rw [(index2 t).2]; rfl)
  show (dats m 0 c).after 2 t y = Cert.Ffn.downDx (arg0 m c) (arg1 m c) ((win0_2.rect t).emb y)
  rw [after0_2]
  refine (out_apply m c t y).trans ?_
  unfold Cert.Ffn.downDx
  rw [e0, e1]

theorem run : θ_run defs (onTc (τ := τ) (main (F := Ideal))) ⟨m, fun _ => 0, ρ⟩ fun r => ∀ c : Dev nD,
    r.2.mem ((c : Thread nD τ).loc main_v0) = Cert.Ffn.downDx (arg0 m c) (arg1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel4Ideal.Ffn

namespace Cert.Reference4Ideal.Ffn

open Cert.Reference4Ideal Cert.Reference4Ideal.Gen Cert.Reference4Ideal.Read Cert.Attn Cert.Product
open Idealize.ShloMosaic hiding ix2 ix3 eq_ix2 eq_ix3
open Idealize.ShloMosaic.TcCoe Idealize.ShloMosaic.ValueIdx Idealize.SL.Sem Finset

variable (x0 : FVec Ideal S4096x1024 .f32) (x1 : FVec Ideal S2816x1024 .bf16)

theorem grad_apply (i : S4096x2816.Idx) : val_main_v3 (F := Ideal) x0 x1 i = Cert.Ffn.downDx x0 x1 i := by
  rw [val_main_v3_apply]
  unfold Cert.Ffn.downDx
  rw [← sum_fin]
  exact sum_congr rfl fun k _ => congrArg₂ (· * ·) (at2_of x0 _ _ _ rfl rfl) (at2_of x1 _ _ _ rfl rfl)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = Cert.Ffn.downDx (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext (grad_apply _ _)), (h c).2⟩) (Value.run (F := Ideal) m ρ)

end Cert.Reference4Ideal.Ffn

end
-- ==== Proof.Ffn.DownDw.lean ====
/- The gradient of the down projection at its weight: each half of the weight's rows gathers four products of columns by columns,
   one per tile of 1024 rows, so it ends holding the product over all 4096 rows. -/
module

public import proofs.«01_k».proof.Proof.Math.Product
public import proofs.«01_k».proof.Proof.Gen.Kernel5Ideal.Value
public import Idealize.ShloMosaic.Lib.Pipeline.ValueKit
public import proofs.«01_k».proof.Proof.Gen.Reference5Ideal.Run
public import proofs.«01_k».proof.Proof.Gen.Reference5Ideal.Read

@[expose] public section

set_option maxRecDepth 16384

noncomputable section

namespace Cert.Ffn

open Cert.Attn Cert.Product Idealize.ShloMosaic Finset

/-- A term of the product of a hidden column by a column of the gradient. -/
def downDwTerm (x0 : (⟨2, ![4096, 2816]⟩ : Shape).Idx → EReal) (x1 : (⟨2, ![4096, 1024]⟩ : Shape).Idx → EReal) (i j k : ℕ) : EReal :=
  at2 x0 k i * at2 x1 k j

/-- The gradient at the down projection's weight. -/
def downDw (x0 : (⟨2, ![4096, 2816]⟩ : Shape).Idx → EReal) (x1 : (⟨2, ![4096, 1024]⟩ : Shape).Idx → EReal) : (⟨2, ![2816, 1024]⟩ : Shape).Idx → EReal :=
  fun i => ∑ k ∈ range 4096, downDwTerm x0 x1 (i 0).val (i 1).val k

end Cert.Ffn

namespace Cert.Kernel5Ideal.Ffn

open Cert.Kernel5Ideal Cert.Kernel5Ideal.Gen Cert.Attn Cert.Product
open Idealize.ShloMosaic hiding ix2 ix3 eq_ix2 eq_ix3
open Idealize.ShloMosaic.TcCoe Idealize.ShloMosaic.ValueIdx Idealize.SL.Sem Finset
open Idealize.ShloMosaic.Pipeline (Dat Cfg Window)

variable (m : (ℓ : Loc nD τ sig) → Buf (Elt Ideal) ℓ) (ρ : Dev nD → PrngReg) (c : Dev nD)

abbrev arg0 : FVec Ideal S4096x2816 .bf16 := m ((c : Thread nD τ).loc main_arg0)
abbrev arg1 : FVec Ideal S4096x1024 .f32 := m ((c : Thread nD τ).loc main_arg1)

/-! ## The blocks -/

theorem index0 : ∀ t : Fin grid0.N, win0_0.index t 0 = t.val % 4 ∧ win0_0.index t 1 = t.val / 4 := by decide +kernel
theorem index1 : ∀ t : Fin grid0.N, win0_1.index t 0 = t.val % 4 ∧ win0_1.index t 1 = 0 := by decide +kernel
theorem index2 : ∀ t : Fin grid0.N, win0_2.index t 0 = t.val / 4 ∧ win0_2.index t 1 = 0 := by decide +kernel

theorem block0 (t : Fin grid0.N) (y : S1024x1408.Idx) :
    iblk m c 0 t y = at2 (arg0 m c) (t.val % 4 * 1024 + (y 0).val) (t.val / 4 * 1408 + (y 1).val) :=
  (congrFun (V_main_arg0 m c) ((win0_0.rect t).emb y)).trans (at2_of (arg0 m c) ((win0_0.rect t).emb y) _ _
    ((win0_0.rect_emb_val t y 0).trans (by rw [(index0 t).1]; rfl)) ((win0_0.rect_emb_val t y 1).trans (by rw [(index0 t).2]; rfl)))
theorem block1 (t : Fin grid0.N) (y : S1024x1024.Idx) :
    iblk m c 1 t y = at2 (arg1 m c) (t.val % 4 * 1024 + (y 0).val) (0 * 1024 + (y 1).val) :=
  (congrFun (V_main_arg1 m c) ((win0_1.rect t).emb y)).trans (at2_of (arg1 m c) ((win0_1.rect t).emb y) _ _
    ((win0_1.rect_emb_val t y 0).trans (by rw [(index1 t).1]; rfl)) ((win0_1.rect_emb_val t y 1).trans (by rw [(index1 t).2]; rfl)))

/-! ## A point's product and what it leaves -/

theorem pay_apply (t : Fin grid0.N) (y : S1408x1024.Idx) :
    k0_pay1 (iblk m c 0 t) (iblk m c 1 t) y
      = ∑ k ∈ range 1024, Cert.Ffn.downDwTerm (arg0 m c) (arg1 m c) (t.val / 4 * 1408 + (y 0).val) (y 1).val (1024 * (t.val % 4) + k) := by
  unfold k0_pay1
  refine (tn_apply (M := 1408) (K := 1024) (N := 1024) (iblk m c 0 t) (iblk m c 1 t) y).trans ?_
  refine sum_congr rfl fun k hk => ?_
  have hk := mem_range.mp hk
  unfold Cert.Ffn.downDwTerm
  rw [← at2_of _ (ix2 ⟨k, hk⟩ (y 0) : S1024x1408.Idx) _ _ rfl rfl, ← at2_of _ (ix2 ⟨k, hk⟩ (y 1) : S1024x1024.Idx) _ _ rfl rfl, block0, block1]
  show at2 _ (t.val % 4 * 1024 + k) (t.val / 4 * 1408 + (y 0).val) * at2 _ (t.val % 4 * 1024 + k) (0 * 1024 + (y 1).val) = _
  rw [Nat.mul_comm (t.val % 4), Nat.zero_mul, Nat.zero_add]

theorem out_A (i : grid0.Coords) (a3 : Memref sig .tc .vmem S1024x1408 .bf16) (h3 : a3.IsWhole) (a4 : Memref sig .tc .vmem S1024x1024 .f32)
    (h4 : a4.IsWhole) (a5 : Memref sig .tc .vmem S1408x1024 .f32) (h5 : a5.IsWhole) (hc0 : cond0_0 i) (hc1 : ¬cond0_1 i)
    (x0 : Vec Ideal S1024x1408 .bf16) (x1 : Vec Ideal S1024x1024 .f32) : out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero hz2]
  simp only [View.readAt_eq_ld, h3.read_unread, h4.read_unread, View.ld_unit_zero (S := S1024x1408) hz2, View.ld_unit_zero (S := S1024x1024) hz2]

theorem out_B (i : grid0.Coords) (a3 : Memref sig .tc .vmem S1024x1408 .bf16) (h3 : a3.IsWhole) (a4 : Memref sig .tc .vmem S1024x1024 .f32)
    (h4 : a4.IsWhole) (a5 : Memref sig .tc .vmem S1408x1024 .f32) (h5 : a5.IsWhole) (hc0 : ¬cond0_0 i) (hc1 : cond0_1 i)
    (x0 : Vec Ideal S1024x1408 .bf16) (x1 : Vec Ideal S1024x1024 .f32) (xo : Vec Ideal S1408x1024 .f32) (y : S1408x1024.Idx) :
    out0_B_2 c i a3 h3 a4 h4 a5 h5 hc0 hc1 x0 x1 xo y = xo y + k0_pay1 x0 x1 y := by
  unfold out0_B_2
  rw [View.read_writes_eq_canon _ _ _ (cover0_B_2 c i a3 h3 a4 h4 a5 h5 hc0 hc1 x0 x1 xo)]
  unfold kernelRun0_B
  dsimp only
  rw [View.canon_unit_zero hz2]
  simp only [View.readAt_eq_ld, h3.read_unread, h4.read_unread, h5.read_unread, View.ld_unit_zero (S := S1024x1408) hz2,
    View.ld_unit_zero (S := S1024x1024) hz2, View.ld_unit_zero (S := S1408x1024) hz2]
  show shapeCast S1408x1024 xo shapeCasts_S1408x1024_S1408x1024 y + _ = _
  rw [shapeCast_self]

/-- After each point its weight block holds the product over the row tiles met so far. -/
theorem outs_apply (n : ℕ) (hn : n < cfg0.N) (y : S1408x1024.Idx) :
    outsAt0 m c n hn y = ∑ k ∈ range (1024 * (n % 4 + 1)), Cert.Ffn.downDwTerm (arg0 m c) (arg1 m c) (n / 4 * 1408 + (y 0).val) (y 1).val k := by
  induction n with
  | zero =>
    refine (congrFun ((outsAt0_A m c ⟨0, hn⟩ rfl (by show ¬1 ≤ 0 % 4; decide)).trans (out_A ..)) y).trans ((pay_apply m c ⟨0, hn⟩ y).trans ?_)
    exact sum_congr rfl fun k _ => congrArg _ (Nat.zero_add k)
  | succ n ih =>
    by_cases h : (n + 1) % 4 = 0
    · refine (congrFun ((outsAt0_A m c ⟨n + 1, hn⟩ h (by show ¬1 ≤ (n + 1) % 4; omega)).trans (out_A ..)) y).trans ((pay_apply m c ⟨n + 1, hn⟩ y).trans ?_)
      show ∑ k ∈ range 1024, Cert.Ffn.downDwTerm _ _ ((n + 1) / 4 * 1408 + _) _ (1024 * ((n + 1) % 4) + k) = _
      rw [h]
      exact sum_congr rfl fun k _ => congrArg _ (Nat.zero_add k)
    · refine (congrFun (outsAt0_B m c ⟨n + 1, hn⟩ h (by show 1 ≤ (n + 1) % 4; omega)) y).trans ((out_B (y := y) ..).trans ?_)
      rw [pay_apply m c ⟨n + 1, hn⟩ y]
      show outsAt0 m c n _ y + _ = _
      rw [ih, Nat.mul_add 1024 ((n + 1) % 4) 1, sum_range_add]
      rw [show n / 4 = (n + 1) / 4 by omega, show n % 4 + 1 = (n + 1) % 4 by omega]

/-! ## The result -/

theorem final : (dats m 0 c).arrAt 2 cfg0.N = Cert.Ffn.downDw (arg0 m c) (arg1 m c) := by
  refine (dats m 0 c).arrAt_eq_of_covers 2 (Cert.Ffn.downDw (arg0 m c) (arg1 m c)) (by decide +kernel) fun t hf y => ?_
  have ht : t.val % 4 = 3 := (flush0_2 t).mp hf
  have e0 : ((win0_2.rect t).emb y 0).val = t.val / 4 * 1408 + (y 0).val := (win0_2.rect_emb_val t y 0).trans (by rw [(index2 t).1]; rfl)
  have e1 : ((win0_2.rect t).emb y 1).val = (y 1).val := (win0_2.rect_emb_val t y 1).trans (by rw [(index2 t).2, Nat.zero_mul, Nat.zero_add])
  show (dats m 0 c).after 2 t y = Cert.Ffn.downDw (arg0 m c) (arg1 m c) ((win0_2.rect t).emb y)
  rw [after0_2]
  refine (outs_apply m c t.val t.isLt y).trans ?_
  unfold Cert.Ffn.downDw
  rw [e0, e1, ht]

theorem run : θ_run defs (onTc (τ := τ) (main (F := Ideal))) ⟨m, fun _ => 0, ρ⟩ fun r => ∀ c : Dev nD,
    r.2.mem ((c : Thread nD τ).loc main_v0) = Cert.Ffn.downDw (arg0 m c) (arg1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel5Ideal.Ffn

namespace Cert.Reference5Ideal.Ffn

open Cert.Reference5Ideal Cert.Reference5Ideal.Gen Cert.Reference5Ideal.Read Cert.Attn Cert.Product
open Idealize.ShloMosaic hiding ix2 ix3 eq_ix2 eq_ix3
open Idealize.ShloMosaic.TcCoe Idealize.ShloMosaic.ValueIdx Idealize.SL.Sem Finset

variable (x0 : FVec Ideal S4096x2816 .bf16) (x1 : FVec Ideal S4096x1024 .f32)

theorem grad_apply (i : S2816x1024.Idx) : val_main_v4 (F := Ideal) x0 x1 i = Cert.Ffn.downDw x0 x1 i := by
  rw [val_main_v4_apply, val_main_v3_apply]
  unfold Cert.Ffn.downDw
  rw [← sum_fin]
  refine sum_congr rfl fun k _ => ?_
  unfold Cert.Ffn.downDwTerm
  rw [mul_comm]
  exact congrArg₂ (· * ·) (at2_of x0 _ _ _ rfl rfl) (at2_of x1 _ _ _ rfl rfl)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = Cert.Ffn.downDw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext (grad_apply _ _)), (h c).2⟩) (Value.run (F := Ideal) m ρ)

end Cert.Reference5Ideal.Ffn

end
-- ==== Proof.Proj.MixOutDx.lean ====
/- The gradient of the mixer's output projection at its input: every block is one product of rows by rows, over the 1024 columns of the
   gradient. -/
module

public import proofs.«01_k».proof.Proof.Math.Product
public import proofs.«01_k».proof.Proof.Gen.Kernel6Ideal.Value
public import Idealize.ShloMosaic.Lib.Pipeline.ValueKit
public import proofs.«01_k».proof.Proof.Gen.Reference6Ideal.Run
public import proofs.«01_k».proof.Proof.Gen.Reference6Ideal.Read

@[expose] public section

set_option maxRecDepth 16384

noncomputable section

namespace Cert.Proj

open Cert.Attn Cert.Product Idealize.ShloMosaic Finset

/-- The gradient at the input: a row of the gradient by a row of the weight. -/
def mixOutDx (x0 : (⟨2, ![4096, 1024]⟩ : Shape).Idx → EReal) (x1 : (⟨2, ![1024, 1024]⟩ : Shape).Idx → EReal) : (⟨2, ![4096, 1024]⟩ : Shape).Idx → EReal :=
  fun i => ∑ k ∈ range 1024, at2 x0 (i 0).val k * at2 x1 (i 1).val k

end Cert.Proj

namespace Cert.Kernel6Ideal.Proj

open Cert.Kernel6Ideal Cert.Kernel6Ideal.Gen Cert.Attn Cert.Product
open Idealize.ShloMosaic hiding ix2 ix3 eq_ix2 eq_ix3
open Idealize.ShloMosaic.TcCoe Idealize.ShloMosaic.ValueIdx Idealize.SL.Sem Finset
open Idealize.ShloMosaic.Pipeline (Dat Cfg Window)

variable (m : (ℓ : Loc nD τ sig) → Buf (Elt Ideal) ℓ) (ρ : Dev nD → PrngReg) (c : Dev nD)

abbrev arg0 : FVec Ideal S4096x1024 .f32 := m ((c : Thread nD τ).loc main_arg0)
abbrev arg1 : FVec Ideal S1024x1024 .bf16 := m ((c : Thread nD τ).loc main_arg1)

/-! ## The blocks -/

theorem index0 : ∀ t : Fin grid0.N, win0_0.index t 0 = t.val % 4 ∧ win0_0.index t 1 = 0 := by decide +kernel
theorem index1 : ∀ t : Fin grid0.N, win0_1.index t 0 = t.val / 4 ∧ win0_1.index t 1 = 0 := by decide +kernel
theorem index2 : ∀ t : Fin grid0.N, win0_2.index t 0 = t.val % 4 ∧ win0_2.index t 1 = t.val / 4 := by decide +kernel

theorem block0 (t : Fin grid0.N) (y : S1024x1024.Idx) :
    iblk m c 0 t y = at2 (arg0 m c) (t.val % 4 * 1024 + (y 0).val) (0 * 1024 + (y 1).val) :=
  (congrFun (V_main_arg0 m c) ((win0_0.rect t).emb y)).trans (at2_of (arg0 m c) ((win0_0.rect t).emb y) _ _
    ((win0_0.rect_emb_val t y 0).trans (by rw [(index0 t).1]; rfl)) ((win0_0.rect_emb_val t y 1).trans (by rw [(index0 t).2]; rfl)))
theorem block1 (t : Fin grid0.N) (y : S1024x1024.Idx) :
    iblk m c 1 t y = at2 (arg1 m c) (t.val / 4 * 1024 + (y 0).val) (0 * 1024 + (y 1).val) :=
  (congrFun (V_main_arg1 m c) ((win0_1.rect t).emb y)).trans (at2_of (arg1 m c) ((win0_1.rect t).emb y) _ _
    ((win0_1.rect_emb_val t y 0).trans (by rw [(index1 t).1]; rfl)) ((win0_1.rect_emb_val t y 1).trans (by rw [(index1 t).2]; rfl)))

/-- The block a point leaves. -/
theorem out_apply (t : Fin grid0.N) (y : S1024x1024.Idx) :
    out0_2 (iblk m c 0 t) (iblk m c 1 t) y
      = ∑ k ∈ range 1024, at2 (arg0 m c) (t.val % 4 * 1024 + (y 0).val) k * at2 (arg1 m c) (t.val / 4 * 1024 + (y 1).val) k := by
  unfold out0_2
  rw [View.canon_unit_zero hz2]
  simp only [View.ld_unit_zero (S := S1024x1024) hz2]
  unfold k0_pay1
  refine (nt_apply (M := 1024) (K := 1024) (N := 1024) (iblk m c 0 t) (iblk m c 1 t) y).trans ?_
  refine sum_congr rfl fun k hk => ?_
  have hk := mem_range.mp hk
  rw [← at2_of _ (ix2 (y 0) ⟨k, hk⟩ : S1024x1024.Idx) _ _ rfl rfl, ← at2_of _ (ix2 (y 1) ⟨k, hk⟩ : S1024x1024.Idx) _ _ rfl rfl, block0, block1]
  show at2 _ (t.val % 4 * 1024 + (y 0).val) (0 * 1024 + k) * at2 _ (t.val / 4 * 1024 + (y 1).val) (0 * 1024 + k) = _
  rw [Nat.zero_mul, Nat.zero_add]

/-! ## The result -/

theorem final : (dats m 0 c).arrAt 2 cfg0.N = Cert.Proj.mixOutDx (arg0 m c) (arg1 m c) := by
  refine (dats m 0 c).arrAt_eq_of_covers 2 (Cert.Proj.mixOutDx (arg0 m c) (arg1 m c)) (by decide +kernel) fun t _ y => ?_
  have e0 : ((win0_2.rect t).emb y 0).val = t.val % 4 * 1024 + (y 0).val := (win0_2.rect_emb_val t y 0).trans (by rw [(index2 t).1]; rfl)
  have e1 : ((win0_2.rect t).emb y 1).val = t.val / 4 * 1024 + (y 1).val := (win0_2.rect_emb_val t y 1).trans (by rw [(index2 t).2]; rfl)
  show (dats m 0 c).after 2 t y = Cert.Proj.mixOutDx (arg0 m c) (arg1 m c) ((win0_2.rect t).emb y)
  rw [after0_2]
  refine (out_apply m c t y).trans ?_
  unfold Cert.Proj.mixOutDx
  rw [e0, e1]

theorem run : θ_run defs (onTc (τ := τ) (main (F := Ideal))) ⟨m, fun _ => 0, ρ⟩ fun r => ∀ c : Dev nD,
    r.2.mem ((c : Thread nD τ).loc main_v0) = Cert.Proj.mixOutDx (arg0 m c) (arg1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel6Ideal.Proj

namespace Cert.Reference6Ideal.Proj

open Cert.Reference6Ideal Cert.Reference6Ideal.Gen Cert.Reference6Ideal.Read Cert.Attn Cert.Product
open Idealize.ShloMosaic hiding ix2 ix3 eq_ix2 eq_ix3
open Idealize.ShloMosaic.TcCoe Idealize.ShloMosaic.ValueIdx Idealize.SL.Sem Finset

variable (x0 : FVec Ideal S4096x1024 .f32) (x1 : FVec Ideal S1024x1024 .bf16)

theorem grad_apply (i : S4096x1024.Idx) : val_main_v3 (F := Ideal) x0 x1 i = Cert.Proj.mixOutDx x0 x1 i := by
  rw [val_main_v3_apply]
  unfold Cert.Proj.mixOutDx
  rw [← sum_fin]
  exact sum_congr rfl fun k _ => congrArg₂ (· * ·) (at2_of x0 _ _ _ rfl rfl) (at2_of x1 _ _ _ rfl rfl)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = Cert.Proj.mixOutDx (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext (grad_apply _ _)), (h c).2⟩) (Value.run (F := Ideal) m ρ)

end Cert.Reference6Ideal.Proj

end
-- ==== Proof.Proj.GateDx.lean ====
/- The gradient of the per-layer embedding's gate at its input: every block is one product of rows by rows, over the 1024 columns of
   the gradient. -/
module

public import proofs.«01_k».proof.Proof.Math.Product
public import proofs.«01_k».proof.Proof.Gen.Kernel7Ideal.Value
public import Idealize.ShloMosaic.Lib.Pipeline.ValueKit
public import proofs.«01_k».proof.Proof.Gen.Reference7Ideal.Run
public import proofs.«01_k».proof.Proof.Gen.Reference7Ideal.Read

@[expose] public section

set_option maxRecDepth 16384

noncomputable section

namespace Cert.Proj

open Cert.Attn Cert.Product Idealize.ShloMosaic Finset

/-- The gradient at the input: a row of the gradient by a row of the weight. -/
def gateDx (x0 : (⟨2, ![4096, 1024]⟩ : Shape).Idx → EReal) (x1 : (⟨2, ![1024, 1024]⟩ : Shape).Idx → EReal) : (⟨2, ![4096, 1024]⟩ : Shape).Idx → EReal :=
  fun i => ∑ k ∈ range 1024, at2 x0 (i 0).val k * at2 x1 (i 1).val k

end Cert.Proj

namespace Cert.Kernel7Ideal.Proj

open Cert.Kernel7Ideal Cert.Kernel7Ideal.Gen Cert.Attn Cert.Product
open Idealize.ShloMosaic hiding ix2 ix3 eq_ix2 eq_ix3
open Idealize.ShloMosaic.TcCoe Idealize.ShloMosaic.ValueIdx Idealize.SL.Sem Finset
open Idealize.ShloMosaic.Pipeline (Dat Cfg Window)

variable (m : (ℓ : Loc nD τ sig) → Buf (Elt Ideal) ℓ) (ρ : Dev nD → PrngReg) (c : Dev nD)

abbrev arg0 : FVec Ideal S4096x1024 .bf16 := m ((c : Thread nD τ).loc main_arg0)
abbrev arg1 : FVec Ideal S1024x1024 .bf16 := m ((c : Thread nD τ).loc main_arg1)

/-! ## The blocks -/

theorem index0 : ∀ t : Fin grid0.N, win0_0.index t 0 = t.val % 4 ∧ win0_0.index t 1 = 0 := by decide +kernel
theorem index1 : ∀ t : Fin grid0.N, win0_1.index t 0 = t.val / 4 ∧ win0_1.index t 1 = 0 := by decide +kernel
theorem index2 : ∀ t : Fin grid0.N, win0_2.index t 0 = t.val % 4 ∧ win0_2.index t 1 = t.val / 4 := by decide +kernel

theorem block0 (t : Fin grid0.N) (y : S1024x1024.Idx) :
    iblk m c 0 t y = at2 (arg0 m c) (t.val % 4 * 1024 + (y 0).val) (0 * 1024 + (y 1).val) :=
  (congrFun (V_main_arg0 m c) ((win0_0.rect t).emb y)).trans (at2_of (arg0 m c) ((win0_0.rect t).emb y) _ _
    ((win0_0.rect_emb_val t y 0).trans (by rw [(index0 t).1]; rfl)) ((win0_0.rect_emb_val t y 1).trans (by rw [(index0 t).2]; rfl)))
theorem block1 (t : Fin grid0.N) (y : S1024x1024.Idx) :
    iblk m c 1 t y = at2 (arg1 m c) (t.val / 4 * 1024 + (y 0).val) (0 * 1024 + (y 1).val) :=
  (congrFun (V_main_arg1 m c) ((win0_1.rect t).emb y)).trans (at2_of (arg1 m c) ((win0_1.rect t).emb y) _ _
    ((win0_1.rect_emb_val t y 0).trans (by rw [(index1 t).1]; rfl)) ((win0_1.rect_emb_val t y 1).trans (by rw [(index1 t).2]; rfl)))

/-- The block a point leaves. -/
theorem out_apply (t : Fin grid0.N) (y : S1024x1024.Idx) :
    out0_2 (iblk m c 0 t) (iblk m c 1 t) y
      = ∑ k ∈ range 1024, at2 (arg0 m c) (t.val % 4 * 1024 + (y 0).val) k * at2 (arg1 m c) (t.val / 4 * 1024 + (y 1).val) k := by
  unfold out0_2
  rw [View.canon_unit_zero hz2]
  simp only [View.ld_unit_zero (S := S1024x1024) hz2]
  unfold k0_pay1
  refine (nt_apply (M := 1024) (K := 1024) (N := 1024) (iblk m c 0 t) (iblk m c 1 t) y).trans ?_
  refine sum_congr rfl fun k hk => ?_
  have hk := mem_range.mp hk
  rw [← at2_of _ (ix2 (y 0) ⟨k, hk⟩ : S1024x1024.Idx) _ _ rfl rfl, ← at2_of _ (ix2 (y 1) ⟨k, hk⟩ : S1024x1024.Idx) _ _ rfl rfl, block0, block1]
  show at2 _ (t.val % 4 * 1024 + (y 0).val) (0 * 1024 + k) * at2 _ (t.val / 4 * 1024 + (y 1).val) (0 * 1024 + k) = _
  rw [Nat.zero_mul, Nat.zero_add]

/-! ## The result -/

theorem final : (dats m 0 c).arrAt 2 cfg0.N = Cert.Proj.gateDx (arg0 m c) (arg1 m c) := by
  refine (dats m 0 c).arrAt_eq_of_covers 2 (Cert.Proj.gateDx (arg0 m c) (arg1 m c)) (by decide +kernel) fun t _ y => ?_
  have e0 : ((win0_2.rect t).emb y 0).val = t.val % 4 * 1024 + (y 0).val := (win0_2.rect_emb_val t y 0).trans (by rw [(index2 t).1]; rfl)
  have e1 : ((win0_2.rect t).emb y 1).val = t.val / 4 * 1024 + (y 1).val := (win0_2.rect_emb_val t y 1).trans (by rw [(index2 t).2]; rfl)
  show (dats m 0 c).after 2 t y = Cert.Proj.gateDx (arg0 m c) (arg1 m c) ((win0_2.rect t).emb y)
  rw [after0_2]
  refine (out_apply m c t y).trans ?_
  unfold Cert.Proj.gateDx
  rw [e0, e1]

theorem run : θ_run defs (onTc (τ := τ) (main (F := Ideal))) ⟨m, fun _ => 0, ρ⟩ fun r => ∀ c : Dev nD,
    r.2.mem ((c : Thread nD τ).loc main_v0) = Cert.Proj.gateDx (arg0 m c) (arg1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel7Ideal.Proj

namespace Cert.Reference7Ideal.Proj

open Cert.Reference7Ideal Cert.Reference7Ideal.Gen Cert.Reference7Ideal.Read Cert.Attn Cert.Product
open Idealize.ShloMosaic hiding ix2 ix3 eq_ix2 eq_ix3
open Idealize.ShloMosaic.TcCoe Idealize.ShloMosaic.ValueIdx Idealize.SL.Sem Finset

variable (x0 : FVec Ideal S4096x1024 .bf16) (x1 : FVec Ideal S1024x1024 .bf16)

theorem grad_apply (i : S4096x1024.Idx) : val_main_v4 (F := Ideal) x0 x1 i = Cert.Proj.gateDx x0 x1 i := by
  rw [val_main_v4_apply]
  unfold Cert.Proj.gateDx
  rw [← sum_fin]
  exact sum_congr rfl fun k _ => congrArg₂ (· * ·) (at2_of x0 _ _ _ rfl rfl) (at2_of x1 _ _ _ rfl rfl)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = Cert.Proj.gateDx (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext (grad_apply _ _)), (h c).2⟩) (Value.run (F := Ideal) m ρ)

end Cert.Reference7Ideal.Proj

end
-- ==== Proof.Proj.AttnOutDx.lean ====
/- The gradient of the attention's output projection at its input: every block is one product of rows by rows, over the 1024 columns
   of the gradient. -/
module

public import proofs.«01_k».proof.Proof.Math.Product
public import proofs.«01_k».proof.Proof.Gen.Kernel8Ideal.Value
public import Idealize.ShloMosaic.Lib.Pipeline.ValueKit
public import proofs.«01_k».proof.Proof.Gen.Reference8Ideal.Run
public import proofs.«01_k».proof.Proof.Gen.Reference8Ideal.Read

@[expose] public section

set_option maxRecDepth 16384

noncomputable section

namespace Cert.Proj

open Cert.Attn Cert.Product Idealize.ShloMosaic Finset

/-- The gradient at the input: a row of the gradient by a row of the weight. -/
def attnOutDx (x0 : (⟨2, ![4096, 1024]⟩ : Shape).Idx → EReal) (x1 : (⟨2, ![1024, 1024]⟩ : Shape).Idx → EReal) : (⟨2, ![4096, 1024]⟩ : Shape).Idx → EReal :=
  fun i => ∑ k ∈ range 1024, at2 x0 (i 0).val k * at2 x1 (i 1).val k

end Cert.Proj

namespace Cert.Kernel8Ideal.Proj

open Cert.Kernel8Ideal Cert.Kernel8Ideal.Gen Cert.Attn Cert.Product
open Idealize.ShloMosaic hiding ix2 ix3 eq_ix2 eq_ix3
open Idealize.ShloMosaic.TcCoe Idealize.ShloMosaic.ValueIdx Idealize.SL.Sem Finset
open Idealize.ShloMosaic.Pipeline (Dat Cfg Window)

variable (m : (ℓ : Loc nD τ sig) → Buf (Elt Ideal) ℓ) (ρ : Dev nD → PrngReg) (c : Dev nD)

abbrev arg0 : FVec Ideal S4096x1024 .f32 := m ((c : Thread nD τ).loc main_arg0)
abbrev arg1 : FVec Ideal S1024x1024 .bf16 := m ((c : Thread nD τ).loc main_arg1)

/-! ## The blocks -/

theorem index0 : ∀ t : Fin grid0.N, win0_0.index t 0 = t.val % 4 ∧ win0_0.index t 1 = 0 := by decide +kernel
theorem index1 : ∀ t : Fin grid0.N, win0_1.index t 0 = t.val / 4 ∧ win0_1.index t 1 = 0 := by decide +kernel
theorem index2 : ∀ t : Fin grid0.N, win0_2.index t 0 = t.val % 4 ∧ win0_2.index t 1 = t.val / 4 := by decide +kernel

theorem block0 (t : Fin grid0.N) (y : S1024x1024.Idx) :
    iblk m c 0 t y = at2 (arg0 m c) (t.val % 4 * 1024 + (y 0).val) (0 * 1024 + (y 1).val) :=
  (congrFun (V_main_arg0 m c) ((win0_0.rect t).emb y)).trans (at2_of (arg0 m c) ((win0_0.rect t).emb y) _ _
    ((win0_0.rect_emb_val t y 0).trans (by rw [(index0 t).1]; rfl)) ((win0_0.rect_emb_val t y 1).trans (by rw [(index0 t).2]; rfl)))
theorem block1 (t : Fin grid0.N) (y : S1024x1024.Idx) :
    iblk m c 1 t y = at2 (arg1 m c) (t.val / 4 * 1024 + (y 0).val) (0 * 1024 + (y 1).val) :=
  (congrFun (V_main_arg1 m c) ((win0_1.rect t).emb y)).trans (at2_of (arg1 m c) ((win0_1.rect t).emb y) _ _
    ((win0_1.rect_emb_val t y 0).trans (by rw [(index1 t).1]; rfl)) ((win0_1.rect_emb_val t y 1).trans (by rw [(index1 t).2]; rfl)))

/-- The block a point leaves. -/
theorem out_apply (t : Fin grid0.N) (y : S1024x1024.Idx) :
    out0_2 (iblk m c 0 t) (iblk m c 1 t) y
      = ∑ k ∈ range 1024, at2 (arg0 m c) (t.val % 4 * 1024 + (y 0).val) k * at2 (arg1 m c) (t.val / 4 * 1024 + (y 1).val) k := by
  unfold out0_2
  rw [View.canon_unit_zero hz2]
  simp only [View.ld_unit_zero (S := S1024x1024) hz2]
  unfold k0_pay1
  refine (nt_apply (M := 1024) (K := 1024) (N := 1024) (φ₁ := .bf16) (φ₂ := .bf16) (iblk m c 0 t) (iblk m c 1 t) y).trans ?_
  refine sum_congr rfl fun k hk => ?_
  have hk := mem_range.mp hk
  rw [← at2_of _ (ix2 (y 0) ⟨k, hk⟩ : S1024x1024.Idx) _ _ rfl rfl, ← at2_of _ (ix2 (y 1) ⟨k, hk⟩ : S1024x1024.Idx) _ _ rfl rfl, block0, block1]
  show at2 _ (t.val % 4 * 1024 + (y 0).val) (0 * 1024 + k) * at2 _ (t.val / 4 * 1024 + (y 1).val) (0 * 1024 + k) = _
  rw [Nat.zero_mul, Nat.zero_add]

/-! ## The result -/

theorem final : (dats m 0 c).arrAt 2 cfg0.N = Cert.Proj.attnOutDx (arg0 m c) (arg1 m c) := by
  refine (dats m 0 c).arrAt_eq_of_covers 2 (Cert.Proj.attnOutDx (arg0 m c) (arg1 m c)) (by decide +kernel) fun t _ y => ?_
  have e0 : ((win0_2.rect t).emb y 0).val = t.val % 4 * 1024 + (y 0).val := (win0_2.rect_emb_val t y 0).trans (by rw [(index2 t).1]; rfl)
  have e1 : ((win0_2.rect t).emb y 1).val = t.val / 4 * 1024 + (y 1).val := (win0_2.rect_emb_val t y 1).trans (by rw [(index2 t).2]; rfl)
  show (dats m 0 c).after 2 t y = Cert.Proj.attnOutDx (arg0 m c) (arg1 m c) ((win0_2.rect t).emb y)
  rw [after0_2]
  refine (out_apply m c t y).trans ?_
  unfold Cert.Proj.attnOutDx
  rw [e0, e1]

theorem run : θ_run defs (onTc (τ := τ) (main (F := Ideal))) ⟨m, fun _ => 0, ρ⟩ fun r => ∀ c : Dev nD,
    r.2.mem ((c : Thread nD τ).loc main_v0) = Cert.Proj.attnOutDx (arg0 m c) (arg1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel8Ideal.Proj

namespace Cert.Reference8Ideal.Proj

open Cert.Reference8Ideal Cert.Reference8Ideal.Gen Cert.Reference8Ideal.Read Cert.Attn Cert.Product
open Idealize.ShloMosaic hiding ix2 ix3 eq_ix2 eq_ix3
open Idealize.ShloMosaic.TcCoe Idealize.ShloMosaic.ValueIdx Idealize.SL.Sem Finset

variable (x0 : FVec Ideal S4096x1024 .f32) (x1 : FVec Ideal S1024x1024 .bf16)

theorem grad_apply (i : S4096x1024.Idx) : val_main_v4 (F := Ideal) x0 x1 i = Cert.Proj.attnOutDx x0 x1 i := by
  rw [val_main_v4_apply, val_main_v3_apply]
  unfold Cert.Proj.attnOutDx
  rw [← sum_fin]
  exact sum_congr rfl fun k _ => congrArg₂ (· * ·) (at2_of x0 _ _ _ rfl rfl) (at2_of x1 _ _ _ rfl rfl)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = Cert.Proj.attnOutDx (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext (grad_apply _ _)), (h c).2⟩) (Value.run (F := Ideal) m ρ)

end Cert.Reference8Ideal.Proj

end
-- ==== Proof.Proj.OutDw.lean ====
/- The gradient of an output projection at its weight, the attention's and the mixer's: the weight's block gathers four products of
   columns by columns, one per tile of 1024 rows, so it ends holding the product over all 4096 rows. -/
module

public import proofs.«01_k».proof.Proof.Math.Product
public import proofs.«01_k».proof.Proof.Gen.Kernel9Ideal.Value
public import Idealize.ShloMosaic.Lib.Pipeline.ValueKit
public import proofs.«01_k».proof.Proof.Gen.Reference9Ideal.Run
public import proofs.«01_k».proof.Proof.Gen.Reference9Ideal.Read

@[expose] public section

set_option maxRecDepth 16384

noncomputable section

namespace Cert.Proj

open Cert.Attn Cert.Product Idealize.ShloMosaic Finset

/-- A term of the product of an input's column by a column of the gradient. -/
def outDwTerm (x0 : (⟨2, ![4096, 1024]⟩ : Shape).Idx → EReal) (x1 : (⟨2, ![4096, 1024]⟩ : Shape).Idx → EReal) (i j k : ℕ) : EReal :=
  at2 x0 k i * at2 x1 k j

/-- The gradient at the weight. -/
def outDw (x0 : (⟨2, ![4096, 1024]⟩ : Shape).Idx → EReal) (x1 : (⟨2, ![4096, 1024]⟩ : Shape).Idx → EReal) : (⟨2, ![1024, 1024]⟩ : Shape).Idx → EReal :=
  fun i => ∑ k ∈ range 4096, outDwTerm x0 x1 (i 0).val (i 1).val k

end Cert.Proj

namespace Cert.Kernel9Ideal.Proj

open Cert.Kernel9Ideal Cert.Kernel9Ideal.Gen Cert.Attn Cert.Product
open Idealize.ShloMosaic hiding ix2 ix3 eq_ix2 eq_ix3
open Idealize.ShloMosaic.TcCoe Idealize.ShloMosaic.ValueIdx Idealize.SL.Sem Finset
open Idealize.ShloMosaic.Pipeline (Dat Cfg Window)

variable (m : (ℓ : Loc nD τ sig) → Buf (Elt Ideal) ℓ) (ρ : Dev nD → PrngReg) (c : Dev nD)

abbrev arg0 : FVec Ideal S4096x1024 .bf16 := m ((c : Thread nD τ).loc main_arg0)
abbrev arg1 : FVec Ideal S4096x1024 .f32 := m ((c : Thread nD τ).loc main_arg1)

/-! ## The blocks -/

theorem index0 : ∀ t : Fin grid0.N, win0_0.index t 0 = t.val % 4 ∧ win0_0.index t 1 = t.val / 4 := by decide +kernel
theorem index1 : ∀ t : Fin grid0.N, win0_1.index t 0 = t.val % 4 ∧ win0_1.index t 1 = 0 := by decide +kernel
theorem index2 : ∀ t : Fin grid0.N, win0_2.index t 0 = t.val / 4 ∧ win0_2.index t 1 = 0 := by decide +kernel

theorem block0 (t : Fin grid0.N) (y : S1024x1024.Idx) :
    iblk m c 0 t y = at2 (arg0 m c) (t.val % 4 * 1024 + (y 0).val) (t.val / 4 * 1024 + (y 1).val) :=
  (congrFun (V_main_arg0 m c) ((win0_0.rect t).emb y)).trans (at2_of (arg0 m c) ((win0_0.rect t).emb y) _ _
    ((win0_0.rect_emb_val t y 0).trans (by rw [(index0 t).1]; rfl)) ((win0_0.rect_emb_val t y 1).trans (by rw [(index0 t).2]; rfl)))
theorem block1 (t : Fin grid0.N) (y : S1024x1024.Idx) :
    iblk m c 1 t y = at2 (arg1 m c) (t.val % 4 * 1024 + (y 0).val) (0 * 1024 + (y 1).val) :=
  (congrFun (V_main_arg1 m c) ((win0_1.rect t).emb y)).trans (at2_of (arg1 m c) ((win0_1.rect t).emb y) _ _
    ((win0_1.rect_emb_val t y 0).trans (by rw [(index1 t).1]; rfl)) ((win0_1.rect_emb_val t y 1).trans (by rw [(index1 t).2]; rfl)))

/-! ## A point's product and what it leaves -/

theorem pay_apply (t : Fin grid0.N) (y : S1024x1024.Idx) :
    k0_pay1 (iblk m c 0 t) (iblk m c 1 t) y
      = ∑ k ∈ range 1024, Cert.Proj.outDwTerm (arg0 m c) (arg1 m c) (t.val / 4 * 1024 + (y 0).val) (y 1).val (1024 * (t.val % 4) + k) := by
  unfold k0_pay1
  refine (tn_apply (M := 1024) (K := 1024) (N := 1024) (iblk m c 0 t) (iblk m c 1 t) y).trans ?_
  refine sum_congr rfl fun k hk => ?_
  have hk := mem_range.mp hk
  unfold Cert.Proj.outDwTerm
  rw [← at2_of _ (ix2 ⟨k, hk⟩ (y 0) : S1024x1024.Idx) _ _ rfl rfl, ← at2_of _ (ix2 ⟨k, hk⟩ (y 1) : S1024x1024.Idx) _ _ rfl rfl, block0, block1]
  show at2 _ (t.val % 4 * 1024 + k) (t.val / 4 * 1024 + (y 0).val) * at2 _ (t.val % 4 * 1024 + k) (0 * 1024 + (y 1).val) = _
  rw [Nat.mul_comm (t.val % 4), Nat.zero_mul, Nat.zero_add]

theorem out_A (i : grid0.Coords) (a3 : Memref sig .tc .vmem S1024x1024 .bf16) (h3 : a3.IsWhole) (a4 : Memref sig .tc .vmem S1024x1024 .f32)
    (h4 : a4.IsWhole) (a5 : Memref sig .tc .vmem S1024x1024 .f32) (h5 : a5.IsWhole) (hc0 : cond0_0 i) (hc1 : ¬cond0_1 i)
    (x0 : Vec Ideal S1024x1024 .bf16) (x1 : Vec Ideal S1024x1024 .f32) : out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero hz2]
  simp only [View.readAt_eq_ld, h3.read_unread, h4.read_unread, View.ld_unit_zero (S := S1024x1024) hz2]

theorem out_B (i : grid0.Coords) (a3 : Memref sig .tc .vmem S1024x1024 .bf16) (h3 : a3.IsWhole) (a4 : Memref sig .tc .vmem S1024x1024 .f32)
    (h4 : a4.IsWhole) (a5 : Memref sig .tc .vmem S1024x1024 .f32) (h5 : a5.IsWhole) (hc0 : ¬cond0_0 i) (hc1 : cond0_1 i)
    (x0 : Vec Ideal S1024x1024 .bf16) (x1 : Vec Ideal S1024x1024 .f32) (xo : Vec Ideal S1024x1024 .f32) (y : S1024x1024.Idx) :
    out0_B_2 c i a3 h3 a4 h4 a5 h5 hc0 hc1 x0 x1 xo y = xo y + k0_pay1 x0 x1 y := by
  unfold out0_B_2
  rw [View.read_writes_eq_canon _ _ _ (cover0_B_2 c i a3 h3 a4 h4 a5 h5 hc0 hc1 x0 x1 xo)]
  unfold kernelRun0_B
  dsimp only
  rw [View.canon_unit_zero hz2]
  simp only [View.readAt_eq_ld, h3.read_unread, h4.read_unread, h5.read_unread, View.ld_unit_zero (S := S1024x1024) hz2]
  show shapeCast S1024x1024 xo shapeCasts_S1024x1024_S1024x1024 y + _ = _
  rw [shapeCast_self]

/-- After each point its weight block holds the product over the row tiles met so far. -/
theorem outs_apply (n : ℕ) (hn : n < cfg0.N) (y : S1024x1024.Idx) :
    outsAt0 m c n hn y = ∑ k ∈ range (1024 * (n % 4 + 1)), Cert.Proj.outDwTerm (arg0 m c) (arg1 m c) (n / 4 * 1024 + (y 0).val) (y 1).val k := by
  induction n with
  | zero =>
    refine (congrFun ((outsAt0_A m c ⟨0, hn⟩ rfl (by show ¬1 ≤ 0; decide)).trans (out_A ..)) y).trans ((pay_apply m c ⟨0, hn⟩ y).trans ?_)
    exact sum_congr rfl fun k _ => congrArg _ (Nat.zero_add k)
  | succ n ih =>
    by_cases h : (n + 1) % 4 = 0
    · refine (congrFun ((outsAt0_A m c ⟨n + 1, hn⟩ h (by have h4 : n + 1 < 4 := hn; show ¬1 ≤ n + 1; omega)).trans (out_A ..)) y).trans ((pay_apply m c ⟨n + 1, hn⟩ y).trans ?_)
      show ∑ k ∈ range 1024, Cert.Proj.outDwTerm _ _ ((n + 1) / 4 * 1024 + _) _ (1024 * ((n + 1) % 4) + k) = _
      rw [h]
      exact sum_congr rfl fun k _ => congrArg _ (Nat.zero_add k)
    · refine (congrFun (outsAt0_B m c ⟨n + 1, hn⟩ h (by show 1 ≤ n + 1; omega)) y).trans ((out_B (y := y) ..).trans ?_)
      rw [pay_apply m c ⟨n + 1, hn⟩ y]
      show outsAt0 m c n _ y + _ = _
      rw [ih, Nat.mul_add 1024 ((n + 1) % 4) 1, sum_range_add]
      rw [show n / 4 = (n + 1) / 4 by omega, show n % 4 + 1 = (n + 1) % 4 by omega]

/-! ## The result -/

theorem final : (dats m 0 c).arrAt 2 cfg0.N = Cert.Proj.outDw (arg0 m c) (arg1 m c) := by
  refine (dats m 0 c).arrAt_eq_of_covers 2 (Cert.Proj.outDw (arg0 m c) (arg1 m c)) (by decide +kernel) fun t hf y => ?_
  have ht : t.val % 4 = 3 := (flush0_2 t).mp hf
  have e0 : ((win0_2.rect t).emb y 0).val = t.val / 4 * 1024 + (y 0).val := (win0_2.rect_emb_val t y 0).trans (by rw [(index2 t).1]; rfl)
  have e1 : ((win0_2.rect t).emb y 1).val = (y 1).val := (win0_2.rect_emb_val t y 1).trans (by rw [(index2 t).2, Nat.zero_mul, Nat.zero_add])
  show (dats m 0 c).after 2 t y = Cert.Proj.outDw (arg0 m c) (arg1 m c) ((win0_2.rect t).emb y)
  rw [after0_2]
  refine (outs_apply m c t.val t.isLt y).trans ?_
  unfold Cert.Proj.outDw
  rw [e0, e1, ht]

theorem run : θ_run defs (onTc (τ := τ) (main (F := Ideal))) ⟨m, fun _ => 0, ρ⟩ fun r => ∀ c : Dev nD,
    r.2.mem ((c : Thread nD τ).loc main_v0) = Cert.Proj.outDw (arg0 m c) (arg1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel9Ideal.Proj

namespace Cert.Reference9Ideal.Proj

open Cert.Reference9Ideal Cert.Reference9Ideal.Gen Cert.Reference9Ideal.Read Cert.Attn Cert.Product
open Idealize.ShloMosaic hiding ix2 ix3 eq_ix2 eq_ix3
open Idealize.ShloMosaic.TcCoe Idealize.ShloMosaic.ValueIdx Idealize.SL.Sem Finset

variable (x0 : FVec Ideal S4096x1024 .bf16) (x1 : FVec Ideal S4096x1024 .f32)

theorem grad_apply (i : S1024x1024.Idx) : val_main_v4 (F := Ideal) x0 x1 i = Cert.Proj.outDw x0 x1 i := by
  rw [val_main_v4_apply, val_main_v3_apply]
  unfold Cert.Proj.outDw
  rw [← sum_fin]
  refine sum_congr rfl fun k _ => ?_
  unfold Cert.Proj.outDwTerm
  rw [mul_comm]
  exact congrArg₂ (· * ·) (at2_of x0 _ _ _ rfl rfl) (at2_of x1 _ _ _ rfl rfl)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = Cert.Proj.outDw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext (grad_apply _ _)), (h c).2⟩) (Value.run (F := Ideal) m ρ)

end Cert.Reference9Ideal.Proj

end
-- ==== Proof.Proj.GateDw.lean ====
/- The gradient of the per-layer embedding's gate at its weight: the weight's block gathers four products of columns by columns, one
   per tile of 1024 rows, so it ends holding the product over all 4096 rows. -/
module

public import proofs.«01_k».proof.Proof.Math.Product
public import proofs.«01_k».proof.Proof.Gen.Kernel10Ideal.Value
public import Idealize.ShloMosaic.Lib.Pipeline.ValueKit
public import proofs.«01_k».proof.Proof.Gen.Reference10Ideal.Run
public import proofs.«01_k».proof.Proof.Gen.Reference10Ideal.Read

@[expose] public section

set_option maxRecDepth 16384

noncomputable section

namespace Cert.Proj

open Cert.Attn Cert.Product Idealize.ShloMosaic Finset

/-- A term of the product of an input's column by a column of the gradient. -/
def gateDwTerm (x0 : (⟨2, ![4096, 1024]⟩ : Shape).Idx → EReal) (x1 : (⟨2, ![4096, 1024]⟩ : Shape).Idx → EReal) (i j k : ℕ) : EReal :=
  at2 x0 k i * at2 x1 k j

/-- The gradient at the weight. -/
def gateDw (x0 : (⟨2, ![4096, 1024]⟩ : Shape).Idx → EReal) (x1 : (⟨2, ![4096, 1024]⟩ : Shape).Idx → EReal) : (⟨2, ![1024, 1024]⟩ : Shape).Idx → EReal :=
  fun i => ∑ k ∈ range 4096, gateDwTerm x0 x1 (i 0).val (i 1).val k

end Cert.Proj

namespace Cert.Kernel10Ideal.Proj

open Cert.Kernel10Ideal Cert.Kernel10Ideal.Gen Cert.Attn Cert.Product
open Idealize.ShloMosaic hiding ix2 ix3 eq_ix2 eq_ix3
open Idealize.ShloMosaic.TcCoe Idealize.ShloMosaic.ValueIdx Idealize.SL.Sem Finset
open Idealize.ShloMosaic.Pipeline (Dat Cfg Window)

variable (m : (ℓ : Loc nD τ sig) → Buf (Elt Ideal) ℓ) (ρ : Dev nD → PrngReg) (c : Dev nD)

abbrev arg0 : FVec Ideal S4096x1024 .bf16 := m ((c : Thread nD τ).loc main_arg0)
abbrev arg1 : FVec Ideal S4096x1024 .bf16 := m ((c : Thread nD τ).loc main_arg1)

/-! ## The blocks -/

theorem index0 : ∀ t : Fin grid0.N, win0_0.index t 0 = t.val % 4 ∧ win0_0.index t 1 = t.val / 4 := by decide +kernel
theorem index1 : ∀ t : Fin grid0.N, win0_1.index t 0 = t.val % 4 ∧ win0_1.index t 1 = 0 := by decide +kernel
theorem index2 : ∀ t : Fin grid0.N, win0_2.index t 0 = t.val / 4 ∧ win0_2.index t 1 = 0 := by decide +kernel

theorem block0 (t : Fin grid0.N) (y : S1024x1024.Idx) :
    iblk m c 0 t y = at2 (arg0 m c) (t.val % 4 * 1024 + (y 0).val) (t.val / 4 * 1024 + (y 1).val) :=
  (congrFun (V_main_arg0 m c) ((win0_0.rect t).emb y)).trans (at2_of (arg0 m c) ((win0_0.rect t).emb y) _ _
    ((win0_0.rect_emb_val t y 0).trans (by rw [(index0 t).1]; rfl)) ((win0_0.rect_emb_val t y 1).trans (by rw [(index0 t).2]; rfl)))
theorem block1 (t : Fin grid0.N) (y : S1024x1024.Idx) :
    iblk m c 1 t y = at2 (arg1 m c) (t.val % 4 * 1024 + (y 0).val) (0 * 1024 + (y 1).val) :=
  (congrFun (V_main_arg1 m c) ((win0_1.rect t).emb y)).trans (at2_of (arg1 m c) ((win0_1.rect t).emb y) _ _
    ((win0_1.rect_emb_val t y 0).trans (by rw [(index1 t).1]; rfl)) ((win0_1.rect_emb_val t y 1).trans (by rw [(index1 t).2]; rfl)))

/-! ## A point's product and what it leaves -/

theorem pay_apply (t : Fin grid0.N) (y : S1024x1024.Idx) :
    k0_pay1 (iblk m c 0 t) (iblk m c 1 t) y
      = ∑ k ∈ range 1024, Cert.Proj.gateDwTerm (arg0 m c) (arg1 m c) (t.val / 4 * 1024 + (y 0).val) (y 1).val (1024 * (t.val % 4) + k) := by
  unfold k0_pay1
  refine (tn_apply (M := 1024) (K := 1024) (N := 1024) (iblk m c 0 t) (iblk m c 1 t) y).trans ?_
  refine sum_congr rfl fun k hk => ?_
  have hk := mem_range.mp hk
  unfold Cert.Proj.gateDwTerm
  rw [← at2_of _ (ix2 ⟨k, hk⟩ (y 0) : S1024x1024.Idx) _ _ rfl rfl, ← at2_of _ (ix2 ⟨k, hk⟩ (y 1) : S1024x1024.Idx) _ _ rfl rfl, block0, block1]
  show at2 _ (t.val % 4 * 1024 + k) (t.val / 4 * 1024 + (y 0).val) * at2 _ (t.val % 4 * 1024 + k) (0 * 1024 + (y 1).val) = _
  rw [Nat.mul_comm (t.val % 4), Nat.zero_mul, Nat.zero_add]

theorem out_A (i : grid0.Coords) (a3 : Memref sig .tc .vmem S1024x1024 .bf16) (h3 : a3.IsWhole) (a4 : Memref sig .tc .vmem S1024x1024 .bf16)
    (h4 : a4.IsWhole) (a5 : Memref sig .tc .vmem S1024x1024 .f32) (h5 : a5.IsWhole) (hc0 : cond0_0 i) (hc1 : ¬cond0_1 i)
    (x0 : Vec Ideal S1024x1024 .bf16) (x1 : Vec Ideal S1024x1024 .bf16) : out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero hz2]
  simp only [View.readAt_eq_ld, h3.read_unread, h4.read_unread, View.ld_unit_zero (S := S1024x1024) hz2]

theorem out_B (i : grid0.Coords) (a3 : Memref sig .tc .vmem S1024x1024 .bf16) (h3 : a3.IsWhole) (a4 : Memref sig .tc .vmem S1024x1024 .bf16)
    (h4 : a4.IsWhole) (a5 : Memref sig .tc .vmem S1024x1024 .f32) (h5 : a5.IsWhole) (hc0 : ¬cond0_0 i) (hc1 : cond0_1 i)
    (x0 : Vec Ideal S1024x1024 .bf16) (x1 : Vec Ideal S1024x1024 .bf16) (xo : Vec Ideal S1024x1024 .f32) (y : S1024x1024.Idx) :
    out0_B_2 c i a3 h3 a4 h4 a5 h5 hc0 hc1 x0 x1 xo y = xo y + k0_pay1 x0 x1 y := by
  unfold out0_B_2
  rw [View.read_writes_eq_canon _ _ _ (cover0_B_2 c i a3 h3 a4 h4 a5 h5 hc0 hc1 x0 x1 xo)]
  unfold kernelRun0_B
  dsimp only
  rw [View.canon_unit_zero hz2]
  simp only [View.readAt_eq_ld, h3.read_unread, h4.read_unread, h5.read_unread, View.ld_unit_zero (S := S1024x1024) hz2]
  show shapeCast S1024x1024 xo shapeCasts_S1024x1024_S1024x1024 y + _ = _
  rw [shapeCast_self]

/-- After each point its weight block holds the product over the row tiles met so far. -/
theorem outs_apply (n : ℕ) (hn : n < cfg0.N) (y : S1024x1024.Idx) :
    outsAt0 m c n hn y = ∑ k ∈ range (1024 * (n % 4 + 1)), Cert.Proj.gateDwTerm (arg0 m c) (arg1 m c) (n / 4 * 1024 + (y 0).val) (y 1).val k := by
  induction n with
  | zero =>
    refine (congrFun ((outsAt0_A m c ⟨0, hn⟩ rfl (by show ¬1 ≤ 0; decide)).trans (out_A ..)) y).trans ((pay_apply m c ⟨0, hn⟩ y).trans ?_)
    exact sum_congr rfl fun k _ => congrArg _ (Nat.zero_add k)
  | succ n ih =>
    by_cases h : (n + 1) % 4 = 0
    · refine (congrFun ((outsAt0_A m c ⟨n + 1, hn⟩ h (by have h4 : n + 1 < 4 := hn; show ¬1 ≤ n + 1; omega)).trans (out_A ..)) y).trans ((pay_apply m c ⟨n + 1, hn⟩ y).trans ?_)
      show ∑ k ∈ range 1024, Cert.Proj.gateDwTerm _ _ ((n + 1) / 4 * 1024 + _) _ (1024 * ((n + 1) % 4) + k) = _
      rw [h]
      exact sum_congr rfl fun k _ => congrArg _ (Nat.zero_add k)
    · refine (congrFun (outsAt0_B m c ⟨n + 1, hn⟩ h (by show 1 ≤ n + 1; omega)) y).trans ((out_B (y := y) ..).trans ?_)
      rw [pay_apply m c ⟨n + 1, hn⟩ y]
      show outsAt0 m c n _ y + _ = _
      rw [ih, Nat.mul_add 1024 ((n + 1) % 4) 1, sum_range_add]
      rw [show n / 4 = (n + 1) / 4 by omega, show n % 4 + 1 = (n + 1) % 4 by omega]

/-! ## The result -/

theorem final : (dats m 0 c).arrAt 2 cfg0.N = Cert.Proj.gateDw (arg0 m c) (arg1 m c) := by
  refine (dats m 0 c).arrAt_eq_of_covers 2 (Cert.Proj.gateDw (arg0 m c) (arg1 m c)) (by decide +kernel) fun t hf y => ?_
  have ht : t.val % 4 = 3 := (flush0_2 t).mp hf
  have e0 : ((win0_2.rect t).emb y 0).val = t.val / 4 * 1024 + (y 0).val := (win0_2.rect_emb_val t y 0).trans (by rw [(index2 t).1]; rfl)
  have e1 : ((win0_2.rect t).emb y 1).val = (y 1).val := (win0_2.rect_emb_val t y 1).trans (by rw [(index2 t).2, Nat.zero_mul, Nat.zero_add])
  show (dats m 0 c).after 2 t y = Cert.Proj.gateDw (arg0 m c) (arg1 m c) ((win0_2.rect t).emb y)
  rw [after0_2]
  refine (outs_apply m c t.val t.isLt y).trans ?_
  unfold Cert.Proj.gateDw
  rw [e0, e1, ht]

theorem run : θ_run defs (onTc (τ := τ) (main (F := Ideal))) ⟨m, fun _ => 0, ρ⟩ fun r => ∀ c : Dev nD,
    r.2.mem ((c : Thread nD τ).loc main_v0) = Cert.Proj.gateDw (arg0 m c) (arg1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel10Ideal.Proj

namespace Cert.Reference10Ideal.Proj

open Cert.Reference10Ideal Cert.Reference10Ideal.Gen Cert.Reference10Ideal.Read Cert.Attn Cert.Product
open Idealize.ShloMosaic hiding ix2 ix3 eq_ix2 eq_ix3
open Idealize.ShloMosaic.TcCoe Idealize.ShloMosaic.ValueIdx Idealize.SL.Sem Finset

variable (x0 : FVec Ideal S4096x1024 .bf16) (x1 : FVec Ideal S4096x1024 .bf16)

theorem grad_apply (i : S1024x1024.Idx) : val_main_v5 (F := Ideal) x0 x1 i = Cert.Proj.gateDw x0 x1 i := by
  rw [val_main_v5_apply, val_main_v4_apply]
  unfold Cert.Proj.gateDw
  rw [← sum_fin]
  refine sum_congr rfl fun k _ => ?_
  unfold Cert.Proj.gateDwTerm
  rw [mul_comm]
  exact congrArg₂ (· * ·) (at2_of x0 _ _ _ rfl rfl) (at2_of x1 _ _ _ rfl rfl)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = Cert.Proj.gateDw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext (grad_apply _ _)), (h c).2⟩) (Value.run (F := Ideal) m ρ)

end Cert.Reference10Ideal.Proj

end
-- ==== Proof.Proj.QkvDw.lean ====
/- The gradient of the query, key and value projection at its weight: each weight block gathers four products of columns by columns,
   one per tile of 1024 rows, so it ends holding the product over all 4096 rows. -/
module

public import proofs.«01_k».proof.Proof.Math.Product
public import proofs.«01_k».proof.Proof.Gen.Kernel11Ideal.Value
public import Idealize.ShloMosaic.Lib.Pipeline.ValueKit
public import proofs.«01_k».proof.Proof.Gen.Reference11Ideal.Run
public import proofs.«01_k».proof.Proof.Gen.Reference11Ideal.Read

@[expose] public section

set_option maxRecDepth 16384

noncomputable section

namespace Cert.Proj

open Cert.Attn Cert.Product Idealize.ShloMosaic Finset

/-- A term of the product of an input's column by a column of a block of the gradient. -/
def qkvDwTerm (x0 : (⟨2, ![4096, 1024]⟩ : Shape).Idx → EReal) (x1 : (⟨2, ![4096, 3072]⟩ : Shape).Idx → EReal) (b i j k : ℕ) : EReal :=
  at2 x0 k i * at2 x1 k (b * 768 + j)

/-- The gradient at the projection's weight, in four blocks of columns. -/
def qkvDw (x0 : (⟨2, ![4096, 1024]⟩ : Shape).Idx → EReal) (x1 : (⟨2, ![4096, 3072]⟩ : Shape).Idx → EReal) : (⟨3, ![4, 1024, 768]⟩ : Shape).Idx → EReal :=
  fun i => ∑ k ∈ range 4096, qkvDwTerm x0 x1 (i 0).val (i 1).val (i 2).val k

end Cert.Proj

namespace Cert.Kernel11Ideal.Proj

open Cert.Kernel11Ideal Cert.Kernel11Ideal.Gen Cert.Attn Cert.Product
open Idealize.ShloMosaic hiding ix2 ix3 eq_ix2 eq_ix3
open Idealize.ShloMosaic.TcCoe Idealize.ShloMosaic.ValueIdx Idealize.SL.Sem Finset
open Idealize.ShloMosaic.Pipeline (Dat Cfg Window)

variable (m : (ℓ : Loc nD τ sig) → Buf (Elt Ideal) ℓ) (ρ : Dev nD → PrngReg) (c : Dev nD)

abbrev arg0 : FVec Ideal S4096x1024 .bf16 := m ((c : Thread nD τ).loc main_arg0)
abbrev arg1 : FVec Ideal S4096x3072 .bf16 := m ((c : Thread nD τ).loc main_arg1)

/-! ## The blocks -/

theorem index0 : ∀ t : Fin grid0.N, win0_0.index t 0 = t.val % 4 ∧ win0_0.index t 1 = 0 := by decide +kernel
theorem index1 : ∀ t : Fin grid0.N, win0_1.index t 0 = t.val % 4 ∧ win0_1.index t 1 = t.val / 4 := by decide +kernel
theorem index2 : ∀ t : Fin grid0.N, win0_2.index t 0 = t.val / 4 ∧ win0_2.index t 1 = 0 ∧ win0_2.index t 2 = 0 := by decide +kernel

theorem block0 (t : Fin grid0.N) (y : S1024x1024.Idx) :
    iblk m c 0 t y = at2 (arg0 m c) (t.val % 4 * 1024 + (y 0).val) (0 * 1024 + (y 1).val) :=
  (congrFun (V_main_arg0 m c) ((win0_0.rect t).emb y)).trans (at2_of (arg0 m c) ((win0_0.rect t).emb y) _ _
    ((win0_0.rect_emb_val t y 0).trans (by rw [(index0 t).1]; rfl)) ((win0_0.rect_emb_val t y 1).trans (by rw [(index0 t).2]; rfl)))
theorem block1 (t : Fin grid0.N) (y : S1024x768.Idx) :
    iblk m c 1 t y = at2 (arg1 m c) (t.val % 4 * 1024 + (y 0).val) (t.val / 4 * 768 + (y 1).val) :=
  (congrFun (V_main_arg1 m c) ((win0_1.rect t).emb y)).trans (at2_of (arg1 m c) ((win0_1.rect t).emb y) _ _
    ((win0_1.rect_emb_val t y 0).trans (by rw [(index1 t).1]; rfl)) ((win0_1.rect_emb_val t y 1).trans (by rw [(index1 t).2]; rfl)))

/-! ## A point's product and what it leaves -/

theorem pay_apply (t : Fin grid0.N) (y : S1024x768.Idx) :
    k0_pay1 (iblk m c 0 t) (iblk m c 1 t) y
      = ∑ k ∈ range 1024, Cert.Proj.qkvDwTerm (arg0 m c) (arg1 m c) (t.val / 4) (y 0).val (y 1).val (1024 * (t.val % 4) + k) := by
  unfold k0_pay1
  refine (tn_apply (M := 1024) (K := 1024) (N := 768) (iblk m c 0 t) (iblk m c 1 t) y).trans ?_
  refine sum_congr rfl fun k hk => ?_
  have hk := mem_range.mp hk
  unfold Cert.Proj.qkvDwTerm
  rw [← at2_of _ (ix2 ⟨k, hk⟩ (y 0) : S1024x1024.Idx) _ _ rfl rfl, ← at2_of _ (ix2 ⟨k, hk⟩ (y 1) : S1024x768.Idx) _ _ rfl rfl, block0, block1]
  show at2 _ (t.val % 4 * 1024 + k) (0 * 1024 + (y 0).val) * at2 _ (t.val % 4 * 1024 + k) _ = _
  rw [Nat.mul_comm (t.val % 4), Nat.zero_mul, Nat.zero_add]

theorem out_A (i : grid0.Coords) (a3 : Memref sig .tc .vmem S1024x1024 .bf16) (h3 : a3.IsWhole) (a4 : Memref sig .tc .vmem S1024x768 .bf16)
    (h4 : a4.IsWhole) (a5 : Memref sig .tc .vmem S1x1024x768 .f32) (h5 : a5.IsWhole) (hc0 : cond0_0 i) (hc1 : ¬cond0_1 i)
    (x0 : Vec Ideal S1024x1024 .bf16) (x1 : Vec Ideal S1024x768 .bf16) : out0_A_2 c i a3 h3 a4 h4 a5 h5 hc0 hc1 x0 x1 = k0_pay2 x0 x1 := by
  unfold out0_A_2
  rw [View.read_writes_eq_canon _ _ _ (cover0_A_2 c i a3 h3 a4 h4 a5 h5 hc0 hc1 x0 x1)]
  unfold kernelRun0_A
  dsimp only
  rw [View.canon_unit_zero hz3]
  simp only [View.readAt_eq_ld, h3.read_unread, h4.read_unread, View.ld_unit_zero (S := S1024x1024) hz2, View.ld_unit_zero (S := S1024x768) hz2]

theorem out_B (i : grid0.Coords) (a3 : Memref sig .tc .vmem S1024x1024 .bf16) (h3 : a3.IsWhole) (a4 : Memref sig .tc .vmem S1024x768 .bf16)
    (h4 : a4.IsWhole) (a5 : Memref sig .tc .vmem S1x1024x768 .f32) (h5 : a5.IsWhole) (hc0 : ¬cond0_0 i) (hc1 : cond0_1 i)
    (x0 : Vec Ideal S1024x1024 .bf16) (x1 : Vec Ideal S1024x768 .bf16) (xo : Vec Ideal S1x1024x768 .f32) :
    out0_B_2 c i a3 h3 a4 h4 a5 h5 hc0 hc1 x0 x1 xo = k0_pay3 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero hz3]
  simp only [View.readAt_eq_ld, h3.read_unread, h4.read_unread, h5.read_unread, View.ld_unit_zero (S := S1024x1024) hz2,
    View.ld_unit_zero (S := S1024x768) hz2, View.ld_unit_zero (S := S1x1024x768) hz3]

theorem first_apply (t : Fin grid0.N) (y : S1x1024x768.Idx) : k0_pay2 (iblk m c 0 t) (iblk m c 1 t) y
    = ∑ k ∈ range 1024, Cert.Proj.qkvDwTerm (arg0 m c) (arg1 m c) (t.val / 4) (y 1).val (y 2).val (1024 * (t.val % 4) + k) := by
  unfold k0_pay2
  exact (add1_apply (k0_pay1 (iblk m c 0 t) (iblk m c 1 t)) shapeCasts_S1024x768_S1x1024x768 y).trans (pay_apply m c t _)

theorem next_apply (t : Fin grid0.N) (xo : Vec Ideal S1x1024x768 .f32) (y : S1x1024x768.Idx) : k0_pay3 (iblk m c 0 t) (iblk m c 1 t) xo y
    = xo y + ∑ k ∈ range 1024, Cert.Proj.qkvDwTerm (arg0 m c) (arg1 m c) (t.val / 4) (y 1).val (y 2).val (1024 * (t.val % 4) + k) := by
  unfold k0_pay3
  refine (add1_apply (addf (shapeCast S1024x768 xo shapeCasts_S1x1024x768_S1024x768) (k0_pay1 (iblk m c 0 t) (iblk m c 1 t)))
    shapeCasts_S1024x768_S1x1024x768 y).trans ?_
  show shapeCast S1024x768 xo shapeCasts_S1x1024x768_S1024x768 (ix2 (y 1) (y 2)) + _ = _
  refine congrArg₂ (· + ·) ((drop1_apply xo shapeCasts_S1x1024x768_S1024x768 _).trans (congrArg xo ?_)) (pay_apply m c t _)
  exact (congrArg (fun a : Fin 1 => (ix3 a (y 1) (y 2) : S1x1024x768.Idx)) (Subsingleton.elim _ _)).trans (eq_ix3 y).symm

/-- After each point its weight block holds the product over the row tiles met so far. -/
theorem outs_apply (n : ℕ) (hn : n < cfg0.N) (y : S1x1024x768.Idx) :
    outsAt0 m c n hn y = ∑ k ∈ range (1024 * (n % 4 + 1)), Cert.Proj.qkvDwTerm (arg0 m c) (arg1 m c) (n / 4) (y 1).val (y 2).val k := by
  induction n generalizing y with
  | zero =>
    refine (congrFun ((outsAt0_A m c ⟨0, hn⟩ rfl (by show ¬1 ≤ 0 % 4; decide)).trans (out_A ..)) y).trans ((first_apply m c ⟨0, hn⟩ y).trans ?_)
    exact sum_congr rfl fun k _ => congrArg _ (Nat.zero_add k)
  | succ n ih =>
    by_cases h : (n + 1) % 4 = 0
    · refine (congrFun ((outsAt0_A m c ⟨n + 1, hn⟩ h (by show ¬1 ≤ (n + 1) % 4; omega)).trans (out_A ..)) y).trans ((first_apply m c ⟨n + 1, hn⟩ y).trans ?_)
      show ∑ k ∈ range 1024, Cert.Proj.qkvDwTerm _ _ ((n + 1) / 4) _ _ (1024 * ((n + 1) % 4) + k) = _
      rw [h]
      exact sum_congr rfl fun k _ => congrArg _ (Nat.zero_add k)
    · refine (congrFun ((outsAt0_B m c ⟨n + 1, hn⟩ h (by show 1 ≤ (n + 1) % 4; omega)).trans (out_B ..)) y).trans ((next_apply m c ⟨n + 1, hn⟩ _ y).trans ?_)
      show outsAt0 m c n _ y + _ = _
      rw [ih, Nat.mul_add 1024 ((n + 1) % 4) 1, sum_range_add]
      rw [show n / 4 = (n + 1) / 4 by omega, show n % 4 + 1 = (n + 1) % 4 by omega]

/-! ## The result -/

theorem final : (dats m 0 c).arrAt 2 cfg0.N = Cert.Proj.qkvDw (arg0 m c) (arg1 m c) := by
  refine (dats m 0 c).arrAt_eq_of_covers 2 (Cert.Proj.qkvDw (arg0 m c) (arg1 m c)) (by decide +kernel) fun t hf y => ?_
  have ht : t.val % 4 = 3 := (flush0_2 t).mp hf
  have hy : (y 0).val = 0 := Nat.lt_one_iff.mp (y 0).isLt
  have e0 : ((win0_2.rect t).emb y 0).val = t.val / 4 :=
    (win0_2.rect_emb_val t y 0).trans (by rw [(index2 t).1, hy]; exact (Nat.add_zero _).trans (Nat.mul_one _))
  have e1 : ((win0_2.rect t).emb y 1).val = (y 1).val := (win0_2.rect_emb_val t y 1).trans (by rw [(index2 t).2.1, Nat.zero_mul, Nat.zero_add])
  have e2 : ((win0_2.rect t).emb y 2).val = (y 2).val := (win0_2.rect_emb_val t y 2).trans (by rw [(index2 t).2.2, Nat.zero_mul, Nat.zero_add])
  show (dats m 0 c).after 2 t y = Cert.Proj.qkvDw (arg0 m c) (arg1 m c) ((win0_2.rect t).emb y)
  rw [after0_2]
  refine (outs_apply m c t.val t.isLt y).trans ?_
  unfold Cert.Proj.qkvDw
  rw [e0, e1, e2, ht]

theorem run : θ_run defs (onTc (τ := τ) (main (F := Ideal))) ⟨m, fun _ => 0, ρ⟩ fun r => ∀ c : Dev nD,
    r.2.mem ((c : Thread nD τ).loc main_v0) = Cert.Proj.qkvDw (arg0 m c) (arg1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel11Ideal.Proj

namespace Cert.Reference11Ideal.Proj

open Cert.Reference11Ideal Cert.Reference11Ideal.Gen Cert.Reference11Ideal.Read Cert.Attn Cert.Product
open Idealize.ShloMosaic hiding ix2 ix3 eq_ix2 eq_ix3
open Idealize.ShloMosaic.TcCoe Idealize.ShloMosaic.ValueIdx Idealize.SL.Sem Finset

variable (x0 : FVec Ideal S4096x1024 .bf16) (x1 : FVec Ideal S4096x3072 .bf16)

theorem grad_apply (i : S4x1024x768.Idx) : val_main_v7 (F := Ideal) x0 x1 i = Cert.Proj.qkvDw x0 x1 i := by
  have h0 : (i 0).val < 4 := (i 0).isLt
  have h1 : (i 1).val < 1024 := (i 1).isLt
  have h2 : (i 2).val < 768 := (i 2).isLt
  rw [val_main_v7_apply, val_main_v6_apply, val_main_v5_apply, val_main_v4_apply]
  unfold Cert.Proj.qkvDw
  rw [← sum_fin]
  refine sum_congr rfl fun k _ => ?_
  unfold Cert.Proj.qkvDwTerm
  rw [mul_comm]
  refine congrArg₂ (· * ·) (at2_of x0 _ _ _ rfl ?_) (at2_of x1 _ _ _ rfl ?_)
  · show (((i 1).val * 4 + (i 0).val) * 768 + (i 2).val) / 3072 = _
    omega
  · show (((i 1).val * 4 + (i 0).val) * 768 + (i 2).val) % 3072 = _
    omega

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = Cert.Proj.qkvDw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext (grad_apply _ _)), (h c).2⟩) (Value.run (F := Ideal) m ρ)

end Cert.Reference11Ideal.Proj

end
-- ==== Proof.Math.Residual.lean ====
/- The factor of the residual branch. -/
module

public import proofs.«01_k».proof.Proof.Math.Product

@[expose] public section

noncomputable section

namespace Cert.Proj

open Idealize.ShloMosaic

/-- The residual's factor. -/
def residual : EReal := Ideal.ofBits .f32 0x3FB504F3#32

end Cert.Proj

end
-- ==== Proof.Proj.QkvDx.lean ====
/- The gradient of the attention's input: on the grid of row tiles by weight blocks each row tile's block of the result takes
   the first product and the residual's share, then adds the other three products, so it ends holding the product over all 3072
   columns and the residual's share. -/
module

public import proofs.«01_k».proof.Proof.Math.Product
public import proofs.«01_k».proof.Proof.Math.Residual
public import proofs.«01_k».proof.Proof.Gen.Kernel12Ideal.Value
public import Idealize.ShloMosaic.Lib.Pipeline.ValueKit
public import proofs.«01_k».proof.Proof.Gen.Reference12Ideal.Run
public import proofs.«01_k».proof.Proof.Gen.Reference12Ideal.Read

@[expose] public section

set_option maxRecDepth 16384

noncomputable section

namespace Cert.Proj

open Cert.Attn Cert.Product Idealize.ShloMosaic Finset

/-- A term of the product of two rows over all the columns, the weight's columns in four blocks. -/
def qkvDxTerm (x0 : (⟨2, ![4096, 3072]⟩ : Shape).Idx → EReal) (x1 : (⟨3, ![4, 1024, 768]⟩ : Shape).Idx → EReal) (i j k : ℕ) : EReal :=
  at2 x0 i k * at3 x1 (k / 768) j (k % 768)

/-- The gradient at the attention's input. -/
def qkvDx (x0 : (⟨2, ![4096, 3072]⟩ : Shape).Idx → EReal) (x1 : (⟨3, ![4, 1024, 768]⟩ : Shape).Idx → EReal)
    (x2 : (⟨2, ![4096, 1024]⟩ : Shape).Idx → EReal) : (⟨2, ![4096, 1024]⟩ : Shape).Idx → EReal :=
  fun i => ∑ k ∈ range 3072, qkvDxTerm x0 x1 (i 0).val (i 1).val k + residual * at2 x2 (i 0).val (i 1).val

end Cert.Proj

namespace Cert.Kernel12Ideal.Proj

open Cert.Kernel12Ideal Cert.Kernel12Ideal.Gen Cert.Attn Cert.Product
open Idealize.ShloMosaic hiding ix2 ix3 eq_ix2 eq_ix3
open Idealize.ShloMosaic.TcCoe Idealize.ShloMosaic.ValueIdx Idealize.SL.Sem Finset
open Idealize.ShloMosaic.Pipeline (Dat Cfg Window)

variable (m : (ℓ : Loc nD τ sig) → Buf (Elt Ideal) ℓ) (ρ : Dev nD → PrngReg) (c : Dev nD)

abbrev arg0 : FVec Ideal S4096x3072 .bf16 := m ((c : Thread nD τ).loc main_arg0)
abbrev arg1 : FVec Ideal S4x1024x768 .bf16 := m ((c : Thread nD τ).loc main_arg1)
abbrev arg2 : FVec Ideal S4096x1024 .f32 := m ((c : Thread nD τ).loc main_arg2)

/-! ## The blocks -/

theorem index0 : ∀ t : Fin grid0.N, win0_0.index t 0 = t.val / 4 ∧ win0_0.index t 1 = t.val % 4 := by decide +kernel
theorem index1 : ∀ t : Fin grid0.N, win0_1.index t 0 = t.val % 4 ∧ win0_1.index t 1 = 0 ∧ win0_1.index t 2 = 0 := by decide +kernel
theorem index2 : ∀ t : Fin grid0.N, win0_2.index t 0 = t.val / 4 ∧ win0_2.index t 1 = 0 := by decide +kernel
theorem index3 : ∀ t : Fin grid0.N, win0_3.index t 0 = t.val / 4 ∧ win0_3.index t 1 = 0 := by decide +kernel

theorem block0 (t : Fin grid0.N) (y : S1024x768.Idx) :
    iblk m c 0 t y = at2 (arg0 m c) (t.val / 4 * 1024 + (y 0).val) (t.val % 4 * 768 + (y 1).val) :=
  (congrFun (V_main_arg0 m c) ((win0_0.rect t).emb y)).trans (at2_of (arg0 m c) ((win0_0.rect t).emb y) _ _
    ((win0_0.rect_emb_val t y 0).trans (by rw [(index0 t).1]; rfl)) ((win0_0.rect_emb_val t y 1).trans (by rw [(index0 t).2]; rfl)))
theorem block1 (t : Fin grid0.N) (y : S1x1024x768.Idx) :
    iblk m c 1 t y = at3 (arg1 m c) (t.val % 4 * 1 + (y 0).val) (0 * 1024 + (y 1).val) (0 * 768 + (y 2).val) :=
  (congrFun (V_main_arg1 m c) ((win0_1.rect t).emb y)).trans (at3_of (arg1 m c) ((win0_1.rect t).emb y) _ _ _
    ((win0_1.rect_emb_val t y 0).trans (by rw [(index1 t).1]; rfl)) ((win0_1.rect_emb_val t y 1).trans (by rw [(index1 t).2.1]; rfl))
    ((win0_1.rect_emb_val t y 2).trans (by rw [(index1 t).2.2]; rfl)))

theorem block2 (t : Fin grid0.N) (y : S1024x1024.Idx) :
    iblk m c 2 t y = at2 (arg2 m c) (t.val / 4 * 1024 + (y 0).val) (0 * 1024 + (y 1).val) :=
  (congrFun (V_main_arg2 m c) ((win0_2.rect t).emb y)).trans (at2_of (arg2 m c) ((win0_2.rect t).emb y) _ _
    ((win0_2.rect_emb_val t y 0).trans (by rw [(index2 t).1]; rfl)) ((win0_2.rect_emb_val t y 1).trans (by rw [(index2 t).2]; rfl)))

/-! ## A point's product and what it leaves -/

theorem pay_apply (t : Fin grid0.N) (y : S1024x1024.Idx) :
    k0_pay1 (iblk m c 0 t) (iblk m c 1 t) y = ∑ k ∈ range 768, Cert.Proj.qkvDxTerm (arg0 m c) (arg1 m c) (t.val / 4 * 1024 + (y 0).val) (y 1).val (768 * (t.val % 4) + k) := by
  unfold k0_pay1
  refine (nt_apply (M := 1024) (K := 768) (N := 1024) (iblk m c 0 t) (shapeCast S1024x768 (iblk m c 1 t) shapeCasts_S1x1024x768_S1024x768) y).trans ?_
  refine sum_congr rfl fun k hk => ?_
  have hk := mem_range.mp hk
  unfold Cert.Proj.qkvDxTerm
  rw [← at2_of _ (ix2 (y 0) ⟨k, hk⟩ : S1024x768.Idx) _ _ rfl rfl, ← at2_of _ (ix2 (y 1) ⟨k, hk⟩ : S1024x768.Idx) _ _ rfl rfl, block0]
  refine congrArg₂ (· * ·) ?_ ?_
  · show at2 _ _ (t.val % 4 * 768 + k) = _
    rw [Nat.mul_comm (t.val % 4)]
  · refine (drop1_apply (iblk m c 1 t) shapeCasts_S1x1024x768_S1024x768 _).trans ((block1 m c t _).trans ?_)
    show at3 _ (t.val % 4 * 1 + 0) (0 * 1024 + (y 1).val) (0 * 768 + k) = _
    congr 1 <;> omega

theorem out_A (i : grid0.Coords) (a3 : Memref sig .tc .vmem S1024x768 .bf16) (h3 : a3.IsWhole) (a4 : Memref sig .tc .vmem S1x1024x768 .bf16)
    (h4 : a4.IsWhole) (a5 : Memref sig .tc .vmem S1024x1024 .f32) (h5 : a5.IsWhole) (a6 : Memref sig .tc .vmem S1024x1024 .f32) (h6 : a6.IsWhole)
    (hc0 : cond0_0 i) (hc1 : ¬cond0_1 i) (x0 : Vec Ideal S1024x768 .bf16) (x1 : Vec Ideal S1x1024x768 .bf16) (x2 : Vec Ideal S1024x1024 .f32) :
    out0_A_3 c i a3 h3 a4 h4 a5 h5 a6 h6 hc0 hc1 x0 x1 x2 = k0_pay2 x0 x1 x2 := by
  unfold out0_A_3
  rw [View.read_writes_eq_canon _ _ _ (cover0_A_3 c i a3 h3 a4 h4 a5 h5 a6 h6 hc0 hc1 x0 x1 x2)]
  unfold kernelRun0_A
  dsimp only
  rw [View.canon_unit_zero hz2]
  simp only [View.readAt_eq_ld, h3.read_unread, h4.read_unread, h5.read_unread, View.ld_unit_zero (S := S1024x768) hz2,
    View.ld_unit_zero (S := S1x1024x768) hz3, View.ld_unit_zero (S := S1024x1024) hz2]

theorem out_B (i : grid0.Coords) (a3 : Memref sig .tc .vmem S1024x768 .bf16) (h3 : a3.IsWhole) (a4 : Memref sig .tc .vmem S1x1024x768 .bf16)
    (h4 : a4.IsWhole) (a5 : Memref sig .tc .vmem S1024x1024 .f32) (h5 : a5.IsWhole) (a6 : Memref sig .tc .vmem S1024x1024 .f32) (h6 : a6.IsWhole)
    (hc0 : ¬cond0_0 i) (hc1 : cond0_1 i) (x0 : Vec Ideal S1024x768 .bf16) (x1 : Vec Ideal S1x1024x768 .bf16) (x2 xo : Vec Ideal S1024x1024 .f32) :
    out0_B_3 c i a3 h3 a4 h4 a5 h5 a6 h6 hc0 hc1 x0 x1 x2 xo = k0_pay3 x0 x1 xo := by
  unfold out0_B_3
  rw [View.read_writes_eq_canon _ _ _ (cover0_B_3 c i a3 h3 a4 h4 a5 h5 a6 h6 hc0 hc1 x0 x1 x2 xo)]
  unfold kernelRun0_B
  dsimp only
  rw [View.canon_unit_zero hz2]
  simp only [View.readAt_eq_ld, h3.read_unread, h4.read_unread, h6.read_unread, View.ld_unit_zero (S := S1024x768) hz2,
    View.ld_unit_zero (S := S1x1024x768) hz3, View.ld_unit_zero (S := S1024x1024) hz2]

/-- The residual's share of a row tile's block. -/
theorem share_apply (t : Fin grid0.N) (y : S1024x1024.Idx) :
    iblk m c 2 t y = at2 (arg2 m c) (t.val / 4 * 1024 + (y 0).val) (y 1).val :=
  (block2 m c t y).trans (by rw [Nat.zero_mul, Nat.zero_add])

theorem first_apply (t : Fin grid0.N) (h : t.val % 4 = 0) (y : S1024x1024.Idx) : k0_pay2 (iblk m c 0 t) (iblk m c 1 t) (iblk m c 2 t) y
    = ∑ k ∈ range 768, Cert.Proj.qkvDxTerm (arg0 m c) (arg1 m c) (t.val / 4 * 1024 + (y 0).val) (y 1).val k
      + Cert.Proj.residual * at2 (arg2 m c) (t.val / 4 * 1024 + (y 0).val) (y 1).val := by
  unfold k0_pay2
  refine congrArg₂ (· + ·) ((pay_apply m c t y).trans ?_) (congrArg₂ (· * ·) rfl (share_apply m c t y))
  rw [h]
  exact sum_congr rfl fun k _ => congrArg _ (Nat.zero_add k)

/-- After each point its row tile's block holds the product over the weight blocks met so far, and the residual's share. -/
theorem outs_apply (n : ℕ) (hn : n < cfg0.N) (y : S1024x1024.Idx) :
    outsAt0 m c n hn y = ∑ k ∈ range (768 * (n % 4 + 1)), Cert.Proj.qkvDxTerm (arg0 m c) (arg1 m c) (n / 4 * 1024 + (y 0).val) (y 1).val k
      + Cert.Proj.residual * at2 (arg2 m c) (n / 4 * 1024 + (y 0).val) (y 1).val := by
  induction n generalizing y with
  | zero => exact (congrFun ((outsAt0_A m c ⟨0, hn⟩ rfl (by show ¬1 ≤ 0 % 4; decide)).trans (out_A ..)) y).trans (first_apply m c ⟨0, hn⟩ rfl y)
  | succ n ih =>
    by_cases h : (n + 1) % 4 = 0
    · refine (congrFun ((outsAt0_A m c ⟨n + 1, hn⟩ h (by show ¬1 ≤ (n + 1) % 4; omega)).trans (out_A ..)) y).trans
        ((first_apply m c ⟨n + 1, hn⟩ h y).trans ?_)
      rw [h]
    · refine (congrFun ((outsAt0_B m c ⟨n + 1, hn⟩ h (by show 1 ≤ (n + 1) % 4; omega)).trans (out_B ..)) y).trans ?_
      unfold k0_pay3
      rw [shapeCast_self]
      show outsAt0 m c n _ y + k0_pay1 (iblk m c 0 ⟨n + 1, hn⟩) (iblk m c 1 ⟨n + 1, hn⟩) y = _
      rw [ih, pay_apply, Nat.mul_add 768 ((n + 1) % 4) 1, sum_range_add, add_right_comm]
      rw [show n / 4 = (n + 1) / 4 by omega, show n % 4 + 1 = (n + 1) % 4 by omega]

/-! ## The result -/

theorem final : (dats m 0 c).arrAt 3 cfg0.N = Cert.Proj.qkvDx (arg0 m c) (arg1 m c) (arg2 m c) := by
  refine (dats m 0 c).arrAt_eq_of_covers 3 (Cert.Proj.qkvDx (arg0 m c) (arg1 m c) (arg2 m c)) (by decide +kernel) fun t hf y => ?_
  have ht : t.val % 4 = 3 := (flush0_3 t).mp hf
  have e0 : ((win0_3.rect t).emb y 0).val = t.val / 4 * 1024 + (y 0).val := (win0_3.rect_emb_val t y 0).trans (by rw [(index3 t).1]; rfl)
  have e1 : ((win0_3.rect t).emb y 1).val = (y 1).val := (win0_3.rect_emb_val t y 1).trans (by rw [(index3 t).2, Nat.zero_mul, Nat.zero_add])
  show (dats m 0 c).after 3 t y = Cert.Proj.qkvDx (arg0 m c) (arg1 m c) (arg2 m c) ((win0_3.rect t).emb y)
  rw [after0_3]
  refine (outs_apply m c t.val t.isLt y).trans ?_
  unfold Cert.Proj.qkvDx
  rw [e0, e1, ht]

theorem run : θ_run defs (onTc (τ := τ) (main (F := Ideal))) ⟨m, fun _ => 0, ρ⟩ fun r => ∀ c : Dev nD,
    r.2.mem ((c : Thread nD τ).loc main_v0) = Cert.Proj.qkvDx (arg0 m c) (arg1 m c) (arg2 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (final m c), (h c).2⟩) (Value.run_blocks m ρ)

end Cert.Kernel12Ideal.Proj

namespace Cert.Reference12Ideal.Proj

open Cert.Reference12Ideal Cert.Reference12Ideal.Gen Cert.Reference12Ideal.Read Cert.Attn Cert.Product
open Idealize.ShloMosaic hiding ix2 ix3 eq_ix2 eq_ix3
open Idealize.ShloMosaic.TcCoe Idealize.ShloMosaic.ValueIdx Idealize.SL.Sem Finset

variable (x0 : FVec Ideal S4096x3072 .bf16) (x1 : FVec Ideal S4x1024x768 .bf16) (x2 : FVec Ideal S4096x1024 .f32)

/-- The four blocks of columns side by side. -/
theorem cols_apply (i : S1024x3072.Idx) : val_main_v4 (F := Ideal) x1 i = at3 x1 ((i 1).val / 768) (i 0).val ((i 1).val % 768) := by
  have h0 : (i 0).val < 1024 := (i 0).isLt
  have h1 : (i 1).val < 3072 := (i 1).isLt
  rw [val_main_v4_apply, val_main_v3_apply]
  refine at3_of x1 _ _ _ _ ?_ ?_ ?_
  · show ((i 0).val * 3072 + (i 1).val) / 768 % 4 = _
    omega
  · show ((i 0).val * 3072 + (i 1).val) / 3072 = _
    omega
  · show ((i 0).val * 3072 + (i 1).val) % 768 = _
    omega

theorem grad_apply (i : S4096x1024.Idx) : val_main_v11 (F := Ideal) x0 x1 x2 i = Cert.Proj.qkvDx x0 x1 x2 i := by
  rw [val_main_v11_apply, val_main_v10_apply, val_main_v8_apply]
  unfold Cert.Proj.qkvDx
  rw [← sum_fin]
  exact congrArg₂ (· + ·) (sum_congr rfl fun k _ => congrArg₂ (· * ·) (at2_of x0 _ _ _ rfl rfl) (cols_apply x1 _))
    (congrArg₂ (· * ·) rfl (at2_of x2 _ _ _ rfl rfl))

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = Cert.Proj.qkvDx (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext (grad_apply _ _ _)), (h c).2⟩) (Value.run (F := Ideal) m ρ)

end Cert.Reference12Ideal.Proj

end
-- ==== Proof.Proj.UpFwd.lean ====
/- The up projection: every block is one product of a tile of rows by a block of columns. -/
module

public import proofs.«01_k».proof.Proof.Math.Product
public import proofs.«01_k».proof.Proof.Gen.Kernel13Ideal.Value
public import Idealize.ShloMosaic.Lib.Pipeline.ValueKit
public import proofs.«01_k».proof.Proof.Gen.Reference13Ideal.Run
public import proofs.«01_k».proof.Proof.Gen.Reference13Ideal.Read

@[expose] public section

set_option maxRecDepth 16384

noncomputable section

namespace Cert.Proj

open Cert.Attn Cert.Product Idealize.ShloMosaic Finset

/-- A row of the input by a column of one of the weight's four blocks. -/
def upFwd (x0 : (⟨2, ![4096, 1024]⟩ : Shape).Idx → EReal) (x1 : (⟨3, ![4, 1024, 1408]⟩ : Shape).Idx → EReal) : (⟨2, ![4096, 5632]⟩ : Shape).Idx → EReal :=
  fun i => ∑ k ∈ range 1024, at2 x0 (i 0).val k * at3 x1 ((i 1).val / 1408) k ((i 1).val % 1408)

end Cert.Proj

namespace Cert.Kernel13Ideal.Proj

open Cert.Kernel13Ideal Cert.Kernel13Ideal.Gen Cert.Attn Cert.Product
open Idealize.ShloMosaic hiding ix2 ix3 eq_ix2 eq_ix3
open Idealize.ShloMosaic.TcCoe Idealize.ShloMosaic.ValueIdx Idealize.SL.Sem Finset
open Idealize.ShloMosaic.Pipeline (Dat Cfg Window)

variable (m : (ℓ : Loc nD τ sig) → Buf (Elt Ideal) ℓ) (ρ : Dev nD → PrngReg) (c : Dev nD)

abbrev arg0 : FVec Ideal S4096x1024 .bf16 := m ((c : Thread nD τ).loc main_arg0)
abbrev arg1 : FVec Ideal S4x1024x1408 .bf16 := m ((c : Thread nD τ).loc main_arg1)

/-! ## The blocks -/

theorem index0 : ∀ t : Fin grid0.N, win0_0.index t 0 = t.val % 4 ∧ win0_0.index t 1 = 0 := by decide +kernel
theorem index1 : ∀ t : Fin grid0.N, win0_1.index t 0 = t.val / 4 ∧ win0_1.index t 1 = 0 ∧ win0_1.index t 2 = 0 := by decide +kernel
theorem index2 : ∀ t : Fin grid0.N, win0_2.index t 0 = t.val % 4 ∧ win0_2.index t 1 = t.val / 4 := by decide +kernel

theorem block0 (t : Fin grid0.N) (y : S1024x1024.Idx) :
    iblk m c 0 t y = at2 (arg0 m c) (t.val % 4 * 1024 + (y 0).val) (0 * 1024 + (y 1).val) :=
  (congrFun (V_main_arg0 m c) ((win0_0.rect t).emb y)).trans (at2_of (arg0 m c) ((win0_0.rect t).emb y) _ _
    ((win0_0.rect_emb_val t y 0).trans (by rw [(index0 t).1]; rfl)) ((win0_0.rect_emb_val t y 1).trans (by rw [(index0 t).2]; rfl)))
theorem block1 (t : Fin grid0.N) (y : S1x1024x1408.Idx) :
    iblk m c 1 t y = at3 (arg1 m c) (t.val / 4 * 1 + (y 0).val) (0 * 1024 + (y 1).val) (0 * 1408 + (y 2).val) :=
  (congrFun (V_main_arg1 m c) ((win0_1.rect t).emb y)).trans (at3_of (arg1 m c) ((win0_1.rect t).emb y) _ _ _
    ((win0_1.rect_emb_val t y 0).trans (by rw [(index1 t).1]; rfl)) ((win0_1.rect_emb_val t y 1).trans (by rw [(index1 t).2.1]; rfl))
    ((win0_1.rect_emb_val t y 2).trans (by rw [(index1 t).2.2]; rfl)))

/-- The block a point leaves. -/
theorem block_apply (t : Fin grid0.N) (y : S1024x1408.Idx) :
    out0_2 (iblk m c 0 t) (iblk m c 1 t) y
      = ∑ k ∈ range 1024, at2 (arg0 m c) (t.val % 4 * 1024 + (y 0).val) k * at3 (arg1 m c) (t.val / 4) k (y 1).val := by
  unfold out0_2
  rw [View.canon_unit_zero hz2]
  simp only [View.ld_unit_zero (S := S1024x1024) hz2, View.ld_unit_zero (S := S1x1024x1408) hz3]
  unfold k0_pay1
  refine (nn_apply (M := 1024) (K := 1024) (N := 1408) (iblk m c 0 t) (shapeCast S1024x1408 (iblk m c 1 t) shapeCasts_S1x1024x1408_S1024x1408) y).trans ?_
  refine sum_congr rfl fun k hk => ?_
  have hk := mem_range.mp hk
  rw [← at2_of _ (ix2 (y 0) ⟨k, hk⟩ : S1024x1024.Idx) _ _ rfl rfl, ← at2_of _ (ix2 ⟨k, hk⟩ (y 1) : S1024x1408.Idx) _ _ rfl rfl, block0]
  refine congrArg₂ (· * ·) ?_ ?_
  · show at2 _ _ (0 * 1024 + k) = _
    rw [Nat.zero_mul, Nat.zero_add]
  · refine (drop1_apply (iblk m c 1 t) shapeCasts_S1x1024x1408_S1024x1408 _).trans ((block1 m c t _).trans ?_)
    show at3 _ (t.val / 4 * 1 + 0) (0 * 1024 + k) (0 * 1408 + (y 1).val) = _
    rw [Nat.mul_one, Nat.add_zero, Nat.zero_mul, Nat.zero_add, Nat.zero_add]

/-! ## The result -/

theorem final : (dats m 0 c).arrAt 2 cfg0.N = Cert.Proj.upFwd (arg0 m c) (arg1 m c) := by
  refine (dats m 0 c).arrAt_eq_of_covers 2 (Cert.Proj.upFwd (arg0 m c) (arg1 m c)) (by decide +kernel) fun t _ y => ?_
  have e0 : ((win0_2.rect t).emb y 0).val = t.val % 4 * 1024 + (y 0).val := (win0_2.rect_emb_val t y 0).trans (by rw [(index2 t).1]; rfl)
  have e1 : ((win0_2.rect t).emb y 1).val = t.val / 4 * 1408 + (y 1).val := (win0_2.rect_emb_val t y 1).trans (by rw [(index2 t).2]; rfl)
  show (dats m 0 c).after 2 t y = Cert.Proj.upFwd (arg0 m c) (arg1 m c) ((win0_2.rect t).emb y)
  rw [after0_2]
  refine (block_apply m c t y).trans ?_
  unfold Cert.Proj.upFwd
  have h1 : (y 1).val < 1408 := (y 1).isLt
  rw [e0, e1, show (t.val / 4 * 1408 + (y 1).val) / 1408 = t.val / 4 by omega, show (t.val / 4 * 1408 + (y 1).val) % 1408 = (y 1).val by omega]

theorem run : θ_run defs (onTc (τ := τ) (main (F := Ideal))) ⟨m, fun _ => 0, ρ⟩ fun r => ∀ c : Dev nD,
    r.2.mem ((c : Thread nD τ).loc main_v0) = Cert.Proj.upFwd (arg0 m c) (arg1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel13Ideal.Proj

namespace Cert.Reference13Ideal.Proj

open Cert.Reference13Ideal Cert.Reference13Ideal.Gen Cert.Reference13Ideal.Read Cert.Attn Cert.Product
open Idealize.ShloMosaic hiding ix2 ix3 eq_ix2 eq_ix3
open Idealize.ShloMosaic.TcCoe Idealize.ShloMosaic.ValueIdx Idealize.SL.Sem Finset

variable (x0 : FVec Ideal S4096x1024 .bf16) (x1 : FVec Ideal S4x1024x1408 .bf16)

/-- The four blocks of columns side by side. -/
theorem cols_apply (i : S1024x5632.Idx) : val_main_v2 (F := Ideal) x1 i = at3 x1 ((i 1).val / 1408) (i 0).val ((i 1).val % 1408) := by
  have h0 : (i 0).val < 1024 := (i 0).isLt
  have h1 : (i 1).val < 5632 := (i 1).isLt
  rw [val_main_v2_apply, val_main_v1_apply]
  refine at3_of x1 _ _ _ _ ?_ ?_ ?_
  · show ((i 0).val * 5632 + (i 1).val) / 1408 % 4 = _
    omega
  · show ((i 0).val * 5632 + (i 1).val) / 5632 = _
    omega
  · show ((i 0).val * 5632 + (i 1).val) % 1408 = _
    omega

theorem out_apply (i : S4096x5632.Idx) : val_main_v4 (F := Ideal) x0 x1 i = Cert.Proj.upFwd x0 x1 i := by
  rw [val_main_v4_apply]
  unfold Cert.Proj.upFwd
  rw [← sum_fin]
  exact sum_congr rfl fun k _ => congrArg₂ (· * ·) (at2_of x0 _ _ _ rfl rfl) (cols_apply x1 _)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = Cert.Proj.upFwd (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext (out_apply _ _)), (h c).2⟩) (Value.run (F := Ideal) m ρ)

end Cert.Reference13Ideal.Proj

end
-- ==== Proof.Proj.DownFwd.lean ====
/- The down projection: each tile of rows gathers two products of rows by columns, one per half of the hidden columns, so it ends
   holding the product over all 2816. -/
module

public import proofs.«01_k».proof.Proof.Math.Product
public import proofs.«01_k».proof.Proof.Gen.Kernel14Ideal.Value
public import Idealize.ShloMosaic.Lib.Pipeline.ValueKit
public import proofs.«01_k».proof.Proof.Gen.Reference14Ideal.Run
public import proofs.«01_k».proof.Proof.Gen.Reference14Ideal.Read

@[expose] public section

set_option maxRecDepth 16384

noncomputable section

namespace Cert.Proj

open Cert.Attn Cert.Product Idealize.ShloMosaic Finset

/-- A term of the product of a hidden row by a column of the weight. -/
def downFwdTerm (x0 : (⟨2, ![4096, 2816]⟩ : Shape).Idx → EReal) (x1 : (⟨2, ![2816, 1024]⟩ : Shape).Idx → EReal) (i j k : ℕ) : EReal :=
  at2 x0 i k * at2 x1 k j

/-- The down projection. -/
def downFwd (x0 : (⟨2, ![4096, 2816]⟩ : Shape).Idx → EReal) (x1 : (⟨2, ![2816, 1024]⟩ : Shape).Idx → EReal) : (⟨2, ![4096, 1024]⟩ : Shape).Idx → EReal :=
  fun i => ∑ k ∈ range 2816, downFwdTerm x0 x1 (i 0).val (i 1).val k

end Cert.Proj

namespace Cert.Kernel14Ideal.Proj

open Cert.Kernel14Ideal Cert.Kernel14Ideal.Gen Cert.Attn Cert.Product
open Idealize.ShloMosaic hiding ix2 ix3 eq_ix2 eq_ix3
open Idealize.ShloMosaic.TcCoe Idealize.ShloMosaic.ValueIdx Idealize.SL.Sem Finset
open Idealize.ShloMosaic.Pipeline (Dat Cfg Window)

variable (m : (ℓ : Loc nD τ sig) → Buf (Elt Ideal) ℓ) (ρ : Dev nD → PrngReg) (c : Dev nD)

abbrev arg0 : FVec Ideal S4096x2816 .bf16 := m ((c : Thread nD τ).loc main_arg0)
abbrev arg1 : FVec Ideal S2816x1024 .bf16 := m ((c : Thread nD τ).loc main_arg1)

/-! ## The blocks -/

theorem index0 : ∀ t : Fin grid0.N, win0_0.index t 0 = t.val / 2 ∧ win0_0.index t 1 = t.val % 2 := by decide +kernel
theorem index1 : ∀ t : Fin grid0.N, win0_1.index t 0 = t.val % 2 ∧ win0_1.index t 1 = 0 := by decide +kernel
theorem index2 : ∀ t : Fin grid0.N, win0_2.index t 0 = t.val / 2 ∧ win0_2.index t 1 = 0 := by decide +kernel

theorem block0 (t : Fin grid0.N) (y : S1024x1408.Idx) :
    iblk m c 0 t y = at2 (arg0 m c) (t.val / 2 * 1024 + (y 0).val) (t.val % 2 * 1408 + (y 1).val) :=
  (congrFun (V_main_arg0 m c) ((win0_0.rect t).emb y)).trans (at2_of (arg0 m c) ((win0_0.rect t).emb y) _ _
    ((win0_0.rect_emb_val t y 0).trans (by rw [(index0 t).1]; rfl)) ((win0_0.rect_emb_val t y 1).trans (by rw [(index0 t).2]; rfl)))
theorem block1 (t : Fin grid0.N) (y : S1408x1024.Idx) :
    iblk m c 1 t y = at2 (arg1 m c) (t.val % 2 * 1408 + (y 0).val) (0 * 1024 + (y 1).val) :=
  (congrFun (V_main_arg1 m c) ((win0_1.rect t).emb y)).trans (at2_of (arg1 m c) ((win0_1.rect t).emb y) _ _
    ((win0_1.rect_emb_val t y 0).trans (by rw [(index1 t).1]; rfl)) ((win0_1.rect_emb_val t y 1).trans (by rw [(index1 t).2]; rfl)))

/-! ## A point's product and what it leaves -/

theorem pay_apply (t : Fin grid0.N) (y : S1024x1024.Idx) :
    k0_pay1 (iblk m c 0 t) (iblk m c 1 t) y
      = ∑ k ∈ range 1408, Cert.Proj.downFwdTerm (arg0 m c) (arg1 m c) (t.val / 2 * 1024 + (y 0).val) (y 1).val (1408 * (t.val % 2) + k) := by
  unfold k0_pay1
  refine (nn_apply (M := 1024) (K := 1408) (N := 1024) (iblk m c 0 t) (iblk m c 1 t) y).trans ?_
  refine sum_congr rfl fun k hk => ?_
  have hk := mem_range.mp hk
  unfold Cert.Proj.downFwdTerm
  rw [← at2_of _ (ix2 (y 0) ⟨k, hk⟩ : S1024x1408.Idx) _ _ rfl rfl, ← at2_of _ (ix2 ⟨k, hk⟩ (y 1) : S1408x1024.Idx) _ _ rfl rfl, block0, block1]
  show at2 _ (t.val / 2 * 1024 + (y 0).val) (t.val % 2 * 1408 + k) * at2 _ (t.val % 2 * 1408 + k) (0 * 1024 + (y 1).val) = _
  rw [Nat.mul_comm (t.val % 2), Nat.zero_mul, Nat.zero_add]

theorem out_A (i : grid0.Coords) (a3 : Memref sig .tc .vmem S1024x1408 .bf16) (h3 : a3.IsWhole) (a4 : Memref sig .tc .vmem S1408x1024 .bf16)
    (h4 : a4.IsWhole) (a5 : Memref sig .tc .vmem S1024x1024 .f32) (h5 : a5.IsWhole) (hc0 : cond0_0 i) (hc1 : ¬cond0_1 i)
    (x0 : Vec Ideal S1024x1408 .bf16) (x1 : Vec Ideal S1408x1024 .bf16) : out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero hz2]
  simp only [View.readAt_eq_ld, h3.read_unread, h4.read_unread, View.ld_unit_zero (S := S1024x1408) hz2, View.ld_unit_zero (S := S1408x1024) hz2]

theorem out_B (i : grid0.Coords) (a3 : Memref sig .tc .vmem S1024x1408 .bf16) (h3 : a3.IsWhole) (a4 : Memref sig .tc .vmem S1408x1024 .bf16)
    (h4 : a4.IsWhole) (a5 : Memref sig .tc .vmem S1024x1024 .f32) (h5 : a5.IsWhole) (hc0 : ¬cond0_0 i) (hc1 : cond0_1 i)
    (x0 : Vec Ideal S1024x1408 .bf16) (x1 : Vec Ideal S1408x1024 .bf16) (xo : Vec Ideal S1024x1024 .f32) (y : S1024x1024.Idx) :
    out0_B_2 c i a3 h3 a4 h4 a5 h5 hc0 hc1 x0 x1 xo y = xo y + k0_pay1 x0 x1 y := by
  unfold out0_B_2
  rw [View.read_writes_eq_canon _ _ _ (cover0_B_2 c i a3 h3 a4 h4 a5 h5 hc0 hc1 x0 x1 xo)]
  unfold kernelRun0_B
  dsimp only
  rw [View.canon_unit_zero hz2]
  simp only [View.readAt_eq_ld, h3.read_unread, h4.read_unread, h5.read_unread, View.ld_unit_zero (S := S1024x1408) hz2,
    View.ld_unit_zero (S := S1408x1024) hz2, View.ld_unit_zero (S := S1024x1024) hz2]
  show shapeCast S1024x1024 xo shapeCasts_S1024x1024_S1024x1024 y + _ = _
  rw [shapeCast_self]

/-- After each point its row tile's block holds the product over the halves met so far. -/
theorem outs_apply (n : ℕ) (hn : n < cfg0.N) (y : S1024x1024.Idx) :
    outsAt0 m c n hn y = ∑ k ∈ range (1408 * (n % 2 + 1)), Cert.Proj.downFwdTerm (arg0 m c) (arg1 m c) (n / 2 * 1024 + (y 0).val) (y 1).val k := by
  induction n with
  | zero =>
    refine (congrFun ((outsAt0_A m c ⟨0, hn⟩ rfl (by show ¬0 % 2 = 1; decide)).trans (out_A ..)) y).trans ((pay_apply m c ⟨0, hn⟩ y).trans ?_)
    exact sum_congr rfl fun k _ => congrArg _ (Nat.zero_add k)
  | succ n ih =>
    by_cases h : (n + 1) % 2 = 0
    · refine (congrFun ((outsAt0_A m c ⟨n + 1, hn⟩ h (by show ¬(n + 1) % 2 = 1; omega)).trans (out_A ..)) y).trans ((pay_apply m c ⟨n + 1, hn⟩ y).trans ?_)
      show ∑ k ∈ range 1408, Cert.Proj.downFwdTerm _ _ ((n + 1) / 2 * 1024 + _) _ (1408 * ((n + 1) % 2) + k) = _
      rw [h]
      exact sum_congr rfl fun k _ => congrArg _ (Nat.zero_add k)
    · refine (congrFun (outsAt0_B m c ⟨n + 1, hn⟩ h (by show (n + 1) % 2 = 1; omega)) y).trans ((out_B (y := y) ..).trans ?_)
      rw [pay_apply m c ⟨n + 1, hn⟩ y]
      show outsAt0 m c n _ y + _ = _
      rw [ih, Nat.mul_add 1408 ((n + 1) % 2) 1, sum_range_add]
      rw [show n / 2 = (n + 1) / 2 by omega, show n % 2 + 1 = (n + 1) % 2 by omega]

/-! ## The result -/

theorem final : (dats m 0 c).arrAt 2 cfg0.N = Cert.Proj.downFwd (arg0 m c) (arg1 m c) := by
  refine (dats m 0 c).arrAt_eq_of_covers 2 (Cert.Proj.downFwd (arg0 m c) (arg1 m c)) (by decide +kernel) fun t hf y => ?_
  have ht : t.val % 2 = 1 := (flush0_2 t).mp hf
  have e0 : ((win0_2.rect t).emb y 0).val = t.val / 2 * 1024 + (y 0).val := (win0_2.rect_emb_val t y 0).trans (by rw [(index2 t).1]; rfl)
  have e1 : ((win0_2.rect t).emb y 1).val = (y 1).val := (win0_2.rect_emb_val t y 1).trans (by rw [(index2 t).2, Nat.zero_mul, Nat.zero_add])
  show (dats m 0 c).after 2 t y = Cert.Proj.downFwd (arg0 m c) (arg1 m c) ((win0_2.rect t).emb y)
  rw [after0_2]
  refine (outs_apply m c t.val t.isLt y).trans ?_
  unfold Cert.Proj.downFwd
  rw [e0, e1, ht]

theorem run : θ_run defs (onTc (τ := τ) (main (F := Ideal))) ⟨m, fun _ => 0, ρ⟩ fun r => ∀ c : Dev nD,
    r.2.mem ((c : Thread nD τ).loc main_v0) = Cert.Proj.downFwd (arg0 m c) (arg1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel14Ideal.Proj

namespace Cert.Reference14Ideal.Proj

open Cert.Reference14Ideal Cert.Reference14Ideal.Gen Cert.Reference14Ideal.Read Cert.Attn Cert.Product
open Idealize.ShloMosaic hiding ix2 ix3 eq_ix2 eq_ix3
open Idealize.ShloMosaic.TcCoe Idealize.ShloMosaic.ValueIdx Idealize.SL.Sem Finset

variable (x0 : FVec Ideal S4096x2816 .bf16) (x1 : FVec Ideal S2816x1024 .bf16)

theorem out_apply (i : S4096x1024.Idx) : val_main_v2 (F := Ideal) x0 x1 i = Cert.Proj.downFwd x0 x1 i := by
  rw [val_main_v2_apply]
  unfold Cert.Proj.downFwd
  rw [← sum_fin]
  exact sum_congr rfl fun k _ => congrArg₂ (· * ·) (at2_of x0 _ _ _ rfl rfl) (at2_of x1 _ _ _ rfl rfl)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = Cert.Proj.downFwd (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext (out_apply _ _)), (h c).2⟩) (Value.run (F := Ideal) m ρ)

end Cert.Reference14Ideal.Proj

end
-- ==== Proof.Proj.OutFwd.lean ====
/- An output projection, the attention's and the mixer's, and the gate of the per-layer embedding: every block is one product of rows by
   columns. -/
module

public import proofs.«01_k».proof.Proof.Math.Product
public import proofs.«01_k».proof.Proof.Gen.Kernel15Ideal.Value
public import Idealize.ShloMosaic.Lib.Pipeline.ValueKit
public import proofs.«01_k».proof.Proof.Gen.Reference15Ideal.Run
public import proofs.«01_k».proof.Proof.Gen.Reference15Ideal.Read

@[expose] public section

set_option maxRecDepth 16384

noncomputable section

namespace Cert.Proj

open Cert.Attn Cert.Product Idealize.ShloMosaic Finset

/-- A row of the input by a column of the weight. -/
def outFwd (x0 : (⟨2, ![4096, 1024]⟩ : Shape).Idx → EReal) (x1 : (⟨2, ![1024, 1024]⟩ : Shape).Idx → EReal) : (⟨2, ![4096, 1024]⟩ : Shape).Idx → EReal :=
  fun i => ∑ k ∈ range 1024, at2 x0 (i 0).val k * at2 x1 k (i 1).val

end Cert.Proj

namespace Cert.Kernel15Ideal.Proj

open Cert.Kernel15Ideal Cert.Kernel15Ideal.Gen Cert.Attn Cert.Product
open Idealize.ShloMosaic hiding ix2 ix3 eq_ix2 eq_ix3
open Idealize.ShloMosaic.TcCoe Idealize.ShloMosaic.ValueIdx Idealize.SL.Sem Finset
open Idealize.ShloMosaic.Pipeline (Dat Cfg Window)

variable (m : (ℓ : Loc nD τ sig) → Buf (Elt Ideal) ℓ) (ρ : Dev nD → PrngReg) (c : Dev nD)

abbrev arg0 : FVec Ideal S4096x1024 .bf16 := m ((c : Thread nD τ).loc main_arg0)
abbrev arg1 : FVec Ideal S1024x1024 .bf16 := m ((c : Thread nD τ).loc main_arg1)

/-! ## The blocks -/

theorem index0 : ∀ t : Fin grid0.N, win0_0.index t 0 = t.val % 4 ∧ win0_0.index t 1 = 0 := by decide +kernel
theorem index1 : ∀ t : Fin grid0.N, win0_1.index t 0 = 0 ∧ win0_1.index t 1 = t.val / 4 := by decide +kernel
theorem index2 : ∀ t : Fin grid0.N, win0_2.index t 0 = t.val % 4 ∧ win0_2.index t 1 = t.val / 4 := by decide +kernel

theorem block0 (t : Fin grid0.N) (y : S1024x1024.Idx) :
    iblk m c 0 t y = at2 (arg0 m c) (t.val % 4 * 1024 + (y 0).val) (0 * 1024 + (y 1).val) :=
  (congrFun (V_main_arg0 m c) ((win0_0.rect t).emb y)).trans (at2_of (arg0 m c) ((win0_0.rect t).emb y) _ _
    ((win0_0.rect_emb_val t y 0).trans (by rw [(index0 t).1]; rfl)) ((win0_0.rect_emb_val t y 1).trans (by rw [(index0 t).2]; rfl)))
theorem block1 (t : Fin grid0.N) (y : S1024x1024.Idx) :
    iblk m c 1 t y = at2 (arg1 m c) (0 * 1024 + (y 0).val) (t.val / 4 * 1024 + (y 1).val) :=
  (congrFun (V_main_arg1 m c) ((win0_1.rect t).emb y)).trans (at2_of (arg1 m c) ((win0_1.rect t).emb y) _ _
    ((win0_1.rect_emb_val t y 0).trans (by rw [(index1 t).1]; rfl)) ((win0_1.rect_emb_val t y 1).trans (by rw [(index1 t).2]; rfl)))

/-- The block a point leaves. -/
theorem block_apply (t : Fin grid0.N) (y : S1024x1024.Idx) :
    out0_2 (iblk m c 0 t) (iblk m c 1 t) y
      = ∑ k ∈ range 1024, at2 (arg0 m c) (t.val % 4 * 1024 + (y 0).val) k * at2 (arg1 m c) k (t.val / 4 * 1024 + (y 1).val) := by
  unfold out0_2
  rw [View.canon_unit_zero hz2]
  simp only [View.ld_unit_zero (S := S1024x1024) hz2]
  unfold k0_pay1
  refine (nn_apply (M := 1024) (K := 1024) (N := 1024) (iblk m c 0 t) (iblk m c 1 t) y).trans ?_
  refine sum_congr rfl fun k hk => ?_
  have hk := mem_range.mp hk
  rw [← at2_of _ (ix2 (y 0) ⟨k, hk⟩ : S1024x1024.Idx) _ _ rfl rfl, ← at2_of _ (ix2 ⟨k, hk⟩ (y 1) : S1024x1024.Idx) _ _ rfl rfl, block0, block1]
  show at2 _ (t.val % 4 * 1024 + (y 0).val) (0 * 1024 + k) * at2 _ (0 * 1024 + k) (t.val / 4 * 1024 + (y 1).val) = _
  rw [Nat.zero_mul, Nat.zero_add]

/-! ## The result -/

theorem final : (dats m 0 c).arrAt 2 cfg0.N = Cert.Proj.outFwd (arg0 m c) (arg1 m c) := by
  refine (dats m 0 c).arrAt_eq_of_covers 2 (Cert.Proj.outFwd (arg0 m c) (arg1 m c)) (by decide +kernel) fun t _ y => ?_
  have e0 : ((win0_2.rect t).emb y 0).val = t.val % 4 * 1024 + (y 0).val := (win0_2.rect_emb_val t y 0).trans (by rw [(index2 t).1]; rfl)
  have e1 : ((win0_2.rect t).emb y 1).val = t.val / 4 * 1024 + (y 1).val := (win0_2.rect_emb_val t y 1).trans (by rw [(index2 t).2]; rfl)
  show (dats m 0 c).after 2 t y = Cert.Proj.outFwd (arg0 m c) (arg1 m c) ((win0_2.rect t).emb y)
  rw [after0_2]
  refine (block_apply m c t y).trans ?_
  unfold Cert.Proj.outFwd
  rw [e0, e1]

theorem run : θ_run defs (onTc (τ := τ) (main (F := Ideal))) ⟨m, fun _ => 0, ρ⟩ fun r => ∀ c : Dev nD,
    r.2.mem ((c : Thread nD τ).loc main_v0) = Cert.Proj.outFwd (arg0 m c) (arg1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel15Ideal.Proj

namespace Cert.Reference15Ideal.Proj

open Cert.Reference15Ideal Cert.Reference15Ideal.Gen Cert.Reference15Ideal.Read Cert.Attn Cert.Product
open Idealize.ShloMosaic hiding ix2 ix3 eq_ix2 eq_ix3
open Idealize.ShloMosaic.TcCoe Idealize.ShloMosaic.ValueIdx Idealize.SL.Sem Finset

variable (x0 : FVec Ideal S4096x1024 .bf16) (x1 : FVec Ideal S1024x1024 .bf16)

theorem out_apply (i : S4096x1024.Idx) : val_main_v2 (F := Ideal) x0 x1 i = Cert.Proj.outFwd x0 x1 i := by
  rw [val_main_v2_apply]
  unfold Cert.Proj.outFwd
  rw [← sum_fin]
  exact sum_congr rfl fun k _ => congrArg₂ (· * ·) (at2_of x0 _ _ _ rfl rfl) (at2_of x1 _ _ _ rfl rfl)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = Cert.Proj.outFwd (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext (out_apply _ _)), (h c).2⟩) (Value.run (F := Ideal) m ρ)

end Cert.Reference15Ideal.Proj

end
-- ==== Proof.Proj.QkvFwd.lean ====
/- The attention's input projection under 512 rows of zeros: the first tile of rows is zero, every other block is one product
   of a tile of rows by a block of columns. -/
module

public import proofs.«01_k».proof.Proof.Math.Product
public import proofs.«01_k».proof.Proof.Gen.Kernel16Ideal.Value
public import Idealize.ShloMosaic.Lib.Pipeline.ValueKit
public import Idealize.ShloMosaic.Lib.KernelVsHost
public import proofs.«01_k».proof.Proof.Gen.Reference16Ideal.Run
public import proofs.«01_k».proof.Proof.Gen.Reference16Ideal.Read

@[expose] public section

set_option maxRecDepth 16384

noncomputable section

namespace Cert.Proj

open Cert.Attn Cert.Product Idealize.ShloMosaic Finset

/-- A row of the input by a column of one of the weight's four blocks. -/
def qkvRow (x0 : (⟨2, ![4096, 1024]⟩ : Shape).Idx → EReal) (x1 : (⟨3, ![4, 1024, 768]⟩ : Shape).Idx → EReal) (i j : ℕ) : EReal :=
  ∑ k ∈ range 1024, at2 x0 i k * at3 x1 (j / 768) k (j % 768)

/-- The projected rows under 512 rows of zeros. -/
def qkvFwd (x0 : (⟨2, ![4096, 1024]⟩ : Shape).Idx → EReal) (x1 : (⟨3, ![4, 1024, 768]⟩ : Shape).Idx → EReal) : (⟨2, ![4608, 3072]⟩ : Shape).Idx → EReal :=
  fun i => if 512 ≤ (i 0).val then qkvRow x0 x1 ((i 0).val - 512) (i 1).val else 0

end Cert.Proj

namespace Cert.Kernel16Ideal.Proj

open Cert.Kernel16Ideal Cert.Kernel16Ideal.Gen Cert.Attn Cert.Product
open Idealize.ShloMosaic hiding ix2 ix3 eq_ix2 eq_ix3
open Idealize.ShloMosaic.TcCoe Idealize.ShloMosaic.ValueIdx Idealize.SL.Sem Finset
open Idealize.ShloMosaic.Pipeline (Dat Cfg Window)

variable (m : (ℓ : Loc nD τ sig) → Buf (Elt Ideal) ℓ) (ρ : Dev nD → PrngReg) (c : Dev nD)

abbrev arg0 : FVec Ideal S4096x1024 .bf16 := m ((c : Thread nD τ).loc main_arg0)
abbrev arg1 : FVec Ideal S4x1024x768 .bf16 := m ((c : Thread nD τ).loc main_arg1)

/-! ## The blocks -/

theorem index0 : ∀ t : Fin grid0.N, win0_0.index t 0 = t.val % 9 - 1 ∧ win0_0.index t 1 = 0 := by decide +kernel
theorem index1 : ∀ t : Fin grid0.N, win0_1.index t 0 = t.val / 9 ∧ win0_1.index t 1 = 0 ∧ win0_1.index t 2 = 0 := by decide +kernel
theorem index2 : ∀ t : Fin grid0.N, win0_2.index t 0 = t.val % 9 ∧ win0_2.index t 1 = t.val / 9 := by decide +kernel

theorem block0 (t : Fin grid0.N) (y : S512x1024.Idx) :
    iblk m c 0 t y = at2 (arg0 m c) ((t.val % 9 - 1) * 512 + (y 0).val) (0 * 1024 + (y 1).val) :=
  (congrFun (V_main_arg0 m c) ((win0_0.rect t).emb y)).trans (at2_of (arg0 m c) ((win0_0.rect t).emb y) _ _
    ((win0_0.rect_emb_val t y 0).trans (by rw [(index0 t).1]; rfl)) ((win0_0.rect_emb_val t y 1).trans (by rw [(index0 t).2]; rfl)))
theorem block1 (t : Fin grid0.N) (y : S1x1024x768.Idx) :
    iblk m c 1 t y = at3 (arg1 m c) (t.val / 9 * 1 + (y 0).val) (0 * 1024 + (y 1).val) (0 * 768 + (y 2).val) :=
  (congrFun (V_main_arg1 m c) ((win0_1.rect t).emb y)).trans (at3_of (arg1 m c) ((win0_1.rect t).emb y) _ _ _
    ((win0_1.rect_emb_val t y 0).trans (by rw [(index1 t).1]; rfl)) ((win0_1.rect_emb_val t y 1).trans (by rw [(index1 t).2.1]; rfl))
    ((win0_1.rect_emb_val t y 2).trans (by rw [(index1 t).2.2]; rfl)))

/-! ## The block a point leaves -/

theorem out_A (i : grid0.Coords) (a3 : Memref sig .tc .vmem S512x1024 .bf16) (h3 : a3.IsWhole) (a4 : Memref sig .tc .vmem S1x1024x768 .bf16)
    (h4 : a4.IsWhole) (a5 : Memref sig .tc .vmem S512x768 .bf16) (h5 : a5.IsWhole) (hc0 : cond0_0 i) (hc1 : ¬cond0_1 i)
    (x0 : Vec Ideal S512x1024 .bf16) (x1 : Vec Ideal S1x1024x768 .bf16) : out0_A_2 c i a3 h3 a4 h4 a5 h5 hc0 hc1 x0 x1 = k0_pay1 (F := Ideal) := by
  unfold out0_A_2
  rw [View.read_writes_eq_canon _ _ _ (cover0_A_2 c i a3 h3 a4 h4 a5 h5 hc0 hc1 x0 x1)]
  unfold kernelRun0_A
  dsimp only
  rw [View.canon_unit_zero hz2]

theorem out_B (i : grid0.Coords) (a3 : Memref sig .tc .vmem S512x1024 .bf16) (h3 : a3.IsWhole) (a4 : Memref sig .tc .vmem S1x1024x768 .bf16)
    (h4 : a4.IsWhole) (a5 : Memref sig .tc .vmem S512x768 .bf16) (h5 : a5.IsWhole) (hc0 : ¬cond0_0 i) (hc1 : cond0_1 i)
    (x0 : Vec Ideal S512x1024 .bf16) (x1 : Vec Ideal S1x1024x768 .bf16) : out0_B_2 c i a3 h3 a4 h4 a5 h5 hc0 hc1 x0 x1 = k0_pay2 x0 x1 := by
  unfold out0_B_2
  rw [View.read_writes_eq_canon _ _ _ (cover0_B_2 c i a3 h3 a4 h4 a5 h5 hc0 hc1 x0 x1)]
  unfold kernelRun0_B
  dsimp only
  rw [View.canon_unit_zero hz2]
  simp only [View.readAt_eq_ld, h3.read_unread, h4.read_unread, View.ld_unit_zero (S := S512x1024) hz2, View.ld_unit_zero (S := S1x1024x768) hz3]

theorem pay_apply (t : Fin grid0.N) (y : S512x768.Idx) : k0_pay2 (iblk m c 0 t) (iblk m c 1 t) y
    = ∑ k ∈ range 1024, at2 (arg0 m c) ((t.val % 9 - 1) * 512 + (y 0).val) k * at3 (arg1 m c) (t.val / 9) k (y 1).val := by
  unfold k0_pay2
  refine (nn_apply (φ₁ := .bf16) (φ₂ := .bf16) (M := 512) (K := 1024) (N := 768) (iblk m c 0 t) (shapeCast S1024x768 (iblk m c 1 t) shapeCasts_S1x1024x768_S1024x768) y).trans ?_
  refine sum_congr rfl fun k hk => ?_
  have hk := mem_range.mp hk
  rw [← at2_of _ (ix2 (y 0) ⟨k, hk⟩ : S512x1024.Idx) _ _ rfl rfl, ← at2_of _ (ix2 ⟨k, hk⟩ (y 1) : S1024x768.Idx) _ _ rfl rfl, block0]
  refine congrArg₂ (· * ·) ?_ ?_
  · show at2 _ _ (0 * 1024 + k) = _
    rw [Nat.zero_mul, Nat.zero_add]
  · refine (drop1_apply (iblk m c 1 t) shapeCasts_S1x1024x768_S1024x768 _).trans ((block1 m c t _).trans ?_)
    show at3 _ (t.val / 9 * 1 + 0) (0 * 1024 + k) (0 * 768 + (y 1).val) = _
    rw [Nat.mul_one, Nat.add_zero, Nat.zero_mul, Nat.zero_add, Nat.zero_add]

/-! ## The result -/

theorem final : (dats m 0 c).arrAt 2 cfg0.N = Cert.Proj.qkvFwd (arg0 m c) (arg1 m c) := by
  refine (dats m 0 c).arrAt_eq_of_covers 2 (Cert.Proj.qkvFwd (arg0 m c) (arg1 m c)) (by decide +kernel) fun t _ y => ?_
  have e0 : ((win0_2.rect t).emb y 0).val = t.val % 9 * 512 + (y 0).val := (win0_2.rect_emb_val t y 0).trans (by rw [(index2 t).1]; rfl)
  have e1 : ((win0_2.rect t).emb y 1).val = t.val / 9 * 768 + (y 1).val := (win0_2.rect_emb_val t y 1).trans (by rw [(index2 t).2]; rfl)
  have h0 : (y 0).val < 512 := (y 0).isLt
  have h1 : (y 1).val < 768 := (y 1).isLt
  show (dats m 0 c).after 2 t y = Cert.Proj.qkvFwd (arg0 m c) (arg1 m c) ((win0_2.rect t).emb y)
  rw [after0_2]
  unfold Cert.Proj.qkvFwd
  rw [e0, e1]
  by_cases h : t.val % 9 = 0
  · refine (congrFun ((outsAt0_A m c t h (by omega)).trans (out_A ..)) y).trans ?_
    rw [if_neg (by omega)]
    show Ideal.ofBits .bf16 0x0000#16 = 0
    exact Ideal.ofBits_zero_bf16
  · refine (congrFun ((outsAt0_B m c t h (by omega)).trans (out_B ..)) y).trans ((pay_apply m c t y).trans ?_)
    rw [if_pos (by omega)]
    unfold Cert.Proj.qkvRow
    rw [show (t.val / 9 * 768 + (y 1).val) / 768 = t.val / 9 by omega, show (t.val / 9 * 768 + (y 1).val) % 768 = (y 1).val by omega,
      show t.val % 9 * 512 + (y 0).val - 512 = (t.val % 9 - 1) * 512 + (y 0).val by omega]

theorem run : θ_run defs (onTc (τ := τ) (main (F := Ideal))) ⟨m, fun _ => 0, ρ⟩ fun r => ∀ c : Dev nD,
    r.2.mem ((c : Thread nD τ).loc main_v0) = Cert.Proj.qkvFwd (arg0 m c) (arg1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel16Ideal.Proj

namespace Cert.Reference16Ideal.Proj

open Cert.Reference16Ideal Cert.Reference16Ideal.Gen Cert.Reference16Ideal.Read Cert.Attn Cert.Product
open Idealize.ShloMosaic hiding ix2 ix3 eq_ix2 eq_ix3
open Idealize.ShloMosaic.TcCoe Idealize.ShloMosaic.ValueIdx Idealize.SL.Sem Finset

variable (x0 : FVec Ideal S4096x1024 .bf16) (x1 : FVec Ideal S4x1024x768 .bf16)

/-- The four blocks of columns side by side. -/
theorem cols_apply (i : S1024x3072.Idx) : val_main_v2 (F := Ideal) x1 i = at3 x1 ((i 1).val / 768) (i 0).val ((i 1).val % 768) := by
  have h0 : (i 0).val < 1024 := (i 0).isLt
  have h1 : (i 1).val < 3072 := (i 1).isLt
  rw [val_main_v2_apply, val_main_v1_apply]
  refine at3_of x1 _ _ _ _ ?_ ?_ ?_
  · show ((i 0).val * 3072 + (i 1).val) / 768 % 4 = _
    omega
  · show ((i 0).val * 3072 + (i 1).val) / 3072 = _
    omega
  · show ((i 0).val * 3072 + (i 1).val) % 768 = _
    omega

theorem row_apply (i : S4096x3072.Idx) : val_main_v4 (F := Ideal) x0 x1 i = Cert.Proj.qkvRow x0 x1 (i 0).val (i 1).val := by
  rw [val_main_v4_apply]
  unfold Cert.Proj.qkvRow
  rw [← sum_fin]
  exact sum_congr rfl fun k _ => congrArg₂ (· * ·) (at2_of x0 _ _ _ rfl rfl) (cols_apply x1 _)

theorem out_apply (i : S4608x3072.Idx) : val_main_v6 (F := Ideal) x0 x1 i = Cert.Proj.qkvFwd x0 x1 i := by
  have h0 : (i 0).val < 4608 := (i 0).isLt
  have h1 : (i 1).val < 3072 := (i 1).isLt
  rw [val_main_v6_apply]
  show val_main_v5 (F := Ideal) x0 x1 i = _
  unfold val_main_v5 Cert.Proj.qkvFwd
  split
  next h =>
    refine (pad_apply_of_inside _ _ _ _ _ _ _ i (ix2 ⟨(i 0).val - 512, by omega⟩ ⟨(i 1).val, h1⟩) ?_).trans (row_apply x0 x1 _)
    intro a
    fin_cases a
    · show (i 0).val = 512 + ((i 0).val - 512) * 1; omega
    · show (i 1).val = 0 + (i 1).val * 1; omega
  next h =>
    refine (pad_apply_of_not_inside _ _ _ _ _ _ _ i 0 ?_).trans ?_
    · intro hc
      have : 512 ≤ (i 0).val := hc.1
      omega
    · show (((0#32 : BitVec 32).toInt : ℝ) : EReal) = 0
      simp

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = Cert.Proj.qkvFwd (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext (out_apply _ _)), (h c).2⟩) (Value.run (F := Ideal) m ρ)

end Cert.Reference16Ideal.Proj

end
-- ==== Proof.Math.Blocks.lean ====
/- Four blocks of columns side by side: the blocks of an array of three axes joined along the columns, read at an element. -/
module

public import proofs.«01_k».proof.Proof.Math.Product
public import Idealize.ShloMosaic.Lib.Pipeline.ValueKit

@[expose] public section

noncomputable section

namespace Cert.Product

open Idealize.ShloMosaic hiding ix2 ix3 eq_ix2 eq_ix3
open Idealize.ShloMosaic.ValueIdx Finset
open Cert.Attn (at2 at2_of)

/-- A block of an array of three axes, its leading axis dropped. -/
theorem slab_apply {M N : ℕ} (x : (⟨3, ![4, M, N]⟩ : Shape).Idx → EReal) (d : ℕ)
    (inb : ∀ a, (![d, 0, 0] : Fin 3 → ℕ) a + (⟨3, ![1, M, N]⟩ : Shape).size a ≤ (⟨3, ![4, M, N]⟩ : Shape).size a)
    (h : (⟨3, ![1, M, N]⟩ : Shape).ShapeCasts ⟨2, ![M, N]⟩) (i : (⟨2, ![M, N]⟩ : Shape).Idx) :
    shapeCast ⟨2, ![M, N]⟩ (fun y => x ((Rect.unit (s := ⟨3, ![4, M, N]⟩) ![d, 0, 0] (⟨3, ![1, M, N]⟩ : Shape).size inb).emb y)) h i
      = at3 x d (i 0).val (i 1).val := by
  refine (drop1_apply _ h i).trans (at3_of x _ _ _ _ ?_ ?_ ?_)
  · show d + 1 * 0 = d; omega
  · show 0 + 1 * (i 0).val = _; omega
  · show 0 + 1 * (i 1).val = _; omega

/-- The four blocks joined along the columns. -/
theorem beside_apply {M N T : ℕ} (hT : T = 4 * N) (w : (⟨3, ![4, M, N]⟩ : Shape).Idx → EReal) (p0 p1 p2 p3 : (⟨2, ![M, N]⟩ : Shape).Idx → EReal)
    (h0 : ∀ i, p0 i = at3 w 0 (i 0).val (i 1).val) (h1 : ∀ i, p1 i = at3 w 1 (i 0).val (i 1).val)
    (h2 : ∀ i, p2 i = at3 w 2 (i 0).val (i 1).val) (h3 : ∀ i, p3 i = at3 w 3 (i 0).val (i 1).val)
    (h : Shape.Concatenates [⟨2, ![M, N]⟩, ⟨2, ![M, N]⟩, ⟨2, ![M, N]⟩, ⟨2, ![M, N]⟩] ⟨2, ![M, T]⟩ 1) (j : (⟨2, ![M, T]⟩ : Shape).Idx) :
    concatenate ⟨2, ![M, T]⟩ 1 [⟨⟨2, ![M, N]⟩, p0⟩, ⟨⟨2, ![M, N]⟩, p1⟩, ⟨⟨2, ![M, N]⟩, p2⟩, ⟨⟨2, ![M, N]⟩, p3⟩] h j
      = at3 w ((j 1).val / N) (j 0).val ((j 1).val % N) := by
  have hj : (j 1).val < T := (j 1).isLt
  have hN : 0 < N := by omega
  have key : ∀ (k : ℕ) (hk : k < 4) (p : (⟨2, ![M, N]⟩ : Shape).Idx → EReal) (_ : ∀ i, p i = at3 w k (i 0).val (i 1).val)
      (_ : [(⟨⟨2, ![M, N]⟩, p0⟩ : (s : Shape) × (s.Idx → EReal)), ⟨⟨2, ![M, N]⟩, p1⟩, ⟨⟨2, ![M, N]⟩, p2⟩, ⟨⟨2, ![M, N]⟩, p3⟩][k]'hk = ⟨⟨2, ![M, N]⟩, p⟩)
      (_ : ((([(⟨⟨2, ![M, N]⟩, p0⟩ : (s : Shape) × (s.Idx → EReal)), ⟨⟨2, ![M, N]⟩, p1⟩, ⟨⟨2, ![M, N]⟩, p2⟩, ⟨⟨2, ![M, N]⟩, p3⟩].take k).map (·.1)).map
        fun s => if h : s.rank = 2 then s.size ((1 : Fin 2).cast h.symm) else 0).sum = k * N)
      (_ : k * N ≤ (j 1).val) (_ : (j 1).val < k * N + N),
      concatenate ⟨2, ![M, T]⟩ 1 [⟨⟨2, ![M, N]⟩, p0⟩, ⟨⟨2, ![M, N]⟩, p1⟩, ⟨⟨2, ![M, N]⟩, p2⟩, ⟨⟨2, ![M, N]⟩, p3⟩] h j
        = at3 w ((j 1).val / N) (j 0).val ((j 1).val % N) := by
    intro k hk p hp hxk hpre hlo hhi
    refine (concatenate_apply_piece (t := ⟨2, ![M, T]⟩) 1
      [⟨⟨2, ![M, N]⟩, p0⟩, ⟨⟨2, ![M, N]⟩, p1⟩, ⟨⟨2, ![M, N]⟩, p2⟩, ⟨⟨2, ![M, N]⟩, p3⟩] h j k hk ⟨2, ![M, N]⟩ p hxk rfl (k * N) hpre
      (ix2 (j 0) ⟨(j 1).val - k * N, by omega⟩) ?_ ?_).trans ((hp _).trans ?_)
    · intro b hb
      fin_cases b
      · rfl
      · exact absurd rfl hb
    · show k * N + ((j 1).val - k * N) = (j 1).val
      omega
    · have e : (j 1).val / N = k := Nat.div_eq_of_lt_le hlo (by rw [Nat.add_mul, Nat.one_mul]; exact hhi)
      have e' : (j 1).val % N = (j 1).val - k * N := by
        have := Nat.div_add_mod (j 1).val N
        rw [e, Nat.mul_comm] at this
        omega
      rw [e, e']
      rfl
  by_cases c1 : (j 1).val < N
  · exact key 0 (by omega) p0 h0 rfl (by simp) (by omega) (by omega)
  by_cases c2 : (j 1).val < 2 * N
  · exact key 1 (by omega) p1 h1 rfl (by simp) (by omega) (by omega)
  by_cases c3 : (j 1).val < 3 * N
  · exact key 2 (by omega) p2 h2 rfl (by simp; omega) (by omega) (by omega)
  · exact key 3 (by omega) p3 h3 rfl (by simp; omega) (by omega) (by omega)

/-! ## Columns laid out in blocks -/

/-- The columns of an array in blocks. -/
def inBlocks {M N T : ℕ} (z : (⟨2, ![M, T]⟩ : Shape).Idx → EReal) : (⟨3, ![4, M, N]⟩ : Shape).Idx → EReal :=
  fun y => at2 z (y 1).val ((y 0).val * N + (y 2).val)

/-- A block of columns with an added leading axis, where a store puts it. -/
theorem first_piece {M N T : ℕ} (z : (⟨2, ![M, T]⟩ : Shape).Idx → EReal) (d o : ℕ) (ho : o = d * N)
    (inb : ∀ a, (![d, 0, 0] : Fin 3 → ℕ) a + (⟨3, ![1, M, N]⟩ : Shape).size a ≤ (⟨3, ![4, M, N]⟩ : Shape).size a)
    (hs : (⟨2, ![M, T]⟩ : Shape).Slices ![0, o] ⟨2, ![M, N]⟩) (hc : (⟨2, ![M, N]⟩ : Shape).ShapeCasts ⟨3, ![1, M, N]⟩)
    (x : (⟨3, ![1, M, N]⟩ : Shape).Idx) : shapeCast ⟨3, ![1, M, N]⟩ (extractStridedSlice ⟨2, ![M, N]⟩ ![0, o] z hs) hc x
      = inBlocks z ((Rect.unit (s := ⟨3, ![4, M, N]⟩) ![d, 0, 0] (⟨3, ![1, M, N]⟩ : Shape).size inb).emb x) := by
  have h0 : (x 0).val = 0 := Nat.lt_one_iff.mp (x 0).isLt
  have h1 : (x 1).val < M := (x 1).isLt
  have h2 : (x 2).val < N := (x 2).isLt
  have hT : o + N ≤ T := hs.2 1
  subst ho
  refine (add1_apply _ hc x).trans ((extractStridedSlice_apply ![0, d * N] z hs _
    (ix2 ⟨(x 1).val, h1⟩ ⟨d * N + (x 2).val, by omega⟩) ?_).trans (at2_of z _ _ _ ?_ ?_))
  · intro a
    fin_cases a
    · show (x 1).val = 0 + (x 1).val; omega
    · rfl
  · show (x 1).val = 0 + 1 * (x 1).val; omega
  · show d * N + (x 2).val = (d + 1 * (x 0).val) * N + (0 + 1 * (x 2).val)
    rw [h0, Nat.mul_zero, Nat.add_zero, Nat.zero_add, Nat.one_mul]

/-- The same added to what the block held. -/
theorem next_piece {M N T : ℕ} (z : (⟨2, ![M, T]⟩ : Shape).Idx → EReal) (g : (⟨3, ![4, M, N]⟩ : Shape).Idx → EReal) (d o : ℕ) (ho : o = d * N)
    (inb : ∀ a, (![d, 0, 0] : Fin 3 → ℕ) a + (⟨3, ![1, M, N]⟩ : Shape).size a ≤ (⟨3, ![4, M, N]⟩ : Shape).size a)
    (hs : (⟨2, ![M, T]⟩ : Shape).Slices ![0, o] ⟨2, ![M, N]⟩) (hc : (⟨2, ![M, N]⟩ : Shape).ShapeCasts ⟨3, ![1, M, N]⟩)
    (hd : (⟨3, ![1, M, N]⟩ : Shape).ShapeCasts ⟨2, ![M, N]⟩) (x : (⟨3, ![1, M, N]⟩ : Shape).Idx) :
    shapeCast ⟨3, ![1, M, N]⟩ (fun i => shapeCast ⟨2, ![M, N]⟩
        (fun y => g ((Rect.unit (s := ⟨3, ![4, M, N]⟩) ![d, 0, 0] (⟨3, ![1, M, N]⟩ : Shape).size inb).emb y)) hd i
        + extractStridedSlice ⟨2, ![M, N]⟩ ![0, o] z hs i) hc x
      = g ((Rect.unit (s := ⟨3, ![4, M, N]⟩) ![d, 0, 0] (⟨3, ![1, M, N]⟩ : Shape).size inb).emb x)
        + inBlocks z ((Rect.unit (s := ⟨3, ![4, M, N]⟩) ![d, 0, 0] (⟨3, ![1, M, N]⟩ : Shape).size inb).emb x) := by
  have h0 : (x 0).val = 0 := Nat.lt_one_iff.mp (x 0).isLt
  refine (add1_apply _ hc x).trans (congrArg₂ (· + ·) ((drop1_apply _ hd _).trans (congrArg g (congrArg _ ?_)))
    ((add1_apply _ hc x).symm.trans (first_piece z d o ho inb hs hc x)))
  funext a
  fin_cases a
  · exact Fin.ext h0.symm
  · rfl
  · rfl

end Cert.Product

end
-- ==== Proof.Proj.MixInFwd.lean ====
/- The mixer's input projection: every tile of rows is one product by the weight's four blocks side by side. -/
module

public import proofs.«01_k».proof.Proof.Math.Blocks
public import proofs.«01_k».proof.Proof.Gen.Kernel17Ideal.Value
public import Idealize.ShloMosaic.Lib.Pipeline.ValueKit
public import proofs.«01_k».proof.Proof.Gen.Reference17Ideal.Run
public import proofs.«01_k».proof.Proof.Gen.Reference17Ideal.Read

@[expose] public section

set_option maxRecDepth 16384

noncomputable section

namespace Cert.Proj

open Cert.Attn Cert.Product Idealize.ShloMosaic Finset

/-- A row of the input by a column of one of the weight's four blocks. -/
def mixInFwd (x0 : (⟨2, ![4096, 1024]⟩ : Shape).Idx → EReal) (x1 : (⟨3, ![4, 1024, 384]⟩ : Shape).Idx → EReal) : (⟨2, ![4096, 1536]⟩ : Shape).Idx → EReal :=
  fun i => ∑ k ∈ range 1024, at2 x0 (i 0).val k * at3 x1 ((i 1).val / 384) k ((i 1).val % 384)

end Cert.Proj

namespace Cert.Kernel17Ideal.Proj

open Cert.Kernel17Ideal Cert.Kernel17Ideal.Gen Cert.Attn Cert.Product
open Idealize.ShloMosaic hiding ix2 ix3 eq_ix2 eq_ix3
open Idealize.ShloMosaic.TcCoe Idealize.ShloMosaic.ValueIdx Idealize.SL.Sem Finset
open Idealize.ShloMosaic.Pipeline (Dat Cfg Window)

variable (m : (ℓ : Loc nD τ sig) → Buf (Elt Ideal) ℓ) (ρ : Dev nD → PrngReg) (c : Dev nD)

abbrev arg0 : FVec Ideal S4096x1024 .f32 := m ((c : Thread nD τ).loc main_arg0)
abbrev arg1 : FVec Ideal S4x1024x384 .bf16 := m ((c : Thread nD τ).loc main_arg1)

/-! ## The blocks -/

theorem index0 : ∀ t : Fin grid0.N, win0_0.index t 0 = t.val ∧ win0_0.index t 1 = 0 := by decide +kernel
theorem index1 : ∀ t : Fin grid0.N, win0_1.index t 0 = 0 ∧ win0_1.index t 1 = 0 ∧ win0_1.index t 2 = 0 := by decide +kernel
theorem index2 : ∀ t : Fin grid0.N, win0_2.index t 0 = t.val ∧ win0_2.index t 1 = 0 := by decide +kernel

theorem block0 (t : Fin grid0.N) (y : S1024x1024.Idx) : iblk m c 0 t y = at2 (arg0 m c) (t.val * 1024 + (y 0).val) (0 * 1024 + (y 1).val) :=
  (congrFun (V_main_arg0 m c) ((win0_0.rect t).emb y)).trans (at2_of (arg0 m c) ((win0_0.rect t).emb y) _ _
    ((win0_0.rect_emb_val t y 0).trans (by rw [(index0 t).1]; rfl)) ((win0_0.rect_emb_val t y 1).trans (by rw [(index0 t).2]; rfl)))
theorem block1 (t : Fin grid0.N) (y : S4x1024x384.Idx) : iblk m c 1 t y = arg1 m c y :=
  (congrFun (V_main_arg1 m c) ((win0_1.rect t).emb y)).trans (congrArg (arg1 m c) (funext fun a => Fin.ext (by
    fin_cases a
    · exact win0_1.rect_emb_val_of_index_zero t 0 (index1 t).1 y
    · exact win0_1.rect_emb_val_of_index_zero t 1 (index1 t).2.1 y
    · exact win0_1.rect_emb_val_of_index_zero t 2 (index1 t).2.2 y)))

/-- The block a point leaves. -/
theorem block_apply (t : Fin grid0.N) (y : S1024x1536.Idx) : out0_2 (iblk m c 0 t) (iblk m c 1 t) y
    = ∑ k ∈ range 1024, at2 (arg0 m c) (t.val * 1024 + (y 0).val) k * at3 (arg1 m c) ((y 1).val / 384) k ((y 1).val % 384) := by
  have hw : (iblk m c 1 t : S4x1024x384.Idx → EReal) = arg1 m c := funext (block1 m c t)
  unfold out0_2
  rw [View.canon_unit_zero hz2]
  simp only [View.ld_unit_zero (S := S1024x1024) hz2]
  rw [hw]
  unfold k0_pay1
  refine (nn_apply (φ₁ := .bf16) (φ₂ := .bf16) (M := 1024) (K := 1024) (N := 1536) (iblk m c 0 t) _ y).trans ?_
  refine sum_congr rfl fun k hk => ?_
  have hk := mem_range.mp hk
  rw [← at2_of _ (ix2 (y 0) ⟨k, hk⟩ : S1024x1024.Idx) _ _ rfl rfl, ← at2_of _ (ix2 ⟨k, hk⟩ (y 1) : S1024x1536.Idx) _ _ rfl rfl, block0]
  refine congrArg₂ (· * ·) ?_ ?_
  · show at2 _ _ (0 * 1024 + k) = _
    rw [Nat.zero_mul, Nat.zero_add]
  · exact beside_apply (T := 1536) rfl (arg1 m c) _ _ _ _ (slab_apply (arg1 m c) 0 _ _) (slab_apply (arg1 m c) 1 _ _) (slab_apply (arg1 m c) 2 _ _)
      (slab_apply (arg1 m c) 3 _ _) _ _

/-! ## The result -/

theorem final : (dats m 0 c).arrAt 2 cfg0.N = Cert.Proj.mixInFwd (arg0 m c) (arg1 m c) := by
  refine (dats m 0 c).arrAt_eq_of_covers 2 (Cert.Proj.mixInFwd (arg0 m c) (arg1 m c)) (by decide +kernel) fun t _ y => ?_
  have e0 : ((win0_2.rect t).emb y 0).val = t.val * 1024 + (y 0).val := (win0_2.rect_emb_val t y 0).trans (by rw [(index2 t).1]; rfl)
  have e1 : ((win0_2.rect t).emb y 1).val = (y 1).val := win0_2.rect_emb_val_of_index_zero t 1 (index2 t).2 y
  show (dats m 0 c).after 2 t y = Cert.Proj.mixInFwd (arg0 m c) (arg1 m c) ((win0_2.rect t).emb y)
  rw [after0_2]
  refine (block_apply m c t y).trans ?_
  unfold Cert.Proj.mixInFwd
  rw [e0, e1]

theorem run : θ_run defs (onTc (τ := τ) (main (F := Ideal))) ⟨m, fun _ => 0, ρ⟩ fun r => ∀ c : Dev nD,
    r.2.mem ((c : Thread nD τ).loc main_v0) = Cert.Proj.mixInFwd (arg0 m c) (arg1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel17Ideal.Proj

namespace Cert.Reference17Ideal.Proj

open Cert.Reference17Ideal Cert.Reference17Ideal.Gen Cert.Reference17Ideal.Read Cert.Attn Cert.Product
open Idealize.ShloMosaic hiding ix2 ix3 eq_ix2 eq_ix3
open Idealize.ShloMosaic.TcCoe Idealize.ShloMosaic.ValueIdx Idealize.SL.Sem Finset

variable (x0 : FVec Ideal S4096x1024 .f32) (x1 : FVec Ideal S4x1024x384 .bf16)

/-- The four blocks of columns side by side. -/
theorem cols_apply (i : S1024x1536.Idx) : val_main_v1 (F := Ideal) x1 i = at3 x1 ((i 1).val / 384) (i 0).val ((i 1).val % 384) := by
  have h0 : (i 0).val < 1024 := (i 0).isLt
  have h1 : (i 1).val < 1536 := (i 1).isLt
  rw [val_main_v1_apply, val_main_v0_apply]
  refine at3_of x1 _ _ _ _ ?_ ?_ ?_
  · show ((i 0).val * 1536 + (i 1).val) / 384 % 4 = _
    omega
  · show ((i 0).val * 1536 + (i 1).val) / 1536 = _
    omega
  · show ((i 0).val * 1536 + (i 1).val) % 384 = _
    omega

theorem out_apply (i : S4096x1536.Idx) : val_main_v3 (F := Ideal) x0 x1 i = Cert.Proj.mixInFwd x0 x1 i := by
  rw [val_main_v3_apply]
  unfold Cert.Proj.mixInFwd
  rw [← sum_fin]
  exact sum_congr rfl fun k _ => congrArg₂ (· * ·) (at2_of x0 _ _ _ rfl rfl) (cols_apply x1 _)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = Cert.Proj.mixInFwd (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext (out_apply _ _)), (h c).2⟩) (Value.run (F := Ideal) m ρ)

end Cert.Reference17Ideal.Proj

end
-- ==== Proof.Proj.MixInDw.lean ====
/- The gradient of the mixer's input projection: every point stores or adds the four
   column blocks of one product, so the result ends holding the product over all 4096 rows. -/
module

public import proofs.«01_k».proof.Proof.Math.Blocks
public import proofs.«01_k».proof.Proof.Gen.Kernel18Ideal.Value
public import Idealize.ShloMosaic.Lib.Pipeline.ValueKit
public import proofs.«01_k».proof.Proof.Gen.Reference18Ideal.Run
public import proofs.«01_k».proof.Proof.Gen.Reference18Ideal.Read

@[expose] public section

set_option maxRecDepth 16384

noncomputable section

namespace Cert.Proj

open Cert.Attn Cert.Product Idealize.ShloMosaic Finset

/-- A term of the product of two columns. -/
def mixInDwTerm (x0 : (⟨2, ![4096, 1024]⟩ : Shape).Idx → EReal) (x1 : (⟨2, ![4096, 1536]⟩ : Shape).Idx → EReal) (i j k : ℕ) : EReal :=
  at2 x0 k i * at2 x1 k j

/-- The gradient of the weight, its columns in four blocks. -/
def mixInDw (x0 : (⟨2, ![4096, 1024]⟩ : Shape).Idx → EReal) (x1 : (⟨2, ![4096, 1536]⟩ : Shape).Idx → EReal) : (⟨3, ![4, 1024, 384]⟩ : Shape).Idx → EReal :=
  fun i => ∑ k ∈ range 4096, mixInDwTerm x0 x1 (i 1).val ((i 0).val * 384 + (i 2).val) k

end Cert.Proj

namespace Cert.Kernel18Ideal.Proj

open Cert.Kernel18Ideal Cert.Kernel18Ideal.Gen Cert.Attn Cert.Product
open Idealize.ShloMosaic hiding ix2 ix3 eq_ix2 eq_ix3
open Idealize.ShloMosaic.TcCoe Idealize.ShloMosaic.ValueIdx Idealize.SL.Sem Finset
open Idealize.ShloMosaic.Pipeline (Dat Cfg Window)

variable (m : (ℓ : Loc nD τ sig) → Buf (Elt Ideal) ℓ) (ρ : Dev nD → PrngReg) (c : Dev nD)

abbrev arg0 : FVec Ideal S4096x1024 .f32 := m ((c : Thread nD τ).loc main_arg0)
abbrev arg1 : FVec Ideal S4096x1536 .f32 := m ((c : Thread nD τ).loc main_arg1)

/-! ## The blocks -/

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 ∧ win0_2.index t 2 = 0 := by decide +kernel

theorem block0 (t : Fin grid0.N) (y : S1024x1024.Idx) : iblk m c 0 t y = at2 (arg0 m c) (t.val * 1024 + (y 0).val) (y 1).val :=
  (congrFun (V_main_arg0 m c) ((win0_0.rect t).emb y)).trans (at2_of (arg0 m c) ((win0_0.rect t).emb y) _ _
    ((win0_0.rect_emb_val t y 0).trans (by rw [(index0 t).1]; rfl)) (win0_0.rect_emb_val_of_index_zero t 1 (index0 t).2 y))
theorem block1 (t : Fin grid0.N) (y : S1024x1536.Idx) : iblk m c 1 t y = at2 (arg1 m c) (t.val * 1024 + (y 0).val) (y 1).val :=
  (congrFun (V_main_arg1 m c) ((win0_1.rect t).emb y)).trans (at2_of (arg1 m c) ((win0_1.rect t).emb y) _ _
    ((win0_1.rect_emb_val t y 0).trans (by rw [(index1 t).1]; rfl)) (win0_1.rect_emb_val_of_index_zero t 1 (index1 t).2 y))

/-! ## A point's product and what it leaves -/

theorem pay_apply (t : Fin grid0.N) (y : S1024x1536.Idx) : k0_pay2 (iblk m c 0 t) (iblk m c 1 t) y
    = ∑ k ∈ range 1024, Cert.Proj.mixInDwTerm (arg0 m c) (arg1 m c) (y 0).val (y 1).val (1024 * t.val + k) := by
  unfold k0_pay2
  refine (tn_apply (φ₁ := .bf16) (φ₂ := .bf16) (M := 1024) (K := 1024) (N := 1536) (iblk m c 0 t) (iblk m c 1 t) y).trans ?_
  refine sum_congr rfl fun k hk => ?_
  have hk := mem_range.mp hk
  unfold Cert.Proj.mixInDwTerm
  rw [← at2_of _ (ix2 ⟨k, hk⟩ (y 0) : S1024x1024.Idx) _ _ rfl rfl, ← at2_of _ (ix2 ⟨k, hk⟩ (y 1) : S1024x1536.Idx) _ _ rfl rfl, block0, block1]
  show at2 _ (t.val * 1024 + k) _ * at2 _ (t.val * 1024 + k) _ = _
  rw [Nat.mul_comm t.val]

theorem product_apply (t : Fin grid0.N) (y : S4x1024x384.Idx) : inBlocks (k0_pay2 (iblk m c 0 t) (iblk m c 1 t)) y
    = ∑ k ∈ range 1024, Cert.Proj.mixInDwTerm (arg0 m c) (arg1 m c) (y 1).val ((y 0).val * 384 + (y 2).val) (1024 * t.val + k) := by
  have h0 : (y 0).val < 4 := (y 0).isLt
  have h2 : (y 2).val < 384 := (y 2).isLt
  exact (at2_of _ (ix2 (y 1) ⟨(y 0).val * 384 + (y 2).val, by omega⟩ : S1024x1536.Idx) _ _ rfl rfl).symm.trans (pay_apply m c t _)

theorem out_A (i : grid0.Coords) (a1 : Memref sig .tc .vmem S1024x1024 .f32) (h1 : a1.IsWhole) (a2 : Memref sig .tc .vmem S1024x1536 .f32)
    (h2 : a2.IsWhole) (a3 : Memref sig .tc .vmem S4x1024x384 .f32) (h3 : a3.IsWhole)
    (hc0 : cond0_0 i) (hc1 : ¬cond0_1 i) (hc2 : cond0_2 i) (hc3 : ¬cond0_3 i)
    (hc4 : cond0_4 i) (hc5 : ¬cond0_5 i) (hc6 : cond0_6 i) (hc7 : ¬cond0_7 i)
    (x0 : Vec Ideal S1024x1024 .f32) (x1 : Vec Ideal S1024x1536 .f32) (y : S4x1024x384.Idx) :
    out0_A_2 c i a1 h1 a2 h2 a3 h3 hc0 hc1 hc2 hc3 hc4 hc5 hc6 hc7 x0 x1 y = inBlocks (k0_pay2 x0 x1) y := by
  unfold out0_A_2
  rw [View.read_writes_eq_canon _ _ _ (cover0_A_2 c i a1 h1 a2 h2 a3 h3 hc0 hc1 hc2 hc3 hc4 hc5 hc6 hc7 x0 x1)]
  refine View.canon_apply_of_pieces (inBlocks (k0_pay2 x0 x1)) _ ?_ y (cover0_A_2 c i a1 h1 a2 h2 a3 h3 hc0 hc1 hc2 hc3 hc4 hc5 hc6 hc7 x0 x1 y)
  unfold kernelRun0_A
  dsimp only
  simp only [View.readAt_eq_ld, h1.read_unread, h2.read_unread, View.ld_unit_zero (S := S1024x1024) hz2, View.ld_unit_zero (S := S1024x1536) hz2]
  intro p hp
  rcases List.mem_cons.mp hp with rfl | hp
  · exact first_piece (k0_pay2 x0 x1) 3 1152 rfl inb_S4x1024x384_S1x1024x384_3_0_0 slices_S1024x1536_o0_1152_S1024x384 shapeCasts_S1024x384_S1x1024x384
  rcases List.mem_cons.mp hp with rfl | hp
  · exact first_piece (k0_pay2 x0 x1) 2 768 rfl inb_S4x1024x384_S1x1024x384_2_0_0 slices_S1024x1536_o0_768_S1024x384 shapeCasts_S1024x384_S1x1024x384
  rcases List.mem_cons.mp hp with rfl | hp
  · exact first_piece (k0_pay2 x0 x1) 1 384 rfl inb_S4x1024x384_S1x1024x384_1_0_0 slices_S1024x1536_o0_384_S1024x384 shapeCasts_S1024x384_S1x1024x384
  rcases List.mem_singleton.mp hp with rfl
  exact first_piece (k0_pay2 x0 x1) 0 0 rfl inb_S4x1024x384_S1x1024x384_0_0_0 slices_S1024x1536_o0_0_S1024x384 shapeCasts_S1024x384_S1x1024x384

theorem out_B (i : grid0.Coords) (a1 : Memref sig .tc .vmem S1024x1024 .f32) (h1 : a1.IsWhole) (a2 : Memref sig .tc .vmem S1024x1536 .f32)
    (h2 : a2.IsWhole) (a3 : Memref sig .tc .vmem S4x1024x384 .f32) (h3 : a3.IsWhole)
    (hc0 : ¬cond0_0 i) (hc1 : cond0_1 i) (hc2 : ¬cond0_2 i) (hc3 : cond0_3 i)
    (hc4 : ¬cond0_4 i) (hc5 : cond0_5 i) (hc6 : ¬cond0_6 i) (hc7 : cond0_7 i)
    (x0 : Vec Ideal S1024x1024 .f32) (x1 : Vec Ideal S1024x1536 .f32) (xo : Vec Ideal S4x1024x384 .f32) (y : S4x1024x384.Idx) :
    out0_B_2 c i a1 h1 a2 h2 a3 h3 hc0 hc1 hc2 hc3 hc4 hc5 hc6 hc7 x0 x1 xo y = xo y + inBlocks (k0_pay2 x0 x1) y := by
  unfold out0_B_2
  rw [View.read_writes_eq_canon _ _ _ (cover0_B_2 c i a1 h1 a2 h2 a3 h3 hc0 hc1 hc2 hc3 hc4 hc5 hc6 hc7 x0 x1 xo)]
  refine View.canon_apply_of_pieces (fun y => xo y + inBlocks (k0_pay2 x0 x1) y) _ ?_ y (cover0_B_2 c i a1 h1 a2 h2 a3 h3 hc0 hc1 hc2 hc3 hc4 hc5 hc6 hc7 x0 x1 xo y)
  unfold kernelRun0_B
  dsimp only
  simp only [View.readAt_eq_ld, h1.read_unread, h2.read_unread, h3.read_unread, View.ld_unit_zero (S := S1024x1024) hz2, View.ld_unit_zero (S := S1024x1536) hz2]
  simp only [kernelRun0_B.sl.r, kernelRun0_B.sl.v31, kernelRun0_B.sl.v31_1, kernelRun0_B.sl.v31_2, View.readAt_eq_ld, h1.read_unread, h2.read_unread, h3.read_unread,
    View.ld_unit_zero (S := S1024x1024) hz2, View.ld_unit_zero (S := S1024x1536) hz2]
  intro p hp
  rcases List.mem_cons.mp hp with rfl | hp
  · exact next_piece (k0_pay2 x0 x1) xo 3 1152 rfl inb_S4x1024x384_S1x1024x384_3_0_0 slices_S1024x1536_o0_1152_S1024x384 shapeCasts_S1024x384_S1x1024x384
        shapeCasts_S1x1024x384_S1024x384
  rcases List.mem_cons.mp hp with rfl | hp
  · exact next_piece (k0_pay2 x0 x1) xo 2 768 rfl inb_S4x1024x384_S1x1024x384_2_0_0 slices_S1024x1536_o0_768_S1024x384 shapeCasts_S1024x384_S1x1024x384
        shapeCasts_S1x1024x384_S1024x384
  rcases List.mem_cons.mp hp with rfl | hp
  · exact next_piece (k0_pay2 x0 x1) xo 1 384 rfl inb_S4x1024x384_S1x1024x384_1_0_0 slices_S1024x1536_o0_384_S1024x384 shapeCasts_S1024x384_S1x1024x384
        shapeCasts_S1x1024x384_S1024x384
  rcases List.mem_singleton.mp hp with rfl
  exact next_piece (k0_pay2 x0 x1) xo 0 0 rfl inb_S4x1024x384_S1x1024x384_0_0_0 slices_S1024x1536_o0_0_S1024x384 shapeCasts_S1024x384_S1x1024x384
        shapeCasts_S1x1024x384_S1024x384

/-- After each point the result holds the product over the row tiles met so far. -/
theorem outs_apply (n : ℕ) (hn : n < cfg0.N) (y : S4x1024x384.Idx) : outsAt0 m c n hn y
    = ∑ k ∈ range (1024 * (n + 1)), Cert.Proj.mixInDwTerm (arg0 m c) (arg1 m c) (y 1).val ((y 0).val * 384 + (y 2).val) k := by
  induction n generalizing y with
  | zero =>
    have hz : ¬1 ≤ (⟨0, hn⟩ : Fin cfg0.N).val := by show ¬1 ≤ 0; decide
    refine (congrFun (outsAt0_A m c ⟨0, hn⟩ rfl hz rfl hz rfl hz rfl hz) y).trans ((out_A ..).trans ((product_apply m c ⟨0, hn⟩ y).trans ?_))
    exact sum_congr rfl fun k _ => congrArg _ (Nat.zero_add k)
  | succ n ih =>
    have h4 : n + 1 < 4 := hn
    have h : ¬(n + 1) % 4 = 0 := by omega
    have hp : 1 ≤ n + 1 := by omega
    refine (congrFun (outsAt0_B m c ⟨n + 1, hn⟩ h hp h hp h hp h hp) y).trans ((out_B ..).trans ?_)
    show outsAt0 m c n _ y + _ = _
    rw [ih, product_apply, Nat.mul_add 1024 (n + 1) 1, sum_range_add]

/-! ## The result -/

theorem final : (dats m 0 c).arrAt 2 cfg0.N = Cert.Proj.mixInDw (arg0 m c) (arg1 m c) := by
  refine (dats m 0 c).arrAt_eq_of_covers 2 (Cert.Proj.mixInDw (arg0 m c) (arg1 m c)) (by decide +kernel) fun t hf y => ?_
  have hN : t.val < 4 := t.isLt
  have ht : t.val + 1 = 4 := by have := (flush0_2 t).mp hf; omega
  have e0 : ((win0_2.rect t).emb y 0).val = (y 0).val := win0_2.rect_emb_val_of_index_zero t 0 (index2 t).1 y
  have e1 : ((win0_2.rect t).emb y 1).val = (y 1).val := win0_2.rect_emb_val_of_index_zero t 1 (index2 t).2.1 y
  have e2 : ((win0_2.rect t).emb y 2).val = (y 2).val := win0_2.rect_emb_val_of_index_zero t 2 (index2 t).2.2 y
  show (dats m 0 c).after 2 t y = Cert.Proj.mixInDw (arg0 m c) (arg1 m c) ((win0_2.rect t).emb y)
  rw [after0_2]
  refine (outs_apply m c t.val t.isLt y).trans ?_
  unfold Cert.Proj.mixInDw
  rw [e0, e1, e2, ht]

theorem run : θ_run defs (onTc (τ := τ) (main (F := Ideal))) ⟨m, fun _ => 0, ρ⟩ fun r => ∀ c : Dev nD,
    r.2.mem ((c : Thread nD τ).loc main_v0) = Cert.Proj.mixInDw (arg0 m c) (arg1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel18Ideal.Proj

namespace Cert.Reference18Ideal.Proj

open Cert.Reference18Ideal Cert.Reference18Ideal.Gen Cert.Reference18Ideal.Read Cert.Attn Cert.Product
open Idealize.ShloMosaic hiding ix2 ix3 eq_ix2 eq_ix3
open Idealize.ShloMosaic.TcCoe Idealize.ShloMosaic.ValueIdx Idealize.SL.Sem Finset

variable (x0 : FVec Ideal S4096x1024 .f32) (x1 : FVec Ideal S4096x1536 .f32)

theorem grad_apply (i : S4x1024x384.Idx) : val_main_v5 (F := Ideal) x0 x1 i = Cert.Proj.mixInDw x0 x1 i := by
  have h0 : (i 0).val < 4 := (i 0).isLt
  have h1 : (i 1).val < 1024 := (i 1).isLt
  have h2 : (i 2).val < 384 := (i 2).isLt
  rw [val_main_v5_apply, val_main_v4_apply, val_main_v3_apply, val_main_v2_apply]
  unfold Cert.Proj.mixInDw
  rw [← sum_fin]
  refine sum_congr rfl fun k _ => ?_
  unfold Cert.Proj.mixInDwTerm
  rw [mul_comm]
  refine congrArg₂ (· * ·) (at2_of x0 _ _ _ rfl ?_) (at2_of x1 _ _ _ rfl ?_)
  · show (((i 1).val * 4 + (i 0).val) * 384 + (i 2).val) / 1536 = _
    omega
  · show (((i 1).val * 4 + (i 0).val) * 384 + (i 2).val) % 1536 = _
    omega

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = Cert.Proj.mixInDw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext (grad_apply _ _)), (h c).2⟩) (Value.run (F := Ideal) m ρ)

end Cert.Reference18Ideal.Proj

end
-- ==== Proof.Proj.MixInDx.lean ====
/- The gradient of the mixer's input: every tile of rows is one product by the weight's four blocks side by side, with the
   residual's share. -/
module

public import proofs.«01_k».proof.Proof.Math.Blocks
public import proofs.«01_k».proof.Proof.Math.Residual
public import proofs.«01_k».proof.Proof.Gen.Kernel19Ideal.Value
public import Idealize.ShloMosaic.Lib.Pipeline.ValueKit
public import proofs.«01_k».proof.Proof.Gen.Reference19Ideal.Run
public import proofs.«01_k».proof.Proof.Gen.Reference19Ideal.Read

@[expose] public section

set_option maxRecDepth 16384

noncomputable section

namespace Cert.Proj

open Cert.Attn Cert.Product Idealize.ShloMosaic Finset

/-- The gradient at the mixer's input. -/
def mixInDx (x0 : (⟨2, ![4096, 1536]⟩ : Shape).Idx → EReal) (x1 : (⟨3, ![4, 1024, 384]⟩ : Shape).Idx → EReal)
    (x2 : (⟨2, ![4096, 1024]⟩ : Shape).Idx → EReal) : (⟨2, ![4096, 1024]⟩ : Shape).Idx → EReal :=
  fun i => ∑ k ∈ range 1536, at2 x0 (i 0).val k * at3 x1 (k / 384) (i 1).val (k % 384) + residual * at2 x2 (i 0).val (i 1).val

end Cert.Proj

namespace Cert.Kernel19Ideal.Proj

open Cert.Kernel19Ideal Cert.Kernel19Ideal.Gen Cert.Attn Cert.Product
open Idealize.ShloMosaic hiding ix2 ix3 eq_ix2 eq_ix3
open Idealize.ShloMosaic.TcCoe Idealize.ShloMosaic.ValueIdx Idealize.SL.Sem Finset
open Idealize.ShloMosaic.Pipeline (Dat Cfg Window)

variable (m : (ℓ : Loc nD τ sig) → Buf (Elt Ideal) ℓ) (ρ : Dev nD → PrngReg) (c : Dev nD)

abbrev arg0 : FVec Ideal S4096x1536 .f32 := m ((c : Thread nD τ).loc main_arg0)
abbrev arg1 : FVec Ideal S4x1024x384 .bf16 := m ((c : Thread nD τ).loc main_arg1)
abbrev arg2 : FVec Ideal S4096x1024 .f32 := m ((c : Thread nD τ).loc main_arg2)

/-! ## The blocks -/

theorem index0 : ∀ t : Fin grid0.N, win0_0.index t 0 = t.val ∧ win0_0.index t 1 = 0 := by decide +kernel
theorem index1 : ∀ t : Fin grid0.N, win0_1.index t 0 = 0 ∧ win0_1.index t 1 = 0 ∧ win0_1.index t 2 = 0 := by decide +kernel
theorem index2 : ∀ t : Fin grid0.N, win0_2.index t 0 = t.val ∧ win0_2.index t 1 = 0 := by decide +kernel

theorem index3 : ∀ t : Fin grid0.N, win0_3.index t 0 = t.val ∧ win0_3.index t 1 = 0 := by decide +kernel

theorem block0 (t : Fin grid0.N) (y : S1024x1536.Idx) : iblk m c 0 t y = at2 (arg0 m c) (t.val * 1024 + (y 0).val) (0 * 1536 + (y 1).val) :=
  (congrFun (V_main_arg0 m c) ((win0_0.rect t).emb y)).trans (at2_of (arg0 m c) ((win0_0.rect t).emb y) _ _
    ((win0_0.rect_emb_val t y 0).trans (by rw [(index0 t).1]; rfl)) ((win0_0.rect_emb_val t y 1).trans (by rw [(index0 t).2]; rfl)))
theorem block1 (t : Fin grid0.N) (y : S4x1024x384.Idx) : iblk m c 1 t y = arg1 m c y :=
  (congrFun (V_main_arg1 m c) ((win0_1.rect t).emb y)).trans (congrArg (arg1 m c) (funext fun a => Fin.ext (by
    fin_cases a
    · exact win0_1.rect_emb_val_of_index_zero t 0 (index1 t).1 y
    · exact win0_1.rect_emb_val_of_index_zero t 1 (index1 t).2.1 y
    · exact win0_1.rect_emb_val_of_index_zero t 2 (index1 t).2.2 y)))

theorem block2 (t : Fin grid0.N) (y : S1024x1024.Idx) : iblk m c 2 t y = at2 (arg2 m c) (t.val * 1024 + (y 0).val) (y 1).val :=
  (congrFun (V_main_arg2 m c) ((win0_2.rect t).emb y)).trans (at2_of (arg2 m c) ((win0_2.rect t).emb y) _ _
    ((win0_2.rect_emb_val t y 0).trans (by rw [(index2 t).1]; rfl)) (win0_2.rect_emb_val_of_index_zero t 1 (index2 t).2 y))

/-- The block a point leaves. -/
theorem block_apply (t : Fin grid0.N) (y : S1024x1024.Idx) : out0_3 (iblk m c 0 t) (iblk m c 1 t) (iblk m c 2 t) y
    = ∑ k ∈ range 1536, at2 (arg0 m c) (t.val * 1024 + (y 0).val) k * at3 (arg1 m c) (k / 384) (y 1).val (k % 384)
      + Cert.Proj.residual * at2 (arg2 m c) (t.val * 1024 + (y 0).val) (y 1).val := by
  have hw : (iblk m c 1 t : S4x1024x384.Idx → EReal) = arg1 m c := funext (block1 m c t)
  unfold out0_3
  rw [View.canon_unit_zero hz2]
  simp only [View.ld_unit_zero (S := S1024x1536) hz2, View.ld_unit_zero (S := S1024x1024) hz2]
  rw [hw]
  unfold k0_pay1
  refine congrArg₂ (· + ·) ((nt_apply (φ₁ := .bf16) (φ₂ := .bf16) (M := 1024) (K := 1536) (N := 1024) (iblk m c 0 t) _ y).trans ?_)
    (congrArg₂ (· * ·) rfl (block2 m c t y))
  refine sum_congr rfl fun k hk => ?_
  have hk := mem_range.mp hk
  rw [← at2_of _ (ix2 (y 0) ⟨k, hk⟩ : S1024x1536.Idx) _ _ rfl rfl, ← at2_of _ (ix2 (y 1) ⟨k, hk⟩ : S1024x1536.Idx) _ _ rfl rfl, block0]
  refine congrArg₂ (· * ·) ?_ ?_
  · show at2 _ _ (0 * 1536 + k) = _
    rw [Nat.zero_mul, Nat.zero_add]
  · exact beside_apply (T := 1536) rfl (arg1 m c) _ _ _ _ (slab_apply (arg1 m c) 0 _ _) (slab_apply (arg1 m c) 1 _ _) (slab_apply (arg1 m c) 2 _ _)
      (slab_apply (arg1 m c) 3 _ _) _ _

/-! ## The result -/

theorem final : (dats m 0 c).arrAt 3 cfg0.N = Cert.Proj.mixInDx (arg0 m c) (arg1 m c) (arg2 m c) := by
  refine (dats m 0 c).arrAt_eq_of_covers 3 (Cert.Proj.mixInDx (arg0 m c) (arg1 m c) (arg2 m c)) (by decide +kernel) fun t _ y => ?_
  have e0 : ((win0_3.rect t).emb y 0).val = t.val * 1024 + (y 0).val := (win0_3.rect_emb_val t y 0).trans (by rw [(index3 t).1]; rfl)
  have e1 : ((win0_3.rect t).emb y 1).val = (y 1).val := win0_3.rect_emb_val_of_index_zero t 1 (index3 t).2 y
  show (dats m 0 c).after 3 t y = Cert.Proj.mixInDx (arg0 m c) (arg1 m c) (arg2 m c) ((win0_3.rect t).emb y)
  rw [after0_3]
  refine (block_apply m c t y).trans ?_
  unfold Cert.Proj.mixInDx
  rw [e0, e1]

theorem run : θ_run defs (onTc (τ := τ) (main (F := Ideal))) ⟨m, fun _ => 0, ρ⟩ fun r => ∀ c : Dev nD,
    r.2.mem ((c : Thread nD τ).loc main_v0) = Cert.Proj.mixInDx (arg0 m c) (arg1 m c) (arg2 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (final m c), (h c).2⟩) (Value.run_blocks m ρ)

end Cert.Kernel19Ideal.Proj

namespace Cert.Reference19Ideal.Proj

open Cert.Reference19Ideal Cert.Reference19Ideal.Gen Cert.Reference19Ideal.Read Cert.Attn Cert.Product
open Idealize.ShloMosaic hiding ix2 ix3 eq_ix2 eq_ix3
open Idealize.ShloMosaic.TcCoe Idealize.ShloMosaic.ValueIdx Idealize.SL.Sem Finset

variable (x0 : FVec Ideal S4096x1536 .f32) (x1 : FVec Ideal S4x1024x384 .bf16) (x2 : FVec Ideal S4096x1024 .f32)

/-- The four blocks of columns side by side. -/
theorem cols_apply (i : S1024x1536.Idx) : val_main_v4 (F := Ideal) x1 i = at3 x1 ((i 1).val / 384) (i 0).val ((i 1).val % 384) := by
  have h0 : (i 0).val < 1024 := (i 0).isLt
  have h1 : (i 1).val < 1536 := (i 1).isLt
  rw [val_main_v4_apply, val_main_v3_apply]
  refine at3_of x1 _ _ _ _ ?_ ?_ ?_
  · show ((i 0).val * 1536 + (i 1).val) / 384 % 4 = _
    omega
  · show ((i 0).val * 1536 + (i 1).val) / 1536 = _
    omega
  · show ((i 0).val * 1536 + (i 1).val) % 384 = _
    omega

theorem grad_apply (i : S4096x1024.Idx) : val_main_v10 (F := Ideal) x0 x1 x2 i = Cert.Proj.mixInDx x0 x1 x2 i := by
  rw [val_main_v10_apply, val_main_v9_apply, val_main_v7_apply]
  unfold Cert.Proj.mixInDx
  rw [← sum_fin]
  exact congrArg₂ (· + ·) (sum_congr rfl fun k _ => congrArg₂ (· * ·) (at2_of x0 _ _ _ rfl rfl) (cols_apply x1 _))
    (congrArg₂ (· * ·) rfl (at2_of x2 _ _ _ rfl rfl))

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = Cert.Proj.mixInDx (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext (grad_apply _ _ _)), (h c).2⟩) (Value.run (F := Ideal) m ρ)

end Cert.Reference19Ideal.Proj

end
-- ==== Proof.Proj.PleProjFwd0.lean ====
/- The first layer's embedding projection: every tile of rows is one product by the weight's four blocks side by side. -/
module

public import proofs.«01_k».proof.Proof.Math.Blocks
public import proofs.«01_k».proof.Proof.Gen.Kernel20Ideal.Value
public import Idealize.ShloMosaic.Lib.Pipeline.ValueKit
public import proofs.«01_k».proof.Proof.Gen.Reference20Ideal.Run
public import proofs.«01_k».proof.Proof.Gen.Reference20Ideal.Read

@[expose] public section

set_option maxRecDepth 16384

noncomputable section

namespace Cert.Proj

open Cert.Attn Cert.Product Idealize.ShloMosaic Finset

/-- A row of the input by a column of one of the weight's four blocks. -/
def pleProjFwd0 (x0 : (⟨2, ![8192, 256]⟩ : Shape).Idx → EReal) (x1 : (⟨3, ![4, 256, 256]⟩ : Shape).Idx → EReal) : (⟨2, ![4096, 1024]⟩ : Shape).Idx → EReal :=
  fun i => ∑ k ∈ range 256, at2 x0 (i 0).val k * at3 x1 ((i 1).val / 256) k ((i 1).val % 256)

end Cert.Proj

namespace Cert.Kernel20Ideal.Proj

open Cert.Kernel20Ideal Cert.Kernel20Ideal.Gen Cert.Attn Cert.Product
open Idealize.ShloMosaic hiding ix2 ix3 eq_ix2 eq_ix3
open Idealize.ShloMosaic.TcCoe Idealize.ShloMosaic.ValueIdx Idealize.SL.Sem Finset
open Idealize.ShloMosaic.Pipeline (Dat Cfg Window)

variable (m : (ℓ : Loc nD τ sig) → Buf (Elt Ideal) ℓ) (ρ : Dev nD → PrngReg) (c : Dev nD)

abbrev arg0 : FVec Ideal S8192x256 .f32 := m ((c : Thread nD τ).loc main_arg0)
abbrev arg1 : FVec Ideal S4x256x256 .bf16 := m ((c : Thread nD τ).loc main_arg1)

/-! ## The blocks -/

theorem index0 : ∀ t : Fin grid0.N, win0_0.index t 0 = t.val ∧ win0_0.index t 1 = 0 := by decide +kernel
theorem index1 : ∀ t : Fin grid0.N, win0_1.index t 0 = 0 ∧ win0_1.index t 1 = 0 ∧ win0_1.index t 2 = 0 := by decide +kernel
theorem index2 : ∀ t : Fin grid0.N, win0_2.index t 0 = t.val ∧ win0_2.index t 1 = 0 := by decide +kernel

theorem block0 (t : Fin grid0.N) (y : S1024x256.Idx) : iblk m c 0 t y = at2 (arg0 m c) (t.val * 1024 + (y 0).val) (0 * 256 + (y 1).val) :=
  (congrFun (V_main_arg0 m c) ((win0_0.rect t).emb y)).trans (at2_of (arg0 m c) ((win0_0.rect t).emb y) _ _
    ((win0_0.rect_emb_val t y 0).trans (by rw [(index0 t).1]; rfl)) ((win0_0.rect_emb_val t y 1).trans (by rw [(index0 t).2]; rfl)))
theorem block1 (t : Fin grid0.N) (y : S4x256x256.Idx) : iblk m c 1 t y = arg1 m c y :=
  (congrFun (V_main_arg1 m c) ((win0_1.rect t).emb y)).trans (congrArg (arg1 m c) (funext fun a => Fin.ext (by
    fin_cases a
    · exact win0_1.rect_emb_val_of_index_zero t 0 (index1 t).1 y
    · exact win0_1.rect_emb_val_of_index_zero t 1 (index1 t).2.1 y
    · exact win0_1.rect_emb_val_of_index_zero t 2 (index1 t).2.2 y)))

/-- The block a point leaves. -/
theorem block_apply (t : Fin grid0.N) (y : S1024x1024.Idx) : out0_2 (iblk m c 0 t) (iblk m c 1 t) y
    = ∑ k ∈ range 256, at2 (arg0 m c) (t.val * 1024 + (y 0).val) k * at3 (arg1 m c) ((y 1).val / 256) k ((y 1).val % 256) := by
  have hw : (iblk m c 1 t : S4x256x256.Idx → EReal) = arg1 m c := funext (block1 m c t)
  unfold out0_2
  rw [View.canon_unit_zero hz2]
  simp only [View.ld_unit_zero (S := S1024x256) hz2]
  rw [hw]
  unfold k0_pay1
  refine (nn_apply (φ₁ := .bf16) (φ₂ := .bf16) (M := 1024) (K := 256) (N := 1024) (iblk m c 0 t) _ y).trans ?_
  refine sum_congr rfl fun k hk => ?_
  have hk := mem_range.mp hk
  rw [← at2_of _ (ix2 (y 0) ⟨k, hk⟩ : S1024x256.Idx) _ _ rfl rfl, ← at2_of _ (ix2 ⟨k, hk⟩ (y 1) : S256x1024.Idx) _ _ rfl rfl, block0]
  refine congrArg₂ (· * ·) ?_ ?_
  · show at2 _ _ (0 * 256 + k) = _
    rw [Nat.zero_mul, Nat.zero_add]
  · exact beside_apply (T := 1024) rfl (arg1 m c) _ _ _ _ (slab_apply (arg1 m c) 0 _ _) (slab_apply (arg1 m c) 1 _ _) (slab_apply (arg1 m c) 2 _ _)
      (slab_apply (arg1 m c) 3 _ _) _ _

/-! ## The result -/

theorem final : (dats m 0 c).arrAt 2 cfg0.N = Cert.Proj.pleProjFwd0 (arg0 m c) (arg1 m c) := by
  refine (dats m 0 c).arrAt_eq_of_covers 2 (Cert.Proj.pleProjFwd0 (arg0 m c) (arg1 m c)) (by decide +kernel) fun t _ y => ?_
  have e0 : ((win0_2.rect t).emb y 0).val = t.val * 1024 + (y 0).val := (win0_2.rect_emb_val t y 0).trans (by rw [(index2 t).1]; rfl)
  have e1 : ((win0_2.rect t).emb y 1).val = (y 1).val := win0_2.rect_emb_val_of_index_zero t 1 (index2 t).2 y
  show (dats m 0 c).after 2 t y = Cert.Proj.pleProjFwd0 (arg0 m c) (arg1 m c) ((win0_2.rect t).emb y)
  rw [after0_2]
  refine (block_apply m c t y).trans ?_
  unfold Cert.Proj.pleProjFwd0
  rw [e0, e1]

theorem run : θ_run defs (onTc (τ := τ) (main (F := Ideal))) ⟨m, fun _ => 0, ρ⟩ fun r => ∀ c : Dev nD,
    r.2.mem ((c : Thread nD τ).loc main_v0) = Cert.Proj.pleProjFwd0 (arg0 m c) (arg1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel20Ideal.Proj

namespace Cert.Reference20Ideal.Proj

open Cert.Reference20Ideal Cert.Reference20Ideal.Gen Cert.Reference20Ideal.Read Cert.Attn Cert.Product
open Idealize.ShloMosaic hiding ix2 ix3 eq_ix2 eq_ix3
open Idealize.ShloMosaic.TcCoe Idealize.ShloMosaic.ValueIdx Idealize.SL.Sem Finset

variable (x0 : FVec Ideal S8192x256 .f32) (x1 : FVec Ideal S4x256x256 .bf16)

/-- The four blocks of columns side by side. -/
theorem cols_apply (i : S256x1024.Idx) : val_main_v2 (F := Ideal) x1 i = at3 x1 ((i 1).val / 256) (i 0).val ((i 1).val % 256) := by
  have h0 : (i 0).val < 256 := (i 0).isLt
  have h1 : (i 1).val < 1024 := (i 1).isLt
  rw [val_main_v2_apply, val_main_v1_apply]
  refine at3_of x1 _ _ _ _ ?_ ?_ ?_
  · show ((i 0).val * 1024 + (i 1).val) / 256 % 4 = _
    omega
  · show ((i 0).val * 1024 + (i 1).val) / 1024 = _
    omega
  · show ((i 0).val * 1024 + (i 1).val) % 256 = _
    omega

theorem out_apply (i : S4096x1024.Idx) : val_main_v4 (F := Ideal) x0 x1 i = Cert.Proj.pleProjFwd0 x0 x1 i := by
  rw [val_main_v4_apply]
  unfold Cert.Proj.pleProjFwd0
  rw [← sum_fin]
  exact sum_congr rfl fun k _ => congrArg₂ (· * ·) ((val_main_v0_apply (F := Ideal) x0 _).trans (at2_of x0 _ _ _ rfl rfl)) (cols_apply x1 _)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = Cert.Proj.pleProjFwd0 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext (out_apply _ _)), (h c).2⟩) (Value.run (F := Ideal) m ρ)

end Cert.Reference20Ideal.Proj

end
-- ==== Proof.Proj.PleProjFwd1.lean ====
/- The second layer's embedding projection, of the second half of the rows: every tile of rows is one product by the weight's
   four blocks side by side. -/
module

public import proofs.«01_k».proof.Proof.Math.Blocks
public import proofs.«01_k».proof.Proof.Gen.Kernel21Ideal.Value
public import Idealize.ShloMosaic.Lib.Pipeline.ValueKit
public import proofs.«01_k».proof.Proof.Gen.Reference21Ideal.Run
public import proofs.«01_k».proof.Proof.Gen.Reference21Ideal.Read

@[expose] public section

set_option maxRecDepth 16384

noncomputable section

namespace Cert.Proj

open Cert.Attn Cert.Product Idealize.ShloMosaic Finset

/-- A row of the input by a column of one of the weight's four blocks. -/
def pleProjFwd1 (x0 : (⟨2, ![8192, 256]⟩ : Shape).Idx → EReal) (x1 : (⟨3, ![4, 256, 256]⟩ : Shape).Idx → EReal) : (⟨2, ![4096, 1024]⟩ : Shape).Idx → EReal :=
  fun i => ∑ k ∈ range 256, at2 x0 (4096 + (i 0).val) k * at3 x1 ((i 1).val / 256) k ((i 1).val % 256)

end Cert.Proj

namespace Cert.Kernel21Ideal.Proj

open Cert.Kernel21Ideal Cert.Kernel21Ideal.Gen Cert.Attn Cert.Product
open Idealize.ShloMosaic hiding ix2 ix3 eq_ix2 eq_ix3
open Idealize.ShloMosaic.TcCoe Idealize.ShloMosaic.ValueIdx Idealize.SL.Sem Finset
open Idealize.ShloMosaic.Pipeline (Dat Cfg Window)

variable (m : (ℓ : Loc nD τ sig) → Buf (Elt Ideal) ℓ) (ρ : Dev nD → PrngReg) (c : Dev nD)

abbrev arg0 : FVec Ideal S8192x256 .f32 := m ((c : Thread nD τ).loc main_arg0)
abbrev arg1 : FVec Ideal S4x256x256 .bf16 := m ((c : Thread nD τ).loc main_arg1)

/-! ## The blocks -/

theorem index0 : ∀ t : Fin grid0.N, win0_0.index t 0 = 4 + t.val ∧ win0_0.index t 1 = 0 := by decide +kernel
theorem index1 : ∀ t : Fin grid0.N, win0_1.index t 0 = 0 ∧ win0_1.index t 1 = 0 ∧ win0_1.index t 2 = 0 := by decide +kernel
theorem index2 : ∀ t : Fin grid0.N, win0_2.index t 0 = t.val ∧ win0_2.index t 1 = 0 := by decide +kernel

theorem block0 (t : Fin grid0.N) (y : S1024x256.Idx) : iblk m c 0 t y = at2 (arg0 m c) ((4 + t.val) * 1024 + (y 0).val) (0 * 256 + (y 1).val) :=
  (congrFun (V_main_arg0 m c) ((win0_0.rect t).emb y)).trans (at2_of (arg0 m c) ((win0_0.rect t).emb y) _ _
    ((win0_0.rect_emb_val t y 0).trans (by rw [(index0 t).1]; rfl)) ((win0_0.rect_emb_val t y 1).trans (by rw [(index0 t).2]; rfl)))
theorem block1 (t : Fin grid0.N) (y : S4x256x256.Idx) : iblk m c 1 t y = arg1 m c y :=
  (congrFun (V_main_arg1 m c) ((win0_1.rect t).emb y)).trans (congrArg (arg1 m c) (funext fun a => Fin.ext (by
    fin_cases a
    · exact win0_1.rect_emb_val_of_index_zero t 0 (index1 t).1 y
    · exact win0_1.rect_emb_val_of_index_zero t 1 (index1 t).2.1 y
    · exact win0_1.rect_emb_val_of_index_zero t 2 (index1 t).2.2 y)))

/-- The block a point leaves. -/
theorem block_apply (t : Fin grid0.N) (y : S1024x1024.Idx) : out0_2 (iblk m c 0 t) (iblk m c 1 t) y
    = ∑ k ∈ range 256, at2 (arg0 m c) ((4 + t.val) * 1024 + (y 0).val) k * at3 (arg1 m c) ((y 1).val / 256) k ((y 1).val % 256) := by
  have hw : (iblk m c 1 t : S4x256x256.Idx → EReal) = arg1 m c := funext (block1 m c t)
  unfold out0_2
  rw [View.canon_unit_zero hz2]
  simp only [View.ld_unit_zero (S := S1024x256) hz2]
  rw [hw]
  unfold k0_pay1
  refine (nn_apply (φ₁ := .bf16) (φ₂ := .bf16) (M := 1024) (K := 256) (N := 1024) (iblk m c 0 t) _ y).trans ?_
  refine sum_congr rfl fun k hk => ?_
  have hk := mem_range.mp hk
  rw [← at2_of _ (ix2 (y 0) ⟨k, hk⟩ : S1024x256.Idx) _ _ rfl rfl, ← at2_of _ (ix2 ⟨k, hk⟩ (y 1) : S256x1024.Idx) _ _ rfl rfl, block0]
  refine congrArg₂ (· * ·) ?_ ?_
  · show at2 _ _ (0 * 256 + k) = _
    rw [Nat.zero_mul, Nat.zero_add]
  · exact beside_apply (T := 1024) rfl (arg1 m c) _ _ _ _ (slab_apply (arg1 m c) 0 _ _) (slab_apply (arg1 m c) 1 _ _) (slab_apply (arg1 m c) 2 _ _)
      (slab_apply (arg1 m c) 3 _ _) _ _

/-! ## The result -/

theorem final : (dats m 0 c).arrAt 2 cfg0.N = Cert.Proj.pleProjFwd1 (arg0 m c) (arg1 m c) := by
  refine (dats m 0 c).arrAt_eq_of_covers 2 (Cert.Proj.pleProjFwd1 (arg0 m c) (arg1 m c)) (by decide +kernel) fun t _ y => ?_
  have e0 : ((win0_2.rect t).emb y 0).val = t.val * 1024 + (y 0).val := (win0_2.rect_emb_val t y 0).trans (by rw [(index2 t).1]; rfl)
  have e1 : ((win0_2.rect t).emb y 1).val = (y 1).val := win0_2.rect_emb_val_of_index_zero t 1 (index2 t).2 y
  show (dats m 0 c).after 2 t y = Cert.Proj.pleProjFwd1 (arg0 m c) (arg1 m c) ((win0_2.rect t).emb y)
  rw [after0_2]
  refine (block_apply m c t y).trans ?_
  unfold Cert.Proj.pleProjFwd1
  rw [e0, e1, show (4 + t.val) * 1024 + (y 0).val = 4096 + (t.val * 1024 + (y 0).val) by omega]

theorem run : θ_run defs (onTc (τ := τ) (main (F := Ideal))) ⟨m, fun _ => 0, ρ⟩ fun r => ∀ c : Dev nD,
    r.2.mem ((c : Thread nD τ).loc main_v0) = Cert.Proj.pleProjFwd1 (arg0 m c) (arg1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel21Ideal.Proj

namespace Cert.Reference21Ideal.Proj

open Cert.Reference21Ideal Cert.Reference21Ideal.Gen Cert.Reference21Ideal.Read Cert.Attn Cert.Product
open Idealize.ShloMosaic hiding ix2 ix3 eq_ix2 eq_ix3
open Idealize.ShloMosaic.TcCoe Idealize.ShloMosaic.ValueIdx Idealize.SL.Sem Finset

variable (x0 : FVec Ideal S8192x256 .f32) (x1 : FVec Ideal S4x256x256 .bf16)

/-- The four blocks of columns side by side. -/
theorem cols_apply (i : S256x1024.Idx) : val_main_v2 (F := Ideal) x1 i = at3 x1 ((i 1).val / 256) (i 0).val ((i 1).val % 256) := by
  have h0 : (i 0).val < 256 := (i 0).isLt
  have h1 : (i 1).val < 1024 := (i 1).isLt
  rw [val_main_v2_apply, val_main_v1_apply]
  refine at3_of x1 _ _ _ _ ?_ ?_ ?_
  · show ((i 0).val * 1024 + (i 1).val) / 256 % 4 = _
    omega
  · show ((i 0).val * 1024 + (i 1).val) / 1024 = _
    omega
  · show ((i 0).val * 1024 + (i 1).val) % 256 = _
    omega

theorem out_apply (i : S4096x1024.Idx) : val_main_v4 (F := Ideal) x0 x1 i = Cert.Proj.pleProjFwd1 x0 x1 i := by
  rw [val_main_v4_apply]
  unfold Cert.Proj.pleProjFwd1
  rw [← sum_fin]
  exact sum_congr rfl fun k _ => congrArg₂ (· * ·) ((val_main_v0_apply (F := Ideal) x0 _).trans (at2_of x0 _ _ _ rfl rfl)) (cols_apply x1 _)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = Cert.Proj.pleProjFwd1 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext (out_apply _ _)), (h c).2⟩) (Value.run (F := Ideal) m ρ)

end Cert.Reference21Ideal.Proj

end
-- ==== Proof.Proj.PleProjDw0.lean ====
/- The gradient of the first layer's embedding projection: every point stores or adds the four
   column blocks of one product, so the result ends holding the product over all 4096 rows. -/
module

public import proofs.«01_k».proof.Proof.Math.Blocks
public import proofs.«01_k».proof.Proof.Gen.Kernel22Ideal.Value
public import Idealize.ShloMosaic.Lib.Pipeline.ValueKit
public import proofs.«01_k».proof.Proof.Gen.Reference22Ideal.Run
public import proofs.«01_k».proof.Proof.Gen.Reference22Ideal.Read

@[expose] public section

set_option maxRecDepth 16384

noncomputable section

namespace Cert.Proj

open Cert.Attn Cert.Product Idealize.ShloMosaic Finset

/-- A term of the product of two columns. -/
def pleProjDw0Term (x0 : (⟨2, ![8192, 256]⟩ : Shape).Idx → EReal) (x1 : (⟨2, ![4096, 1024]⟩ : Shape).Idx → EReal) (i j k : ℕ) : EReal :=
  at2 x0 k i * at2 x1 k j

/-- The gradient of the weight, its columns in four blocks. -/
def pleProjDw0 (x0 : (⟨2, ![8192, 256]⟩ : Shape).Idx → EReal) (x1 : (⟨2, ![4096, 1024]⟩ : Shape).Idx → EReal) : (⟨3, ![4, 256, 256]⟩ : Shape).Idx → EReal :=
  fun i => ∑ k ∈ range 4096, pleProjDw0Term x0 x1 (i 1).val ((i 0).val * 256 + (i 2).val) k

end Cert.Proj

namespace Cert.Kernel22Ideal.Proj

open Cert.Kernel22Ideal Cert.Kernel22Ideal.Gen Cert.Attn Cert.Product
open Idealize.ShloMosaic hiding ix2 ix3 eq_ix2 eq_ix3
open Idealize.ShloMosaic.TcCoe Idealize.ShloMosaic.ValueIdx Idealize.SL.Sem Finset
open Idealize.ShloMosaic.Pipeline (Dat Cfg Window)

variable (m : (ℓ : Loc nD τ sig) → Buf (Elt Ideal) ℓ) (ρ : Dev nD → PrngReg) (c : Dev nD)

abbrev arg0 : FVec Ideal S8192x256 .f32 := m ((c : Thread nD τ).loc main_arg0)
abbrev arg1 : FVec Ideal S4096x1024 .bf16 := m ((c : Thread nD τ).loc main_arg1)

/-! ## The blocks -/

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 ∧ win0_2.index t 2 = 0 := by decide +kernel

theorem block0 (t : Fin grid0.N) (y : S1024x256.Idx) : iblk m c 0 t y = at2 (arg0 m c) (t.val * 1024 + (y 0).val) (y 1).val :=
  (congrFun (V_main_arg0 m c) ((win0_0.rect t).emb y)).trans (at2_of (arg0 m c) ((win0_0.rect t).emb y) _ _
    ((win0_0.rect_emb_val t y 0).trans (by rw [(index0 t).1]; rfl)) (win0_0.rect_emb_val_of_index_zero t 1 (index0 t).2 y))
theorem block1 (t : Fin grid0.N) (y : S1024x1024.Idx) : iblk m c 1 t y = at2 (arg1 m c) (t.val * 1024 + (y 0).val) (y 1).val :=
  (congrFun (V_main_arg1 m c) ((win0_1.rect t).emb y)).trans (at2_of (arg1 m c) ((win0_1.rect t).emb y) _ _
    ((win0_1.rect_emb_val t y 0).trans (by rw [(index1 t).1]; rfl)) (win0_1.rect_emb_val_of_index_zero t 1 (index1 t).2 y))

/-! ## A point's product and what it leaves -/

theorem pay_apply (t : Fin grid0.N) (y : S256x1024.Idx) : k0_pay2 (iblk m c 0 t) (iblk m c 1 t) y
    = ∑ k ∈ range 1024, Cert.Proj.pleProjDw0Term (arg0 m c) (arg1 m c) (y 0).val (y 1).val (1024 * t.val + k) := by
  unfold k0_pay2
  refine (tn_apply (φ₁ := .bf16) (φ₂ := .bf16) (M := 256) (K := 1024) (N := 1024) (iblk m c 0 t) (iblk m c 1 t) y).trans ?_
  refine sum_congr rfl fun k hk => ?_
  have hk := mem_range.mp hk
  unfold Cert.Proj.pleProjDw0Term
  rw [← at2_of _ (ix2 ⟨k, hk⟩ (y 0) : S1024x256.Idx) _ _ rfl rfl, ← at2_of _ (ix2 ⟨k, hk⟩ (y 1) : S1024x1024.Idx) _ _ rfl rfl, block0, block1]
  show at2 _ (t.val * 1024 + k) _ * at2 _ (t.val * 1024 + k) _ = _
  rw [Nat.mul_comm t.val]

theorem product_apply (t : Fin grid0.N) (y : S4x256x256.Idx) : inBlocks (k0_pay2 (iblk m c 0 t) (iblk m c 1 t)) y
    = ∑ k ∈ range 1024, Cert.Proj.pleProjDw0Term (arg0 m c) (arg1 m c) (y 1).val ((y 0).val * 256 + (y 2).val) (1024 * t.val + k) := by
  have h0 : (y 0).val < 4 := (y 0).isLt
  have h2 : (y 2).val < 256 := (y 2).isLt
  exact (at2_of _ (ix2 (y 1) ⟨(y 0).val * 256 + (y 2).val, by omega⟩ : S256x1024.Idx) _ _ rfl rfl).symm.trans (pay_apply m c t _)

theorem out_A (i : grid0.Coords) (a1 : Memref sig .tc .vmem S1024x256 .f32) (h1 : a1.IsWhole) (a2 : Memref sig .tc .vmem S1024x1024 .bf16)
    (h2 : a2.IsWhole) (a3 : Memref sig .tc .vmem S4x256x256 .f32) (h3 : a3.IsWhole)
    (hc0 : cond0_0 i) (hc1 : ¬cond0_1 i) (hc2 : cond0_2 i) (hc3 : ¬cond0_3 i)
    (hc4 : cond0_4 i) (hc5 : ¬cond0_5 i) (hc6 : cond0_6 i) (hc7 : ¬cond0_7 i)
    (x0 : Vec Ideal S1024x256 .f32) (x1 : Vec Ideal S1024x1024 .bf16) (y : S4x256x256.Idx) :
    out0_A_2 c i a1 h1 a2 h2 a3 h3 hc0 hc1 hc2 hc3 hc4 hc5 hc6 hc7 x0 x1 y = inBlocks (k0_pay2 x0 x1) y := by
  unfold out0_A_2
  rw [View.read_writes_eq_canon _ _ _ (cover0_A_2 c i a1 h1 a2 h2 a3 h3 hc0 hc1 hc2 hc3 hc4 hc5 hc6 hc7 x0 x1)]
  refine View.canon_apply_of_pieces (inBlocks (k0_pay2 x0 x1)) _ ?_ y (cover0_A_2 c i a1 h1 a2 h2 a3 h3 hc0 hc1 hc2 hc3 hc4 hc5 hc6 hc7 x0 x1 y)
  unfold kernelRun0_A
  dsimp only
  simp only [View.readAt_eq_ld, h1.read_unread, h2.read_unread, View.ld_unit_zero (S := S1024x256) hz2, View.ld_unit_zero (S := S1024x1024) hz2]
  intro p hp
  rcases List.mem_cons.mp hp with rfl | hp
  · exact first_piece (k0_pay2 x0 x1) 3 768 rfl inb_S4x256x256_S1x256x256_3_0_0 slices_S256x1024_o0_768_S256x256 shapeCasts_S256x256_S1x256x256
  rcases List.mem_cons.mp hp with rfl | hp
  · exact first_piece (k0_pay2 x0 x1) 2 512 rfl inb_S4x256x256_S1x256x256_2_0_0 slices_S256x1024_o0_512_S256x256 shapeCasts_S256x256_S1x256x256
  rcases List.mem_cons.mp hp with rfl | hp
  · exact first_piece (k0_pay2 x0 x1) 1 256 rfl inb_S4x256x256_S1x256x256_1_0_0 slices_S256x1024_o0_256_S256x256 shapeCasts_S256x256_S1x256x256
  rcases List.mem_singleton.mp hp with rfl
  exact first_piece (k0_pay2 x0 x1) 0 0 rfl inb_S4x256x256_S1x256x256_0_0_0 slices_S256x1024_o0_0_S256x256 shapeCasts_S256x256_S1x256x256

theorem out_B (i : grid0.Coords) (a1 : Memref sig .tc .vmem S1024x256 .f32) (h1 : a1.IsWhole) (a2 : Memref sig .tc .vmem S1024x1024 .bf16)
    (h2 : a2.IsWhole) (a3 : Memref sig .tc .vmem S4x256x256 .f32) (h3 : a3.IsWhole)
    (hc0 : ¬cond0_0 i) (hc1 : cond0_1 i) (hc2 : ¬cond0_2 i) (hc3 : cond0_3 i)
    (hc4 : ¬cond0_4 i) (hc5 : cond0_5 i) (hc6 : ¬cond0_6 i) (hc7 : cond0_7 i)
    (x0 : Vec Ideal S1024x256 .f32) (x1 : Vec Ideal S1024x1024 .bf16) (xo : Vec Ideal S4x256x256 .f32) (y : S4x256x256.Idx) :
    out0_B_2 c i a1 h1 a2 h2 a3 h3 hc0 hc1 hc2 hc3 hc4 hc5 hc6 hc7 x0 x1 xo y = xo y + inBlocks (k0_pay2 x0 x1) y := by
  unfold out0_B_2
  rw [View.read_writes_eq_canon _ _ _ (cover0_B_2 c i a1 h1 a2 h2 a3 h3 hc0 hc1 hc2 hc3 hc4 hc5 hc6 hc7 x0 x1 xo)]
  refine View.canon_apply_of_pieces (fun y => xo y + inBlocks (k0_pay2 x0 x1) y) _ ?_ y (cover0_B_2 c i a1 h1 a2 h2 a3 h3 hc0 hc1 hc2 hc3 hc4 hc5 hc6 hc7 x0 x1 xo y)
  unfold kernelRun0_B
  dsimp only
  simp only [View.readAt_eq_ld, h1.read_unread, h2.read_unread, h3.read_unread, View.ld_unit_zero (S := S1024x256) hz2, View.ld_unit_zero (S := S1024x1024) hz2]
  simp only [kernelRun0_B.sl.r, kernelRun0_B.sl.v30, kernelRun0_B.sl.v30_1, kernelRun0_B.sl.v30_2, View.readAt_eq_ld, h1.read_unread, h2.read_unread, h3.read_unread,
    View.ld_unit_zero (S := S1024x256) hz2, View.ld_unit_zero (S := S1024x1024) hz2]
  intro p hp
  rcases List.mem_cons.mp hp with rfl | hp
  · exact next_piece (k0_pay2 x0 x1) xo 3 768 rfl inb_S4x256x256_S1x256x256_3_0_0 slices_S256x1024_o0_768_S256x256 shapeCasts_S256x256_S1x256x256
        shapeCasts_S1x256x256_S256x256
  rcases List.mem_cons.mp hp with rfl | hp
  · exact next_piece (k0_pay2 x0 x1) xo 2 512 rfl inb_S4x256x256_S1x256x256_2_0_0 slices_S256x1024_o0_512_S256x256 shapeCasts_S256x256_S1x256x256
        shapeCasts_S1x256x256_S256x256
  rcases List.mem_cons.mp hp with rfl | hp
  · exact next_piece (k0_pay2 x0 x1) xo 1 256 rfl inb_S4x256x256_S1x256x256_1_0_0 slices_S256x1024_o0_256_S256x256 shapeCasts_S256x256_S1x256x256
        shapeCasts_S1x256x256_S256x256
  rcases List.mem_singleton.mp hp with rfl
  exact next_piece (k0_pay2 x0 x1) xo 0 0 rfl inb_S4x256x256_S1x256x256_0_0_0 slices_S256x1024_o0_0_S256x256 shapeCasts_S256x256_S1x256x256
        shapeCasts_S1x256x256_S256x256

/-- After each point the result holds the product over the row tiles met so far. -/
theorem outs_apply (n : ℕ) (hn : n < cfg0.N) (y : S4x256x256.Idx) : outsAt0 m c n hn y
    = ∑ k ∈ range (1024 * (n + 1)), Cert.Proj.pleProjDw0Term (arg0 m c) (arg1 m c) (y 1).val ((y 0).val * 256 + (y 2).val) k := by
  induction n generalizing y with
  | zero =>
    have hz : ¬1 ≤ (⟨0, hn⟩ : Fin cfg0.N).val := by show ¬1 ≤ 0; decide
    refine (congrFun (outsAt0_A m c ⟨0, hn⟩ rfl hz rfl hz rfl hz rfl hz) y).trans ((out_A ..).trans ((product_apply m c ⟨0, hn⟩ y).trans ?_))
    exact sum_congr rfl fun k _ => congrArg _ (Nat.zero_add k)
  | succ n ih =>
    have h4 : n + 1 < 4 := hn
    have h : ¬(n + 1) % 4 = 0 := by omega
    have hp : 1 ≤ n + 1 := by omega
    refine (congrFun (outsAt0_B m c ⟨n + 1, hn⟩ h hp h hp h hp h hp) y).trans ((out_B ..).trans ?_)
    show outsAt0 m c n _ y + _ = _
    rw [ih, product_apply, Nat.mul_add 1024 (n + 1) 1, sum_range_add]

/-! ## The result -/

theorem final : (dats m 0 c).arrAt 2 cfg0.N = Cert.Proj.pleProjDw0 (arg0 m c) (arg1 m c) := by
  refine (dats m 0 c).arrAt_eq_of_covers 2 (Cert.Proj.pleProjDw0 (arg0 m c) (arg1 m c)) (by decide +kernel) fun t hf y => ?_
  have hN : t.val < 4 := t.isLt
  have ht : t.val + 1 = 4 := by have := (flush0_2 t).mp hf; omega
  have e0 : ((win0_2.rect t).emb y 0).val = (y 0).val := win0_2.rect_emb_val_of_index_zero t 0 (index2 t).1 y
  have e1 : ((win0_2.rect t).emb y 1).val = (y 1).val := win0_2.rect_emb_val_of_index_zero t 1 (index2 t).2.1 y
  have e2 : ((win0_2.rect t).emb y 2).val = (y 2).val := win0_2.rect_emb_val_of_index_zero t 2 (index2 t).2.2 y
  show (dats m 0 c).after 2 t y = Cert.Proj.pleProjDw0 (arg0 m c) (arg1 m c) ((win0_2.rect t).emb y)
  rw [after0_2]
  refine (outs_apply m c t.val t.isLt y).trans ?_
  unfold Cert.Proj.pleProjDw0
  rw [e0, e1, e2, ht]

theorem run : θ_run defs (onTc (τ := τ) (main (F := Ideal))) ⟨m, fun _ => 0, ρ⟩ fun r => ∀ c : Dev nD,
    r.2.mem ((c : Thread nD τ).loc main_v0) = Cert.Proj.pleProjDw0 (arg0 m c) (arg1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel22Ideal.Proj

namespace Cert.Reference22Ideal.Proj

open Cert.Reference22Ideal Cert.Reference22Ideal.Gen Cert.Reference22Ideal.Read Cert.Attn Cert.Product
open Idealize.ShloMosaic hiding ix2 ix3 eq_ix2 eq_ix3
open Idealize.ShloMosaic.TcCoe Idealize.ShloMosaic.ValueIdx Idealize.SL.Sem Finset

variable (x0 : FVec Ideal S8192x256 .f32) (x1 : FVec Ideal S4096x1024 .bf16)

theorem grad_apply (i : S4x256x256.Idx) : val_main_v7 (F := Ideal) x0 x1 i = Cert.Proj.pleProjDw0 x0 x1 i := by
  have h0 : (i 0).val < 4 := (i 0).isLt
  have h1 : (i 1).val < 256 := (i 1).isLt
  have h2 : (i 2).val < 256 := (i 2).isLt
  rw [val_main_v7_apply, val_main_v6_apply, val_main_v5_apply, val_main_v4_apply]
  unfold Cert.Proj.pleProjDw0
  rw [← sum_fin]
  refine sum_congr rfl fun k _ => ?_
  unfold Cert.Proj.pleProjDw0Term
  rw [mul_comm]
  refine congrArg₂ (· * ·) ((val_main_v1_apply (F := Ideal) x0 _).trans (at2_of x0 _ _ _ rfl ?_)) (at2_of x1 _ _ _ rfl ?_)
  · show (((i 1).val * 4 + (i 0).val) * 256 + (i 2).val) / 1024 = _
    omega
  · show (((i 1).val * 4 + (i 0).val) * 256 + (i 2).val) % 1024 = _
    omega

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = Cert.Proj.pleProjDw0 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext (grad_apply _ _)), (h c).2⟩) (Value.run (F := Ideal) m ρ)

end Cert.Reference22Ideal.Proj

end
-- ==== Proof.Proj.PleProjDw1.lean ====
/- The gradient of the second layer's embedding projection: every point stores or adds the four
   column blocks of one product, so the result ends holding the product over all 4096 rows. -/
module

public import proofs.«01_k».proof.Proof.Math.Blocks
public import proofs.«01_k».proof.Proof.Gen.Kernel23Ideal.Value
public import Idealize.ShloMosaic.Lib.Pipeline.ValueKit
public import proofs.«01_k».proof.Proof.Gen.Reference23Ideal.Run
public import proofs.«01_k».proof.Proof.Gen.Reference23Ideal.Read

@[expose] public section

set_option maxRecDepth 16384

noncomputable section

namespace Cert.Proj

open Cert.Attn Cert.Product Idealize.ShloMosaic Finset

/-- A term of the product of two columns. -/
def pleProjDw1Term (x0 : (⟨2, ![8192, 256]⟩ : Shape).Idx → EReal) (x1 : (⟨2, ![4096, 1024]⟩ : Shape).Idx → EReal) (i j k : ℕ) : EReal :=
  at2 x0 (4096 + k) i * at2 x1 k j

/-- The gradient of the weight, its columns in four blocks. -/
def pleProjDw1 (x0 : (⟨2, ![8192, 256]⟩ : Shape).Idx → EReal) (x1 : (⟨2, ![4096, 1024]⟩ : Shape).Idx → EReal) : (⟨3, ![4, 256, 256]⟩ : Shape).Idx → EReal :=
  fun i => ∑ k ∈ range 4096, pleProjDw1Term x0 x1 (i 1).val ((i 0).val * 256 + (i 2).val) k

end Cert.Proj

namespace Cert.Kernel23Ideal.Proj

open Cert.Kernel23Ideal Cert.Kernel23Ideal.Gen Cert.Attn Cert.Product
open Idealize.ShloMosaic hiding ix2 ix3 eq_ix2 eq_ix3
open Idealize.ShloMosaic.TcCoe Idealize.ShloMosaic.ValueIdx Idealize.SL.Sem Finset
open Idealize.ShloMosaic.Pipeline (Dat Cfg Window)

variable (m : (ℓ : Loc nD τ sig) → Buf (Elt Ideal) ℓ) (ρ : Dev nD → PrngReg) (c : Dev nD)

abbrev arg0 : FVec Ideal S8192x256 .f32 := m ((c : Thread nD τ).loc main_arg0)
abbrev arg1 : FVec Ideal S4096x1024 .bf16 := m ((c : Thread nD τ).loc main_arg1)

/-! ## The blocks -/

theorem index0 : ∀ t : Fin grid0.N, win0_0.index t 0 = 4 + t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 ∧ win0_2.index t 2 = 0 := by decide +kernel

theorem block0 (t : Fin grid0.N) (y : S1024x256.Idx) : iblk m c 0 t y = at2 (arg0 m c) ((4 + t.val) * 1024 + (y 0).val) (y 1).val :=
  (congrFun (V_main_arg0 m c) ((win0_0.rect t).emb y)).trans (at2_of (arg0 m c) ((win0_0.rect t).emb y) _ _
    ((win0_0.rect_emb_val t y 0).trans (by rw [(index0 t).1]; rfl)) (win0_0.rect_emb_val_of_index_zero t 1 (index0 t).2 y))
theorem block1 (t : Fin grid0.N) (y : S1024x1024.Idx) : iblk m c 1 t y = at2 (arg1 m c) (t.val * 1024 + (y 0).val) (y 1).val :=
  (congrFun (V_main_arg1 m c) ((win0_1.rect t).emb y)).trans (at2_of (arg1 m c) ((win0_1.rect t).emb y) _ _
    ((win0_1.rect_emb_val t y 0).trans (by rw [(index1 t).1]; rfl)) (win0_1.rect_emb_val_of_index_zero t 1 (index1 t).2 y))

/-! ## A point's product and what it leaves -/

theorem pay_apply (t : Fin grid0.N) (y : S256x1024.Idx) : k0_pay2 (iblk m c 0 t) (iblk m c 1 t) y
    = ∑ k ∈ range 1024, Cert.Proj.pleProjDw1Term (arg0 m c) (arg1 m c) (y 0).val (y 1).val (1024 * t.val + k) := by
  unfold k0_pay2
  refine (tn_apply (φ₁ := .bf16) (φ₂ := .bf16) (M := 256) (K := 1024) (N := 1024) (iblk m c 0 t) (iblk m c 1 t) y).trans ?_
  refine sum_congr rfl fun k hk => ?_
  have hk := mem_range.mp hk
  unfold Cert.Proj.pleProjDw1Term
  rw [← at2_of _ (ix2 ⟨k, hk⟩ (y 0) : S1024x256.Idx) _ _ rfl rfl, ← at2_of _ (ix2 ⟨k, hk⟩ (y 1) : S1024x1024.Idx) _ _ rfl rfl, block0, block1]
  show at2 _ ((4 + t.val) * 1024 + k) _ * at2 _ (t.val * 1024 + k) _ = _
  rw [show (4 + t.val) * 1024 + k = 4096 + (t.val * 1024 + k) by omega, Nat.mul_comm t.val]

theorem product_apply (t : Fin grid0.N) (y : S4x256x256.Idx) : inBlocks (k0_pay2 (iblk m c 0 t) (iblk m c 1 t)) y
    = ∑ k ∈ range 1024, Cert.Proj.pleProjDw1Term (arg0 m c) (arg1 m c) (y 1).val ((y 0).val * 256 + (y 2).val) (1024 * t.val + k) := by
  have h0 : (y 0).val < 4 := (y 0).isLt
  have h2 : (y 2).val < 256 := (y 2).isLt
  exact (at2_of _ (ix2 (y 1) ⟨(y 0).val * 256 + (y 2).val, by omega⟩ : S256x1024.Idx) _ _ rfl rfl).symm.trans (pay_apply m c t _)

theorem out_A (i : grid0.Coords) (a1 : Memref sig .tc .vmem S1024x256 .f32) (h1 : a1.IsWhole) (a2 : Memref sig .tc .vmem S1024x1024 .bf16)
    (h2 : a2.IsWhole) (a3 : Memref sig .tc .vmem S4x256x256 .f32) (h3 : a3.IsWhole)
    (hc0 : cond0_0 i) (hc1 : ¬cond0_1 i) (hc2 : cond0_2 i) (hc3 : ¬cond0_3 i)
    (hc4 : cond0_4 i) (hc5 : ¬cond0_5 i) (hc6 : cond0_6 i) (hc7 : ¬cond0_7 i)
    (x0 : Vec Ideal S1024x256 .f32) (x1 : Vec Ideal S1024x1024 .bf16) (y : S4x256x256.Idx) :
    out0_A_2 c i a1 h1 a2 h2 a3 h3 hc0 hc1 hc2 hc3 hc4 hc5 hc6 hc7 x0 x1 y = inBlocks (k0_pay2 x0 x1) y := by
  unfold out0_A_2
  rw [View.read_writes_eq_canon _ _ _ (cover0_A_2 c i a1 h1 a2 h2 a3 h3 hc0 hc1 hc2 hc3 hc4 hc5 hc6 hc7 x0 x1)]
  refine View.canon_apply_of_pieces (inBlocks (k0_pay2 x0 x1)) _ ?_ y (cover0_A_2 c i a1 h1 a2 h2 a3 h3 hc0 hc1 hc2 hc3 hc4 hc5 hc6 hc7 x0 x1 y)
  unfold kernelRun0_A
  dsimp only
  simp only [View.readAt_eq_ld, h1.read_unread, h2.read_unread, View.ld_unit_zero (S := S1024x256) hz2, View.ld_unit_zero (S := S1024x1024) hz2]
  intro p hp
  rcases List.mem_cons.mp hp with rfl | hp
  · exact first_piece (k0_pay2 x0 x1) 3 768 rfl inb_S4x256x256_S1x256x256_3_0_0 slices_S256x1024_o0_768_S256x256 shapeCasts_S256x256_S1x256x256
  rcases List.mem_cons.mp hp with rfl | hp
  · exact first_piece (k0_pay2 x0 x1) 2 512 rfl inb_S4x256x256_S1x256x256_2_0_0 slices_S256x1024_o0_512_S256x256 shapeCasts_S256x256_S1x256x256
  rcases List.mem_cons.mp hp with rfl | hp
  · exact first_piece (k0_pay2 x0 x1) 1 256 rfl inb_S4x256x256_S1x256x256_1_0_0 slices_S256x1024_o0_256_S256x256 shapeCasts_S256x256_S1x256x256
  rcases List.mem_singleton.mp hp with rfl
  exact first_piece (k0_pay2 x0 x1) 0 0 rfl inb_S4x256x256_S1x256x256_0_0_0 slices_S256x1024_o0_0_S256x256 shapeCasts_S256x256_S1x256x256

theorem out_B (i : grid0.Coords) (a1 : Memref sig .tc .vmem S1024x256 .f32) (h1 : a1.IsWhole) (a2 : Memref sig .tc .vmem S1024x1024 .bf16)
    (h2 : a2.IsWhole) (a3 : Memref sig .tc .vmem S4x256x256 .f32) (h3 : a3.IsWhole)
    (hc0 : ¬cond0_0 i) (hc1 : cond0_1 i) (hc2 : ¬cond0_2 i) (hc3 : cond0_3 i)
    (hc4 : ¬cond0_4 i) (hc5 : cond0_5 i) (hc6 : ¬cond0_6 i) (hc7 : cond0_7 i)
    (x0 : Vec Ideal S1024x256 .f32) (x1 : Vec Ideal S1024x1024 .bf16) (xo : Vec Ideal S4x256x256 .f32) (y : S4x256x256.Idx) :
    out0_B_2 c i a1 h1 a2 h2 a3 h3 hc0 hc1 hc2 hc3 hc4 hc5 hc6 hc7 x0 x1 xo y = xo y + inBlocks (k0_pay2 x0 x1) y := by
  unfold out0_B_2
  rw [View.read_writes_eq_canon _ _ _ (cover0_B_2 c i a1 h1 a2 h2 a3 h3 hc0 hc1 hc2 hc3 hc4 hc5 hc6 hc7 x0 x1 xo)]
  refine View.canon_apply_of_pieces (fun y => xo y + inBlocks (k0_pay2 x0 x1) y) _ ?_ y (cover0_B_2 c i a1 h1 a2 h2 a3 h3 hc0 hc1 hc2 hc3 hc4 hc5 hc6 hc7 x0 x1 xo y)
  unfold kernelRun0_B
  dsimp only
  simp only [View.readAt_eq_ld, h1.read_unread, h2.read_unread, h3.read_unread, View.ld_unit_zero (S := S1024x256) hz2, View.ld_unit_zero (S := S1024x1024) hz2]
  simp only [kernelRun0_B.sl.r, kernelRun0_B.sl.v30, kernelRun0_B.sl.v30_1, kernelRun0_B.sl.v30_2, View.readAt_eq_ld, h1.read_unread, h2.read_unread, h3.read_unread,
    View.ld_unit_zero (S := S1024x256) hz2, View.ld_unit_zero (S := S1024x1024) hz2]
  intro p hp
  rcases List.mem_cons.mp hp with rfl | hp
  · exact next_piece (k0_pay2 x0 x1) xo 3 768 rfl inb_S4x256x256_S1x256x256_3_0_0 slices_S256x1024_o0_768_S256x256 shapeCasts_S256x256_S1x256x256
        shapeCasts_S1x256x256_S256x256
  rcases List.mem_cons.mp hp with rfl | hp
  · exact next_piece (k0_pay2 x0 x1) xo 2 512 rfl inb_S4x256x256_S1x256x256_2_0_0 slices_S256x1024_o0_512_S256x256 shapeCasts_S256x256_S1x256x256
        shapeCasts_S1x256x256_S256x256
  rcases List.mem_cons.mp hp with rfl | hp
  · exact next_piece (k0_pay2 x0 x1) xo 1 256 rfl inb_S4x256x256_S1x256x256_1_0_0 slices_S256x1024_o0_256_S256x256 shapeCasts_S256x256_S1x256x256
        shapeCasts_S1x256x256_S256x256
  rcases List.mem_singleton.mp hp with rfl
  exact next_piece (k0_pay2 x0 x1) xo 0 0 rfl inb_S4x256x256_S1x256x256_0_0_0 slices_S256x1024_o0_0_S256x256 shapeCasts_S256x256_S1x256x256
        shapeCasts_S1x256x256_S256x256

/-- After each point the result holds the product over the row tiles met so far. -/
theorem outs_apply (n : ℕ) (hn : n < cfg0.N) (y : S4x256x256.Idx) : outsAt0 m c n hn y
    = ∑ k ∈ range (1024 * (n + 1)), Cert.Proj.pleProjDw1Term (arg0 m c) (arg1 m c) (y 1).val ((y 0).val * 256 + (y 2).val) k := by
  induction n generalizing y with
  | zero =>
    have hz : ¬1 ≤ (⟨0, hn⟩ : Fin cfg0.N).val := by show ¬1 ≤ 0; decide
    refine (congrFun (outsAt0_A m c ⟨0, hn⟩ rfl hz rfl hz rfl hz rfl hz) y).trans ((out_A ..).trans ((product_apply m c ⟨0, hn⟩ y).trans ?_))
    exact sum_congr rfl fun k _ => congrArg _ (Nat.zero_add k)
  | succ n ih =>
    have h4 : n + 1 < 4 := hn
    have h : ¬(n + 1) % 4 = 0 := by omega
    have hp : 1 ≤ n + 1 := by omega
    refine (congrFun (outsAt0_B m c ⟨n + 1, hn⟩ h hp h hp h hp h hp) y).trans ((out_B ..).trans ?_)
    show outsAt0 m c n _ y + _ = _
    rw [ih, product_apply, Nat.mul_add 1024 (n + 1) 1, sum_range_add]

/-! ## The result -/

theorem final : (dats m 0 c).arrAt 2 cfg0.N = Cert.Proj.pleProjDw1 (arg0 m c) (arg1 m c) := by
  refine (dats m 0 c).arrAt_eq_of_covers 2 (Cert.Proj.pleProjDw1 (arg0 m c) (arg1 m c)) (by decide +kernel) fun t hf y => ?_
  have hN : t.val < 4 := t.isLt
  have ht : t.val + 1 = 4 := by have := (flush0_2 t).mp hf; omega
  have e0 : ((win0_2.rect t).emb y 0).val = (y 0).val := win0_2.rect_emb_val_of_index_zero t 0 (index2 t).1 y
  have e1 : ((win0_2.rect t).emb y 1).val = (y 1).val := win0_2.rect_emb_val_of_index_zero t 1 (index2 t).2.1 y
  have e2 : ((win0_2.rect t).emb y 2).val = (y 2).val := win0_2.rect_emb_val_of_index_zero t 2 (index2 t).2.2 y
  show (dats m 0 c).after 2 t y = Cert.Proj.pleProjDw1 (arg0 m c) (arg1 m c) ((win0_2.rect t).emb y)
  rw [after0_2]
  refine (outs_apply m c t.val t.isLt y).trans ?_
  unfold Cert.Proj.pleProjDw1
  rw [e0, e1, e2, ht]

theorem run : θ_run defs (onTc (τ := τ) (main (F := Ideal))) ⟨m, fun _ => 0, ρ⟩ fun r => ∀ c : Dev nD,
    r.2.mem ((c : Thread nD τ).loc main_v0) = Cert.Proj.pleProjDw1 (arg0 m c) (arg1 m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel23Ideal.Proj

namespace Cert.Reference23Ideal.Proj

open Cert.Reference23Ideal Cert.Reference23Ideal.Gen Cert.Reference23Ideal.Read Cert.Attn Cert.Product
open Idealize.ShloMosaic hiding ix2 ix3 eq_ix2 eq_ix3
open Idealize.ShloMosaic.TcCoe Idealize.ShloMosaic.ValueIdx Idealize.SL.Sem Finset

variable (x0 : FVec Ideal S8192x256 .f32) (x1 : FVec Ideal S4096x1024 .bf16)

theorem grad_apply (i : S4x256x256.Idx) : val_main_v7 (F := Ideal) x0 x1 i = Cert.Proj.pleProjDw1 x0 x1 i := by
  have h0 : (i 0).val < 4 := (i 0).isLt
  have h1 : (i 1).val < 256 := (i 1).isLt
  have h2 : (i 2).val < 256 := (i 2).isLt
  rw [val_main_v7_apply, val_main_v6_apply, val_main_v5_apply, val_main_v4_apply]
  unfold Cert.Proj.pleProjDw1
  rw [← sum_fin]
  refine sum_congr rfl fun k _ => ?_
  unfold Cert.Proj.pleProjDw1Term
  rw [mul_comm]
  refine congrArg₂ (· * ·) ((val_main_v1_apply (F := Ideal) x0 _).trans (at2_of x0 _ _ _ rfl ?_)) (at2_of x1 _ _ _ rfl ?_)
  · show (((i 1).val * 4 + (i 0).val) * 256 + (i 2).val) / 1024 = _
    omega
  · show (((i 1).val * 4 + (i 0).val) * 256 + (i 2).val) % 1024 = _
    omega

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = Cert.Proj.pleProjDw1 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext (grad_apply _ _)), (h c).2⟩) (Value.run (F := Ideal) m ρ)

end Cert.Reference23Ideal.Proj

end
-- ==== Proof.Fwd.Pair.lean ====
/- What the forward kernel computes of one pair of heads at one tile of 256 queries: the heads' outputs. -/
module

public import proofs.«01_k».proof.Proof.Value.Pair

@[expose] public section

set_option maxRecDepth 16384

noncomputable section

namespace Cert.Attn.Head

open Finset

variable (H : Head)

/-- The output: the values averaged by the probabilities. -/
def out (i d : ℕ) : EReal := ∑ j ∈ range 4096, H.p i j * H.v j d

variable {H}

theorem out_window (t i d : ℕ) (ht : t < 16) (hi : i / 256 = t) :
    ∑ w ∈ range 768, H.pP i (256 * t + w) * H.vP (256 * t + w) d = H.out i d := by
  rw [sum_window (256 * t) (by omega) (fun r => H.pP i r * H.vP r d) (fun r hr => by rw [pP, if_neg (by omega), zero_mul])
    (fun r hr => by rw [pP_out t i r hi hr, zero_mul]), out]
  exact sum_congr rfl fun j _ => by unfold pP vP; rw [if_pos (by omega), if_pos (by omega), Nat.add_sub_cancel_left]

end Cert.Attn.Head

namespace Cert.KernelIdeal.Attn

open Cert.KernelIdeal Cert.KernelIdeal.Gen Cert.Attn
open Idealize.ShloMosaic Idealize.ShloMosaic.ValueIdx Finset

/-- Both heads' probabilities on all lanes of the values. -/
def stackOut (w : BitVec 32) (q k1 k2 k3 v1 v2 v3 : FVec Ideal S256x128 .bf16) (b : FVec Ideal S2x256x768 .f32) :
    FVec Ideal S512x128 .f32 :=
  matmul dot_S512x768_S768x128_S512x128_1_0_0_1_n_n none
    (k0_pay14 (F := Ideal) (probs (scores w (k0_pay8 (F := Ideal) q) (k0_pay10 (F := Ideal) k1 k2 k3) b)))
    (k0_pay10 (F := Ideal) v1 v2 v3) (constant S512x128 .f32 0x00000000#32)

/-- The pair's output block: of each head its own lanes. -/
def pairOut (w : BitVec 32) (q k1 k2 k3 v1 v2 v3 : FVec Ideal S256x128 .bf16) (b : FVec Ideal S2x256x768 .f32) :
    FVec Ideal S256x128 .f32 :=
  select (cmpi .slt (iota .tc S256x128 32 [1] iota_S256x128_d1_w32) (broadcast S256x128 64#32))
    (extractStridedSlice S256x128 ![0, 0] (stackOut w q k1 k2 k3 v1 v2 v3 b) slices_S512x128_o0_0_S256x128)
    (extractStridedSlice S256x128 ![256, 0] (stackOut w q k1 k2 k3 v1 v2 v3 b) slices_S512x128_o256_0_S256x128)

variable {hd : ℕ → Head} {t : ℕ} {q k1 k2 k3 v1 v2 v3 g : FVec Ideal S256x128 .bf16} {b : FVec Ideal S2x256x768 .f32}

theorem PairOf.pairOut_apply (P : PairOf hd t q k1 k2 k3 v1 v2 v3 g b) (i : S256x128.Idx) :
    pairOut (BitVec.ofNat 32 t) q k1 k2 k3 v1 v2 v3 b i = (hd ((i 1).val / 64)).out (256 * t + (i 0).val) ((i 1).val % 64) := by
  have h0 : (i 0).val < 256 := (i 0).isLt
  have h1 : (i 1).val < 128 := (i 1).isLt
  have hm : ∀ r : Fin 512, r.val / 256 = (i 1).val / 64 → r.val % 256 = (i 0).val →
      stackOut (BitVec.ofNat 32 t) q k1 k2 k3 v1 v2 v3 b (ix2 r (i 1))
      = (hd ((i 1).val / 64)).out (256 * t + (i 0).val) ((i 1).val % 64) := by
    intro r hr hr'
    unfold stackOut
    rw [nn_apply, ← Head.out_window t (256 * t + (i 0).val) _ P.tile (by omega), ← sum_fin]
    refine sum_congr rfl fun w _ => ?_
    refine congrArg₂ (· * · : EReal → EReal → EReal) ?_ (P.values _)
    refine (P.probs_apply _ P.scores_apply _).trans ?_
    show (hd (r.val / 256)).pP (256 * t + r.val % 256) (256 * t + w.val) = _
    rw [hr, hr']
  unfold pairOut
  rw [firstHead_apply]
  by_cases hl : (i 1).val < 64
  · rw [if_pos hl]
    refine Eq.trans ?_ (hm ⟨(i 0).val, by omega⟩ (by show (i 0).val / 256 = _; omega) (Nat.mod_eq_of_lt h0))
    exact extractStridedSlice_apply _ _ _ _ _ (Fin.forall_fin_two.mpr ⟨(Nat.zero_add _).symm, (Nat.zero_add _).symm⟩)
  · rw [if_neg hl]
    refine Eq.trans ?_ (hm ⟨256 + (i 0).val, by omega⟩ (by show (256 + (i 0).val) / 256 = _; omega)
      (by show (256 + (i 0).val) % 256 = _; omega))
    exact extractStridedSlice_apply _ _ _ _ _ (Fin.forall_fin_two.mpr ⟨rfl, (Nat.zero_add _).symm⟩)

end Cert.KernelIdeal.Attn

end
-- ==== Proof.Fwd.Ref.lean ====
/- The forward reference: its result is the heads' outputs, where the heads' queries, keys and biases are real. -/
module

public import proofs.«01_k».proof.Proof.Fwd.Pair
public import proofs.«01_k».proof.Proof.Ref.Value
public import proofs.«01_k».proof.Proof.Gen.Reference24Ideal.Read

@[expose] public section

set_option maxRecDepth 16384

noncomputable section

namespace Cert.Reference24Ideal.Attn

open Cert.Reference24Ideal Cert.Reference24Ideal.Gen Cert.Reference24Ideal.Read Cert.Attn
open Idealize.ShloMosaic Idealize.ShloMosaic.TcCoe Idealize.ShloMosaic.ValueIdx Idealize.SL.Sem Idealize.ShloMosaic.StableHlo Finset

section
variable (x0 : (⟨2, ![4096, 3072]⟩ : Shape).Idx → EReal) (x1 : (⟨2, ![16, 513]⟩ : Shape).Idx → EReal)
  (x2 : (⟨2, ![4096, 1024]⟩ : Shape).Idx → EReal)

/-- Values and probabilities are the backward reference's. -/
theorem v_same : val_main_v8 (F := Ideal) x0 = Cert.ReferenceIdeal.Read.val_main_v8 (F := Ideal) x0 := rfl
theorem scores_same : val_main_v43 (F := Ideal) x0 x1 = Cert.ReferenceIdeal.Read.val_main_v43_0 (F := Ideal) x0 x1 := rfl
theorem top_same : val_main_v44 (F := Ideal) x0 x1 = Cert.ReferenceIdeal.Read.val_main_v44 (F := Ideal) x0 x1 := by
  unfold val_main_v44 Cert.ReferenceIdeal.Read.val_main_v44
  rw [scores_same]; rfl
theorem e_same : val_main_v50 (F := Ideal) x0 x1 = Cert.ReferenceIdeal.Read.val_main_v64 (F := Ideal) x0 x1 := by
  unfold val_main_v50 val_main_v49 val_main_v48 val_main_v47 val_main_v46
  rw [scores_same, top_same]; rfl
theorem p_same : val_main_v54 (F := Ideal) x0 x1 = Cert.ReferenceIdeal.Read.val_main_v68 (F := Ideal) x0 x1 := by
  unfold val_main_v54 val_main_v53 val_main_v52 val_main_v51
  rw [e_same]; rfl

theorem out_apply (hR : ∀ h, (headOf x0 x1 x2 h).Real) (i : S4096x1024.Idx) :
    val_main_v58 (F := Ideal) x0 x1 i = (headOf x0 x1 x2 ((i 1).val / 64)).out (i 0).val ((i 1).val % 64) := by
  have h1 : (i 1).val < 1024 := (i 1).isLt
  have c0 : ((i 0).val * 1024 + (i 1).val) / 1024 = (i 0).val := by omega
  have c1 : ((i 0).val * 1024 + (i 1).val) / 64 % 16 = (i 1).val / 64 := by omega
  have c2 : ((i 0).val * 1024 + (i 1).val) % 64 = (i 1).val % 64 := by omega
  rw [val_main_v58_apply, val_main_v57_apply, val_main_v56_apply, val_main_v55_apply, Head.out, ← sum_fin]
  refine sum_congr rfl fun k _ => ?_
  rw [v_same, p_same, Cert.ReferenceIdeal.Attn.p_apply x0 x1 x2 hR, Cert.ReferenceIdeal.Attn.v_apply x0 x1 x2]
  show (headOf x0 x1 x2 (((i 0).val * 1024 + (i 1).val) / 64 % 16)).v k.val (((i 0).val * 1024 + (i 1).val) % 64)
    * (headOf x0 x1 x2 (((i 0).val * 1024 + (i 1).val) / 64 % 16)).p (((i 0).val * 1024 + (i 1).val) / 1024) k.val = _
  rw [c0, c1, c2, mul_comm]

end

variable (m : (ℓ : Loc nD τ sig) → Buf (Elt Ideal) ℓ) (ρ : Dev nD → PrngReg)

/-- The heads of the arguments; their cotangents, which the output does not read, are zero. -/
def heads (c : Dev nD) (h : ℕ) : Head :=
  headOf (m ((c.tc : Thread nD τ).loc main_arg0)) (m ((c.tc : Thread nD τ).loc main_arg1)) (fun _ => 0) h

def output (c : Dev nD) : S4096x1024.Idx → EReal := fun i => (heads m c ((i 1).val / 64)).out (i 0).val ((i 1).val % 64)

theorem run (hR : ∀ c h, (heads m c h).Real) :
    θ_run defs (onTc (τ := τ) (main (F := Ideal))) ⟨m, fun _ => 0, ρ⟩ fun r => ∀ c : Dev nD,
      r.2.mem ((c.tc : Thread nD τ).loc main_v58) = output m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c).1.trans ((val_main_v58_eq (F := Ideal) m c).trans (funext (out_apply _ _ _ (hR c)))), (h c).2⟩)
    (Cert.Reference24Ideal.Value.run m ρ)

end Cert.Reference24Ideal.Attn
-- ==== Proof.Fwd.Tile.lean ====
/- One tile of 256 queries of all sixteen heads: the forward kernel's body leaves the heads' outputs, pair by pair. -/
module

public import proofs.«01_k».proof.Proof.Fwd.Pair
public import proofs.«01_k».proof.Proof.Gen.Kernel24Ideal.Value

@[expose] public section

set_option maxRecDepth 16384

noncomputable section

namespace Cert.Kernel24Ideal.Attn

open Cert.Kernel24Ideal Cert.Kernel24Ideal.Gen Cert.Attn Cert.KernelIdeal.Attn
open Idealize.ShloMosaic Idealize.ShloMosaic.ValueIdx Finset

/-- The body's result, its eight pieces spelt as one function of the pair's windows. -/
theorem out_eq (i : grid0.Coords) (x0 x1 x2 x3 x4 x5 x6 : Vec Ideal S256x1024 .bf16) (x7 : Vec Ideal S16x256x768 .f32) :
    out0_8 (F := Ideal) i x0 x1 x2 x3 x4 x5 x6 x7 = View.canon (Val := Elt Ideal)
      [⟨r0_14, pairOut (BitVec.ofNat 32 (i 1).val) (View.ld x0 r0_14) (View.ld x1 r0_14) (View.ld x2 r0_14) (View.ld x3 r0_14)
          (View.ld x4 r0_14) (View.ld x5 r0_14) (View.ld x6 r0_14) (View.ld x7 r0_15)⟩,
       ⟨r0_12, pairOut (BitVec.ofNat 32 (i 1).val) (View.ld x0 r0_12) (View.ld x1 r0_12) (View.ld x2 r0_12) (View.ld x3 r0_12)
          (View.ld x4 r0_12) (View.ld x5 r0_12) (View.ld x6 r0_12) (View.ld x7 r0_13)⟩,
       ⟨r0_10, pairOut (BitVec.ofNat 32 (i 1).val) (View.ld x0 r0_10) (View.ld x1 r0_10) (View.ld x2 r0_10) (View.ld x3 r0_10)
          (View.ld x4 r0_10) (View.ld x5 r0_10) (View.ld x6 r0_10) (View.ld x7 r0_11)⟩,
       ⟨r0_8, pairOut (BitVec.ofNat 32 (i 1).val) (View.ld x0 r0_8) (View.ld x1 r0_8) (View.ld x2 r0_8) (View.ld x3 r0_8)
          (View.ld x4 r0_8) (View.ld x5 r0_8) (View.ld x6 r0_8) (View.ld x7 r0_9)⟩,
       ⟨r0_6, pairOut (BitVec.ofNat 32 (i 1).val) (View.ld x0 r0_6) (View.ld x1 r0_6) (View.ld x2 r0_6) (View.ld x3 r0_6)
          (View.ld x4 r0_6) (View.ld x5 r0_6) (View.ld x6 r0_6) (View.ld x7 r0_7)⟩,
       ⟨r0_4, pairOut (BitVec.ofNat 32 (i 1).val) (View.ld x0 r0_4) (View.ld x1 r0_4) (View.ld x2 r0_4) (View.ld x3 r0_4)
          (View.ld x4 r0_4) (View.ld x5 r0_4) (View.ld x6 r0_4) (View.ld x7 r0_5)⟩,
       ⟨r0_2, pairOut (BitVec.ofNat 32 (i 1).val) (View.ld x0 r0_2) (View.ld x1 r0_2) (View.ld x2 r0_2) (View.ld x3 r0_2)
          (View.ld x4 r0_2) (View.ld x5 r0_2) (View.ld x6 r0_2) (View.ld x7 r0_3)⟩,
       ⟨r0_0, pairOut (BitVec.ofNat 32 (i 1).val) (View.ld x0 r0_0) (View.ld x1 r0_0) (View.ld x2 r0_0) (View.ld x3 r0_0)
          (View.ld x4 r0_0) (View.ld x5 r0_0) (View.ld x6 r0_0) (View.ld x7 r0_1)⟩] := rfl

/-- The blocks of sixteen heads at tile `t`. -/
structure TileOf (hd : ℕ → Head) (t : ℕ) (x0 x1 x2 x3 x4 x5 x6 : Vec Ideal S256x1024 .bf16) (x7 : Vec Ideal S16x256x768 .f32) : Prop where
  tile : t < 16
  real : ∀ h, (hd h).Real
  q : ∀ y, x0 y = (hd ((y 1).val / 64)).q (256 * t + (y 0).val) ((y 1).val % 64)
  k1 : ∀ y, x1 y = (hd ((y 1).val / 64)).kP (256 * t + (y 0).val) ((y 1).val % 64)
  k2 : ∀ y, x2 y = (hd ((y 1).val / 64)).kP (256 * t + (256 + (y 0).val)) ((y 1).val % 64)
  k3 : ∀ y, x3 y = (hd ((y 1).val / 64)).kP (256 * t + (512 + (y 0).val)) ((y 1).val % 64)
  v1 : ∀ y, x4 y = (hd ((y 1).val / 64)).vP (256 * t + (y 0).val) ((y 1).val % 64)
  v2 : ∀ y, x5 y = (hd ((y 1).val / 64)).vP (256 * t + (256 + (y 0).val)) ((y 1).val % 64)
  v3 : ∀ y, x6 y = (hd ((y 1).val / 64)).vP (256 * t + (512 + (y 0).val)) ((y 1).val % 64)
  b : ∀ y, 512 ≤ 256 * t + (y 2).val → x7 y
    = if ok (256 * t + (y 1).val) (256 * t + (y 2).val - 512)
      then (hd (y 0).val).b (256 * t + (y 1).val) (256 * t + (y 2).val - 512) else ⊥

/-- The lanes of pair `j`. -/
theorem lanes_apply (j : ℕ) (hin) (x : Vec Ideal S256x1024 .bf16) (f : Head → ℕ → ℕ → EReal) (hd : ℕ → Head)
    (h : ∀ y : S256x1024.Idx, x y = f (hd ((y 1).val / 64)) (y 0).val ((y 1).val % 64)) (y : S256x128.Idx) :
    View.ld x (Rect.unit (s := S256x1024) ![0, 128 * j] S256x128.size hin) y
      = f (hd (2 * j + (y 1).val / 64)) (y 0).val ((y 1).val % 64) := by
  refine (h ((Rect.unit (s := S256x1024) ![0, 128 * j] S256x128.size hin).emb y)).trans ?_
  show f (hd ((128 * j + 1 * (y 1).val) / 64)) (0 + 1 * (y 0).val) ((128 * j + 1 * (y 1).val) % 64) = _
  rw [show (128 * j + 1 * (y 1).val) / 64 = 2 * j + (y 1).val / 64 by omega,
    show (128 * j + 1 * (y 1).val) % 64 = (y 1).val % 64 by omega, Nat.zero_add, Nat.one_mul]

/-- The bias planes of pair `j`. -/
theorem planes_apply (j : ℕ) (hin) (x : Vec Ideal S16x256x768 .f32) (f : ℕ → ℕ → ℕ → EReal) (P : ℕ → Prop)
    (h : ∀ y : S16x256x768.Idx, P (y 2).val → x y = f (y 0).val (y 1).val (y 2).val) (y : S2x256x768.Idx) (hP : P (y 2).val) :
    View.ld x (Rect.unit (s := S16x256x768) ![2 * j, 0, 0] S2x256x768.size hin) y = f (2 * j + (y 0).val) (y 1).val (y 2).val := by
  have e := h ((Rect.unit (s := S16x256x768) ![2 * j, 0, 0] S2x256x768.size hin).emb y)
  have e' : P (0 + 1 * (y 2).val) → View.ld x (Rect.unit (s := S16x256x768) ![2 * j, 0, 0] S2x256x768.size hin) y
      = f (2 * j + 1 * (y 0).val) (0 + 1 * (y 1).val) (0 + 1 * (y 2).val) := e
  simp only [Nat.zero_add, Nat.one_mul] at e'
  exact e' hP

namespace TileOf

variable {hd : ℕ → Head} {t : ℕ} {x0 x1 x2 x3 x4 x5 x6 : Vec Ideal S256x1024 .bf16} {x7 : Vec Ideal S16x256x768 .f32}
  (T : TileOf hd t x0 x1 x2 x3 x4 x5 x6 x7)
include T

/-- The outputs of the tile. -/
def result (hd : ℕ → Head) (t : ℕ) : S256x1024.Idx → EReal :=
  fun y => (hd ((y 1).val / 64)).out (256 * t + (y 0).val) ((y 1).val % 64)

theorem pair (j : ℕ) (hl) (hp) (w : BitVec 32) (hw : w = BitVec.ofNat 32 t) (y : S256x128.Idx) :
    pairOut w (View.ld x0 (Rect.unit (s := S256x1024) ![0, 128 * j] S256x128.size hl))
        (View.ld x1 (Rect.unit (s := S256x1024) ![0, 128 * j] S256x128.size hl))
        (View.ld x2 (Rect.unit (s := S256x1024) ![0, 128 * j] S256x128.size hl))
        (View.ld x3 (Rect.unit (s := S256x1024) ![0, 128 * j] S256x128.size hl))
        (View.ld x4 (Rect.unit (s := S256x1024) ![0, 128 * j] S256x128.size hl))
        (View.ld x5 (Rect.unit (s := S256x1024) ![0, 128 * j] S256x128.size hl))
        (View.ld x6 (Rect.unit (s := S256x1024) ![0, 128 * j] S256x128.size hl))
        (View.ld x7 (Rect.unit (s := S16x256x768) ![2 * j, 0, 0] S2x256x768.size hp)) y
      = result hd t ((Rect.unit (s := S256x1024) ![0, 128 * j] S256x128.size hl).emb y) := by
  subst hw
  refine (PairOf.pairOut_apply (hd := fun s => hd (2 * j + s)) (t := t)
    (g := fun i => (hd (2 * j + (i 1).val / 64)).g (256 * t + (i 0).val) ((i 1).val % 64))
    { tile := T.tile
      real := fun _ => T.real _
      q := lanes_apply j hl x0 (fun H r d => H.q (256 * t + r) d) hd T.q
      g := fun _ => rfl
      k1 := lanes_apply j hl x1 (fun H r d => H.kP (256 * t + r) d) hd T.k1
      k2 := lanes_apply j hl x2 (fun H r d => H.kP (256 * t + (256 + r)) d) hd T.k2
      k3 := lanes_apply j hl x3 (fun H r d => H.kP (256 * t + (512 + r)) d) hd T.k3
      v1 := lanes_apply j hl x4 (fun H r d => H.vP (256 * t + r) d) hd T.v1
      v2 := lanes_apply j hl x5 (fun H r d => H.vP (256 * t + (256 + r)) d) hd T.v2
      v3 := lanes_apply j hl x6 (fun H r d => H.vP (256 * t + (512 + r)) d) hd T.v3
      b := planes_apply j hp x7 (fun h r w => if ok (256 * t + r) (256 * t + w - 512)
        then (hd h).b (256 * t + r) (256 * t + w - 512) else ⊥) (fun w => 512 ≤ 256 * t + w) T.b } y).trans ?_
  show _ = (hd ((128 * j + 1 * (y 1).val) / 64)).out (256 * t + (0 + 1 * (y 0).val)) ((128 * j + 1 * (y 1).val) % 64)
  rw [show (128 * j + 1 * (y 1).val) / 64 = 2 * j + (y 1).val / 64 by omega,
    show (128 * j + 1 * (y 1).val) % 64 = (y 1).val % 64 by omega, Nat.zero_add, Nat.one_mul]

theorem out_apply (i : grid0.Coords) (hi : (i 1).val = t) (y : S256x1024.Idx) :
    out0_8 (F := Ideal) i x0 x1 x2 x3 x4 x5 x6 x7 y = result hd t y := by
  have hw : BitVec.ofNat 32 (i 1).val = BitVec.ofNat 32 t := by rw [hi]
  rw [out_eq]
  refine View.canon_apply_of_pieces (result hd t) _ ?_ y (cover0_8 (F := Ideal) _ _ _ _ _ _ _ _ y)
  simp only [List.forall_mem_cons]
  exact ⟨T.pair 7 _ _ _ hw, T.pair 6 _ _ _ hw, T.pair 5 _ _ _ hw, T.pair 4 _ _ _ hw, T.pair 3 _ _ _ hw, T.pair 2 _ _ _ hw,
    T.pair 1 _ _ _ hw, T.pair 0 _ _ _ hw, fun _ h => absurd h List.not_mem_nil⟩

end TileOf

end Cert.Kernel24Ideal.Attn

end
-- ==== Proof.Fwd.Run.lean ====
/- The whole grid of the forward kernel: every point's blocks are a tile of the sixteen heads, and the result ends holding
   the heads' outputs. -/
module

public import proofs.«01_k».proof.Proof.Fwd.Tile
public import proofs.«01_k».proof.Proof.Value.Run
public import proofs.«01_k».proof.Pre_finite_rows
public import Idealize.ShloMosaic.Lib.Pipeline.ValueKit

@[expose] public section

set_option maxRecDepth 16384

noncomputable section

namespace Cert.Kernel24Ideal.Attn

open Cert.Kernel24Ideal Cert.Kernel24Ideal.Gen Cert.Attn
open Cert.KernelIdeal.Attn (biasTile biasTile_apply padRows padRows_apply real_of_lt)
open Idealize.ShloMosaic Idealize.ShloMosaic.TcCoe Idealize.ShloMosaic.ValueIdx Idealize.SL.Sem Idealize.ShloMosaic.StableHlo Finset
open Idealize.ShloMosaic.Pipeline (Dat Cfg Window)

variable (m : (ℓ : Loc nD τ sig) → Buf (Elt Ideal) ℓ) (ρ : Dev nD → PrngReg) (c : Dev nD)

/-- The arguments and the heads they hold; the heads' cotangents, which the output does not read, are zero. -/
abbrev arg0 : FVec Ideal S4096x3072 .bf16 := m ((c : Thread nD τ).loc main_arg0)
abbrev arg1 : FVec Ideal S16x513 .f32 := m ((c : Thread nD τ).loc main_arg1)
def heads (h : ℕ) : Head := headOf (arg0 m c) (arg1 m c) (fun _ => 0) h

/-! ## The arrays the launch hands the grid -/

theorem V_bias : V m c main_v31 = biasTile (arg1 m c) := by
  unfold V
  after_reads_simp
  rfl

theorem V_rows : V m c main_v0 = padRows (arg0 m c) := by
  unfold V
  after_reads_simp
  rfl

/-! ## Where the blocks lie -/

theorem index0 : ∀ t : Fin grid0.N, win0_0.index t 0 = t.val + 2 ∧ win0_0.index t 1 = 0 := by decide +kernel
theorem index1 : ∀ t : Fin grid0.N, win0_1.index t 0 = t.val ∧ win0_1.index t 1 = 1 := by decide +kernel
theorem index2 : ∀ t : Fin grid0.N, win0_2.index t 0 = t.val + 1 ∧ win0_2.index t 1 = 1 := by decide +kernel
theorem index3 : ∀ t : Fin grid0.N, win0_3.index t 0 = t.val + 2 ∧ win0_3.index t 1 = 1 := by decide +kernel
theorem index4 : ∀ t : Fin grid0.N, win0_4.index t 0 = t.val ∧ win0_4.index t 1 = 2 := by decide +kernel
theorem index5 : ∀ t : Fin grid0.N, win0_5.index t 0 = t.val + 1 ∧ win0_5.index t 1 = 2 := by decide +kernel
theorem index6 : ∀ t : Fin grid0.N, win0_6.index t 0 = t.val + 2 ∧ win0_6.index t 1 = 2 := by decide +kernel
theorem index7 : ∀ t : Fin grid0.N, win0_7.index t 0 = 0 ∧ win0_7.index t 1 = 0 ∧ win0_7.index t 2 = 0 := by decide +kernel
theorem index8 : ∀ t : Fin grid0.N, win0_8.index t 0 = t.val ∧ win0_8.index t 1 = 0 := by decide +kernel
theorem coord_tile : ∀ t : Fin grid0.N, (grid0.coords t 1).val = t.val := by decide +kernel

/-- An element of the padded rows. -/
theorem padBlock (i : S4608x3072.Idx) (a b : ℕ) (ha : (i 0).val = a) (hb : (i 1).val = b) :
    (V m c main_v0 : FVec Ideal S4608x3072 .bf16) i = if 512 ≤ a then at2 (arg0 m c) (a - 512) b else 0 :=
  (congrFun (V_rows m c) i).trans (padRows_apply _ i a b ha hb)

/-- Elements of the padded rows as the heads' queries, padded keys and padded values. -/
theorem asQ (h a b i d : ℕ) (ha : a = 512 + i) (hb : b = 64 * h + d) (hd : b < 1024) :
    (if 512 ≤ a then at2 (arg0 m c) (a - 512) b else 0) = (heads m c h).q i d := by
  subst ha hb
  rw [if_pos (by omega), Nat.add_sub_cancel_left]
  exact (headOf_q _ _ _ h i d hd).symm
theorem asK (h a b r d : ℕ) (ha : a = r) (hb : b = 1024 + (64 * h + d)) (hd : b < 2048) :
    (if 512 ≤ a then at2 (arg0 m c) (a - 512) b else 0) = (heads m c h).kP r d := by
  subst ha hb
  unfold Head.kP
  rw [show (heads m c h).k (a - 512) d = at2 (arg0 m c) (a - 512) (1024 + (64 * h + d)) from headOf_k _ _ _ h _ d (by omega)]
theorem asV (h a b r d : ℕ) (ha : a = r) (hb : b = 2048 + (64 * h + d)) :
    (if 512 ≤ a then at2 (arg0 m c) (a - 512) b else 0) = (heads m c h).vP r d := by
  subst ha hb; rfl

theorem block0 (t : Fin grid0.N) (y : S256x1024.Idx) :
    iblk m c 0 t y = (heads m c ((y 1).val / 64)).q (256 * t.val + (y 0).val) ((y 1).val % 64) := by
  have hy : (y 1).val < 1024 := (y 1).isLt
  refine (padBlock m c ((win0_0.rect t).emb y) ((t.val + 2) * 256 + (y 0).val) (0 * 1024 + (y 1).val)
    ((win0_0.rect_emb_val t y 0).trans (by rw [(index0 t).1]; rfl)) ((win0_0.rect_emb_val t y 1).trans (by rw [(index0 t).2]; rfl))).trans ?_
  exact asQ m c ((y 1).val / 64) _ _ (256 * t.val + (y 0).val) ((y 1).val % 64) (by omega) (by omega) (by omega)
theorem block1 (t : Fin grid0.N) (y : S256x1024.Idx) :
    iblk m c 1 t y = (heads m c ((y 1).val / 64)).kP (256 * t.val + (y 0).val) ((y 1).val % 64) := by
  have hy : (y 1).val < 1024 := (y 1).isLt
  refine (padBlock m c ((win0_1.rect t).emb y) (t.val * 256 + (y 0).val) (1 * 1024 + (y 1).val)
    ((win0_1.rect_emb_val t y 0).trans (by rw [(index1 t).1]; rfl)) ((win0_1.rect_emb_val t y 1).trans (by rw [(index1 t).2]; rfl))).trans ?_
  exact asK m c ((y 1).val / 64) _ _ (256 * t.val + (y 0).val) ((y 1).val % 64) (by omega) (by omega) (by omega)
theorem block2 (t : Fin grid0.N) (y : S256x1024.Idx) :
    iblk m c 2 t y = (heads m c ((y 1).val / 64)).kP (256 * t.val + (256 + (y 0).val)) ((y 1).val % 64) := by
  have hy : (y 1).val < 1024 := (y 1).isLt
  refine (padBlock m c ((win0_2.rect t).emb y) ((t.val + 1) * 256 + (y 0).val) (1 * 1024 + (y 1).val)
    ((win0_2.rect_emb_val t y 0).trans (by rw [(index2 t).1]; rfl)) ((win0_2.rect_emb_val t y 1).trans (by rw [(index2 t).2]; rfl))).trans ?_
  exact asK m c ((y 1).val / 64) _ _ (256 * t.val + (256 + (y 0).val)) ((y 1).val % 64) (by omega) (by omega) (by omega)
theorem block3 (t : Fin grid0.N) (y : S256x1024.Idx) :
    iblk m c 3 t y = (heads m c ((y 1).val / 64)).kP (256 * t.val + (512 + (y 0).val)) ((y 1).val % 64) := by
  have hy : (y 1).val < 1024 := (y 1).isLt
  refine (padBlock m c ((win0_3.rect t).emb y) ((t.val + 2) * 256 + (y 0).val) (1 * 1024 + (y 1).val)
    ((win0_3.rect_emb_val t y 0).trans (by rw [(index3 t).1]; rfl)) ((win0_3.rect_emb_val t y 1).trans (by rw [(index3 t).2]; rfl))).trans ?_
  exact asK m c ((y 1).val / 64) _ _ (256 * t.val + (512 + (y 0).val)) ((y 1).val % 64) (by omega) (by omega) (by omega)
theorem block4 (t : Fin grid0.N) (y : S256x1024.Idx) :
    iblk m c 4 t y = (heads m c ((y 1).val / 64)).vP (256 * t.val + (y 0).val) ((y 1).val % 64) := by
  have hy : (y 1).val < 1024 := (y 1).isLt
  refine (padBlock m c ((win0_4.rect t).emb y) (t.val * 256 + (y 0).val) (2 * 1024 + (y 1).val)
    ((win0_4.rect_emb_val t y 0).trans (by rw [(index4 t).1]; rfl)) ((win0_4.rect_emb_val t y 1).trans (by rw [(index4 t).2]; rfl))).trans ?_
  exact asV m c ((y 1).val / 64) _ _ (256 * t.val + (y 0).val) ((y 1).val % 64) (by omega) (by omega)
theorem block5 (t : Fin grid0.N) (y : S256x1024.Idx) :
    iblk m c 5 t y = (heads m c ((y 1).val / 64)).vP (256 * t.val + (256 + (y 0).val)) ((y 1).val % 64) := by
  have hy : (y 1).val < 1024 := (y 1).isLt
  refine (padBlock m c ((win0_5.rect t).emb y) ((t.val + 1) * 256 + (y 0).val) (2 * 1024 + (y 1).val)
    ((win0_5.rect_emb_val t y 0).trans (by rw [(index5 t).1]; rfl)) ((win0_5.rect_emb_val t y 1).trans (by rw [(index5 t).2]; rfl))).trans ?_
  exact asV m c ((y 1).val / 64) _ _ (256 * t.val + (256 + (y 0).val)) ((y 1).val % 64) (by omega) (by omega)
theorem block6 (t : Fin grid0.N) (y : S256x1024.Idx) :
    iblk m c 6 t y = (heads m c ((y 1).val / 64)).vP (256 * t.val + (512 + (y 0).val)) ((y 1).val % 64) := by
  have hy : (y 1).val < 1024 := (y 1).isLt
  refine (padBlock m c ((win0_6.rect t).emb y) ((t.val + 2) * 256 + (y 0).val) (2 * 1024 + (y 1).val)
    ((win0_6.rect_emb_val t y 0).trans (by rw [(index6 t).1]; rfl)) ((win0_6.rect_emb_val t y 1).trans (by rw [(index6 t).2]; rfl))).trans ?_
  exact asV m c ((y 1).val / 64) _ _ (256 * t.val + (512 + (y 0).val)) ((y 1).val % 64) (by omega) (by omega)

/-- The bias, off the padding. -/
theorem block7 (t : Fin grid0.N) (y : S16x256x768.Idx) (h : 512 ≤ 256 * t.val + (y 2).val) : iblk m c 7 t y
    = if ok (256 * t.val + (y 1).val) (256 * t.val + (y 2).val - 512)
      then (heads m c (y 0).val).b (256 * t.val + (y 1).val) (256 * t.val + (y 2).val - 512) else ⊥ := by
  have e0 : ((win0_7.rect t).emb y 0).val = (y 0).val :=
    (win0_7.rect_emb_val t y 0).trans (by rw [(index7 t).1, Nat.zero_mul, Nat.zero_add])
  have e1 : ((win0_7.rect t).emb y 1).val = (y 1).val :=
    (win0_7.rect_emb_val t y 1).trans (by rw [(index7 t).2.1, Nat.zero_mul, Nat.zero_add])
  have e2 : ((win0_7.rect t).emb y 2).val = (y 2).val :=
    (win0_7.rect_emb_val t y 2).trans (by rw [(index7 t).2.2, Nat.zero_mul, Nat.zero_add])
  have := biasTile_apply (arg0 m c) (arg1 m c) (fun _ => 0) t.val ((win0_7.rect t).emb y) (by rw [e2]; exact h)
  rw [e0, e1, e2] at this
  exact (congrFun (V_bias m c) ((win0_7.rect t).emb y)).trans this

/-! ## The result -/

/-- The outputs of all heads. -/
def output : S4096x1024.Idx → EReal := fun i => (heads m c ((i 1).val / 64)).out (i 0).val ((i 1).val % 64)

theorem tileOf (hR : ∀ h, (heads m c h).Real) (t : Fin grid0.N) :
    TileOf (heads m c) t.val (iblk m c 0 t) (iblk m c 1 t) (iblk m c 2 t) (iblk m c 3 t) (iblk m c 4 t) (iblk m c 5 t) (iblk m c 6 t)
      (iblk m c 7 t) :=
  TileOf.mk (lt_of_lt_of_eq t.isLt N_0) hR (block0 m c t) (block1 m c t) (block2 m c t) (block3 m c t) (block4 m c t) (block5 m c t)
    (block6 m c t) (block7 m c t)

theorem final8 (hR : ∀ h, (heads m c h).Real) : (dats m 0 c).arrAt 8 cfg0.N = output m c := by
  refine (dats m 0 c).arrAt_eq_of_covers 8 (output m c) (by decide +kernel) fun t hf y => ?_
  have e0 : ((win0_8.rect t).emb y 0).val = 256 * t.val + (y 0).val :=
    (win0_8.rect_emb_val t y 0).trans (by rw [(index8 t).1]; exact congrArg (· + _) (Nat.mul_comm _ _))
  have e1 : ((win0_8.rect t).emb y 1).val = (y 1).val :=
    (win0_8.rect_emb_val t y 1).trans (by rw [(index8 t).2, Nat.zero_mul, Nat.zero_add])
  show (dats m 0 c).after 8 t y = output m c ((win0_8.rect t).emb y)
  rw [after0_8]
  refine ((tileOf m c hR t).out_apply (grid0.coords t) (coord_tile t) y).trans ?_
  unfold output
  rw [e0, e1]
  rfl

theorem run (hR : ∀ c h, (heads m c h).Real) :
    θ_run defs (onTc (τ := τ) (main (F := Ideal))) ⟨m, fun _ => 0, ρ⟩ fun r => ∀ c : Dev nD,
      r.2.mem ((c.tc : Thread nD τ).loc main_v32) = output m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final8 m c (hR c)), (h c).2⟩) (Cert.Kernel24Ideal.Value.run_blocks m ρ)

/-! ## The precondition -/

variable [Cert.Pre_finite_rows.Facts]

theorem pre_real (x0 : S4096x3072.Idx → EReal) (x1 : S16x513.Idx → EReal) (x2 : S4096x1024.Idx → EReal)
    (h0 : (Cert.Pre_finite_rows.fn (F := Ideal) x0 x1).1 = fun _ => 1#1)
    (h1 : (Cert.Pre_finite_rows.fn (F := Ideal) x0 x1).2 = fun _ => 1#1) (h : ℕ) : (headOf x0 x1 x2 h).Real :=
  headOf_real x0 x1 x2
    (fun y hy => real_of_lt (x0 y) (by
      have e := congrFun h0 (ValueIdx.ix2 ⟨(y 0).val, (y 0).isLt⟩ ⟨(y 1).val, hy⟩)
      refine Eq.trans ?_ e
      refine congrArg (fun v => Ideal.cmp .olt (max v (-v)) (FloatOps.ofBits (F := Ideal) .f32 0x7F800000#32)) ?_
      refine congrArg x0 (Shape.idx_ext₂ ?_ ?_)
      · exact (Nat.zero_add _).symm
      · exact (Nat.zero_add _).symm))
    (fun y => real_of_lt (x1 y) (congrFun h1 y)) h

end Cert.Kernel24Ideal.Attn
-- ==== Proof.Math.Columns.lean ====
/- Sums down the columns of a tile of rows, kept as one row. -/
module

public import proofs.«01_k».proof.Proof.Math.Product

@[expose] public section

noncomputable section

namespace Cert.Norm

open Cert.Attn Cert.Product Idealize.ShloMosaic Finset
open Idealize.ShloMosaic.ValueIdx (ix1)

/-- The sum of each column of an array of 4096 rows, as one row. -/
def colSum (f : (⟨2, ![4096, 1024]⟩ : Shape).Idx → EReal) : (⟨2, ![1, 1024]⟩ : Shape).Idx → EReal :=
  fun i => ∑ r ∈ range 4096, at2 f r (i 1).val

/-- A tile's sum of each column, as one row, with the column's entries named. -/
theorem tileSum_apply (z : FVec Ideal ⟨2, ![512, 1024]⟩ .f32) (hr : Shape.Reduces ⟨2, ![512, 1024]⟩ [0] ⟨1, ![1024]⟩)
    (hc : Shape.ShapeCasts ⟨1, ![1024]⟩ ⟨2, ![1, 1024]⟩) (y : (⟨2, ![1, 1024]⟩ : Shape).Idx) (f : ℕ → EReal)
    (h : ∀ k : Fin 512, z (ValueIdx.ix2 k (y 1)) = f k.val) :
    shapeCast ⟨2, ![1, 1024]⟩ (multiReduction .add [0] ⟨1, ![1024]⟩ z 0x00000000#32 hr (.inl rfl) rfl) hc y = ∑ k ∈ range 512, f k := by
  have h0 : (y 0).val < 1 := (y 0).isLt
  refine (shapeCast_apply _ hc y (ix1 (y 1)) ((Shape.rowMajor_val_one (d := ![1024]) (ix1 (y 1))).trans
    (Eq.trans ?_ (Shape.rowMajor_val_two (d := ![1, 1024]) y).symm))).trans ?_
  · show (y 1).val = (y 0).val * 1024 + (y 1).val
    omega
  · refine (Ideal.multiReduction_add_single z _ hr _ _ (ix1 (y 1))).trans ?_
    rw [← sum_fin]
    exact sum_congr rfl fun k _ => (congrArg z (show hr.lift (ix1 (y 1)) k = ValueIdx.ix2 k (y 1) from Shape.idx_ext₂ rfl rfl)).trans (h k)

end Cert.Norm

end
-- ==== Proof.Norm.MixBwd.lean ====
/- The gradient of the mixer's layer norm at its gain and its bias: each block gathers, over eight tiles of 512 rows, the sum of a
   tile's columns, so it ends holding the sum over all 4096 rows. -/
module

public import proofs.«01_k».proof.Proof.Math.Columns
public import proofs.«01_k».proof.Proof.Gen.Kernel25Ideal.Value
public import Idealize.ShloMosaic.Lib.StableHlo.RunRead
public import Idealize.ShloMosaic.Lib.Pipeline.ValueKit
public import proofs.«01_k».proof.Proof.Gen.Reference25Ideal.Run
public import proofs.«01_k».proof.Proof.Gen.Reference25Ideal.Read

@[expose] public section

set_option maxRecDepth 16384

noncomputable section

namespace Cert.Norm

open Idealize.ShloMosaic

/-- The gradient that reaches the norm: the residual path's share and the two branches'. -/
def mixCt (x1 x2 x3 : (⟨2, ![4096, 1024]⟩ : Shape).Idx → EReal) : (⟨2, ![4096, 1024]⟩ : Shape).Idx → EReal :=
  fun i => Ideal.ofBits .f32 0x3FB504F3#32 * x1 i + x2 i + x3 i

/-- The normalised rows. -/
def mixHat (x0 : (⟨2, ![4096, 1024]⟩ : Shape).Idx → EReal) : (⟨2, ![4096, 1024]⟩ : Shape).Idx → EReal :=
  Cert.Reference25Ideal.Read.val_main_v22 (F := Ideal) x0

/-- The gradient at the gain. -/
def mixGain (x0 x1 x2 x3 : (⟨2, ![4096, 1024]⟩ : Shape).Idx → EReal) : (⟨2, ![1, 1024]⟩ : Shape).Idx → EReal :=
  colSum fun i => mixCt x1 x2 x3 i * mixHat x0 i

/-- The gradient at the bias. -/
def mixBias (x1 x2 x3 : (⟨2, ![4096, 1024]⟩ : Shape).Idx → EReal) : (⟨2, ![1, 1024]⟩ : Shape).Idx → EReal :=
  colSum (mixCt x1 x2 x3)

end Cert.Norm

namespace Cert.Kernel25Ideal.Norm

open Cert.Kernel25Ideal Cert.Kernel25Ideal.Gen Cert.Attn Cert.Product Cert.Norm
open Idealize.ShloMosaic hiding ix2 ix3 eq_ix2 eq_ix3
open Idealize.ShloMosaic.TcCoe Idealize.ShloMosaic.ValueIdx Idealize.SL.Sem Idealize.ShloMosaic.StableHlo Finset
open Idealize.ShloMosaic.Pipeline (Dat Cfg Window)

variable (m : (ℓ : Loc nD τ sig) → Buf (Elt Ideal) ℓ) (ρ : Dev nD → PrngReg) (c : Dev nD)

abbrev arg0 : FVec Ideal S4096x1024 .f32 := m ((c : Thread nD τ).loc main_arg0)
abbrev arg1 : FVec Ideal S4096x1024 .f32 := m ((c : Thread nD τ).loc main_arg1)
abbrev arg2 : FVec Ideal S4096x1024 .f32 := m ((c : Thread nD τ).loc main_arg2)
abbrev arg3 : FVec Ideal S4096x1024 .f32 := m ((c : Thread nD τ).loc main_arg3)

theorem V_hat : V m c main_v17 = mixHat (arg0 m c) := by
  unfold V
  after_reads_simp
  rfl

/-! ## The blocks -/

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index7 : ∀ t : Fin grid0.N, win0_7.index t 0 = 0 ∧ win0_7.index t 1 = 0 := by decide +kernel
theorem index8 : ∀ t : Fin grid0.N, win0_8.index t 0 = 0 ∧ win0_8.index t 1 = 0 := by decide +kernel

theorem tile_lt (t : Fin grid0.N) : t.val < 8 := t.isLt

/-- Where row `y` of tile `t` lies. -/
def at_ (t : Fin grid0.N) (y : S512x1024.Idx) : S4096x1024.Idx :=
  ix2 ⟨t.val * 512 + (y 0).val, by have h0 := tile_lt t; have h1 : (y 0).val < 512 := (y 0).isLt; omega⟩ (y 1)

theorem block0 (t : Fin grid0.N) (y : S512x1024.Idx) : iblk m c 0 t y = arg1 m c (at_ t y) :=
  (congrFun (V_main_arg1 m c) ((win0_0.rect t).emb y)).trans (congrArg (arg1 m c) (Shape.idx_ext₂
    ((win0_0.rect_emb_val t y 0).trans (by rw [(index0 t).1]; rfl)) ((win0_0.rect_emb_val t y 1).trans (by rw [(index0 t).2, Nat.zero_mul, Nat.zero_add]; rfl))))
theorem block1 (t : Fin grid0.N) (y : S512x1024.Idx) : iblk m c 1 t y = arg2 m c (at_ t y) :=
  (congrFun (V_main_arg2 m c) ((win0_1.rect t).emb y)).trans (congrArg (arg2 m c) (Shape.idx_ext₂
    ((win0_1.rect_emb_val t y 0).trans (by rw [(index1 t).1]; rfl)) ((win0_1.rect_emb_val t y 1).trans (by rw [(index1 t).2, Nat.zero_mul, Nat.zero_add]; rfl))))
theorem block2 (t : Fin grid0.N) (y : S512x1024.Idx) : iblk m c 2 t y = arg3 m c (at_ t y) :=
  (congrFun (V_main_arg3 m c) ((win0_2.rect t).emb y)).trans (congrArg (arg3 m c) (Shape.idx_ext₂
    ((win0_2.rect_emb_val t y 0).trans (by rw [(index2 t).1]; rfl)) ((win0_2.rect_emb_val t y 1).trans (by rw [(index2 t).2, Nat.zero_mul, Nat.zero_add]; rfl))))
theorem block3 (t : Fin grid0.N) (y : S512x1024.Idx) : iblk m c 3 t y = mixHat (arg0 m c) (at_ t y) :=
  (congrFun (V_hat m c) ((win0_3.rect t).emb y)).trans (congrArg (mixHat (arg0 m c)) (Shape.idx_ext₂
    ((win0_3.rect_emb_val t y 0).trans (by rw [(index3 t).1]; rfl)) ((win0_3.rect_emb_val t y 1).trans (by rw [(index3 t).2, Nat.zero_mul, Nat.zero_add]; rfl))))

/-! ## A point's sums and what it leaves -/

theorem ct_apply (t : Fin grid0.N) (y : S512x1024.Idx) :
    k0_pay6 (iblk m c 0 t) (iblk m c 1 t) (iblk m c 2 t) y = mixCt (arg1 m c) (arg2 m c) (arg3 m c) (at_ t y) := by
  unfold mixCt
  rw [← block0, ← block1, ← block2]
  show _ * iblk m c 0 t y + FloatOps.ofBits (F := Ideal) .f32 0x3F800000#32 * iblk m c 1 t y
    + FloatOps.ofBits (F := Ideal) .f32 0x3F800000#32 * iblk m c 2 t y = _
  rw [bits_one, one_mul, one_mul]
  rfl

theorem gain_apply (t : Fin grid0.N) (y : S1x1024.Idx) :
    k0_pay1 (k0_pay5 (iblk m c 3 t)) (k0_pay6 (iblk m c 0 t) (iblk m c 1 t) (iblk m c 2 t)) y
      = ∑ k ∈ range 512, at2 (fun i => mixCt (arg1 m c) (arg2 m c) (arg3 m c) i * mixHat (arg0 m c) i) (512 * t.val + k) (y 1).val := by
  unfold k0_pay1
  refine tileSum_apply _ _ _ y _ fun k => ?_
  refine Eq.trans ?_ (at2_of (fun i => mixCt (arg1 m c) (arg2 m c) (arg3 m c) i * mixHat (arg0 m c) i) (at_ t (ix2 k (y 1))) _ _
    (show t.val * 512 + k.val = _ by rw [Nat.mul_comm]) rfl)
  show k0_pay6 (iblk m c 0 t) (iblk m c 1 t) (iblk m c 2 t) (ix2 k (y 1)) * shapeCast S512x1024 (iblk m c 3 t) shapeCasts_S512x1024_S512x1024 (ix2 k (y 1)) = _
  exact congrArg₂ (· * ·) (ct_apply m c t _) ((congrFun (shapeCast_self _ _) _).trans (block3 m c t _))

theorem bias_apply (t : Fin grid0.N) (y : S1x1024.Idx) :
    k0_pay3 (k0_pay6 (iblk m c 0 t) (iblk m c 1 t) (iblk m c 2 t)) y
      = ∑ k ∈ range 512, at2 (mixCt (arg1 m c) (arg2 m c) (arg3 m c)) (512 * t.val + k) (y 1).val := by
  unfold k0_pay3
  refine tileSum_apply _ _ _ y _ fun k => ?_
  exact (ct_apply m c t _).trans (at2_of (mixCt (arg1 m c) (arg2 m c) (arg3 m c)) (at_ t (ix2 k (y 1))) _ _
    (show t.val * 512 + k.val = _ by rw [Nat.mul_comm]) rfl)

section Points

variable (i : grid0.Coords) (a1 : Memref sig .tc .vmem S512x1024 .f32) (h1 : a1.IsWhole) (a2 : Memref sig .tc .vmem S512x1024 .f32) (h2 : a2.IsWhole)
    (a3 : Memref sig .tc .vmem S512x1024 .f32) (h3 : a3.IsWhole) (a4 : Memref sig .tc .vmem S512x1024 .f32) (h4 : a4.IsWhole)
    (a5 : Memref sig .tc .vmem S512x128 .f32) (h5 : a5.IsWhole) (a6 : Memref sig .tc .vmem S1x1024 .f32) (h6 : a6.IsWhole)
    (a7 : Memref sig .tc .vmem S512x1024 .f32) (h7 : a7.IsWhole) (a8 : Memref sig .tc .vmem S1x1024 .f32) (h8 : a8.IsWhole)
    (a9 : Memref sig .tc .vmem S1x1024 .f32) (h9 : a9.IsWhole)
    (x0 : Vec Ideal S512x1024 .f32) (x1 : Vec Ideal S512x1024 .f32) (x2 : Vec Ideal S512x1024 .f32) (x3 : Vec Ideal S512x1024 .f32)
    (x4 : Vec Ideal S512x128 .f32) (x5 : Vec Ideal S1x1024 .f32) (xo7 : Vec Ideal S1x1024 .f32) (xo8 : Vec Ideal S1x1024 .f32) (y : S1x1024.Idx)

theorem gain_A (hc0 : cond0_0 i) (hc1 : ¬cond0_1 i) (hc2 : cond0_2 i) (hc3 : ¬cond0_3 i) :
    out0_A_7 c i a1 h1 a2 h2 a3 h3 a4 h4 a5 h5 a6 h6 a7 h7 a8 h8 a9 h9 hc0 hc1 hc2 hc3 x0 x1 x2 x3 x4 x5 = k0_pay1 (k0_pay5 x3) (k0_pay6 x0 x1 x2) := by
  unfold out0_A_7
  rw [View.read_writes_eq_canon _ _ _ (cover0_A_7 c i a1 h1 a2 h2 a3 h3 a4 h4 a5 h5 a6 h6 a7 h7 a8 h8 a9 h9 hc0 hc1 hc2 hc3 x0 x1 x2 x3 x4 x5)]
  unfold kernelRun0_A
  dsimp only
  rw [View.canon_unit_zero hz2]
  unfold kernelRun0_A.sl.r kernelRun0_A.sl.r_1
  simp only [View.readAt_eq_ld, h1.read_unread, h2.read_unread, h3.read_unread, h4.read_unread, View.ld_unit_zero (S := S512x1024) hz2]

theorem bias_A (hc0 : cond0_0 i) (hc1 : ¬cond0_1 i) (hc2 : cond0_2 i) (hc3 : ¬cond0_3 i) :
    out0_A_8 c i a1 h1 a2 h2 a3 h3 a4 h4 a5 h5 a6 h6 a7 h7 a8 h8 a9 h9 hc0 hc1 hc2 hc3 x0 x1 x2 x3 x4 x5 = k0_pay3 (k0_pay6 x0 x1 x2) := by
  unfold out0_A_8
  rw [View.read_writes_eq_canon _ _ _ (cover0_A_8 c i a1 h1 a2 h2 a3 h3 a4 h4 a5 h5 a6 h6 a7 h7 a8 h8 a9 h9 hc0 hc1 hc2 hc3 x0 x1 x2 x3 x4 x5)]
  unfold kernelRun0_A
  dsimp only
  rw [View.canon_unit_zero hz2]
  unfold kernelRun0_A.sl.r_1
  simp only [View.readAt_eq_ld, h1.read_unread, h2.read_unread, h3.read_unread, View.ld_unit_zero (S := S512x1024) hz2]

theorem gain_B (hc0 : ¬cond0_0 i) (hc1 : cond0_1 i) (hc2 : ¬cond0_2 i) (hc3 : cond0_3 i) :
    out0_B_7 c i a1 h1 a2 h2 a3 h3 a4 h4 a5 h5 a6 h6 a7 h7 a8 h8 a9 h9 hc0 hc1 hc2 hc3 x0 x1 x2 x3 x4 x5 xo7 xo8 y
      = xo7 y + k0_pay1 (k0_pay5 x3) (k0_pay6 x0 x1 x2) y := by
  unfold out0_B_7
  rw [View.read_writes_eq_canon _ _ _ (cover0_B_7 c i a1 h1 a2 h2 a3 h3 a4 h4 a5 h5 a6 h6 a7 h7 a8 h8 a9 h9 hc0 hc1 hc2 hc3 x0 x1 x2 x3 x4 x5 xo7 xo8)]
  unfold kernelRun0_B
  dsimp only
  rw [View.canon_unit_zero hz2]
  unfold kernelRun0_B.sl.r kernelRun0_B.sl.r_1
  simp only [View.readAt_eq_ld, h1.read_unread, h2.read_unread, h3.read_unread, h4.read_unread, h8.read_unread, View.ld_unit_zero (S := S512x1024) hz2,
    View.ld_unit_zero (S := S1x1024) hz2]
  show shapeCast S1x1024 xo7 shapeCasts_S1x1024_S1x1024 y + _ = _
  rw [shapeCast_self]

theorem bias_B (hc0 : ¬cond0_0 i) (hc1 : cond0_1 i) (hc2 : ¬cond0_2 i) (hc3 : cond0_3 i) :
    out0_B_8 c i a1 h1 a2 h2 a3 h3 a4 h4 a5 h5 a6 h6 a7 h7 a8 h8 a9 h9 hc0 hc1 hc2 hc3 x0 x1 x2 x3 x4 x5 xo7 xo8 y
      = xo8 y + k0_pay3 (k0_pay6 x0 x1 x2) y := by
  unfold out0_B_8
  rw [View.read_writes_eq_canon _ _ _ (cover0_B_8 c i a1 h1 a2 h2 a3 h3 a4 h4 a5 h5 a6 h6 a7 h7 a8 h8 a9 h9 hc0 hc1 hc2 hc3 x0 x1 x2 x3 x4 x5 xo7 xo8)]
  unfold kernelRun0_B
  dsimp only
  rw [View.canon_unit_zero hz2]
  unfold kernelRun0_B.sl.r_1
  simp only [View.readAt_eq_ld, h1.read_unread, h2.read_unread, h3.read_unread, h9.read_unread, View.ld_unit_zero (S := S512x1024) hz2,
    View.ld_unit_zero (S := S1x1024) hz2]
  show shapeCast S1x1024 xo8 shapeCasts_S1x1024_S1x1024 y + _ = _
  rw [shapeCast_self]

end Points

theorem first_gain (t : Fin cfg0.N) (h0 : t.val % 8 = 0) (h1 : ¬1 ≤ t.val) :
    (outsAt0 m c t.val t.isLt).2.1 = k0_pay1 (k0_pay5 (iblk m c 3 t)) (k0_pay6 (iblk m c 0 t) (iblk m c 1 t) (iblk m c 2 t)) := by
  rw [outsAt0_A m c t h0 h1 h0 h1]
  dsimp only
  exact gain_A ..

theorem first_bias (t : Fin cfg0.N) (h0 : t.val % 8 = 0) (h1 : ¬1 ≤ t.val) :
    (outsAt0 m c t.val t.isLt).2.2 = k0_pay3 (k0_pay6 (iblk m c 0 t) (iblk m c 1 t) (iblk m c 2 t)) := by
  rw [outsAt0_A m c t h0 h1 h0 h1]
  dsimp only
  exact bias_A ..

theorem next_gain (t : Fin cfg0.N) (h0 : ¬t.val % 8 = 0) (h1 : 1 ≤ t.val) (y : S1x1024.Idx) :
    (outsAt0 m c t.val t.isLt).2.1 y = (outsAt0 m c (t.val - 1) (Nat.lt_of_le_of_lt (Nat.sub_le _ _) t.isLt)).2.1 y
      + k0_pay1 (k0_pay5 (iblk m c 3 t)) (k0_pay6 (iblk m c 0 t) (iblk m c 1 t) (iblk m c 2 t)) y := by
  rw [outsAt0_B m c t h0 h1 h0 h1]
  dsimp only
  exact gain_B (y := y) ..

theorem next_bias (t : Fin cfg0.N) (h0 : ¬t.val % 8 = 0) (h1 : 1 ≤ t.val) (y : S1x1024.Idx) :
    (outsAt0 m c t.val t.isLt).2.2 y = (outsAt0 m c (t.val - 1) (Nat.lt_of_le_of_lt (Nat.sub_le _ _) t.isLt)).2.2 y
      + k0_pay3 (k0_pay6 (iblk m c 0 t) (iblk m c 1 t) (iblk m c 2 t)) y := by
  rw [outsAt0_B m c t h0 h1 h0 h1]
  dsimp only
  exact bias_B (y := y) ..

/-- After each point the gain's block holds the sums over the rows met so far. -/
theorem gains_apply (n : ℕ) (hn : n < cfg0.N) (y : S1x1024.Idx) :
    (outsAt0 m c n hn).2.1 y
      = ∑ k ∈ range (512 * (n + 1)), at2 (fun i => mixCt (arg1 m c) (arg2 m c) (arg3 m c) i * mixHat (arg0 m c) i) k (y 1).val := by
  induction n with
  | zero =>
    refine (congrFun (first_gain m c ⟨0, hn⟩ rfl (by show ¬1 ≤ 0; decide)) y).trans ((gain_apply m c ⟨0, hn⟩ y).trans ?_)
    exact sum_congr rfl fun k _ => congrArg (fun k => at2 _ k _) (Nat.zero_add k)
  | succ n ih =>
    have h8 : n + 1 < 8 := hn
    refine (next_gain m c ⟨n + 1, hn⟩ (by show ¬(n + 1) % 8 = 0; omega) (by show 1 ≤ n + 1; omega) y).trans ?_
    rw [gain_apply m c ⟨n + 1, hn⟩ y, Nat.mul_add 512 (n + 1) 1, sum_range_add, ← ih (Nat.lt_of_succ_lt hn)]
    rfl

/-- After each point the bias's block holds the sums over the rows met so far. -/
theorem biases_apply (n : ℕ) (hn : n < cfg0.N) (y : S1x1024.Idx) :
    (outsAt0 m c n hn).2.2 y = ∑ k ∈ range (512 * (n + 1)), at2 (mixCt (arg1 m c) (arg2 m c) (arg3 m c)) k (y 1).val := by
  induction n with
  | zero =>
    refine (congrFun (first_bias m c ⟨0, hn⟩ rfl (by show ¬1 ≤ 0; decide)) y).trans ((bias_apply m c ⟨0, hn⟩ y).trans ?_)
    exact sum_congr rfl fun k _ => congrArg (fun k => at2 _ k _) (Nat.zero_add k)
  | succ n ih =>
    have h8 : n + 1 < 8 := hn
    refine (next_bias m c ⟨n + 1, hn⟩ (by show ¬(n + 1) % 8 = 0; omega) (by show 1 ≤ n + 1; omega) y).trans ?_
    rw [bias_apply m c ⟨n + 1, hn⟩ y, Nat.mul_add 512 (n + 1) 1, sum_range_add, ← ih (Nat.lt_of_succ_lt hn)]
    rfl

/-! ## The results -/

theorem finalGain : (dats m 0 c).arrAt 7 cfg0.N = mixGain (arg0 m c) (arg1 m c) (arg2 m c) (arg3 m c) := by
  refine (dats m 0 c).arrAt_eq_of_covers 7 (mixGain (arg0 m c) (arg1 m c) (arg2 m c) (arg3 m c)) (by decide +kernel) fun t hf y => ?_
  have ht : t.val = 7 := by have h8 : t.val < 8 := t.isLt; have h7 : t.val % 8 = 7 := (flush0_7 t).mp hf; omega
  have e1 : ((win0_7.rect t).emb y 1).val = (y 1).val := (win0_7.rect_emb_val t y 1).trans (by rw [(index7 t).2, Nat.zero_mul, Nat.zero_add])
  show (dats m 0 c).after 7 t y = mixGain (arg0 m c) (arg1 m c) (arg2 m c) (arg3 m c) ((win0_7.rect t).emb y)
  rw [after0_7]
  refine (gains_apply m c t.val t.isLt y).trans ?_
  unfold mixGain colSum
  rw [e1, ht]

theorem finalBias : (dats m 0 c).arrAt 8 cfg0.N = mixBias (arg1 m c) (arg2 m c) (arg3 m c) := by
  refine (dats m 0 c).arrAt_eq_of_covers 8 (mixBias (arg1 m c) (arg2 m c) (arg3 m c)) (by decide +kernel) fun t hf y => ?_
  have ht : t.val = 7 := by have h8 : t.val < 8 := t.isLt; have h7 : t.val % 8 = 7 := (flush0_8 t).mp hf; omega
  have e1 : ((win0_8.rect t).emb y 1).val = (y 1).val := (win0_8.rect_emb_val t y 1).trans (by rw [(index8 t).2, Nat.zero_mul, Nat.zero_add])
  show (dats m 0 c).after 8 t y = mixBias (arg1 m c) (arg2 m c) (arg3 m c) ((win0_8.rect t).emb y)
  rw [after0_8]
  refine (biases_apply m c t.val t.isLt y).trans ?_
  unfold mixBias colSum
  rw [e1, ht]

theorem run : θ_run defs (onTc (τ := τ) (main (F := Ideal))) ⟨m, fun _ => 0, ρ⟩ fun r => ∀ c : Dev nD,
    r.2.mem ((c : Thread nD τ).loc main_v19_1) = mixGain (arg0 m c) (arg1 m c) (arg2 m c) (arg3 m c)
    ∧ r.2.mem ((c : Thread nD τ).loc main_v19_2) = mixBias (arg1 m c) (arg2 m c) (arg3 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun _ h c => ⟨(h c).2.1.trans (finalGain m c), (h c).2.2.1.trans (finalBias m c), (h c).2.2.2⟩) (Value.run_blocks m ρ)

end Cert.Kernel25Ideal.Norm

namespace Cert.Reference25Ideal.Norm

open Cert.Reference25Ideal Cert.Reference25Ideal.Gen Cert.Reference25Ideal.Read Cert.Attn Cert.Product Cert.Norm
open Idealize.ShloMosaic hiding ix2 ix3 eq_ix2 eq_ix3
open Idealize.ShloMosaic.TcCoe Idealize.ShloMosaic.ValueIdx Idealize.SL.Sem Idealize.ShloMosaic.StableHlo Finset

variable (x0 x1 x2 x3 : FVec Ideal S4096x1024 .f32)

theorem ct_eq : val_main_v3 (F := Ideal) x1 x2 x3 = mixCt x1 x2 x3 := by
  funext i
  rw [val_main_v3_apply, val_main_v2_apply, val_main_v1_apply, val_main_v0_apply]
  rfl

theorem row0 (i : S1x1024.Idx) : (i 0).val * 1024 + (i 1).val = (i 1).val := by
  have h : (i 0).val < 1 := (i 0).isLt
  omega

theorem gain_eq : val_main_v31 (F := Ideal) x0 x1 x2 x3 = mixGain x0 x1 x2 x3 := by
  funext i
  rw [val_main_v31_apply, val_main_v30_apply]
  unfold mixGain colSum
  rw [← sum_fin]
  refine (congrArg (· + _) bits_zero).trans ((zero_add _).trans (sum_congr rfl fun k _ => ?_))
  rw [val_main_v29_apply, ct_eq]
  exact (mul_comm _ _).trans (at2_of (fun i => mixCt x1 x2 x3 i * mixHat x0 i) _ _ _ rfl (row0 i))

theorem bias_eq : val_main_v28 (F := Ideal) x1 x2 x3 = mixBias x1 x2 x3 := by
  funext i
  rw [val_main_v28_apply, val_main_v27_apply]
  unfold mixBias colSum
  rw [← sum_fin]
  refine (congrArg (· + _) bits_zero).trans ((zero_add _).trans (sum_congr rfl fun k _ => ?_))
  rw [ct_eq]
  exact at2_of (mixCt x1 x2 x3) _ _ _ rfl (row0 i)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = mixGain (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v28) = mixBias (m ((c.tc : Thread nD τ).loc main_arg1)) (m ((c.tc : Thread nD τ).loc main_arg2))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (gain_eq _ _ _ _), (h c).2.1.trans (bias_eq _ _ _), (h c).2.2⟩) (Value.run (F := Ideal) m ρ)

end Cert.Reference25Ideal.Norm

end
-- ==== Proof.Math.Adam.lean ====
/- One step of the optimiser on one weight: the weight's change and its two running means, entry by entry. -/
module

public import proofs.«01_k».proof.Proof.Math.Product

@[expose] public section

noncomputable section

namespace Cert.Adam

open Idealize.ShloMosaic Cert.Product

/-- The running mean of the gradient, from the gradient `g` and the last mean `m`. -/
def mean (g m : EReal) : EReal := Ideal.ofBits .f32 0x3F666666#32 * m + Ideal.ofBits .f32 0x3DCCCCCD#32 * g

/-- The running mean of the gradient's square. -/
def square (g v : EReal) : EReal := Ideal.ofBits .f32 0x3F7FBE77#32 * v + Ideal.ofBits .f32 0x3A83126F#32 * (g * g)

/-- The weight's change. -/
def change (w g m v : EReal) : EReal :=
  Ideal.ofBits .f32 0xBA83126F#32 * (Ideal.div (Ideal.div (mean g m) (Ideal.ofBits .f32 0x3F26BD02#32))
    (Ideal.sqrt (Ideal.div (square g v) (Ideal.ofBits .f32 0x3C231ACC#32)) + Ideal.ofBits .f32 0x322BCC77#32) + Ideal.ofBits .f32 0x3C23D70A#32 * w)

section Arrays

variable {S : Shape}

/-- The same of whole arrays. -/
def means (g m : S.Idx → EReal) : S.Idx → EReal := fun i => mean (g i) (m i)
def squares (g v : S.Idx → EReal) : S.Idx → EReal := fun i => square (g i) (v i)
def changes (w g m v : S.Idx → EReal) : S.Idx → EReal := fun i => change (w i) (g i) (m i) (v i)

end Arrays

/-- A weight's gradient from its one layer's. -/
def one {R C : ℕ} (g : (⟨2, ![R, C]⟩ : Shape).Idx → EReal) : (⟨3, ![1, R, C]⟩ : Shape).Idx → EReal := fun i => g (ValueIdx.ix2 (i 1) (i 2))

/-- A weight's gradient from its two layers'. -/
def two {R C : ℕ} (g0 g1 : (⟨2, ![R, C]⟩ : Shape).Idx → EReal) : (⟨3, ![2, R, C]⟩ : Shape).Idx → EReal :=
  fun i => if (i 0).val = 1 then g1 (ValueIdx.ix2 (i 1) (i 2)) else g0 (ValueIdx.ix2 (i 1) (i 2))

theorem idx_ext {n : Fin 3 → ℕ} {x y : (a : Fin 3) → Fin (n a)} (h0 : (x 0 : ℕ) = y 0) (h1 : (x 1 : ℕ) = y 1) (h2 : (x 2 : ℕ) = y 2) : x = y :=
  funext fun a => Fin.ext (by fin_cases a <;> assumption)

/-- A tile of one layer, its layer axis dropped, read at a row and a column. -/
theorem drop_apply {M N : ℕ} (x : (⟨3, ![1, M, N]⟩ : Shape).Idx → EReal) (h : (⟨3, ![1, M, N]⟩ : Shape).ShapeCasts ⟨2, ![M, N]⟩)
    (y : (⟨3, ![1, M, N]⟩ : Shape).Idx) : shapeCast ⟨2, ![M, N]⟩ x h (ValueIdx.ix2 (y 1) (y 2)) = x y :=
  (drop1_apply x h _).trans (congrArg x (idx_ext (by have h0 : (y 0).val < 1 := (y 0).isLt; show 0 = (y 0).val; omega) rfl rfl))

section Tiles

variable {M N : ℕ} (w : (⟨3, ![1, M, N]⟩ : Shape).Idx → EReal) (g : (⟨2, ![M, N]⟩ : Shape).Idx → EReal) (m v : (⟨3, ![1, M, N]⟩ : Shape).Idx → EReal)
  (h : (⟨3, ![1, M, N]⟩ : Shape).ShapeCasts ⟨2, ![M, N]⟩) (h' : (⟨2, ![M, N]⟩ : Shape).ShapeCasts ⟨3, ![1, M, N]⟩) (y : (⟨3, ![1, M, N]⟩ : Shape).Idx)

/-- The same of one layer's tiles, worked out without the layer axis. -/
theorem mean_tile : shapeCast ⟨3, ![1, M, N]⟩ (means g (shapeCast ⟨2, ![M, N]⟩ m h)) h' y = mean (g (ValueIdx.ix2 (y 1) (y 2))) (m y) := by
  refine (add1_apply _ _ y).trans ?_
  unfold means
  rw [drop_apply]

theorem square_tile : shapeCast ⟨3, ![1, M, N]⟩ (squares g (shapeCast ⟨2, ![M, N]⟩ v h)) h' y = square (g (ValueIdx.ix2 (y 1) (y 2))) (v y) := by
  refine (add1_apply _ _ y).trans ?_
  unfold squares
  rw [drop_apply]

theorem change_tile : shapeCast ⟨3, ![1, M, N]⟩ (changes (shapeCast ⟨2, ![M, N]⟩ w h) g (shapeCast ⟨2, ![M, N]⟩ m h) (shapeCast ⟨2, ![M, N]⟩ v h)) h' y
    = change (w y) (g (ValueIdx.ix2 (y 1) (y 2))) (m y) (v y) := by
  refine (add1_apply _ _ y).trans ?_
  unfold changes
  rw [drop_apply, drop_apply, drop_apply]

end Tiles

/-- Two layers' gradients, one after the other. -/
theorem two_eq {R C : ℕ} (g0 g1 : (⟨2, ![R, C]⟩ : Shape).Idx → EReal)
    (h : Shape.Concatenates [⟨3, ![1, R, C]⟩, ⟨3, ![1, R, C]⟩] ⟨3, ![2, R, C]⟩ 0) :
    concatenate ⟨3, ![2, R, C]⟩ 0 [⟨⟨3, ![1, R, C]⟩, one g0⟩, ⟨⟨3, ![1, R, C]⟩, one g1⟩] h = two g0 g1 := by
  funext i
  have h2 : (i 0).val < 2 := (i 0).isLt
  unfold two
  by_cases h1 : (i 0).val = 1
  · rw [if_pos h1]
    refine concatenate_pair_apply_right (s₁ := ⟨3, ![1, R, C]⟩) (s₂ := ⟨3, ![1, R, C]⟩) 0 _ _ h i rfl rfl (ValueIdx.ix3 (0 : Fin 1) (i 1) (i 2)) ?_ h1.symm
    intro b hb
    fin_cases b
    · exact absurd rfl hb
    · rfl
    · rfl
  · rw [if_neg h1]
    refine concatenate_pair_apply_left (s₁ := ⟨3, ![1, R, C]⟩) (s₂ := ⟨3, ![1, R, C]⟩) 0 _ _ h i rfl (ValueIdx.ix3 (0 : Fin 1) (i 1) (i 2)) ?_
    intro b
    fin_cases b
    · show 0 = (i 0).val; omega
    · rfl
    · rfl

end Cert.Adam

end
-- ==== Proof.Adam.MixIn.lean ====
/- The optimiser's step on the mixer's input weight: four tiles of 256 rows. -/
module

public import proofs.«01_k».proof.Proof.Math.Adam
public import proofs.«01_k».proof.Proof.Gen.Kernel26Ideal.Value
public import Idealize.ShloMosaic.Lib.Pipeline.ValueKit
public import proofs.«01_k».proof.Proof.Gen.Reference26Ideal.Run
public import proofs.«01_k».proof.Proof.Gen.Reference26Ideal.Read

@[expose] public section

set_option maxRecDepth 16384

noncomputable section

namespace Cert.Kernel26Ideal.Adam

open Cert.Kernel26Ideal Cert.Kernel26Ideal.Gen Cert.Product Cert.Adam
open Idealize.ShloMosaic hiding ix2 ix3 eq_ix2 eq_ix3
open Idealize.ShloMosaic.TcCoe Idealize.ShloMosaic.ValueIdx Idealize.SL.Sem

variable (m : (ℓ : Loc nD τ sig) → Buf (Elt Ideal) ℓ) (ρ : Dev nD → PrngReg) (c : Dev nD)

abbrev arg0 : FVec Ideal S1x1024x384 .f32 := m ((c : Thread nD τ).loc main_arg0)
abbrev arg1 : FVec Ideal S1024x384 .f32 := m ((c : Thread nD τ).loc main_arg1)
abbrev arg2 : FVec Ideal S1x1024x384 .f32 := m ((c : Thread nD τ).loc main_arg2)
abbrev arg3 : FVec Ideal S1x1024x384 .f32 := m ((c : Thread nD τ).loc main_arg3)
abbrev grad : FVec Ideal S1x1024x384 .f32 := one (arg1 m c)

/-- Where entry `y` of the tile at point `t` lies, in every array. -/
def at_ (t : Fin grid0.N) (y : S1x256x384.Idx) : S1x1024x384.Idx := (win0_0.rect t).emb y

theorem block0 (t : Fin grid0.N) (y : S1x256x384.Idx) : iblk m c 0 t y = arg0 m c (at_ t y) := congrFun (V_main_arg0 m c) (at_ t y)
theorem block1 (t : Fin grid0.N) (y : S1x256x384.Idx) : iblk m c 1 t y = arg2 m c (at_ t y) := congrFun (V_main_arg2 m c) (at_ t y)
theorem block2 (t : Fin grid0.N) (y : S1x256x384.Idx) : iblk m c 2 t y = arg3 m c (at_ t y) := congrFun (V_main_arg3 m c) (at_ t y)
theorem block3 (t : Fin grid0.N) (y : S1x256x384.Idx) : iblk m c 3 t (ix2 (y 1) (y 2) : S256x384.Idx) = arg1 m c (ix2 (at_ t y 1) (at_ t y 2)) :=
  (congrFun (V_main_arg1 m c) ((win0_3.rect t).emb (ix2 (y 1) (y 2) : S256x384.Idx))).trans (congrArg (arg1 m c) (Shape.idx_ext₂ rfl rfl))

theorem change_eq : (dats m 0 c).arrAt 4 cfg0.N = changes (arg0 m c) (grad m c) (arg2 m c) (arg3 m c) := by
  refine (dats m 0 c).arrAt_eq_of_covers 4 (changes (arg0 m c) (grad m c) (arg2 m c) (arg3 m c)) (by decide +kernel) fun t _ y => ?_
  show (dats m 0 c).after 4 t y = changes (arg0 m c) (grad m c) (arg2 m c) (arg3 m c) (at_ t y)
  rw [after0_4]
  unfold out0_4 k0_pay5 k0_pay3 k0_pay4
  rw [View.canon_unit_zero hz3]
  simp only [View.ld_unit_zero (S := S1x256x384) hz3, View.ld_unit_zero (S := S256x384) hz2]
  refine (change_tile (iblk m c 0 t) (iblk m c 3 t) (iblk m c 1 t) (iblk m c 2 t) shapeCasts_S1x256x384_S256x384 shapeCasts_S256x384_S1x256x384 y).trans ?_
  rw [block0, block3, block1, block2]; rfl

theorem mean_eq : (dats m 0 c).arrAt 5 cfg0.N = means (grad m c) (arg2 m c) := by
  refine (dats m 0 c).arrAt_eq_of_covers 5 (means (grad m c) (arg2 m c)) (by decide +kernel) fun t _ y => ?_
  show (dats m 0 c).after 5 t y = means (grad m c) (arg2 m c) (at_ t y)
  rw [after0_5]
  unfold out0_5 k0_pay1 k0_pay3
  rw [View.canon_unit_zero hz3]
  simp only [View.ld_unit_zero (S := S1x256x384) hz3, View.ld_unit_zero (S := S256x384) hz2]
  refine (mean_tile (iblk m c 3 t) (iblk m c 1 t) shapeCasts_S1x256x384_S256x384 shapeCasts_S256x384_S1x256x384 y).trans ?_
  rw [block3, block1]; rfl

theorem square_eq : (dats m 0 c).arrAt 6 cfg0.N = squares (grad m c) (arg3 m c) := by
  refine (dats m 0 c).arrAt_eq_of_covers 6 (squares (grad m c) (arg3 m c)) (by decide +kernel) fun t _ y => ?_
  show (dats m 0 c).after 6 t y = squares (grad m c) (arg3 m c) (at_ t y)
  rw [after0_6]
  unfold out0_6 k0_pay2 k0_pay4
  rw [View.canon_unit_zero hz3]
  simp only [View.ld_unit_zero (S := S1x256x384) hz3, View.ld_unit_zero (S := S256x384) hz2]
  refine (square_tile (iblk m c 3 t) (iblk m c 2 t) shapeCasts_S1x256x384_S256x384 shapeCasts_S256x384_S1x256x384 y).trans ?_
  rw [block3, block2]; rfl

theorem run : θ_run defs (onTc (τ := τ) (main (F := Ideal))) ⟨m, fun _ => 0, ρ⟩ fun r => ∀ c : Dev nD,
    r.2.mem ((c : Thread nD τ).loc main_v0_0) = changes (arg0 m c) (grad m c) (arg2 m c) (arg3 m c)
    ∧ r.2.mem ((c : Thread nD τ).loc main_v0_1) = means (grad m c) (arg2 m c)
    ∧ r.2.mem ((c : Thread nD τ).loc main_v0_2) = squares (grad m c) (arg3 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (change_eq m c), (h c).2.1.trans (mean_eq m c), (h c).2.2.1.trans (square_eq m c), (h c).2.2.2⟩)
    (Value.run_blocks m ρ)

end Cert.Kernel26Ideal.Adam

namespace Cert.Reference26Ideal.Adam

open Cert.Reference26Ideal Cert.Reference26Ideal.Gen Cert.Reference26Ideal.Read Cert.Adam
open Idealize.ShloMosaic hiding ix2 ix3 eq_ix2 eq_ix3
open Idealize.ShloMosaic.TcCoe Idealize.SL.Sem

theorem grad_eq (x : FVec Ideal S1024x384 .f32) : val_main_v0 (F := Ideal) x = one x :=
  funext fun i => (val_main_v0_apply (F := Ideal) x i).trans (congrArg x (Shape.idx_ext₂ rfl rfl))

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c : Thread nD τ).loc main_v24) = changes (m ((c : Thread nD τ).loc main_arg0)) (one (m ((c : Thread nD τ).loc main_arg1)))
      (m ((c : Thread nD τ).loc main_arg2)) (m ((c : Thread nD τ).loc main_arg3))
    ∧ r.2.mem ((c : Thread nD τ).loc main_v5) = means (one (m ((c : Thread nD τ).loc main_arg1))) (m ((c : Thread nD τ).loc main_arg2))
    ∧ r.2.mem ((c : Thread nD τ).loc main_v11) = squares (one (m ((c : Thread nD τ).loc main_arg1))) (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (congrArg (changes _ · _ _) (grad_eq _)), (h c).2.1.trans (congrArg (means · _) (grad_eq _)),
    (h c).2.2.1.trans (congrArg (squares · _) (grad_eq _)), (h c).2.2.2⟩) (Value.run (F := Ideal) m ρ)

end Cert.Reference26Ideal.Adam

end
-- ==== Proof.Adam.Up.lean ====
/- The optimiser's step on the forward network's first weight: two layers of four tiles of 256 rows. -/
module

public import proofs.«01_k».proof.Proof.Math.Adam
public import proofs.«01_k».proof.Proof.Gen.Kernel27Ideal.Value
public import Idealize.ShloMosaic.Lib.Pipeline.ValueKit
public import proofs.«01_k».proof.Proof.Gen.Reference27Ideal.Run
public import proofs.«01_k».proof.Proof.Gen.Reference27Ideal.Read

@[expose] public section

set_option maxRecDepth 16384

noncomputable section

namespace Cert.Kernel27Ideal.Adam

open Cert.Kernel27Ideal Cert.Kernel27Ideal.Gen Cert.Product Cert.Adam
open Idealize.ShloMosaic hiding ix2 ix3 eq_ix2 eq_ix3
open Idealize.ShloMosaic.TcCoe Idealize.ShloMosaic.ValueIdx Idealize.SL.Sem

variable (m : (ℓ : Loc nD τ sig) → Buf (Elt Ideal) ℓ) (ρ : Dev nD → PrngReg) (c : Dev nD)

abbrev arg0 : FVec Ideal S2x1024x1408 .f32 := m ((c : Thread nD τ).loc main_arg0)
abbrev arg1 : FVec Ideal S1024x1408 .f32 := m ((c : Thread nD τ).loc main_arg1)
abbrev arg2 : FVec Ideal S1024x1408 .f32 := m ((c : Thread nD τ).loc main_arg2)
abbrev arg3 : FVec Ideal S2x1024x1408 .f32 := m ((c : Thread nD τ).loc main_arg3)
abbrev arg4 : FVec Ideal S2x1024x1408 .f32 := m ((c : Thread nD τ).loc main_arg4)
abbrev grad : FVec Ideal S2x1024x1408 .f32 := two (arg1 m c) (arg2 m c)

/-- Where entry `y` of the tile at point `t` lies, in every array. -/
def at_ (t : Fin grid0.N) (y : S1x256x1408.Idx) : S2x1024x1408.Idx := (win0_0.rect t).emb y

theorem block0 (t : Fin grid0.N) (y : S1x256x1408.Idx) : iblk m c 0 t y = arg0 m c (at_ t y) := congrFun (V_main_arg0 m c) (at_ t y)
theorem block1 (t : Fin grid0.N) (y : S1x256x1408.Idx) : iblk m c 1 t y = arg3 m c (at_ t y) := congrFun (V_main_arg3 m c) (at_ t y)
theorem block2 (t : Fin grid0.N) (y : S1x256x1408.Idx) : iblk m c 2 t y = arg4 m c (at_ t y) := congrFun (V_main_arg4 m c) (at_ t y)
theorem block3 (t : Fin grid0.N) (y : S1x256x1408.Idx) : iblk m c 3 t (ix2 (y 1) (y 2) : S256x1408.Idx) = arg1 m c (ix2 (at_ t y 1) (at_ t y 2)) :=
  (congrFun (V_main_arg1 m c) ((win0_3.rect t).emb (ix2 (y 1) (y 2) : S256x1408.Idx))).trans (congrArg (arg1 m c) (Shape.idx_ext₂ rfl rfl))
theorem block4 (t : Fin grid0.N) (y : S1x256x1408.Idx) : iblk m c 4 t (ix2 (y 1) (y 2) : S256x1408.Idx) = arg2 m c (ix2 (at_ t y 1) (at_ t y 2)) :=
  (congrFun (V_main_arg2 m c) ((win0_4.rect t).emb (ix2 (y 1) (y 2) : S256x1408.Idx))).trans (congrArg (arg2 m c) (Shape.idx_ext₂ rfl rfl))

theorem layer : ∀ t : Fin grid0.N, Scalar.cmpi .eq (BitVec.ofNat 32 (grid0.coords t 0).val) 1#32 = BitVec.ofBool (decide (win0_0.index t 0 = 1)) := by
  decide +kernel

theorem grad_apply (t : Fin grid0.N) (y : S1x256x1408.Idx) :
    k0_pay4 (grid0.coords t) (iblk m c 3 t) (iblk m c 4 t) (ix2 (y 1) (y 2)) = grad m c (at_ t y) := by
  have e : (at_ t y 0).val = win0_0.index t 0 :=
    (win0_0.rect_emb_val t y 0).trans (by have h0 : (y 0).val < 1 := (y 0).isLt; show win0_0.index t 0 * 1 + (y 0).val = _; omega)
  unfold k0_pay4 grad two
  rw [← block3, ← block4, e]
  dsimp only
  rw [layer t]
  by_cases h : win0_0.index t 0 = 1
  · rw [if_pos h, decide_eq_true h]; rfl
  · rw [if_neg h, decide_eq_false h]; rfl

theorem change_eq : (dats m 0 c).arrAt 5 cfg0.N = changes (arg0 m c) (grad m c) (arg3 m c) (arg4 m c) := by
  refine (dats m 0 c).arrAt_eq_of_covers 5 (changes (arg0 m c) (grad m c) (arg3 m c) (arg4 m c)) (by decide +kernel) fun t _ y => ?_
  show (dats m 0 c).after 5 t y = changes (arg0 m c) (grad m c) (arg3 m c) (arg4 m c) (at_ t y)
  rw [after0_5]
  unfold out0_5 k0_pay1 k0_pay7 k0_pay5 k0_pay6
  rw [View.canon_unit_zero hz3]
  simp only [View.ld_unit_zero (S := S1x256x1408) hz3, View.ld_unit_zero (S := S256x1408) hz2]
  refine (change_tile (iblk m c 0 t) (k0_pay4 (grid0.coords t) (iblk m c 3 t) (iblk m c 4 t)) (iblk m c 1 t) (iblk m c 2 t) shapeCasts_S1x256x1408_S256x1408 shapeCasts_S256x1408_S1x256x1408 y).trans ?_
  rw [block0, grad_apply, block1, block2]; rfl

theorem mean_eq : (dats m 0 c).arrAt 6 cfg0.N = means (grad m c) (arg3 m c) := by
  refine (dats m 0 c).arrAt_eq_of_covers 6 (means (grad m c) (arg3 m c)) (by decide +kernel) fun t _ y => ?_
  show (dats m 0 c).after 6 t y = means (grad m c) (arg3 m c) (at_ t y)
  rw [after0_6]
  unfold out0_6 k0_pay2 k0_pay5
  rw [View.canon_unit_zero hz3]
  simp only [View.ld_unit_zero (S := S1x256x1408) hz3, View.ld_unit_zero (S := S256x1408) hz2]
  refine (mean_tile (k0_pay4 (grid0.coords t) (iblk m c 3 t) (iblk m c 4 t)) (iblk m c 1 t) shapeCasts_S1x256x1408_S256x1408 shapeCasts_S256x1408_S1x256x1408 y).trans ?_
  rw [grad_apply, block1]; rfl

theorem square_eq : (dats m 0 c).arrAt 7 cfg0.N = squares (grad m c) (arg4 m c) := by
  refine (dats m 0 c).arrAt_eq_of_covers 7 (squares (grad m c) (arg4 m c)) (by decide +kernel) fun t _ y => ?_
  show (dats m 0 c).after 7 t y = squares (grad m c) (arg4 m c) (at_ t y)
  rw [after0_7]
  unfold out0_7 k0_pay3 k0_pay6
  rw [View.canon_unit_zero hz3]
  simp only [View.ld_unit_zero (S := S1x256x1408) hz3, View.ld_unit_zero (S := S256x1408) hz2]
  refine (square_tile (k0_pay4 (grid0.coords t) (iblk m c 3 t) (iblk m c 4 t)) (iblk m c 2 t) shapeCasts_S1x256x1408_S256x1408 shapeCasts_S256x1408_S1x256x1408 y).trans ?_
  rw [grad_apply, block2]; rfl

theorem run : θ_run defs (onTc (τ := τ) (main (F := Ideal))) ⟨m, fun _ => 0, ρ⟩ fun r => ∀ c : Dev nD,
    r.2.mem ((c : Thread nD τ).loc main_v0_0) = changes (arg0 m c) (grad m c) (arg3 m c) (arg4 m c)
    ∧ r.2.mem ((c : Thread nD τ).loc main_v0_1) = means (grad m c) (arg3 m c)
    ∧ r.2.mem ((c : Thread nD τ).loc main_v0_2) = squares (grad m c) (arg4 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun _ h c => ⟨(h c).1.trans (change_eq m c), (h c).2.1.trans (mean_eq m c), (h c).2.2.1.trans (square_eq m c), (h c).2.2.2⟩)
    (Value.run_blocks m ρ)

end Cert.Kernel27Ideal.Adam

namespace Cert.Reference27Ideal.Adam

open Cert.Reference27Ideal Cert.Reference27Ideal.Gen Cert.Reference27Ideal.Read Cert.Adam
open Idealize.ShloMosaic hiding ix2 ix3 eq_ix2 eq_ix3
open Idealize.ShloMosaic.TcCoe Idealize.SL.Sem

theorem grad_eq (x y : FVec Ideal S1024x1408 .f32) : val_main_v2 (F := Ideal) x y = two x y := by
  have e0 : val_main_v0 (F := Ideal) x = one x := funext fun i => (val_main_v0_apply (F := Ideal) x i).trans (congrArg x (Shape.idx_ext₂ rfl rfl))
  have e1 : val_main_v1 (F := Ideal) y = one y := funext fun i => (val_main_v1_apply (F := Ideal) y i).trans (congrArg y (Shape.idx_ext₂ rfl rfl))
  unfold val_main_v2
  rw [e0, e1]
  exact two_eq x y _

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c : Thread nD τ).loc main_v26) = changes (m ((c : Thread nD τ).loc main_arg0)) (two (m ((c : Thread nD τ).loc main_arg1)) (m ((c : Thread nD τ).loc main_arg2)))
      (m ((c : Thread nD τ).loc main_arg3)) (m ((c : Thread nD τ).loc main_arg4))
    ∧ r.2.mem ((c : Thread nD τ).loc main_v7) = means (two (m ((c : Thread nD τ).loc main_arg1)) (m ((c : Thread nD τ).loc main_arg2))) (m ((c : Thread nD τ).loc main_arg3))
    ∧ r.2.mem ((c : Thread nD τ).loc main_v13) = squares (two (m ((c : Thread nD τ).loc main_arg1)) (m ((c : Thread nD τ).loc main_arg2))) (m ((c : Thread nD τ).loc main_arg4))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun _ h c => ⟨(h c).1.trans (congrArg (changes _ · _ _) (grad_eq _ _)), (h c).2.1.trans (congrArg (means · _) (grad_eq _ _)),
    (h c).2.2.1.trans (congrArg (squares · _) (grad_eq _ _)), (h c).2.2.2⟩) (Value.run (F := Ideal) m ρ)

end Cert.Reference27Ideal.Adam

end
-- ==== Proof.Adam.MixOut.lean ====
/- The optimiser's step on the mixer's output weight: one tile. -/
module

public import proofs.«01_k».proof.Proof.Math.Adam
public import proofs.«01_k».proof.Proof.Gen.Kernel28Ideal.Value
public import Idealize.ShloMosaic.Lib.Pipeline.ValueKit
public import proofs.«01_k».proof.Proof.Gen.Reference28Ideal.Run
public import proofs.«01_k».proof.Proof.Gen.Reference28Ideal.Read

@[expose] public section

set_option maxRecDepth 16384

noncomputable section

namespace Cert.Kernel28Ideal.Adam

open Cert.Kernel28Ideal Cert.Kernel28Ideal.Gen Cert.Product Cert.Adam
open Idealize.ShloMosaic hiding ix2 ix3 eq_ix2 eq_ix3
open Idealize.ShloMosaic.TcCoe Idealize.ShloMosaic.ValueIdx Idealize.SL.Sem

variable (m : (ℓ : Loc nD τ sig) → Buf (Elt Ideal) ℓ) (ρ : Dev nD → PrngReg) (c : Dev nD)

abbrev arg0 : FVec Ideal S1x256x1024 .f32 := m ((c : Thread nD τ).loc main_arg0)
abbrev arg1 : FVec Ideal S256x1024 .f32 := m ((c : Thread nD τ).loc main_arg1)
abbrev arg2 : FVec Ideal S1x256x1024 .f32 := m ((c : Thread nD τ).loc main_arg2)
abbrev arg3 : FVec Ideal S1x256x1024 .f32 := m ((c : Thread nD τ).loc main_arg3)
abbrev grad : FVec Ideal S1x256x1024 .f32 := one (arg1 m c)

/-- Where entry `y` of the tile at point `t` lies, in every array. -/
def at_ (t : Fin grid0.N) (y : S1x256x1024.Idx) : S1x256x1024.Idx := (win0_0.rect t).emb y

theorem block0 (t : Fin grid0.N) (y : S1x256x1024.Idx) : iblk m c 0 t y = arg0 m c (at_ t y) := congrFun (V_main_arg0 m c) (at_ t y)
theorem block1 (t : Fin grid0.N) (y : S1x256x1024.Idx) : iblk m c 1 t y = arg2 m c (at_ t y) := congrFun (V_main_arg2 m c) (at_ t y)
theorem block2 (t : Fin grid0.N) (y : S1x256x1024.Idx) : iblk m c 2 t y = arg3 m c (at_ t y) := congrFun (V_main_arg3 m c) (at_ t y)
theorem block3 (t : Fin grid0.N) (y : S1x256x1024.Idx) : iblk m c 3 t (ix2 (y 1) (y 2) : S256x1024.Idx) = arg1 m c (ix2 (at_ t y 1) (at_ t y 2)) :=
  (congrFun (V_main_arg1 m c) ((win0_3.rect t).emb (ix2 (y 1) (y 2) : S256x1024.Idx))).trans (congrArg (arg1 m c) (Shape.idx_ext₂ rfl rfl))

theorem change_eq : (dats m 0 c).arrAt 4 cfg0.N = changes (arg0 m c) (grad m c) (arg2 m c) (arg3 m c) := by
  refine (dats m 0 c).arrAt_eq_of_covers 4 (changes (arg0 m c) (grad m c) (arg2 m c) (arg3 m c)) (by decide +kernel) fun t _ y => ?_
  show (dats m 0 c).after 4 t y = changes (arg0 m c) (grad m c) (arg2 m c) (arg3 m c) (at_ t y)
  rw [after0_4]
  unfold out0_4 k0_pay5 k0_pay3 k0_pay4
  rw [View.canon_unit_zero hz3]
  simp only [View.ld_unit_zero (S := S1x256x1024) hz3, View.ld_unit_zero (S := S256x1024) hz2]
  refine (change_tile (iblk m c 0 t) (iblk m c 3 t) (iblk m c 1 t) (iblk m c 2 t) shapeCasts_S1x256x1024_S256x1024 shapeCasts_S256x1024_S1x256x1024 y).trans ?_
  rw [block0, block3, block1, block2]; rfl

theorem mean_eq : (dats m 0 c).arrAt 5 cfg0.N = means (grad m c) (arg2 m c) := by
  refine (dats m 0 c).arrAt_eq_of_covers 5 (means (grad m c) (arg2 m c)) (by decide +kernel) fun t _ y => ?_
  show (dats m 0 c).after 5 t y = means (grad m c) (arg2 m c) (at_ t y)
  rw [after0_5]
  unfold out0_5 k0_pay1 k0_pay3
  rw [View.canon_unit_zero hz3]
  simp only [View.ld_unit_zero (S := S1x256x1024) hz3, View.ld_unit_zero (S := S256x1024) hz2]
  refine (mean_tile (iblk m c 3 t) (iblk m c 1 t) shapeCasts_S1x256x1024_S256x1024 shapeCasts_S256x1024_S1x256x1024 y).trans ?_
  rw [block3, block1]; rfl

theorem square_eq : (dats m 0 c).arrAt 6 cfg0.N = squares (grad m c) (arg3 m c) := by
  refine (dats m 0 c).arrAt_eq_of_covers 6 (squares (grad m c) (arg3 m c)) (by decide +kernel) fun t _ y => ?_
  show (dats m 0 c).after 6 t y = squares (grad m c) (arg3 m c) (at_ t y)
  rw [after0_6]
  unfold out0_6 k0_pay2 k0_pay4
  rw [View.canon_unit_zero hz3]
  simp only [View.ld_unit_zero (S := S1x256x1024) hz3, View.ld_unit_zero (S := S256x1024) hz2]
  refine (square_tile (iblk m c 3 t) (iblk m c 2 t) shapeCasts_S1x256x1024_S256x1024 shapeCasts_S256x1024_S1x256x1024 y).trans ?_
  rw [block3, block2]; rfl

theorem run : θ_run defs (onTc (τ := τ) (main (F := Ideal))) ⟨m, fun _ => 0, ρ⟩ fun r => ∀ c : Dev nD,
    r.2.mem ((c : Thread nD τ).loc main_v0_0) = changes (arg0 m c) (grad m c) (arg2 m c) (arg3 m c)
    ∧ r.2.mem ((c : Thread nD τ).loc main_v0_1) = means (grad m c) (arg2 m c)
    ∧ r.2.mem ((c : Thread nD τ).loc main_v0_2) = squares (grad m c) (arg3 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (change_eq m c), (h c).2.1.trans (mean_eq m c), (h c).2.2.1.trans (square_eq m c), (h c).2.2.2⟩)
    (Value.run_blocks m ρ)

end Cert.Kernel28Ideal.Adam

namespace Cert.Reference28Ideal.Adam

open Cert.Reference28Ideal Cert.Reference28Ideal.Gen Cert.Reference28Ideal.Read Cert.Adam
open Idealize.ShloMosaic hiding ix2 ix3 eq_ix2 eq_ix3
open Idealize.ShloMosaic.TcCoe Idealize.SL.Sem

theorem grad_eq (x : FVec Ideal S256x1024 .f32) : val_main_v0 (F := Ideal) x = one x :=
  funext fun i => (val_main_v0_apply (F := Ideal) x i).trans (congrArg x (Shape.idx_ext₂ rfl rfl))

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c : Thread nD τ).loc main_v24) = changes (m ((c : Thread nD τ).loc main_arg0)) (one (m ((c : Thread nD τ).loc main_arg1)))
      (m ((c : Thread nD τ).loc main_arg2)) (m ((c : Thread nD τ).loc main_arg3))
    ∧ r.2.mem ((c : Thread nD τ).loc main_v5) = means (one (m ((c : Thread nD τ).loc main_arg1))) (m ((c : Thread nD τ).loc main_arg2))
    ∧ r.2.mem ((c : Thread nD τ).loc main_v11) = squares (one (m ((c : Thread nD τ).loc main_arg1))) (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (congrArg (changes _ · _ _) (grad_eq _)), (h c).2.1.trans (congrArg (means · _) (grad_eq _)),
    (h c).2.2.1.trans (congrArg (squares · _) (grad_eq _)), (h c).2.2.2⟩) (Value.run (F := Ideal) m ρ)

end Cert.Reference28Ideal.Adam

end
-- ==== Proof.Adam.Qkv.lean ====
/- The optimiser's step on the attention's input weight: four tiles of 256 rows. -/
module

public import proofs.«01_k».proof.Proof.Math.Adam
public import proofs.«01_k».proof.Proof.Gen.Kernel29Ideal.Value
public import Idealize.ShloMosaic.Lib.Pipeline.ValueKit
public import proofs.«01_k».proof.Proof.Gen.Reference29Ideal.Run
public import proofs.«01_k».proof.Proof.Gen.Reference29Ideal.Read

@[expose] public section

set_option maxRecDepth 16384

noncomputable section

namespace Cert.Kernel29Ideal.Adam

open Cert.Kernel29Ideal Cert.Kernel29Ideal.Gen Cert.Product Cert.Adam
open Idealize.ShloMosaic hiding ix2 ix3 eq_ix2 eq_ix3
open Idealize.ShloMosaic.TcCoe Idealize.ShloMosaic.ValueIdx Idealize.SL.Sem

variable (m : (ℓ : Loc nD τ sig) → Buf (Elt Ideal) ℓ) (ρ : Dev nD → PrngReg) (c : Dev nD)

abbrev arg0 : FVec Ideal S1x1024x768 .f32 := m ((c : Thread nD τ).loc main_arg0)
abbrev arg1 : FVec Ideal S1024x768 .f32 := m ((c : Thread nD τ).loc main_arg1)
abbrev arg2 : FVec Ideal S1x1024x768 .f32 := m ((c : Thread nD τ).loc main_arg2)
abbrev arg3 : FVec Ideal S1x1024x768 .f32 := m ((c : Thread nD τ).loc main_arg3)
abbrev grad : FVec Ideal S1x1024x768 .f32 := one (arg1 m c)

/-- Where entry `y` of the tile at point `t` lies, in every array. -/
def at_ (t : Fin grid0.N) (y : S1x256x768.Idx) : S1x1024x768.Idx := (win0_0.rect t).emb y

theorem block0 (t : Fin grid0.N) (y : S1x256x768.Idx) : iblk m c 0 t y = arg0 m c (at_ t y) := congrFun (V_main_arg0 m c) (at_ t y)
theorem block1 (t : Fin grid0.N) (y : S1x256x768.Idx) : iblk m c 1 t y = arg2 m c (at_ t y) := congrFun (V_main_arg2 m c) (at_ t y)
theorem block2 (t : Fin grid0.N) (y : S1x256x768.Idx) : iblk m c 2 t y = arg3 m c (at_ t y) := congrFun (V_main_arg3 m c) (at_ t y)
theorem block3 (t : Fin grid0.N) (y : S1x256x768.Idx) : iblk m c 3 t (ix2 (y 1) (y 2) : S256x768.Idx) = arg1 m c (ix2 (at_ t y 1) (at_ t y 2)) :=
  (congrFun (V_main_arg1 m c) ((win0_3.rect t).emb (ix2 (y 1) (y 2) : S256x768.Idx))).trans (congrArg (arg1 m c) (Shape.idx_ext₂ rfl rfl))

theorem change_eq : (dats m 0 c).arrAt 4 cfg0.N = changes (arg0 m c) (grad m c) (arg2 m c) (arg3 m c) := by
  refine (dats m 0 c).arrAt_eq_of_covers 4 (changes (arg0 m c) (grad m c) (arg2 m c) (arg3 m c)) (by decide +kernel) fun t _ y => ?_
  show (dats m 0 c).after 4 t y = changes (arg0 m c) (grad m c) (arg2 m c) (arg3 m c) (at_ t y)
  rw [after0_4]
  unfold out0_4 k0_pay5 k0_pay3 k0_pay4
  rw [View.canon_unit_zero hz3]
  simp only [View.ld_unit_zero (S := S1x256x768) hz3, View.ld_unit_zero (S := S256x768) hz2]
  refine (change_tile (iblk m c 0 t) (iblk m c 3 t) (iblk m c 1 t) (iblk m c 2 t) shapeCasts_S1x256x768_S256x768 shapeCasts_S256x768_S1x256x768 y).trans ?_
  rw [block0, block3, block1, block2]; rfl

theorem mean_eq : (dats m 0 c).arrAt 5 cfg0.N = means (grad m c) (arg2 m c) := by
  refine (dats m 0 c).arrAt_eq_of_covers 5 (means (grad m c) (arg2 m c)) (by decide +kernel) fun t _ y => ?_
  show (dats m 0 c).after 5 t y = means (grad m c) (arg2 m c) (at_ t y)
  rw [after0_5]
  unfold out0_5 k0_pay1 k0_pay3
  rw [View.canon_unit_zero hz3]
  simp only [View.ld_unit_zero (S := S1x256x768) hz3, View.ld_unit_zero (S := S256x768) hz2]
  refine (mean_tile (iblk m c 3 t) (iblk m c 1 t) shapeCasts_S1x256x768_S256x768 shapeCasts_S256x768_S1x256x768 y).trans ?_
  rw [block3, block1]; rfl

theorem square_eq : (dats m 0 c).arrAt 6 cfg0.N = squares (grad m c) (arg3 m c) := by
  refine (dats m 0 c).arrAt_eq_of_covers 6 (squares (grad m c) (arg3 m c)) (by decide +kernel) fun t _ y => ?_
  show (dats m 0 c).after 6 t y = squares (grad m c) (arg3 m c) (at_ t y)
  rw [after0_6]
  unfold out0_6 k0_pay2 k0_pay4
  rw [View.canon_unit_zero hz3]
  simp only [View.ld_unit_zero (S := S1x256x768) hz3, View.ld_unit_zero (S := S256x768) hz2]
  refine (square_tile (iblk m c 3 t) (iblk m c 2 t) shapeCasts_S1x256x768_S256x768 shapeCasts_S256x768_S1x256x768 y).trans ?_
  rw [block3, block2]; rfl

theorem run : θ_run defs (onTc (τ := τ) (main (F := Ideal))) ⟨m, fun _ => 0, ρ⟩ fun r => ∀ c : Dev nD,
    r.2.mem ((c : Thread nD τ).loc main_v0_0) = changes (arg0 m c) (grad m c) (arg2 m c) (arg3 m c)
    ∧ r.2.mem ((c : Thread nD τ).loc main_v0_1) = means (grad m c) (arg2 m c)
    ∧ r.2.mem ((c : Thread nD τ).loc main_v0_2) = squares (grad m c) (arg3 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (change_eq m c), (h c).2.1.trans (mean_eq m c), (h c).2.2.1.trans (square_eq m c), (h c).2.2.2⟩)
    (Value.run_blocks m ρ)

end Cert.Kernel29Ideal.Adam

namespace Cert.Reference29Ideal.Adam

open Cert.Reference29Ideal Cert.Reference29Ideal.Gen Cert.Reference29Ideal.Read Cert.Adam
open Idealize.ShloMosaic hiding ix2 ix3 eq_ix2 eq_ix3
open Idealize.ShloMosaic.TcCoe Idealize.SL.Sem

theorem grad_eq (x : FVec Ideal S1024x768 .f32) : val_main_v0 (F := Ideal) x = one x :=
  funext fun i => (val_main_v0_apply (F := Ideal) x i).trans (congrArg x (Shape.idx_ext₂ rfl rfl))

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c : Thread nD τ).loc main_v24) = changes (m ((c : Thread nD τ).loc main_arg0)) (one (m ((c : Thread nD τ).loc main_arg1)))
      (m ((c : Thread nD τ).loc main_arg2)) (m ((c : Thread nD τ).loc main_arg3))
    ∧ r.2.mem ((c : Thread nD τ).loc main_v5) = means (one (m ((c : Thread nD τ).loc main_arg1))) (m ((c : Thread nD τ).loc main_arg2))
    ∧ r.2.mem ((c : Thread nD τ).loc main_v11) = squares (one (m ((c : Thread nD τ).loc main_arg1))) (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (congrArg (changes _ · _ _) (grad_eq _)), (h c).2.1.trans (congrArg (means · _) (grad_eq _)),
    (h c).2.2.1.trans (congrArg (squares · _) (grad_eq _)), (h c).2.2.2⟩) (Value.run (F := Ideal) m ρ)

end Cert.Reference29Ideal.Adam

end
-- ==== Proof.Adam.Down.lean ====
/- The optimiser's step on the forward network's second weight: two layers of four tiles of 176 rows. -/
module

public import proofs.«01_k».proof.Proof.Math.Adam
public import proofs.«01_k».proof.Proof.Gen.Kernel30Ideal.Value
public import Idealize.ShloMosaic.Lib.Pipeline.ValueKit
public import proofs.«01_k».proof.Proof.Gen.Reference30Ideal.Run
public import proofs.«01_k».proof.Proof.Gen.Reference30Ideal.Read

@[expose] public section

set_option maxRecDepth 16384

noncomputable section

namespace Cert.Kernel30Ideal.Adam

open Cert.Kernel30Ideal Cert.Kernel30Ideal.Gen Cert.Product Cert.Adam
open Idealize.ShloMosaic hiding ix2 ix3 eq_ix2 eq_ix3
open Idealize.ShloMosaic.TcCoe Idealize.ShloMosaic.ValueIdx Idealize.SL.Sem

variable (m : (ℓ : Loc nD τ sig) → Buf (Elt Ideal) ℓ) (ρ : Dev nD → PrngReg) (c : Dev nD)

abbrev arg0 : FVec Ideal S2x704x1024 .f32 := m ((c : Thread nD τ).loc main_arg0)
abbrev arg1 : FVec Ideal S704x1024 .f32 := m ((c : Thread nD τ).loc main_arg1)
abbrev arg2 : FVec Ideal S704x1024 .f32 := m ((c : Thread nD τ).loc main_arg2)
abbrev arg3 : FVec Ideal S2x704x1024 .f32 := m ((c : Thread nD τ).loc main_arg3)
abbrev arg4 : FVec Ideal S2x704x1024 .f32 := m ((c : Thread nD τ).loc main_arg4)
abbrev grad : FVec Ideal S2x704x1024 .f32 := two (arg1 m c) (arg2 m c)

/-- Where entry `y` of the tile at point `t` lies, in every array. -/
def at_ (t : Fin grid0.N) (y : S1x176x1024.Idx) : S2x704x1024.Idx := (win0_0.rect t).emb y

theorem block0 (t : Fin grid0.N) (y : S1x176x1024.Idx) : iblk m c 0 t y = arg0 m c (at_ t y) := congrFun (V_main_arg0 m c) (at_ t y)
theorem block1 (t : Fin grid0.N) (y : S1x176x1024.Idx) : iblk m c 1 t y = arg3 m c (at_ t y) := congrFun (V_main_arg3 m c) (at_ t y)
theorem block2 (t : Fin grid0.N) (y : S1x176x1024.Idx) : iblk m c 2 t y = arg4 m c (at_ t y) := congrFun (V_main_arg4 m c) (at_ t y)
theorem block3 (t : Fin grid0.N) (y : S1x176x1024.Idx) : iblk m c 3 t (ix2 (y 1) (y 2) : S176x1024.Idx) = arg1 m c (ix2 (at_ t y 1) (at_ t y 2)) :=
  (congrFun (V_main_arg1 m c) ((win0_3.rect t).emb (ix2 (y 1) (y 2) : S176x1024.Idx))).trans (congrArg (arg1 m c) (Shape.idx_ext₂ rfl rfl))
theorem block4 (t : Fin grid0.N) (y : S1x176x1024.Idx) : iblk m c 4 t (ix2 (y 1) (y 2) : S176x1024.Idx) = arg2 m c (ix2 (at_ t y 1) (at_ t y 2)) :=
  (congrFun (V_main_arg2 m c) ((win0_4.rect t).emb (ix2 (y 1) (y 2) : S176x1024.Idx))).trans (congrArg (arg2 m c) (Shape.idx_ext₂ rfl rfl))

theorem layer : ∀ t : Fin grid0.N, Scalar.cmpi .eq (BitVec.ofNat 32 (grid0.coords t 0).val) 1#32 = BitVec.ofBool (decide (win0_0.index t 0 = 1)) := by
  decide +kernel

theorem grad_apply (t : Fin grid0.N) (y : S1x176x1024.Idx) :
    k0_pay4 (grid0.coords t) (iblk m c 3 t) (iblk m c 4 t) (ix2 (y 1) (y 2)) = grad m c (at_ t y) := by
  have e : (at_ t y 0).val = win0_0.index t 0 :=
    (win0_0.rect_emb_val t y 0).trans (by have h0 : (y 0).val < 1 := (y 0).isLt; show win0_0.index t 0 * 1 + (y 0).val = _; omega)
  unfold k0_pay4 grad two
  rw [← block3, ← block4, e]
  dsimp only
  rw [layer t]
  by_cases h : win0_0.index t 0 = 1
  · rw [if_pos h, decide_eq_true h]; rfl
  · rw [if_neg h, decide_eq_false h]; rfl

theorem change_eq : (dats m 0 c).arrAt 5 cfg0.N = changes (arg0 m c) (grad m c) (arg3 m c) (arg4 m c) := by
  refine (dats m 0 c).arrAt_eq_of_covers 5 (changes (arg0 m c) (grad m c) (arg3 m c) (arg4 m c)) (by decide +kernel) fun t _ y => ?_
  show (dats m 0 c).after 5 t y = changes (arg0 m c) (grad m c) (arg3 m c) (arg4 m c) (at_ t y)
  rw [after0_5]
  unfold out0_5 k0_pay1 k0_pay7 k0_pay5 k0_pay6
  rw [View.canon_unit_zero hz3]
  simp only [View.ld_unit_zero (S := S1x176x1024) hz3, View.ld_unit_zero (S := S176x1024) hz2]
  refine (change_tile (iblk m c 0 t) (k0_pay4 (grid0.coords t) (iblk m c 3 t) (iblk m c 4 t)) (iblk m c 1 t) (iblk m c 2 t) shapeCasts_S1x176x1024_S176x1024 shapeCasts_S176x1024_S1x176x1024 y).trans ?_
  rw [block0, grad_apply, block1, block2]; rfl

theorem mean_eq : (dats m 0 c).arrAt 6 cfg0.N = means (grad m c) (arg3 m c) := by
  refine (dats m 0 c).arrAt_eq_of_covers 6 (means (grad m c) (arg3 m c)) (by decide +kernel) fun t _ y => ?_
  show (dats m 0 c).after 6 t y = means (grad m c) (arg3 m c) (at_ t y)
  rw [after0_6]
  unfold out0_6 k0_pay2 k0_pay5
  rw [View.canon_unit_zero hz3]
  simp only [View.ld_unit_zero (S := S1x176x1024) hz3, View.ld_unit_zero (S := S176x1024) hz2]
  refine (mean_tile (k0_pay4 (grid0.coords t) (iblk m c 3 t) (iblk m c 4 t)) (iblk m c 1 t) shapeCasts_S1x176x1024_S176x1024 shapeCasts_S176x1024_S1x176x1024 y).trans ?_
  rw [grad_apply, block1]; rfl

theorem square_eq : (dats m 0 c).arrAt 7 cfg0.N = squares (grad m c) (arg4 m c) := by
  refine (dats m 0 c).arrAt_eq_of_covers 7 (squares (grad m c) (arg4 m c)) (by decide +kernel) fun t _ y => ?_
  show (dats m 0 c).after 7 t y = squares (grad m c) (arg4 m c) (at_ t y)
  rw [after0_7]
  unfold out0_7 k0_pay3 k0_pay6
  rw [View.canon_unit_zero hz3]
  simp only [View.ld_unit_zero (S := S1x176x1024) hz3, View.ld_unit_zero (S := S176x1024) hz2]
  refine (square_tile (k0_pay4 (grid0.coords t) (iblk m c 3 t) (iblk m c 4 t)) (iblk m c 2 t) shapeCasts_S1x176x1024_S176x1024 shapeCasts_S176x1024_S1x176x1024 y).trans ?_
  rw [grad_apply, block2]; rfl

theorem run : θ_run defs (onTc (τ := τ) (main (F := Ideal))) ⟨m, fun _ => 0, ρ⟩ fun r => ∀ c : Dev nD,
    r.2.mem ((c : Thread nD τ).loc main_v0_0) = changes (arg0 m c) (grad m c) (arg3 m c) (arg4 m c)
    ∧ r.2.mem ((c : Thread nD τ).loc main_v0_1) = means (grad m c) (arg3 m c)
    ∧ r.2.mem ((c : Thread nD τ).loc main_v0_2) = squares (grad m c) (arg4 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun _ h c => ⟨(h c).1.trans (change_eq m c), (h c).2.1.trans (mean_eq m c), (h c).2.2.1.trans (square_eq m c), (h c).2.2.2⟩)
    (Value.run_blocks m ρ)

end Cert.Kernel30Ideal.Adam

namespace Cert.Reference30Ideal.Adam

open Cert.Reference30Ideal Cert.Reference30Ideal.Gen Cert.Reference30Ideal.Read Cert.Adam
open Idealize.ShloMosaic hiding ix2 ix3 eq_ix2 eq_ix3
open Idealize.ShloMosaic.TcCoe Idealize.SL.Sem

theorem grad_eq (x y : FVec Ideal S704x1024 .f32) : val_main_v2 (F := Ideal) x y = two x y := by
  have e0 : val_main_v0 (F := Ideal) x = one x := funext fun i => (val_main_v0_apply (F := Ideal) x i).trans (congrArg x (Shape.idx_ext₂ rfl rfl))
  have e1 : val_main_v1 (F := Ideal) y = one y := funext fun i => (val_main_v1_apply (F := Ideal) y i).trans (congrArg y (Shape.idx_ext₂ rfl rfl))
  unfold val_main_v2
  rw [e0, e1]
  exact two_eq x y _

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c : Thread nD τ).loc main_v26) = changes (m ((c : Thread nD τ).loc main_arg0)) (two (m ((c : Thread nD τ).loc main_arg1)) (m ((c : Thread nD τ).loc main_arg2)))
      (m ((c : Thread nD τ).loc main_arg3)) (m ((c : Thread nD τ).loc main_arg4))
    ∧ r.2.mem ((c : Thread nD τ).loc main_v7) = means (two (m ((c : Thread nD τ).loc main_arg1)) (m ((c : Thread nD τ).loc main_arg2))) (m ((c : Thread nD τ).loc main_arg3))
    ∧ r.2.mem ((c : Thread nD τ).loc main_v13) = squares (two (m ((c : Thread nD τ).loc main_arg1)) (m ((c : Thread nD τ).loc main_arg2))) (m ((c : Thread nD τ).loc main_arg4))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun _ h c => ⟨(h c).1.trans (congrArg (changes _ · _ _) (grad_eq _ _)), (h c).2.1.trans (congrArg (means · _) (grad_eq _ _)),
    (h c).2.2.1.trans (congrArg (squares · _) (grad_eq _ _)), (h c).2.2.2⟩) (Value.run (F := Ideal) m ρ)

end Cert.Reference30Ideal.Adam

end
-- ==== Proof.Adam.PleProj.lean ====
/- The optimiser's step on the embedding's projection: two layers of one tile. -/
module

public import proofs.«01_k».proof.Proof.Math.Adam
public import proofs.«01_k».proof.Proof.Gen.Kernel31Ideal.Value
public import Idealize.ShloMosaic.Lib.Pipeline.ValueKit
public import proofs.«01_k».proof.Proof.Gen.Reference31Ideal.Run
public import proofs.«01_k».proof.Proof.Gen.Reference31Ideal.Read

@[expose] public section

set_option maxRecDepth 16384

noncomputable section

namespace Cert.Kernel31Ideal.Adam

open Cert.Kernel31Ideal Cert.Kernel31Ideal.Gen Cert.Product Cert.Adam
open Idealize.ShloMosaic hiding ix2 ix3 eq_ix2 eq_ix3
open Idealize.ShloMosaic.TcCoe Idealize.ShloMosaic.ValueIdx Idealize.SL.Sem

variable (m : (ℓ : Loc nD τ sig) → Buf (Elt Ideal) ℓ) (ρ : Dev nD → PrngReg) (c : Dev nD)

abbrev arg0 : FVec Ideal S2x256x256 .f32 := m ((c : Thread nD τ).loc main_arg0)
abbrev arg1 : FVec Ideal S256x256 .f32 := m ((c : Thread nD τ).loc main_arg1)
abbrev arg2 : FVec Ideal S256x256 .f32 := m ((c : Thread nD τ).loc main_arg2)
abbrev arg3 : FVec Ideal S2x256x256 .f32 := m ((c : Thread nD τ).loc main_arg3)
abbrev arg4 : FVec Ideal S2x256x256 .f32 := m ((c : Thread nD τ).loc main_arg4)
abbrev grad : FVec Ideal S2x256x256 .f32 := two (arg1 m c) (arg2 m c)

/-- Where entry `y` of the tile at point `t` lies, in every array. -/
def at_ (t : Fin grid0.N) (y : S1x256x256.Idx) : S2x256x256.Idx := (win0_0.rect t).emb y

theorem block0 (t : Fin grid0.N) (y : S1x256x256.Idx) : iblk m c 0 t y = arg0 m c (at_ t y) := congrFun (V_main_arg0 m c) (at_ t y)
theorem block1 (t : Fin grid0.N) (y : S1x256x256.Idx) : iblk m c 1 t y = arg3 m c (at_ t y) := congrFun (V_main_arg3 m c) (at_ t y)
theorem block2 (t : Fin grid0.N) (y : S1x256x256.Idx) : iblk m c 2 t y = arg4 m c (at_ t y) := congrFun (V_main_arg4 m c) (at_ t y)
theorem block3 (t : Fin grid0.N) (y : S1x256x256.Idx) : iblk m c 3 t (ix2 (y 1) (y 2) : S256x256.Idx) = arg1 m c (ix2 (at_ t y 1) (at_ t y 2)) :=
  (congrFun (V_main_arg1 m c) ((win0_3.rect t).emb (ix2 (y 1) (y 2) : S256x256.Idx))).trans (congrArg (arg1 m c) (Shape.idx_ext₂ rfl rfl))
theorem block4 (t : Fin grid0.N) (y : S1x256x256.Idx) : iblk m c 4 t (ix2 (y 1) (y 2) : S256x256.Idx) = arg2 m c (ix2 (at_ t y 1) (at_ t y 2)) :=
  (congrFun (V_main_arg2 m c) ((win0_4.rect t).emb (ix2 (y 1) (y 2) : S256x256.Idx))).trans (congrArg (arg2 m c) (Shape.idx_ext₂ rfl rfl))

theorem layer : ∀ t : Fin grid0.N, Scalar.cmpi .eq (BitVec.ofNat 32 (grid0.coords t 0).val) 1#32 = BitVec.ofBool (decide (win0_0.index t 0 = 1)) := by
  decide +kernel

theorem grad_apply (t : Fin grid0.N) (y : S1x256x256.Idx) :
    k0_pay4 (grid0.coords t) (iblk m c 3 t) (iblk m c 4 t) (ix2 (y 1) (y 2)) = grad m c (at_ t y) := by
  have e : (at_ t y 0).val = win0_0.index t 0 :=
    (win0_0.rect_emb_val t y 0).trans (by have h0 : (y 0).val < 1 := (y 0).isLt; show win0_0.index t 0 * 1 + (y 0).val = _; omega)
  unfold k0_pay4 grad two
  rw [← block3, ← block4, e]
  dsimp only
  rw [layer t]
  by_cases h : win0_0.index t 0 = 1
  · rw [if_pos h, decide_eq_true h]; rfl
  · rw [if_neg h, decide_eq_false h]; rfl

theorem change_eq : (dats m 0 c).arrAt 5 cfg0.N = changes (arg0 m c) (grad m c) (arg3 m c) (arg4 m c) := by
  refine (dats m 0 c).arrAt_eq_of_covers 5 (changes (arg0 m c) (grad m c) (arg3 m c) (arg4 m c)) (by decide +kernel) fun t _ y => ?_
  show (dats m 0 c).after 5 t y = changes (arg0 m c) (grad m c) (arg3 m c) (arg4 m c) (at_ t y)
  rw [after0_5]
  unfold out0_5 k0_pay1 k0_pay7 k0_pay5 k0_pay6
  rw [View.canon_unit_zero hz3]
  simp only [View.ld_unit_zero (S := S1x256x256) hz3, View.ld_unit_zero (S := S256x256) hz2]
  refine (change_tile (iblk m c 0 t) (k0_pay4 (grid0.coords t) (iblk m c 3 t) (iblk m c 4 t)) (iblk m c 1 t) (iblk m c 2 t) shapeCasts_S1x256x256_S256x256 shapeCasts_S256x256_S1x256x256 y).trans ?_
  rw [block0, grad_apply, block1, block2]; rfl

theorem mean_eq : (dats m 0 c).arrAt 6 cfg0.N = means (grad m c) (arg3 m c) := by
  refine (dats m 0 c).arrAt_eq_of_covers 6 (means (grad m c) (arg3 m c)) (by decide +kernel) fun t _ y => ?_
  show (dats m 0 c).after 6 t y = means (grad m c) (arg3 m c) (at_ t y)
  rw [after0_6]
  unfold out0_6 k0_pay2 k0_pay5
  rw [View.canon_unit_zero hz3]
  simp only [View.ld_unit_zero (S := S1x256x256) hz3, View.ld_unit_zero (S := S256x256) hz2]
  refine (mean_tile (k0_pay4 (grid0.coords t) (iblk m c 3 t) (iblk m c 4 t)) (iblk m c 1 t) shapeCasts_S1x256x256_S256x256 shapeCasts_S256x256_S1x256x256 y).trans ?_
  rw [grad_apply, block1]; rfl

theorem square_eq : (dats m 0 c).arrAt 7 cfg0.N = squares (grad m c) (arg4 m c) := by
  refine (dats m 0 c).arrAt_eq_of_covers 7 (squares (grad m c) (arg4 m c)) (by decide +kernel) fun t _ y => ?_
  show (dats m 0 c).after 7 t y = squares (grad m c) (arg4 m c) (at_ t y)
  rw [after0_7]
  unfold out0_7 k0_pay3 k0_pay6
  rw [View.canon_unit_zero hz3]
  simp only [View.ld_unit_zero (S := S1x256x256) hz3, View.ld_unit_zero (S := S256x256) hz2]
  refine (square_tile (k0_pay4 (grid0.coords t) (iblk m c 3 t) (iblk m c 4 t)) (iblk m c 2 t) shapeCasts_S1x256x256_S256x256 shapeCasts_S256x256_S1x256x256 y).trans ?_
  rw [grad_apply, block2]; rfl

theorem run : θ_run defs (onTc (τ := τ) (main (F := Ideal))) ⟨m, fun _ => 0, ρ⟩ fun r => ∀ c : Dev nD,
    r.2.mem ((c : Thread nD τ).loc main_v0_0) = changes (arg0 m c) (grad m c) (arg3 m c) (arg4 m c)
    ∧ r.2.mem ((c : Thread nD τ).loc main_v0_1) = means (grad m c) (arg3 m c)
    ∧ r.2.mem ((c : Thread nD τ).loc main_v0_2) = squares (grad m c) (arg4 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun _ h c => ⟨(h c).1.trans (change_eq m c), (h c).2.1.trans (mean_eq m c), (h c).2.2.1.trans (square_eq m c), (h c).2.2.2⟩)
    (Value.run_blocks m ρ)

end Cert.Kernel31Ideal.Adam

namespace Cert.Reference31Ideal.Adam

open Cert.Reference31Ideal Cert.Reference31Ideal.Gen Cert.Reference31Ideal.Read Cert.Adam
open Idealize.ShloMosaic hiding ix2 ix3 eq_ix2 eq_ix3
open Idealize.ShloMosaic.TcCoe Idealize.SL.Sem

theorem grad_eq (x y : FVec Ideal S256x256 .f32) : val_main_v2 (F := Ideal) x y = two x y := by
  have e0 : val_main_v0 (F := Ideal) x = one x := funext fun i => (val_main_v0_apply (F := Ideal) x i).trans (congrArg x (Shape.idx_ext₂ rfl rfl))
  have e1 : val_main_v1 (F := Ideal) y = one y := funext fun i => (val_main_v1_apply (F := Ideal) y i).trans (congrArg y (Shape.idx_ext₂ rfl rfl))
  unfold val_main_v2
  rw [e0, e1]
  exact two_eq x y _

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c : Thread nD τ).loc main_v26) = changes (m ((c : Thread nD τ).loc main_arg0)) (two (m ((c : Thread nD τ).loc main_arg1)) (m ((c : Thread nD τ).loc main_arg2)))
      (m ((c : Thread nD τ).loc main_arg3)) (m ((c : Thread nD τ).loc main_arg4))
    ∧ r.2.mem ((c : Thread nD τ).loc main_v7) = means (two (m ((c : Thread nD τ).loc main_arg1)) (m ((c : Thread nD τ).loc main_arg2))) (m ((c : Thread nD τ).loc main_arg3))
    ∧ r.2.mem ((c : Thread nD τ).loc main_v13) = squares (two (m ((c : Thread nD τ).loc main_arg1)) (m ((c : Thread nD τ).loc main_arg2))) (m ((c : Thread nD τ).loc main_arg4))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun _ h c => ⟨(h c).1.trans (congrArg (changes _ · _ _) (grad_eq _ _)), (h c).2.1.trans (congrArg (means · _) (grad_eq _ _)),
    (h c).2.2.1.trans (congrArg (squares · _) (grad_eq _ _)), (h c).2.2.2⟩) (Value.run (F := Ideal) m ρ)

end Cert.Reference31Ideal.Adam

end
-- ==== Proof.Adam.PleGate.lean ====
/- The optimiser's step on the embedding's gate: two layers of one tile. -/
module

public import proofs.«01_k».proof.Proof.Math.Adam
public import proofs.«01_k».proof.Proof.Gen.Kernel32Ideal.Value
public import Idealize.ShloMosaic.Lib.Pipeline.ValueKit
public import proofs.«01_k».proof.Proof.Gen.Reference32Ideal.Run
public import proofs.«01_k».proof.Proof.Gen.Reference32Ideal.Read

@[expose] public section

set_option maxRecDepth 16384

noncomputable section

namespace Cert.Kernel32Ideal.Adam

open Cert.Kernel32Ideal Cert.Kernel32Ideal.Gen Cert.Product Cert.Adam
open Idealize.ShloMosaic hiding ix2 ix3 eq_ix2 eq_ix3
open Idealize.ShloMosaic.TcCoe Idealize.ShloMosaic.ValueIdx Idealize.SL.Sem

variable (m : (ℓ : Loc nD τ sig) → Buf (Elt Ideal) ℓ) (ρ : Dev nD → PrngReg) (c : Dev nD)

abbrev arg0 : FVec Ideal S2x256x1024 .f32 := m ((c : Thread nD τ).loc main_arg0)
abbrev arg1 : FVec Ideal S256x1024 .f32 := m ((c : Thread nD τ).loc main_arg1)
abbrev arg2 : FVec Ideal S256x1024 .f32 := m ((c : Thread nD τ).loc main_arg2)
abbrev arg3 : FVec Ideal S2x256x1024 .f32 := m ((c : Thread nD τ).loc main_arg3)
abbrev arg4 : FVec Ideal S2x256x1024 .f32 := m ((c : Thread nD τ).loc main_arg4)
abbrev grad : FVec Ideal S2x256x1024 .f32 := two (arg1 m c) (arg2 m c)

/-- Where entry `y` of the tile at point `t` lies, in every array. -/
def at_ (t : Fin grid0.N) (y : S1x256x1024.Idx) : S2x256x1024.Idx := (win0_0.rect t).emb y

theorem block0 (t : Fin grid0.N) (y : S1x256x1024.Idx) : iblk m c 0 t y = arg0 m c (at_ t y) := congrFun (V_main_arg0 m c) (at_ t y)
theorem block1 (t : Fin grid0.N) (y : S1x256x1024.Idx) : iblk m c 1 t y = arg3 m c (at_ t y) := congrFun (V_main_arg3 m c) (at_ t y)
theorem block2 (t : Fin grid0.N) (y : S1x256x1024.Idx) : iblk m c 2 t y = arg4 m c (at_ t y) := congrFun (V_main_arg4 m c) (at_ t y)
theorem block3 (t : Fin grid0.N) (y : S1x256x1024.Idx) : iblk m c 3 t (ix2 (y 1) (y 2) : S256x1024.Idx) = arg1 m c (ix2 (at_ t y 1) (at_ t y 2)) :=
  (congrFun (V_main_arg1 m c) ((win0_3.rect t).emb (ix2 (y 1) (y 2) : S256x1024.Idx))).trans (congrArg (arg1 m c) (Shape.idx_ext₂ rfl rfl))
theorem block4 (t : Fin grid0.N) (y : S1x256x1024.Idx) : iblk m c 4 t (ix2 (y 1) (y 2) : S256x1024.Idx) = arg2 m c (ix2 (at_ t y 1) (at_ t y 2)) :=
  (congrFun (V_main_arg2 m c) ((win0_4.rect t).emb (ix2 (y 1) (y 2) : S256x1024.Idx))).trans (congrArg (arg2 m c) (Shape.idx_ext₂ rfl rfl))

theorem layer : ∀ t : Fin grid0.N, Scalar.cmpi .eq (BitVec.ofNat 32 (grid0.coords t 0).val) 1#32 = BitVec.ofBool (decide (win0_0.index t 0 = 1)) := by
  decide +kernel

theorem grad_apply (t : Fin grid0.N) (y : S1x256x1024.Idx) :
    k0_pay4 (grid0.coords t) (iblk m c 3 t) (iblk m c 4 t) (ix2 (y 1) (y 2)) = grad m c (at_ t y) := by
  have e : (at_ t y 0).val = win0_0.index t 0 :=
    (win0_0.rect_emb_val t y 0).trans (by have h0 : (y 0).val < 1 := (y 0).isLt; show win0_0.index t 0 * 1 + (y 0).val = _; omega)
  unfold k0_pay4 grad two
  rw [← block3, ← block4, e]
  dsimp only
  rw [layer t]
  by_cases h : win0_0.index t 0 = 1
  · rw [if_pos h, decide_eq_true h]; rfl
  · rw [if_neg h, decide_eq_false h]; rfl

theorem change_eq : (dats m 0 c).arrAt 5 cfg0.N = changes (arg0 m c) (grad m c) (arg3 m c) (arg4 m c) := by
  refine (dats m 0 c).arrAt_eq_of_covers 5 (changes (arg0 m c) (grad m c) (arg3 m c) (arg4 m c)) (by decide +kernel) fun t _ y => ?_
  show (dats m 0 c).after 5 t y = changes (arg0 m c) (grad m c) (arg3 m c) (arg4 m c) (at_ t y)
  rw [after0_5]
  unfold out0_5 k0_pay1 k0_pay7 k0_pay5 k0_pay6
  rw [View.canon_unit_zero hz3]
  simp only [View.ld_unit_zero (S := S1x256x1024) hz3, View.ld_unit_zero (S := S256x1024) hz2]
  refine (change_tile (iblk m c 0 t) (k0_pay4 (grid0.coords t) (iblk m c 3 t) (iblk m c 4 t)) (iblk m c 1 t) (iblk m c 2 t) shapeCasts_S1x256x1024_S256x1024 shapeCasts_S256x1024_S1x256x1024 y).trans ?_
  rw [block0, grad_apply, block1, block2]; rfl

theorem mean_eq : (dats m 0 c).arrAt 6 cfg0.N = means (grad m c) (arg3 m c) := by
  refine (dats m 0 c).arrAt_eq_of_covers 6 (means (grad m c) (arg3 m c)) (by decide +kernel) fun t _ y => ?_
  show (dats m 0 c).after 6 t y = means (grad m c) (arg3 m c) (at_ t y)
  rw [after0_6]
  unfold out0_6 k0_pay2 k0_pay5
  rw [View.canon_unit_zero hz3]
  simp only [View.ld_unit_zero (S := S1x256x1024) hz3, View.ld_unit_zero (S := S256x1024) hz2]
  refine (mean_tile (k0_pay4 (grid0.coords t) (iblk m c 3 t) (iblk m c 4 t)) (iblk m c 1 t) shapeCasts_S1x256x1024_S256x1024 shapeCasts_S256x1024_S1x256x1024 y).trans ?_
  rw [grad_apply, block1]; rfl

theorem square_eq : (dats m 0 c).arrAt 7 cfg0.N = squares (grad m c) (arg4 m c) := by
  refine (dats m 0 c).arrAt_eq_of_covers 7 (squares (grad m c) (arg4 m c)) (by decide +kernel) fun t _ y => ?_
  show (dats m 0 c).after 7 t y = squares (grad m c) (arg4 m c) (at_ t y)
  rw [after0_7]
  unfold out0_7 k0_pay3 k0_pay6
  rw [View.canon_unit_zero hz3]
  simp only [View.ld_unit_zero (S := S1x256x1024) hz3, View.ld_unit_zero (S := S256x1024) hz2]
  refine (square_tile (k0_pay4 (grid0.coords t) (iblk m c 3 t) (iblk m c 4 t)) (iblk m c 2 t) shapeCasts_S1x256x1024_S256x1024 shapeCasts_S256x1024_S1x256x1024 y).trans ?_
  rw [grad_apply, block2]; rfl

theorem run : θ_run defs (onTc (τ := τ) (main (F := Ideal))) ⟨m, fun _ => 0, ρ⟩ fun r => ∀ c : Dev nD,
    r.2.mem ((c : Thread nD τ).loc main_v0_0) = changes (arg0 m c) (grad m c) (arg3 m c) (arg4 m c)
    ∧ r.2.mem ((c : Thread nD τ).loc main_v0_1) = means (grad m c) (arg3 m c)
    ∧ r.2.mem ((c : Thread nD τ).loc main_v0_2) = squares (grad m c) (arg4 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun _ h c => ⟨(h c).1.trans (change_eq m c), (h c).2.1.trans (mean_eq m c), (h c).2.2.1.trans (square_eq m c), (h c).2.2.2⟩)
    (Value.run_blocks m ρ)

end Cert.Kernel32Ideal.Adam

namespace Cert.Reference32Ideal.Adam

open Cert.Reference32Ideal Cert.Reference32Ideal.Gen Cert.Reference32Ideal.Read Cert.Adam
open Idealize.ShloMosaic hiding ix2 ix3 eq_ix2 eq_ix3
open Idealize.ShloMosaic.TcCoe Idealize.SL.Sem

theorem grad_eq (x y : FVec Ideal S256x1024 .f32) : val_main_v2 (F := Ideal) x y = two x y := by
  have e0 : val_main_v0 (F := Ideal) x = one x := funext fun i => (val_main_v0_apply (F := Ideal) x i).trans (congrArg x (Shape.idx_ext₂ rfl rfl))
  have e1 : val_main_v1 (F := Ideal) y = one y := funext fun i => (val_main_v1_apply (F := Ideal) y i).trans (congrArg y (Shape.idx_ext₂ rfl rfl))
  unfold val_main_v2
  rw [e0, e1]
  exact two_eq x y _

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c : Thread nD τ).loc main_v26) = changes (m ((c : Thread nD τ).loc main_arg0)) (two (m ((c : Thread nD τ).loc main_arg1)) (m ((c : Thread nD τ).loc main_arg2)))
      (m ((c : Thread nD τ).loc main_arg3)) (m ((c : Thread nD τ).loc main_arg4))
    ∧ r.2.mem ((c : Thread nD τ).loc main_v7) = means (two (m ((c : Thread nD τ).loc main_arg1)) (m ((c : Thread nD τ).loc main_arg2))) (m ((c : Thread nD τ).loc main_arg3))
    ∧ r.2.mem ((c : Thread nD τ).loc main_v13) = squares (two (m ((c : Thread nD τ).loc main_arg1)) (m ((c : Thread nD τ).loc main_arg2))) (m ((c : Thread nD τ).loc main_arg4))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun _ h c => ⟨(h c).1.trans (congrArg (changes _ · _ _) (grad_eq _ _)), (h c).2.1.trans (congrArg (means · _) (grad_eq _ _)),
    (h c).2.2.1.trans (congrArg (squares · _) (grad_eq _ _)), (h c).2.2.2⟩) (Value.run (F := Ideal) m ρ)

end Cert.Reference32Ideal.Adam

end
-- ==== Proof.lean ====
/- The claims of the attention's gradient and output, of the products, of the mixer norm's gradients and of the optimiser: the kernels as
   printed and their idealizations run, leaving their arguments and every counter as they found them (Proof/Bits, Proof/Ideal for the
   attention's gradient); so do the references; the attention's idealizations name one constant; and the results are the references':
   the attention's both being those of the heads (Proof/Value, Proof/Fwd, Proof/Ref, Proof/Math), the others both being the same sums
   (Proof/Ffn, Proof/Proj, Proof/Norm) or the same function of each entry (Proof/Adam). -/
module

public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Gen.Reference28Ideal.Read
public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Gen.Reference29Ideal.Read
public import proofs.«01_k».proof.Proof.Gen.Kernel30.Frame
public import proofs.«01_k».proof.Proof.Gen.Kernel30Ideal.Frame
public import proofs.«01_k».proof.Proof.Gen.Kernel30Ideal.Value
public import proofs.«01_k».proof.Proof.Gen.Reference30Ideal.Run
public import proofs.«01_k».proof.Proof.Gen.Reference30Ideal.Read
public import proofs.«01_k».proof.Proof.Gen.Kernel31.Frame
public import proofs.«01_k».proof.Proof.Gen.Kernel31Ideal.Frame
public import proofs.«01_k».proof.Proof.Gen.Kernel31Ideal.Value
public import proofs.«01_k».proof.Proof.Gen.Reference31Ideal.Run
public import proofs.«01_k».proof.Proof.Gen.Reference31Ideal.Read
public import proofs.«01_k».proof.Proof.Gen.Kernel32.Frame
public import proofs.«01_k».proof.Proof.Gen.Kernel32Ideal.Frame
public import proofs.«01_k».proof.Proof.Gen.Kernel32Ideal.Value
public import proofs.«01_k».proof.Proof.Gen.Reference32Ideal.Run
public import proofs.«01_k».proof.Proof.Gen.Reference32Ideal.Read
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Bits.Frame
public import proofs.«01_k».proof.Proof.Ideal.Frame
public import proofs.«01_k».proof.Proof.Value.Run
public import proofs.«01_k».proof.Proof.Ref.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Ffn.UpDx
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Ffn.UpDw
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Ffn.DownDx
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Ffn.DownDw
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Proj.MixOutDx
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Proj.GateDx
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Proj.AttnOutDx
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Proj.OutDw
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Proj.GateDw
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Proj.QkvDw
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Proj.QkvDx
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Proj.UpFwd
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Proj.DownFwd
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Proj.OutFwd
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Proj.QkvFwd
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Proj.MixInFwd
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Proj.MixInDw
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Proj.MixInDx
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Proj.PleProjFwd0
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Proj.PleProjFwd1
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Proj.PleProjDw0
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Proj.PleProjDw1
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Fwd.Ref
public import proofs.«01_k».proof.Proof.Fwd.Run
public import proofs.«01_k».proof.Proof.Gen.Kernel25
public import proofs.«01_k».proof.Proof.Gen.Kernel25Ideal
public import proofs.«01_k».proof.Proof.Gen.Reference25Ideal
public import proofs.«01_k».proof.Proof.Norm.MixBwd
public import proofs.«01_k».proof.Proof.Gen.Kernel26
public import proofs.«01_k».proof.Proof.Gen.Kernel26Ideal
public import proofs.«01_k».proof.Proof.Gen.Reference26Ideal
public import proofs.«01_k».proof.Proof.Adam.MixIn
public import proofs.«01_k».proof.Proof.Gen.Kernel27
public import proofs.«01_k».proof.Proof.Gen.Kernel27Ideal
public import proofs.«01_k».proof.Proof.Gen.Reference27Ideal
public import proofs.«01_k».proof.Proof.Adam.Up
public import proofs.«01_k».proof.Proof.Gen.Kernel28
public import proofs.«01_k».proof.Proof.Gen.Kernel28Ideal
public import proofs.«01_k».proof.Proof.Gen.Reference28Ideal
public import proofs.«01_k».proof.Proof.Adam.MixOut
public import proofs.«01_k».proof.Proof.Gen.Kernel29
public import proofs.«01_k».proof.Proof.Gen.Kernel29Ideal
public import proofs.«01_k».proof.Proof.Gen.Reference29Ideal
public import proofs.«01_k».proof.Proof.Adam.Qkv
public import proofs.«01_k».proof.Proof.Gen.Kernel30
public import proofs.«01_k».proof.Proof.Gen.Kernel30Ideal
public import proofs.«01_k».proof.Proof.Gen.Reference30Ideal
public import proofs.«01_k».proof.Proof.Adam.Down
public import proofs.«01_k».proof.Proof.Gen.Kernel31
public import proofs.«01_k».proof.Proof.Gen.Kernel31Ideal
public import proofs.«01_k».proof.Proof.Gen.Reference31Ideal
public import proofs.«01_k».proof.Proof.Adam.PleProj
public import proofs.«01_k».proof.Proof.Gen.Kernel32
public import proofs.«01_k».proof.Proof.Gen.Kernel32Ideal
public import proofs.«01_k».proof.Proof.Gen.Reference32Ideal
public import proofs.«01_k».proof.Proof.Adam.PleGate
public import Idealize.ShloMosaic.Lib.Quiescent
public import Idealize.ShloMosaic.Adequacy
public import Idealize.ShloMosaic.Init

@[expose] public section

noncomputable section

namespace Cert.Proof

open Idealize.ShloMosaic Idealize.SL.Sem

instance pre_facts : Cert.Pre_finite_scores.Facts where
  slices_S4096x3072_S4096x2048_0_0 := by decide
  bitsLt_bf16_f32 := by decide
  bcast_S_S4096x2048 := by decide
  bcast_S_S16x513 := by decide

instance rows_facts : Cert.Pre_finite_rows.Facts where
  slices_S4096x3072_S4096x2048_0_0 := by decide
  bitsLt_bf16_f32 := by decide
  bcast_S_S4096x2048 := by decide
  bcast_S_S16x513 := by decide

theorem frame_p : Cert.quiescent_Kernel := fun m ρ _ => Cert.Kernel.Attn.frame m ρ
theorem frame_pi : Cert.quiescent_KernelIdeal := fun m ρ _ => Cert.KernelIdeal.Attn.frame m ρ
theorem frame_ri : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run m ρ)
theorem frame_pi_pre : Cert.quiescent_KernelIdeal_pre_finite_scores := fun m ρ _ => frame_pi m ρ trivial
theorem frame_ri_pre : Cert.quiescent_ReferenceIdeal_pre_finite_scores := fun m ρ _ => frame_ri m ρ trivial

/-- The mask is named for minus infinity. -/
theorem preserves : Cert.preserves_Kernel_KernelIdeal :=
  IdealRules.named_const.statement Cert.KernelIdeal.κ "mask" .f32 0xF149F2CA#32 ⊥ rfl

theorem algebraic : Cert.algebraic_KernelIdeal_ReferenceIdeal_pre_finite_scores := by
  intro m ρ m' ρ' hpre hagree
  have hR : ∀ c h, (Cert.KernelIdeal.Attn.heads m c h).Real := fun c h =>
    Cert.KernelIdeal.Attn.pre_real _ _ _ (hpre c).1 (hpre c).2 h
  refine ⟨fun c => Cert.KernelIdeal.Attn.gradQ m c, fun c => Cert.KernelIdeal.Attn.gradK m c, fun c => Cert.KernelIdeal.Attn.gradV m c,
    Cert.KernelIdeal.Attn.run m ρ hR, ?_⟩
  have e : ∀ c h, Cert.ReferenceIdeal.Attn.heads m' c h = Cert.KernelIdeal.Attn.heads m c h := fun c h => by
    unfold Cert.ReferenceIdeal.Attn.heads Cert.KernelIdeal.Attn.heads
    rw [(hagree c).1, (hagree c).2.1, (hagree c).2.2]
  refine (θ_run Cert.ReferenceIdeal.defs _ _).mono (fun r h c => ?_) (Cert.ReferenceIdeal.Attn.run m' ρ' fun c h => (e c h).symm ▸ hR c h)
  refine ⟨(h c).1.trans (funext fun i => ?_), (h c).2.1.trans (funext fun i => ?_), (h c).2.2.1.trans (funext fun i => ?_), (h c).2.2.2⟩
  · exact congrArg (fun H : Cert.Attn.Head => H.dq (i 0).val ((i 1).val % 64)) (e c _)
  · exact congrArg (fun H : Cert.Attn.Head => H.dk (i 0).val ((i 1).val % 64)) (e c _)
  · exact congrArg (fun H : Cert.Attn.Head => H.dv (i 0).val ((i 1).val % 64)) (e c _)

/-! ## The attention's output -/

theorem frame_p24 : Cert.quiescent_Kernel24 := fun m ρ _ => Cert.Kernel24.Gen.frame m ρ
theorem frame_pi24 : Cert.quiescent_Kernel24Ideal := fun m ρ _ => Cert.Kernel24Ideal.Gen.frame m ρ
theorem frame_ri24 : Cert.quiescent_Reference24Ideal := fun m ρ _ =>
  (θ_run Cert.Reference24Ideal.defs _ _).mono
    (fun r h => ⟨fun c => (h c).2, Idealize.ShloMosaic.sem_eq_zero_of_no_sems (by decide) r.2⟩) (Cert.Reference24Ideal.Value.run m ρ)
theorem frame_pi24_pre : Cert.quiescent_Kernel24Ideal_pre_finite_rows := fun m ρ _ => frame_pi24 m ρ trivial
theorem frame_ri24_pre : Cert.quiescent_Reference24Ideal_pre_finite_rows := fun m ρ _ => frame_ri24 m ρ trivial

theorem preserves24 : Cert.preserves_Kernel24_Kernel24Ideal :=
  IdealRules.named_const.statement Cert.Kernel24Ideal.κ "mask" .f32 0xF149F2CA#32 ⊥ rfl

theorem algebraic24 : Cert.algebraic_Kernel24Ideal_Reference24Ideal_pre_finite_rows := by
  intro m ρ m' ρ' hpre hagree
  have hR : ∀ c h, (Cert.Kernel24Ideal.Attn.heads m c h).Real := fun c h =>
    Cert.Kernel24Ideal.Attn.pre_real _ _ _ (hpre c).1 (hpre c).2 h
  refine ⟨fun c => Cert.Kernel24Ideal.Attn.output m c, Cert.Kernel24Ideal.Attn.run m ρ hR, ?_⟩
  have e : ∀ c h, Cert.Reference24Ideal.Attn.heads m' c h = Cert.Kernel24Ideal.Attn.heads m c h := fun c h => by
    unfold Cert.Reference24Ideal.Attn.heads Cert.Kernel24Ideal.Attn.heads
    rw [(hagree c).1, (hagree c).2]
  refine (θ_run Cert.Reference24Ideal.defs _ _).mono (fun r h c => ?_) (Cert.Reference24Ideal.Attn.run m' ρ' fun c h => (e c h).symm ▸ hR c h)
  exact ⟨(h c).1.trans (funext fun i => congrArg (fun H : Cert.Attn.Head => H.out (i 0).val ((i 1).val % 64)) (e c _)), (h c).2⟩

/-! ## The products -/

theorem frame_p2 : Cert.quiescent_Kernel2 := fun m ρ _ => Cert.Kernel2.Gen.frame m ρ
theorem frame_pi2 : Cert.quiescent_Kernel2Ideal := fun m ρ _ => Cert.Kernel2Ideal.Gen.frame m ρ
theorem frame_ri2 : Cert.quiescent_Reference2Ideal := fun m ρ _ =>
  (θ_run Cert.Reference2Ideal.defs _ _).mono
    (fun r h => ⟨fun c => (h c).2, Idealize.ShloMosaic.sem_eq_zero_of_no_sems (by decide) r.2⟩) (Cert.Reference2Ideal.Value.run m ρ)
theorem preserves2 : Cert.preserves_Kernel2_Kernel2Ideal := trivial
theorem algebraic2 : Cert.algebraic_Kernel2Ideal_Reference2Ideal := by
  intro m ρ m' ρ' _ hagree
  refine ⟨fun c => Cert.Ffn.upDx (Cert.Kernel2Ideal.Ffn.arg0 m c) (Cert.Kernel2Ideal.Ffn.arg1 m c), Cert.Kernel2Ideal.Ffn.run m ρ, ?_⟩
  refine (θ_run Cert.Reference2Ideal.defs _ _).mono (fun r h c => ⟨(h c).1.trans ?_, (h c).2⟩) (Cert.Reference2Ideal.Ffn.run m' ρ')
  rw [(hagree c).1, (hagree c).2]

theorem frame_p3 : Cert.quiescent_Kernel3 := fun m ρ _ => Cert.Kernel3.Gen.frame m ρ
theorem frame_pi3 : Cert.quiescent_Kernel3Ideal := fun m ρ _ => Cert.Kernel3Ideal.Gen.frame m ρ
theorem frame_ri3 : Cert.quiescent_Reference3Ideal := fun m ρ _ =>
  (θ_run Cert.Reference3Ideal.defs _ _).mono
    (fun r h => ⟨fun c => (h c).2, Idealize.ShloMosaic.sem_eq_zero_of_no_sems (by decide) r.2⟩) (Cert.Reference3Ideal.Value.run m ρ)
theorem preserves3 : Cert.preserves_Kernel3_Kernel3Ideal := trivial
theorem algebraic3 : Cert.algebraic_Kernel3Ideal_Reference3Ideal := by
  intro m ρ m' ρ' _ hagree
  refine ⟨fun c => Cert.Ffn.upDw (Cert.Kernel3Ideal.Ffn.arg0 m c) (Cert.Kernel3Ideal.Ffn.arg1 m c), Cert.Kernel3Ideal.Ffn.run m ρ, ?_⟩
  refine (θ_run Cert.Reference3Ideal.defs _ _).mono (fun r h c => ⟨(h c).1.trans ?_, (h c).2⟩) (Cert.Reference3Ideal.Ffn.run m' ρ')
  rw [(hagree c).1, (hagree c).2]

theorem frame_p4 : Cert.quiescent_Kernel4 := fun m ρ _ => Cert.Kernel4.Gen.frame m ρ
theorem frame_pi4 : Cert.quiescent_Kernel4Ideal := fun m ρ _ => Cert.Kernel4Ideal.Gen.frame m ρ
theorem frame_ri4 : Cert.quiescent_Reference4Ideal := fun m ρ _ =>
  (θ_run Cert.Reference4Ideal.defs _ _).mono
    (fun r h => ⟨fun c => (h c).2, Idealize.ShloMosaic.sem_eq_zero_of_no_sems (by decide) r.2⟩) (Cert.Reference4Ideal.Value.run m ρ)
theorem preserves4 : Cert.preserves_Kernel4_Kernel4Ideal := trivial
theorem algebraic4 : Cert.algebraic_Kernel4Ideal_Reference4Ideal := by
  intro m ρ m' ρ' _ hagree
  refine ⟨fun c => Cert.Ffn.downDx (Cert.Kernel4Ideal.Ffn.arg0 m c) (Cert.Kernel4Ideal.Ffn.arg1 m c), Cert.Kernel4Ideal.Ffn.run m ρ, ?_⟩
  refine (θ_run Cert.Reference4Ideal.defs _ _).mono (fun r h c => ⟨(h c).1.trans ?_, (h c).2⟩) (Cert.Reference4Ideal.Ffn.run m' ρ')
  rw [(hagree c).1, (hagree c).2]

theorem frame_p5 : Cert.quiescent_Kernel5 := fun m ρ _ => Cert.Kernel5.Gen.frame m ρ
theorem frame_pi5 : Cert.quiescent_Kernel5Ideal := fun m ρ _ => Cert.Kernel5Ideal.Gen.frame m ρ
theorem frame_ri5 : Cert.quiescent_Reference5Ideal := fun m ρ _ =>
  (θ_run Cert.Reference5Ideal.defs _ _).mono
    (fun r h => ⟨fun c => (h c).2, Idealize.ShloMosaic.sem_eq_zero_of_no_sems (by decide) r.2⟩) (Cert.Reference5Ideal.Value.run m ρ)
theorem preserves5 : Cert.preserves_Kernel5_Kernel5Ideal := trivial
theorem algebraic5 : Cert.algebraic_Kernel5Ideal_Reference5Ideal := by
  intro m ρ m' ρ' _ hagree
  refine ⟨fun c => Cert.Ffn.downDw (Cert.Kernel5Ideal.Ffn.arg0 m c) (Cert.Kernel5Ideal.Ffn.arg1 m c), Cert.Kernel5Ideal.Ffn.run m ρ, ?_⟩
  refine (θ_run Cert.Reference5Ideal.defs _ _).mono (fun r h c => ⟨(h c).1.trans ?_, (h c).2⟩) (Cert.Reference5Ideal.Ffn.run m' ρ')
  rw [(hagree c).1, (hagree c).2]

theorem frame_p6 : Cert.quiescent_Kernel6 := fun m ρ _ => Cert.Kernel6.Gen.frame m ρ
theorem frame_pi6 : Cert.quiescent_Kernel6Ideal := fun m ρ _ => Cert.Kernel6Ideal.Gen.frame m ρ
theorem frame_ri6 : Cert.quiescent_Reference6Ideal := fun m ρ _ =>
  (θ_run Cert.Reference6Ideal.defs _ _).mono
    (fun r h => ⟨fun c => (h c).2, Idealize.ShloMosaic.sem_eq_zero_of_no_sems (by decide) r.2⟩) (Cert.Reference6Ideal.Value.run m ρ)
theorem preserves6 : Cert.preserves_Kernel6_Kernel6Ideal := trivial
theorem algebraic6 : Cert.algebraic_Kernel6Ideal_Reference6Ideal := by
  intro m ρ m' ρ' _ hagree
  refine ⟨fun c => Cert.Proj.mixOutDx (Cert.Kernel6Ideal.Proj.arg0 m c) (Cert.Kernel6Ideal.Proj.arg1 m c), Cert.Kernel6Ideal.Proj.run m ρ, ?_⟩
  refine (θ_run Cert.Reference6Ideal.defs _ _).mono (fun r h c => ⟨(h c).1.trans ?_, (h c).2⟩) (Cert.Reference6Ideal.Proj.run m' ρ')
  rw [(hagree c).1, (hagree c).2]

theorem frame_p7 : Cert.quiescent_Kernel7 := fun m ρ _ => Cert.Kernel7.Gen.frame m ρ
theorem frame_pi7 : Cert.quiescent_Kernel7Ideal := fun m ρ _ => Cert.Kernel7Ideal.Gen.frame m ρ
theorem frame_ri7 : Cert.quiescent_Reference7Ideal := fun m ρ _ =>
  (θ_run Cert.Reference7Ideal.defs _ _).mono
    (fun r h => ⟨fun c => (h c).2, Idealize.ShloMosaic.sem_eq_zero_of_no_sems (by decide) r.2⟩) (Cert.Reference7Ideal.Value.run m ρ)
theorem preserves7 : Cert.preserves_Kernel7_Kernel7Ideal := trivial
theorem algebraic7 : Cert.algebraic_Kernel7Ideal_Reference7Ideal := by
  intro m ρ m' ρ' _ hagree
  refine ⟨fun c => Cert.Proj.gateDx (Cert.Kernel7Ideal.Proj.arg0 m c) (Cert.Kernel7Ideal.Proj.arg1 m c), Cert.Kernel7Ideal.Proj.run m ρ, ?_⟩
  refine (θ_run Cert.Reference7Ideal.defs _ _).mono (fun r h c => ⟨(h c).1.trans ?_, (h c).2⟩) (Cert.Reference7Ideal.Proj.run m' ρ')
  rw [(hagree c).1, (hagree c).2]

theorem frame_p8 : Cert.quiescent_Kernel8 := fun m ρ _ => Cert.Kernel8.Gen.frame m ρ
theorem frame_pi8 : Cert.quiescent_Kernel8Ideal := fun m ρ _ => Cert.Kernel8Ideal.Gen.frame m ρ
theorem frame_ri8 : Cert.quiescent_Reference8Ideal := fun m ρ _ =>
  (θ_run Cert.Reference8Ideal.defs _ _).mono
    (fun r h => ⟨fun c => (h c).2, Idealize.ShloMosaic.sem_eq_zero_of_no_sems (by decide) r.2⟩) (Cert.Reference8Ideal.Value.run m ρ)
theorem preserves8 : Cert.preserves_Kernel8_Kernel8Ideal := trivial
theorem algebraic8 : Cert.algebraic_Kernel8Ideal_Reference8Ideal := by
  intro m ρ m' ρ' _ hagree
  refine ⟨fun c => Cert.Proj.attnOutDx (Cert.Kernel8Ideal.Proj.arg0 m c) (Cert.Kernel8Ideal.Proj.arg1 m c), Cert.Kernel8Ideal.Proj.run m ρ, ?_⟩
  refine (θ_run Cert.Reference8Ideal.defs _ _).mono (fun r h c => ⟨(h c).1.trans ?_, (h c).2⟩) (Cert.Reference8Ideal.Proj.run m' ρ')
  rw [(hagree c).1, (hagree c).2]

theorem frame_p9 : Cert.quiescent_Kernel9 := fun m ρ _ => Cert.Kernel9.Gen.frame m ρ
theorem frame_pi9 : Cert.quiescent_Kernel9Ideal := fun m ρ _ => Cert.Kernel9Ideal.Gen.frame m ρ
theorem frame_ri9 : Cert.quiescent_Reference9Ideal := fun m ρ _ =>
  (θ_run Cert.Reference9Ideal.defs _ _).mono
    (fun r h => ⟨fun c => (h c).2, Idealize.ShloMosaic.sem_eq_zero_of_no_sems (by decide) r.2⟩) (Cert.Reference9Ideal.Value.run m ρ)
theorem preserves9 : Cert.preserves_Kernel9_Kernel9Ideal := trivial
theorem algebraic9 : Cert.algebraic_Kernel9Ideal_Reference9Ideal := by
  intro m ρ m' ρ' _ hagree
  refine ⟨fun c => Cert.Proj.outDw (Cert.Kernel9Ideal.Proj.arg0 m c) (Cert.Kernel9Ideal.Proj.arg1 m c), Cert.Kernel9Ideal.Proj.run m ρ, ?_⟩
  refine (θ_run Cert.Reference9Ideal.defs _ _).mono (fun r h c => ⟨(h c).1.trans ?_, (h c).2⟩) (Cert.Reference9Ideal.Proj.run m' ρ')
  rw [(hagree c).1, (hagree c).2]

theorem frame_p10 : Cert.quiescent_Kernel10 := fun m ρ _ => Cert.Kernel10.Gen.frame m ρ
theorem frame_pi10 : Cert.quiescent_Kernel10Ideal := fun m ρ _ => Cert.Kernel10Ideal.Gen.frame m ρ
theorem frame_ri10 : Cert.quiescent_Reference10Ideal := fun m ρ _ =>
  (θ_run Cert.Reference10Ideal.defs _ _).mono
    (fun r h => ⟨fun c => (h c).2, Idealize.ShloMosaic.sem_eq_zero_of_no_sems (by decide) r.2⟩) (Cert.Reference10Ideal.Value.run m ρ)
theorem preserves10 : Cert.preserves_Kernel10_Kernel10Ideal := trivial
theorem algebraic10 : Cert.algebraic_Kernel10Ideal_Reference10Ideal := by
  intro m ρ m' ρ' _ hagree
  refine ⟨fun c => Cert.Proj.gateDw (Cert.Kernel10Ideal.Proj.arg0 m c) (Cert.Kernel10Ideal.Proj.arg1 m c), Cert.Kernel10Ideal.Proj.run m ρ, ?_⟩
  refine (θ_run Cert.Reference10Ideal.defs _ _).mono (fun r h c => ⟨(h c).1.trans ?_, (h c).2⟩) (Cert.Reference10Ideal.Proj.run m' ρ')
  rw [(hagree c).1, (hagree c).2]

theorem frame_p11 : Cert.quiescent_Kernel11 := fun m ρ _ => Cert.Kernel11.Gen.frame m ρ
theorem frame_pi11 : Cert.quiescent_Kernel11Ideal := fun m ρ _ => Cert.Kernel11Ideal.Gen.frame m ρ
theorem frame_ri11 : Cert.quiescent_Reference11Ideal := fun m ρ _ =>
  (θ_run Cert.Reference11Ideal.defs _ _).mono
    (fun r h => ⟨fun c => (h c).2, Idealize.ShloMosaic.sem_eq_zero_of_no_sems (by decide) r.2⟩) (Cert.Reference11Ideal.Value.run m ρ)
theorem preserves11 : Cert.preserves_Kernel11_Kernel11Ideal := trivial
theorem algebraic11 : Cert.algebraic_Kernel11Ideal_Reference11Ideal := by
  intro m ρ m' ρ' _ hagree
  refine ⟨fun c => Cert.Proj.qkvDw (Cert.Kernel11Ideal.Proj.arg0 m c) (Cert.Kernel11Ideal.Proj.arg1 m c), Cert.Kernel11Ideal.Proj.run m ρ, ?_⟩
  refine (θ_run Cert.Reference11Ideal.defs _ _).mono (fun r h c => ⟨(h c).1.trans ?_, (h c).2⟩) (Cert.Reference11Ideal.Proj.run m' ρ')
  rw [(hagree c).1, (hagree c).2]

theorem frame_p12 : Cert.quiescent_Kernel12 := fun m ρ _ => Cert.Kernel12.Gen.frame m ρ
theorem frame_pi12 : Cert.quiescent_Kernel12Ideal := fun m ρ _ => Cert.Kernel12Ideal.Gen.frame m ρ
theorem frame_ri12 : Cert.quiescent_Reference12Ideal := fun m ρ _ =>
  (θ_run Cert.Reference12Ideal.defs _ _).mono
    (fun r h => ⟨fun c => (h c).2, Idealize.ShloMosaic.sem_eq_zero_of_no_sems (by decide) r.2⟩) (Cert.Reference12Ideal.Value.run m ρ)
theorem preserves12 : Cert.preserves_Kernel12_Kernel12Ideal := trivial
theorem algebraic12 : Cert.algebraic_Kernel12Ideal_Reference12Ideal := by
  intro m ρ m' ρ' _ hagree
  refine ⟨fun c => Cert.Proj.qkvDx (Cert.Kernel12Ideal.Proj.arg0 m c) (Cert.Kernel12Ideal.Proj.arg1 m c) (Cert.Kernel12Ideal.Proj.arg2 m c), Cert.Kernel12Ideal.Proj.run m ρ, ?_⟩
  refine (θ_run Cert.Reference12Ideal.defs _ _).mono (fun r h c => ⟨(h c).1.trans ?_, (h c).2⟩) (Cert.Reference12Ideal.Proj.run m' ρ')
  rw [(hagree c).1, (hagree c).2.1, (hagree c).2.2]

theorem frame_p13 : Cert.quiescent_Kernel13 := fun m ρ _ => Cert.Kernel13.Gen.frame m ρ
theorem frame_pi13 : Cert.quiescent_Kernel13Ideal := fun m ρ _ => Cert.Kernel13Ideal.Gen.frame m ρ
theorem frame_ri13 : Cert.quiescent_Reference13Ideal := fun m ρ _ =>
  (θ_run Cert.Reference13Ideal.defs _ _).mono
    (fun r h => ⟨fun c => (h c).2, Idealize.ShloMosaic.sem_eq_zero_of_no_sems (by decide) r.2⟩) (Cert.Reference13Ideal.Value.run m ρ)
theorem preserves13 : Cert.preserves_Kernel13_Kernel13Ideal := trivial
theorem algebraic13 : Cert.algebraic_Kernel13Ideal_Reference13Ideal := by
  intro m ρ m' ρ' _ hagree
  refine ⟨fun c => Cert.Proj.upFwd (Cert.Kernel13Ideal.Proj.arg0 m c) (Cert.Kernel13Ideal.Proj.arg1 m c), Cert.Kernel13Ideal.Proj.run m ρ, ?_⟩
  refine (θ_run Cert.Reference13Ideal.defs _ _).mono (fun r h c => ⟨(h c).1.trans ?_, (h c).2⟩) (Cert.Reference13Ideal.Proj.run m' ρ')
  rw [(hagree c).1, (hagree c).2]

theorem frame_p14 : Cert.quiescent_Kernel14 := fun m ρ _ => Cert.Kernel14.Gen.frame m ρ
theorem frame_pi14 : Cert.quiescent_Kernel14Ideal := fun m ρ _ => Cert.Kernel14Ideal.Gen.frame m ρ
theorem frame_ri14 : Cert.quiescent_Reference14Ideal := fun m ρ _ =>
  (θ_run Cert.Reference14Ideal.defs _ _).mono
    (fun r h => ⟨fun c => (h c).2, Idealize.ShloMosaic.sem_eq_zero_of_no_sems (by decide) r.2⟩) (Cert.Reference14Ideal.Value.run m ρ)
theorem preserves14 : Cert.preserves_Kernel14_Kernel14Ideal := trivial
theorem algebraic14 : Cert.algebraic_Kernel14Ideal_Reference14Ideal := by
  intro m ρ m' ρ' _ hagree
  refine ⟨fun c => Cert.Proj.downFwd (Cert.Kernel14Ideal.Proj.arg0 m c) (Cert.Kernel14Ideal.Proj.arg1 m c), Cert.Kernel14Ideal.Proj.run m ρ, ?_⟩
  refine (θ_run Cert.Reference14Ideal.defs _ _).mono (fun r h c => ⟨(h c).1.trans ?_, (h c).2⟩) (Cert.Reference14Ideal.Proj.run m' ρ')
  rw [(hagree c).1, (hagree c).2]

theorem frame_p15 : Cert.quiescent_Kernel15 := fun m ρ _ => Cert.Kernel15.Gen.frame m ρ
theorem frame_pi15 : Cert.quiescent_Kernel15Ideal := fun m ρ _ => Cert.Kernel15Ideal.Gen.frame m ρ
theorem frame_ri15 : Cert.quiescent_Reference15Ideal := fun m ρ _ =>
  (θ_run Cert.Reference15Ideal.defs _ _).mono
    (fun r h => ⟨fun c => (h c).2, Idealize.ShloMosaic.sem_eq_zero_of_no_sems (by decide) r.2⟩) (Cert.Reference15Ideal.Value.run m ρ)
theorem preserves15 : Cert.preserves_Kernel15_Kernel15Ideal := trivial
theorem algebraic15 : Cert.algebraic_Kernel15Ideal_Reference15Ideal := by
  intro m ρ m' ρ' _ hagree
  refine ⟨fun c => Cert.Proj.outFwd (Cert.Kernel15Ideal.Proj.arg0 m c) (Cert.Kernel15Ideal.Proj.arg1 m c), Cert.Kernel15Ideal.Proj.run m ρ, ?_⟩
  refine (θ_run Cert.Reference15Ideal.defs _ _).mono (fun r h c => ⟨(h c).1.trans ?_, (h c).2⟩) (Cert.Reference15Ideal.Proj.run m' ρ')
  rw [(hagree c).1, (hagree c).2]

theorem frame_p16 : Cert.quiescent_Kernel16 := fun m ρ _ => Cert.Kernel16.Gen.frame m ρ
theorem frame_pi16 : Cert.quiescent_Kernel16Ideal := fun m ρ _ => Cert.Kernel16Ideal.Gen.frame m ρ
theorem frame_ri16 : Cert.quiescent_Reference16Ideal := fun m ρ _ =>
  (θ_run Cert.Reference16Ideal.defs _ _).mono
    (fun r h => ⟨fun c => (h c).2, Idealize.ShloMosaic.sem_eq_zero_of_no_sems (by decide) r.2⟩) (Cert.Reference16Ideal.Value.run m ρ)
theorem preserves16 : Cert.preserves_Kernel16_Kernel16Ideal := trivial
theorem algebraic16 : Cert.algebraic_Kernel16Ideal_Reference16Ideal := by
  intro m ρ m' ρ' _ hagree
  refine ⟨fun c => Cert.Proj.qkvFwd (Cert.Kernel16Ideal.Proj.arg0 m c) (Cert.Kernel16Ideal.Proj.arg1 m c), Cert.Kernel16Ideal.Proj.run m ρ, ?_⟩
  refine (θ_run Cert.Reference16Ideal.defs _ _).mono (fun r h c => ⟨(h c).1.trans ?_, (h c).2⟩) (Cert.Reference16Ideal.Proj.run m' ρ')
  rw [(hagree c).1, (hagree c).2]

theorem frame_p17 : Cert.quiescent_Kernel17 := fun m ρ _ => Cert.Kernel17.Gen.frame m ρ
theorem frame_pi17 : Cert.quiescent_Kernel17Ideal := fun m ρ _ => Cert.Kernel17Ideal.Gen.frame m ρ
theorem frame_ri17 : Cert.quiescent_Reference17Ideal := fun m ρ _ =>
  (θ_run Cert.Reference17Ideal.defs _ _).mono
    (fun r h => ⟨fun c => (h c).2, Idealize.ShloMosaic.sem_eq_zero_of_no_sems (by decide) r.2⟩) (Cert.Reference17Ideal.Value.run m ρ)
theorem preserves17 : Cert.preserves_Kernel17_Kernel17Ideal := trivial
theorem algebraic17 : Cert.algebraic_Kernel17Ideal_Reference17Ideal := by
  intro m ρ m' ρ' _ hagree
  refine ⟨fun c => Cert.Proj.mixInFwd (Cert.Kernel17Ideal.Proj.arg0 m c) (Cert.Kernel17Ideal.Proj.arg1 m c), Cert.Kernel17Ideal.Proj.run m ρ, ?_⟩
  refine (θ_run Cert.Reference17Ideal.defs _ _).mono (fun r h c => ⟨(h c).1.trans ?_, (h c).2⟩) (Cert.Reference17Ideal.Proj.run m' ρ')
  rw [(hagree c).1, (hagree c).2]

theorem frame_p18 : Cert.quiescent_Kernel18 := fun m ρ _ => Cert.Kernel18.Gen.frame m ρ
theorem frame_pi18 : Cert.quiescent_Kernel18Ideal := fun m ρ _ => Cert.Kernel18Ideal.Gen.frame m ρ
theorem frame_ri18 : Cert.quiescent_Reference18Ideal := fun m ρ _ =>
  (θ_run Cert.Reference18Ideal.defs _ _).mono
    (fun r h => ⟨fun c => (h c).2, Idealize.ShloMosaic.sem_eq_zero_of_no_sems (by decide) r.2⟩) (Cert.Reference18Ideal.Value.run m ρ)
theorem preserves18 : Cert.preserves_Kernel18_Kernel18Ideal := trivial
theorem algebraic18 : Cert.algebraic_Kernel18Ideal_Reference18Ideal := by
  intro m ρ m' ρ' _ hagree
  refine ⟨fun c => Cert.Proj.mixInDw (Cert.Kernel18Ideal.Proj.arg0 m c) (Cert.Kernel18Ideal.Proj.arg1 m c), Cert.Kernel18Ideal.Proj.run m ρ, ?_⟩
  refine (θ_run Cert.Reference18Ideal.defs _ _).mono (fun r h c => ⟨(h c).1.trans ?_, (h c).2⟩) (Cert.Reference18Ideal.Proj.run m' ρ')
  rw [(hagree c).1, (hagree c).2]

theorem frame_p19 : Cert.quiescent_Kernel19 := fun m ρ _ => Cert.Kernel19.Gen.frame m ρ
theorem frame_pi19 : Cert.quiescent_Kernel19Ideal := fun m ρ _ => Cert.Kernel19Ideal.Gen.frame m ρ
theorem frame_ri19 : Cert.quiescent_Reference19Ideal := fun m ρ _ =>
  (θ_run Cert.Reference19Ideal.defs _ _).mono
    (fun r h => ⟨fun c => (h c).2, Idealize.ShloMosaic.sem_eq_zero_of_no_sems (by decide) r.2⟩) (Cert.Reference19Ideal.Value.run m ρ)
theorem preserves19 : Cert.preserves_Kernel19_Kernel19Ideal := trivial
theorem algebraic19 : Cert.algebraic_Kernel19Ideal_Reference19Ideal := by
  intro m ρ m' ρ' _ hagree
  refine ⟨fun c => Cert.Proj.mixInDx (Cert.Kernel19Ideal.Proj.arg0 m c) (Cert.Kernel19Ideal.Proj.arg1 m c) (Cert.Kernel19Ideal.Proj.arg2 m c), Cert.Kernel19Ideal.Proj.run m ρ, ?_⟩
  refine (θ_run Cert.Reference19Ideal.defs _ _).mono (fun r h c => ⟨(h c).1.trans ?_, (h c).2⟩) (Cert.Reference19Ideal.Proj.run m' ρ')
  rw [(hagree c).1, (hagree c).2.1, (hagree c).2.2]

theorem frame_p20 : Cert.quiescent_Kernel20 := fun m ρ _ => Cert.Kernel20.Gen.frame m ρ
theorem frame_pi20 : Cert.quiescent_Kernel20Ideal := fun m ρ _ => Cert.Kernel20Ideal.Gen.frame m ρ
theorem frame_ri20 : Cert.quiescent_Reference20Ideal := fun m ρ _ =>
  (θ_run Cert.Reference20Ideal.defs _ _).mono
    (fun r h => ⟨fun c => (h c).2, Idealize.ShloMosaic.sem_eq_zero_of_no_sems (by decide) r.2⟩) (Cert.Reference20Ideal.Value.run m ρ)
theorem preserves20 : Cert.preserves_Kernel20_Kernel20Ideal := trivial
theorem algebraic20 : Cert.algebraic_Kernel20Ideal_Reference20Ideal := by
  intro m ρ m' ρ' _ hagree
  refine ⟨fun c => Cert.Proj.pleProjFwd0 (Cert.Kernel20Ideal.Proj.arg0 m c) (Cert.Kernel20Ideal.Proj.arg1 m c), Cert.Kernel20Ideal.Proj.run m ρ, ?_⟩
  refine (θ_run Cert.Reference20Ideal.defs _ _).mono (fun r h c => ⟨(h c).1.trans ?_, (h c).2⟩) (Cert.Reference20Ideal.Proj.run m' ρ')
  rw [(hagree c).1, (hagree c).2]

theorem frame_p21 : Cert.quiescent_Kernel21 := fun m ρ _ => Cert.Kernel21.Gen.frame m ρ
theorem frame_pi21 : Cert.quiescent_Kernel21Ideal := fun m ρ _ => Cert.Kernel21Ideal.Gen.frame m ρ
theorem frame_ri21 : Cert.quiescent_Reference21Ideal := fun m ρ _ =>
  (θ_run Cert.Reference21Ideal.defs _ _).mono
    (fun r h => ⟨fun c => (h c).2, Idealize.ShloMosaic.sem_eq_zero_of_no_sems (by decide) r.2⟩) (Cert.Reference21Ideal.Value.run m ρ)
theorem preserves21 : Cert.preserves_Kernel21_Kernel21Ideal := trivial
theorem algebraic21 : Cert.algebraic_Kernel21Ideal_Reference21Ideal := by
  intro m ρ m' ρ' _ hagree
  refine ⟨fun c => Cert.Proj.pleProjFwd1 (Cert.Kernel21Ideal.Proj.arg0 m c) (Cert.Kernel21Ideal.Proj.arg1 m c), Cert.Kernel21Ideal.Proj.run m ρ, ?_⟩
  refine (θ_run Cert.Reference21Ideal.defs _ _).mono (fun r h c => ⟨(h c).1.trans ?_, (h c).2⟩) (Cert.Reference21Ideal.Proj.run m' ρ')
  rw [(hagree c).1, (hagree c).2]

theorem frame_p22 : Cert.quiescent_Kernel22 := fun m ρ _ => Cert.Kernel22.Gen.frame m ρ
theorem frame_pi22 : Cert.quiescent_Kernel22Ideal := fun m ρ _ => Cert.Kernel22Ideal.Gen.frame m ρ
theorem frame_ri22 : Cert.quiescent_Reference22Ideal := fun m ρ _ =>
  (θ_run Cert.Reference22Ideal.defs _ _).mono
    (fun r h => ⟨fun c => (h c).2, Idealize.ShloMosaic.sem_eq_zero_of_no_sems (by decide) r.2⟩) (Cert.Reference22Ideal.Value.run m ρ)
theorem preserves22 : Cert.preserves_Kernel22_Kernel22Ideal := trivial
theorem algebraic22 : Cert.algebraic_Kernel22Ideal_Reference22Ideal := by
  intro m ρ m' ρ' _ hagree
  refine ⟨fun c => Cert.Proj.pleProjDw0 (Cert.Kernel22Ideal.Proj.arg0 m c) (Cert.Kernel22Ideal.Proj.arg1 m c), Cert.Kernel22Ideal.Proj.run m ρ, ?_⟩
  refine (θ_run Cert.Reference22Ideal.defs _ _).mono (fun r h c => ⟨(h c).1.trans ?_, (h c).2⟩) (Cert.Reference22Ideal.Proj.run m' ρ')
  rw [(hagree c).1, (hagree c).2]

theorem frame_p23 : Cert.quiescent_Kernel23 := fun m ρ _ => Cert.Kernel23.Gen.frame m ρ
theorem frame_pi23 : Cert.quiescent_Kernel23Ideal := fun m ρ _ => Cert.Kernel23Ideal.Gen.frame m ρ
theorem frame_ri23 : Cert.quiescent_Reference23Ideal := fun m ρ _ =>
  (θ_run Cert.Reference23Ideal.defs _ _).mono
    (fun r h => ⟨fun c => (h c).2, Idealize.ShloMosaic.sem_eq_zero_of_no_sems (by decide) r.2⟩) (Cert.Reference23Ideal.Value.run m ρ)
theorem preserves23 : Cert.preserves_Kernel23_Kernel23Ideal := trivial
theorem algebraic23 : Cert.algebraic_Kernel23Ideal_Reference23Ideal := by
  intro m ρ m' ρ' _ hagree
  refine ⟨fun c => Cert.Proj.pleProjDw1 (Cert.Kernel23Ideal.Proj.arg0 m c) (Cert.Kernel23Ideal.Proj.arg1 m c), Cert.Kernel23Ideal.Proj.run m ρ, ?_⟩
  refine (θ_run Cert.Reference23Ideal.defs _ _).mono (fun r h c => ⟨(h c).1.trans ?_, (h c).2⟩) (Cert.Reference23Ideal.Proj.run m' ρ')
  rw [(hagree c).1, (hagree c).2]

theorem frame_p25 : Cert.quiescent_Kernel25 := fun m ρ _ => Cert.Kernel25.Gen.frame m ρ
theorem frame_pi25 : Cert.quiescent_Kernel25Ideal := fun m ρ _ => Cert.Kernel25Ideal.Gen.frame m ρ
theorem frame_ri25 : Cert.quiescent_Reference25Ideal := fun m ρ _ =>
  (θ_run Cert.Reference25Ideal.defs _ _).mono
    (fun r h => ⟨fun c => (h c).2.2, Idealize.ShloMosaic.sem_eq_zero_of_no_sems (by decide) r.2⟩) (Cert.Reference25Ideal.Value.run m ρ)
theorem preserves25 : Cert.preserves_Kernel25_Kernel25Ideal := trivial
theorem algebraic25 : Cert.algebraic_Kernel25Ideal_Reference25Ideal := by
  intro m ρ m' ρ' _ hagree
  refine ⟨fun c => Cert.Norm.mixGain (Cert.Kernel25Ideal.Norm.arg0 m c) (Cert.Kernel25Ideal.Norm.arg1 m c) (Cert.Kernel25Ideal.Norm.arg2 m c) (Cert.Kernel25Ideal.Norm.arg3 m c),
    fun c => Cert.Norm.mixBias (Cert.Kernel25Ideal.Norm.arg1 m c) (Cert.Kernel25Ideal.Norm.arg2 m c) (Cert.Kernel25Ideal.Norm.arg3 m c), Cert.Kernel25Ideal.Norm.run m ρ, ?_⟩
  refine (θ_run Cert.Reference25Ideal.defs _ _).mono (fun r h c => ⟨(h c).1.trans ?_, (h c).2.1.trans ?_, (h c).2.2⟩) (Cert.Reference25Ideal.Norm.run m' ρ')
  · rw [(hagree c).1, (hagree c).2.1, (hagree c).2.2.1, (hagree c).2.2.2.1]
  · rw [(hagree c).2.1, (hagree c).2.2.1, (hagree c).2.2.2.1]

theorem frame_p26 : Cert.quiescent_Kernel26 := fun m ρ _ => Cert.Kernel26.Gen.frame m ρ
theorem frame_pi26 : Cert.quiescent_Kernel26Ideal := fun m ρ _ => Cert.Kernel26Ideal.Gen.frame m ρ
theorem frame_ri26 : Cert.quiescent_Reference26Ideal := fun m ρ _ =>
  (θ_run Cert.Reference26Ideal.defs _ _).mono
    (fun r h => ⟨fun c => (h c).2.2.2, Idealize.ShloMosaic.sem_eq_zero_of_no_sems (by decide) r.2⟩) (Cert.Reference26Ideal.Value.run m ρ)
theorem preserves26 : Cert.preserves_Kernel26_Kernel26Ideal := trivial
theorem algebraic26 : Cert.algebraic_Kernel26Ideal_Reference26Ideal := by
  intro m ρ m' ρ' _ hagree
  refine ⟨fun c => Cert.Adam.changes (Cert.Kernel26Ideal.Adam.arg0 m c) (Cert.Kernel26Ideal.Adam.grad m c) (Cert.Kernel26Ideal.Adam.arg2 m c) (Cert.Kernel26Ideal.Adam.arg3 m c),
    fun c => Cert.Adam.means (Cert.Kernel26Ideal.Adam.grad m c) (Cert.Kernel26Ideal.Adam.arg2 m c), fun c => Cert.Adam.squares (Cert.Kernel26Ideal.Adam.grad m c) (Cert.Kernel26Ideal.Adam.arg3 m c), Cert.Kernel26Ideal.Adam.run m ρ, ?_⟩
  refine (θ_run Cert.Reference26Ideal.defs _ _).mono (fun r h c => ⟨(h c).1.trans ?_, (h c).2.1.trans ?_, (h c).2.2.1.trans ?_, (h c).2.2.2⟩)
    (Cert.Reference26Ideal.Adam.run m' ρ')
  · rw [(hagree c).1, (hagree c).2.1, (hagree c).2.2.1, (hagree c).2.2.2]
  · rw [(hagree c).2.1, (hagree c).2.2.1]
  · rw [(hagree c).2.1, (hagree c).2.2.2]

theorem frame_p27 : Cert.quiescent_Kernel27 := fun m ρ _ => Cert.Kernel27.Gen.frame m ρ
theorem frame_pi27 : Cert.quiescent_Kernel27Ideal := fun m ρ _ => Cert.Kernel27Ideal.Gen.frame m ρ
theorem frame_ri27 : Cert.quiescent_Reference27Ideal := fun m ρ _ =>
  (θ_run Cert.Reference27Ideal.defs _ _).mono
    (fun r h => ⟨fun c => (h c).2.2.2, Idealize.ShloMosaic.sem_eq_zero_of_no_sems (by decide) r.2⟩) (Cert.Reference27Ideal.Value.run m ρ)
theorem preserves27 : Cert.preserves_Kernel27_Kernel27Ideal := trivial
theorem algebraic27 : Cert.algebraic_Kernel27Ideal_Reference27Ideal := by
  intro m ρ m' ρ' _ hagree
  refine ⟨fun c => Cert.Adam.changes (Cert.Kernel27Ideal.Adam.arg0 m c) (Cert.Kernel27Ideal.Adam.grad m c) (Cert.Kernel27Ideal.Adam.arg3 m c) (Cert.Kernel27Ideal.Adam.arg4 m c),
    fun c => Cert.Adam.means (Cert.Kernel27Ideal.Adam.grad m c) (Cert.Kernel27Ideal.Adam.arg3 m c), fun c => Cert.Adam.squares (Cert.Kernel27Ideal.Adam.grad m c) (Cert.Kernel27Ideal.Adam.arg4 m c), Cert.Kernel27Ideal.Adam.run m ρ, ?_⟩
  refine (θ_run Cert.Reference27Ideal.defs _ _).mono (fun r h c => ⟨(h c).1.trans ?_, (h c).2.1.trans ?_, (h c).2.2.1.trans ?_, (h c).2.2.2⟩)
    (Cert.Reference27Ideal.Adam.run m' ρ')
  · rw [(hagree c).1, (hagree c).2.1, (hagree c).2.2.1, (hagree c).2.2.2.1, (hagree c).2.2.2.2]
  · rw [(hagree c).2.1, (hagree c).2.2.1, (hagree c).2.2.2.1]
  · rw [(hagree c).2.1, (hagree c).2.2.1, (hagree c).2.2.2.2]

theorem frame_p28 : Cert.quiescent_Kernel28 := fun m ρ _ => Cert.Kernel28.Gen.frame m ρ
theorem frame_pi28 : Cert.quiescent_Kernel28Ideal := fun m ρ _ => Cert.Kernel28Ideal.Gen.frame m ρ
theorem frame_ri28 : Cert.quiescent_Reference28Ideal := fun m ρ _ =>
  (θ_run Cert.Reference28Ideal.defs _ _).mono
    (fun r h => ⟨fun c => (h c).2.2.2, Idealize.ShloMosaic.sem_eq_zero_of_no_sems (by decide) r.2⟩) (Cert.Reference28Ideal.Value.run m ρ)
theorem preserves28 : Cert.preserves_Kernel28_Kernel28Ideal := trivial
theorem algebraic28 : Cert.algebraic_Kernel28Ideal_Reference28Ideal := by
  intro m ρ m' ρ' _ hagree
  refine ⟨fun c => Cert.Adam.changes (Cert.Kernel28Ideal.Adam.arg0 m c) (Cert.Kernel28Ideal.Adam.grad m c) (Cert.Kernel28Ideal.Adam.arg2 m c) (Cert.Kernel28Ideal.Adam.arg3 m c),
    fun c => Cert.Adam.means (Cert.Kernel28Ideal.Adam.grad m c) (Cert.Kernel28Ideal.Adam.arg2 m c), fun c => Cert.Adam.squares (Cert.Kernel28Ideal.Adam.grad m c) (Cert.Kernel28Ideal.Adam.arg3 m c), Cert.Kernel28Ideal.Adam.run m ρ, ?_⟩
  refine (θ_run Cert.Reference28Ideal.defs _ _).mono (fun r h c => ⟨(h c).1.trans ?_, (h c).2.1.trans ?_, (h c).2.2.1.trans ?_, (h c).2.2.2⟩)
    (Cert.Reference28Ideal.Adam.run m' ρ')
  · rw [(hagree c).1, (hagree c).2.1, (hagree c).2.2.1, (hagree c).2.2.2]
  · rw [(hagree c).2.1, (hagree c).2.2.1]
  · rw [(hagree c).2.1, (hagree c).2.2.2]

theorem frame_p29 : Cert.quiescent_Kernel29 := fun m ρ _ => Cert.Kernel29.Gen.frame m ρ
theorem frame_pi29 : Cert.quiescent_Kernel29Ideal := fun m ρ _ => Cert.Kernel29Ideal.Gen.frame m ρ
theorem frame_ri29 : Cert.quiescent_Reference29Ideal := fun m ρ _ =>
  (θ_run Cert.Reference29Ideal.defs _ _).mono
    (fun r h => ⟨fun c => (h c).2.2.2, Idealize.ShloMosaic.sem_eq_zero_of_no_sems (by decide) r.2⟩) (Cert.Reference29Ideal.Value.run m ρ)
theorem preserves29 : Cert.preserves_Kernel29_Kernel29Ideal := trivial
theorem algebraic29 : Cert.algebraic_Kernel29Ideal_Reference29Ideal := by
  intro m ρ m' ρ' _ hagree
  refine ⟨fun c => Cert.Adam.changes (Cert.Kernel29Ideal.Adam.arg0 m c) (Cert.Kernel29Ideal.Adam.grad m c) (Cert.Kernel29Ideal.Adam.arg2 m c) (Cert.Kernel29Ideal.Adam.arg3 m c),
    fun c => Cert.Adam.means (Cert.Kernel29Ideal.Adam.grad m c) (Cert.Kernel29Ideal.Adam.arg2 m c), fun c => Cert.Adam.squares (Cert.Kernel29Ideal.Adam.grad m c) (Cert.Kernel29Ideal.Adam.arg3 m c), Cert.Kernel29Ideal.Adam.run m ρ, ?_⟩
  refine (θ_run Cert.Reference29Ideal.defs _ _).mono (fun r h c => ⟨(h c).1.trans ?_, (h c).2.1.trans ?_, (h c).2.2.1.trans ?_, (h c).2.2.2⟩)
    (Cert.Reference29Ideal.Adam.run m' ρ')
  · rw [(hagree c).1, (hagree c).2.1, (hagree c).2.2.1, (hagree c).2.2.2]
  · rw [(hagree c).2.1, (hagree c).2.2.1]
  · rw [(hagree c).2.1, (hagree c).2.2.2]

theorem frame_p30 : Cert.quiescent_Kernel30 := fun m ρ _ => Cert.Kernel30.Gen.frame m ρ
theorem frame_pi30 : Cert.quiescent_Kernel30Ideal := fun m ρ _ => Cert.Kernel30Ideal.Gen.frame m ρ
theorem frame_ri30 : Cert.quiescent_Reference30Ideal := fun m ρ _ =>
  (θ_run Cert.Reference30Ideal.defs _ _).mono
    (fun r h => ⟨fun c => (h c).2.2.2, Idealize.ShloMosaic.sem_eq_zero_of_no_sems (by decide) r.2⟩) (Cert.Reference30Ideal.Value.run m ρ)
theorem preserves30 : Cert.preserves_Kernel30_Kernel30Ideal := trivial
theorem algebraic30 : Cert.algebraic_Kernel30Ideal_Reference30Ideal := by
  intro m ρ m' ρ' _ hagree
  refine ⟨fun c => Cert.Adam.changes (Cert.Kernel30Ideal.Adam.arg0 m c) (Cert.Kernel30Ideal.Adam.grad m c) (Cert.Kernel30Ideal.Adam.arg3 m c) (Cert.Kernel30Ideal.Adam.arg4 m c),
    fun c => Cert.Adam.means (Cert.Kernel30Ideal.Adam.grad m c) (Cert.Kernel30Ideal.Adam.arg3 m c), fun c => Cert.Adam.squares (Cert.Kernel30Ideal.Adam.grad m c) (Cert.Kernel30Ideal.Adam.arg4 m c), Cert.Kernel30Ideal.Adam.run m ρ, ?_⟩
  refine (θ_run Cert.Reference30Ideal.defs _ _).mono (fun r h c => ⟨(h c).1.trans ?_, (h c).2.1.trans ?_, (h c).2.2.1.trans ?_, (h c).2.2.2⟩)
    (Cert.Reference30Ideal.Adam.run m' ρ')
  · rw [(hagree c).1, (hagree c).2.1, (hagree c).2.2.1, (hagree c).2.2.2.1, (hagree c).2.2.2.2]
  · rw [(hagree c).2.1, (hagree c).2.2.1, (hagree c).2.2.2.1]
  · rw [(hagree c).2.1, (hagree c).2.2.1, (hagree c).2.2.2.2]

theorem frame_p31 : Cert.quiescent_Kernel31 := fun m ρ _ => Cert.Kernel31.Gen.frame m ρ
theorem frame_pi31 : Cert.quiescent_Kernel31Ideal := fun m ρ _ => Cert.Kernel31Ideal.Gen.frame m ρ
theorem frame_ri31 : Cert.quiescent_Reference31Ideal := fun m ρ _ =>
  (θ_run Cert.Reference31Ideal.defs _ _).mono
    (fun r h => ⟨fun c => (h c).2.2.2, Idealize.ShloMosaic.sem_eq_zero_of_no_sems (by decide) r.2⟩) (Cert.Reference31Ideal.Value.run m ρ)
theorem preserves31 : Cert.preserves_Kernel31_Kernel31Ideal := trivial
theorem algebraic31 : Cert.algebraic_Kernel31Ideal_Reference31Ideal := by
  intro m ρ m' ρ' _ hagree
  refine ⟨fun c => Cert.Adam.changes (Cert.Kernel31Ideal.Adam.arg0 m c) (Cert.Kernel31Ideal.Adam.grad m c) (Cert.Kernel31Ideal.Adam.arg3 m c) (Cert.Kernel31Ideal.Adam.arg4 m c),
    fun c => Cert.Adam.means (Cert.Kernel31Ideal.Adam.grad m c) (Cert.Kernel31Ideal.Adam.arg3 m c), fun c => Cert.Adam.squares (Cert.Kernel31Ideal.Adam.grad m c) (Cert.Kernel31Ideal.Adam.arg4 m c), Cert.Kernel31Ideal.Adam.run m ρ, ?_⟩
  refine (θ_run Cert.Reference31Ideal.defs _ _).mono (fun r h c => ⟨(h c).1.trans ?_, (h c).2.1.trans ?_, (h c).2.2.1.trans ?_, (h c).2.2.2⟩)
    (Cert.Reference31Ideal.Adam.run m' ρ')
  · rw [(hagree c).1, (hagree c).2.1, (hagree c).2.2.1, (hagree c).2.2.2.1, (hagree c).2.2.2.2]
  · rw [(hagree c).2.1, (hagree c).2.2.1, (hagree c).2.2.2.1]
  · rw [(hagree c).2.1, (hagree c).2.2.1, (hagree c).2.2.2.2]

theorem frame_p32 : Cert.quiescent_Kernel32 := fun m ρ _ => Cert.Kernel32.Gen.frame m ρ
theorem frame_pi32 : Cert.quiescent_Kernel32Ideal := fun m ρ _ => Cert.Kernel32Ideal.Gen.frame m ρ
theorem frame_ri32 : Cert.quiescent_Reference32Ideal := fun m ρ _ =>
  (θ_run Cert.Reference32Ideal.defs _ _).mono
    (fun r h => ⟨fun c => (h c).2.2.2, Idealize.ShloMosaic.sem_eq_zero_of_no_sems (by decide) r.2⟩) (Cert.Reference32Ideal.Value.run m ρ)
theorem preserves32 : Cert.preserves_Kernel32_Kernel32Ideal := trivial
theorem algebraic32 : Cert.algebraic_Kernel32Ideal_Reference32Ideal := by
  intro m ρ m' ρ' _ hagree
  refine ⟨fun c => Cert.Adam.changes (Cert.Kernel32Ideal.Adam.arg0 m c) (Cert.Kernel32Ideal.Adam.grad m c) (Cert.Kernel32Ideal.Adam.arg3 m c) (Cert.Kernel32Ideal.Adam.arg4 m c),
    fun c => Cert.Adam.means (Cert.Kernel32Ideal.Adam.grad m c) (Cert.Kernel32Ideal.Adam.arg3 m c), fun c => Cert.Adam.squares (Cert.Kernel32Ideal.Adam.grad m c) (Cert.Kernel32Ideal.Adam.arg4 m c), Cert.Kernel32Ideal.Adam.run m ρ, ?_⟩
  refine (θ_run Cert.Reference32Ideal.defs _ _).mono (fun r h c => ⟨(h c).1.trans ?_, (h c).2.1.trans ?_, (h c).2.2.1.trans ?_, (h c).2.2.2⟩)
    (Cert.Reference32Ideal.Adam.run m' ρ')
  · rw [(hagree c).1, (hagree c).2.1, (hagree c).2.2.1, (hagree c).2.2.2.1, (hagree c).2.2.2.2]
  · rw [(hagree c).2.1, (hagree c).2.2.1, (hagree c).2.2.2.1]
  · rw [(hagree c).2.1, (hagree c).2.2.1, (hagree c).2.2.2.2]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts, pre_facts, rows_facts,
    frame_p, frame_pi, frame_pi_pre, frame_ri, frame_ri_pre,
    frame_p2, frame_pi2, frame_ri2,
    frame_p3, frame_pi3, frame_ri3,
    frame_p4, frame_pi4, frame_ri4,
    frame_p5, frame_pi5, frame_ri5,
    frame_p6, frame_pi6, frame_ri6,
    frame_p7, frame_pi7, frame_ri7,
    frame_p8, frame_pi8, frame_ri8,
    frame_p9, frame_pi9, frame_ri9,
    frame_p10, frame_pi10, frame_ri10,
    frame_p11, frame_pi11, frame_ri11,
    frame_p12, frame_pi12, frame_ri12,
    frame_p13, frame_pi13, frame_ri13,
    frame_p14, frame_pi14, frame_ri14,
    frame_p15, frame_pi15, frame_ri15,
    frame_p16, frame_pi16, frame_ri16,
    frame_p17, frame_pi17, frame_ri17,
    frame_p18, frame_pi18, frame_ri18,
    frame_p19, frame_pi19, frame_ri19,
    frame_p20, frame_pi20, frame_ri20,
    frame_p21, frame_pi21, frame_ri21,
    frame_p22, frame_pi22, frame_ri22,
    frame_p23, frame_pi23, frame_ri23,
    frame_p24, frame_pi24, frame_pi24_pre, frame_ri24, frame_ri24_pre,
    frame_p25, frame_pi25, frame_ri25,
    frame_p26, frame_pi26, frame_ri26,
    frame_p27, frame_pi27, frame_ri27,
    frame_p28, frame_pi28, frame_ri28,
    frame_p29, frame_pi29, frame_ri29,
    frame_p30, frame_pi30, frame_ri30,
    frame_p31, frame_pi31, frame_ri31,
    frame_p32, frame_pi32, frame_ri32,
    preserves, algebraic,
    preserves2, algebraic2,
    preserves3, algebraic3,
    preserves4, algebraic4,
    preserves5, algebraic5,
    preserves6, algebraic6,
    preserves7, algebraic7,
    preserves8, algebraic8,
    preserves9, algebraic9,
    preserves10, algebraic10,
    preserves11, algebraic11,
    preserves12, algebraic12,
    preserves13, algebraic13,
    preserves14, algebraic14,
    preserves15, algebraic15,
    preserves16, algebraic16,
    preserves17, algebraic17,
    preserves18, algebraic18,
    preserves19, algebraic19,
    preserves20, algebraic20,
    preserves21, algebraic21,
    preserves22, algebraic22,
    preserves23, algebraic23,
    preserves24, algebraic24,
    preserves25, algebraic25,
    preserves26, algebraic26,
    preserves27, algebraic27,
    preserves28, algebraic28,
    preserves29, algebraic29,
    preserves30, algebraic30,
    preserves31, algebraic31,
    preserves32, algebraic32⟩

end Cert.Proof

end
